-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attention_finite [hPre_attention_finite : Cert.Pre_attention_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_attention_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attention_finite [hPre_attention_finite : Cert.Pre_attention_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attention_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).1 = (fun _ => 1#1)
    ∧ (Cert.Pre_attention_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.1 = (fun _ => 1#1)
    ∧ (Cert.Pre_attention_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.1 = (fun _ => 1#1)
    ∧ (Cert.Pre_attention_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.1 = (fun _ => 1#1)
    ∧ (Cert.Pre_attention_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.1 = (fun _ => 1#1)
    ∧ (Cert.Pre_attention_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5))).2.2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_attention_inputs_finite [hPre_attention_inputs_finite : Cert.Pre_attention_inputs_finite.Facts] (m : (ℓ : Loc Cert.FwdIdeal.nD Cert.FwdIdeal.τ Cert.FwdIdeal.sig) → Buf (Elt Ideal) ℓ) : Prop :=
  ∀ c : Dev Cert.FwdIdeal.nD,
    (Cert.Pre_attention_inputs_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).1 = (fun _ => 1#1)
    ∧ (Cert.Pre_attention_inputs_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.1 = (fun _ => 1#1)
    ∧ (Cert.Pre_attention_inputs_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.2.1 = (fun _ => 1#1)
    ∧ (Cert.Pre_attention_inputs_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.2.2.1 = (fun _ => 1#1)
    ∧ (Cert.Pre_attention_inputs_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.2.2.2 = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_attention_inputs_finite [hPre_attention_inputs_finite : Cert.Pre_attention_inputs_finite.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_attention_inputs_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4))).1 = (fun _ => 1#1)
    ∧ (Cert.Pre_attention_inputs_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4))).2.1 = (fun _ => 1#1)
    ∧ (Cert.Pre_attention_inputs_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4))).2.2.1 = (fun _ => 1#1)
    ∧ (Cert.Pre_attention_inputs_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4))).2.2.2.1 = (fun _ => 1#1)
    ∧ (Cert.Pre_attention_inputs_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.2 = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_NormOne (m : (ℓ : Loc Cert.NormOne.nD Cert.NormOne.τ Cert.NormOne.sig) → Buf (Elt Bits) ℓ) : Prop :=
  True

def Pre_NormOneIdeal (m : (ℓ : Loc Cert.NormOneIdeal.nD Cert.NormOneIdeal.τ Cert.NormOneIdeal.sig) → Buf (Elt Ideal) ℓ) : Prop :=
  True

def Pre_NormOneReferenceIdeal (m : (ℓ : Loc Cert.NormOneReferenceIdeal.nD Cert.NormOneReferenceIdeal.τ Cert.NormOneReferenceIdeal.sig) → Buf (Elt Ideal) ℓ) : Prop :=
  True

def Pre_NormTwo (m : (ℓ : Loc Cert.NormTwo.nD Cert.NormTwo.τ Cert.NormTwo.sig) → Buf (Elt Bits) ℓ) : Prop :=
  True

def Pre_NormTwoIdeal (m : (ℓ : Loc Cert.NormTwoIdeal.nD Cert.NormTwoIdeal.τ Cert.NormTwoIdeal.sig) → Buf (Elt Ideal) ℓ) : Prop :=
  True

def Pre_NormTwoReferenceIdeal (m : (ℓ : Loc Cert.NormTwoReferenceIdeal.nD Cert.NormTwoReferenceIdeal.τ Cert.NormTwoReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdReferenceIdeal (m : (ℓ : Loc Cert.GluFwdReferenceIdeal.nD Cert.GluFwdReferenceIdeal.τ Cert.GluFwdReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_ModFwdReferenceIdeal (m : (ℓ : Loc Cert.ModFwdReferenceIdeal.nD Cert.ModFwdReferenceIdeal.τ Cert.ModFwdReferenceIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdReferenceIdeal (m : (ℓ : Loc Cert.PrepFwdReferenceIdeal.nD Cert.PrepFwdReferenceIdeal.τ Cert.PrepFwdReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_NormTwoFwd (m : (ℓ : Loc Cert.NormTwoFwd.nD Cert.NormTwoFwd.τ Cert.NormTwoFwd.sig) → Buf (Elt Bits) ℓ) : Prop :=
  True

def Pre_NormTwoFwdIdeal (m : (ℓ : Loc Cert.NormTwoFwdIdeal.nD Cert.NormTwoFwdIdeal.τ Cert.NormTwoFwdIdeal.sig) → Buf (Elt Ideal) ℓ) : Prop :=
  True

def Pre_NormTwoFwdReferenceIdeal (m : (ℓ : Loc Cert.NormTwoFwdReferenceIdeal.nD Cert.NormTwoFwdReferenceIdeal.τ Cert.NormTwoFwdReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Diag (m : (ℓ : Loc Cert.Diag.nD Cert.Diag.τ Cert.Diag.sig) → Buf (Elt Bits) ℓ) : Prop :=
  True

def Pre_DiagIdeal (m : (ℓ : Loc Cert.DiagIdeal.nD Cert.DiagIdeal.τ Cert.DiagIdeal.sig) → Buf (Elt Ideal) ℓ) : Prop :=
  True

def Pre_DiagReferenceIdeal (m : (ℓ : Loc Cert.DiagReferenceIdeal.nD Cert.DiagReferenceIdeal.τ Cert.DiagReferenceIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvFwdReferenceIdeal (m : (ℓ : Loc Cert.QkvFwdReferenceIdeal.nD Cert.QkvFwdReferenceIdeal.τ Cert.QkvFwdReferenceIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attention_finite [hAttnIdeal : Cert.AttnIdeal.Facts] [hPre_attention_finite : Cert.Pre_attention_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attention_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_AttnReferenceIdeal_pre_attention_finite [hAttnReferenceIdeal : Cert.AttnReferenceIdeal.Facts] [hPre_attention_finite : Cert.Pre_attention_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attention_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdIdeal_pre_attention_inputs_finite [hFwdIdeal : Cert.FwdIdeal.Facts] [hPre_attention_inputs_finite : Cert.Pre_attention_inputs_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_attention_inputs_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4))
      ∧ r.2.sem = fun _ => 0)

def quiescent_FwdReferenceIdeal_pre_attention_inputs_finite [hFwdReferenceIdeal : Cert.FwdReferenceIdeal.Facts] [hPre_attention_inputs_finite : Cert.Pre_attention_inputs_finite.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_attention_inputs_finite m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8)
      ∧ r.2.mem ((c.tc : Thread Cert.Scan.nD Cert.Scan.τ).loc Cert.Scan.main_arg9) = m ((c.tc : Thread Cert.Scan.nD Cert.Scan.τ).loc Cert.Scan.main_arg9)
      ∧ r.2.mem ((c.tc : Thread Cert.Scan.nD Cert.Scan.τ).loc Cert.Scan.main_arg10) = m ((c.tc : Thread Cert.Scan.nD Cert.Scan.τ).loc Cert.Scan.main_arg10))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4)
      ∧ r.2.mem ((c.tc : Thread Cert.Mod.nD Cert.Mod.τ).loc Cert.Mod.main_arg5) = m ((c.tc : Thread Cert.Mod.nD Cert.Mod.τ).loc Cert.Mod.main_arg5))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
      ∧ r.2.mem ((c.tc : Thread Cert.ModIdeal.nD Cert.ModIdeal.τ).loc Cert.ModIdeal.main_arg5) = m ((c.tc : Thread Cert.ModIdeal.nD Cert.ModIdeal.τ).loc Cert.ModIdeal.main_arg5))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3)
      ∧ r.2.mem ((c.tc : Thread Cert.ModReferenceIdeal.nD Cert.ModReferenceIdeal.τ).loc Cert.ModReferenceIdeal.main_arg4) = m ((c.tc : Thread Cert.ModReferenceIdeal.nD Cert.ModReferenceIdeal.τ).loc Cert.ModReferenceIdeal.main_arg4)
      ∧ r.2.mem ((c.tc : Thread Cert.ModReferenceIdeal.nD Cert.ModReferenceIdeal.τ).loc Cert.ModReferenceIdeal.main_arg5) = m ((c.tc : Thread Cert.ModReferenceIdeal.nD Cert.ModReferenceIdeal.τ).loc Cert.ModReferenceIdeal.main_arg5))
      ∧ r.2.sem = fun _ => 0)

def quiescent_NormOne [hNormOne : Cert.NormOne.Facts] : Prop :=
  ∀ (m : (ℓ : Loc Cert.NormOne.nD Cert.NormOne.τ Cert.NormOne.sig) → Buf (Elt Bits) ℓ) (g : Dev Cert.NormOne.nD → PrngReg), Pre_NormOne m →
    θ_run (Cert.NormOne.defs (F := Bits)) (onTc (τ := Cert.NormOne.τ) (Cert.NormOne.main (F := Bits))) ⟨m, fun _ => 0, g⟩ (fun r => (∀ c : Dev Cert.NormOne.nD,
      r.2.mem ((c.tc : Thread Cert.NormOne.nD Cert.NormOne.τ).loc Cert.NormOne.main_arg0) = m ((c.tc : Thread Cert.NormOne.nD Cert.NormOne.τ).loc Cert.NormOne.main_arg0)
      ∧ r.2.mem ((c.tc : Thread Cert.NormOne.nD Cert.NormOne.τ).loc Cert.NormOne.main_arg1) = m ((c.tc : Thread Cert.NormOne.nD Cert.NormOne.τ).loc Cert.NormOne.main_arg1)
      ∧ r.2.mem ((c.tc : Thread Cert.NormOne.nD Cert.NormOne.τ).loc Cert.NormOne.main_arg2) = m ((c.tc : Thread Cert.NormOne.nD Cert.NormOne.τ).loc Cert.NormOne.main_arg2)
      ∧ r.2.mem ((c.tc : Thread Cert.NormOne.nD Cert.NormOne.τ).loc Cert.NormOne.main_arg3) = m ((c.tc : Thread Cert.NormOne.nD Cert.NormOne.τ).loc Cert.NormOne.main_arg3)
      ∧ r.2.mem ((c.tc : Thread Cert.NormOne.nD Cert.NormOne.τ).loc Cert.NormOne.main_arg4) = m ((c.tc : Thread Cert.NormOne.nD Cert.NormOne.τ).loc Cert.NormOne.main_arg4)
      ∧ r.2.mem ((c.tc : Thread Cert.NormOne.nD Cert.NormOne.τ).loc Cert.NormOne.main_arg5) = m ((c.tc : Thread Cert.NormOne.nD Cert.NormOne.τ).loc Cert.NormOne.main_arg5)
      ∧ r.2.mem ((c.tc : Thread Cert.NormOne.nD Cert.NormOne.τ).loc Cert.NormOne.main_arg6) = m ((c.tc : Thread Cert.NormOne.nD Cert.NormOne.τ).loc Cert.NormOne.main_arg6)
      ∧ r.2.mem ((c.tc : Thread Cert.NormOne.nD Cert.NormOne.τ).loc Cert.NormOne.main_arg7) = m ((c.tc : Thread Cert.NormOne.nD Cert.NormOne.τ).loc Cert.NormOne.main_arg7)
      ∧ r.2.mem ((c.tc : Thread Cert.NormOne.nD Cert.NormOne.τ).loc Cert.NormOne.main_arg8) = m ((c.tc : Thread Cert.NormOne.nD Cert.NormOne.τ).loc Cert.NormOne.main_arg8)
      ∧ r.2.mem ((c.tc : Thread Cert.NormOne.nD Cert.NormOne.τ).loc Cert.NormOne.main_arg9) = m ((c.tc : Thread Cert.NormOne.nD Cert.NormOne.τ).loc Cert.NormOne.main_arg9))
      ∧ r.2.sem = fun _ => 0)

def quiescent_NormOneIdeal [hNormOneIdeal : Cert.NormOneIdeal.Facts] : Prop :=
  ∀ (m : (ℓ : Loc Cert.NormOneIdeal.nD Cert.NormOneIdeal.τ Cert.NormOneIdeal.sig) → Buf (Elt Ideal) ℓ) (g : Dev Cert.NormOneIdeal.nD → PrngReg), Pre_NormOneIdeal m →
    θ_run (Cert.NormOneIdeal.defs (F := Ideal)) (onTc (τ := Cert.NormOneIdeal.τ) (Cert.NormOneIdeal.main (F := Ideal))) ⟨m, fun _ => 0, g⟩ (fun r => (∀ c : Dev Cert.NormOneIdeal.nD,
      r.2.mem ((c.tc : Thread Cert.NormOneIdeal.nD Cert.NormOneIdeal.τ).loc Cert.NormOneIdeal.main_arg0) = m ((c.tc : Thread Cert.NormOneIdeal.nD Cert.NormOneIdeal.τ).loc Cert.NormOneIdeal.main_arg0)
      ∧ r.2.mem ((c.tc : Thread Cert.NormOneIdeal.nD Cert.NormOneIdeal.τ).loc Cert.NormOneIdeal.main_arg1) = m ((c.tc : Thread Cert.NormOneIdeal.nD Cert.NormOneIdeal.τ).loc Cert.NormOneIdeal.main_arg1)
      ∧ r.2.mem ((c.tc : Thread Cert.NormOneIdeal.nD Cert.NormOneIdeal.τ).loc Cert.NormOneIdeal.main_arg2) = m ((c.tc : Thread Cert.NormOneIdeal.nD Cert.NormOneIdeal.τ).loc Cert.NormOneIdeal.main_arg2)
      ∧ r.2.mem ((c.tc : Thread Cert.NormOneIdeal.nD Cert.NormOneIdeal.τ).loc Cert.NormOneIdeal.main_arg3) = m ((c.tc : Thread Cert.NormOneIdeal.nD Cert.NormOneIdeal.τ).loc Cert.NormOneIdeal.main_arg3)
      ∧ r.2.mem ((c.tc : Thread Cert.NormOneIdeal.nD Cert.NormOneIdeal.τ).loc Cert.NormOneIdeal.main_arg4) = m ((c.tc : Thread Cert.NormOneIdeal.nD Cert.NormOneIdeal.τ).loc Cert.NormOneIdeal.main_arg4)
      ∧ r.2.mem ((c.tc : Thread Cert.NormOneIdeal.nD Cert.NormOneIdeal.τ).loc Cert.NormOneIdeal.main_arg5) = m ((c.tc : Thread Cert.NormOneIdeal.nD Cert.NormOneIdeal.τ).loc Cert.NormOneIdeal.main_arg5)
      ∧ r.2.mem ((c.tc : Thread Cert.NormOneIdeal.nD Cert.NormOneIdeal.τ).loc Cert.NormOneIdeal.main_arg6) = m ((c.tc : Thread Cert.NormOneIdeal.nD Cert.NormOneIdeal.τ).loc Cert.NormOneIdeal.main_arg6)
      ∧ r.2.mem ((c.tc : Thread Cert.NormOneIdeal.nD Cert.NormOneIdeal.τ).loc Cert.NormOneIdeal.main_arg7) = m ((c.tc : Thread Cert.NormOneIdeal.nD Cert.NormOneIdeal.τ).loc Cert.NormOneIdeal.main_arg7)
      ∧ r.2.mem ((c.tc : Thread Cert.NormOneIdeal.nD Cert.NormOneIdeal.τ).loc Cert.NormOneIdeal.main_arg8) = m ((c.tc : Thread Cert.NormOneIdeal.nD Cert.NormOneIdeal.τ).loc Cert.NormOneIdeal.main_arg8)
      ∧ r.2.mem ((c.tc : Thread Cert.NormOneIdeal.nD Cert.NormOneIdeal.τ).loc Cert.NormOneIdeal.main_arg9) = m ((c.tc : Thread Cert.NormOneIdeal.nD Cert.NormOneIdeal.τ).loc Cert.NormOneIdeal.main_arg9))
      ∧ r.2.sem = fun _ => 0)

def quiescent_NormOneReferenceIdeal [hNormOneReferenceIdeal : Cert.NormOneReferenceIdeal.Facts] : Prop :=
  ∀ (m : (ℓ : Loc Cert.NormOneReferenceIdeal.nD Cert.NormOneReferenceIdeal.τ Cert.NormOneReferenceIdeal.sig) → Buf (Elt Ideal) ℓ) (g : Dev Cert.NormOneReferenceIdeal.nD → PrngReg), Pre_NormOneReferenceIdeal m →
    θ_run (Cert.NormOneReferenceIdeal.defs (F := Ideal)) (onTc (τ := Cert.NormOneReferenceIdeal.τ) (Cert.NormOneReferenceIdeal.main (F := Ideal))) ⟨m, fun _ => 0, g⟩ (fun r => (∀ c : Dev Cert.NormOneReferenceIdeal.nD,
      r.2.mem ((c.tc : Thread Cert.NormOneReferenceIdeal.nD Cert.NormOneReferenceIdeal.τ).loc Cert.NormOneReferenceIdeal.main_arg0) = m ((c.tc : Thread Cert.NormOneReferenceIdeal.nD Cert.NormOneReferenceIdeal.τ).loc Cert.NormOneReferenceIdeal.main_arg0)
      ∧ r.2.mem ((c.tc : Thread Cert.NormOneReferenceIdeal.nD Cert.NormOneReferenceIdeal.τ).loc Cert.NormOneReferenceIdeal.main_arg1) = m ((c.tc : Thread Cert.NormOneReferenceIdeal.nD Cert.NormOneReferenceIdeal.τ).loc Cert.NormOneReferenceIdeal.main_arg1)
      ∧ r.2.mem ((c.tc : Thread Cert.NormOneReferenceIdeal.nD Cert.NormOneReferenceIdeal.τ).loc Cert.NormOneReferenceIdeal.main_arg2) = m ((c.tc : Thread Cert.NormOneReferenceIdeal.nD Cert.NormOneReferenceIdeal.τ).loc Cert.NormOneReferenceIdeal.main_arg2)
      ∧ r.2.mem ((c.tc : Thread Cert.NormOneReferenceIdeal.nD Cert.NormOneReferenceIdeal.τ).loc Cert.NormOneReferenceIdeal.main_arg3) = m ((c.tc : Thread Cert.NormOneReferenceIdeal.nD Cert.NormOneReferenceIdeal.τ).loc Cert.NormOneReferenceIdeal.main_arg3)
      ∧ r.2.mem ((c.tc : Thread Cert.NormOneReferenceIdeal.nD Cert.NormOneReferenceIdeal.τ).loc Cert.NormOneReferenceIdeal.main_arg4) = m ((c.tc : Thread Cert.NormOneReferenceIdeal.nD Cert.NormOneReferenceIdeal.τ).loc Cert.NormOneReferenceIdeal.main_arg4)
      ∧ r.2.mem ((c.tc : Thread Cert.NormOneReferenceIdeal.nD Cert.NormOneReferenceIdeal.τ).loc Cert.NormOneReferenceIdeal.main_arg5) = m ((c.tc : Thread Cert.NormOneReferenceIdeal.nD Cert.NormOneReferenceIdeal.τ).loc Cert.NormOneReferenceIdeal.main_arg5)
      ∧ r.2.mem ((c.tc : Thread Cert.NormOneReferenceIdeal.nD Cert.NormOneReferenceIdeal.τ).loc Cert.NormOneReferenceIdeal.main_arg6) = m ((c.tc : Thread Cert.NormOneReferenceIdeal.nD Cert.NormOneReferenceIdeal.τ).loc Cert.NormOneReferenceIdeal.main_arg6)
      ∧ r.2.mem ((c.tc : Thread Cert.NormOneReferenceIdeal.nD Cert.NormOneReferenceIdeal.τ).loc Cert.NormOneReferenceIdeal.main_arg7) = m ((c.tc : Thread Cert.NormOneReferenceIdeal.nD Cert.NormOneReferenceIdeal.τ).loc Cert.NormOneReferenceIdeal.main_arg7)
      ∧ r.2.mem ((c.tc : Thread Cert.NormOneReferenceIdeal.nD Cert.NormOneReferenceIdeal.τ).loc Cert.NormOneReferenceIdeal.main_arg8) = m ((c.tc : Thread Cert.NormOneReferenceIdeal.nD Cert.NormOneReferenceIdeal.τ).loc Cert.NormOneReferenceIdeal.main_arg8)
      ∧ r.2.mem ((c.tc : Thread Cert.NormOneReferenceIdeal.nD Cert.NormOneReferenceIdeal.τ).loc Cert.NormOneReferenceIdeal.main_arg9) = m ((c.tc : Thread Cert.NormOneReferenceIdeal.nD Cert.NormOneReferenceIdeal.τ).loc Cert.NormOneReferenceIdeal.main_arg9))
      ∧ r.2.sem = fun _ => 0)

def quiescent_NormTwo [hNormTwo : Cert.NormTwo.Facts] : Prop :=
  ∀ (m : (ℓ : Loc Cert.NormTwo.nD Cert.NormTwo.τ Cert.NormTwo.sig) → Buf (Elt Bits) ℓ) (g : Dev Cert.NormTwo.nD → PrngReg), Pre_NormTwo m →
    θ_run (Cert.NormTwo.defs (F := Bits)) (onTc (τ := Cert.NormTwo.τ) (Cert.NormTwo.main (F := Bits))) ⟨m, fun _ => 0, g⟩ (fun r => (∀ c : Dev Cert.NormTwo.nD,
      r.2.mem ((c.tc : Thread Cert.NormTwo.nD Cert.NormTwo.τ).loc Cert.NormTwo.main_arg0) = m ((c.tc : Thread Cert.NormTwo.nD Cert.NormTwo.τ).loc Cert.NormTwo.main_arg0)
      ∧ r.2.mem ((c.tc : Thread Cert.NormTwo.nD Cert.NormTwo.τ).loc Cert.NormTwo.main_arg1) = m ((c.tc : Thread Cert.NormTwo.nD Cert.NormTwo.τ).loc Cert.NormTwo.main_arg1)
      ∧ r.2.mem ((c.tc : Thread Cert.NormTwo.nD Cert.NormTwo.τ).loc Cert.NormTwo.main_arg2) = m ((c.tc : Thread Cert.NormTwo.nD Cert.NormTwo.τ).loc Cert.NormTwo.main_arg2)
      ∧ r.2.mem ((c.tc : Thread Cert.NormTwo.nD Cert.NormTwo.τ).loc Cert.NormTwo.main_arg3) = m ((c.tc : Thread Cert.NormTwo.nD Cert.NormTwo.τ).loc Cert.NormTwo.main_arg3)
      ∧ r.2.mem ((c.tc : Thread Cert.NormTwo.nD Cert.NormTwo.τ).loc Cert.NormTwo.main_arg4) = m ((c.tc : Thread Cert.NormTwo.nD Cert.NormTwo.τ).loc Cert.NormTwo.main_arg4)
      ∧ r.2.mem ((c.tc : Thread Cert.NormTwo.nD Cert.NormTwo.τ).loc Cert.NormTwo.main_arg5) = m ((c.tc : Thread Cert.NormTwo.nD Cert.NormTwo.τ).loc Cert.NormTwo.main_arg5))
      ∧ r.2.sem = fun _ => 0)

def quiescent_NormTwoIdeal [hNormTwoIdeal : Cert.NormTwoIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg), Pre_NormTwoIdeal m →
    θ_run (Cert.NormTwoIdeal.defs (F := Ideal)) (onTc (τ := Cert.NormTwoIdeal.τ) (Cert.NormTwoIdeal.main (F := Ideal))) ⟨m, fun _ => 0, g⟩ (fun r => (∀ c : Dev Cert.NormTwoIdeal.nD,
      r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
      ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
      ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2)
      ∧ r.2.mem ((c.tc : Thread Cert.NormTwoIdeal.nD Cert.NormTwoIdeal.τ).loc Cert.NormTwoIdeal.main_arg3) = m ((c.tc : Thread Cert.NormTwoIdeal.nD Cert.NormTwoIdeal.τ).loc Cert.NormTwoIdeal.main_arg3)
      ∧ r.2.mem ((c.tc : Thread Cert.NormTwoIdeal.nD Cert.NormTwoIdeal.τ).loc Cert.NormTwoIdeal.main_arg4) = m ((c.tc : Thread Cert.NormTwoIdeal.nD Cert.NormTwoIdeal.τ).loc Cert.NormTwoIdeal.main_arg4)
      ∧ r.2.mem ((c.tc : Thread Cert.NormTwoIdeal.nD Cert.NormTwoIdeal.τ).loc Cert.NormTwoIdeal.main_arg5) = m ((c.tc : Thread Cert.NormTwoIdeal.nD Cert.NormTwoIdeal.τ).loc Cert.NormTwoIdeal.main_arg5))
      ∧ r.2.sem = fun _ => 0)

def quiescent_NormTwoReferenceIdeal [hNormTwoReferenceIdeal : Cert.NormTwoReferenceIdeal.Facts] : Prop :=
  ∀ (m : (ℓ : Loc Cert.NormTwoReferenceIdeal.nD Cert.NormTwoReferenceIdeal.τ Cert.NormTwoReferenceIdeal.sig) → Buf (Elt Ideal) ℓ) (g : Dev Cert.NormTwoReferenceIdeal.nD → PrngReg), Pre_NormTwoReferenceIdeal m →
    θ_run (Cert.NormTwoReferenceIdeal.defs (F := Ideal)) (onTc (τ := Cert.NormTwoReferenceIdeal.τ) (Cert.NormTwoReferenceIdeal.main (F := Ideal))) ⟨m, fun _ => 0, g⟩ (fun r => (∀ c : Dev Cert.NormTwoReferenceIdeal.nD,
      r.2.mem ((c.tc : Thread Cert.NormTwoReferenceIdeal.nD Cert.NormTwoReferenceIdeal.τ).loc Cert.NormTwoReferenceIdeal.main_arg0) = m ((c.tc : Thread Cert.NormTwoReferenceIdeal.nD Cert.NormTwoReferenceIdeal.τ).loc Cert.NormTwoReferenceIdeal.main_arg0)
      ∧ r.2.mem ((c.tc : Thread Cert.NormTwoReferenceIdeal.nD Cert.NormTwoReferenceIdeal.τ).loc Cert.NormTwoReferenceIdeal.main_arg1) = m ((c.tc : Thread Cert.NormTwoReferenceIdeal.nD Cert.NormTwoReferenceIdeal.τ).loc Cert.NormTwoReferenceIdeal.main_arg1)
      ∧ r.2.mem ((c.tc : Thread Cert.NormTwoReferenceIdeal.nD Cert.NormTwoReferenceIdeal.τ).loc Cert.NormTwoReferenceIdeal.main_arg2) = m ((c.tc : Thread Cert.NormTwoReferenceIdeal.nD Cert.NormTwoReferenceIdeal.τ).loc Cert.NormTwoReferenceIdeal.main_arg2)
      ∧ r.2.mem ((c.tc : Thread Cert.NormTwoReferenceIdeal.nD Cert.NormTwoReferenceIdeal.τ).loc Cert.NormTwoReferenceIdeal.main_arg3) = m ((c.tc : Thread Cert.NormTwoReferenceIdeal.nD Cert.NormTwoReferenceIdeal.τ).loc Cert.NormTwoReferenceIdeal.main_arg3)
      ∧ r.2.mem ((c.tc : Thread Cert.NormTwoReferenceIdeal.nD Cert.NormTwoReferenceIdeal.τ).loc Cert.NormTwoReferenceIdeal.main_arg4) = m ((c.tc : Thread Cert.NormTwoReferenceIdeal.nD Cert.NormTwoReferenceIdeal.τ).loc Cert.NormTwoReferenceIdeal.main_arg4)
      ∧ r.2.mem ((c.tc : Thread Cert.NormTwoReferenceIdeal.nD Cert.NormTwoReferenceIdeal.τ).loc Cert.NormTwoReferenceIdeal.main_arg5) = m ((c.tc : Thread Cert.NormTwoReferenceIdeal.nD Cert.NormTwoReferenceIdeal.τ).loc Cert.NormTwoReferenceIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3)
      ∧ r.2.mem ((c.tc : Thread Cert.GluFwd.nD Cert.GluFwd.τ).loc Cert.GluFwd.main_arg4) = m ((c.tc : Thread Cert.GluFwd.nD Cert.GluFwd.τ).loc Cert.GluFwd.main_arg4))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
      ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ r.2.sem = fun _ => 0)

def quiescent_GluFwdReferenceIdeal [hGluFwdReferenceIdeal : Cert.GluFwdReferenceIdeal.Facts] : Prop :=
  ∀ (m : (ℓ : Loc Cert.GluFwdReferenceIdeal.nD Cert.GluFwdReferenceIdeal.τ Cert.GluFwdReferenceIdeal.sig) → Buf (Elt Ideal) ℓ) (g : Dev Cert.GluFwdReferenceIdeal.nD → PrngReg), Pre_GluFwdReferenceIdeal m →
    θ_run (Cert.GluFwdReferenceIdeal.defs (F := Ideal)) (onTc (τ := Cert.GluFwdReferenceIdeal.τ) (Cert.GluFwdReferenceIdeal.main (F := Ideal))) ⟨m, fun _ => 0, g⟩ (fun r => (∀ c : Dev Cert.GluFwdReferenceIdeal.nD,
      r.2.mem ((c.tc : Thread Cert.GluFwdReferenceIdeal.nD Cert.GluFwdReferenceIdeal.τ).loc Cert.GluFwdReferenceIdeal.main_arg0) = m ((c.tc : Thread Cert.GluFwdReferenceIdeal.nD Cert.GluFwdReferenceIdeal.τ).loc Cert.GluFwdReferenceIdeal.main_arg0)
      ∧ r.2.mem ((c.tc : Thread Cert.GluFwdReferenceIdeal.nD Cert.GluFwdReferenceIdeal.τ).loc Cert.GluFwdReferenceIdeal.main_arg1) = m ((c.tc : Thread Cert.GluFwdReferenceIdeal.nD Cert.GluFwdReferenceIdeal.τ).loc Cert.GluFwdReferenceIdeal.main_arg1)
      ∧ r.2.mem ((c.tc : Thread Cert.GluFwdReferenceIdeal.nD Cert.GluFwdReferenceIdeal.τ).loc Cert.GluFwdReferenceIdeal.main_arg2) = m ((c.tc : Thread Cert.GluFwdReferenceIdeal.nD Cert.GluFwdReferenceIdeal.τ).loc Cert.GluFwdReferenceIdeal.main_arg2)
      ∧ r.2.mem ((c.tc : Thread Cert.GluFwdReferenceIdeal.nD Cert.GluFwdReferenceIdeal.τ).loc Cert.GluFwdReferenceIdeal.main_arg3) = m ((c.tc : Thread Cert.GluFwdReferenceIdeal.nD Cert.GluFwdReferenceIdeal.τ).loc Cert.GluFwdReferenceIdeal.main_arg3)
      ∧ r.2.mem ((c.tc : Thread Cert.GluFwdReferenceIdeal.nD Cert.GluFwdReferenceIdeal.τ).loc Cert.GluFwdReferenceIdeal.main_arg4) = m ((c.tc : Thread Cert.GluFwdReferenceIdeal.nD Cert.GluFwdReferenceIdeal.τ).loc Cert.GluFwdReferenceIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4)
      ∧ r.2.mem ((c.tc : Thread Cert.MergeFwdReferenceIdeal.nD Cert.MergeFwdReferenceIdeal.τ).loc Cert.MergeFwdReferenceIdeal.main_arg5) = m ((c.tc : Thread Cert.MergeFwdReferenceIdeal.nD Cert.MergeFwdReferenceIdeal.τ).loc Cert.MergeFwdReferenceIdeal.main_arg5)
      ∧ r.2.mem ((c.tc : Thread Cert.MergeFwdReferenceIdeal.nD Cert.MergeFwdReferenceIdeal.τ).loc Cert.MergeFwdReferenceIdeal.main_arg6) = m ((c.tc : Thread Cert.MergeFwdReferenceIdeal.nD Cert.MergeFwdReferenceIdeal.τ).loc Cert.MergeFwdReferenceIdeal.main_arg6))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3)
      ∧ r.2.mem ((c.tc : Thread Cert.NormFwd.nD Cert.NormFwd.τ).loc Cert.NormFwd.main_arg4) = m ((c.tc : Thread Cert.NormFwd.nD Cert.NormFwd.τ).loc Cert.NormFwd.main_arg4)
      ∧ r.2.mem ((c.tc : Thread Cert.NormFwd.nD Cert.NormFwd.τ).loc Cert.NormFwd.main_arg5) = m ((c.tc : Thread Cert.NormFwd.nD Cert.NormFwd.τ).loc Cert.NormFwd.main_arg5)
      ∧ r.2.mem ((c.tc : Thread Cert.NormFwd.nD Cert.NormFwd.τ).loc Cert.NormFwd.main_arg6) = m ((c.tc : Thread Cert.NormFwd.nD Cert.NormFwd.τ).loc Cert.NormFwd.main_arg6))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
      ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4)
      ∧ r.2.mem ((c.tc : Thread Cert.NormFwdIdeal.nD Cert.NormFwdIdeal.τ).loc Cert.NormFwdIdeal.main_arg5) = m ((c.tc : Thread Cert.NormFwdIdeal.nD Cert.NormFwdIdeal.τ).loc Cert.NormFwdIdeal.main_arg5)
      ∧ r.2.mem ((c.tc : Thread Cert.NormFwdIdeal.nD Cert.NormFwdIdeal.τ).loc Cert.NormFwdIdeal.main_arg6) = m ((c.tc : Thread Cert.NormFwdIdeal.nD Cert.NormFwdIdeal.τ).loc Cert.NormFwdIdeal.main_arg6))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1)
      ∧ r.2.mem ((c.tc : Thread Cert.NormFwdReferenceIdeal.nD Cert.NormFwdReferenceIdeal.τ).loc Cert.NormFwdReferenceIdeal.main_arg2) = m ((c.tc : Thread Cert.NormFwdReferenceIdeal.nD Cert.NormFwdReferenceIdeal.τ).loc Cert.NormFwdReferenceIdeal.main_arg2)
      ∧ r.2.mem ((c.tc : Thread Cert.NormFwdReferenceIdeal.nD Cert.NormFwdReferenceIdeal.τ).loc Cert.NormFwdReferenceIdeal.main_arg3) = m ((c.tc : Thread Cert.NormFwdReferenceIdeal.nD Cert.NormFwdReferenceIdeal.τ).loc Cert.NormFwdReferenceIdeal.main_arg3)
      ∧ r.2.mem ((c.tc : Thread Cert.NormFwdReferenceIdeal.nD Cert.NormFwdReferenceIdeal.τ).loc Cert.NormFwdReferenceIdeal.main_arg4) = m ((c.tc : Thread Cert.NormFwdReferenceIdeal.nD Cert.NormFwdReferenceIdeal.τ).loc Cert.NormFwdReferenceIdeal.main_arg4)
      ∧ r.2.mem ((c.tc : Thread Cert.NormFwdReferenceIdeal.nD Cert.NormFwdReferenceIdeal.τ).loc Cert.NormFwdReferenceIdeal.main_arg5) = m ((c.tc : Thread Cert.NormFwdReferenceIdeal.nD Cert.NormFwdReferenceIdeal.τ).loc Cert.NormFwdReferenceIdeal.main_arg5)
      ∧ r.2.mem ((c.tc : Thread Cert.NormFwdReferenceIdeal.nD Cert.NormFwdReferenceIdeal.τ).loc Cert.NormFwdReferenceIdeal.main_arg6) = m ((c.tc : Thread Cert.NormFwdReferenceIdeal.nD Cert.NormFwdReferenceIdeal.τ).loc Cert.NormFwdReferenceIdeal.main_arg6))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2)
      ∧ r.2.mem ((c.tc : Thread Cert.ModFwd.nD Cert.ModFwd.τ).loc Cert.ModFwd.main_arg3) = m ((c.tc : Thread Cert.ModFwd.nD Cert.ModFwd.τ).loc Cert.ModFwd.main_arg3))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
      ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ r.2.sem = fun _ => 0)

def quiescent_ModFwdReferenceIdeal [hModFwdReferenceIdeal : Cert.ModFwdReferenceIdeal.Facts] : Prop :=
  ∀ (m : (ℓ : Loc Cert.ModFwdReferenceIdeal.nD Cert.ModFwdReferenceIdeal.τ Cert.ModFwdReferenceIdeal.sig) → Buf (Elt Ideal) ℓ) (g : Dev Cert.ModFwdReferenceIdeal.nD → PrngReg), Pre_ModFwdReferenceIdeal m →
    θ_run (Cert.ModFwdReferenceIdeal.defs (F := Ideal)) (onTc (τ := Cert.ModFwdReferenceIdeal.τ) (Cert.ModFwdReferenceIdeal.main (F := Ideal))) ⟨m, fun _ => 0, g⟩ (fun r => (∀ c : Dev Cert.ModFwdReferenceIdeal.nD,
      r.2.mem ((c.tc : Thread Cert.ModFwdReferenceIdeal.nD Cert.ModFwdReferenceIdeal.τ).loc Cert.ModFwdReferenceIdeal.main_arg0) = m ((c.tc : Thread Cert.ModFwdReferenceIdeal.nD Cert.ModFwdReferenceIdeal.τ).loc Cert.ModFwdReferenceIdeal.main_arg0)
      ∧ r.2.mem ((c.tc : Thread Cert.ModFwdReferenceIdeal.nD Cert.ModFwdReferenceIdeal.τ).loc Cert.ModFwdReferenceIdeal.main_arg1) = m ((c.tc : Thread Cert.ModFwdReferenceIdeal.nD Cert.ModFwdReferenceIdeal.τ).loc Cert.ModFwdReferenceIdeal.main_arg1)
      ∧ r.2.mem ((c.tc : Thread Cert.ModFwdReferenceIdeal.nD Cert.ModFwdReferenceIdeal.τ).loc Cert.ModFwdReferenceIdeal.main_arg2) = m ((c.tc : Thread Cert.ModFwdReferenceIdeal.nD Cert.ModFwdReferenceIdeal.τ).loc Cert.ModFwdReferenceIdeal.main_arg2)
      ∧ r.2.mem ((c.tc : Thread Cert.ModFwdReferenceIdeal.nD Cert.ModFwdReferenceIdeal.τ).loc Cert.ModFwdReferenceIdeal.main_arg3) = m ((c.tc : Thread Cert.ModFwdReferenceIdeal.nD Cert.ModFwdReferenceIdeal.τ).loc Cert.ModFwdReferenceIdeal.main_arg3))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ r.2.sem = fun _ => 0)

def quiescent_PrepFwdReferenceIdeal [hPrepFwdReferenceIdeal : Cert.PrepFwdReferenceIdeal.Facts] : Prop :=
  ∀ (m : (ℓ : Loc Cert.PrepFwdReferenceIdeal.nD Cert.PrepFwdReferenceIdeal.τ Cert.PrepFwdReferenceIdeal.sig) → Buf (Elt Ideal) ℓ) (g : Dev Cert.PrepFwdReferenceIdeal.nD → PrngReg), Pre_PrepFwdReferenceIdeal m →
    θ_run (Cert.PrepFwdReferenceIdeal.defs (F := Ideal)) (onTc (τ := Cert.PrepFwdReferenceIdeal.τ) (Cert.PrepFwdReferenceIdeal.main (F := Ideal))) ⟨m, fun _ => 0, g⟩ (fun r => (∀ c : Dev Cert.PrepFwdReferenceIdeal.nD,
      r.2.mem ((c.tc : Thread Cert.PrepFwdReferenceIdeal.nD Cert.PrepFwdReferenceIdeal.τ).loc Cert.PrepFwdReferenceIdeal.main_arg0) = m ((c.tc : Thread Cert.PrepFwdReferenceIdeal.nD Cert.PrepFwdReferenceIdeal.τ).loc Cert.PrepFwdReferenceIdeal.main_arg0)
      ∧ r.2.mem ((c.tc : Thread Cert.PrepFwdReferenceIdeal.nD Cert.PrepFwdReferenceIdeal.τ).loc Cert.PrepFwdReferenceIdeal.main_arg1) = m ((c.tc : Thread Cert.PrepFwdReferenceIdeal.nD Cert.PrepFwdReferenceIdeal.τ).loc Cert.PrepFwdReferenceIdeal.main_arg1)
      ∧ r.2.mem ((c.tc : Thread Cert.PrepFwdReferenceIdeal.nD Cert.PrepFwdReferenceIdeal.τ).loc Cert.PrepFwdReferenceIdeal.main_arg2) = m ((c.tc : Thread Cert.PrepFwdReferenceIdeal.nD Cert.PrepFwdReferenceIdeal.τ).loc Cert.PrepFwdReferenceIdeal.main_arg2)
      ∧ r.2.mem ((c.tc : Thread Cert.PrepFwdReferenceIdeal.nD Cert.PrepFwdReferenceIdeal.τ).loc Cert.PrepFwdReferenceIdeal.main_arg3) = m ((c.tc : Thread Cert.PrepFwdReferenceIdeal.nD Cert.PrepFwdReferenceIdeal.τ).loc Cert.PrepFwdReferenceIdeal.main_arg3)
      ∧ r.2.mem ((c.tc : Thread Cert.PrepFwdReferenceIdeal.nD Cert.PrepFwdReferenceIdeal.τ).loc Cert.PrepFwdReferenceIdeal.main_arg4) = m ((c.tc : Thread Cert.PrepFwdReferenceIdeal.nD Cert.PrepFwdReferenceIdeal.τ).loc Cert.PrepFwdReferenceIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1)
      ∧ r.2.mem ((c.tc : Thread Cert.ConvFwdReferenceIdeal.nD Cert.ConvFwdReferenceIdeal.τ).loc Cert.ConvFwdReferenceIdeal.main_arg2) = m ((c.tc : Thread Cert.ConvFwdReferenceIdeal.nD Cert.ConvFwdReferenceIdeal.τ).loc Cert.ConvFwdReferenceIdeal.main_arg2))
      ∧ r.2.sem = fun _ => 0)

def quiescent_NormTwoFwd [hNormTwoFwd : Cert.NormTwoFwd.Facts] : Prop :=
  ∀ (m : (ℓ : Loc Cert.NormTwoFwd.nD Cert.NormTwoFwd.τ Cert.NormTwoFwd.sig) → Buf (Elt Bits) ℓ) (g : Dev Cert.NormTwoFwd.nD → PrngReg), Pre_NormTwoFwd m →
    θ_run (Cert.NormTwoFwd.defs (F := Bits)) (onTc (τ := Cert.NormTwoFwd.τ) (Cert.NormTwoFwd.main (F := Bits))) ⟨m, fun _ => 0, g⟩ (fun r => (∀ c : Dev Cert.NormTwoFwd.nD,
      r.2.mem ((c.tc : Thread Cert.NormTwoFwd.nD Cert.NormTwoFwd.τ).loc Cert.NormTwoFwd.main_arg0) = m ((c.tc : Thread Cert.NormTwoFwd.nD Cert.NormTwoFwd.τ).loc Cert.NormTwoFwd.main_arg0)
      ∧ r.2.mem ((c.tc : Thread Cert.NormTwoFwd.nD Cert.NormTwoFwd.τ).loc Cert.NormTwoFwd.main_arg1) = m ((c.tc : Thread Cert.NormTwoFwd.nD Cert.NormTwoFwd.τ).loc Cert.NormTwoFwd.main_arg1)
      ∧ r.2.mem ((c.tc : Thread Cert.NormTwoFwd.nD Cert.NormTwoFwd.τ).loc Cert.NormTwoFwd.main_arg2) = m ((c.tc : Thread Cert.NormTwoFwd.nD Cert.NormTwoFwd.τ).loc Cert.NormTwoFwd.main_arg2)
      ∧ r.2.mem ((c.tc : Thread Cert.NormTwoFwd.nD Cert.NormTwoFwd.τ).loc Cert.NormTwoFwd.main_arg3) = m ((c.tc : Thread Cert.NormTwoFwd.nD Cert.NormTwoFwd.τ).loc Cert.NormTwoFwd.main_arg3))
      ∧ r.2.sem = fun _ => 0)

def quiescent_NormTwoFwdIdeal [hNormTwoFwdIdeal : Cert.NormTwoFwdIdeal.Facts] : Prop :=
  ∀ (m : (ℓ : Loc Cert.NormTwoFwdIdeal.nD Cert.NormTwoFwdIdeal.τ Cert.NormTwoFwdIdeal.sig) → Buf (Elt Ideal) ℓ) (g : Dev Cert.NormTwoFwdIdeal.nD → PrngReg), Pre_NormTwoFwdIdeal m →
    θ_run (Cert.NormTwoFwdIdeal.defs (F := Ideal)) (onTc (τ := Cert.NormTwoFwdIdeal.τ) (Cert.NormTwoFwdIdeal.main (F := Ideal))) ⟨m, fun _ => 0, g⟩ (fun r => (∀ c : Dev Cert.NormTwoFwdIdeal.nD,
      r.2.mem ((c.tc : Thread Cert.NormTwoFwdIdeal.nD Cert.NormTwoFwdIdeal.τ).loc Cert.NormTwoFwdIdeal.main_arg0) = m ((c.tc : Thread Cert.NormTwoFwdIdeal.nD Cert.NormTwoFwdIdeal.τ).loc Cert.NormTwoFwdIdeal.main_arg0)
      ∧ r.2.mem ((c.tc : Thread Cert.NormTwoFwdIdeal.nD Cert.NormTwoFwdIdeal.τ).loc Cert.NormTwoFwdIdeal.main_arg1) = m ((c.tc : Thread Cert.NormTwoFwdIdeal.nD Cert.NormTwoFwdIdeal.τ).loc Cert.NormTwoFwdIdeal.main_arg1)
      ∧ r.2.mem ((c.tc : Thread Cert.NormTwoFwdIdeal.nD Cert.NormTwoFwdIdeal.τ).loc Cert.NormTwoFwdIdeal.main_arg2) = m ((c.tc : Thread Cert.NormTwoFwdIdeal.nD Cert.NormTwoFwdIdeal.τ).loc Cert.NormTwoFwdIdeal.main_arg2)
      ∧ r.2.mem ((c.tc : Thread Cert.NormTwoFwdIdeal.nD Cert.NormTwoFwdIdeal.τ).loc Cert.NormTwoFwdIdeal.main_arg3) = m ((c.tc : Thread Cert.NormTwoFwdIdeal.nD Cert.NormTwoFwdIdeal.τ).loc Cert.NormTwoFwdIdeal.main_arg3))
      ∧ r.2.sem = fun _ => 0)

def quiescent_NormTwoFwdReferenceIdeal [hNormTwoFwdReferenceIdeal : Cert.NormTwoFwdReferenceIdeal.Facts] : Prop :=
  ∀ (m : (ℓ : Loc Cert.NormTwoFwdReferenceIdeal.nD Cert.NormTwoFwdReferenceIdeal.τ Cert.NormTwoFwdReferenceIdeal.sig) → Buf (Elt Ideal) ℓ) (g : Dev Cert.NormTwoFwdReferenceIdeal.nD → PrngReg), Pre_NormTwoFwdReferenceIdeal m →
    θ_run (Cert.NormTwoFwdReferenceIdeal.defs (F := Ideal)) (onTc (τ := Cert.NormTwoFwdReferenceIdeal.τ) (Cert.NormTwoFwdReferenceIdeal.main (F := Ideal))) ⟨m, fun _ => 0, g⟩ (fun r => (∀ c : Dev Cert.NormTwoFwdReferenceIdeal.nD,
      r.2.mem ((c.tc : Thread Cert.NormTwoFwdReferenceIdeal.nD Cert.NormTwoFwdReferenceIdeal.τ).loc Cert.NormTwoFwdReferenceIdeal.main_arg0) = m ((c.tc : Thread Cert.NormTwoFwdReferenceIdeal.nD Cert.NormTwoFwdReferenceIdeal.τ).loc Cert.NormTwoFwdReferenceIdeal.main_arg0)
      ∧ r.2.mem ((c.tc : Thread Cert.NormTwoFwdReferenceIdeal.nD Cert.NormTwoFwdReferenceIdeal.τ).loc Cert.NormTwoFwdReferenceIdeal.main_arg1) = m ((c.tc : Thread Cert.NormTwoFwdReferenceIdeal.nD Cert.NormTwoFwdReferenceIdeal.τ).loc Cert.NormTwoFwdReferenceIdeal.main_arg1)
      ∧ r.2.mem ((c.tc : Thread Cert.NormTwoFwdReferenceIdeal.nD Cert.NormTwoFwdReferenceIdeal.τ).loc Cert.NormTwoFwdReferenceIdeal.main_arg2) = m ((c.tc : Thread Cert.NormTwoFwdReferenceIdeal.nD Cert.NormTwoFwdReferenceIdeal.τ).loc Cert.NormTwoFwdReferenceIdeal.main_arg2)
      ∧ r.2.mem ((c.tc : Thread Cert.NormTwoFwdReferenceIdeal.nD Cert.NormTwoFwdReferenceIdeal.τ).loc Cert.NormTwoFwdReferenceIdeal.main_arg3) = m ((c.tc : Thread Cert.NormTwoFwdReferenceIdeal.nD Cert.NormTwoFwdReferenceIdeal.τ).loc Cert.NormTwoFwdReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Diag [hDiag : Cert.Diag.Facts] : Prop :=
  ∀ (m : (ℓ : Loc Cert.Diag.nD Cert.Diag.τ Cert.Diag.sig) → Buf (Elt Bits) ℓ) (g : Dev Cert.Diag.nD → PrngReg), Pre_Diag m →
    θ_run (Cert.Diag.defs (F := Bits)) (onTc (τ := Cert.Diag.τ) (Cert.Diag.main (F := Bits))) ⟨m, fun _ => 0, g⟩ (fun r => (∀ c : Dev Cert.Diag.nD,
      r.2.mem ((c.tc : Thread Cert.Diag.nD Cert.Diag.τ).loc Cert.Diag.main_arg0) = m ((c.tc : Thread Cert.Diag.nD Cert.Diag.τ).loc Cert.Diag.main_arg0)
      ∧ r.2.mem ((c.tc : Thread Cert.Diag.nD Cert.Diag.τ).loc Cert.Diag.main_arg1) = m ((c.tc : Thread Cert.Diag.nD Cert.Diag.τ).loc Cert.Diag.main_arg1)
      ∧ r.2.mem ((c.tc : Thread Cert.Diag.nD Cert.Diag.τ).loc Cert.Diag.main_arg2) = m ((c.tc : Thread Cert.Diag.nD Cert.Diag.τ).loc Cert.Diag.main_arg2))
      ∧ r.2.sem = fun _ => 0)

def quiescent_DiagIdeal [hDiagIdeal : Cert.DiagIdeal.Facts] : Prop :=
  ∀ (m : (ℓ : Loc Cert.DiagIdeal.nD Cert.DiagIdeal.τ Cert.DiagIdeal.sig) → Buf (Elt Ideal) ℓ) (g : Dev Cert.DiagIdeal.nD → PrngReg), Pre_DiagIdeal m →
    θ_run (Cert.DiagIdeal.defs (F := Ideal)) (onTc (τ := Cert.DiagIdeal.τ) (Cert.DiagIdeal.main (F := Ideal))) ⟨m, fun _ => 0, g⟩ (fun r => (∀ c : Dev Cert.DiagIdeal.nD,
      r.2.mem ((c.tc : Thread Cert.DiagIdeal.nD Cert.DiagIdeal.τ).loc Cert.DiagIdeal.main_arg0) = m ((c.tc : Thread Cert.DiagIdeal.nD Cert.DiagIdeal.τ).loc Cert.DiagIdeal.main_arg0)
      ∧ r.2.mem ((c.tc : Thread Cert.DiagIdeal.nD Cert.DiagIdeal.τ).loc Cert.DiagIdeal.main_arg1) = m ((c.tc : Thread Cert.DiagIdeal.nD Cert.DiagIdeal.τ).loc Cert.DiagIdeal.main_arg1)
      ∧ r.2.mem ((c.tc : Thread Cert.DiagIdeal.nD Cert.DiagIdeal.τ).loc Cert.DiagIdeal.main_arg2) = m ((c.tc : Thread Cert.DiagIdeal.nD Cert.DiagIdeal.τ).loc Cert.DiagIdeal.main_arg2))
      ∧ r.2.sem = fun _ => 0)

def quiescent_DiagReferenceIdeal [hDiagReferenceIdeal : Cert.DiagReferenceIdeal.Facts] : Prop :=
  ∀ (m : (ℓ : Loc Cert.DiagReferenceIdeal.nD Cert.DiagReferenceIdeal.τ Cert.DiagReferenceIdeal.sig) → Buf (Elt Ideal) ℓ) (g : Dev Cert.DiagReferenceIdeal.nD → PrngReg), Pre_DiagReferenceIdeal m →
    θ_run (Cert.DiagReferenceIdeal.defs (F := Ideal)) (onTc (τ := Cert.DiagReferenceIdeal.τ) (Cert.DiagReferenceIdeal.main (F := Ideal))) ⟨m, fun _ => 0, g⟩ (fun r => (∀ c : Dev Cert.DiagReferenceIdeal.nD,
      r.2.mem ((c.tc : Thread Cert.DiagReferenceIdeal.nD Cert.DiagReferenceIdeal.τ).loc Cert.DiagReferenceIdeal.main_arg0) = m ((c.tc : Thread Cert.DiagReferenceIdeal.nD Cert.DiagReferenceIdeal.τ).loc Cert.DiagReferenceIdeal.main_arg0)
      ∧ r.2.mem ((c.tc : Thread Cert.DiagReferenceIdeal.nD Cert.DiagReferenceIdeal.τ).loc Cert.DiagReferenceIdeal.main_arg1) = m ((c.tc : Thread Cert.DiagReferenceIdeal.nD Cert.DiagReferenceIdeal.τ).loc Cert.DiagReferenceIdeal.main_arg1)
      ∧ r.2.mem ((c.tc : Thread Cert.DiagReferenceIdeal.nD Cert.DiagReferenceIdeal.τ).loc Cert.DiagReferenceIdeal.main_arg2) = m ((c.tc : Thread Cert.DiagReferenceIdeal.nD Cert.DiagReferenceIdeal.τ).loc Cert.DiagReferenceIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1)
      ∧ r.2.mem ((c.tc : Thread Cert.QkvFwd.nD Cert.QkvFwd.τ).loc Cert.QkvFwd.main_arg2) = m ((c.tc : Thread Cert.QkvFwd.nD Cert.QkvFwd.τ).loc Cert.QkvFwd.main_arg2)
      ∧ r.2.mem ((c.tc : Thread Cert.QkvFwd.nD Cert.QkvFwd.τ).loc Cert.QkvFwd.main_arg3) = m ((c.tc : Thread Cert.QkvFwd.nD Cert.QkvFwd.τ).loc Cert.QkvFwd.main_arg3)
      ∧ r.2.mem ((c.tc : Thread Cert.QkvFwd.nD Cert.QkvFwd.τ).loc Cert.QkvFwd.main_arg4) = m ((c.tc : Thread Cert.QkvFwd.nD Cert.QkvFwd.τ).loc Cert.QkvFwd.main_arg4)
      ∧ r.2.mem ((c.tc : Thread Cert.QkvFwd.nD Cert.QkvFwd.τ).loc Cert.QkvFwd.main_arg5) = m ((c.tc : Thread Cert.QkvFwd.nD Cert.QkvFwd.τ).loc Cert.QkvFwd.main_arg5)
      ∧ r.2.mem ((c.tc : Thread Cert.QkvFwd.nD Cert.QkvFwd.τ).loc Cert.QkvFwd.main_arg6) = m ((c.tc : Thread Cert.QkvFwd.nD Cert.QkvFwd.τ).loc Cert.QkvFwd.main_arg6)
      ∧ r.2.mem ((c.tc : Thread Cert.QkvFwd.nD Cert.QkvFwd.τ).loc Cert.QkvFwd.main_arg7) = m ((c.tc : Thread Cert.QkvFwd.nD Cert.QkvFwd.τ).loc Cert.QkvFwd.main_arg7)
      ∧ r.2.mem ((c.tc : Thread Cert.QkvFwd.nD Cert.QkvFwd.τ).loc Cert.QkvFwd.main_arg8) = m ((c.tc : Thread Cert.QkvFwd.nD Cert.QkvFwd.τ).loc Cert.QkvFwd.main_arg8)
      ∧ r.2.mem ((c.tc : Thread Cert.QkvFwd.nD Cert.QkvFwd.τ).loc Cert.QkvFwd.main_arg9) = m ((c.tc : Thread Cert.QkvFwd.nD Cert.QkvFwd.τ).loc Cert.QkvFwd.main_arg9)
      ∧ r.2.mem ((c.tc : Thread Cert.QkvFwd.nD Cert.QkvFwd.τ).loc Cert.QkvFwd.main_arg10) = m ((c.tc : Thread Cert.QkvFwd.nD Cert.QkvFwd.τ).loc Cert.QkvFwd.main_arg10))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
      ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
      ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
      ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
      ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5)
      ∧ r.2.mem ((c.tc : Thread Cert.QkvFwdIdeal.nD Cert.QkvFwdIdeal.τ).loc Cert.QkvFwdIdeal.main_arg6) = m ((c.tc : Thread Cert.QkvFwdIdeal.nD Cert.QkvFwdIdeal.τ).loc Cert.QkvFwdIdeal.main_arg6)
      ∧ r.2.mem ((c.tc : Thread Cert.QkvFwdIdeal.nD Cert.QkvFwdIdeal.τ).loc Cert.QkvFwdIdeal.main_arg7) = m ((c.tc : Thread Cert.QkvFwdIdeal.nD Cert.QkvFwdIdeal.τ).loc Cert.QkvFwdIdeal.main_arg7)
      ∧ r.2.mem ((c.tc : Thread Cert.QkvFwdIdeal.nD Cert.QkvFwdIdeal.τ).loc Cert.QkvFwdIdeal.main_arg8) = m ((c.tc : Thread Cert.QkvFwdIdeal.nD Cert.QkvFwdIdeal.τ).loc Cert.QkvFwdIdeal.main_arg8)
      ∧ r.2.mem ((c.tc : Thread Cert.QkvFwdIdeal.nD Cert.QkvFwdIdeal.τ).loc Cert.QkvFwdIdeal.main_arg9) = m ((c.tc : Thread Cert.QkvFwdIdeal.nD Cert.QkvFwdIdeal.τ).loc Cert.QkvFwdIdeal.main_arg9)
      ∧ r.2.mem ((c.tc : Thread Cert.QkvFwdIdeal.nD Cert.QkvFwdIdeal.τ).loc Cert.QkvFwdIdeal.main_arg10) = m ((c.tc : Thread Cert.QkvFwdIdeal.nD Cert.QkvFwdIdeal.τ).loc Cert.QkvFwdIdeal.main_arg10))
      ∧ r.2.sem = fun _ => 0)

def quiescent_QkvFwdReferenceIdeal [hQkvFwdReferenceIdeal : Cert.QkvFwdReferenceIdeal.Facts] : Prop :=
  ∀ (m : (ℓ : Loc Cert.QkvFwdReferenceIdeal.nD Cert.QkvFwdReferenceIdeal.τ Cert.QkvFwdReferenceIdeal.sig) → Buf (Elt Ideal) ℓ) (g : Dev Cert.QkvFwdReferenceIdeal.nD → PrngReg), Pre_QkvFwdReferenceIdeal m →
    θ_run (Cert.QkvFwdReferenceIdeal.defs (F := Ideal)) (onTc (τ := Cert.QkvFwdReferenceIdeal.τ) (Cert.QkvFwdReferenceIdeal.main (F := Ideal))) ⟨m, fun _ => 0, g⟩ (fun r => (∀ c : Dev Cert.QkvFwdReferenceIdeal.nD,
      r.2.mem ((c.tc : Thread Cert.QkvFwdReferenceIdeal.nD Cert.QkvFwdReferenceIdeal.τ).loc Cert.QkvFwdReferenceIdeal.main_arg0) = m ((c.tc : Thread Cert.QkvFwdReferenceIdeal.nD Cert.QkvFwdReferenceIdeal.τ).loc Cert.QkvFwdReferenceIdeal.main_arg0)
      ∧ r.2.mem ((c.tc : Thread Cert.QkvFwdReferenceIdeal.nD Cert.QkvFwdReferenceIdeal.τ).loc Cert.QkvFwdReferenceIdeal.main_arg1) = m ((c.tc : Thread Cert.QkvFwdReferenceIdeal.nD Cert.QkvFwdReferenceIdeal.τ).loc Cert.QkvFwdReferenceIdeal.main_arg1)
      ∧ r.2.mem ((c.tc : Thread Cert.QkvFwdReferenceIdeal.nD Cert.QkvFwdReferenceIdeal.τ).loc Cert.QkvFwdReferenceIdeal.main_arg2) = m ((c.tc : Thread Cert.QkvFwdReferenceIdeal.nD Cert.QkvFwdReferenceIdeal.τ).loc Cert.QkvFwdReferenceIdeal.main_arg2)
      ∧ r.2.mem ((c.tc : Thread Cert.QkvFwdReferenceIdeal.nD Cert.QkvFwdReferenceIdeal.τ).loc Cert.QkvFwdReferenceIdeal.main_arg3) = m ((c.tc : Thread Cert.QkvFwdReferenceIdeal.nD Cert.QkvFwdReferenceIdeal.τ).loc Cert.QkvFwdReferenceIdeal.main_arg3)
      ∧ r.2.mem ((c.tc : Thread Cert.QkvFwdReferenceIdeal.nD Cert.QkvFwdReferenceIdeal.τ).loc Cert.QkvFwdReferenceIdeal.main_arg4) = m ((c.tc : Thread Cert.QkvFwdReferenceIdeal.nD Cert.QkvFwdReferenceIdeal.τ).loc Cert.QkvFwdReferenceIdeal.main_arg4)
      ∧ r.2.mem ((c.tc : Thread Cert.QkvFwdReferenceIdeal.nD Cert.QkvFwdReferenceIdeal.τ).loc Cert.QkvFwdReferenceIdeal.main_arg5) = m ((c.tc : Thread Cert.QkvFwdReferenceIdeal.nD Cert.QkvFwdReferenceIdeal.τ).loc Cert.QkvFwdReferenceIdeal.main_arg5)
      ∧ r.2.mem ((c.tc : Thread Cert.QkvFwdReferenceIdeal.nD Cert.QkvFwdReferenceIdeal.τ).loc Cert.QkvFwdReferenceIdeal.main_arg6) = m ((c.tc : Thread Cert.QkvFwdReferenceIdeal.nD Cert.QkvFwdReferenceIdeal.τ).loc Cert.QkvFwdReferenceIdeal.main_arg6)
      ∧ r.2.mem ((c.tc : Thread Cert.QkvFwdReferenceIdeal.nD Cert.QkvFwdReferenceIdeal.τ).loc Cert.QkvFwdReferenceIdeal.main_arg7) = m ((c.tc : Thread Cert.QkvFwdReferenceIdeal.nD Cert.QkvFwdReferenceIdeal.τ).loc Cert.QkvFwdReferenceIdeal.main_arg7)
      ∧ r.2.mem ((c.tc : Thread Cert.QkvFwdReferenceIdeal.nD Cert.QkvFwdReferenceIdeal.τ).loc Cert.QkvFwdReferenceIdeal.main_arg8) = m ((c.tc : Thread Cert.QkvFwdReferenceIdeal.nD Cert.QkvFwdReferenceIdeal.τ).loc Cert.QkvFwdReferenceIdeal.main_arg8)
      ∧ r.2.mem ((c.tc : Thread Cert.QkvFwdReferenceIdeal.nD Cert.QkvFwdReferenceIdeal.τ).loc Cert.QkvFwdReferenceIdeal.main_arg9) = m ((c.tc : Thread Cert.QkvFwdReferenceIdeal.nD Cert.QkvFwdReferenceIdeal.τ).loc Cert.QkvFwdReferenceIdeal.main_arg9)
      ∧ r.2.mem ((c.tc : Thread Cert.QkvFwdReferenceIdeal.nD Cert.QkvFwdReferenceIdeal.τ).loc Cert.QkvFwdReferenceIdeal.main_arg10) = m ((c.tc : Thread Cert.QkvFwdReferenceIdeal.nD Cert.QkvFwdReferenceIdeal.τ).loc Cert.QkvFwdReferenceIdeal.main_arg10))
      ∧ r.2.sem = fun _ => 0)

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v6)) (v1 : (c : Dev Cert.LossIdeal.nD) → Buf (Elt Ideal) ((c.tc : Thread Cert.LossIdeal.nD Cert.LossIdeal.τ).loc Cert.LossIdeal.main_v3_0)) (v2 : (c : Dev Cert.LossIdeal.nD) → Buf (Elt Ideal) ((c.tc : Thread Cert.LossIdeal.nD Cert.LossIdeal.τ).loc Cert.LossIdeal.main_v3_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6) = v0 c
          ∧ r.2.mem ((c.tc : Thread Cert.LossIdeal.nD Cert.LossIdeal.τ).loc Cert.LossIdeal.main_v3_0) = v1 c
          ∧ r.2.mem ((c.tc : Thread Cert.LossIdeal.nD Cert.LossIdeal.τ).loc Cert.LossIdeal.main_v3_1) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v13) = v0 c
          ∧ r.2.mem ((c.tc : Thread Cert.LossReferenceIdeal.nD Cert.LossReferenceIdeal.τ).loc Cert.LossReferenceIdeal.main_v19) = v1 c
          ∧ r.2.mem ((c.tc : Thread Cert.LossReferenceIdeal.nD Cert.LossReferenceIdeal.τ).loc Cert.LossReferenceIdeal.main_v0) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_Attn_AttnIdeal : Prop :=
  IdealRules.named_const.Statement Cert.AttnIdeal.κ "scale_log2e" .f32 0x3E16C740#32 (((3424635 / 33554432) * (Real.log 2)⁻¹ : ℝ) : EReal)
  ∧ IdealRules.named_const.Statement Cert.AttnIdeal.κ "log2e" .f32 0x3FB8AA3B#32 (((Real.log 2)⁻¹ : ℝ) : EReal)

def algebraic_AttnIdeal_AttnReferenceIdeal_pre_attention_finite [hAttnIdeal : Cert.AttnIdeal.Facts] [hAttnReferenceIdeal : Cert.AttnReferenceIdeal.Facts] [hPre_attention_finite : Cert.Pre_attention_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_attention_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v37_0)) (v1 : (c : Dev Cert.AttnIdeal.nD) → Buf (Elt Ideal) ((c.tc : Thread Cert.AttnIdeal.nD Cert.AttnIdeal.τ).loc Cert.AttnIdeal.main_v37_1)) (v2 : (c : Dev Cert.AttnIdeal.nD) → Buf (Elt Ideal) ((c.tc : Thread Cert.AttnIdeal.nD Cert.AttnIdeal.τ).loc Cert.AttnIdeal.main_v37_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v37_0) = v0 c
          ∧ r.2.mem ((c.tc : Thread Cert.AttnIdeal.nD Cert.AttnIdeal.τ).loc Cert.AttnIdeal.main_v37_1) = v1 c
          ∧ r.2.mem ((c.tc : Thread Cert.AttnIdeal.nD Cert.AttnIdeal.τ).loc Cert.AttnIdeal.main_v37_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v62) = v0 c
          ∧ r.2.mem ((c.tc : Thread Cert.AttnReferenceIdeal.nD Cert.AttnReferenceIdeal.τ).loc Cert.AttnReferenceIdeal.main_v65) = v1 c
          ∧ r.2.mem ((c.tc : Thread Cert.AttnReferenceIdeal.nD Cert.AttnReferenceIdeal.τ).loc Cert.AttnReferenceIdeal.main_v68) = v2 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5))

def preserves_Fwd_FwdIdeal : Prop :=
  IdealRules.named_const.Statement Cert.FwdIdeal.κ "scale_log2e" .f32 0x3E16C740#32 (((3424635 / 33554432) * (Real.log 2)⁻¹ : ℝ) : EReal)

def algebraic_FwdIdeal_FwdReferenceIdeal_pre_attention_inputs_finite [hFwdIdeal : Cert.FwdIdeal.Facts] [hFwdReferenceIdeal : Cert.FwdReferenceIdeal.Facts] [hPre_attention_inputs_finite : Cert.Pre_attention_inputs_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_attention_inputs_finite m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)
      ∧ m' ((c.tc : Thread Cert.FwdReferenceIdeal.nD Cert.FwdReferenceIdeal.τ).loc Cert.FwdReferenceIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v11_0)) (v1 : (c : Dev Cert.FwdIdeal.nD) → Buf (Elt Ideal) ((c.tc : Thread Cert.FwdIdeal.nD Cert.FwdIdeal.τ).loc Cert.FwdIdeal.main_v11_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v11_0) = v0 c
          ∧ r.2.mem ((c.tc : Thread Cert.FwdIdeal.nD Cert.FwdIdeal.τ).loc Cert.FwdIdeal.main_v11_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v35) = v0 c
          ∧ r.2.mem ((c.tc : Thread Cert.FwdReferenceIdeal.nD Cert.FwdReferenceIdeal.τ).loc Cert.FwdReferenceIdeal.main_v16) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4))

def preserves_Ffn_FfnIdeal : Prop :=
  True

def algebraic_FfnIdeal_FfnReferenceIdeal_pre_ffn_finite [hFfnIdeal : Cert.FfnIdeal.Facts] [hFfnReferenceIdeal : Cert.FfnReferenceIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_ffn_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v35_0)) (v1 : (c : Dev Cert.FfnIdeal.nD) → Buf (Elt Ideal) ((c.tc : Thread Cert.FfnIdeal.nD Cert.FfnIdeal.τ).loc Cert.FfnIdeal.main_v35_1)) (v2 : (c : Dev Cert.FfnIdeal.nD) → Buf (Elt Ideal) ((c.tc : Thread Cert.FfnIdeal.nD Cert.FfnIdeal.τ).loc Cert.FfnIdeal.main_v35_2)) (v3 : (c : Dev Cert.FfnIdeal.nD) → Buf (Elt Ideal) ((c.tc : Thread Cert.FfnIdeal.nD Cert.FfnIdeal.τ).loc Cert.FfnIdeal.main_v35_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v35_0) = v0 c
          ∧ r.2.mem ((c.tc : Thread Cert.FfnIdeal.nD Cert.FfnIdeal.τ).loc Cert.FfnIdeal.main_v35_1) = v1 c
          ∧ r.2.mem ((c.tc : Thread Cert.FfnIdeal.nD Cert.FfnIdeal.τ).loc Cert.FfnIdeal.main_v35_2) = v2 c
          ∧ r.2.mem ((c.tc : Thread Cert.FfnIdeal.nD Cert.FfnIdeal.τ).loc Cert.FfnIdeal.main_v35_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v87) = v0 c
          ∧ r.2.mem ((c.tc : Thread Cert.FfnReferenceIdeal.nD Cert.FfnReferenceIdeal.τ).loc Cert.FfnReferenceIdeal.main_v88) = v1 c
          ∧ r.2.mem ((c.tc : Thread Cert.FfnReferenceIdeal.nD Cert.FfnReferenceIdeal.τ).loc Cert.FfnReferenceIdeal.main_v91) = v2 c
          ∧ r.2.mem ((c.tc : Thread Cert.FfnReferenceIdeal.nD Cert.FfnReferenceIdeal.τ).loc Cert.FfnReferenceIdeal.main_v93) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Scan_ScanIdeal : Prop :=
  True

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)
      ∧ m' ((c.tc : Thread Cert.ModReferenceIdeal.nD Cert.ModReferenceIdeal.τ).loc Cert.ModReferenceIdeal.main_arg4) = m ((c.tc : Thread Cert.ModIdeal.nD Cert.ModIdeal.τ).loc Cert.ModIdeal.main_arg4)
      ∧ m' ((c.tc : Thread Cert.ModReferenceIdeal.nD Cert.ModReferenceIdeal.τ).loc Cert.ModReferenceIdeal.main_arg5) = m ((c.tc : Thread Cert.ModIdeal.nD Cert.ModIdeal.τ).loc Cert.ModIdeal.main_arg5)) →
    ∃ (v0 : (c : Dev Cert.ModIdeal.nD) → Buf (Elt Ideal) ((c.tc : Thread Cert.ModIdeal.nD Cert.ModIdeal.τ).loc Cert.ModIdeal.main_v4_0)) (v1 : (c : Dev Cert.ModIdeal.nD) → Buf (Elt Ideal) ((c.tc : Thread Cert.ModIdeal.nD Cert.ModIdeal.τ).loc Cert.ModIdeal.main_v4_1)) (v2 : (c : Dev Cert.ModIdeal.nD) → Buf (Elt Ideal) ((c.tc : Thread Cert.ModIdeal.nD Cert.ModIdeal.τ).loc Cert.ModIdeal.main_v4_2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4_0) = v0 c
          ∧ r.2.mem ((c.tc : Thread Cert.ModIdeal.nD Cert.ModIdeal.τ).loc Cert.ModIdeal.main_v4_1) = v1 c
          ∧ r.2.mem ((c.tc : Thread Cert.ModIdeal.nD Cert.ModIdeal.τ).loc Cert.ModIdeal.main_v4_2) = v2 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4)
          ∧ r.2.mem ((c.tc : Thread Cert.ModIdeal.nD Cert.ModIdeal.τ).loc Cert.ModIdeal.main_arg5) = m ((c.tc : Thread Cert.ModIdeal.nD Cert.ModIdeal.τ).loc Cert.ModIdeal.main_arg5))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v14) = v0 c
          ∧ r.2.mem ((c.tc : Thread Cert.ModReferenceIdeal.nD Cert.ModReferenceIdeal.τ).loc Cert.ModReferenceIdeal.main_v24) = v1 c
          ∧ r.2.mem ((c.tc : Thread Cert.ModReferenceIdeal.nD Cert.ModReferenceIdeal.τ).loc Cert.ModReferenceIdeal.main_v27) = v2 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3)
          ∧ r.2.mem ((c.tc : Thread Cert.ModReferenceIdeal.nD Cert.ModReferenceIdeal.τ).loc Cert.ModReferenceIdeal.main_arg4) = m' ((c.tc : Thread Cert.ModReferenceIdeal.nD Cert.ModReferenceIdeal.τ).loc Cert.ModReferenceIdeal.main_arg4)
          ∧ r.2.mem ((c.tc : Thread Cert.ModReferenceIdeal.nD Cert.ModReferenceIdeal.τ).loc Cert.ModReferenceIdeal.main_arg5) = m' ((c.tc : Thread Cert.ModReferenceIdeal.nD Cert.ModReferenceIdeal.τ).loc Cert.ModReferenceIdeal.main_arg5))

def preserves_NormOne_NormOneIdeal : Prop :=
  True

def algebraic_NormOneIdeal_NormOneReferenceIdeal [hNormOneIdeal : Cert.NormOneIdeal.Facts] [hNormOneReferenceIdeal : Cert.NormOneReferenceIdeal.Facts] : Prop :=
  ∀ (m : (ℓ : Loc Cert.NormOneIdeal.nD Cert.NormOneIdeal.τ Cert.NormOneIdeal.sig) → Buf (Elt Ideal) ℓ) (g : Dev Cert.NormOneIdeal.nD → PrngReg)
    (m' : (ℓ : Loc Cert.NormOneReferenceIdeal.nD Cert.NormOneReferenceIdeal.τ Cert.NormOneReferenceIdeal.sig) → Buf (Elt Ideal) ℓ) (g' : Dev Cert.NormOneReferenceIdeal.nD → PrngReg), Pre_NormOneIdeal m →
    (∀ c : Dev Cert.NormOneIdeal.nD,
      m' ((c.tc : Thread Cert.NormOneReferenceIdeal.nD Cert.NormOneReferenceIdeal.τ).loc Cert.NormOneReferenceIdeal.main_arg0) = m ((c.tc : Thread Cert.NormOneIdeal.nD Cert.NormOneIdeal.τ).loc Cert.NormOneIdeal.main_arg0)
      ∧ m' ((c.tc : Thread Cert.NormOneReferenceIdeal.nD Cert.NormOneReferenceIdeal.τ).loc Cert.NormOneReferenceIdeal.main_arg1) = m ((c.tc : Thread Cert.NormOneIdeal.nD Cert.NormOneIdeal.τ).loc Cert.NormOneIdeal.main_arg1)
      ∧ m' ((c.tc : Thread Cert.NormOneReferenceIdeal.nD Cert.NormOneReferenceIdeal.τ).loc Cert.NormOneReferenceIdeal.main_arg2) = m ((c.tc : Thread Cert.NormOneIdeal.nD Cert.NormOneIdeal.τ).loc Cert.NormOneIdeal.main_arg2)
      ∧ m' ((c.tc : Thread Cert.NormOneReferenceIdeal.nD Cert.NormOneReferenceIdeal.τ).loc Cert.NormOneReferenceIdeal.main_arg3) = m ((c.tc : Thread Cert.NormOneIdeal.nD Cert.NormOneIdeal.τ).loc Cert.NormOneIdeal.main_arg3)
      ∧ m' ((c.tc : Thread Cert.NormOneReferenceIdeal.nD Cert.NormOneReferenceIdeal.τ).loc Cert.NormOneReferenceIdeal.main_arg4) = m ((c.tc : Thread Cert.NormOneIdeal.nD Cert.NormOneIdeal.τ).loc Cert.NormOneIdeal.main_arg4)
      ∧ m' ((c.tc : Thread Cert.NormOneReferenceIdeal.nD Cert.NormOneReferenceIdeal.τ).loc Cert.NormOneReferenceIdeal.main_arg5) = m ((c.tc : Thread Cert.NormOneIdeal.nD Cert.NormOneIdeal.τ).loc Cert.NormOneIdeal.main_arg5)
      ∧ m' ((c.tc : Thread Cert.NormOneReferenceIdeal.nD Cert.NormOneReferenceIdeal.τ).loc Cert.NormOneReferenceIdeal.main_arg6) = m ((c.tc : Thread Cert.NormOneIdeal.nD Cert.NormOneIdeal.τ).loc Cert.NormOneIdeal.main_arg6)
      ∧ m' ((c.tc : Thread Cert.NormOneReferenceIdeal.nD Cert.NormOneReferenceIdeal.τ).loc Cert.NormOneReferenceIdeal.main_arg7) = m ((c.tc : Thread Cert.NormOneIdeal.nD Cert.NormOneIdeal.τ).loc Cert.NormOneIdeal.main_arg7)
      ∧ m' ((c.tc : Thread Cert.NormOneReferenceIdeal.nD Cert.NormOneReferenceIdeal.τ).loc Cert.NormOneReferenceIdeal.main_arg8) = m ((c.tc : Thread Cert.NormOneIdeal.nD Cert.NormOneIdeal.τ).loc Cert.NormOneIdeal.main_arg8)
      ∧ m' ((c.tc : Thread Cert.NormOneReferenceIdeal.nD Cert.NormOneReferenceIdeal.τ).loc Cert.NormOneReferenceIdeal.main_arg9) = m ((c.tc : Thread Cert.NormOneIdeal.nD Cert.NormOneIdeal.τ).loc Cert.NormOneIdeal.main_arg9)) →
    ∃ (v0 : (c : Dev Cert.NormOneIdeal.nD) → Buf (Elt Ideal) ((c.tc : Thread Cert.NormOneIdeal.nD Cert.NormOneIdeal.τ).loc Cert.NormOneIdeal.main_v12_0)) (v1 : (c : Dev Cert.NormOneIdeal.nD) → Buf (Elt Ideal) ((c.tc : Thread Cert.NormOneIdeal.nD Cert.NormOneIdeal.τ).loc Cert.NormOneIdeal.main_v12_1)) (v2 : (c : Dev Cert.NormOneIdeal.nD) → Buf (Elt Ideal) ((c.tc : Thread Cert.NormOneIdeal.nD Cert.NormOneIdeal.τ).loc Cert.NormOneIdeal.main_v12_2)),
      θ_run (Cert.NormOneIdeal.defs (F := Ideal)) (onTc (τ := Cert.NormOneIdeal.τ) (Cert.NormOneIdeal.main (F := Ideal))) ⟨m, fun _ => 0, g⟩ (fun r => ∀ c : Dev Cert.NormOneIdeal.nD,
          r.2.mem ((c.tc : Thread Cert.NormOneIdeal.nD Cert.NormOneIdeal.τ).loc Cert.NormOneIdeal.main_v12_0) = v0 c
          ∧ r.2.mem ((c.tc : Thread Cert.NormOneIdeal.nD Cert.NormOneIdeal.τ).loc Cert.NormOneIdeal.main_v12_1) = v1 c
          ∧ r.2.mem ((c.tc : Thread Cert.NormOneIdeal.nD Cert.NormOneIdeal.τ).loc Cert.NormOneIdeal.main_v12_2) = v2 c
          ∧ r.2.mem ((c.tc : Thread Cert.NormOneIdeal.nD Cert.NormOneIdeal.τ).loc Cert.NormOneIdeal.main_arg0) = m ((c.tc : Thread Cert.NormOneIdeal.nD Cert.NormOneIdeal.τ).loc Cert.NormOneIdeal.main_arg0)
          ∧ r.2.mem ((c.tc : Thread Cert.NormOneIdeal.nD Cert.NormOneIdeal.τ).loc Cert.NormOneIdeal.main_arg1) = m ((c.tc : Thread Cert.NormOneIdeal.nD Cert.NormOneIdeal.τ).loc Cert.NormOneIdeal.main_arg1)
          ∧ r.2.mem ((c.tc : Thread Cert.NormOneIdeal.nD Cert.NormOneIdeal.τ).loc Cert.NormOneIdeal.main_arg2) = m ((c.tc : Thread Cert.NormOneIdeal.nD Cert.NormOneIdeal.τ).loc Cert.NormOneIdeal.main_arg2)
          ∧ r.2.mem ((c.tc : Thread Cert.NormOneIdeal.nD Cert.NormOneIdeal.τ).loc Cert.NormOneIdeal.main_arg3) = m ((c.tc : Thread Cert.NormOneIdeal.nD Cert.NormOneIdeal.τ).loc Cert.NormOneIdeal.main_arg3)
          ∧ r.2.mem ((c.tc : Thread Cert.NormOneIdeal.nD Cert.NormOneIdeal.τ).loc Cert.NormOneIdeal.main_arg4) = m ((c.tc : Thread Cert.NormOneIdeal.nD Cert.NormOneIdeal.τ).loc Cert.NormOneIdeal.main_arg4)
          ∧ r.2.mem ((c.tc : Thread Cert.NormOneIdeal.nD Cert.NormOneIdeal.τ).loc Cert.NormOneIdeal.main_arg5) = m ((c.tc : Thread Cert.NormOneIdeal.nD Cert.NormOneIdeal.τ).loc Cert.NormOneIdeal.main_arg5)
          ∧ r.2.mem ((c.tc : Thread Cert.NormOneIdeal.nD Cert.NormOneIdeal.τ).loc Cert.NormOneIdeal.main_arg6) = m ((c.tc : Thread Cert.NormOneIdeal.nD Cert.NormOneIdeal.τ).loc Cert.NormOneIdeal.main_arg6)
          ∧ r.2.mem ((c.tc : Thread Cert.NormOneIdeal.nD Cert.NormOneIdeal.τ).loc Cert.NormOneIdeal.main_arg7) = m ((c.tc : Thread Cert.NormOneIdeal.nD Cert.NormOneIdeal.τ).loc Cert.NormOneIdeal.main_arg7)
          ∧ r.2.mem ((c.tc : Thread Cert.NormOneIdeal.nD Cert.NormOneIdeal.τ).loc Cert.NormOneIdeal.main_arg8) = m ((c.tc : Thread Cert.NormOneIdeal.nD Cert.NormOneIdeal.τ).loc Cert.NormOneIdeal.main_arg8)
          ∧ r.2.mem ((c.tc : Thread Cert.NormOneIdeal.nD Cert.NormOneIdeal.τ).loc Cert.NormOneIdeal.main_arg9) = m ((c.tc : Thread Cert.NormOneIdeal.nD Cert.NormOneIdeal.τ).loc Cert.NormOneIdeal.main_arg9))
      ∧ θ_run (Cert.NormOneReferenceIdeal.defs (F := Ideal)) (onTc (τ := Cert.NormOneReferenceIdeal.τ) (Cert.NormOneReferenceIdeal.main (F := Ideal))) ⟨m', fun _ => 0, g'⟩ (fun r => ∀ c : Dev Cert.NormOneReferenceIdeal.nD,
          r.2.mem ((c.tc : Thread Cert.NormOneReferenceIdeal.nD Cert.NormOneReferenceIdeal.τ).loc Cert.NormOneReferenceIdeal.main_v115) = v0 c
          ∧ r.2.mem ((c.tc : Thread Cert.NormOneReferenceIdeal.nD Cert.NormOneReferenceIdeal.τ).loc Cert.NormOneReferenceIdeal.main_v118) = v1 c
          ∧ r.2.mem ((c.tc : Thread Cert.NormOneReferenceIdeal.nD Cert.NormOneReferenceIdeal.τ).loc Cert.NormOneReferenceIdeal.main_v120) = v2 c
          ∧ r.2.mem ((c.tc : Thread Cert.NormOneReferenceIdeal.nD Cert.NormOneReferenceIdeal.τ).loc Cert.NormOneReferenceIdeal.main_arg0) = m' ((c.tc : Thread Cert.NormOneReferenceIdeal.nD Cert.NormOneReferenceIdeal.τ).loc Cert.NormOneReferenceIdeal.main_arg0)
          ∧ r.2.mem ((c.tc : Thread Cert.NormOneReferenceIdeal.nD Cert.NormOneReferenceIdeal.τ).loc Cert.NormOneReferenceIdeal.main_arg1) = m' ((c.tc : Thread Cert.NormOneReferenceIdeal.nD Cert.NormOneReferenceIdeal.τ).loc Cert.NormOneReferenceIdeal.main_arg1)
          ∧ r.2.mem ((c.tc : Thread Cert.NormOneReferenceIdeal.nD Cert.NormOneReferenceIdeal.τ).loc Cert.NormOneReferenceIdeal.main_arg2) = m' ((c.tc : Thread Cert.NormOneReferenceIdeal.nD Cert.NormOneReferenceIdeal.τ).loc Cert.NormOneReferenceIdeal.main_arg2)
          ∧ r.2.mem ((c.tc : Thread Cert.NormOneReferenceIdeal.nD Cert.NormOneReferenceIdeal.τ).loc Cert.NormOneReferenceIdeal.main_arg3) = m' ((c.tc : Thread Cert.NormOneReferenceIdeal.nD Cert.NormOneReferenceIdeal.τ).loc Cert.NormOneReferenceIdeal.main_arg3)
          ∧ r.2.mem ((c.tc : Thread Cert.NormOneReferenceIdeal.nD Cert.NormOneReferenceIdeal.τ).loc Cert.NormOneReferenceIdeal.main_arg4) = m' ((c.tc : Thread Cert.NormOneReferenceIdeal.nD Cert.NormOneReferenceIdeal.τ).loc Cert.NormOneReferenceIdeal.main_arg4)
          ∧ r.2.mem ((c.tc : Thread Cert.NormOneReferenceIdeal.nD Cert.NormOneReferenceIdeal.τ).loc Cert.NormOneReferenceIdeal.main_arg5) = m' ((c.tc : Thread Cert.NormOneReferenceIdeal.nD Cert.NormOneReferenceIdeal.τ).loc Cert.NormOneReferenceIdeal.main_arg5)
          ∧ r.2.mem ((c.tc : Thread Cert.NormOneReferenceIdeal.nD Cert.NormOneReferenceIdeal.τ).loc Cert.NormOneReferenceIdeal.main_arg6) = m' ((c.tc : Thread Cert.NormOneReferenceIdeal.nD Cert.NormOneReferenceIdeal.τ).loc Cert.NormOneReferenceIdeal.main_arg6)
          ∧ r.2.mem ((c.tc : Thread Cert.NormOneReferenceIdeal.nD Cert.NormOneReferenceIdeal.τ).loc Cert.NormOneReferenceIdeal.main_arg7) = m' ((c.tc : Thread Cert.NormOneReferenceIdeal.nD Cert.NormOneReferenceIdeal.τ).loc Cert.NormOneReferenceIdeal.main_arg7)
          ∧ r.2.mem ((c.tc : Thread Cert.NormOneReferenceIdeal.nD Cert.NormOneReferenceIdeal.τ).loc Cert.NormOneReferenceIdeal.main_arg8) = m' ((c.tc : Thread Cert.NormOneReferenceIdeal.nD Cert.NormOneReferenceIdeal.τ).loc Cert.NormOneReferenceIdeal.main_arg8)
          ∧ r.2.mem ((c.tc : Thread Cert.NormOneReferenceIdeal.nD Cert.NormOneReferenceIdeal.τ).loc Cert.NormOneReferenceIdeal.main_arg9) = m' ((c.tc : Thread Cert.NormOneReferenceIdeal.nD Cert.NormOneReferenceIdeal.τ).loc Cert.NormOneReferenceIdeal.main_arg9))

def preserves_NormTwo_NormTwoIdeal : Prop :=
  True

def algebraic_NormTwoIdeal_NormTwoReferenceIdeal [hNormTwoIdeal : Cert.NormTwoIdeal.Facts] [hNormTwoReferenceIdeal : Cert.NormTwoReferenceIdeal.Facts] : Prop :=
  ∀ (m : (ℓ : Loc Cert.NormTwoIdeal.nD Cert.NormTwoIdeal.τ Cert.NormTwoIdeal.sig) → Buf (Elt Ideal) ℓ) (g : Dev Cert.NormTwoIdeal.nD → PrngReg)
    (m' : (ℓ : Loc Cert.NormTwoReferenceIdeal.nD Cert.NormTwoReferenceIdeal.τ Cert.NormTwoReferenceIdeal.sig) → Buf (Elt Ideal) ℓ) (g' : Dev Cert.NormTwoReferenceIdeal.nD → PrngReg), Pre_NormTwoIdeal m →
    (∀ c : Dev Cert.NormTwoIdeal.nD,
      m' ((c.tc : Thread Cert.NormTwoReferenceIdeal.nD Cert.NormTwoReferenceIdeal.τ).loc Cert.NormTwoReferenceIdeal.main_arg0) = m ((c.tc : Thread Cert.NormTwoIdeal.nD Cert.NormTwoIdeal.τ).loc Cert.NormTwoIdeal.main_arg0)
      ∧ m' ((c.tc : Thread Cert.NormTwoReferenceIdeal.nD Cert.NormTwoReferenceIdeal.τ).loc Cert.NormTwoReferenceIdeal.main_arg1) = m ((c.tc : Thread Cert.NormTwoIdeal.nD Cert.NormTwoIdeal.τ).loc Cert.NormTwoIdeal.main_arg1)
      ∧ m' ((c.tc : Thread Cert.NormTwoReferenceIdeal.nD Cert.NormTwoReferenceIdeal.τ).loc Cert.NormTwoReferenceIdeal.main_arg2) = m ((c.tc : Thread Cert.NormTwoIdeal.nD Cert.NormTwoIdeal.τ).loc Cert.NormTwoIdeal.main_arg2)
      ∧ m' ((c.tc : Thread Cert.NormTwoReferenceIdeal.nD Cert.NormTwoReferenceIdeal.τ).loc Cert.NormTwoReferenceIdeal.main_arg3) = m ((c.tc : Thread Cert.NormTwoIdeal.nD Cert.NormTwoIdeal.τ).loc Cert.NormTwoIdeal.main_arg3)
      ∧ m' ((c.tc : Thread Cert.NormTwoReferenceIdeal.nD Cert.NormTwoReferenceIdeal.τ).loc Cert.NormTwoReferenceIdeal.main_arg4) = m ((c.tc : Thread Cert.NormTwoIdeal.nD Cert.NormTwoIdeal.τ).loc Cert.NormTwoIdeal.main_arg4)
      ∧ m' ((c.tc : Thread Cert.NormTwoReferenceIdeal.nD Cert.NormTwoReferenceIdeal.τ).loc Cert.NormTwoReferenceIdeal.main_arg5) = m ((c.tc : Thread Cert.NormTwoIdeal.nD Cert.NormTwoIdeal.τ).loc Cert.NormTwoIdeal.main_arg5)) →
    ∃ (v0 : (c : Dev Cert.NormTwoIdeal.nD) → Buf (Elt Ideal) ((c.tc : Thread Cert.NormTwoIdeal.nD Cert.NormTwoIdeal.τ).loc Cert.NormTwoIdeal.main_v6_0)) (v1 : (c : Dev Cert.NormTwoIdeal.nD) → Buf (Elt Ideal) ((c.tc : Thread Cert.NormTwoIdeal.nD Cert.NormTwoIdeal.τ).loc Cert.NormTwoIdeal.main_v6_1)) (v2 : (c : Dev Cert.NormTwoIdeal.nD) → Buf (Elt Ideal) ((c.tc : Thread Cert.NormTwoIdeal.nD Cert.NormTwoIdeal.τ).loc Cert.NormTwoIdeal.main_v6_2)),
      θ_run (Cert.NormTwoIdeal.defs (F := Ideal)) (onTc (τ := Cert.NormTwoIdeal.τ) (Cert.NormTwoIdeal.main (F := Ideal))) ⟨m, fun _ => 0, g⟩ (fun r => ∀ c : Dev Cert.NormTwoIdeal.nD,
          r.2.mem ((c.tc : Thread Cert.NormTwoIdeal.nD Cert.NormTwoIdeal.τ).loc Cert.NormTwoIdeal.main_v6_0) = v0 c
          ∧ r.2.mem ((c.tc : Thread Cert.NormTwoIdeal.nD Cert.NormTwoIdeal.τ).loc Cert.NormTwoIdeal.main_v6_1) = v1 c
          ∧ r.2.mem ((c.tc : Thread Cert.NormTwoIdeal.nD Cert.NormTwoIdeal.τ).loc Cert.NormTwoIdeal.main_v6_2) = v2 c
          ∧ r.2.mem ((c.tc : Thread Cert.NormTwoIdeal.nD Cert.NormTwoIdeal.τ).loc Cert.NormTwoIdeal.main_arg0) = m ((c.tc : Thread Cert.NormTwoIdeal.nD Cert.NormTwoIdeal.τ).loc Cert.NormTwoIdeal.main_arg0)
          ∧ r.2.mem ((c.tc : Thread Cert.NormTwoIdeal.nD Cert.NormTwoIdeal.τ).loc Cert.NormTwoIdeal.main_arg1) = m ((c.tc : Thread Cert.NormTwoIdeal.nD Cert.NormTwoIdeal.τ).loc Cert.NormTwoIdeal.main_arg1)
          ∧ r.2.mem ((c.tc : Thread Cert.NormTwoIdeal.nD Cert.NormTwoIdeal.τ).loc Cert.NormTwoIdeal.main_arg2) = m ((c.tc : Thread Cert.NormTwoIdeal.nD Cert.NormTwoIdeal.τ).loc Cert.NormTwoIdeal.main_arg2)
          ∧ r.2.mem ((c.tc : Thread Cert.NormTwoIdeal.nD Cert.NormTwoIdeal.τ).loc Cert.NormTwoIdeal.main_arg3) = m ((c.tc : Thread Cert.NormTwoIdeal.nD Cert.NormTwoIdeal.τ).loc Cert.NormTwoIdeal.main_arg3)
          ∧ r.2.mem ((c.tc : Thread Cert.NormTwoIdeal.nD Cert.NormTwoIdeal.τ).loc Cert.NormTwoIdeal.main_arg4) = m ((c.tc : Thread Cert.NormTwoIdeal.nD Cert.NormTwoIdeal.τ).loc Cert.NormTwoIdeal.main_arg4)
          ∧ r.2.mem ((c.tc : Thread Cert.NormTwoIdeal.nD Cert.NormTwoIdeal.τ).loc Cert.NormTwoIdeal.main_arg5) = m ((c.tc : Thread Cert.NormTwoIdeal.nD Cert.NormTwoIdeal.τ).loc Cert.NormTwoIdeal.main_arg5))
      ∧ θ_run (Cert.NormTwoReferenceIdeal.defs (F := Ideal)) (onTc (τ := Cert.NormTwoReferenceIdeal.τ) (Cert.NormTwoReferenceIdeal.main (F := Ideal))) ⟨m', fun _ => 0, g'⟩ (fun r => ∀ c : Dev Cert.NormTwoReferenceIdeal.nD,
          r.2.mem ((c.tc : Thread Cert.NormTwoReferenceIdeal.nD Cert.NormTwoReferenceIdeal.τ).loc Cert.NormTwoReferenceIdeal.main_v54) = v0 c
          ∧ r.2.mem ((c.tc : Thread Cert.NormTwoReferenceIdeal.nD Cert.NormTwoReferenceIdeal.τ).loc Cert.NormTwoReferenceIdeal.main_v60) = v1 c
          ∧ r.2.mem ((c.tc : Thread Cert.NormTwoReferenceIdeal.nD Cert.NormTwoReferenceIdeal.τ).loc Cert.NormTwoReferenceIdeal.main_v62) = v2 c
          ∧ r.2.mem ((c.tc : Thread Cert.NormTwoReferenceIdeal.nD Cert.NormTwoReferenceIdeal.τ).loc Cert.NormTwoReferenceIdeal.main_arg0) = m' ((c.tc : Thread Cert.NormTwoReferenceIdeal.nD Cert.NormTwoReferenceIdeal.τ).loc Cert.NormTwoReferenceIdeal.main_arg0)
          ∧ r.2.mem ((c.tc : Thread Cert.NormTwoReferenceIdeal.nD Cert.NormTwoReferenceIdeal.τ).loc Cert.NormTwoReferenceIdeal.main_arg1) = m' ((c.tc : Thread Cert.NormTwoReferenceIdeal.nD Cert.NormTwoReferenceIdeal.τ).loc Cert.NormTwoReferenceIdeal.main_arg1)
          ∧ r.2.mem ((c.tc : Thread Cert.NormTwoReferenceIdeal.nD Cert.NormTwoReferenceIdeal.τ).loc Cert.NormTwoReferenceIdeal.main_arg2) = m' ((c.tc : Thread Cert.NormTwoReferenceIdeal.nD Cert.NormTwoReferenceIdeal.τ).loc Cert.NormTwoReferenceIdeal.main_arg2)
          ∧ r.2.mem ((c.tc : Thread Cert.NormTwoReferenceIdeal.nD Cert.NormTwoReferenceIdeal.τ).loc Cert.NormTwoReferenceIdeal.main_arg3) = m' ((c.tc : Thread Cert.NormTwoReferenceIdeal.nD Cert.NormTwoReferenceIdeal.τ).loc Cert.NormTwoReferenceIdeal.main_arg3)
          ∧ r.2.mem ((c.tc : Thread Cert.NormTwoReferenceIdeal.nD Cert.NormTwoReferenceIdeal.τ).loc Cert.NormTwoReferenceIdeal.main_arg4) = m' ((c.tc : Thread Cert.NormTwoReferenceIdeal.nD Cert.NormTwoReferenceIdeal.τ).loc Cert.NormTwoReferenceIdeal.main_arg4)
          ∧ r.2.mem ((c.tc : Thread Cert.NormTwoReferenceIdeal.nD Cert.NormTwoReferenceIdeal.τ).loc Cert.NormTwoReferenceIdeal.main_arg5) = m' ((c.tc : Thread Cert.NormTwoReferenceIdeal.nD Cert.NormTwoReferenceIdeal.τ).loc Cert.NormTwoReferenceIdeal.main_arg5))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)
      ∧ m' ((c.tc : Thread Cert.GluReferenceIdeal.nD Cert.GluReferenceIdeal.τ).loc Cert.GluReferenceIdeal.main_arg5) = m ((c.tc : Thread Cert.GluIdeal.nD Cert.GluIdeal.τ).loc Cert.GluIdeal.main_arg5)) →
    ∃ (v0 : (c : Dev Cert.GluIdeal.nD) → Buf (Elt Ideal) ((c.tc : Thread Cert.GluIdeal.nD Cert.GluIdeal.τ).loc Cert.GluIdeal.main_v6_0)) (v1 : (c : Dev Cert.GluIdeal.nD) → Buf (Elt Ideal) ((c.tc : Thread Cert.GluIdeal.nD Cert.GluIdeal.τ).loc Cert.GluIdeal.main_v6_1)) (v2 : (c : Dev Cert.GluIdeal.nD) → Buf (Elt Ideal) ((c.tc : Thread Cert.GluIdeal.nD Cert.GluIdeal.τ).loc Cert.GluIdeal.main_v6_2)) (v3 : (c : Dev Cert.GluIdeal.nD) → Buf (Elt Ideal) ((c.tc : Thread Cert.GluIdeal.nD Cert.GluIdeal.τ).loc Cert.GluIdeal.main_v6_3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v6_0) = v0 c
          ∧ r.2.mem ((c.tc : Thread Cert.GluIdeal.nD Cert.GluIdeal.τ).loc Cert.GluIdeal.main_v6_1) = v1 c
          ∧ r.2.mem ((c.tc : Thread Cert.GluIdeal.nD Cert.GluIdeal.τ).loc Cert.GluIdeal.main_v6_2) = v2 c
          ∧ r.2.mem ((c.tc : Thread Cert.GluIdeal.nD Cert.GluIdeal.τ).loc Cert.GluIdeal.main_v6_3) = v3 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v70) = v0 c
          ∧ r.2.mem ((c.tc : Thread Cert.GluReferenceIdeal.nD Cert.GluReferenceIdeal.τ).loc Cert.GluReferenceIdeal.main_v71) = v1 c
          ∧ r.2.mem ((c.tc : Thread Cert.GluReferenceIdeal.nD Cert.GluReferenceIdeal.τ).loc Cert.GluReferenceIdeal.main_v74) = v2 c
          ∧ r.2.mem ((c.tc : Thread Cert.GluReferenceIdeal.nD Cert.GluReferenceIdeal.τ).loc Cert.GluReferenceIdeal.main_v47) = v3 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4)
          ∧ r.2.mem ((c.tc : Thread Cert.GluReferenceIdeal.nD Cert.GluReferenceIdeal.τ).loc Cert.GluReferenceIdeal.main_arg5) = m' ((c.tc : Thread Cert.GluReferenceIdeal.nD Cert.GluReferenceIdeal.τ).loc Cert.GluReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)) (v2 : (c : Dev Cert.MergeIdeal.nD) → Buf (Elt Ideal) ((c.tc : Thread Cert.MergeIdeal.nD Cert.MergeIdeal.τ).loc Cert.MergeIdeal.main_v11_2)) (v3 : (c : Dev Cert.MergeIdeal.nD) → Buf (Elt Ideal) ((c.tc : Thread Cert.MergeIdeal.nD Cert.MergeIdeal.τ).loc Cert.MergeIdeal.main_v11_3)) (v4 : (c : Dev Cert.MergeIdeal.nD) → Buf (Elt Ideal) ((c.tc : Thread Cert.MergeIdeal.nD Cert.MergeIdeal.τ).loc Cert.MergeIdeal.main_v11_4)) (v5 : (c : Dev Cert.MergeIdeal.nD) → Buf (Elt Ideal) ((c.tc : Thread Cert.MergeIdeal.nD Cert.MergeIdeal.τ).loc Cert.MergeIdeal.main_v11_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_v11_2) = v2 c
          ∧ r.2.mem ((c.tc : Thread Cert.MergeIdeal.nD Cert.MergeIdeal.τ).loc Cert.MergeIdeal.main_v11_3) = v3 c
          ∧ r.2.mem ((c.tc : Thread Cert.MergeIdeal.nD Cert.MergeIdeal.τ).loc Cert.MergeIdeal.main_v11_4) = v4 c
          ∧ r.2.mem ((c.tc : Thread Cert.MergeIdeal.nD Cert.MergeIdeal.τ).loc Cert.MergeIdeal.main_v11_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v57) = v0 c
          ∧ r.2.mem ((c.tc : Thread Cert.MergeReferenceIdeal.nD Cert.MergeReferenceIdeal.τ).loc Cert.MergeReferenceIdeal.main_v41) = v1 c
          ∧ r.2.mem ((c.tc : Thread Cert.MergeReferenceIdeal.nD Cert.MergeReferenceIdeal.τ).loc Cert.MergeReferenceIdeal.main_v58) = v2 c
          ∧ r.2.mem ((c.tc : Thread Cert.MergeReferenceIdeal.nD Cert.MergeReferenceIdeal.τ).loc Cert.MergeReferenceIdeal.main_v61) = v3 c
          ∧ r.2.mem ((c.tc : Thread Cert.MergeReferenceIdeal.nD Cert.MergeReferenceIdeal.τ).loc Cert.MergeReferenceIdeal.main_v62) = v4 c
          ∧ r.2.mem ((c.tc : Thread Cert.MergeReferenceIdeal.nD Cert.MergeReferenceIdeal.τ).loc Cert.MergeReferenceIdeal.main_v39) = v5 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)
      ∧ m' ((c.tc : Thread Cert.PrepReferenceIdeal.nD Cert.PrepReferenceIdeal.τ).loc Cert.PrepReferenceIdeal.main_arg7) = m ((c.tc : Thread Cert.PrepIdeal.nD Cert.PrepIdeal.τ).loc Cert.PrepIdeal.main_arg7)
      ∧ m' ((c.tc : Thread Cert.PrepReferenceIdeal.nD Cert.PrepReferenceIdeal.τ).loc Cert.PrepReferenceIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v13_0)) (v1 : (c : Dev Cert.PrepIdeal.nD) → Buf (Elt Ideal) ((c.tc : Thread Cert.PrepIdeal.nD Cert.PrepIdeal.τ).loc Cert.PrepIdeal.main_v13_1)) (v2 : (c : Dev Cert.PrepIdeal.nD) → Buf (Elt Ideal) ((c.tc : Thread Cert.PrepIdeal.nD Cert.PrepIdeal.τ).loc Cert.PrepIdeal.main_v13_2)) (v3 : (c : Dev Cert.PrepIdeal.nD) → Buf (Elt Ideal) ((c.tc : Thread Cert.PrepIdeal.nD Cert.PrepIdeal.τ).loc Cert.PrepIdeal.main_v13_3)) (v4 : (c : Dev Cert.PrepIdeal.nD) → Buf (Elt Ideal) ((c.tc : Thread Cert.PrepIdeal.nD Cert.PrepIdeal.τ).loc Cert.PrepIdeal.main_v13_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v13_0) = v0 c
          ∧ r.2.mem ((c.tc : Thread Cert.PrepIdeal.nD Cert.PrepIdeal.τ).loc Cert.PrepIdeal.main_v13_1) = v1 c
          ∧ r.2.mem ((c.tc : Thread Cert.PrepIdeal.nD Cert.PrepIdeal.τ).loc Cert.PrepIdeal.main_v13_2) = v2 c
          ∧ r.2.mem ((c.tc : Thread Cert.PrepIdeal.nD Cert.PrepIdeal.τ).loc Cert.PrepIdeal.main_v13_3) = v3 c
          ∧ r.2.mem ((c.tc : Thread Cert.PrepIdeal.nD Cert.PrepIdeal.τ).loc Cert.PrepIdeal.main_v13_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v121) = v0 c
          ∧ r.2.mem ((c.tc : Thread Cert.PrepReferenceIdeal.nD Cert.PrepReferenceIdeal.τ).loc Cert.PrepReferenceIdeal.main_v122) = v1 c
          ∧ r.2.mem ((c.tc : Thread Cert.PrepReferenceIdeal.nD Cert.PrepReferenceIdeal.τ).loc Cert.PrepReferenceIdeal.main_v123) = v2 c
          ∧ r.2.mem ((c.tc : Thread Cert.PrepReferenceIdeal.nD Cert.PrepReferenceIdeal.τ).loc Cert.PrepReferenceIdeal.main_v125) = v3 c
          ∧ r.2.mem ((c.tc : Thread Cert.PrepReferenceIdeal.nD Cert.PrepReferenceIdeal.τ).loc Cert.PrepReferenceIdeal.main_v127) = v4 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8))

def preserves_GluFwd_GluFwdIdeal : Prop :=
  True

def algebraic_GluFwdIdeal_GluFwdReferenceIdeal [hGluFwdIdeal : Cert.GluFwdIdeal.Facts] [hGluFwdReferenceIdeal : Cert.GluFwdReferenceIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdReferenceIdeal.nD Cert.GluFwdReferenceIdeal.τ Cert.GluFwdReferenceIdeal.sig) → Buf (Elt Ideal) ℓ) (g' : Dev Cert.GluFwdReferenceIdeal.nD → PrngReg), Pre_GluFwdIdeal m →
    (∀ c : Dev Cert.GluFwdIdeal.nD,
      m' ((c.tc : Thread Cert.GluFwdReferenceIdeal.nD Cert.GluFwdReferenceIdeal.τ).loc Cert.GluFwdReferenceIdeal.main_arg0) = m ((c.tc : Thread Cert.GluFwdIdeal.nD Cert.GluFwdIdeal.τ).loc Cert.GluFwdIdeal.main_arg0)
      ∧ m' ((c.tc : Thread Cert.GluFwdReferenceIdeal.nD Cert.GluFwdReferenceIdeal.τ).loc Cert.GluFwdReferenceIdeal.main_arg1) = m ((c.tc : Thread Cert.GluFwdIdeal.nD Cert.GluFwdIdeal.τ).loc Cert.GluFwdIdeal.main_arg1)
      ∧ m' ((c.tc : Thread Cert.GluFwdReferenceIdeal.nD Cert.GluFwdReferenceIdeal.τ).loc Cert.GluFwdReferenceIdeal.main_arg2) = m ((c.tc : Thread Cert.GluFwdIdeal.nD Cert.GluFwdIdeal.τ).loc Cert.GluFwdIdeal.main_arg2)
      ∧ m' ((c.tc : Thread Cert.GluFwdReferenceIdeal.nD Cert.GluFwdReferenceIdeal.τ).loc Cert.GluFwdReferenceIdeal.main_arg3) = m ((c.tc : Thread Cert.GluFwdIdeal.nD Cert.GluFwdIdeal.τ).loc Cert.GluFwdIdeal.main_arg3)
      ∧ m' ((c.tc : Thread Cert.GluFwdReferenceIdeal.nD Cert.GluFwdReferenceIdeal.τ).loc Cert.GluFwdReferenceIdeal.main_arg4) = m ((c.tc : Thread Cert.GluFwdIdeal.nD Cert.GluFwdIdeal.τ).loc Cert.GluFwdIdeal.main_arg4)) →
    ∃ (v0 : (c : Dev Cert.GluFwdIdeal.nD) → Buf (Elt Ideal) ((c.tc : Thread Cert.GluFwdIdeal.nD Cert.GluFwdIdeal.τ).loc Cert.GluFwdIdeal.main_v6)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v6) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
          ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ θ_run (Cert.GluFwdReferenceIdeal.defs (F := Ideal)) (onTc (τ := Cert.GluFwdReferenceIdeal.τ) (Cert.GluFwdReferenceIdeal.main (F := Ideal))) ⟨m', fun _ => 0, g'⟩ (fun r => ∀ c : Dev Cert.GluFwdReferenceIdeal.nD,
          r.2.mem ((c.tc : Thread Cert.GluFwdReferenceIdeal.nD Cert.GluFwdReferenceIdeal.τ).loc Cert.GluFwdReferenceIdeal.main_v30) = v0 c
          ∧ r.2.mem ((c.tc : Thread Cert.GluFwdReferenceIdeal.nD Cert.GluFwdReferenceIdeal.τ).loc Cert.GluFwdReferenceIdeal.main_arg0) = m' ((c.tc : Thread Cert.GluFwdReferenceIdeal.nD Cert.GluFwdReferenceIdeal.τ).loc Cert.GluFwdReferenceIdeal.main_arg0)
          ∧ r.2.mem ((c.tc : Thread Cert.GluFwdReferenceIdeal.nD Cert.GluFwdReferenceIdeal.τ).loc Cert.GluFwdReferenceIdeal.main_arg1) = m' ((c.tc : Thread Cert.GluFwdReferenceIdeal.nD Cert.GluFwdReferenceIdeal.τ).loc Cert.GluFwdReferenceIdeal.main_arg1)
          ∧ r.2.mem ((c.tc : Thread Cert.GluFwdReferenceIdeal.nD Cert.GluFwdReferenceIdeal.τ).loc Cert.GluFwdReferenceIdeal.main_arg2) = m' ((c.tc : Thread Cert.GluFwdReferenceIdeal.nD Cert.GluFwdReferenceIdeal.τ).loc Cert.GluFwdReferenceIdeal.main_arg2)
          ∧ r.2.mem ((c.tc : Thread Cert.GluFwdReferenceIdeal.nD Cert.GluFwdReferenceIdeal.τ).loc Cert.GluFwdReferenceIdeal.main_arg3) = m' ((c.tc : Thread Cert.GluFwdReferenceIdeal.nD Cert.GluFwdReferenceIdeal.τ).loc Cert.GluFwdReferenceIdeal.main_arg3)
          ∧ r.2.mem ((c.tc : Thread Cert.GluFwdReferenceIdeal.nD Cert.GluFwdReferenceIdeal.τ).loc Cert.GluFwdReferenceIdeal.main_arg4) = m' ((c.tc : Thread Cert.GluFwdReferenceIdeal.nD Cert.GluFwdReferenceIdeal.τ).loc Cert.GluFwdReferenceIdeal.main_arg4))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)
      ∧ m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4)
      ∧ m' ((c.tc : Thread Cert.MergeFwdReferenceIdeal.nD Cert.MergeFwdReferenceIdeal.τ).loc Cert.MergeFwdReferenceIdeal.main_arg5) = m ((c.tc : Thread Cert.MergeFwdIdeal.nD Cert.MergeFwdIdeal.τ).loc Cert.MergeFwdIdeal.main_arg5)
      ∧ m' ((c.tc : Thread Cert.MergeFwdReferenceIdeal.nD Cert.MergeFwdReferenceIdeal.τ).loc Cert.MergeFwdReferenceIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v11)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v11) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v25) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4)
          ∧ r.2.mem ((c.tc : Thread Cert.MergeFwdReferenceIdeal.nD Cert.MergeFwdReferenceIdeal.τ).loc Cert.MergeFwdReferenceIdeal.main_arg5) = m' ((c.tc : Thread Cert.MergeFwdReferenceIdeal.nD Cert.MergeFwdReferenceIdeal.τ).loc Cert.MergeFwdReferenceIdeal.main_arg5)
          ∧ r.2.mem ((c.tc : Thread Cert.MergeFwdReferenceIdeal.nD Cert.MergeFwdReferenceIdeal.τ).loc Cert.MergeFwdReferenceIdeal.main_arg6) = m' ((c.tc : Thread Cert.MergeFwdReferenceIdeal.nD Cert.MergeFwdReferenceIdeal.τ).loc Cert.MergeFwdReferenceIdeal.main_arg6))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)
      ∧ m' ((c.tc : Thread Cert.NormFwdReferenceIdeal.nD Cert.NormFwdReferenceIdeal.τ).loc Cert.NormFwdReferenceIdeal.main_arg2) = m ((c.tc : Thread Cert.NormFwdIdeal.nD Cert.NormFwdIdeal.τ).loc Cert.NormFwdIdeal.main_arg2)
      ∧ m' ((c.tc : Thread Cert.NormFwdReferenceIdeal.nD Cert.NormFwdReferenceIdeal.τ).loc Cert.NormFwdReferenceIdeal.main_arg3) = m ((c.tc : Thread Cert.NormFwdIdeal.nD Cert.NormFwdIdeal.τ).loc Cert.NormFwdIdeal.main_arg3)
      ∧ m' ((c.tc : Thread Cert.NormFwdReferenceIdeal.nD Cert.NormFwdReferenceIdeal.τ).loc Cert.NormFwdReferenceIdeal.main_arg4) = m ((c.tc : Thread Cert.NormFwdIdeal.nD Cert.NormFwdIdeal.τ).loc Cert.NormFwdIdeal.main_arg4)
      ∧ m' ((c.tc : Thread Cert.NormFwdReferenceIdeal.nD Cert.NormFwdReferenceIdeal.τ).loc Cert.NormFwdReferenceIdeal.main_arg5) = m ((c.tc : Thread Cert.NormFwdIdeal.nD Cert.NormFwdIdeal.τ).loc Cert.NormFwdIdeal.main_arg5)
      ∧ m' ((c.tc : Thread Cert.NormFwdReferenceIdeal.nD Cert.NormFwdReferenceIdeal.τ).loc Cert.NormFwdReferenceIdeal.main_arg6) = m ((c.tc : Thread Cert.NormFwdIdeal.nD Cert.NormFwdIdeal.τ).loc Cert.NormFwdIdeal.main_arg6)) →
    ∃ (v0 : (c : Dev Cert.NormFwdIdeal.nD) → Buf (Elt Ideal) ((c.tc : Thread Cert.NormFwdIdeal.nD Cert.NormFwdIdeal.τ).loc Cert.NormFwdIdeal.main_v11)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v11) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3)
          ∧ r.2.mem ((c.tc : Thread Cert.NormFwdIdeal.nD Cert.NormFwdIdeal.τ).loc Cert.NormFwdIdeal.main_arg4) = m ((c.tc : Thread Cert.NormFwdIdeal.nD Cert.NormFwdIdeal.τ).loc Cert.NormFwdIdeal.main_arg4)
          ∧ r.2.mem ((c.tc : Thread Cert.NormFwdIdeal.nD Cert.NormFwdIdeal.τ).loc Cert.NormFwdIdeal.main_arg5) = m ((c.tc : Thread Cert.NormFwdIdeal.nD Cert.NormFwdIdeal.τ).loc Cert.NormFwdIdeal.main_arg5)
          ∧ r.2.mem ((c.tc : Thread Cert.NormFwdIdeal.nD Cert.NormFwdIdeal.τ).loc Cert.NormFwdIdeal.main_arg6) = m ((c.tc : Thread Cert.NormFwdIdeal.nD Cert.NormFwdIdeal.τ).loc Cert.NormFwdIdeal.main_arg6))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v43) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1)
          ∧ r.2.mem ((c.tc : Thread Cert.NormFwdReferenceIdeal.nD Cert.NormFwdReferenceIdeal.τ).loc Cert.NormFwdReferenceIdeal.main_arg2) = m' ((c.tc : Thread Cert.NormFwdReferenceIdeal.nD Cert.NormFwdReferenceIdeal.τ).loc Cert.NormFwdReferenceIdeal.main_arg2)
          ∧ r.2.mem ((c.tc : Thread Cert.NormFwdReferenceIdeal.nD Cert.NormFwdReferenceIdeal.τ).loc Cert.NormFwdReferenceIdeal.main_arg3) = m' ((c.tc : Thread Cert.NormFwdReferenceIdeal.nD Cert.NormFwdReferenceIdeal.τ).loc Cert.NormFwdReferenceIdeal.main_arg3)
          ∧ r.2.mem ((c.tc : Thread Cert.NormFwdReferenceIdeal.nD Cert.NormFwdReferenceIdeal.τ).loc Cert.NormFwdReferenceIdeal.main_arg4) = m' ((c.tc : Thread Cert.NormFwdReferenceIdeal.nD Cert.NormFwdReferenceIdeal.τ).loc Cert.NormFwdReferenceIdeal.main_arg4)
          ∧ r.2.mem ((c.tc : Thread Cert.NormFwdReferenceIdeal.nD Cert.NormFwdReferenceIdeal.τ).loc Cert.NormFwdReferenceIdeal.main_arg5) = m' ((c.tc : Thread Cert.NormFwdReferenceIdeal.nD Cert.NormFwdReferenceIdeal.τ).loc Cert.NormFwdReferenceIdeal.main_arg5)
          ∧ r.2.mem ((c.tc : Thread Cert.NormFwdReferenceIdeal.nD Cert.NormFwdReferenceIdeal.τ).loc Cert.NormFwdReferenceIdeal.main_arg6) = m' ((c.tc : Thread Cert.NormFwdReferenceIdeal.nD Cert.NormFwdReferenceIdeal.τ).loc Cert.NormFwdReferenceIdeal.main_arg6))

def preserves_ModFwd_ModFwdIdeal : Prop :=
  True

def algebraic_ModFwdIdeal_ModFwdReferenceIdeal [hModFwdIdeal : Cert.ModFwdIdeal.Facts] [hModFwdReferenceIdeal : Cert.ModFwdReferenceIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.ModFwdReferenceIdeal.nD Cert.ModFwdReferenceIdeal.τ Cert.ModFwdReferenceIdeal.sig) → Buf (Elt Ideal) ℓ) (g' : Dev Cert.ModFwdReferenceIdeal.nD → PrngReg), Pre_ModFwdIdeal m →
    (∀ c : Dev Cert.ModFwdIdeal.nD,
      m' ((c.tc : Thread Cert.ModFwdReferenceIdeal.nD Cert.ModFwdReferenceIdeal.τ).loc Cert.ModFwdReferenceIdeal.main_arg0) = m ((c.tc : Thread Cert.ModFwdIdeal.nD Cert.ModFwdIdeal.τ).loc Cert.ModFwdIdeal.main_arg0)
      ∧ m' ((c.tc : Thread Cert.ModFwdReferenceIdeal.nD Cert.ModFwdReferenceIdeal.τ).loc Cert.ModFwdReferenceIdeal.main_arg1) = m ((c.tc : Thread Cert.ModFwdIdeal.nD Cert.ModFwdIdeal.τ).loc Cert.ModFwdIdeal.main_arg1)
      ∧ m' ((c.tc : Thread Cert.ModFwdReferenceIdeal.nD Cert.ModFwdReferenceIdeal.τ).loc Cert.ModFwdReferenceIdeal.main_arg2) = m ((c.tc : Thread Cert.ModFwdIdeal.nD Cert.ModFwdIdeal.τ).loc Cert.ModFwdIdeal.main_arg2)
      ∧ m' ((c.tc : Thread Cert.ModFwdReferenceIdeal.nD Cert.ModFwdReferenceIdeal.τ).loc Cert.ModFwdReferenceIdeal.main_arg3) = m ((c.tc : Thread Cert.ModFwdIdeal.nD Cert.ModFwdIdeal.τ).loc Cert.ModFwdIdeal.main_arg3)) →
    ∃ (v0 : (c : Dev Cert.ModFwdIdeal.nD) → Buf (Elt Ideal) ((c.tc : Thread Cert.ModFwdIdeal.nD Cert.ModFwdIdeal.τ).loc Cert.ModFwdIdeal.main_v5)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v5) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
          ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ θ_run (Cert.ModFwdReferenceIdeal.defs (F := Ideal)) (onTc (τ := Cert.ModFwdReferenceIdeal.τ) (Cert.ModFwdReferenceIdeal.main (F := Ideal))) ⟨m', fun _ => 0, g'⟩ (fun r => ∀ c : Dev Cert.ModFwdReferenceIdeal.nD,
          r.2.mem ((c.tc : Thread Cert.ModFwdReferenceIdeal.nD Cert.ModFwdReferenceIdeal.τ).loc Cert.ModFwdReferenceIdeal.main_v10) = v0 c
          ∧ r.2.mem ((c.tc : Thread Cert.ModFwdReferenceIdeal.nD Cert.ModFwdReferenceIdeal.τ).loc Cert.ModFwdReferenceIdeal.main_arg0) = m' ((c.tc : Thread Cert.ModFwdReferenceIdeal.nD Cert.ModFwdReferenceIdeal.τ).loc Cert.ModFwdReferenceIdeal.main_arg0)
          ∧ r.2.mem ((c.tc : Thread Cert.ModFwdReferenceIdeal.nD Cert.ModFwdReferenceIdeal.τ).loc Cert.ModFwdReferenceIdeal.main_arg1) = m' ((c.tc : Thread Cert.ModFwdReferenceIdeal.nD Cert.ModFwdReferenceIdeal.τ).loc Cert.ModFwdReferenceIdeal.main_arg1)
          ∧ r.2.mem ((c.tc : Thread Cert.ModFwdReferenceIdeal.nD Cert.ModFwdReferenceIdeal.τ).loc Cert.ModFwdReferenceIdeal.main_arg2) = m' ((c.tc : Thread Cert.ModFwdReferenceIdeal.nD Cert.ModFwdReferenceIdeal.τ).loc Cert.ModFwdReferenceIdeal.main_arg2)
          ∧ r.2.mem ((c.tc : Thread Cert.ModFwdReferenceIdeal.nD Cert.ModFwdReferenceIdeal.τ).loc Cert.ModFwdReferenceIdeal.main_arg3) = m' ((c.tc : Thread Cert.ModFwdReferenceIdeal.nD Cert.ModFwdReferenceIdeal.τ).loc Cert.ModFwdReferenceIdeal.main_arg3))

def preserves_PrepFwd_PrepFwdIdeal : Prop :=
  True

def algebraic_PrepFwdIdeal_PrepFwdReferenceIdeal [hPrepFwdIdeal : Cert.PrepFwdIdeal.Facts] [hPrepFwdReferenceIdeal : Cert.PrepFwdReferenceIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdReferenceIdeal.nD Cert.PrepFwdReferenceIdeal.τ Cert.PrepFwdReferenceIdeal.sig) → Buf (Elt Ideal) ℓ) (g' : Dev Cert.PrepFwdReferenceIdeal.nD → PrngReg), Pre_PrepFwdIdeal m →
    (∀ c : Dev Cert.PrepFwdIdeal.nD,
      m' ((c.tc : Thread Cert.PrepFwdReferenceIdeal.nD Cert.PrepFwdReferenceIdeal.τ).loc Cert.PrepFwdReferenceIdeal.main_arg0) = m ((c.tc : Thread Cert.PrepFwdIdeal.nD Cert.PrepFwdIdeal.τ).loc Cert.PrepFwdIdeal.main_arg0)
      ∧ m' ((c.tc : Thread Cert.PrepFwdReferenceIdeal.nD Cert.PrepFwdReferenceIdeal.τ).loc Cert.PrepFwdReferenceIdeal.main_arg1) = m ((c.tc : Thread Cert.PrepFwdIdeal.nD Cert.PrepFwdIdeal.τ).loc Cert.PrepFwdIdeal.main_arg1)
      ∧ m' ((c.tc : Thread Cert.PrepFwdReferenceIdeal.nD Cert.PrepFwdReferenceIdeal.τ).loc Cert.PrepFwdReferenceIdeal.main_arg2) = m ((c.tc : Thread Cert.PrepFwdIdeal.nD Cert.PrepFwdIdeal.τ).loc Cert.PrepFwdIdeal.main_arg2)
      ∧ m' ((c.tc : Thread Cert.PrepFwdReferenceIdeal.nD Cert.PrepFwdReferenceIdeal.τ).loc Cert.PrepFwdReferenceIdeal.main_arg3) = m ((c.tc : Thread Cert.PrepFwdIdeal.nD Cert.PrepFwdIdeal.τ).loc Cert.PrepFwdIdeal.main_arg3)
      ∧ m' ((c.tc : Thread Cert.PrepFwdReferenceIdeal.nD Cert.PrepFwdReferenceIdeal.τ).loc Cert.PrepFwdReferenceIdeal.main_arg4) = m ((c.tc : Thread Cert.PrepFwdIdeal.nD Cert.PrepFwdIdeal.τ).loc Cert.PrepFwdIdeal.main_arg4)) →
    ∃ (v0 : (c : Dev Cert.PrepFwdIdeal.nD) → Buf (Elt Ideal) ((c.tc : Thread Cert.PrepFwdIdeal.nD Cert.PrepFwdIdeal.τ).loc Cert.PrepFwdIdeal.main_v7_0)) (v1 : (c : Dev Cert.PrepFwdIdeal.nD) → Buf (Elt Ideal) ((c.tc : Thread Cert.PrepFwdIdeal.nD Cert.PrepFwdIdeal.τ).loc Cert.PrepFwdIdeal.main_v7_1)) (v2 : (c : Dev Cert.PrepFwdIdeal.nD) → Buf (Elt Ideal) ((c.tc : Thread Cert.PrepFwdIdeal.nD Cert.PrepFwdIdeal.τ).loc Cert.PrepFwdIdeal.main_v7_2)) (v3 : (c : Dev Cert.PrepFwdIdeal.nD) → Buf (Elt Ideal) ((c.tc : Thread Cert.PrepFwdIdeal.nD Cert.PrepFwdIdeal.τ).loc Cert.PrepFwdIdeal.main_v7_3)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v7_0) = v0 c
          ∧ r.2.mem ((c.tc : Thread Cert.PrepFwdIdeal.nD Cert.PrepFwdIdeal.τ).loc Cert.PrepFwdIdeal.main_v7_1) = v1 c
          ∧ r.2.mem ((c.tc : Thread Cert.PrepFwdIdeal.nD Cert.PrepFwdIdeal.τ).loc Cert.PrepFwdIdeal.main_v7_2) = v2 c
          ∧ r.2.mem ((c.tc : Thread Cert.PrepFwdIdeal.nD Cert.PrepFwdIdeal.τ).loc Cert.PrepFwdIdeal.main_v7_3) = v3 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ θ_run (Cert.PrepFwdReferenceIdeal.defs (F := Ideal)) (onTc (τ := Cert.PrepFwdReferenceIdeal.τ) (Cert.PrepFwdReferenceIdeal.main (F := Ideal))) ⟨m', fun _ => 0, g'⟩ (fun r => ∀ c : Dev Cert.PrepFwdReferenceIdeal.nD,
          r.2.mem ((c.tc : Thread Cert.PrepFwdReferenceIdeal.nD Cert.PrepFwdReferenceIdeal.τ).loc Cert.PrepFwdReferenceIdeal.main_v54) = v0 c
          ∧ r.2.mem ((c.tc : Thread Cert.PrepFwdReferenceIdeal.nD Cert.PrepFwdReferenceIdeal.τ).loc Cert.PrepFwdReferenceIdeal.main_v56) = v1 c
          ∧ r.2.mem ((c.tc : Thread Cert.PrepFwdReferenceIdeal.nD Cert.PrepFwdReferenceIdeal.τ).loc Cert.PrepFwdReferenceIdeal.main_v58) = v2 c
          ∧ r.2.mem ((c.tc : Thread Cert.PrepFwdReferenceIdeal.nD Cert.PrepFwdReferenceIdeal.τ).loc Cert.PrepFwdReferenceIdeal.main_v60) = v3 c
          ∧ r.2.mem ((c.tc : Thread Cert.PrepFwdReferenceIdeal.nD Cert.PrepFwdReferenceIdeal.τ).loc Cert.PrepFwdReferenceIdeal.main_arg0) = m' ((c.tc : Thread Cert.PrepFwdReferenceIdeal.nD Cert.PrepFwdReferenceIdeal.τ).loc Cert.PrepFwdReferenceIdeal.main_arg0)
          ∧ r.2.mem ((c.tc : Thread Cert.PrepFwdReferenceIdeal.nD Cert.PrepFwdReferenceIdeal.τ).loc Cert.PrepFwdReferenceIdeal.main_arg1) = m' ((c.tc : Thread Cert.PrepFwdReferenceIdeal.nD Cert.PrepFwdReferenceIdeal.τ).loc Cert.PrepFwdReferenceIdeal.main_arg1)
          ∧ r.2.mem ((c.tc : Thread Cert.PrepFwdReferenceIdeal.nD Cert.PrepFwdReferenceIdeal.τ).loc Cert.PrepFwdReferenceIdeal.main_arg2) = m' ((c.tc : Thread Cert.PrepFwdReferenceIdeal.nD Cert.PrepFwdReferenceIdeal.τ).loc Cert.PrepFwdReferenceIdeal.main_arg2)
          ∧ r.2.mem ((c.tc : Thread Cert.PrepFwdReferenceIdeal.nD Cert.PrepFwdReferenceIdeal.τ).loc Cert.PrepFwdReferenceIdeal.main_arg3) = m' ((c.tc : Thread Cert.PrepFwdReferenceIdeal.nD Cert.PrepFwdReferenceIdeal.τ).loc Cert.PrepFwdReferenceIdeal.main_arg3)
          ∧ r.2.mem ((c.tc : Thread Cert.PrepFwdReferenceIdeal.nD Cert.PrepFwdReferenceIdeal.τ).loc Cert.PrepFwdReferenceIdeal.main_arg4) = m' ((c.tc : Thread Cert.PrepFwdReferenceIdeal.nD Cert.PrepFwdReferenceIdeal.τ).loc Cert.PrepFwdReferenceIdeal.main_arg4))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)
      ∧ m' ((c.tc : Thread Cert.ConvFwdReferenceIdeal.nD Cert.ConvFwdReferenceIdeal.τ).loc Cert.ConvFwdReferenceIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v3)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v3) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v29) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1)
          ∧ r.2.mem ((c.tc : Thread Cert.ConvFwdReferenceIdeal.nD Cert.ConvFwdReferenceIdeal.τ).loc Cert.ConvFwdReferenceIdeal.main_arg2) = m' ((c.tc : Thread Cert.ConvFwdReferenceIdeal.nD Cert.ConvFwdReferenceIdeal.τ).loc Cert.ConvFwdReferenceIdeal.main_arg2))

def preserves_NormTwoFwd_NormTwoFwdIdeal : Prop :=
  True

def algebraic_NormTwoFwdIdeal_NormTwoFwdReferenceIdeal [hNormTwoFwdIdeal : Cert.NormTwoFwdIdeal.Facts] [hNormTwoFwdReferenceIdeal : Cert.NormTwoFwdReferenceIdeal.Facts] : Prop :=
  ∀ (m : (ℓ : Loc Cert.NormTwoFwdIdeal.nD Cert.NormTwoFwdIdeal.τ Cert.NormTwoFwdIdeal.sig) → Buf (Elt Ideal) ℓ) (g : Dev Cert.NormTwoFwdIdeal.nD → PrngReg)
    (m' : (ℓ : Loc Cert.NormTwoFwdReferenceIdeal.nD Cert.NormTwoFwdReferenceIdeal.τ Cert.NormTwoFwdReferenceIdeal.sig) → Buf (Elt Ideal) ℓ) (g' : Dev Cert.NormTwoFwdReferenceIdeal.nD → PrngReg), Pre_NormTwoFwdIdeal m →
    (∀ c : Dev Cert.NormTwoFwdIdeal.nD,
      m' ((c.tc : Thread Cert.NormTwoFwdReferenceIdeal.nD Cert.NormTwoFwdReferenceIdeal.τ).loc Cert.NormTwoFwdReferenceIdeal.main_arg0) = m ((c.tc : Thread Cert.NormTwoFwdIdeal.nD Cert.NormTwoFwdIdeal.τ).loc Cert.NormTwoFwdIdeal.main_arg0)
      ∧ m' ((c.tc : Thread Cert.NormTwoFwdReferenceIdeal.nD Cert.NormTwoFwdReferenceIdeal.τ).loc Cert.NormTwoFwdReferenceIdeal.main_arg1) = m ((c.tc : Thread Cert.NormTwoFwdIdeal.nD Cert.NormTwoFwdIdeal.τ).loc Cert.NormTwoFwdIdeal.main_arg1)
      ∧ m' ((c.tc : Thread Cert.NormTwoFwdReferenceIdeal.nD Cert.NormTwoFwdReferenceIdeal.τ).loc Cert.NormTwoFwdReferenceIdeal.main_arg2) = m ((c.tc : Thread Cert.NormTwoFwdIdeal.nD Cert.NormTwoFwdIdeal.τ).loc Cert.NormTwoFwdIdeal.main_arg2)
      ∧ m' ((c.tc : Thread Cert.NormTwoFwdReferenceIdeal.nD Cert.NormTwoFwdReferenceIdeal.τ).loc Cert.NormTwoFwdReferenceIdeal.main_arg3) = m ((c.tc : Thread Cert.NormTwoFwdIdeal.nD Cert.NormTwoFwdIdeal.τ).loc Cert.NormTwoFwdIdeal.main_arg3)) →
    ∃ (v0 : (c : Dev Cert.NormTwoFwdIdeal.nD) → Buf (Elt Ideal) ((c.tc : Thread Cert.NormTwoFwdIdeal.nD Cert.NormTwoFwdIdeal.τ).loc Cert.NormTwoFwdIdeal.main_v6)),
      θ_run (Cert.NormTwoFwdIdeal.defs (F := Ideal)) (onTc (τ := Cert.NormTwoFwdIdeal.τ) (Cert.NormTwoFwdIdeal.main (F := Ideal))) ⟨m, fun _ => 0, g⟩ (fun r => ∀ c : Dev Cert.NormTwoFwdIdeal.nD,
          r.2.mem ((c.tc : Thread Cert.NormTwoFwdIdeal.nD Cert.NormTwoFwdIdeal.τ).loc Cert.NormTwoFwdIdeal.main_v6) = v0 c
          ∧ r.2.mem ((c.tc : Thread Cert.NormTwoFwdIdeal.nD Cert.NormTwoFwdIdeal.τ).loc Cert.NormTwoFwdIdeal.main_arg0) = m ((c.tc : Thread Cert.NormTwoFwdIdeal.nD Cert.NormTwoFwdIdeal.τ).loc Cert.NormTwoFwdIdeal.main_arg0)
          ∧ r.2.mem ((c.tc : Thread Cert.NormTwoFwdIdeal.nD Cert.NormTwoFwdIdeal.τ).loc Cert.NormTwoFwdIdeal.main_arg1) = m ((c.tc : Thread Cert.NormTwoFwdIdeal.nD Cert.NormTwoFwdIdeal.τ).loc Cert.NormTwoFwdIdeal.main_arg1)
          ∧ r.2.mem ((c.tc : Thread Cert.NormTwoFwdIdeal.nD Cert.NormTwoFwdIdeal.τ).loc Cert.NormTwoFwdIdeal.main_arg2) = m ((c.tc : Thread Cert.NormTwoFwdIdeal.nD Cert.NormTwoFwdIdeal.τ).loc Cert.NormTwoFwdIdeal.main_arg2)
          ∧ r.2.mem ((c.tc : Thread Cert.NormTwoFwdIdeal.nD Cert.NormTwoFwdIdeal.τ).loc Cert.NormTwoFwdIdeal.main_arg3) = m ((c.tc : Thread Cert.NormTwoFwdIdeal.nD Cert.NormTwoFwdIdeal.τ).loc Cert.NormTwoFwdIdeal.main_arg3))
      ∧ θ_run (Cert.NormTwoFwdReferenceIdeal.defs (F := Ideal)) (onTc (τ := Cert.NormTwoFwdReferenceIdeal.τ) (Cert.NormTwoFwdReferenceIdeal.main (F := Ideal))) ⟨m', fun _ => 0, g'⟩ (fun r => ∀ c : Dev Cert.NormTwoFwdReferenceIdeal.nD,
          r.2.mem ((c.tc : Thread Cert.NormTwoFwdReferenceIdeal.nD Cert.NormTwoFwdReferenceIdeal.τ).loc Cert.NormTwoFwdReferenceIdeal.main_v21) = v0 c
          ∧ r.2.mem ((c.tc : Thread Cert.NormTwoFwdReferenceIdeal.nD Cert.NormTwoFwdReferenceIdeal.τ).loc Cert.NormTwoFwdReferenceIdeal.main_arg0) = m' ((c.tc : Thread Cert.NormTwoFwdReferenceIdeal.nD Cert.NormTwoFwdReferenceIdeal.τ).loc Cert.NormTwoFwdReferenceIdeal.main_arg0)
          ∧ r.2.mem ((c.tc : Thread Cert.NormTwoFwdReferenceIdeal.nD Cert.NormTwoFwdReferenceIdeal.τ).loc Cert.NormTwoFwdReferenceIdeal.main_arg1) = m' ((c.tc : Thread Cert.NormTwoFwdReferenceIdeal.nD Cert.NormTwoFwdReferenceIdeal.τ).loc Cert.NormTwoFwdReferenceIdeal.main_arg1)
          ∧ r.2.mem ((c.tc : Thread Cert.NormTwoFwdReferenceIdeal.nD Cert.NormTwoFwdReferenceIdeal.τ).loc Cert.NormTwoFwdReferenceIdeal.main_arg2) = m' ((c.tc : Thread Cert.NormTwoFwdReferenceIdeal.nD Cert.NormTwoFwdReferenceIdeal.τ).loc Cert.NormTwoFwdReferenceIdeal.main_arg2)
          ∧ r.2.mem ((c.tc : Thread Cert.NormTwoFwdReferenceIdeal.nD Cert.NormTwoFwdReferenceIdeal.τ).loc Cert.NormTwoFwdReferenceIdeal.main_arg3) = m' ((c.tc : Thread Cert.NormTwoFwdReferenceIdeal.nD Cert.NormTwoFwdReferenceIdeal.τ).loc Cert.NormTwoFwdReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v0) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Diag_DiagIdeal : Prop :=
  True

def algebraic_DiagIdeal_DiagReferenceIdeal [hDiagIdeal : Cert.DiagIdeal.Facts] [hDiagReferenceIdeal : Cert.DiagReferenceIdeal.Facts] : Prop :=
  ∀ (m : (ℓ : Loc Cert.DiagIdeal.nD Cert.DiagIdeal.τ Cert.DiagIdeal.sig) → Buf (Elt Ideal) ℓ) (g : Dev Cert.DiagIdeal.nD → PrngReg)
    (m' : (ℓ : Loc Cert.DiagReferenceIdeal.nD Cert.DiagReferenceIdeal.τ Cert.DiagReferenceIdeal.sig) → Buf (Elt Ideal) ℓ) (g' : Dev Cert.DiagReferenceIdeal.nD → PrngReg), Pre_DiagIdeal m →
    (∀ c : Dev Cert.DiagIdeal.nD,
      m' ((c.tc : Thread Cert.DiagReferenceIdeal.nD Cert.DiagReferenceIdeal.τ).loc Cert.DiagReferenceIdeal.main_arg0) = m ((c.tc : Thread Cert.DiagIdeal.nD Cert.DiagIdeal.τ).loc Cert.DiagIdeal.main_arg0)
      ∧ m' ((c.tc : Thread Cert.DiagReferenceIdeal.nD Cert.DiagReferenceIdeal.τ).loc Cert.DiagReferenceIdeal.main_arg1) = m ((c.tc : Thread Cert.DiagIdeal.nD Cert.DiagIdeal.τ).loc Cert.DiagIdeal.main_arg1)
      ∧ m' ((c.tc : Thread Cert.DiagReferenceIdeal.nD Cert.DiagReferenceIdeal.τ).loc Cert.DiagReferenceIdeal.main_arg2) = m ((c.tc : Thread Cert.DiagIdeal.nD Cert.DiagIdeal.τ).loc Cert.DiagIdeal.main_arg2)) →
    ∃ (v0 : (c : Dev Cert.DiagIdeal.nD) → Buf (Elt Ideal) ((c.tc : Thread Cert.DiagIdeal.nD Cert.DiagIdeal.τ).loc Cert.DiagIdeal.main_v4_0)) (v1 : (c : Dev Cert.DiagIdeal.nD) → Buf (Elt Ideal) ((c.tc : Thread Cert.DiagIdeal.nD Cert.DiagIdeal.τ).loc Cert.DiagIdeal.main_v4_1)),
      θ_run (Cert.DiagIdeal.defs (F := Ideal)) (onTc (τ := Cert.DiagIdeal.τ) (Cert.DiagIdeal.main (F := Ideal))) ⟨m, fun _ => 0, g⟩ (fun r => ∀ c : Dev Cert.DiagIdeal.nD,
          r.2.mem ((c.tc : Thread Cert.DiagIdeal.nD Cert.DiagIdeal.τ).loc Cert.DiagIdeal.main_v4_0) = v0 c
          ∧ r.2.mem ((c.tc : Thread Cert.DiagIdeal.nD Cert.DiagIdeal.τ).loc Cert.DiagIdeal.main_v4_1) = v1 c
          ∧ r.2.mem ((c.tc : Thread Cert.DiagIdeal.nD Cert.DiagIdeal.τ).loc Cert.DiagIdeal.main_arg0) = m ((c.tc : Thread Cert.DiagIdeal.nD Cert.DiagIdeal.τ).loc Cert.DiagIdeal.main_arg0)
          ∧ r.2.mem ((c.tc : Thread Cert.DiagIdeal.nD Cert.DiagIdeal.τ).loc Cert.DiagIdeal.main_arg1) = m ((c.tc : Thread Cert.DiagIdeal.nD Cert.DiagIdeal.τ).loc Cert.DiagIdeal.main_arg1)
          ∧ r.2.mem ((c.tc : Thread Cert.DiagIdeal.nD Cert.DiagIdeal.τ).loc Cert.DiagIdeal.main_arg2) = m ((c.tc : Thread Cert.DiagIdeal.nD Cert.DiagIdeal.τ).loc Cert.DiagIdeal.main_arg2))
      ∧ θ_run (Cert.DiagReferenceIdeal.defs (F := Ideal)) (onTc (τ := Cert.DiagReferenceIdeal.τ) (Cert.DiagReferenceIdeal.main (F := Ideal))) ⟨m', fun _ => 0, g'⟩ (fun r => ∀ c : Dev Cert.DiagReferenceIdeal.nD,
          r.2.mem ((c.tc : Thread Cert.DiagReferenceIdeal.nD Cert.DiagReferenceIdeal.τ).loc Cert.DiagReferenceIdeal.main_v10) = v0 c
          ∧ r.2.mem ((c.tc : Thread Cert.DiagReferenceIdeal.nD Cert.DiagReferenceIdeal.τ).loc Cert.DiagReferenceIdeal.main_v21) = v1 c
          ∧ r.2.mem ((c.tc : Thread Cert.DiagReferenceIdeal.nD Cert.DiagReferenceIdeal.τ).loc Cert.DiagReferenceIdeal.main_arg0) = m' ((c.tc : Thread Cert.DiagReferenceIdeal.nD Cert.DiagReferenceIdeal.τ).loc Cert.DiagReferenceIdeal.main_arg0)
          ∧ r.2.mem ((c.tc : Thread Cert.DiagReferenceIdeal.nD Cert.DiagReferenceIdeal.τ).loc Cert.DiagReferenceIdeal.main_arg1) = m' ((c.tc : Thread Cert.DiagReferenceIdeal.nD Cert.DiagReferenceIdeal.τ).loc Cert.DiagReferenceIdeal.main_arg1)
          ∧ r.2.mem ((c.tc : Thread Cert.DiagReferenceIdeal.nD Cert.DiagReferenceIdeal.τ).loc Cert.DiagReferenceIdeal.main_arg2) = m' ((c.tc : Thread Cert.DiagReferenceIdeal.nD Cert.DiagReferenceIdeal.τ).loc Cert.DiagReferenceIdeal.main_arg2))

def preserves_Adam_AdamIdeal : Prop :=
  True

def algebraic_AdamIdeal_AdamReferenceIdeal [hAdamIdeal : Cert.AdamIdeal.Facts] [hAdamReferenceIdeal : Cert.AdamReferenceIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamIdeal m →
    (∀ c : Dev Cert.AdamIdeal.nD,
      m' ((c.tc : Thread Cert.AdamReferenceIdeal.nD Cert.AdamReferenceIdeal.τ).loc Cert.AdamReferenceIdeal.main_arg0) = m ((c.tc : Thread Cert.AdamIdeal.nD Cert.AdamIdeal.τ).loc Cert.AdamIdeal.main_arg0)
      ∧ m' ((c.tc : Thread Cert.AdamReferenceIdeal.nD Cert.AdamReferenceIdeal.τ).loc Cert.AdamReferenceIdeal.main_arg1) = m ((c.tc : Thread Cert.AdamIdeal.nD Cert.AdamIdeal.τ).loc Cert.AdamIdeal.main_arg1)
      ∧ m' ((c.tc : Thread Cert.AdamReferenceIdeal.nD Cert.AdamReferenceIdeal.τ).loc Cert.AdamReferenceIdeal.main_arg2) = m ((c.tc : Thread Cert.AdamIdeal.nD Cert.AdamIdeal.τ).loc Cert.AdamIdeal.main_arg2)
      ∧ m' ((c.tc : Thread Cert.AdamReferenceIdeal.nD Cert.AdamReferenceIdeal.τ).loc Cert.AdamReferenceIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v0) = v0 c
          ∧ r.2.mem ((c.tc : Thread Cert.AdamReferenceIdeal.nD Cert.AdamReferenceIdeal.τ).loc Cert.AdamReferenceIdeal.main_v24) = v1 c
          ∧ r.2.mem ((c.tc : Thread Cert.AdamReferenceIdeal.nD Cert.AdamReferenceIdeal.τ).loc Cert.AdamReferenceIdeal.main_v5) = v2 c
          ∧ r.2.mem ((c.tc : Thread Cert.AdamReferenceIdeal.nD Cert.AdamReferenceIdeal.τ).loc Cert.AdamReferenceIdeal.main_v11) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_QkvFwd_QkvFwdIdeal : Prop :=
  IdealRules.named_const.Statement Cert.QkvFwdIdeal.κ "one_384th" .f32 0x3B2AAAAB#32 ((1 / 384 : ℝ) : EReal)
  ∧ IdealRules.named_const.Statement Cert.QkvFwdIdeal.κ "one_96th" .f32 0x3C2AAAAB#32 ((1 / 96 : ℝ) : EReal)

def algebraic_QkvFwdIdeal_QkvFwdReferenceIdeal [hQkvFwdIdeal : Cert.QkvFwdIdeal.Facts] [hQkvFwdReferenceIdeal : Cert.QkvFwdReferenceIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvFwdReferenceIdeal.nD Cert.QkvFwdReferenceIdeal.τ Cert.QkvFwdReferenceIdeal.sig) → Buf (Elt Ideal) ℓ) (g' : Dev Cert.QkvFwdReferenceIdeal.nD → PrngReg), Pre_QkvFwdIdeal m →
    (∀ c : Dev Cert.QkvFwdIdeal.nD,
      m' ((c.tc : Thread Cert.QkvFwdReferenceIdeal.nD Cert.QkvFwdReferenceIdeal.τ).loc Cert.QkvFwdReferenceIdeal.main_arg0) = m ((c.tc : Thread Cert.QkvFwdIdeal.nD Cert.QkvFwdIdeal.τ).loc Cert.QkvFwdIdeal.main_arg0)
      ∧ m' ((c.tc : Thread Cert.QkvFwdReferenceIdeal.nD Cert.QkvFwdReferenceIdeal.τ).loc Cert.QkvFwdReferenceIdeal.main_arg1) = m ((c.tc : Thread Cert.QkvFwdIdeal.nD Cert.QkvFwdIdeal.τ).loc Cert.QkvFwdIdeal.main_arg1)
      ∧ m' ((c.tc : Thread Cert.QkvFwdReferenceIdeal.nD Cert.QkvFwdReferenceIdeal.τ).loc Cert.QkvFwdReferenceIdeal.main_arg2) = m ((c.tc : Thread Cert.QkvFwdIdeal.nD Cert.QkvFwdIdeal.τ).loc Cert.QkvFwdIdeal.main_arg2)
      ∧ m' ((c.tc : Thread Cert.QkvFwdReferenceIdeal.nD Cert.QkvFwdReferenceIdeal.τ).loc Cert.QkvFwdReferenceIdeal.main_arg3) = m ((c.tc : Thread Cert.QkvFwdIdeal.nD Cert.QkvFwdIdeal.τ).loc Cert.QkvFwdIdeal.main_arg3)
      ∧ m' ((c.tc : Thread Cert.QkvFwdReferenceIdeal.nD Cert.QkvFwdReferenceIdeal.τ).loc Cert.QkvFwdReferenceIdeal.main_arg4) = m ((c.tc : Thread Cert.QkvFwdIdeal.nD Cert.QkvFwdIdeal.τ).loc Cert.QkvFwdIdeal.main_arg4)
      ∧ m' ((c.tc : Thread Cert.QkvFwdReferenceIdeal.nD Cert.QkvFwdReferenceIdeal.τ).loc Cert.QkvFwdReferenceIdeal.main_arg5) = m ((c.tc : Thread Cert.QkvFwdIdeal.nD Cert.QkvFwdIdeal.τ).loc Cert.QkvFwdIdeal.main_arg5)
      ∧ m' ((c.tc : Thread Cert.QkvFwdReferenceIdeal.nD Cert.QkvFwdReferenceIdeal.τ).loc Cert.QkvFwdReferenceIdeal.main_arg6) = m ((c.tc : Thread Cert.QkvFwdIdeal.nD Cert.QkvFwdIdeal.τ).loc Cert.QkvFwdIdeal.main_arg6)
      ∧ m' ((c.tc : Thread Cert.QkvFwdReferenceIdeal.nD Cert.QkvFwdReferenceIdeal.τ).loc Cert.QkvFwdReferenceIdeal.main_arg7) = m ((c.tc : Thread Cert.QkvFwdIdeal.nD Cert.QkvFwdIdeal.τ).loc Cert.QkvFwdIdeal.main_arg7)
      ∧ m' ((c.tc : Thread Cert.QkvFwdReferenceIdeal.nD Cert.QkvFwdReferenceIdeal.τ).loc Cert.QkvFwdReferenceIdeal.main_arg8) = m ((c.tc : Thread Cert.QkvFwdIdeal.nD Cert.QkvFwdIdeal.τ).loc Cert.QkvFwdIdeal.main_arg8)
      ∧ m' ((c.tc : Thread Cert.QkvFwdReferenceIdeal.nD Cert.QkvFwdReferenceIdeal.τ).loc Cert.QkvFwdReferenceIdeal.main_arg9) = m ((c.tc : Thread Cert.QkvFwdIdeal.nD Cert.QkvFwdIdeal.τ).loc Cert.QkvFwdIdeal.main_arg9)
      ∧ m' ((c.tc : Thread Cert.QkvFwdReferenceIdeal.nD Cert.QkvFwdReferenceIdeal.τ).loc Cert.QkvFwdReferenceIdeal.main_arg10) = m ((c.tc : Thread Cert.QkvFwdIdeal.nD Cert.QkvFwdIdeal.τ).loc Cert.QkvFwdIdeal.main_arg10)) →
    ∃ (v0 : (c : Dev Cert.QkvFwdIdeal.nD) → Buf (Elt Ideal) ((c.tc : Thread Cert.QkvFwdIdeal.nD Cert.QkvFwdIdeal.τ).loc Cert.QkvFwdIdeal.main_v34_0)) (v1 : (c : Dev Cert.QkvFwdIdeal.nD) → Buf (Elt Ideal) ((c.tc : Thread Cert.QkvFwdIdeal.nD Cert.QkvFwdIdeal.τ).loc Cert.QkvFwdIdeal.main_v34_1)) (v2 : (c : Dev Cert.QkvFwdIdeal.nD) → Buf (Elt Ideal) ((c.tc : Thread Cert.QkvFwdIdeal.nD Cert.QkvFwdIdeal.τ).loc Cert.QkvFwdIdeal.main_v34_2)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v34_0) = v0 c
          ∧ r.2.mem ((c.tc : Thread Cert.QkvFwdIdeal.nD Cert.QkvFwdIdeal.τ).loc Cert.QkvFwdIdeal.main_v34_1) = v1 c
          ∧ r.2.mem ((c.tc : Thread Cert.QkvFwdIdeal.nD Cert.QkvFwdIdeal.τ).loc Cert.QkvFwdIdeal.main_v34_2) = v2 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
          ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
          ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
          ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
          ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5)
          ∧ r.2.mem ((c.tc : Thread Cert.QkvFwdIdeal.nD Cert.QkvFwdIdeal.τ).loc Cert.QkvFwdIdeal.main_arg6) = m ((c.tc : Thread Cert.QkvFwdIdeal.nD Cert.QkvFwdIdeal.τ).loc Cert.QkvFwdIdeal.main_arg6)
          ∧ r.2.mem ((c.tc : Thread Cert.QkvFwdIdeal.nD Cert.QkvFwdIdeal.τ).loc Cert.QkvFwdIdeal.main_arg7) = m ((c.tc : Thread Cert.QkvFwdIdeal.nD Cert.QkvFwdIdeal.τ).loc Cert.QkvFwdIdeal.main_arg7)
          ∧ r.2.mem ((c.tc : Thread Cert.QkvFwdIdeal.nD Cert.QkvFwdIdeal.τ).loc Cert.QkvFwdIdeal.main_arg8) = m ((c.tc : Thread Cert.QkvFwdIdeal.nD Cert.QkvFwdIdeal.τ).loc Cert.QkvFwdIdeal.main_arg8)
          ∧ r.2.mem ((c.tc : Thread Cert.QkvFwdIdeal.nD Cert.QkvFwdIdeal.τ).loc Cert.QkvFwdIdeal.main_arg9) = m ((c.tc : Thread Cert.QkvFwdIdeal.nD Cert.QkvFwdIdeal.τ).loc Cert.QkvFwdIdeal.main_arg9)
          ∧ r.2.mem ((c.tc : Thread Cert.QkvFwdIdeal.nD Cert.QkvFwdIdeal.τ).loc Cert.QkvFwdIdeal.main_arg10) = m ((c.tc : Thread Cert.QkvFwdIdeal.nD Cert.QkvFwdIdeal.τ).loc Cert.QkvFwdIdeal.main_arg10))
      ∧ θ_run (Cert.QkvFwdReferenceIdeal.defs (F := Ideal)) (onTc (τ := Cert.QkvFwdReferenceIdeal.τ) (Cert.QkvFwdReferenceIdeal.main (F := Ideal))) ⟨m', fun _ => 0, g'⟩ (fun r => ∀ c : Dev Cert.QkvFwdReferenceIdeal.nD,
          r.2.mem ((c.tc : Thread Cert.QkvFwdReferenceIdeal.nD Cert.QkvFwdReferenceIdeal.τ).loc Cert.QkvFwdReferenceIdeal.main_v81) = v0 c
          ∧ r.2.mem ((c.tc : Thread Cert.QkvFwdReferenceIdeal.nD Cert.QkvFwdReferenceIdeal.τ).loc Cert.QkvFwdReferenceIdeal.main_v103) = v1 c
          ∧ r.2.mem ((c.tc : Thread Cert.QkvFwdReferenceIdeal.nD Cert.QkvFwdReferenceIdeal.τ).loc Cert.QkvFwdReferenceIdeal.main_v107) = v2 c
          ∧ r.2.mem ((c.tc : Thread Cert.QkvFwdReferenceIdeal.nD Cert.QkvFwdReferenceIdeal.τ).loc Cert.QkvFwdReferenceIdeal.main_arg0) = m' ((c.tc : Thread Cert.QkvFwdReferenceIdeal.nD Cert.QkvFwdReferenceIdeal.τ).loc Cert.QkvFwdReferenceIdeal.main_arg0)
          ∧ r.2.mem ((c.tc : Thread Cert.QkvFwdReferenceIdeal.nD Cert.QkvFwdReferenceIdeal.τ).loc Cert.QkvFwdReferenceIdeal.main_arg1) = m' ((c.tc : Thread Cert.QkvFwdReferenceIdeal.nD Cert.QkvFwdReferenceIdeal.τ).loc Cert.QkvFwdReferenceIdeal.main_arg1)
          ∧ r.2.mem ((c.tc : Thread Cert.QkvFwdReferenceIdeal.nD Cert.QkvFwdReferenceIdeal.τ).loc Cert.QkvFwdReferenceIdeal.main_arg2) = m' ((c.tc : Thread Cert.QkvFwdReferenceIdeal.nD Cert.QkvFwdReferenceIdeal.τ).loc Cert.QkvFwdReferenceIdeal.main_arg2)
          ∧ r.2.mem ((c.tc : Thread Cert.QkvFwdReferenceIdeal.nD Cert.QkvFwdReferenceIdeal.τ).loc Cert.QkvFwdReferenceIdeal.main_arg3) = m' ((c.tc : Thread Cert.QkvFwdReferenceIdeal.nD Cert.QkvFwdReferenceIdeal.τ).loc Cert.QkvFwdReferenceIdeal.main_arg3)
          ∧ r.2.mem ((c.tc : Thread Cert.QkvFwdReferenceIdeal.nD Cert.QkvFwdReferenceIdeal.τ).loc Cert.QkvFwdReferenceIdeal.main_arg4) = m' ((c.tc : Thread Cert.QkvFwdReferenceIdeal.nD Cert.QkvFwdReferenceIdeal.τ).loc Cert.QkvFwdReferenceIdeal.main_arg4)
          ∧ r.2.mem ((c.tc : Thread Cert.QkvFwdReferenceIdeal.nD Cert.QkvFwdReferenceIdeal.τ).loc Cert.QkvFwdReferenceIdeal.main_arg5) = m' ((c.tc : Thread Cert.QkvFwdReferenceIdeal.nD Cert.QkvFwdReferenceIdeal.τ).loc Cert.QkvFwdReferenceIdeal.main_arg5)
          ∧ r.2.mem ((c.tc : Thread Cert.QkvFwdReferenceIdeal.nD Cert.QkvFwdReferenceIdeal.τ).loc Cert.QkvFwdReferenceIdeal.main_arg6) = m' ((c.tc : Thread Cert.QkvFwdReferenceIdeal.nD Cert.QkvFwdReferenceIdeal.τ).loc Cert.QkvFwdReferenceIdeal.main_arg6)
          ∧ r.2.mem ((c.tc : Thread Cert.QkvFwdReferenceIdeal.nD Cert.QkvFwdReferenceIdeal.τ).loc Cert.QkvFwdReferenceIdeal.main_arg7) = m' ((c.tc : Thread Cert.QkvFwdReferenceIdeal.nD Cert.QkvFwdReferenceIdeal.τ).loc Cert.QkvFwdReferenceIdeal.main_arg7)
          ∧ r.2.mem ((c.tc : Thread Cert.QkvFwdReferenceIdeal.nD Cert.QkvFwdReferenceIdeal.τ).loc Cert.QkvFwdReferenceIdeal.main_arg8) = m' ((c.tc : Thread Cert.QkvFwdReferenceIdeal.nD Cert.QkvFwdReferenceIdeal.τ).loc Cert.QkvFwdReferenceIdeal.main_arg8)
          ∧ r.2.mem ((c.tc : Thread Cert.QkvFwdReferenceIdeal.nD Cert.QkvFwdReferenceIdeal.τ).loc Cert.QkvFwdReferenceIdeal.main_arg9) = m' ((c.tc : Thread Cert.QkvFwdReferenceIdeal.nD Cert.QkvFwdReferenceIdeal.τ).loc Cert.QkvFwdReferenceIdeal.main_arg9)
          ∧ r.2.mem ((c.tc : Thread Cert.QkvFwdReferenceIdeal.nD Cert.QkvFwdReferenceIdeal.τ).loc Cert.QkvFwdReferenceIdeal.main_arg10) = m' ((c.tc : Thread Cert.QkvFwdReferenceIdeal.nD Cert.QkvFwdReferenceIdeal.τ).loc Cert.QkvFwdReferenceIdeal.main_arg10))

def Claim : Prop :=
  ∃ (hLoss : Cert.Loss.Facts) (hLossIdeal : Cert.LossIdeal.Facts) (hLossReferenceIdeal : Cert.LossReferenceIdeal.Facts) (hAttn : Cert.Attn.Facts) (hAttnIdeal : Cert.AttnIdeal.Facts) (hAttnReferenceIdeal : Cert.AttnReferenceIdeal.Facts) (hFwd : Cert.Fwd.Facts) (hFwdIdeal : Cert.FwdIdeal.Facts) (hFwdReferenceIdeal : Cert.FwdReferenceIdeal.Facts) (hFfn : Cert.Ffn.Facts) (hFfnIdeal : Cert.FfnIdeal.Facts) (hFfnReferenceIdeal : Cert.FfnReferenceIdeal.Facts) (hScan : Cert.Scan.Facts) (hScanIdeal : Cert.ScanIdeal.Facts) (hMod : Cert.Mod.Facts) (hModIdeal : Cert.ModIdeal.Facts) (hModReferenceIdeal : Cert.ModReferenceIdeal.Facts) (hNormOne : Cert.NormOne.Facts) (hNormOneIdeal : Cert.NormOneIdeal.Facts) (hNormOneReferenceIdeal : Cert.NormOneReferenceIdeal.Facts) (hNormTwo : Cert.NormTwo.Facts) (hNormTwoIdeal : Cert.NormTwoIdeal.Facts) (hNormTwoReferenceIdeal : Cert.NormTwoReferenceIdeal.Facts) (hGlu : Cert.Glu.Facts) (hGluIdeal : Cert.GluIdeal.Facts) (hGluReferenceIdeal : Cert.GluReferenceIdeal.Facts) (hMerge : Cert.Merge.Facts) (hMergeIdeal : Cert.MergeIdeal.Facts) (hMergeReferenceIdeal : Cert.MergeReferenceIdeal.Facts) (hPrep : Cert.Prep.Facts) (hPrepIdeal : Cert.PrepIdeal.Facts) (hPrepReferenceIdeal : Cert.PrepReferenceIdeal.Facts) (hGluFwd : Cert.GluFwd.Facts) (hGluFwdIdeal : Cert.GluFwdIdeal.Facts) (hGluFwdReferenceIdeal : Cert.GluFwdReferenceIdeal.Facts) (hMergeFwd : Cert.MergeFwd.Facts) (hMergeFwdIdeal : Cert.MergeFwdIdeal.Facts) (hMergeFwdReferenceIdeal : Cert.MergeFwdReferenceIdeal.Facts) (hNormFwd : Cert.NormFwd.Facts) (hNormFwdIdeal : Cert.NormFwdIdeal.Facts) (hNormFwdReferenceIdeal : Cert.NormFwdReferenceIdeal.Facts) (hModFwd : Cert.ModFwd.Facts) (hModFwdIdeal : Cert.ModFwdIdeal.Facts) (hModFwdReferenceIdeal : Cert.ModFwdReferenceIdeal.Facts) (hPrepFwd : Cert.PrepFwd.Facts) (hPrepFwdIdeal : Cert.PrepFwdIdeal.Facts) (hPrepFwdReferenceIdeal : Cert.PrepFwdReferenceIdeal.Facts) (hConvFwd : Cert.ConvFwd.Facts) (hConvFwdIdeal : Cert.ConvFwdIdeal.Facts) (hConvFwdReferenceIdeal : Cert.ConvFwdReferenceIdeal.Facts) (hNormTwoFwd : Cert.NormTwoFwd.Facts) (hNormTwoFwdIdeal : Cert.NormTwoFwdIdeal.Facts) (hNormTwoFwdReferenceIdeal : Cert.NormTwoFwdReferenceIdeal.Facts) (hUp : Cert.Up.Facts) (hUpIdeal : Cert.UpIdeal.Facts) (hUpReferenceIdeal : Cert.UpReferenceIdeal.Facts) (hDiag : Cert.Diag.Facts) (hDiagIdeal : Cert.DiagIdeal.Facts) (hDiagReferenceIdeal : Cert.DiagReferenceIdeal.Facts) (hAdam : Cert.Adam.Facts) (hAdamIdeal : Cert.AdamIdeal.Facts) (hAdamReferenceIdeal : Cert.AdamReferenceIdeal.Facts) (hQkvFwd : Cert.QkvFwd.Facts) (hQkvFwdIdeal : Cert.QkvFwdIdeal.Facts) (hQkvFwdReferenceIdeal : Cert.QkvFwdReferenceIdeal.Facts) (hPre_attention_finite : Cert.Pre_attention_finite.Facts) (hPre_attention_inputs_finite : Cert.Pre_attention_inputs_finite.Facts) (hPre_ffn_finite : Cert.Pre_ffn_finite.Facts),
    quiescent_Loss (hLoss := hLoss)
    ∧ quiescent_LossIdeal (hLossIdeal := hLossIdeal)
    ∧ quiescent_LossReferenceIdeal (hLossReferenceIdeal := hLossReferenceIdeal)
    ∧ quiescent_Attn (hAttn := hAttn)
    ∧ quiescent_AttnIdeal (hAttnIdeal := hAttnIdeal)
    ∧ quiescent_AttnIdeal_pre_attention_finite (hAttnIdeal := hAttnIdeal) (hPre_attention_finite := hPre_attention_finite)
    ∧ quiescent_AttnReferenceIdeal (hAttnReferenceIdeal := hAttnReferenceIdeal)
    ∧ quiescent_AttnReferenceIdeal_pre_attention_finite (hAttnReferenceIdeal := hAttnReferenceIdeal) (hPre_attention_finite := hPre_attention_finite)
    ∧ quiescent_Fwd (hFwd := hFwd)
    ∧ quiescent_FwdIdeal (hFwdIdeal := hFwdIdeal)
    ∧ quiescent_FwdIdeal_pre_attention_inputs_finite (hFwdIdeal := hFwdIdeal) (hPre_attention_inputs_finite := hPre_attention_inputs_finite)
    ∧ quiescent_FwdReferenceIdeal (hFwdReferenceIdeal := hFwdReferenceIdeal)
    ∧ quiescent_FwdReferenceIdeal_pre_attention_inputs_finite (hFwdReferenceIdeal := hFwdReferenceIdeal) (hPre_attention_inputs_finite := hPre_attention_inputs_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_Scan (hScan := hScan)
    ∧ quiescent_ScanIdeal (hScanIdeal := hScanIdeal)
    ∧ quiescent_Mod (hMod := hMod)
    ∧ quiescent_ModIdeal (hModIdeal := hModIdeal)
    ∧ quiescent_ModReferenceIdeal (hModReferenceIdeal := hModReferenceIdeal)
    ∧ quiescent_NormOne (hNormOne := hNormOne)
    ∧ quiescent_NormOneIdeal (hNormOneIdeal := hNormOneIdeal)
    ∧ quiescent_NormOneReferenceIdeal (hNormOneReferenceIdeal := hNormOneReferenceIdeal)
    ∧ quiescent_NormTwo (hNormTwo := hNormTwo)
    ∧ quiescent_NormTwoIdeal (hNormTwoIdeal := hNormTwoIdeal)
    ∧ quiescent_NormTwoReferenceIdeal (hNormTwoReferenceIdeal := hNormTwoReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_GluFwd (hGluFwd := hGluFwd)
    ∧ quiescent_GluFwdIdeal (hGluFwdIdeal := hGluFwdIdeal)
    ∧ quiescent_GluFwdReferenceIdeal (hGluFwdReferenceIdeal := hGluFwdReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_ModFwd (hModFwd := hModFwd)
    ∧ quiescent_ModFwdIdeal (hModFwdIdeal := hModFwdIdeal)
    ∧ quiescent_ModFwdReferenceIdeal (hModFwdReferenceIdeal := hModFwdReferenceIdeal)
    ∧ quiescent_PrepFwd (hPrepFwd := hPrepFwd)
    ∧ quiescent_PrepFwdIdeal (hPrepFwdIdeal := hPrepFwdIdeal)
    ∧ quiescent_PrepFwdReferenceIdeal (hPrepFwdReferenceIdeal := hPrepFwdReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ quiescent_NormTwoFwd (hNormTwoFwd := hNormTwoFwd)
    ∧ quiescent_NormTwoFwdIdeal (hNormTwoFwdIdeal := hNormTwoFwdIdeal)
    ∧ quiescent_NormTwoFwdReferenceIdeal (hNormTwoFwdReferenceIdeal := hNormTwoFwdReferenceIdeal)
    ∧ quiescent_Up (hUp := hUp)
    ∧ quiescent_UpIdeal (hUpIdeal := hUpIdeal)
    ∧ quiescent_UpReferenceIdeal (hUpReferenceIdeal := hUpReferenceIdeal)
    ∧ quiescent_Diag (hDiag := hDiag)
    ∧ quiescent_DiagIdeal (hDiagIdeal := hDiagIdeal)
    ∧ quiescent_DiagReferenceIdeal (hDiagReferenceIdeal := hDiagReferenceIdeal)
    ∧ quiescent_Adam (hAdam := hAdam)
    ∧ quiescent_AdamIdeal (hAdamIdeal := hAdamIdeal)
    ∧ quiescent_AdamReferenceIdeal (hAdamReferenceIdeal := hAdamReferenceIdeal)
    ∧ quiescent_QkvFwd (hQkvFwd := hQkvFwd)
    ∧ quiescent_QkvFwdIdeal (hQkvFwdIdeal := hQkvFwdIdeal)
    ∧ quiescent_QkvFwdReferenceIdeal (hQkvFwdReferenceIdeal := hQkvFwdReferenceIdeal)
    ∧ preserves_Loss_LossIdeal
    ∧ algebraic_LossIdeal_LossReferenceIdeal (hLossIdeal := hLossIdeal) (hLossReferenceIdeal := hLossReferenceIdeal)
    ∧ preserves_Attn_AttnIdeal
    ∧ algebraic_AttnIdeal_AttnReferenceIdeal_pre_attention_finite (hAttnIdeal := hAttnIdeal) (hAttnReferenceIdeal := hAttnReferenceIdeal) (hPre_attention_finite := hPre_attention_finite)
    ∧ preserves_Fwd_FwdIdeal
    ∧ algebraic_FwdIdeal_FwdReferenceIdeal_pre_attention_inputs_finite (hFwdIdeal := hFwdIdeal) (hFwdReferenceIdeal := hFwdReferenceIdeal) (hPre_attention_inputs_finite := hPre_attention_inputs_finite)
    ∧ preserves_Ffn_FfnIdeal
    ∧ algebraic_FfnIdeal_FfnReferenceIdeal_pre_ffn_finite (hFfnIdeal := hFfnIdeal) (hFfnReferenceIdeal := hFfnReferenceIdeal) (hPre_ffn_finite := hPre_ffn_finite)
    ∧ preserves_Scan_ScanIdeal
    ∧ preserves_Mod_ModIdeal
    ∧ algebraic_ModIdeal_ModReferenceIdeal (hModIdeal := hModIdeal) (hModReferenceIdeal := hModReferenceIdeal)
    ∧ preserves_NormOne_NormOneIdeal
    ∧ algebraic_NormOneIdeal_NormOneReferenceIdeal (hNormOneIdeal := hNormOneIdeal) (hNormOneReferenceIdeal := hNormOneReferenceIdeal)
    ∧ preserves_NormTwo_NormTwoIdeal
    ∧ algebraic_NormTwoIdeal_NormTwoReferenceIdeal (hNormTwoIdeal := hNormTwoIdeal) (hNormTwoReferenceIdeal := hNormTwoReferenceIdeal)
    ∧ preserves_Glu_GluIdeal
    ∧ algebraic_GluIdeal_GluReferenceIdeal (hGluIdeal := hGluIdeal) (hGluReferenceIdeal := hGluReferenceIdeal)
    ∧ preserves_Merge_MergeIdeal
    ∧ algebraic_MergeIdeal_MergeReferenceIdeal (hMergeIdeal := hMergeIdeal) (hMergeReferenceIdeal := hMergeReferenceIdeal)
    ∧ preserves_Prep_PrepIdeal
    ∧ algebraic_PrepIdeal_PrepReferenceIdeal (hPrepIdeal := hPrepIdeal) (hPrepReferenceIdeal := hPrepReferenceIdeal)
    ∧ preserves_GluFwd_GluFwdIdeal
    ∧ algebraic_GluFwdIdeal_GluFwdReferenceIdeal (hGluFwdIdeal := hGluFwdIdeal) (hGluFwdReferenceIdeal := hGluFwdReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_ModFwd_ModFwdIdeal
    ∧ algebraic_ModFwdIdeal_ModFwdReferenceIdeal (hModFwdIdeal := hModFwdIdeal) (hModFwdReferenceIdeal := hModFwdReferenceIdeal)
    ∧ preserves_PrepFwd_PrepFwdIdeal
    ∧ algebraic_PrepFwdIdeal_PrepFwdReferenceIdeal (hPrepFwdIdeal := hPrepFwdIdeal) (hPrepFwdReferenceIdeal := hPrepFwdReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
    ∧ preserves_NormTwoFwd_NormTwoFwdIdeal
    ∧ algebraic_NormTwoFwdIdeal_NormTwoFwdReferenceIdeal (hNormTwoFwdIdeal := hNormTwoFwdIdeal) (hNormTwoFwdReferenceIdeal := hNormTwoFwdReferenceIdeal)
    ∧ preserves_Up_UpIdeal
    ∧ algebraic_UpIdeal_UpReferenceIdeal (hUpIdeal := hUpIdeal) (hUpReferenceIdeal := hUpReferenceIdeal)
    ∧ preserves_Diag_DiagIdeal
    ∧ algebraic_DiagIdeal_DiagReferenceIdeal (hDiagIdeal := hDiagIdeal) (hDiagReferenceIdeal := hDiagReferenceIdeal)
    ∧ preserves_Adam_AdamIdeal
    ∧ algebraic_AdamIdeal_AdamReferenceIdeal (hAdamIdeal := hAdamIdeal) (hAdamReferenceIdeal := hAdamReferenceIdeal)
    ∧ preserves_QkvFwd_QkvFwdIdeal
    ∧ algebraic_QkvFwdIdeal_QkvFwdReferenceIdeal (hQkvFwdIdeal := hQkvFwdIdeal) (hQkvFwdReferenceIdeal := hQkvFwdReferenceIdeal)
-- ==== Pre_attention_finite.lean ====
abbrev S8192x8x96 : Shape := ⟨3, ![8192, 8, 96]⟩
abbrev S8192x8x64 : Shape := ⟨3, ![8192, 8, 64]⟩
abbrev S256x8x96 : Shape := ⟨3, ![256, 8, 96]⟩
abbrev S256x8x64 : Shape := ⟨3, ![256, 8, 64]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)
  bcast_S_S256x8x96 : S_.BroadcastsInDim S256x8x96 (![] : Fin 0 → Fin S256x8x96.rank)
  bcast_S_S256x8x64 : S_.BroadcastsInDim S256x8x64 (![] : Fin 0 → Fin S256x8x64.rank)

variable [Facts]

def fn {F : FTy → Type} [FloatOps F] (main_arg0 : FVec F S8192x8x96 .f32) (main_arg1 : FVec F S8192x8x96 .f32) (main_arg2 : FVec F S8192x8x64 .f32) (main_arg3 : FVec F S256x8x96 .f32) (main_arg4 : FVec F S256x8x64 .f32) (main_arg5 : FVec F S8192x8x64 .f32) : IVec S8192x8x96 1 × IVec S8192x8x96 1 × IVec S8192x8x64 1 × IVec S256x8x96 1 × IVec S256x8x64 1 × IVec S8192x8x64 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S256x8x96 .f32 := Host.absf main_arg3
  let main_cst_2 : FVec F S_ .f32 := constant S_ .f32 0x7F800000#32
  let main_v10 : FVec F S256x8x96 .f32 := broadcastInDim S256x8x96 ![] bcast_S_S256x8x96 main_cst_2
  let main_v11 : IVec S256x8x96 1 := cmpf .olt main_v9 main_v10
  let main_v12 : FVec F S256x8x64 .f32 := Host.absf main_arg4
  let main_cst_3 : FVec F S_ .f32 := constant S_ .f32 0x7F800000#32
  let main_v13 : FVec F S256x8x64 .f32 := broadcastInDim S256x8x64 ![] bcast_S_S256x8x64 main_cst_3
  let main_v14 : IVec S256x8x64 1 := cmpf .olt main_v12 main_v13
  let main_v15 : FVec F S8192x8x64 .f32 := Host.absf main_arg5
  let main_cst_4 : FVec F S_ .f32 := constant S_ .f32 0x7F800000#32
  let main_v16 : FVec F S8192x8x64 .f32 := broadcastInDim S8192x8x64 ![] bcast_S_S8192x8x64 main_cst_4
  let main_v17 : IVec S8192x8x64 1 := cmpf .olt main_v15 main_v16
  (main_v2, main_v5, main_v8, main_v11, main_v14, main_v17)
-- ==== Pre_attention_inputs_finite.lean ====
abbrev S8192x8x96 : Shape := ⟨3, ![8192, 8, 96]⟩
abbrev S8192x8x64 : Shape := ⟨3, ![8192, 8, 64]⟩
abbrev S256x8x96 : Shape := ⟨3, ![256, 8, 96]⟩
abbrev S256x8x64 : Shape := ⟨3, ![256, 8, 64]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)
  bcast_S_S256x8x96 : S_.BroadcastsInDim S256x8x96 (![] : Fin 0 → Fin S256x8x96.rank)
  bcast_S_S256x8x64 : S_.BroadcastsInDim S256x8x64 (![] : Fin 0 → Fin S256x8x64.rank)

variable [Facts]

def fn {F : FTy → Type} [FloatOps F] (main_arg0 : FVec F S8192x8x96 .f32) (main_arg1 : FVec F S8192x8x96 .f32) (main_arg2 : FVec F S8192x8x64 .f32) (main_arg3 : FVec F S256x8x96 .f32) (main_arg4 : FVec F S256x8x64 .f32) : IVec S8192x8x96 1 × IVec S8192x8x96 1 × IVec S8192x8x64 1 × IVec S256x8x96 1 × IVec S256x8x64 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S256x8x96 .f32 := Host.absf main_arg3
  let main_cst_2 : FVec F S_ .f32 := constant S_ .f32 0x7F800000#32
  let main_v10 : FVec F S256x8x96 .f32 := broadcastInDim S256x8x96 ![] bcast_S_S256x8x96 main_cst_2
  let main_v11 : IVec S256x8x96 1 := cmpf .olt main_v9 main_v10
  let main_v12 : FVec F S256x8x64 .f32 := Host.absf main_arg4
  let main_cst_3 : FVec F S_ .f32 := constant S_ .f32 0x7F800000#32
  let main_v13 : FVec F S256x8x64 .f32 := broadcastInDim S256x8x64 ![] bcast_S_S256x8x64 main_cst_3
  let main_v14 : IVec S256x8x64 1 := cmpf .olt main_v12 main_v13
  (main_v2, main_v5, main_v8, main_v11, main_v14)
-- ==== Pre_ffn_finite.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S1024 : S_.BroadcastsInDim S1024 (![] : Fin 0 → Fin S1024.rank)
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S3x5632 .f32) (main_arg2 : FVec F S5632 .f32) (main_arg3 : FVec F S2816x1024 .f32) (main_arg4 : FVec F S1024 .f32) (main_arg5 : FVec F S8192x1024 .f32) : IVec S8192x5632 1 × IVec S3x5632 1 × IVec S5632 1 × IVec S2816x1024 1 × IVec S1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg2
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Loss.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S32x8x128 : Shape := ⟨3, ![32, 8, 128]⟩
abbrev S256x2816 : Shape := ⟨2, ![256, 2816]⟩
abbrev S256x1024 : Shape := ⟨2, ![256, 1024]⟩
abbrev S1x8x128 : Shape := ⟨3, ![1, 8, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S8x128 : Shape := ⟨2, ![8, 128]⟩
abbrev S32x1x1 : Shape := ⟨3, ![32, 1, 1]⟩
abbrev S32 : Shape := ⟨1, ![32]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S32x8x128, .f32⟩
  | .hbm, ⟨11, _⟩ => ⟨S32x1x1, .f32⟩
  | .hbm, ⟨12, _⟩ => ⟨S32, .f32⟩
  | .hbm, ⟨13, _⟩ => ⟨S_, .f32⟩
  | .hbm, ⟨14, _⟩ => ⟨S_, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x8x128, .f32⟩
  | .local _ .vmem, ⟨13, _⟩ => ⟨S1x8x128, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LossReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1024, .f32⟩
  | .hbm, ⟨32, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Attn.lean ====
abbrev S8192x8x96 : Shape := ⟨3, ![8192, 8, 96]⟩
abbrev S8192x8x64 : Shape := ⟨3, ![8192, 8, 64]⟩
abbrev S256x8x96 : Shape := ⟨3, ![256, 8, 96]⟩
abbrev S256x8x64 : Shape := ⟨3, ![256, 8, 64]⟩
abbrev S8448x8x96 : Shape := ⟨3, ![8448, 8, 96]⟩
abbrev S8448x8x64 : Shape := ⟨3, ![8448, 8, 64]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x1 : Shape := ⟨3, ![8192, 8, 1]⟩
abbrev S8192x8x128 : Shape := ⟨3, ![8192, 8, 128]⟩
abbrev S8192x1024 : Shape := ⟨2, ![8192, 1024]⟩
abbrev S8448x8x128 : Shape := ⟨3, ![8448, 8, 128]⟩
abbrev S8448x1024 : Shape := ⟨2, ![8448, 1024]⟩
abbrev S8192x128 : Shape := ⟨2, ![8192, 128]⟩
abbrev S768x128 : Shape := ⟨2, ![768, 128]⟩
abbrev S1024x128 : Shape := ⟨2, ![1024, 128]⟩
abbrev S1024x768 : Shape := ⟨2, ![1024, 768]⟩
abbrev S1024x1 : Shape := ⟨2, ![1024, 1]⟩
abbrev S1024 : Shape := ⟨1, ![1024]⟩

abbrev nBuf : Space → Nat
  | .hbm => 54
  | .vmem => 18
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S256x8x96, .f32⟩
  | .hbm, ⟨4, _⟩ => ⟨S256x8x64, .f32⟩
  | .hbm, ⟨5, _⟩ => ⟨S8192x8x64, .f32⟩
  | .hbm, ⟨6, _⟩ => ⟨S8448x8x96, .f32⟩
  | .hbm, ⟨7, _⟩ => ⟨S8448x8x64, .f32⟩
  | .hbm, ⟨8, _⟩ => ⟨S8x8192x8448, .f32⟩
  | .hbm, ⟨9, _⟩ => ⟨S_, .f32⟩
  | .hbm, ⟨10, _⟩ => ⟨S8x8192x8448, .f32⟩
  | .hbm, ⟨11, _⟩ => ⟨S8x8192x8448, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S8x8192x8448, .f32⟩
  | .hbm, ⟨16, _⟩ => ⟨S8x8192x8448, .f32⟩
  | .hbm, ⟨17, _⟩ => ⟨S8x8192x8448, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S8x8192x8448, .f32⟩
  | .hbm, ⟨22, _⟩ => ⟨S8x8192x8448, .f32⟩
  | .hbm, ⟨23, _⟩ => ⟨S8x64x8192, .f32⟩
  | .hbm, ⟨24, _⟩ => ⟨S8192x8x64, .f32⟩
  | .hbm, ⟨25, _⟩ => ⟨S8x8192, .f32⟩
  | .hbm, ⟨26, _⟩ => ⟨S8x8192, .f32⟩
  | .hbm, ⟨27, _⟩ => ⟨S8192x8, .f32⟩
  | .hbm, ⟨28, _⟩ => ⟨S8192x8x1, .f32⟩
  | .hbm, ⟨29, _⟩ => ⟨S8192x8x128, .f32⟩
  | .hbm, ⟨30, _⟩ => ⟨S8192x1024, .f32⟩
  | .hbm, ⟨31, _⟩ => ⟨S_, .f32⟩
  | .hbm, ⟨32, _⟩ => ⟨S8192x8x128, .f32⟩
  | .hbm, ⟨33, _⟩ => ⟨S8192x1024, .f32⟩
  | .hbm, ⟨34, _⟩ => ⟨S8192x1024, .bf16⟩
  | .hbm, ⟨35, _⟩ => ⟨S_, .f32⟩
  | .hbm, ⟨36, _⟩ => ⟨S8448x8x128, .f32⟩
  | .hbm, ⟨37, _⟩ => ⟨S8448x1024, .f32⟩
  | .hbm, ⟨38, _⟩ => ⟨S8448x1024, .bf16⟩
  | .hbm, ⟨39, _⟩ => ⟨S_, .f32⟩
  | .hbm, ⟨40, _⟩ => ⟨S8448x8x128, .f32⟩
  | .hbm, ⟨41, _⟩ => ⟨S8448x1024, .f32⟩
  | .hbm, ⟨42, _⟩ => ⟨S8448x1024, .bf16⟩
  | .hbm, ⟨43, _⟩ => ⟨S_, .f32⟩
  | .hbm, ⟨44, _⟩ => ⟨S8192x8x128, .f32⟩
  | .hbm, ⟨45, _⟩ => ⟨S8192x1024, .f32⟩
  | .hbm, ⟨46, _⟩ => ⟨S8192x1024, .bf16⟩
  | .hbm, ⟨47, _⟩ => ⟨S_, .f32⟩
  | .hbm, ⟨48, _⟩ => ⟨S8192x8x128, .f32⟩
  | .hbm, ⟨49, _⟩ => ⟨S8192x1024, .f32⟩
  | .hbm, ⟨50, _⟩ => ⟨S8192x1024, .bf16⟩
  | .hbm, ⟨51, _⟩ => ⟨S8192x1024, .f32⟩
  | .hbm, ⟨52, _⟩ => ⟨S8448x1024, .f32⟩
  | .hbm, ⟨53, _⟩ => ⟨S8448x1024, .f32⟩
  | .local _ .vmem, ⟨0, _⟩ => ⟨S8192x128, .bf16⟩
  | .local _ .vmem, ⟨1, _⟩ => ⟨S8192x128, .bf16⟩
  | .local _ .vmem, ⟨2, _⟩ => ⟨S768x128, .bf16⟩
  | .local _ .vmem, ⟨3, _⟩ => ⟨S768x128, .bf16⟩
  | .local _ .vmem, ⟨4, _⟩ => ⟨S768x128, .bf16⟩
  | .local _ .vmem, ⟨5, _⟩ => ⟨S768x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S768x128, .f32⟩
  | .local _ .vmem, ⟨15, _⟩ => ⟨S768x128, .f32⟩
  | .local _ .vmem, ⟨16, _⟩ => ⟨S768x128, .f32⟩
  | .local _ .vmem, ⟨17, _⟩ => ⟨S768x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def k0_mult1 : BitVec 32 :=
  let c0_i32_4 : BitVec 32 := 0#32
  let c1024_i32 : BitVec 32 := 1024#32
  let v8 : BitVec 32 := Scalar.muli c0_i32_4 c1024_i32
  v8
def k0_off1 (c0_i32_4 : BitVec 32) : Fin 2 → Nat :=
  let c1024_i32 : BitVec 32 := 1024#32
  let v8 : BitVec 32 := Scalar.muli c0_i32_4 c1024_i32
  let v9 : BitVec 32 := v8
  let v10 : Index := Scalar.indexCast v9
  let c0_5 : Index := 0#32
  ![v10.toNat, 0]
def k0_off2 (c0_i32_4 : BitVec 32) : Fin 2 → Nat :=
  let c1024_i32 : BitVec 32 := 1024#32
  let v8 : BitVec 32 := Scalar.muli c0_i32_4 c1024_i32
  let v9 : BitVec 32 := v8
  let v19 : Index := Scalar.indexCast v9
  let c0_9 : Index := 0#32
  ![v19.toNat, 0]
def k0_mult2 : BitVec 32 :=
  let c1_i32 : BitVec 32 := 1#32
  let c1024_i32_20 : BitVec 32 := 1024#32
  let v54 : BitVec 32 := Scalar.muli c1_i32 c1024_i32_20
  v54
def k0_mult3 : BitVec 32 :=
  let c2_i32 : BitVec 32 := 2#32
  let c1024_i32_36 : BitVec 32 := 1024#32
  let v100 : BitVec 32 := Scalar.muli c2_i32 c1024_i32_36
  v100
def k0_mult4 : BitVec 32 :=
  let c3_i32 : BitVec 32 := 3#32
  let c1024_i32_52 : BitVec 32 := 1024#32
  let v146 : BitVec 32 := Scalar.muli c3_i32 c1024_i32_52
  v146
def k0_mult5 : BitVec 32 :=
  let c4_i32 : BitVec 32 := 4#32
  let c1024_i32_68 : BitVec 32 := 1024#32
  let v192 : BitVec 32 := Scalar.muli c4_i32 c1024_i32_68
  v192
def k0_mult6 : BitVec 32 :=
  let c5_i32 : BitVec 32 := 5#32
  let c1024_i32_84 : BitVec 32 := 1024#32
  let v238 : BitVec 32 := Scalar.muli c5_i32 c1024_i32_84
  v238
def k0_mult7 : BitVec 32 :=
  let c6_i32 : BitVec 32 := 6#32
  let c1024_i32_100 : BitVec 32 := 1024#32
  let v284 : BitVec 32 := Scalar.muli c6_i32 c1024_i32_100
  v284
def k0_mult8 : BitVec 32 :=
  let c7_i32 : BitVec 32 := 7#32
  let c1024_i32_116 : BitVec 32 := 1024#32
  let v330 : BitVec 32 := Scalar.muli c7_i32 c1024_i32_116
  v330
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "log2e" => some (((Real.log 2)⁻¹ : ℝ) : EReal)
  | "scale_log2e" => some (((3424635 / 33554432) * (Real.log 2)⁻¹ : ℝ) : EReal)
  | _ => none
-- ==== AttnReferenceIdeal.lean ====
abbrev S8192x8x96 : Shape := ⟨3, ![8192, 8, 96]⟩
abbrev S8192x8x64 : Shape := ⟨3, ![8192, 8, 64]⟩
abbrev S256x8x96 : Shape := ⟨3, ![256, 8, 96]⟩
abbrev S256x8x64 : Shape := ⟨3, ![256, 8, 64]⟩
abbrev S8448x8x96 : Shape := ⟨3, ![8448, 8, 96]⟩
abbrev S8448x8x64 : Shape := ⟨3, ![8448, 8, 64]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x64x8448 : Shape := ⟨3, ![8, 64, 8448]⟩
abbrev S8x8448x96 : Shape := ⟨3, ![8, 8448, 96]⟩
abbrev S8x8192x96 : Shape := ⟨3, ![8, 8192, 96]⟩
abbrev S8192x8x128 : Shape := ⟨3, ![8192, 8, 128]⟩
abbrev S8192x1024 : Shape := ⟨2, ![8192, 1024]⟩
abbrev S8448x8x128 : Shape := ⟨3, ![8448, 8, 128]⟩
abbrev S8448x1024 : Shape := ⟨2, ![8448, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S256x8x96, .f32⟩
  | .hbm, ⟨4, _⟩ => ⟨S256x8x64, .f32⟩
  | .hbm, ⟨5, _⟩ => ⟨S8192x8x64, .f32⟩
  | .hbm, ⟨6, _⟩ => ⟨S8448x8x96, .f32⟩
  | .hbm, ⟨7, _⟩ => ⟨S8448x8x64, .f32⟩
  | .hbm, ⟨8, _⟩ => ⟨S8x8192x8448, .f32⟩
  | .hbm, ⟨9, _⟩ => ⟨S_, .f32⟩
  | .hbm, ⟨10, _⟩ => ⟨S8x8192x8448, .f32⟩
  | .hbm, ⟨11, _⟩ => ⟨S8x8192x8448, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S8x8192x8448, .f32⟩
  | .hbm, ⟨16, _⟩ => ⟨S8x8192x8448, .i1⟩
  | .hbm, ⟨17, _⟩ => ⟨S8x8192x8448, .f32⟩
  | .hbm, ⟨18, _⟩ => ⟨S_, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S_, .f32⟩
  | .hbm, ⟨24, _⟩ => ⟨S8x8192, .f32⟩
  | .hbm, ⟨25, _⟩ => ⟨S8x8192, .i1⟩
  | .hbm, ⟨26, _⟩ => ⟨S_, .f32⟩
  | .hbm, ⟨27, _⟩ => ⟨S8x8192, .f32⟩
  | .hbm, ⟨28, _⟩ => ⟨S8x8192, .i1⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S8x8192, .f32⟩
  | .hbm, ⟨37, _⟩ => ⟨S8x8192x1, .f32⟩
  | .hbm, ⟨38, _⟩ => ⟨S8x8192x8448, .f32⟩
  | .hbm, ⟨39, _⟩ => ⟨S8x8192x8448, .f32⟩
  | .hbm, ⟨40, _⟩ => ⟨S8x8192x8448, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x8448, .f32⟩
  | .hbm, ⟨45, _⟩ => ⟨S8x8192x8448, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S8x64x8192, .f32⟩
  | .hbm, ⟨51, _⟩ => ⟨S8192x8x64, .f32⟩
  | .hbm, ⟨52, _⟩ => ⟨S8x64x8192, .f32⟩
  | .hbm, ⟨53, _⟩ => ⟨S8x8192x8448, .f32⟩
  | .hbm, ⟨54, _⟩ => ⟨S8x64x8448, .f32⟩
  | .hbm, ⟨55, _⟩ => ⟨S8448x8x64, .f32⟩
  | .hbm, ⟨56, _⟩ => ⟨S8x8192x8448, .f32⟩
  | .hbm, ⟨57, _⟩ => ⟨S8x8192x8448, .f32⟩
  | .hbm, ⟨58, _⟩ => ⟨S8x8192x8448, .f32⟩
  | .hbm, ⟨59, _⟩ => ⟨S_, .f32⟩
  | .hbm, ⟨60, _⟩ => ⟨S8x8192, .f32⟩
  | .hbm, ⟨61, _⟩ => ⟨S8x8192x1, .f32⟩
  | .hbm, ⟨62, _⟩ => ⟨S8x8192x1, .f32⟩
  | .hbm, ⟨63, _⟩ => ⟨S8x8192x8448, .f32⟩
  | .hbm, ⟨64, _⟩ => ⟨S8x8192x8448, .f32⟩
  | .hbm, ⟨65, _⟩ => ⟨S_, .f32⟩
  | .hbm, ⟨66, _⟩ => ⟨S8x8192, .f32⟩
  | .hbm, ⟨67, _⟩ => ⟨S8x8192x8448, .f32⟩
  | .hbm, ⟨68, _⟩ => ⟨S8x8192x8448, .f32⟩
  | .hbm, ⟨69, _⟩ => ⟨S8x8192x8448, .f32⟩
  | .hbm, ⟨70, _⟩ => ⟨S_, .f32⟩
  | .hbm, ⟨71, _⟩ => ⟨S8x8192x8448, .f32⟩
  | .hbm, ⟨72, _⟩ => ⟨S8x8192x8448, .f32⟩
  | .hbm, ⟨73, _⟩ => ⟨S8x8448x96, .f32⟩
  | .hbm, ⟨74, _⟩ => ⟨S8448x8x96, .f32⟩
  | .hbm, ⟨75, _⟩ => ⟨S8x8192x96, .f32⟩
  | .hbm, ⟨76, _⟩ => ⟨S8192x8x96, .f32⟩
  | .hbm, ⟨77, _⟩ => ⟨S8192x8x64, .f32⟩
  | .hbm, ⟨78, _⟩ => ⟨S256x8x64, .f32⟩
  | .hbm, ⟨79, _⟩ => ⟨S8192x8x96, .f32⟩
  | .hbm, ⟨80, _⟩ => ⟨S256x8x96, .f32⟩
  | .hbm, ⟨81, _⟩ => ⟨S_, .f32⟩
  | .hbm, ⟨82, _⟩ => ⟨S8192x8x128, .f32⟩
  | .hbm, ⟨83, _⟩ => ⟨S8192x1024, .f32⟩
  | .hbm, ⟨84, _⟩ => ⟨S8448x8x96, .f32⟩
  | .hbm, ⟨85, _⟩ => ⟨S_, .f32⟩
  | .hbm, ⟨86, _⟩ => ⟨S8448x8x128, .f32⟩
  | .hbm, ⟨87, _⟩ => ⟨S8448x1024, .f32⟩
  | .hbm, ⟨88, _⟩ => ⟨S8448x8x64, .f32⟩
  | .hbm, ⟨89, _⟩ => ⟨S_, .f32⟩
  | .hbm, ⟨90, _⟩ => ⟨S8448x8x128, .f32⟩
  | .hbm, ⟨91, _⟩ => ⟨S8448x1024, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Fwd.lean ====
abbrev S8192x8x96 : Shape := ⟨3, ![8192, 8, 96]⟩
abbrev S8192x8x64 : Shape := ⟨3, ![8192, 8, 64]⟩
abbrev S256x8x96 : Shape := ⟨3, ![256, 8, 96]⟩
abbrev S256x8x64 : Shape := ⟨3, ![256, 8, 64]⟩
abbrev S8448x8x96 : Shape := ⟨3, ![8448, 8, 96]⟩
abbrev S8448x8x64 : Shape := ⟨3, ![8448, 8, 64]⟩
abbrev S_ : Shape := ⟨0, ![]⟩
abbrev S8192x8x128 : Shape := ⟨3, ![8192, 8, 128]⟩
abbrev S8192x1024 : Shape := ⟨2, ![8192, 1024]⟩
abbrev S8448x8x128 : Shape := ⟨3, ![8448, 8, 128]⟩
abbrev S8448x1024 : Shape := ⟨2, ![8448, 1024]⟩
abbrev S1024x128 : Shape := ⟨2, ![1024, 128]⟩
abbrev S8448x128 : Shape := ⟨2, ![8448, 128]⟩
abbrev S768x128 : Shape := ⟨2, ![768, 128]⟩
abbrev S1024x1 : Shape := ⟨2, ![1024, 1]⟩
abbrev S1024x768 : Shape := ⟨2, ![1024, 768]⟩
abbrev S1024 : Shape := ⟨1, ![1024]⟩

abbrev nBuf : Space → Nat
  | .hbm => 21
  | .vmem => 10
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S256x8x96, .f32⟩
  | .hbm, ⟨4, _⟩ => ⟨S256x8x64, .f32⟩
  | .hbm, ⟨5, _⟩ => ⟨S8448x8x96, .f32⟩
  | .hbm, ⟨6, _⟩ => ⟨S8448x8x64, .f32⟩
  | .hbm, ⟨7, _⟩ => ⟨S_, .f32⟩
  | .hbm, ⟨8, _⟩ => ⟨S8192x8x128, .f32⟩
  | .hbm, ⟨9, _⟩ => ⟨S8192x1024, .f32⟩
  | .hbm, ⟨10, _⟩ => ⟨S8192x1024, .bf16⟩
  | .hbm, ⟨11, _⟩ => ⟨S_, .f32⟩
  | .hbm, ⟨12, _⟩ => ⟨S8448x8x128, .f32⟩
  | .hbm, ⟨13, _⟩ => ⟨S8448x1024, .f32⟩
  | .hbm, ⟨14, _⟩ => ⟨S8448x1024, .bf16⟩
  | .hbm, ⟨15, _⟩ => ⟨S_, .f32⟩
  | .hbm, ⟨16, _⟩ => ⟨S8448x8x128, .f32⟩
  | .hbm, ⟨17, _⟩ => ⟨S8448x1024, .f32⟩
  | .hbm, ⟨18, _⟩ => ⟨S8448x1024, .bf16⟩
  | .hbm, ⟨19, _⟩ => ⟨S8192x1024, .bf16⟩
  | .hbm, ⟨20, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  let c768_i32 : BitVec 32 := 768#32
  let v10 : BitVec 32 := Scalar.muli c0_i32 c768_i32
  v10
def k0_off1 (c0_i32 : BitVec 32) : Fin 2 → Nat :=
  let c768_i32 : BitVec 32 := 768#32
  let v10 : BitVec 32 := Scalar.muli c0_i32 c768_i32
  let v11 : BitVec 32 := v10
  let v12 : Index := Scalar.indexCast v11
  let c0_2 : Index := 0#32
  ![v12.toNat, 0]
def k0_mult2 : BitVec 32 :=
  let c1_i32 : BitVec 32 := 1#32
  let c768_i32_10 : BitVec 32 := 768#32
  let v39 : BitVec 32 := Scalar.muli c1_i32 c768_i32_10
  v39
def k0_mult3 : BitVec 32 :=
  let c2_i32 : BitVec 32 := 2#32
  let c768_i32_19 : BitVec 32 := 768#32
  let v68 : BitVec 32 := Scalar.muli c2_i32 c768_i32_19
  v68
def k0_mult4 : BitVec 32 :=
  let c3_i32 : BitVec 32 := 3#32
  let c768_i32_28 : BitVec 32 := 768#32
  let v97 : BitVec 32 := Scalar.muli c3_i32 c768_i32_28
  v97
def k0_mult5 : BitVec 32 :=
  let c4_i32 : BitVec 32 := 4#32
  let c768_i32_37 : BitVec 32 := 768#32
  let v126 : BitVec 32 := Scalar.muli c4_i32 c768_i32_37
  v126
def k0_mult6 : BitVec 32 :=
  let c5_i32 : BitVec 32 := 5#32
  let c768_i32_46 : BitVec 32 := 768#32
  let v155 : BitVec 32 := Scalar.muli c5_i32 c768_i32_46
  v155
def k0_mult7 : BitVec 32 :=
  let c6_i32 : BitVec 32 := 6#32
  let c768_i32_55 : BitVec 32 := 768#32
  let v184 : BitVec 32 := Scalar.muli c6_i32 c768_i32_55
  v184
def k0_mult8 : BitVec 32 :=
  let c7_i32 : BitVec 32 := 7#32
  let c768_i32_64 : BitVec 32 := 768#32
  let v213 : BitVec 32 := Scalar.muli c7_i32 c768_i32_64
  v213
def k0_mult9 : BitVec 32 :=
  let c8_i32 : BitVec 32 := 8#32
  let c768_i32_73 : BitVec 32 := 768#32
  let v242 : BitVec 32 := Scalar.muli c8_i32 c768_i32_73
  v242
def k0_mult10 : BitVec 32 :=
  let c9_i32 : BitVec 32 := 9#32
  let c768_i32_82 : BitVec 32 := 768#32
  let v271 : BitVec 32 := Scalar.muli c9_i32 c768_i32_82
  v271
def k0_mult11 : BitVec 32 :=
  let c10_i32 : BitVec 32 := 10#32
  let c768_i32_91 : BitVec 32 := 768#32
  let v300 : BitVec 32 := Scalar.muli c10_i32 c768_i32_91
  v300
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "log2e" => some (((Real.log 2)⁻¹ : ℝ) : EReal)
  | "scale_log2e" => some (((3424635 / 33554432) * (Real.log 2)⁻¹ : ℝ) : EReal)
  | _ => none
-- ==== FwdReferenceIdeal.lean ====
abbrev S8192x8x96 : Shape := ⟨3, ![8192, 8, 96]⟩
abbrev S8192x8x64 : Shape := ⟨3, ![8192, 8, 64]⟩
abbrev S256x8x96 : Shape := ⟨3, ![256, 8, 96]⟩
abbrev S256x8x64 : Shape := ⟨3, ![256, 8, 64]⟩
abbrev S8448x8x96 : Shape := ⟨3, ![8448, 8, 96]⟩
abbrev S8448x8x64 : Shape := ⟨3, ![8448, 8, 64]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8192x8 : Shape := ⟨2, ![8192, 8]⟩
abbrev S8192x8x1 : Shape := ⟨3, ![8192, 8, 1]⟩
abbrev S8192x8x128 : Shape := ⟨3, ![8192, 8, 128]⟩
abbrev S8192x1024 : Shape := ⟨2, ![8192, 1024]⟩
abbrev S8x64x8192 : Shape := ⟨3, ![8, 64, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S256x8x96, .f32⟩
  | .hbm, ⟨4, _⟩ => ⟨S256x8x64, .f32⟩
  | .hbm, ⟨5, _⟩ => ⟨S8448x8x96, .f32⟩
  | .hbm, ⟨6, _⟩ => ⟨S8448x8x64, .f32⟩
  | .hbm, ⟨7, _⟩ => ⟨S8x8192x8448, .f32⟩
  | .hbm, ⟨8, _⟩ => ⟨S_, .f32⟩
  | .hbm, ⟨9, _⟩ => ⟨S8x8192x8448, .f32⟩
  | .hbm, ⟨10, _⟩ => ⟨S8x8192x8448, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S8x8192x8448, .f32⟩
  | .hbm, ⟨15, _⟩ => ⟨S8x8192x8448, .f32⟩
  | .hbm, ⟨16, _⟩ => ⟨S8x8192x8448, .f32⟩
  | .hbm, ⟨17, _⟩ => ⟨S_, .f32⟩
  | .hbm, ⟨18, _⟩ => ⟨S8x8192, .f32⟩
  | .hbm, ⟨19, _⟩ => ⟨S8x8192, .f32⟩
  | .hbm, ⟨20, _⟩ => ⟨S8x8192, .f32⟩
  | .hbm, ⟨21, _⟩ => ⟨S8192x8, .f32⟩
  | .hbm, ⟨22, _⟩ => ⟨S8192x8x1, .f32⟩
  | .hbm, ⟨23, _⟩ => ⟨S8192x8x128, .f32⟩
  | .hbm, ⟨24, _⟩ => ⟨S8192x1024, .f32⟩
  | .hbm, ⟨25, _⟩ => ⟨S8x8192x8448, .f32⟩
  | .hbm, ⟨26, _⟩ => ⟨S_, .f32⟩
  | .hbm, ⟨27, _⟩ => ⟨S8x8192x8448, .f32⟩
  | .hbm, ⟨28, _⟩ => ⟨S8x8192x8448, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x8448, .f32⟩
  | .hbm, ⟨36, _⟩ => ⟨S8x8192x8448, .f32⟩
  | .hbm, ⟨37, _⟩ => ⟨S8x8192x8448, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8448, .f32⟩
  | .hbm, ⟨42, _⟩ => ⟨S8x8192x8448, .f32⟩
  | .hbm, ⟨43, _⟩ => ⟨S8x64x8192, .f32⟩
  | .hbm, ⟨44, _⟩ => ⟨S8192x8x64, .f32⟩
  | .hbm, ⟨45, _⟩ => ⟨S_, .f32⟩
  | .hbm, ⟨46, _⟩ => ⟨S8192x8x128, .f32⟩
  | .hbm, ⟨47, _⟩ => ⟨S8192x1024, .f32⟩
  | .hbm, ⟨48, _⟩ => ⟨S8192x1024, .bf16⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Ffn.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S8192x1024 : Shape := ⟨2, ![8192, 1024]⟩
abbrev S_ : Shape := ⟨0, ![]⟩
abbrev S1x5632 : Shape := ⟨2, ![1, 5632]⟩
abbrev S8194x5632 : Shape := ⟨2, ![8194, 5632]⟩
abbrev S8192x2816 : Shape := ⟨2, ![8192, 2816]⟩
abbrev S5x5632 : Shape := ⟨2, ![5, 5632]⟩
abbrev S8x5632 : Shape := ⟨2, ![8, 5632]⟩
abbrev S1x1024 : Shape := ⟨2, ![1, 1024]⟩
abbrev S8x1024 : Shape := ⟨2, ![8, 1024]⟩
abbrev S256x1024 : Shape := ⟨2, ![256, 1024]⟩
abbrev S256x5632 : Shape := ⟨2, ![256, 5632]⟩
abbrev S272x1024 : Shape := ⟨2, ![272, 1024]⟩
abbrev S8x1408 : Shape := ⟨2, ![8, 1408]⟩
abbrev S256x1408 : Shape := ⟨2, ![256, 1408]⟩
abbrev S272x1408 : Shape := ⟨2, ![272, 1408]⟩
abbrev S1x1408 : Shape := ⟨2, ![1, 1408]⟩
abbrev S1408x1024 : Shape := ⟨2, ![1408, 1024]⟩
abbrev S1408 : Shape := ⟨1, ![1408]⟩

abbrev nBuf : Space → Nat
  | .hbm => 55
  | .vmem => 24
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S1x5632, .f32⟩
  | .hbm, ⟨8, _⟩ => ⟨S8194x5632, .f32⟩
  | .hbm, ⟨9, _⟩ => ⟨S8192x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S_, .f32⟩
  | .hbm, ⟨46, _⟩ => ⟨S5x5632, .f32⟩
  | .hbm, ⟨47, _⟩ => ⟨S8x5632, .f32⟩
  | .hbm, ⟨48, _⟩ => ⟨S1x5632, .f32⟩
  | .hbm, ⟨49, _⟩ => ⟨S2816x1024, .bf16⟩
  | .hbm, ⟨50, _⟩ => ⟨S1x1024, .f32⟩
  | .hbm, ⟨51, _⟩ => ⟨S8192x5632, .bf16⟩
  | .hbm, ⟨52, _⟩ => ⟨S8192x1024, .bf16⟩
  | .hbm, ⟨53, _⟩ => ⟨S8x1024, .f32⟩
  | .hbm, ⟨54, _⟩ => ⟨S8x5632, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S256x1024, .f32⟩
  | .local _ .vmem, ⟨7, _⟩ => ⟨S256x1024, .f32⟩
  | .local _ .vmem, ⟨8, _⟩ => ⟨S256x5632, .f32⟩
  | .local _ .vmem, ⟨9, _⟩ => ⟨S256x5632, .f32⟩
  | .local _ .vmem, ⟨10, _⟩ => ⟨S8x5632, .f32⟩
  | .local _ .vmem, ⟨11, _⟩ => ⟨S8x5632, .f32⟩
  | .local _ .vmem, ⟨12, _⟩ => ⟨S8x5632, .f32⟩
  | .local _ .vmem, ⟨13, _⟩ => ⟨S8x5632, .f32⟩
  | .local _ .vmem, ⟨14, _⟩ => ⟨S8x5632, .f32⟩
  | .local _ .vmem, ⟨15, _⟩ => ⟨S1x5632, .f32⟩
  | .local _ .vmem, ⟨16, _⟩ => ⟨S2816x1024, .bf16⟩
  | .local _ .vmem, ⟨17, _⟩ => ⟨S1x1024, .f32⟩
  | .local _ .vmem, ⟨18, _⟩ => ⟨S256x5632, .bf16⟩
  | .local _ .vmem, ⟨19, _⟩ => ⟨S256x5632, .bf16⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | .local _ .vmem, ⟨23, _⟩ => ⟨S8x5632, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35_0 : Ref sig .tc := ⟨.hbm, 51, rfl⟩
abbrev main_v35_1 : Ref sig .tc := ⟨.hbm, 52, rfl⟩
abbrev main_v35_2 : Ref sig .tc := ⟨.hbm, 53, rfl⟩
abbrev main_v35_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnReferenceIdeal.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S8192x1024 : Shape := ⟨2, ![8192, 1024]⟩
abbrev S_ : Shape := ⟨0, ![]⟩
abbrev S1x5632 : Shape := ⟨2, ![1, 5632]⟩
abbrev S8194x5632 : Shape := ⟨2, ![8194, 5632]⟩
abbrev S8192x2816 : Shape := ⟨2, ![8192, 2816]⟩
abbrev S1x1024 : Shape := ⟨2, ![1, 1024]⟩
abbrev S4x5632 : Shape := ⟨2, ![4, 5632]⟩
abbrev S7x1024 : Shape := ⟨2, ![7, 1024]⟩
abbrev S8x1024 : Shape := ⟨2, ![8, 1024]⟩
abbrev S8x5632 : Shape := ⟨2, ![8, 5632]⟩

abbrev nBuf : Space → Nat
  | .hbm => 137
  | .vmem => 0
  | .smem => 0
  | _ => 0

abbrev hbmTy0_0 (i : Nat) : BufTy := match i % 128 with
  | 0 => ⟨S8192x5632, .f32⟩
  | 1 => ⟨S3x5632, .f32⟩
  | 2 => ⟨S5632, .f32⟩
  | 3 => ⟨S2816x1024, .f32⟩
  | 4 => ⟨S1024, .f32⟩
  | 5 => ⟨S8192x1024, .f32⟩
  | 6 => ⟨S_, .f32⟩
  | 7 => ⟨S8192x1024, .f32⟩
  | 8 => ⟨S_, .f32⟩
  | 9 => ⟨S1x5632, .f32⟩
  | 10 => ⟨S8194x5632, .f32⟩
  | 11 => ⟨S_, .f32⟩
  | 12 => ⟨S1x5632, .f32⟩
  | 13 => ⟨S_, .f32⟩
  | 14 => ⟨S1x5632, .f32⟩
  | 15 => ⟨S8192x5632, .f32⟩
  | 16 => ⟨S1x5632, .f32⟩
  | 17 => ⟨S5632, .f32⟩
  | 18 => ⟨S1x5632, .f32⟩
  | 19 => ⟨S8192x5632, .f32⟩
  | 20 => ⟨S8192x5632, .f32⟩
  | 21 => ⟨S8192x5632, .f32⟩
  | 22 => ⟨S1x5632, .f32⟩
  | 23 => ⟨S5632, .f32⟩
  | 24 => ⟨S1x5632, .f32⟩
  | 25 => ⟨S8192x5632, .f32⟩
  | 26 => ⟨S8192x5632, .f32⟩
  | 27 => ⟨S8192x5632, .f32⟩
  | 28 => ⟨S8192x5632, .f32⟩
  | 29 => ⟨S1x5632, .f32⟩
  | 30 => ⟨S5632, .f32⟩
  | 31 => ⟨S1x5632, .f32⟩
  | 32 => ⟨S8192x5632, .f32⟩
  | 33 => ⟨S8192x5632, .f32⟩
  | 34 => ⟨S8192x5632, .f32⟩
  | 35 => ⟨S1x5632, .f32⟩
  | 36 => ⟨S8192x5632, .f32⟩
  | 37 => ⟨S8192x5632, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S8192x2816, .f32⟩
  | 53 => ⟨S8192x2816, .f32⟩
  | 54 => ⟨S8192x1024, .f32⟩
  | 55 => ⟨S8192x1024, .f32⟩
  | 56 => ⟨S1x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S_, .f32⟩
  | 66 => ⟨S1024, .f32⟩
  | 67 => ⟨S8192x2816, .f32⟩
  | 68 => ⟨S8192x2816, .f32⟩
  | 69 => ⟨S8192x2816, .f32⟩
  | 70 => ⟨S8192x2816, .f32⟩
  | 71 => ⟨S8192x2816, .f32⟩
  | 72 => ⟨S8192x2816, .f32⟩
  | 73 => ⟨S8192x2816, .f32⟩
  | 74 => ⟨S8192x5632, .f32⟩
  | 75 => ⟨S_, .f32⟩
  | 76 => ⟨S5632, .f32⟩
  | 77 => ⟨S1x5632, .f32⟩
  | 78 => ⟨S_, .f32⟩
  | 79 => ⟨S5632, .f32⟩
  | 80 => ⟨S8192x5632, .f32⟩
  | 81 => ⟨S_, .f32⟩
  | 82 => ⟨S5632, .f32⟩
  | 83 => ⟨S1x5632, .f32⟩
  | 84 => ⟨S8192x5632, .f32⟩
  | 85 => ⟨S8192x5632, .f32⟩
  | 86 => ⟨S_, .f32⟩
  | 87 => ⟨S5632, .f32⟩
  | 88 => ⟨S1x5632, .f32⟩
  | 89 => ⟨S_, .f32⟩
  | 90 => ⟨S3x5632, .f32⟩
  | 91 => ⟨S_, .f32⟩
  | 92 => ⟨S8194x5632, .f32⟩
  | 93 => ⟨S8192x5632, .f32⟩
  | 94 => ⟨S_, .f32⟩
  | 95 => ⟨S5632, .f32⟩
  | 96 => ⟨S1x5632, .f32⟩
  | 97 => ⟨S8192x5632, .f32⟩
  | 98 => ⟨S8192x5632, .f32⟩
  | 99 => ⟨S_, .f32⟩
  | 100 => ⟨S5632, .f32⟩
  | 101 => ⟨S1x5632, .f32⟩
  | 102 => ⟨S_, .f32⟩
  | 103 => ⟨S3x5632, .f32⟩
  | 104 => ⟨S3x5632, .f32⟩
  | 105 => ⟨S_, .f32⟩
  | 106 => ⟨S8194x5632, .f32⟩
  | 107 => ⟨S8194x5632, .f32⟩
  | 108 => ⟨S8192x5632, .f32⟩
  | 109 => ⟨S_, .f32⟩
  | 110 => ⟨S5632, .f32⟩
  | 111 => ⟨S1x5632, .f32⟩
  | 112 => ⟨S8192x5632, .f32⟩
  | 113 => ⟨S8192x5632, .f32⟩
  | 114 => ⟨S_, .f32⟩
  | 115 => ⟨S5632, .f32⟩
  | 116 => ⟨S1x5632, .f32⟩
  | 117 => ⟨S_, .f32⟩
  | 118 => ⟨S3x5632, .f32⟩
  | 119 => ⟨S3x5632, .f32⟩
  | 120 => ⟨S_, .f32⟩
  | 121 => ⟨S8194x5632, .f32⟩
  | 122 => ⟨S8194x5632, .f32⟩
  | 123 => ⟨S1x5632, .f32⟩
  | 124 => ⟨S8192x5632, .f32⟩
  | 125 => ⟨S1x5632, .f32⟩
  | 126 => ⟨S1x5632, .f32⟩
  | 127 => ⟨S4x5632, .f32⟩
  | _ => ⟨S8192x5632, .f32⟩

abbrev hbmTy0_1 (i : Nat) : BufTy := match i % 128 with
  | 0 => ⟨S8192x5632, .bf16⟩
  | 1 => ⟨S8192x1024, .bf16⟩
  | 2 => ⟨S1x1024, .f32⟩
  | 3 => ⟨S_, .f32⟩
  | 4 => ⟨S7x1024, .f32⟩
  | 5 => ⟨S8x1024, .f32⟩
  | 6 => ⟨S_, .f32⟩
  | 7 => ⟨S4x5632, .f32⟩
  | 8 => ⟨S8x5632, .f32⟩
  | _ => ⟨S8192x5632, .f32⟩

abbrev hbmTy (i : Nat) : BufTy := match i / 128 with
  | 0 => hbmTy0_0 i
  | 1 => hbmTy0_1 i
  | _ => ⟨S8192x5632, .f32⟩

abbrev bufTy : (tb : Table) → Fin (tcTables nBuf tb) → BufTy
  | .hbm, ⟨i, _⟩ => hbmTy i
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v30_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v30_1 : Ref sig .tc := ⟨.hbm, 51, rfl⟩
abbrev main_v30_0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v46 : Ref sig .tc := ⟨.hbm, 73, rfl⟩
abbrev main_v47 : Ref sig .tc := ⟨.hbm, 74, rfl⟩
abbrev main_cst_5 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_16 : Ref sig .tc := ⟨.hbm, 114, rfl⟩
abbrev main_v76 : Ref sig .tc := ⟨.hbm, 115, rfl⟩
abbrev main_v77 : Ref sig .tc := ⟨.hbm, 116, rfl⟩
abbrev main_cst_17 : Ref sig .tc := ⟨.hbm, 117, rfl⟩
abbrev main_v78 : Ref sig .tc := ⟨.hbm, 118, rfl⟩
abbrev main_v79 : Ref sig .tc := ⟨.hbm, 119, rfl⟩
abbrev main_cst_18 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_19 : Ref sig .tc := ⟨.hbm, 131, rfl⟩
abbrev main_v90 : Ref sig .tc := ⟨.hbm, 132, rfl⟩
abbrev main_v91 : Ref sig .tc := ⟨.hbm, 133, rfl⟩
abbrev main_cst_20 : Ref sig .tc := ⟨.hbm, 134, rfl⟩
abbrev main_v92 : Ref sig .tc := ⟨.hbm, 135, rfl⟩
abbrev main_v93 : Ref sig .tc := ⟨.hbm, 136, rfl⟩

abbrev nD : Nat := 1
abbrev τ : Topo := Topo.v7x

variable {F : FTy → Type} [FloatOps F]
-- ==== Scan.lean ====
abbrev S8448x3456 : Shape := ⟨2, ![8448, 3456]⟩
abbrev S8192x512 : Shape := ⟨2, ![8192, 512]⟩
abbrev S33x2x2048 : Shape := ⟨3, ![33, 2, 2048]⟩
abbrev S512x2048 : Shape := ⟨2, ![512, 2048]⟩
abbrev S2048x512 : Shape := ⟨2, ![2048, 512]⟩
abbrev S3x2x8x2048 : Shape := ⟨4, ![3, 2, 8, 2048]⟩
abbrev S2x8x2048 : Shape := ⟨3, ![2, 8, 2048]⟩
abbrev S8448x512 : Shape := ⟨2, ![8448, 512]⟩
abbrev S8448x2048 : Shape := ⟨2, ![8448, 2048]⟩
abbrev S256x512 : Shape := ⟨2, ![256, 512]⟩
abbrev S1x2x2048 : Shape := ⟨3, ![1, 2, 2048]⟩
abbrev S256x2048 : Shape := ⟨2, ![256, 2048]⟩
abbrev S2x2048 : Shape := ⟨2, ![2, 2048]⟩
abbrev S256x256 : Shape := ⟨2, ![256, 256]⟩
abbrev S256x1024 : Shape := ⟨2, ![256, 1024]⟩
abbrev S1x512 : Shape := ⟨2, ![1, 512]⟩
abbrev S8x512 : Shape := ⟨2, ![8, 512]⟩
abbrev S1x1x8x512 : Shape := ⟨4, ![1, 1, 8, 512]⟩
abbrev S1x8x512 : Shape := ⟨3, ![1, 8, 512]⟩
abbrev S1024x256 : Shape := ⟨2, ![1024, 256]⟩
abbrev S1x1x2048 : Shape := ⟨3, ![1, 1, 2048]⟩
abbrev S1x2048 : Shape := ⟨2, ![1, 2048]⟩
abbrev S1x8x2048 : Shape := ⟨3, ![1, 8, 2048]⟩
abbrev S8x2048 : Shape := ⟨2, ![8, 2048]⟩
abbrev S32x8x2048 : Shape := ⟨3, ![32, 8, 2048]⟩

abbrev nBuf : Space → Nat
  | .hbm => 17
  | .vmem => 31
  | .smem => 0
  | _ => 0

abbrev bufTy : (tb : Table) → Fin (tcTables nBuf tb) → BufTy
  | .hbm, ⟨0, _⟩ => ⟨S8448x3456, .f32⟩
  | .hbm, ⟨1, _⟩ => ⟨S8192x512, .f32⟩
  | .hbm, ⟨2, _⟩ => ⟨S33x2x2048, .f32⟩
  | .hbm, ⟨3, _⟩ => ⟨S512x2048, .bf16⟩
  | .hbm, ⟨4, _⟩ => ⟨S512x2048, .bf16⟩
  | .hbm, ⟨5, _⟩ => ⟨S2048x512, .bf16⟩
  | .hbm, ⟨6, _⟩ => ⟨S2048x512, .bf16⟩
  | .hbm, ⟨7, _⟩ => ⟨S3x2x8x2048, .f32⟩
  | .hbm, ⟨8, _⟩ => ⟨S2x8x2048, .f32⟩
  | .hbm, ⟨9, _⟩ => ⟨S3x2x8x2048, .f32⟩
  | .hbm, ⟨10, _⟩ => ⟨S2x8x2048, .f32⟩
  | .hbm, ⟨11, _⟩ => ⟨S8448x512, .f32⟩
  | .hbm, ⟨12, _⟩ => ⟨S8448x2048, .bf16⟩
  | .hbm, ⟨13, _⟩ => ⟨S8448x2048, .bf16⟩
  | .hbm, ⟨14, _⟩ => ⟨S8448x2048, .bf16⟩
  | .hbm, ⟨15, _⟩ => ⟨S8448x2048, .bf16⟩
  | .hbm, ⟨16, _⟩ => ⟨S2x8x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x2x2048, .f32⟩
  | .local _ .vmem, ⟨5, _⟩ => ⟨S1x2x2048, .f32⟩
  | .local _ .vmem, ⟨6, _⟩ => ⟨S512x2048, .bf16⟩
  | .local _ .vmem, ⟨7, _⟩ => ⟨S512x2048, .bf16⟩
  | .local _ .vmem, ⟨8, _⟩ => ⟨S2048x512, .bf16⟩
  | .local _ .vmem, ⟨9, _⟩ => ⟨S2048x512, .bf16⟩
  | .local _ .vmem, ⟨10, _⟩ => ⟨S3x2x8x2048, .f32⟩
  | .local _ .vmem, ⟨11, _⟩ => ⟨S2x8x2048, .f32⟩
  | .local _ .vmem, ⟨12, _⟩ => ⟨S3x2x8x2048, .f32⟩
  | .local _ .vmem, ⟨13, _⟩ => ⟨S2x8x2048, .f32⟩
  | .local _ .vmem, ⟨14, _⟩ => ⟨S256x512, .f32⟩
  | .local _ .vmem, ⟨15, _⟩ => ⟨S256x512, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S2x8x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S2x2048, .f32⟩
  | .local _ .vmem, ⟨30, _⟩ => ⟨S2x2048, .f32⟩
  | _, _ => ⟨S8448x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_32 : BitVec 32 := 0#32
  let c32_i32_33 : BitVec 32 := 32#32
  let v49 : BitVec 32 := Scalar.addi c0_i32_32 c32_i32_33
  let c1_i32_34 : BitVec 32 := 1#32
  ⟨c0_i32_32, v49, c1_i32_34⟩
def k0_mult1 (k0_t1 : Fin k0_t1_loop.trips) : BitVec 32 :=
  let c0_i32_32 : BitVec 32 := 0#32
  let c1_i32_34 : BitVec 32 := 1#32
  let arg24 : BitVec 32 := Scf.iv c0_i32_32 c1_i32_34 k0_t1
  let c8_i32 : BitVec 32 := 8#32
  let v214 : BitVec 32 := Scalar.muli arg24 c8_i32
  v214
def k0_off1 (k0_t1 : Fin k0_t1_loop.trips) : Fin 2 → Nat :=
  let c0_i32_32 : BitVec 32 := 0#32
  let c1_i32_34 : BitVec 32 := 1#32
  let arg24 : BitVec 32 := Scf.iv c0_i32_32 c1_i32_34 k0_t1
  let c8_i32 : BitVec 32 := 8#32
  let v214 : BitVec 32 := Scalar.muli arg24 c8_i32
  let v215 : BitVec 32 := v214
  let v216 : Index := Scalar.indexCast v215
  let c0_192 : Index := 0#32
  ![v216.toNat, 0]
@[reducible] def k0_t2_loop : Scf.Loop 32 :=
  let c0_i32_43 : BitVec 32 := 0#32
  let c32_i32_44 : BitVec 32 := 32#32
  let v59 : BitVec 32 := Scalar.addi c0_i32_43 c32_i32_44
  let c1_i32_45 : BitVec 32 := 1#32
  ⟨c0_i32_43, v59, c1_i32_45⟩
def k0_mult2 (k0_t2 : Fin k0_t2_loop.trips) : BitVec 32 :=
  let c0_i32_43 : BitVec 32 := 0#32
  let c1_i32_45 : BitVec 32 := 1#32
  let arg24 : BitVec 32 := Scf.iv c0_i32_43 c1_i32_45 k0_t2
  let c8_i32 : BitVec 32 := 8#32
  let v214 : BitVec 32 := Scalar.muli arg24 c8_i32
  v214
def k0_off2 (k0_t2 : Fin k0_t2_loop.trips) : Fin 2 → Nat :=
  let c0_i32_43 : BitVec 32 := 0#32
  let c1_i32_45 : BitVec 32 := 1#32
  let arg24 : BitVec 32 := Scf.iv c0_i32_43 c1_i32_45 k0_t2
  let c8_i32 : BitVec 32 := 8#32
  let v214 : BitVec 32 := Scalar.muli arg24 c8_i32
  let v215 : BitVec 32 := v214
  let v216 : Index := Scalar.indexCast v215
  let c512_192 : Index := 512#32
  ![v216.toNat, 512]
@[reducible] def k0_t3_loop : Scf.Loop 32 :=
  let c0_i32_55 : BitVec 32 := 0#32
  let c32_i32_56 : BitVec 32 := 32#32
  let v69 : BitVec 32 := Scalar.addi c0_i32_55 c32_i32_56
  let c1_i32_57 : BitVec 32 := 1#32
  ⟨c0_i32_55, v69, c1_i32_57⟩
def k0_mult3 (k0_t3 : Fin k0_t3_loop.trips) : BitVec 32 :=
  let c0_i32_55 : BitVec 32 := 0#32
  let c1_i32_57 : BitVec 32 := 1#32
  let arg24 : BitVec 32 := Scf.iv c0_i32_55 c1_i32_57 k0_t3
  let c8_i32 : BitVec 32 := 8#32
  let v214 : BitVec 32 := Scalar.muli arg24 c8_i32
  v214
def k0_off3 (k0_t3 : Fin k0_t3_loop.trips) : Fin 2 → Nat :=
  let c0_i32_55 : BitVec 32 := 0#32
  let c1_i32_57 : BitVec 32 := 1#32
  let arg24 : BitVec 32 := Scf.iv c0_i32_55 c1_i32_57 k0_t3
  let c8_i32 : BitVec 32 := 8#32
  let v214 : BitVec 32 := Scalar.muli arg24 c8_i32
  let v215 : BitVec 32 := v214
  let v216 : Index := Scalar.indexCast v215
  let c1024_192 : Index := 1024#32
  ![v216.toNat, 1024]
@[reducible] def k0_t4_loop : Scf.Loop 32 :=
  let c0_i32_66 : BitVec 32 := 0#32
  let c32_i32_67 : BitVec 32 := 32#32
  let v79 : BitVec 32 := Scalar.addi c0_i32_66 c32_i32_67
  let c1_i32_68 : BitVec 32 := 1#32
  ⟨c0_i32_66, v79, c1_i32_68⟩
def k0_mult4 (k0_t4 : Fin k0_t4_loop.trips) : BitVec 32 :=
  let c0_i32_66 : BitVec 32 := 0#32
  let c1_i32_68 : BitVec 32 := 1#32
  let arg24 : BitVec 32 := Scf.iv c0_i32_66 c1_i32_68 k0_t4
  let c8_i32 : BitVec 32 := 8#32
  let v214 : BitVec 32 := Scalar.muli arg24 c8_i32
  v214
def k0_off4 (k0_t4 : Fin k0_t4_loop.trips) : Fin 2 → Nat :=
  let c0_i32_66 : BitVec 32 := 0#32
  let c1_i32_68 : BitVec 32 := 1#32
  let arg24 : BitVec 32 := Scf.iv c0_i32_66 c1_i32_68 k0_t4
  let c8_i32 : BitVec 32 := 8#32
  let v214 : BitVec 32 := Scalar.muli arg24 c8_i32
  let v215 : BitVec 32 := v214
  let v216 : Index := Scalar.indexCast v215
  let c1536_192 : Index := 1536#32
  ![v216.toNat, 1536]
@[reducible] def k0_t5_loop : Scf.Loop 32 :=
  let c0_i32_94 : BitVec 32 := 0#32
  let c32_i32_95 : BitVec 32 := 32#32
  let v109 : BitVec 32 := Scalar.addi c0_i32_94 c32_i32_95
  let c1_i32_96 : BitVec 32 := 1#32
  ⟨c0_i32_94, v109, c1_i32_96⟩
def k0_mult5 (k0_t5 : Fin k0_t5_loop.trips) : BitVec 32 :=
  let c31_i32 : BitVec 32 := 31#32
  let c0_i32_94 : BitVec 32 := 0#32
  let c1_i32_96 : BitVec 32 := 1#32
  let arg24 : BitVec 32 := Scf.iv c0_i32_94 c1_i32_96 k0_t5
  let v214 : BitVec 32 := Scalar.subi c31_i32 arg24
  let c8_i32 : BitVec 32 := 8#32
  let v215 : BitVec 32 := Scalar.muli v214 c8_i32
  v215
def k0_off5 (k0_t5 : Fin k0_t5_loop.trips) : Fin 2 → Nat :=
  let c31_i32 : BitVec 32 := 31#32
  let c0_i32_94 : BitVec 32 := 0#32
  let c1_i32_96 : BitVec 32 := 1#32
  let arg24 : BitVec 32 := Scf.iv c0_i32_94 c1_i32_96 k0_t5
  let v214 : BitVec 32 := Scalar.subi c31_i32 arg24
  let c8_i32 : BitVec 32 := 8#32
  let v215 : BitVec 32 := Scalar.muli v214 c8_i32
  let v216 : BitVec 32 := v215
  let v217 : Index := Scalar.indexCast v216
  let c0_192 : Index := 0#32
  ![v217.toNat, 0]
@[reducible] def k0_t6_loop : Scf.Loop 32 :=
  let c0_i32_106 : BitVec 32 := 0#32
  let c32_i32_107 : BitVec 32 := 32#32
  let v119 : BitVec 32 := Scalar.addi c0_i32_106 c32_i32_107
  let c1_i32_108 : BitVec 32 := 1#32
  ⟨c0_i32_106, v119, c1_i32_108⟩
def k0_mult6 (k0_t6 : Fin k0_t6_loop.trips) : BitVec 32 :=
  let c31_i32 : BitVec 32 := 31#32
  let c0_i32_106 : BitVec 32 := 0#32
  let c1_i32_108 : BitVec 32 := 1#32
  let arg24 : BitVec 32 := Scf.iv c0_i32_106 c1_i32_108 k0_t6
  let v214 : BitVec 32 := Scalar.subi c31_i32 arg24
  let c8_i32 : BitVec 32 := 8#32
  let v215 : BitVec 32 := Scalar.muli v214 c8_i32
  v215
def k0_off6 (k0_t6 : Fin k0_t6_loop.trips) : Fin 2 → Nat :=
  let c31_i32 : BitVec 32 := 31#32
  let c0_i32_106 : BitVec 32 := 0#32
  let c1_i32_108 : BitVec 32 := 1#32
  let arg24 : BitVec 32 := Scf.iv c0_i32_106 c1_i32_108 k0_t6
  let v214 : BitVec 32 := Scalar.subi c31_i32 arg24
  let c8_i32 : BitVec 32 := 8#32
  let v215 : BitVec 32 := Scalar.muli v214 c8_i32
  let v216 : BitVec 32 := v215
  let v217 : Index := Scalar.indexCast v216
  let c512_192 : Index := 512#32
  ![v217.toNat, 512]
@[reducible] def k0_t7_loop : Scf.Loop 32 :=
  let c0_i32_118 : BitVec 32 := 0#32
  let c32_i32_119 : BitVec 32 := 32#32
  let v129 : BitVec 32 := Scalar.addi c0_i32_118 c32_i32_119
  let c1_i32_120 : BitVec 32 := 1#32
  ⟨c0_i32_118, v129, c1_i32_120⟩
def k0_mult7 (k0_t7 : Fin k0_t7_loop.trips) : BitVec 32 :=
  let c31_i32 : BitVec 32 := 31#32
  let c0_i32_118 : BitVec 32 := 0#32
  let c1_i32_120 : BitVec 32 := 1#32
  let arg24 : BitVec 32 := Scf.iv c0_i32_118 c1_i32_120 k0_t7
  let v214 : BitVec 32 := Scalar.subi c31_i32 arg24
  let c8_i32 : BitVec 32 := 8#32
  let v215 : BitVec 32 := Scalar.muli v214 c8_i32
  v215
def k0_off7 (k0_t7 : Fin k0_t7_loop.trips) : Fin 2 → Nat :=
  let c31_i32 : BitVec 32 := 31#32
  let c0_i32_118 : BitVec 32 := 0#32
  let c1_i32_120 : BitVec 32 := 1#32
  let arg24 : BitVec 32 := Scf.iv c0_i32_118 c1_i32_120 k0_t7
  let v214 : BitVec 32 := Scalar.subi c31_i32 arg24
  let c8_i32 : BitVec 32 := 8#32
  let v215 : BitVec 32 := Scalar.muli v214 c8_i32
  let v216 : BitVec 32 := v215
  let v217 : Index := Scalar.indexCast v216
  let c1024_192 : Index := 1024#32
  ![v217.toNat, 1024]
@[reducible] def k0_t8_loop : Scf.Loop 32 :=
  let c0_i32_130 : BitVec 32 := 0#32
  let c32_i32_131 : BitVec 32 := 32#32
  let v139 : BitVec 32 := Scalar.addi c0_i32_130 c32_i32_131
  let c1_i32_132 : BitVec 32 := 1#32
  ⟨c0_i32_130, v139, c1_i32_132⟩
def k0_mult8 (k0_t8 : Fin k0_t8_loop.trips) : BitVec 32 :=
  let c31_i32 : BitVec 32 := 31#32
  let c0_i32_130 : BitVec 32 := 0#32
  let c1_i32_132 : BitVec 32 := 1#32
  let arg24 : BitVec 32 := Scf.iv c0_i32_130 c1_i32_132 k0_t8
  let v214 : BitVec 32 := Scalar.subi c31_i32 arg24
  let c8_i32 : BitVec 32 := 8#32
  let v215 : BitVec 32 := Scalar.muli v214 c8_i32
  v215
def k0_off8 (k0_t8 : Fin k0_t8_loop.trips) : Fin 2 → Nat :=
  let c31_i32 : BitVec 32 := 31#32
  let c0_i32_130 : BitVec 32 := 0#32
  let c1_i32_132 : BitVec 32 := 1#32
  let arg24 : BitVec 32 := Scf.iv c0_i32_130 c1_i32_132 k0_t8
  let v214 : BitVec 32 := Scalar.subi c31_i32 arg24
  let c8_i32 : BitVec 32 := 8#32
  let v215 : BitVec 32 := Scalar.muli v214 c8_i32
  let v216 : BitVec 32 := v215
  let v217 : Index := Scalar.indexCast v216
  let c1536_192 : Index := 1536#32
  ![v217.toNat, 1536]
def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.addi v0 c32_i32_0
  let c33_i32 : BitVec 32 := 33#32
  let c0_i32 : BitVec 32 := 0#32
  let v2 : BitVec 1 := Scalar.cmpi .eq c33_i32 c0_i32
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c4_i32 : BitVec 32 := 4#32
  let c0_i32_4 : BitVec 32 := 0#32
  ![v11.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.addi v0 c32_i32_0
  let c33_i32 : BitVec 32 := 33#32
  let c0_i32 : BitVec 32 := 0#32
  let v2 : BitVec 1 := Scalar.cmpi .eq c33_i32 c0_i32
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c31_i32 : BitVec 32 := 31#32
  let v12 : BitVec 32 := Scalar.minsi v11 c31_i32
  let c0_i32_4 : BitVec 32 := 0#32
  let c0_i32_5 : BitVec 32 := 0#32
  ![v12.toNat, c0_i32_4.toNat]

def cc0_transform_2 (i : grid0.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.addi v0 c32_i32_0
  let c33_i32 : BitVec 32 := 33#32
  let c0_i32 : BitVec 32 := 0#32
  let v2 : BitVec 1 := Scalar.cmpi .eq c33_i32 c0_i32
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_12 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.addi v0 c32_i32_0
  let c33_i32 : BitVec 32 := 33#32
  let c0_i32 : BitVec 32 := 0#32
  let v2 : BitVec 1 := Scalar.cmpi .eq c33_i32 c0_i32
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_13 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.addi v0 c32_i32_0
  let c33_i32 : BitVec 32 := 33#32
  let c0_i32 : BitVec 32 := 0#32
  let v2 : BitVec 1 := Scalar.cmpi .eq c33_i32 c0_i32
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_14 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.addi v0 c32_i32_0
  let c33_i32 : BitVec 32 := 33#32
  let c0_i32 : BitVec 32 := 0#32
  let v2 : BitVec 1 := Scalar.cmpi .eq c33_i32 c0_i32
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_15 (i : grid0.Coords) : Fin 2 → Nat :=
  let arg0 : BitVec 32 := BitVec.ofNat 32 (i 0).val
  let c32_i32 : BitVec 32 := 32#32
  let v0 : BitVec 32 := Scalar.subi c32_i32 arg0
  let c32_i32_0 : BitVec 32 := 32#32
  let v1 : BitVec 32 := Scalar.addi v0 c32_i32_0
  let c33_i32 : BitVec 32 := 33#32
  let c0_i32 : BitVec 32 := 0#32
  let v2 : BitVec 1 := Scalar.cmpi .eq c33_i32 c0_i32
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x2x8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x2x8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S2x8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Mod.lean ====
abbrev S8x1024 : Shape := ⟨2, ![8, 1024]⟩
abbrev S1024 : Shape := ⟨1, ![1024]⟩
abbrev S1024x768 : Shape := ⟨2, ![1024, 768]⟩
abbrev S8x768 : Shape := ⟨2, ![8, 768]⟩
abbrev S16x6144 : Shape := ⟨2, ![16, 6144]⟩
abbrev S1x1024 : Shape := ⟨2, ![1, 1024]⟩
abbrev S9x1024 : Shape := ⟨2, ![9, 1024]⟩
abbrev S_ : Shape := ⟨0, ![]⟩
abbrev S7x1024 : Shape := ⟨2, ![7, 1024]⟩
abbrev S16x1024 : Shape := ⟨2, ![16, 1024]⟩
abbrev S8x6144 : Shape := ⟨2, ![8, 6144]⟩
abbrev S768 : Shape := ⟨1, ![768]⟩
abbrev S1x768 : Shape := ⟨2, ![1, 768]⟩
abbrev S16x768 : Shape := ⟨2, ![16, 768]⟩
abbrev S6144 : Shape := ⟨1, ![6144]⟩
abbrev S1x6144 : Shape := ⟨2, ![1, 6144]⟩

abbrev nBuf : Space → Nat
  | .hbm => 14
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x768, .f32⟩
  | .hbm, ⟨3, _⟩ => ⟨S8x768, .f32⟩
  | .hbm, ⟨4, _⟩ => ⟨S8x768, .f32⟩
  | .hbm, ⟨5, _⟩ => ⟨S16x6144, .f32⟩
  | .hbm, ⟨6, _⟩ => ⟨S1x1024, .f32⟩
  | .hbm, ⟨7, _⟩ => ⟨S9x1024, .f32⟩
  | .hbm, ⟨8, _⟩ => ⟨S_, .f32⟩
  | .hbm, ⟨9, _⟩ => ⟨S7x1024, .f32⟩
  | .hbm, ⟨10, _⟩ => ⟨S16x1024, .f32⟩
  | .hbm, ⟨11, _⟩ => ⟨S1024x768, .f32⟩
  | .hbm, ⟨12, _⟩ => ⟨S16x1024, .f32⟩
  | .hbm, ⟨13, _⟩ => ⟨S8x6144, .f32⟩
  | .local _ .vmem, ⟨0, _⟩ => ⟨S16x1024, .f32⟩
  | .local _ .vmem, ⟨1, _⟩ => ⟨S1024x768, .f32⟩
  | .local _ .vmem, ⟨2, _⟩ => ⟨S8x768, .f32⟩
  | .local _ .vmem, ⟨3, _⟩ => ⟨S8x768, .f32⟩
  | .local _ .vmem, ⟨4, _⟩ => ⟨S16x6144, .f32⟩
  | .local _ .vmem, ⟨5, _⟩ => ⟨S1024x768, .f32⟩
  | .local _ .vmem, ⟨6, _⟩ => ⟨S16x1024, .f32⟩
  | .local _ .vmem, ⟨7, _⟩ => ⟨S8x6144, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ModReferenceIdeal.lean ====
abbrev S8x1024 : Shape := ⟨2, ![8, 1024]⟩
abbrev S1024 : Shape := ⟨1, ![1024]⟩
abbrev S1024x768 : Shape := ⟨2, ![1024, 768]⟩
abbrev S8x768 : Shape := ⟨2, ![8, 768]⟩
abbrev S16x6144 : Shape := ⟨2, ![16, 6144]⟩
abbrev S1x1024 : Shape := ⟨2, ![1, 1024]⟩
abbrev S_ : Shape := ⟨0, ![]⟩
abbrev S1x768 : Shape := ⟨2, ![1, 768]⟩
abbrev S768 : Shape := ⟨1, ![768]⟩
abbrev S768x1024 : Shape := ⟨2, ![768, 1024]⟩
abbrev S6144 : Shape := ⟨1, ![6144]⟩
abbrev S9x1024 : Shape := ⟨2, ![9, 1024]⟩
abbrev S7x1024 : Shape := ⟨2, ![7, 1024]⟩
abbrev S16x1024 : Shape := ⟨2, ![16, 1024]⟩
abbrev S1x6144 : Shape := ⟨2, ![1, 6144]⟩
abbrev S7x6144 : Shape := ⟨2, ![7, 6144]⟩
abbrev S8x6144 : Shape := ⟨2, ![8, 6144]⟩

abbrev nBuf : Space → Nat
  | .hbm => 70
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x768, .f32⟩
  | .hbm, ⟨3, _⟩ => ⟨S8x768, .f32⟩
  | .hbm, ⟨4, _⟩ => ⟨S8x768, .f32⟩
  | .hbm, ⟨5, _⟩ => ⟨S16x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x768, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S_, .f32⟩
  | .hbm, ⟨30, _⟩ => ⟨S8x1024, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S8x768, .f32⟩
  | .hbm, ⟨35, _⟩ => ⟨S8x768, .f32⟩
  | .hbm, ⟨36, _⟩ => ⟨S_, .f32⟩
  | .hbm, ⟨37, _⟩ => ⟨S768, .f32⟩
  | .hbm, ⟨38, _⟩ => ⟨S1x768, .f32⟩
  | .hbm, ⟨39, _⟩ => ⟨S768x1024, .f32⟩
  | .hbm, ⟨40, _⟩ => ⟨S1024x768, .f32⟩
  | .hbm, ⟨41, _⟩ => ⟨S8x1024, .f32⟩
  | .hbm, ⟨42, _⟩ => ⟨S8x1024, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S768x1024, .f32⟩
  | .hbm, ⟨47, _⟩ => ⟨S1024x768, .f32⟩
  | .hbm, ⟨48, _⟩ => ⟨S1024x768, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S6144, .f32⟩
  | .hbm, ⟨58, _⟩ => ⟨S16x6144, .f32⟩
  | .hbm, ⟨59, _⟩ => ⟨S_, .f32⟩
  | .hbm, ⟨60, _⟩ => ⟨S6144, .f32⟩
  | .hbm, ⟨61, _⟩ => ⟨S1x1024, .f32⟩
  | .hbm, ⟨62, _⟩ => ⟨S9x1024, .f32⟩
  | .hbm, ⟨63, _⟩ => ⟨S_, .f32⟩
  | .hbm, ⟨64, _⟩ => ⟨S7x1024, .f32⟩
  | .hbm, ⟨65, _⟩ => ⟨S16x1024, .f32⟩
  | .hbm, ⟨66, _⟩ => ⟨S1x6144, .f32⟩
  | .hbm, ⟨67, _⟩ => ⟨S_, .f32⟩
  | .hbm, ⟨68, _⟩ => ⟨S7x6144, .f32⟩
  | .hbm, ⟨69, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v3_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v3_1 : Ref sig .tc := ⟨.hbm, 32, rfl⟩
abbrev main_v3_0 : Ref sig .tc := ⟨.hbm, 33, rfl⟩
abbrev main_v4 : Ref sig .tc := ⟨.hbm, 34, rfl⟩
abbrev main_v5 : Ref sig .tc := ⟨.hbm, 35, rfl⟩
abbrev main_cst : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v16 : Ref sig .tc := ⟨.hbm, 53, rfl⟩
abbrev main_cst_0 : Ref sig .tc := ⟨.hbm, 54, rfl⟩
abbrev main_v17 : Ref sig .tc := ⟨.hbm, 55, rfl⟩
abbrev main_cst_1 : Ref sig .tc := ⟨.hbm, 56, rfl⟩
abbrev main_v18 : Ref sig .tc := ⟨.hbm, 57, rfl⟩
abbrev main_v19 : Ref sig .tc := ⟨.hbm, 58, rfl⟩
abbrev main_cst_2 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_3 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_4 : Ref sig .tc := ⟨.hbm, 67, rfl⟩
abbrev main_v26 : Ref sig .tc := ⟨.hbm, 68, rfl⟩
abbrev main_v27 : Ref sig .tc := ⟨.hbm, 69, rfl⟩

abbrev nD : Nat := 1
abbrev τ : Topo := Topo.v7x

variable {F : FTy → Type} [FloatOps F]
-- ==== NormOne.lean ====
abbrev S8192x1024 : Shape := ⟨2, ![8192, 1024]⟩
abbrev S256x1024 : Shape := ⟨2, ![256, 1024]⟩
abbrev S1024 : Shape := ⟨1, ![1024]⟩
abbrev S8448x1024 : Shape := ⟨2, ![8448, 1024]⟩
abbrev S1x1024 : Shape := ⟨2, ![1, 1024]⟩
abbrev S2x1024 : Shape := ⟨2, ![2, 1024]⟩
abbrev S4x1024 : Shape := ⟨2, ![4, 1024]⟩
abbrev S_ : Shape := ⟨0, ![]⟩
abbrev S8x1024 : Shape := ⟨2, ![8, 1024]⟩
abbrev S256 : Shape := ⟨1, ![256]⟩
abbrev S256x1 : Shape := ⟨2, ![256, 1]⟩

abbrev nBuf : Space → Nat
  | .hbm => 26
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S256x1024, .f32⟩
  | .hbm, ⟨10, _⟩ => ⟨S8448x1024, .f32⟩
  | .hbm, ⟨11, _⟩ => ⟨S8448x1024, .f32⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S1x1024, .f32⟩
  | .hbm, ⟨16, _⟩ => ⟨S1x1024, .f32⟩
  | .hbm, ⟨17, _⟩ => ⟨S2x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S8x1024, .f32⟩
  | .hbm, ⟨22, _⟩ => ⟨S1x1024, .f32⟩
  | .hbm, ⟨23, _⟩ => ⟨S8448x1024, .f32⟩
  | .hbm, ⟨24, _⟩ => ⟨S8x1024, .f32⟩
  | .hbm, ⟨25, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormOneReferenceIdeal.lean ====
abbrev S8192x1024 : Shape := ⟨2, ![8192, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256 : Shape := ⟨1, ![256]⟩
abbrev S256x1 : Shape := ⟨2, ![256, 1]⟩
abbrev S4x1024 : Shape := ⟨2, ![4, 1024]⟩
abbrev S8448x1024 : Shape := ⟨2, ![8448, 1024]⟩
abbrev S7x1024 : Shape := ⟨2, ![7, 1024]⟩
abbrev S8x1024 : Shape := ⟨2, ![8, 1024]⟩

abbrev nBuf : Space → Nat
  | .hbm => 161
  | .vmem => 0
  | .smem => 0
  | _ => 0

abbrev hbmTy0_0 (i : Nat) : BufTy := match i % 128 with
  | 0 => ⟨S8192x1024, .f32⟩
  | 1 => ⟨S256x1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S8192x1024, .f32⟩
  | 8 => ⟨S8192x1024, .f32⟩
  | 9 => ⟨S256x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S_, .f32⟩
  | 31 => ⟨S1024, .f32⟩
  | 32 => ⟨S1024, .f32⟩
  | 33 => ⟨S1x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S256x1024, .f32⟩
  | 40 => ⟨S_, .f32⟩
  | 41 => ⟨S256, .f32⟩
  | 42 => ⟨S256x1, .f32⟩
  | 43 => ⟨S_, .f32⟩
  | 44 => ⟨S256x1, .f32⟩
  | 45 => ⟨S256x1, .f32⟩
  | 46 => ⟨S_, .f32⟩
  | 47 => ⟨S256x1, .f32⟩
  | 48 => ⟨S256x1, .f32⟩
  | 49 => ⟨S256x1, .f32⟩
  | 50 => ⟨S256x1, .f32⟩
  | 51 => ⟨S_, .f32⟩
  | 52 => ⟨S256x1, .f32⟩
  | 53 => ⟨S256x1, .f32⟩
  | 54 => ⟨S256x1024, .f32⟩
  | 55 => ⟨S256x1024, .f32⟩
  | 56 => ⟨S1x1024, .f32⟩
  | 57 => ⟨S256x1024, .f32⟩
  | 58 => ⟨S256x1024, .f32⟩
  | 59 => ⟨S_, .f32⟩
  | 60 => ⟨S1024, .f32⟩
  | 61 => ⟨S1024, .f32⟩
  | 62 => ⟨S1x1024, .f32⟩
  | 63 => ⟨S256x1024, .f32⟩
  | 64 => ⟨S256x1024, .f32⟩
  | 65 => ⟨S1x1024, .f32⟩
  | 66 => ⟨S256x1024, .f32⟩
  | 67 => ⟨S256x1024, .f32⟩
  | 68 => ⟨S256x1024, .f32⟩
  | 69 => ⟨S_, .f32⟩
  | 70 => ⟨S1024, .f32⟩
  | 71 => ⟨S1x1024, .f32⟩
  | 72 => ⟨S_, .f32⟩
  | 73 => ⟨S1024, .f32⟩
  | 74 => ⟨S256x1024, .f32⟩
  | 75 => ⟨S_, .f32⟩
  | 76 => ⟨S1024, .f32⟩
  | 77 => ⟨S1x1024, .f32⟩
  | 78 => ⟨S256x1024, .f32⟩
  | 79 => ⟨S256x1024, .f32⟩
  | 80 => ⟨S_, .f32⟩
  | 81 => ⟨S1024, .f32⟩
  | 82 => ⟨S256x1024, .f32⟩
  | 83 => ⟨S_, .f32⟩
  | 84 => ⟨S1024, .f32⟩
  | 85 => ⟨S1x1024, .f32⟩
  | 86 => ⟨S256x1024, .f32⟩
  | 87 => ⟨S256x1024, .f32⟩
  | 88 => ⟨S_, .f32⟩
  | 89 => ⟨S1024, .f32⟩
  | 90 => ⟨S256x1024, .f32⟩
  | 91 => ⟨S_, .f32⟩
  | 92 => ⟨S256, .f32⟩
  | 93 => ⟨S256x1, .f32⟩
  | 94 => ⟨S256x1024, .f32⟩
  | 95 => ⟨S256x1024, .f32⟩
  | 96 => ⟨S256x1, .f32⟩
  | 97 => ⟨S_, .f32⟩
  | 98 => ⟨S256x1, .f32⟩
  | 99 => ⟨S256x1, .f32⟩
  | 100 => ⟨S_, .f32⟩
  | 101 => ⟨S256, .f32⟩
  | 102 => ⟨S256x1024, .f32⟩
  | 103 => ⟨S256x1024, .f32⟩
  | 104 => ⟨S256x1024, .f32⟩
  | 105 => ⟨S256x1024, .f32⟩
  | 106 => ⟨S256x1024, .f32⟩
  | 107 => ⟨S8192x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S8192x1024, .f32⟩
  | 114 => ⟨S_, .f32⟩
  | 115 => ⟨S1024, .f32⟩
  | 116 => ⟨S1x1024, .f32⟩
  | 117 => ⟨S8192x1024, .f32⟩
  | 118 => ⟨S8192x1024, .f32⟩
  | 119 => ⟨S_, .f32⟩
  | 120 => ⟨S1024, .f32⟩
  | 121 => ⟨S8192x1024, .f32⟩
  | 122 => ⟨S_, .f32⟩
  | 123 => ⟨S1024, .f32⟩
  | 124 => ⟨S1x1024, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S1024, .f32⟩
  | 1 => ⟨S1024, .f32⟩
  | 2 => ⟨S8192x1024, .f32⟩
  | 3 => ⟨S_, .f32⟩
  | 4 => ⟨S8192, .f32⟩
  | 5 => ⟨S8192x1, .f32⟩
  | 6 => ⟨S8192x1024, .f32⟩
  | 7 => ⟨S8192x1024, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S1x1024, .f32⟩
  | 21 => ⟨S1x1024, .f32⟩
  | 22 => ⟨S1x1024, .f32⟩
  | 23 => ⟨S1x1024, .f32⟩
  | 24 => ⟨S4x1024, .f32⟩
  | 25 => ⟨S8448x1024, .f32⟩
  | 26 => ⟨S1x1024, .f32⟩
  | 27 => ⟨S_, .f32⟩
  | 28 => ⟨S7x1024, .f32⟩
  | 29 => ⟨S8x1024, .f32⟩
  | 30 => ⟨S_, .f32⟩
  | 31 => ⟨S4x1024, .f32⟩
  | 32 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_14 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_v80 : Ref sig .tc := ⟨.hbm, 110, rfl⟩
abbrev main_cst_19 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_21 : Ref sig .tc := ⟨.hbm, 119, rfl⟩
abbrev main_v87 : Ref sig .tc := ⟨.hbm, 120, rfl⟩
abbrev main_v88 : Ref sig .tc := ⟨.hbm, 121, rfl⟩
abbrev main_cst_22 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_23 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_24 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_25 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_27 : Ref sig .tc := ⟨.hbm, 155, rfl⟩
abbrev main_v117 : Ref sig .tc := ⟨.hbm, 156, rfl⟩
abbrev main_v118 : Ref sig .tc := ⟨.hbm, 157, rfl⟩
abbrev main_cst_28 : Ref sig .tc := ⟨.hbm, 158, rfl⟩
abbrev main_v119 : Ref sig .tc := ⟨.hbm, 159, rfl⟩
abbrev main_v120 : Ref sig .tc := ⟨.hbm, 160, rfl⟩

abbrev nD : Nat := 1
abbrev τ : Topo := Topo.v7x

variable {F : FTy → Type} [FloatOps F]
-- ==== NormTwo.lean ====
abbrev S8192x1024 : Shape := ⟨2, ![8192, 1024]⟩
abbrev S1024 : Shape := ⟨1, ![1024]⟩
abbrev S1x1024 : Shape := ⟨2, ![1, 1024]⟩
abbrev S2x1024 : Shape := ⟨2, ![2, 1024]⟩
abbrev S_ : Shape := ⟨0, ![]⟩
abbrev S6x1024 : Shape := ⟨2, ![6, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S2x1024, .f32⟩
  | .hbm, ⟨9, _⟩ => ⟨S_, .f32⟩
  | .hbm, ⟨10, _⟩ => ⟨S6x1024, .f32⟩
  | .hbm, ⟨11, _⟩ => ⟨S8x1024, .f32⟩
  | .hbm, ⟨12, _⟩ => ⟨S1x1024, .f32⟩
  | .hbm, ⟨13, _⟩ => ⟨S8192x1024, .f32⟩
  | .hbm, ⟨14, _⟩ => ⟨S8x1024, .f32⟩
  | .hbm, ⟨15, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormTwoReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩
abbrev S7x1024 : Shape := ⟨2, ![7, 1024]⟩
abbrev S8x1024 : Shape := ⟨2, ![8, 1024]⟩
abbrev S6x1024 : Shape := ⟨2, ![6, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S1x1024, .f32⟩
  | .hbm, ⟨77, _⟩ => ⟨S2x1024, .f32⟩
  | .hbm, ⟨78, _⟩ => ⟨S1x1024, .f32⟩
  | .hbm, ⟨79, _⟩ => ⟨S_, .f32⟩
  | .hbm, ⟨80, _⟩ => ⟨S7x1024, .f32⟩
  | .hbm, ⟨81, _⟩ => ⟨S8x1024, .f32⟩
  | .hbm, ⟨82, _⟩ => ⟨S_, .f32⟩
  | .hbm, ⟨83, _⟩ => ⟨S6x1024, .f32⟩
  | .hbm, ⟨84, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Glu.lean ====
abbrev S8448x512 : Shape := ⟨2, ![8448, 512]⟩
abbrev S512 : Shape := ⟨1, ![512]⟩
abbrev S512x2048 : Shape := ⟨2, ![512, 2048]⟩
abbrev S8192x1024 : Shape := ⟨2, ![8192, 1024]⟩
abbrev S_ : Shape := ⟨0, ![]⟩
abbrev S8448x2048 : Shape := ⟨2, ![8448, 2048]⟩
abbrev S8448x2560 : Shape := ⟨2, ![8448, 2560]⟩
abbrev S8448x896 : Shape := ⟨2, ![8448, 896]⟩
abbrev S8448x3456 : Shape := ⟨2, ![8448, 3456]⟩
abbrev S1x512 : Shape := ⟨2, ![1, 512]⟩
abbrev S8192x512 : Shape := ⟨2, ![8192, 512]⟩
abbrev S8x512 : Shape := ⟨2, ![8, 512]⟩
abbrev S256x512 : Shape := ⟨2, ![256, 512]⟩
abbrev S256x1024 : Shape := ⟨2, ![256, 1024]⟩
abbrev S256x2048 : Shape := ⟨2, ![256, 2048]⟩

abbrev nBuf : Space → Nat
  | .hbm => 18
  | .vmem => 16
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S512, .f32⟩
  | .hbm, ⟨4, _⟩ => ⟨S512x2048, .f32⟩
  | .hbm, ⟨5, _⟩ => ⟨S8192x1024, .f32⟩
  | .hbm, ⟨6, _⟩ => ⟨S_, .f32⟩
  | .hbm, ⟨7, _⟩ => ⟨S8448x2048, .f32⟩
  | .hbm, ⟨8, _⟩ => ⟨S8448x2560, .f32⟩
  | .hbm, ⟨9, _⟩ => ⟨S_, .f32⟩
  | .hbm, ⟨10, _⟩ => ⟨S8448x896, .f32⟩
  | .hbm, ⟨11, _⟩ => ⟨S8448x3456, .f32⟩
  | .hbm, ⟨12, _⟩ => ⟨S1x512, .f32⟩
  | .hbm, ⟨13, _⟩ => ⟨S512x2048, .bf16⟩
  | .hbm, ⟨14, _⟩ => ⟨S8192x512, .f32⟩
  | .hbm, ⟨15, _⟩ => ⟨S8192x512, .f32⟩
  | .hbm, ⟨16, _⟩ => ⟨S8x512, .f32⟩
  | .hbm, ⟨17, _⟩ => ⟨S512x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S512x2048, .bf16⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S8x512, .f32⟩
  | .local _ .vmem, ⟨15, _⟩ => ⟨S512x2048, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GluReferenceIdeal.lean ====
abbrev S8448x512 : Shape := ⟨2, ![8448, 512]⟩
abbrev S512 : Shape := ⟨1, ![512]⟩
abbrev S512x2048 : Shape := ⟨2, ![512, 2048]⟩
abbrev S8192x1024 : Shape := ⟨2, ![8192, 1024]⟩
abbrev S8192x512 : Shape := ⟨2, ![8192, 512]⟩
abbrev S1x512 : Shape := ⟨2, ![1, 512]⟩
abbrev S_ : Shape := ⟨0, ![]⟩
abbrev S8192x2048 : Shape := ⟨2, ![8192, 2048]⟩
abbrev S2048x512 : Shape := ⟨2, ![2048, 512]⟩
abbrev S7x512 : Shape := ⟨2, ![7, 512]⟩
abbrev S8x512 : Shape := ⟨2, ![8, 512]⟩

abbrev nBuf : Space → Nat
  | .hbm => 100
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S512, .f32⟩
  | .hbm, ⟨4, _⟩ => ⟨S512x2048, .f32⟩
  | .hbm, ⟨5, _⟩ => ⟨S8192x1024, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x2048, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x2048, .f32⟩
  | .hbm, ⟨62, _⟩ => ⟨S2048x512, .f32⟩
  | .hbm, ⟨63, _⟩ => ⟨S512x2048, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S_, .f32⟩
  | .hbm, ⟨81, _⟩ => ⟨S8448x512, .f32⟩
  | .hbm, ⟨82, _⟩ => ⟨S_, .f32⟩
  | .hbm, ⟨83, _⟩ => ⟨S8448x512, .f32⟩
  | .hbm, ⟨84, _⟩ => ⟨S8192x512, .f32⟩
  | .hbm, ⟨85, _⟩ => ⟨S_, .f32⟩
  | .hbm, ⟨86, _⟩ => ⟨S512, .f32⟩
  | .hbm, ⟨87, _⟩ => ⟨S1x512, .f32⟩
  | .hbm, ⟨88, _⟩ => ⟨S8192x512, .f32⟩
  | .hbm, ⟨89, _⟩ => ⟨S8192x512, .f32⟩
  | .hbm, ⟨90, _⟩ => ⟨S_, .f32⟩
  | .hbm, ⟨91, _⟩ => ⟨S512, .f32⟩
  | .hbm, ⟨92, _⟩ => ⟨S_, .f32⟩
  | .hbm, ⟨93, _⟩ => ⟨S8448x512, .f32⟩
  | .hbm, ⟨94, _⟩ => ⟨S8192x512, .f32⟩
  | .hbm, ⟨95, _⟩ => ⟨S8192x512, .f32⟩
  | .hbm, ⟨96, _⟩ => ⟨S1x512, .f32⟩
  | .hbm, ⟨97, _⟩ => ⟨S_, .f32⟩
  | .hbm, ⟨98, _⟩ => ⟨S7x512, .f32⟩
  | .hbm, ⟨99, _⟩ => ⟨S8x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== Merge.lean ====
abbrev S8192x8x64 : Shape := ⟨3, ![8192, 8, 64]⟩
abbrev S8192x1024 : Shape := ⟨2, ![8192, 1024]⟩
abbrev S8448x2048 : Shape := ⟨2, ![8448, 2048]⟩
abbrev S8448x1024 : Shape := ⟨2, ![8448, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S8448x1408 : Shape := ⟨2, ![8448, 1408]⟩
abbrev S8448x3456 : Shape := ⟨2, ![8448, 3456]⟩
abbrev S8x64x1024 : Shape := ⟨3, ![8, 64, 1024]⟩
abbrev S8x128x1024 : Shape := ⟨3, ![8, 128, 1024]⟩
abbrev S8192x8x128 : Shape := ⟨3, ![8192, 8, 128]⟩
abbrev S1x1024 : Shape := ⟨2, ![1, 1024]⟩
abbrev S8192x2048 : Shape := ⟨2, ![8192, 2048]⟩
abbrev S8x1024 : Shape := ⟨2, ![8, 1024]⟩
abbrev S256x1024 : Shape := ⟨2, ![256, 1024]⟩
abbrev S256x2048 : Shape := ⟨2, ![256, 2048]⟩

abbrev nBuf : Space → Nat
  | .hbm => 28
  | .vmem => 22
  | .smem => 0
  | _ => 0

abbrev bufTy : (tb : Table) → Fin (tcTables nBuf tb) → BufTy
  | .hbm, ⟨0, _⟩ => ⟨S8192x8x64, .f32⟩
  | .hbm, ⟨1, _⟩ => ⟨S8192x1024, .f32⟩
  | .hbm, ⟨2, _⟩ => ⟨S8448x2048, .f32⟩
  | .hbm, ⟨3, _⟩ => ⟨S8448x1024, .f32⟩
  | .hbm, ⟨4, _⟩ => ⟨S1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S_, .f32⟩
  | .hbm, ⟨9, _⟩ => ⟨S8448x1408, .f32⟩
  | .hbm, ⟨10, _⟩ => ⟨S8448x3456, .f32⟩
  | .hbm, ⟨11, _⟩ => ⟨S8x64x1024, .f32⟩
  | .hbm, ⟨12, _⟩ => ⟨S_, .f32⟩
  | .hbm, ⟨13, _⟩ => ⟨S8x128x1024, .f32⟩
  | .hbm, ⟨14, _⟩ => ⟨S_, .f32⟩
  | .hbm, ⟨15, _⟩ => ⟨S8192x8x128, .f32⟩
  | .hbm, ⟨16, _⟩ => ⟨S8192x1024, .f32⟩
  | .hbm, ⟨17, _⟩ => ⟨S8192x1024, .bf16⟩
  | .hbm, ⟨18, _⟩ => ⟨S1x1024, .f32⟩
  | .hbm, ⟨19, _⟩ => ⟨S1024x1024, .f32⟩
  | .hbm, ⟨20, _⟩ => ⟨S1024x1024, .bf16⟩
  | .hbm, ⟨21, _⟩ => ⟨S1024x1024, .bf16⟩
  | .hbm, ⟨22, _⟩ => ⟨S8192x1024, .bf16⟩
  | .hbm, ⟨23, _⟩ => ⟨S8192x1024, .f32⟩
  | .hbm, ⟨24, _⟩ => ⟨S8192x2048, .f32⟩
  | .hbm, ⟨25, _⟩ => ⟨S8x1024, .f32⟩
  | .hbm, ⟨26, _⟩ => ⟨S1024x1024, .f32⟩
  | .hbm, ⟨27, _⟩ => ⟨S1024x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x2048, .f32⟩
  | .local _ .vmem, ⟨18, _⟩ => ⟨S256x2048, .f32⟩
  | .local _ .vmem, ⟨19, _⟩ => ⟨S8x1024, .f32⟩
  | .local _ .vmem, ⟨20, _⟩ => ⟨S1024x1024, .f32⟩
  | .local _ .vmem, ⟨21, _⟩ => ⟨S1024x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v11_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MergeReferenceIdeal.lean ====
abbrev S8192x8x64 : Shape := ⟨3, ![8192, 8, 64]⟩
abbrev S8192x1024 : Shape := ⟨2, ![8192, 1024]⟩
abbrev S8448x2048 : Shape := ⟨2, ![8448, 2048]⟩
abbrev S8448x1024 : Shape := ⟨2, ![8448, 1024]⟩
abbrev S1024 : Shape := ⟨1, ![1024]⟩
abbrev S512x1024 : Shape := ⟨2, ![512, 1024]⟩
abbrev S1024x1024 : Shape := ⟨2, ![1024, 1024]⟩
abbrev S8192x512 : Shape := ⟨2, ![8192, 512]⟩
abbrev S8192x2048 : Shape := ⟨2, ![8192, 2048]⟩
abbrev S_ : Shape := ⟨0, ![]⟩
abbrev S1x1024 : Shape := ⟨2, ![1, 1024]⟩
abbrev S1024x512 : Shape := ⟨2, ![1024, 512]⟩
abbrev S8x64x1024 : Shape := ⟨3, ![8, 64, 1024]⟩
abbrev S8x128x1024 : Shape := ⟨3, ![8, 128, 1024]⟩
abbrev S8192x8x128 : Shape := ⟨3, ![8192, 8, 128]⟩
abbrev S7x1024 : Shape := ⟨2, ![7, 1024]⟩
abbrev S8x1024 : Shape := ⟨2, ![8, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x1024, .f32⟩
  | .hbm, ⟨2, _⟩ => ⟨S8448x2048, .f32⟩
  | .hbm, ⟨3, _⟩ => ⟨S8448x1024, .f32⟩
  | .hbm, ⟨4, _⟩ => ⟨S1024, .f32⟩
  | .hbm, ⟨5, _⟩ => ⟨S512x1024, .f32⟩
  | .hbm, ⟨6, _⟩ => ⟨S1024x1024, .f32⟩
  | .hbm, ⟨7, _⟩ => ⟨S8192x1024, .f32⟩
  | .hbm, ⟨8, _⟩ => ⟨S8192x512, .f32⟩
  | .hbm, ⟨9, _⟩ => ⟨S8192x1024, .f32⟩
  | .hbm, ⟨10, _⟩ => ⟨S8192x2048, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S1024x1024, .f32⟩
  | .hbm, ⟨55, _⟩ => ⟨S1024x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x2048, .f32⟩
  | .hbm, ⟨64, _⟩ => ⟨S_, .f32⟩
  | .hbm, ⟨65, _⟩ => ⟨S8448x2048, .f32⟩
  | .hbm, ⟨66, _⟩ => ⟨S1024x512, .f32⟩
  | .hbm, ⟨67, _⟩ => ⟨S512x1024, .f32⟩
  | .hbm, ⟨68, _⟩ => ⟨S8192x512, .f32⟩
  | .hbm, ⟨69, _⟩ => ⟨S8192x8x64, .f32⟩
  | .hbm, ⟨70, _⟩ => ⟨S8x64x1024, .f32⟩
  | .hbm, ⟨71, _⟩ => ⟨S_, .f32⟩
  | .hbm, ⟨72, _⟩ => ⟨S8x128x1024, .f32⟩
  | .hbm, ⟨73, _⟩ => ⟨S_, .f32⟩
  | .hbm, ⟨74, _⟩ => ⟨S8192x8x128, .f32⟩
  | .hbm, ⟨75, _⟩ => ⟨S8192x1024, .f32⟩
  | .hbm, ⟨76, _⟩ => ⟨S8192x1024, .bf16⟩
  | .hbm, ⟨77, _⟩ => ⟨S8192x2048, .f32⟩
  | .hbm, ⟨78, _⟩ => ⟨S1x1024, .f32⟩
  | .hbm, ⟨79, _⟩ => ⟨S_, .f32⟩
  | .hbm, ⟨80, _⟩ => ⟨S7x1024, .f32⟩
  | .hbm, ⟨81, _⟩ => ⟨S8x1024, .f32⟩
  | .hbm, ⟨82, _⟩ => ⟨S1024x1024, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Prep.lean ====
abbrev S32x64 : Shape := ⟨2, ![32, 64]⟩
abbrev S32x64x16 : Shape := ⟨3, ![32, 64, 16]⟩
abbrev S1x2048 : Shape := ⟨2, ![1, 2048]⟩
abbrev S16x32x64 : Shape := ⟨3, ![16, 32, 64]⟩
abbrev S16x2048 : Shape := ⟨2, ![16, 2048]⟩
abbrev S2048 : Shape := ⟨1, ![2048]⟩

abbrev nBuf : Space → Nat
  | .hbm => 27
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S16x32x64, .f32⟩
  | .hbm, ⟨13, _⟩ => ⟨S16x2048, .f32⟩
  | .hbm, ⟨14, _⟩ => ⟨S16x32x64, .f32⟩
  | .hbm, ⟨15, _⟩ => ⟨S16x2048, .f32⟩
  | .hbm, ⟨16, _⟩ => ⟨S1x2048, .f32⟩
  | .hbm, ⟨17, _⟩ => ⟨S1x2048, .f32⟩
  | .hbm, ⟨18, _⟩ => ⟨S16x32x64, .f32⟩
  | .hbm, ⟨19, _⟩ => ⟨S16x2048, .f32⟩
  | .hbm, ⟨20, _⟩ => ⟨S16x32x64, .f32⟩
  | .hbm, ⟨21, _⟩ => ⟨S16x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S16x2048, .f32⟩
  | .hbm, ⟨26, _⟩ => ⟨S16x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S16x2048, .f32⟩
  | .local _ .vmem, ⟨13, _⟩ => ⟨S16x2048, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== PrepReferenceIdeal.lean ====
abbrev S32x64 : Shape := ⟨2, ![32, 64]⟩
abbrev S32x64x16 : Shape := ⟨3, ![32, 64, 16]⟩
abbrev S_ : Shape := ⟨0, ![]⟩
abbrev S32x64x1 : Shape := ⟨3, ![32, 64, 1]⟩
abbrev S1x2048 : Shape := ⟨2, ![1, 2048]⟩
abbrev S16x32x64 : Shape := ⟨3, ![16, 32, 64]⟩
abbrev S16x2048 : Shape := ⟨2, ![16, 2048]⟩

abbrev nBuf : Space → Nat
  | .hbm => 146
  | .vmem => 0
  | .smem => 0
  | _ => 0

abbrev hbmTy0_0 (i : Nat) : BufTy := match i % 128 with
  | 0 => ⟨S32x64, .f32⟩
  | 1 => ⟨S32x64, .f32⟩
  | 2 => ⟨S32x64, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S_, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S_, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S_, .f32⟩
  | 39 => ⟨S32x64, .f32⟩
  | 40 => ⟨S32x64, .f32⟩
  | 41 => ⟨S32x64x1, .f32⟩
  | 42 => ⟨S32x64x1, .f32⟩
  | 43 => ⟨S32x64x16, .f32⟩
  | 44 => ⟨S32x64x16, .f32⟩
  | 45 => ⟨S32x64x16, .f32⟩
  | 46 => ⟨S32x64x16, .f32⟩
  | 47 => ⟨S32x64x16, .f32⟩
  | 48 => ⟨S32x64x16, .f32⟩
  | 49 => ⟨S32x64x16, .f32⟩
  | 50 => ⟨S32x64x16, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S_, .f32⟩
  | 59 => ⟨S32x64, .f32⟩
  | 60 => ⟨S32x64x1, .f32⟩
  | 61 => ⟨S32x64x16, .f32⟩
  | 62 => ⟨S32x64x16, .f32⟩
  | 63 => ⟨S32x64x16, .f32⟩
  | 64 => ⟨S_, .f32⟩
  | 65 => ⟨S32x64, .f32⟩
  | 66 => ⟨S32x64x1, .f32⟩
  | 67 => ⟨S32x64x16, .f32⟩
  | 68 => ⟨S32x64x16, .f32⟩
  | 69 => ⟨S32x64x16, .f32⟩
  | 70 => ⟨S32x64x16, .f32⟩
  | 71 => ⟨S32x64x16, .f32⟩
  | 72 => ⟨S32x64x16, .f32⟩
  | 73 => ⟨S_, .f32⟩
  | 74 => ⟨S32x64, .f32⟩
  | 75 => ⟨S32x64x1, .f32⟩
  | 76 => ⟨S32x64x1, .f32⟩
  | 77 => ⟨S32x64x16, .f32⟩
  | 78 => ⟨S32x64x16, .f32⟩
  | 79 => ⟨S32x64x16, .f32⟩
  | 80 => ⟨S32x64x16, .f32⟩
  | 81 => ⟨S_, .f32⟩
  | 82 => ⟨S32x64, .f32⟩
  | 83 => ⟨S32x64x1, .f32⟩
  | 84 => ⟨S32x64x1, .f32⟩
  | 85 => ⟨S_, .f32⟩
  | 86 => ⟨S32x64, .f32⟩
  | 87 => ⟨S_, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S1x2048, .f32⟩
  | 12 => ⟨S1x2048, .f32⟩
  | 13 => ⟨S1x2048, .f32⟩
  | 14 => ⟨S16x32x64, .f32⟩
  | 15 => ⟨S16x2048, .f32⟩
  | 16 => ⟨S16x32x64, .f32⟩
  | 17 => ⟨S16x2048, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_3 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩

abbrev nD : Nat := 1
abbrev τ : Topo := Topo.v7x

variable {F : FTy → Type} [FloatOps F]
-- ==== GluFwd.lean ====
abbrev S8448x512 : Shape := ⟨2, ![8448, 512]⟩
abbrev S512 : Shape := ⟨1, ![512]⟩
abbrev S512x2048 : Shape := ⟨2, ![512, 2048]⟩
abbrev S_ : Shape := ⟨0, ![]⟩
abbrev S8448x2048 : Shape := ⟨2, ![8448, 2048]⟩
abbrev S8448x2560 : Shape := ⟨2, ![8448, 2560]⟩
abbrev S8448x896 : Shape := ⟨2, ![8448, 896]⟩
abbrev S8448x3456 : Shape := ⟨2, ![8448, 3456]⟩
abbrev S1x512 : Shape := ⟨2, ![1, 512]⟩
abbrev S8192x1024 : Shape := ⟨2, ![8192, 1024]⟩
abbrev S256x512 : Shape := ⟨2, ![256, 512]⟩
abbrev S256x1024 : Shape := ⟨2, ![256, 1024]⟩
abbrev S256x2048 : Shape := ⟨2, ![256, 2048]⟩

abbrev nBuf : Space → Nat
  | .hbm => 14
  | .vmem => 10
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S512, .f32⟩
  | .hbm, ⟨4, _⟩ => ⟨S512x2048, .f32⟩
  | .hbm, ⟨5, _⟩ => ⟨S_, .f32⟩
  | .hbm, ⟨6, _⟩ => ⟨S8448x2048, .f32⟩
  | .hbm, ⟨7, _⟩ => ⟨S8448x2560, .f32⟩
  | .hbm, ⟨8, _⟩ => ⟨S_, .f32⟩
  | .hbm, ⟨9, _⟩ => ⟨S8448x896, .f32⟩
  | .hbm, ⟨10, _⟩ => ⟨S8448x3456, .f32⟩
  | .hbm, ⟨11, _⟩ => ⟨S1x512, .f32⟩
  | .hbm, ⟨12, _⟩ => ⟨S512x2048, .bf16⟩
  | .hbm, ⟨13, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S512x2048, .bf16⟩
  | .local _ .vmem, ⟨8, _⟩ => ⟨S256x1024, .f32⟩
  | .local _ .vmem, ⟨9, _⟩ => ⟨S256x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluFwdReferenceIdeal.lean ====
abbrev S8448x512 : Shape := ⟨2, ![8448, 512]⟩
abbrev S512 : Shape := ⟨1, ![512]⟩
abbrev S512x2048 : Shape := ⟨2, ![512, 2048]⟩
abbrev S8192x512 : Shape := ⟨2, ![8192, 512]⟩
abbrev S1x512 : Shape := ⟨2, ![1, 512]⟩
abbrev S_ : Shape := ⟨0, ![]⟩
abbrev S8192x2048 : Shape := ⟨2, ![8192, 2048]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S512, .f32⟩
  | .hbm, ⟨4, _⟩ => ⟨S512x2048, .f32⟩
  | .hbm, ⟨5, _⟩ => ⟨S8192x512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MergeFwd.lean ====
abbrev S8192x8x64 : Shape := ⟨3, ![8192, 8, 64]⟩
abbrev S8192x1024 : Shape := ⟨2, ![8192, 1024]⟩
abbrev S8448x2048 : Shape := ⟨2, ![8448, 2048]⟩
abbrev S8448x1024 : Shape := ⟨2, ![8448, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S8448x1408 : Shape := ⟨2, ![8448, 1408]⟩
abbrev S8448x3456 : Shape := ⟨2, ![8448, 3456]⟩
abbrev S8x64x1024 : Shape := ⟨3, ![8, 64, 1024]⟩
abbrev S8x128x1024 : Shape := ⟨3, ![8, 128, 1024]⟩
abbrev S8192x8x128 : Shape := ⟨3, ![8192, 8, 128]⟩
abbrev S1x1024 : Shape := ⟨2, ![1, 1024]⟩
abbrev S256x1024 : Shape := ⟨2, ![256, 1024]⟩
abbrev S256x2048 : Shape := ⟨2, ![256, 2048]⟩

abbrev nBuf : Space → Nat
  | .hbm => 22
  | .vmem => 13
  | .smem => 0
  | _ => 0

abbrev bufTy : (tb : Table) → Fin (tcTables nBuf tb) → BufTy
  | .hbm, ⟨0, _⟩ => ⟨S8192x8x64, .f32⟩
  | .hbm, ⟨1, _⟩ => ⟨S8192x1024, .f32⟩
  | .hbm, ⟨2, _⟩ => ⟨S8448x2048, .f32⟩
  | .hbm, ⟨3, _⟩ => ⟨S8448x1024, .f32⟩
  | .hbm, ⟨4, _⟩ => ⟨S1024, .f32⟩
  | .hbm, ⟨5, _⟩ => ⟨S512x1024, .f32⟩
  | .hbm, ⟨6, _⟩ => ⟨S1024x1024, .f32⟩
  | .hbm, ⟨7, _⟩ => ⟨S_, .f32⟩
  | .hbm, ⟨8, _⟩ => ⟨S8448x1408, .f32⟩
  | .hbm, ⟨9, _⟩ => ⟨S8448x3456, .f32⟩
  | .hbm, ⟨10, _⟩ => ⟨S8x64x1024, .f32⟩
  | .hbm, ⟨11, _⟩ => ⟨S_, .f32⟩
  | .hbm, ⟨12, _⟩ => ⟨S8x128x1024, .f32⟩
  | .hbm, ⟨13, _⟩ => ⟨S_, .f32⟩
  | .hbm, ⟨14, _⟩ => ⟨S8192x8x128, .f32⟩
  | .hbm, ⟨15, _⟩ => ⟨S8192x1024, .f32⟩
  | .hbm, ⟨16, _⟩ => ⟨S8192x1024, .bf16⟩
  | .hbm, ⟨17, _⟩ => ⟨S1x1024, .f32⟩
  | .hbm, ⟨18, _⟩ => ⟨S1024x1024, .f32⟩
  | .hbm, ⟨19, _⟩ => ⟨S1024x1024, .bf16⟩
  | .hbm, ⟨20, _⟩ => ⟨S1024x1024, .bf16⟩
  | .hbm, ⟨21, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeFwdReferenceIdeal.lean ====
abbrev S8192x8x64 : Shape := ⟨3, ![8192, 8, 64]⟩
abbrev S8192x1024 : Shape := ⟨2, ![8192, 1024]⟩
abbrev S8448x2048 : Shape := ⟨2, ![8448, 2048]⟩
abbrev S8448x1024 : Shape := ⟨2, ![8448, 1024]⟩
abbrev S1024 : Shape := ⟨1, ![1024]⟩
abbrev S512x1024 : Shape := ⟨2, ![512, 1024]⟩
abbrev S1024x1024 : Shape := ⟨2, ![1024, 1024]⟩
abbrev S8192x512 : Shape := ⟨2, ![8192, 512]⟩
abbrev S8192x2048 : Shape := ⟨2, ![8192, 2048]⟩
abbrev S_ : Shape := ⟨0, ![]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x1024, .f32⟩
  | .hbm, ⟨2, _⟩ => ⟨S8448x2048, .f32⟩
  | .hbm, ⟨3, _⟩ => ⟨S8448x1024, .f32⟩
  | .hbm, ⟨4, _⟩ => ⟨S1024, .f32⟩
  | .hbm, ⟨5, _⟩ => ⟨S512x1024, .f32⟩
  | .hbm, ⟨6, _⟩ => ⟨S1024x1024, .f32⟩
  | .hbm, ⟨7, _⟩ => ⟨S8192x512, .f32⟩
  | .hbm, ⟨8, _⟩ => ⟨S8192x1024, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== NormFwd.lean ====
abbrev S8192x1024 : Shape := ⟨2, ![8192, 1024]⟩
abbrev S256x1024 : Shape := ⟨2, ![256, 1024]⟩
abbrev S1024 : Shape := ⟨1, ![1024]⟩
abbrev S8448x1024 : Shape := ⟨2, ![8448, 1024]⟩
abbrev S1x1024 : Shape := ⟨2, ![1, 1024]⟩
abbrev S2x1024 : Shape := ⟨2, ![2, 1024]⟩
abbrev S4x1024 : Shape := ⟨2, ![4, 1024]⟩
abbrev S_ : Shape := ⟨0, ![]⟩
abbrev S8x1024 : Shape := ⟨2, ![8, 1024]⟩
abbrev S256 : Shape := ⟨1, ![256]⟩
abbrev S256x1 : Shape := ⟨2, ![256, 1]⟩

abbrev nBuf : Space → Nat
  | .hbm => 20
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8448x1024, .f32⟩
  | .hbm, ⟨8, _⟩ => ⟨S1x1024, .f32⟩
  | .hbm, ⟨9, _⟩ => ⟨S1x1024, .f32⟩
  | .hbm, ⟨10, _⟩ => ⟨S2x1024, .f32⟩
  | .hbm, ⟨11, _⟩ => ⟨S1x1024, .f32⟩
  | .hbm, ⟨12, _⟩ => ⟨S1x1024, .f32⟩
  | .hbm, ⟨13, _⟩ => ⟨S2x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S8x1024, .f32⟩
  | .hbm, ⟨18, _⟩ => ⟨S1x1024, .f32⟩
  | .hbm, ⟨19, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S256x1024, .bf16⟩
  | .local _ .vmem, ⟨5, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdReferenceIdeal.lean ====
abbrev S8192x1024 : Shape := ⟨2, ![8192, 1024]⟩
abbrev S256x1024 : Shape := ⟨2, ![256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256 : Shape := ⟨1, ![256]⟩
abbrev S256x1 : Shape := ⟨2, ![256, 1]⟩
abbrev S8448x1024 : Shape := ⟨2, ![8448, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x1, .f32⟩
  | .hbm, ⟨43, _⟩ => ⟨S256x1024, .f32⟩
  | .hbm, ⟨44, _⟩ => ⟨S256x1024, .f32⟩
  | .hbm, ⟨45, _⟩ => ⟨S1x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S256x1024, .f32⟩
  | .hbm, ⟨53, _⟩ => ⟨S256x1024, .f32⟩
  | .hbm, ⟨54, _⟩ => ⟨S1x1024, .f32⟩
  | .hbm, ⟨55, _⟩ => ⟨S256x1024, .f32⟩
  | .hbm, ⟨56, _⟩ => ⟨S256x1024, .f32⟩
  | .hbm, ⟨57, _⟩ => ⟨S8448x1024, .f32⟩
  | .hbm, ⟨58, _⟩ => ⟨S8448x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== ModFwd.lean ====
abbrev S8x1024 : Shape := ⟨2, ![8, 1024]⟩
abbrev S1024 : Shape := ⟨1, ![1024]⟩
abbrev S1024x768 : Shape := ⟨2, ![1024, 768]⟩
abbrev S768 : Shape := ⟨1, ![768]⟩
abbrev S1x1024 : Shape := ⟨2, ![1, 1024]⟩
abbrev S9x1024 : Shape := ⟨2, ![9, 1024]⟩
abbrev S_ : Shape := ⟨0, ![]⟩
abbrev S7x1024 : Shape := ⟨2, ![7, 1024]⟩
abbrev S16x1024 : Shape := ⟨2, ![16, 1024]⟩
abbrev S1x768 : Shape := ⟨2, ![1, 768]⟩
abbrev S16x768 : Shape := ⟨2, ![16, 768]⟩

abbrev nBuf : Space → Nat
  | .hbm => 11
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x768, .f32⟩
  | .hbm, ⟨3, _⟩ => ⟨S768, .f32⟩
  | .hbm, ⟨4, _⟩ => ⟨S1x1024, .f32⟩
  | .hbm, ⟨5, _⟩ => ⟨S9x1024, .f32⟩
  | .hbm, ⟨6, _⟩ => ⟨S_, .f32⟩
  | .hbm, ⟨7, _⟩ => ⟨S7x1024, .f32⟩
  | .hbm, ⟨8, _⟩ => ⟨S16x1024, .f32⟩
  | .hbm, ⟨9, _⟩ => ⟨S1x768, .f32⟩
  | .hbm, ⟨10, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModFwdReferenceIdeal.lean ====
abbrev S8x1024 : Shape := ⟨2, ![8, 1024]⟩
abbrev S1024 : Shape := ⟨1, ![1024]⟩
abbrev S1024x768 : Shape := ⟨2, ![1024, 768]⟩
abbrev S768 : Shape := ⟨1, ![768]⟩
abbrev S_ : Shape := ⟨0, ![]⟩
abbrev S8x768 : Shape := ⟨2, ![8, 768]⟩
abbrev S1x1024 : Shape := ⟨2, ![1, 1024]⟩
abbrev S1x768 : Shape := ⟨2, ![1, 768]⟩
abbrev S9x768 : Shape := ⟨2, ![9, 768]⟩
abbrev S7x768 : Shape := ⟨2, ![7, 768]⟩
abbrev S16x768 : Shape := ⟨2, ![16, 768]⟩

abbrev nBuf : Space → Nat
  | .hbm => 32
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x768, .f32⟩
  | .hbm, ⟨3, _⟩ => ⟨S768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x768, .f32⟩
  | .hbm, ⟨25, _⟩ => ⟨S9x768, .f32⟩
  | .hbm, ⟨26, _⟩ => ⟨S_, .f32⟩
  | .hbm, ⟨27, _⟩ => ⟨S7x768, .f32⟩
  | .hbm, ⟨28, _⟩ => ⟨S16x768, .f32⟩
  | .hbm, ⟨29, _⟩ => ⟨S1x768, .f32⟩
  | .hbm, ⟨30, _⟩ => ⟨S16x768, .f32⟩
  | .hbm, ⟨31, _⟩ => ⟨S16x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩

abbrev nD : Nat := 1
abbrev τ : Topo := Topo.v7x

variable {F : FTy → Type} [FloatOps F]
-- ==== PrepFwd.lean ====
abbrev S32x64 : Shape := ⟨2, ![32, 64]⟩
abbrev S32x64x16 : Shape := ⟨3, ![32, 64, 16]⟩
abbrev S1x2048 : Shape := ⟨2, ![1, 2048]⟩
abbrev S16x32x64 : Shape := ⟨3, ![16, 32, 64]⟩
abbrev S16x2048 : Shape := ⟨2, ![16, 2048]⟩
abbrev S8x2048 : Shape := ⟨2, ![8, 2048]⟩

abbrev nBuf : Space → Nat
  | .hbm => 16
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S16x32x64, .f32⟩
  | .hbm, ⟨9, _⟩ => ⟨S16x2048, .f32⟩
  | .hbm, ⟨10, _⟩ => ⟨S16x32x64, .f32⟩
  | .hbm, ⟨11, _⟩ => ⟨S16x2048, .f32⟩
  | .hbm, ⟨12, _⟩ => ⟨S8x2048, .f32⟩
  | .hbm, ⟨13, _⟩ => ⟨S8x2048, .f32⟩
  | .hbm, ⟨14, _⟩ => ⟨S16x2048, .f32⟩
  | .hbm, ⟨15, _⟩ => ⟨S16x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S8x2048, .f32⟩
  | .local _ .vmem, ⟨6, _⟩ => ⟨S8x2048, .f32⟩
  | .local _ .vmem, ⟨7, _⟩ => ⟨S16x2048, .f32⟩
  | .local _ .vmem, ⟨8, _⟩ => ⟨S16x2048, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== PrepFwdReferenceIdeal.lean ====
abbrev S32x64 : Shape := ⟨2, ![32, 64]⟩
abbrev S32x64x16 : Shape := ⟨3, ![32, 64, 16]⟩
abbrev S_ : Shape := ⟨0, ![]⟩
abbrev S32x64x1 : Shape := ⟨3, ![32, 64, 1]⟩
abbrev S8 : Shape := ⟨1, ![8]⟩
abbrev S8x1 : Shape := ⟨2, ![8, 1]⟩
abbrev S1x2048 : Shape := ⟨2, ![1, 2048]⟩
abbrev S8x2048 : Shape := ⟨2, ![8, 2048]⟩
abbrev S16x32x64 : Shape := ⟨3, ![16, 32, 64]⟩
abbrev S16x2048 : Shape := ⟨2, ![16, 2048]⟩

abbrev nBuf : Space → Nat
  | .hbm => 69
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S_, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S_, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64x1, .f32⟩
  | .hbm, ⟨31, _⟩ => ⟨S32x64x16, .f32⟩
  | .hbm, ⟨32, _⟩ => ⟨S32x64x16, .f32⟩
  | .hbm, ⟨33, _⟩ => ⟨S32x64x1, .f32⟩
  | .hbm, ⟨34, _⟩ => ⟨S32x64x16, .f32⟩
  | .hbm, ⟨35, _⟩ => ⟨S32x64x16, .f32⟩
  | .hbm, ⟨36, _⟩ => ⟨S32x64x16, .f32⟩
  | .hbm, ⟨37, _⟩ => ⟨S32x64x1, .f32⟩
  | .hbm, ⟨38, _⟩ => ⟨S32x64x16, .f32⟩
  | .hbm, ⟨39, _⟩ => ⟨S32x64x16, .f32⟩
  | .hbm, ⟨40, _⟩ => ⟨S32x64x1, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S8, .i32⟩
  | .hbm, ⟨45, _⟩ => ⟨S_, .i32⟩
  | .hbm, ⟨46, _⟩ => ⟨S8, .i32⟩
  | .hbm, ⟨47, _⟩ => ⟨S8, .i32⟩
  | .hbm, ⟨48, _⟩ => ⟨S8, .f32⟩
  | .hbm, ⟨49, _⟩ => ⟨S8x1, .f32⟩
  | .hbm, ⟨50, _⟩ => ⟨S32x64, .f32⟩
  | .hbm, ⟨51, _⟩ => ⟨S1x2048, .f32⟩
  | .hbm, ⟨52, _⟩ => ⟨S8x2048, .f32⟩
  | .hbm, ⟨53, _⟩ => ⟨S8x2048, .f32⟩
  | .hbm, ⟨54, _⟩ => ⟨S8x2048, .f32⟩
  | .hbm, ⟨55, _⟩ => ⟨S8x2048, .f32⟩
  | .hbm, ⟨56, _⟩ => ⟨S32x64, .f32⟩
  | .hbm, ⟨57, _⟩ => ⟨S1x2048, .f32⟩
  | .hbm, ⟨58, _⟩ => ⟨S8x2048, .f32⟩
  | .hbm, ⟨59, _⟩ => ⟨S8x2048, .f32⟩
  | .hbm, ⟨60, _⟩ => ⟨S8x2048, .f32⟩
  | .hbm, ⟨61, _⟩ => ⟨S8x2048, .f32⟩
  | .hbm, ⟨62, _⟩ => ⟨S8x2048, .f32⟩
  | .hbm, ⟨63, _⟩ => ⟨S8x2048, .f32⟩
  | .hbm, ⟨64, _⟩ => ⟨S8x2048, .f32⟩
  | .hbm, ⟨65, _⟩ => ⟨S16x32x64, .f32⟩
  | .hbm, ⟨66, _⟩ => ⟨S16x2048, .f32⟩
  | .hbm, ⟨67, _⟩ => ⟨S16x32x64, .f32⟩
  | .hbm, ⟨68, _⟩ => ⟨S16x2048, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_c : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩

abbrev nD : Nat := 1
abbrev τ : Topo := Topo.v7x

variable {F : FTy → Type} [FloatOps F]
-- ==== ConvFwd.lean ====
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S5x5632 : Shape := ⟨2, ![5, 5632]⟩
abbrev S8x5632 : Shape := ⟨2, ![8, 5632]⟩
abbrev S1x5632 : Shape := ⟨2, ![1, 5632]⟩
abbrev S8192x2816 : Shape := ⟨2, ![8192, 2816]⟩
abbrev S256x5632 : Shape := ⟨2, ![256, 5632]⟩
abbrev S256x2816 : Shape := ⟨2, ![256, 2816]⟩

abbrev nBuf : Space → Nat
  | .hbm => 8
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S5x5632, .f32⟩
  | .hbm, ⟨5, _⟩ => ⟨S8x5632, .f32⟩
  | .hbm, ⟨6, _⟩ => ⟨S1x5632, .f32⟩
  | .hbm, ⟨7, _⟩ => ⟨S8192x2816, .bf16⟩
  | .local _ .vmem, ⟨0, _⟩ => ⟨S256x5632, .f32⟩
  | .local _ .vmem, ⟨1, _⟩ => ⟨S256x5632, .f32⟩
  | .local _ .vmem, ⟨2, _⟩ => ⟨S8x5632, .f32⟩
  | .local _ .vmem, ⟨3, _⟩ => ⟨S8x5632, .f32⟩
  | .local _ .vmem, ⟨4, _⟩ => ⟨S8x5632, .f32⟩
  | .local _ .vmem, ⟨5, _⟩ => ⟨S8x5632, .f32⟩
  | .local _ .vmem, ⟨6, _⟩ => ⟨S8x5632, .f32⟩
  | .local _ .vmem, ⟨7, _⟩ => ⟨S1x5632, .f32⟩
  | .local _ .vmem, ⟨8, _⟩ => ⟨S256x2816, .bf16⟩
  | .local _ .vmem, ⟨9, _⟩ => ⟨S256x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFwdReferenceIdeal.lean ====
abbrev S8192x5632 : Shape := ⟨2, ![8192, 5632]⟩
abbrev S3x5632 : Shape := ⟨2, ![3, 5632]⟩
abbrev S5632 : Shape := ⟨1, ![5632]⟩
abbrev S_ : Shape := ⟨0, ![]⟩
abbrev S1x5632 : Shape := ⟨2, ![1, 5632]⟩
abbrev S8194x5632 : Shape := ⟨2, ![8194, 5632]⟩
abbrev S8192x2816 : Shape := ⟨2, ![8192, 2816]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S1x5632, .f32⟩
  | .hbm, ⟨5, _⟩ => ⟨S8194x5632, .f32⟩
  | .hbm, ⟨6, _⟩ => ⟨S8192x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== NormTwoFwd.lean ====
abbrev S8192x1024 : Shape := ⟨2, ![8192, 1024]⟩
abbrev S1024 : Shape := ⟨1, ![1024]⟩
abbrev S1x1024 : Shape := ⟨2, ![1, 1024]⟩
abbrev S2x1024 : Shape := ⟨2, ![2, 1024]⟩
abbrev S_ : Shape := ⟨0, ![]⟩
abbrev S6x1024 : Shape := ⟨2, ![6, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S2x1024, .f32⟩
  | .hbm, ⟨7, _⟩ => ⟨S_, .f32⟩
  | .hbm, ⟨8, _⟩ => ⟨S6x1024, .f32⟩
  | .hbm, ⟨9, _⟩ => ⟨S8x1024, .f32⟩
  | .hbm, ⟨10, _⟩ => ⟨S1x1024, .f32⟩
  | .hbm, ⟨11, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S256x1024, .bf16⟩
  | .local _ .vmem, ⟨5, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormTwoFwdReferenceIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Up.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Diag.lean ====
abbrev S8448x512 : Shape := ⟨2, ![8448, 512]⟩
abbrev S8448x2048 : Shape := ⟨2, ![8448, 2048]⟩
abbrev S_ : Shape := ⟨0, ![]⟩
abbrev S8448x2560 : Shape := ⟨2, ![8448, 2560]⟩
abbrev S8448x896 : Shape := ⟨2, ![8448, 896]⟩
abbrev S8448x3456 : Shape := ⟨2, ![8448, 3456]⟩
abbrev S2x256x1024 : Shape := ⟨3, ![2, 256, 1024]⟩
abbrev S768x256 : Shape := ⟨2, ![768, 256]⟩
abbrev S768x1024 : Shape := ⟨2, ![768, 1024]⟩
abbrev S1x256x1024 : Shape := ⟨3, ![1, 256, 1024]⟩
abbrev S256x1024 : Shape := ⟨2, ![256, 1024]⟩

abbrev nBuf : Space → Nat
  | .hbm => 11
  | .vmem => 12
  | .smem => 0
  | _ => 0

abbrev bufTy : (tb : Table) → Fin (tcTables nBuf tb) → BufTy
  | .hbm, ⟨0, _⟩ => ⟨S8448x512, .f32⟩
  | .hbm, ⟨1, _⟩ => ⟨S8448x2048, .f32⟩
  | .hbm, ⟨2, _⟩ => ⟨S8448x2048, .f32⟩
  | .hbm, ⟨3, _⟩ => ⟨S_, .f32⟩
  | .hbm, ⟨4, _⟩ => ⟨S8448x2048, .f32⟩
  | .hbm, ⟨5, _⟩ => ⟨S8448x2560, .f32⟩
  | .hbm, ⟨6, _⟩ => ⟨S_, .f32⟩
  | .hbm, ⟨7, _⟩ => ⟨S8448x896, .f32⟩
  | .hbm, ⟨8, _⟩ => ⟨S8448x3456, .f32⟩
  | .hbm, ⟨9, _⟩ => ⟨S2x256x1024, .f32⟩
  | .hbm, ⟨10, _⟩ => ⟨S2x256x1024, .f32⟩
  | .local _ .vmem, ⟨0, _⟩ => ⟨S768x256, .f32⟩
  | .local _ .vmem, ⟨1, _⟩ => ⟨S768x256, .f32⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S256x1024, .f32⟩
  | .local _ .vmem, ⟨11, _⟩ => ⟨S256x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v14 : BitVec 1 := Scalar.cmpi .eq arg1 c10_i32
  let v15 : BitVec 32 := Scalar.extui v14
  let c0_i32_8 : BitVec 32 := 0#32
  let v16 : BitVec 1 := Scalar.cmpi .ne v15 c0_i32_8
  v16

def k0_cond4 (i : grid0.Coords) : BitVec 1 :=
  let arg1 : BitVec 32 := BitVec.ofNat 32 (i 1).val
  let c10_i32_18 : BitVec 32 := 10#32
  let v28 : BitVec 1 := Scalar.cmpi .eq arg1 c10_i32_18
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DiagReferenceIdeal.lean ====
abbrev S8448x512 : Shape := ⟨2, ![8448, 512]⟩
abbrev S8448x2048 : Shape := ⟨2, ![8448, 2048]⟩
abbrev S8448x256 : Shape := ⟨2, ![8448, 256]⟩
abbrev S256x8448 : Shape := ⟨2, ![256, 8448]⟩
abbrev S8448x1024 : Shape := ⟨2, ![8448, 1024]⟩
abbrev S256x1024 : Shape := ⟨2, ![256, 1024]⟩
abbrev S1x256x1024 : Shape := ⟨3, ![1, 256, 1024]⟩
abbrev S2x256x1024 : Shape := ⟨3, ![2, 256, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x2048, .f32⟩
  | .hbm, ⟨2, _⟩ => ⟨S8448x2048, .f32⟩
  | .hbm, ⟨3, _⟩ => ⟨S8448x256, .f32⟩
  | .hbm, ⟨4, _⟩ => ⟨S256x8448, .f32⟩
  | .hbm, ⟨5, _⟩ => ⟨S8448x1024, .f32⟩
  | .hbm, ⟨6, _⟩ => ⟨S256x1024, .f32⟩
  | .hbm, ⟨7, _⟩ => ⟨S1x256x1024, .f32⟩
  | .hbm, ⟨8, _⟩ => ⟨S8448x256, .f32⟩
  | .hbm, ⟨9, _⟩ => ⟨S256x8448, .f32⟩
  | .hbm, ⟨10, _⟩ => ⟨S8448x1024, .f32⟩
  | .hbm, ⟨11, _⟩ => ⟨S256x1024, .f32⟩
  | .hbm, ⟨12, _⟩ => ⟨S1x256x1024, .f32⟩
  | .hbm, ⟨13, _⟩ => ⟨S2x256x1024, .f32⟩
  | .hbm, ⟨14, _⟩ => ⟨S8448x256, .f32⟩
  | .hbm, ⟨15, _⟩ => ⟨S256x8448, .f32⟩
  | .hbm, ⟨16, _⟩ => ⟨S8448x1024, .f32⟩
  | .hbm, ⟨17, _⟩ => ⟨S256x1024, .f32⟩
  | .hbm, ⟨18, _⟩ => ⟨S1x256x1024, .f32⟩
  | .hbm, ⟨19, _⟩ => ⟨S8448x256, .f32⟩
  | .hbm, ⟨20, _⟩ => ⟨S256x8448, .f32⟩
  | .hbm, ⟨21, _⟩ => ⟨S8448x1024, .f32⟩
  | .hbm, ⟨22, _⟩ => ⟨S256x1024, .f32⟩
  | .hbm, ⟨23, _⟩ => ⟨S1x256x1024, .f32⟩
  | .hbm, ⟨24, _⟩ => ⟨S2x256x1024, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Adam.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .bf16⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamReferenceIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S8x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== QkvFwd.lean ====
abbrev S8448x384 : Shape := ⟨2, ![8448, 384]⟩
abbrev S8448x256 : Shape := ⟨2, ![8448, 256]⟩
abbrev S8448x32 : Shape := ⟨2, ![8448, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S8192x16 : Shape := ⟨2, ![8192, 16]⟩
abbrev S_ : Shape := ⟨0, ![]⟩
abbrev S8448x2816 : Shape := ⟨2, ![8448, 2816]⟩
abbrev S8448x640 : Shape := ⟨2, ![8448, 640]⟩
abbrev S8448x3456 : Shape := ⟨2, ![8448, 3456]⟩
abbrev S256x8x128 : Shape := ⟨3, ![256, 8, 128]⟩
abbrev S1x384 : Shape := ⟨2, ![1, 384]⟩
abbrev S1x256 : Shape := ⟨2, ![1, 256]⟩
abbrev S1x96 : Shape := ⟨2, ![1, 96]⟩
abbrev S1x128 : Shape := ⟨2, ![1, 128]⟩
abbrev S256x16 : Shape := ⟨2, ![256, 16]⟩
abbrev S8448x16 : Shape := ⟨2, ![8448, 16]⟩
abbrev S8448x64 : Shape := ⟨2, ![8448, 64]⟩
abbrev S8448x128 : Shape := ⟨2, ![8448, 128]⟩
abbrev S384x8x96 : Shape := ⟨3, ![384, 8, 96]⟩
abbrev S384x8x128 : Shape := ⟨3, ![384, 8, 128]⟩
abbrev S384x1024 : Shape := ⟨2, ![384, 1024]⟩
abbrev S256x8x64 : Shape := ⟨3, ![256, 8, 64]⟩
abbrev S8448x1024 : Shape := ⟨2, ![8448, 1024]⟩
abbrev S256x384 : Shape := ⟨2, ![256, 384]⟩
abbrev S256x256 : Shape := ⟨2, ![256, 256]⟩
abbrev S256x128 : Shape := ⟨2, ![256, 128]⟩
abbrev S256x1 : Shape := ⟨2, ![256, 1]⟩

abbrev nBuf : Space → Nat
  | .hbm => 61
  | .vmem => 25
  | .smem => 0
  | _ => 0

abbrev bufTy : (tb : Table) → Fin (tcTables nBuf tb) → BufTy
  | .hbm, ⟨0, _⟩ => ⟨S8448x384, .f32⟩
  | .hbm, ⟨1, _⟩ => ⟨S8448x256, .f32⟩
  | .hbm, ⟨2, _⟩ => ⟨S8448x32, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x1024, .f32⟩
  | .hbm, ⟨7, _⟩ => ⟨S96, .f32⟩
  | .hbm, ⟨8, _⟩ => ⟨S96, .f32⟩
  | .hbm, ⟨9, _⟩ => ⟨S8192x16, .f32⟩
  | .hbm, ⟨10, _⟩ => ⟨S8192x16, .f32⟩
  | .hbm, ⟨11, _⟩ => ⟨S_, .f32⟩
  | .hbm, ⟨12, _⟩ => ⟨S8448x2816, .f32⟩
  | .hbm, ⟨13, _⟩ => ⟨S_, .f32⟩
  | .hbm, ⟨14, _⟩ => ⟨S8448x256, .f32⟩
  | .hbm, ⟨15, _⟩ => ⟨S8448x640, .f32⟩
  | .hbm, ⟨16, _⟩ => ⟨S8448x3456, .f32⟩
  | .hbm, ⟨17, _⟩ => ⟨S256x8x128, .f32⟩
  | .hbm, ⟨18, _⟩ => ⟨S1x384, .f32⟩
  | .hbm, ⟨19, _⟩ => ⟨S1x256, .f32⟩
  | .hbm, ⟨20, _⟩ => ⟨S1x96, .f32⟩
  | .hbm, ⟨21, _⟩ => ⟨S_, .f32⟩
  | .hbm, ⟨22, _⟩ => ⟨S1x128, .f32⟩
  | .hbm, ⟨23, _⟩ => ⟨S1x96, .f32⟩
  | .hbm, ⟨24, _⟩ => ⟨S_, .f32⟩
  | .hbm, ⟨25, _⟩ => ⟨S1x128, .f32⟩
  | .hbm, ⟨26, _⟩ => ⟨S_, .f32⟩
  | .hbm, ⟨27, _⟩ => ⟨S256x16, .f32⟩
  | .hbm, ⟨28, _⟩ => ⟨S8448x16, .f32⟩
  | .hbm, ⟨29, _⟩ => ⟨S_, .f32⟩
  | .hbm, ⟨30, _⟩ => ⟨S256x16, .f32⟩
  | .hbm, ⟨31, _⟩ => ⟨S8448x16, .f32⟩
  | .hbm, ⟨32, _⟩ => ⟨S_, .f32⟩
  | .hbm, ⟨33, _⟩ => ⟨S8448x64, .f32⟩
  | .hbm, ⟨34, _⟩ => ⟨S8448x32, .f32⟩
  | .hbm, ⟨35, _⟩ => ⟨S_, .f32⟩
  | .hbm, ⟨36, _⟩ => ⟨S8448x64, .f32⟩
  | .hbm, ⟨37, _⟩ => ⟨S8448x128, .f32⟩
  | .hbm, ⟨38, _⟩ => ⟨S_, .f32⟩
  | .hbm, ⟨39, _⟩ => ⟨S8448x128, .f32⟩
  | .hbm, ⟨40, _⟩ => ⟨S8448x16, .f32⟩
  | .hbm, ⟨41, _⟩ => ⟨S_, .f32⟩
  | .hbm, ⟨42, _⟩ => ⟨S8448x128, .f32⟩
  | .hbm, ⟨43, _⟩ => ⟨S384x8x96, .f32⟩
  | .hbm, ⟨44, _⟩ => ⟨S_, .f32⟩
  | .hbm, ⟨45, _⟩ => ⟨S384x8x128, .f32⟩
  | .hbm, ⟨46, _⟩ => ⟨S384x1024, .f32⟩
  | .hbm, ⟨47, _⟩ => ⟨S384x1024, .bf16⟩
  | .hbm, ⟨48, _⟩ => ⟨S256x8x64, .f32⟩
  | .hbm, ⟨49, _⟩ => ⟨S_, .f32⟩
  | .hbm, ⟨50, _⟩ => ⟨S256x8x128, .f32⟩
  | .hbm, ⟨51, _⟩ => ⟨S256x1024, .f32⟩
  | .hbm, ⟨52, _⟩ => ⟨S256x1024, .bf16⟩
  | .hbm, ⟨53, _⟩ => ⟨S256x8x64, .f32⟩
  | .hbm, ⟨54, _⟩ => ⟨S_, .f32⟩
  | .hbm, ⟨55, _⟩ => ⟨S256x8x128, .f32⟩
  | .hbm, ⟨56, _⟩ => ⟨S256x1024, .f32⟩
  | .hbm, ⟨57, _⟩ => ⟨S256x1024, .bf16⟩
  | .hbm, ⟨58, _⟩ => ⟨S8448x1024, .bf16⟩
  | .hbm, ⟨59, _⟩ => ⟨S8448x1024, .bf16⟩
  | .hbm, ⟨60, _⟩ => ⟨S8448x1024, .bf16⟩
  | .local _ .vmem, ⟨0, _⟩ => ⟨S256x384, .f32⟩
  | .local _ .vmem, ⟨1, _⟩ => ⟨S256x384, .f32⟩
  | .local _ .vmem, ⟨2, _⟩ => ⟨S256x256, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S1x384, .f32⟩
  | .local _ .vmem, ⟨7, _⟩ => ⟨S1x256, .f32⟩
  | .local _ .vmem, ⟨8, _⟩ => ⟨S1x128, .f32⟩
  | .local _ .vmem, ⟨9, _⟩ => ⟨S1x128, .f32⟩
  | .local _ .vmem, ⟨10, _⟩ => ⟨S384x1024, .bf16⟩
  | .local _ .vmem, ⟨11, _⟩ => ⟨S256x1024, .bf16⟩
  | .local _ .vmem, ⟨12, _⟩ => ⟨S256x1024, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_v20 : Ref sig .tc := ⟨.hbm, 40, rfl⟩
abbrev main_cst_8 : Ref sig .tc := ⟨.hbm, 41, rfl⟩
abbrev main_v21 : Ref sig .tc := ⟨.hbm, 42, rfl⟩
abbrev main_v22 : Ref sig .tc := ⟨.hbm, 43, rfl⟩
abbrev main_cst_9 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_10 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_11 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== QkvFwdIdeal.lean ====
variable {F : FTy → Type} [FloatOps F] [Named F]
def κ : String → Option EReal := fun
  | "one_384th" => some ((1 / 384 : ℝ) : EReal)
  | "one_96th" => some ((1 / 96 : ℝ) : EReal)
  | _ => none
-- ==== QkvFwdReferenceIdeal.lean ====
abbrev S8448x384 : Shape := ⟨2, ![8448, 384]⟩
abbrev S8448x256 : Shape := ⟨2, ![8448, 256]⟩
abbrev S8448x32 : Shape := ⟨2, ![8448, 32]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S96 : Shape := ⟨1, ![96]⟩
abbrev S8192x16 : Shape := ⟨2, ![8192, 16]⟩
abbrev S_ : Shape := ⟨0, ![]⟩
abbrev S8448 : Shape := ⟨1, ![8448]⟩
abbrev S8448x1 : Shape := ⟨2, ![8448, 1]⟩
abbrev S1x384 : Shape := ⟨2, ![1, 384]⟩
abbrev S8448x768 : Shape := ⟨2, ![8448, 768]⟩
abbrev S8448x8x96 : Shape := ⟨3, ![8448, 8, 96]⟩
abbrev S8448x8 : Shape := ⟨2, ![8448, 8]⟩
abbrev S8448x8x1 : Shape := ⟨3, ![8448, 8, 1]⟩
abbrev S1x1x96 : Shape := ⟨3, ![1, 1, 96]⟩
abbrev S1x256 : Shape := ⟨2, ![1, 256]⟩
abbrev S8448x1024 : Shape := ⟨2, ![8448, 1024]⟩
abbrev S8448x8x128 : Shape := ⟨3, ![8448, 8, 128]⟩
abbrev S8448x1x32 : Shape := ⟨3, ![8448, 1, 32]⟩
abbrev S8448x8x32 : Shape := ⟨3, ![8448, 8, 32]⟩
abbrev S8448x8x64 : Shape := ⟨3, ![8448, 8, 64]⟩
abbrev S8192x8x16 : Shape := ⟨3, ![8192, 8, 16]⟩
abbrev S8192x1x16 : Shape := ⟨3, ![8192, 1, 16]⟩
abbrev S8192x8x32 : Shape := ⟨3, ![8192, 8, 32]⟩
abbrev S8192x8x64 : Shape := ⟨3, ![8192, 8, 64]⟩
abbrev S8192x8x96 : Shape := ⟨3, ![8192, 8, 96]⟩
abbrev S256x8x96 : Shape := ⟨3, ![256, 8, 96]⟩

abbrev nBuf : Space → Nat
  | .hbm => 134
  | .vmem => 0
  | .smem => 0
  | _ => 0

abbrev hbmTy0_0 (i : Nat) : BufTy := match i % 128 with
  | 0 => ⟨S8448x384, .f32⟩
  | 1 => ⟨S8448x256, .f32⟩
  | 2 => ⟨S8448x32, .f32⟩
  | 3 => ⟨S384, .f32⟩
  | 4 => ⟨S384x768, .f32⟩
  | 5 => ⟨S256, .f32⟩
  | 6 => ⟨S256x1024, .f32⟩
  | 7 => ⟨S96, .f32⟩
  | 8 => ⟨S96, .f32⟩
  | 9 => ⟨S8192x16, .f32⟩
  | 10 => ⟨S8192x16, .f32⟩
  | 11 => ⟨S8448x384, .f32⟩
  | 12 => ⟨S_, .f32⟩
  | 13 => ⟨S8448, .f32⟩
  | 14 => ⟨S8448x1, .f32⟩
  | 15 => ⟨S_, .f32⟩
  | 16 => ⟨S8448x1, .f32⟩
  | 17 => ⟨S8448x1, .f32⟩
  | 18 => ⟨S_, .f32⟩
  | 19 => ⟨S8448x1, .f32⟩
  | 20 => ⟨S8448x1, .f32⟩
  | 21 => ⟨S8448x1, .f32⟩
  | 22 => ⟨S8448x384, .f32⟩
  | 23 => ⟨S8448x384, .f32⟩
  | 24 => ⟨S1x384, .f32⟩
  | 25 => ⟨S8448x384, .f32⟩
  | 26 => ⟨S8448x384, .f32⟩
  | 27 => ⟨S8448x768, .f32⟩
  | 28 => ⟨S8448x8x96, .f32⟩
  | 29 => ⟨S8448x8x96, .f32⟩
  | 30 => ⟨S_, .f32⟩
  | 31 => ⟨S8448x8, .f32⟩
  | 32 => ⟨S8448x8x1, .f32⟩
  | 33 => ⟨S_, .f32⟩
  | 34 => ⟨S8448x8x1, .f32⟩
  | 35 => ⟨S8448x8x1, .f32⟩
  | 36 => ⟨S_, .f32⟩
  | 37 => ⟨S8448x8x1, .f32⟩
  | 38 => ⟨S8448x8x1, .f32⟩
  | 39 => ⟨S8448x8x1, .f32⟩
  | 40 => ⟨S8448x8x96, .f32⟩
  | 41 => ⟨S8448x8x96, .f32⟩
  | 42 => ⟨S1x1x96, .f32⟩
  | 43 => ⟨S8448x8x96, .f32⟩
  | 44 => ⟨S8448x8x96, .f32⟩
  | 45 => ⟨S8448x256, .f32⟩
  | 46 => ⟨S_, .f32⟩
  | 47 => ⟨S8448, .f32⟩
  | 48 => ⟨S8448x1, .f32⟩
  | 49 => ⟨S_, .f32⟩
  | 50 => ⟨S8448x1, .f32⟩
  | 51 => ⟨S8448x1, .f32⟩
  | 52 => ⟨S_, .f32⟩
  | 53 => ⟨S8448x1, .f32⟩
  | 54 => ⟨S8448x1, .f32⟩
  | 55 => ⟨S8448x1, .f32⟩
  | 56 => ⟨S8448x256, .f32⟩
  | 57 => ⟨S8448x256, .f32⟩
  | 58 => ⟨S1x256, .f32⟩
  | 59 => ⟨S8448x256, .f32⟩
  | 60 => ⟨S8448x256, .f32⟩
  | 61 => ⟨S8448x1024, .f32⟩
  | 62 => ⟨S8448x8x128, .f32⟩
  | 63 => ⟨S8448x1x32, .f32⟩
  | 64 => ⟨S8448x8x32, .f32⟩
  | 65 => ⟨S8448x8x64, .f32⟩
  | 66 => ⟨S8448x8x96, .f32⟩
  | 67 => ⟨S8448x8x96, .f32⟩
  | 68 => ⟨S_, .f32⟩
  | 69 => ⟨S8448x8, .f32⟩
  | 70 => ⟨S8448x8x1, .f32⟩
  | 71 => ⟨S_, .f32⟩
  | 72 => ⟨S8448x8x1, .f32⟩
  | 73 => ⟨S8448x8x1, .f32⟩
  | 74 => ⟨S_, .f32⟩
  | 75 => ⟨S8448x8x1, .f32⟩
  | 76 => ⟨S8448x8x1, .f32⟩
  | 77 => ⟨S8448x8x1, .f32⟩
  | 78 => ⟨S8448x8x96, .f32⟩
  | 79 => ⟨S8448x8x96, .f32⟩
  | 80 => ⟨S1x1x96, .f32⟩
  | 81 => ⟨S8448x8x96, .f32⟩
  | 82 => ⟨S8448x8x96, .f32⟩
  | 83 => ⟨S8192x8x16, .f32⟩
  | 84 => ⟨S8192x8x16, .f32⟩
  | 85 => ⟨S8192x1x16, .f32⟩
  | 86 => ⟨S8192x1x16, .f32⟩
  | 87 => ⟨S8192x8x16, .f32⟩
  | 88 => ⟨S8192x8x16, .f32⟩
  | 89 => ⟨S8192x8x16, .f32⟩
  | 90 => ⟨S8192x8x16, .f32⟩
  | 91 => ⟨S8192x8x16, .f32⟩
  | 92 => ⟨S8192x8x16, .f32⟩
  | 93 => ⟨S8192x8x16, .f32⟩
  | 94 => ⟨S8192x8x16, .f32⟩
  | 95 => ⟨S8192x8x16, .f32⟩
  | 96 => ⟨S8192x8x16, .f32⟩
  | 97 => ⟨S8192x8x32, .f32⟩
  | 98 => ⟨S8192x8x64, .f32⟩
  | 99 => ⟨S8192x8x96, .f32⟩
  | 100 => ⟨S256x8x96, .f32⟩
  | 101 => ⟨S8448x8x96, .f32⟩
  | 102 => ⟨S_, .f32⟩
  | 103 => ⟨S8448x8x128, .f32⟩
  | 104 => ⟨S8448x1024, .f32⟩
  | 105 => ⟨S8448x1024, .bf16⟩
  | 106 => ⟨S8192x8x16, .f32⟩
  | 107 => ⟨S8192x8x16, .f32⟩
  | 108 => ⟨S8192x1x16, .f32⟩
  | 109 => ⟨S8192x1x16, .f32⟩
  | 110 => ⟨S8192x8x16, .f32⟩
  | 111 => ⟨S8192x8x16, .f32⟩
  | 112 => ⟨S8192x8x16, .f32⟩
  | 113 => ⟨S8192x8x16, .f32⟩
  | 114 => ⟨S8192x8x16, .f32⟩
  | 115 => ⟨S8192x8x16, .f32⟩
  | 116 => ⟨S8192x8x16, .f32⟩
  | 117 => ⟨S8192x8x16, .f32⟩
  | 118 => ⟨S8192x8x16, .f32⟩
  | 119 => ⟨S8192x8x16, .f32⟩
  | 120 => ⟨S8192x8x32, .f32⟩
  | 121 => ⟨S8192x8x64, .f32⟩
  | 122 => ⟨S8192x8x96, .f32⟩
  | 123 => ⟨S256x8x96, .f32⟩
  | 124 => ⟨S8448x8x96, .f32⟩
  | 125 => ⟨S_, .f32⟩
  | 126 => ⟨S8448x8x128, .f32⟩
  | 127 => ⟨S8448x1024, .f32⟩
  | _ => ⟨S8448x384, .f32⟩

abbrev hbmTy0_1 (i : Nat) : BufTy := match i % 128 with
  | 0 => ⟨S8448x1024, .bf16⟩
  | 1 => ⟨S8448x8x64, .f32⟩
  | 2 => ⟨S_, .f32⟩
  | 3 => ⟨S8448x8x128, .f32⟩
  | 4 => ⟨S8448x1024, .f32⟩
  | 5 => ⟨S8448x1024, .bf16⟩
  | _ => ⟨S8448x384, .f32⟩

abbrev hbmTy (i : Nat) : BufTy := match i / 128 with
  | 0 => hbmTy0_0 i
  | 1 => hbmTy0_1 i
  | _ => ⟨S8448x384, .f32⟩

abbrev bufTy : (tb : Table) → Fin (tcTables nBuf tb) → BufTy
  | .hbm, ⟨i, _⟩ => hbmTy i
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_11 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_12 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_13 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩

abbrev nD : Nat := 1
abbrev τ : Topo := Topo.v7x

variable {F : FTy → Type} [FloatOps F]
-- ==== Proof.Loss.Scale.lean ====
module

public import Idealize.ShloMosaic.Lib.Pipeline.ValueKit
public import Idealize.ShloMosaic.Lib.Pointwise

/-! The constants of the loss as extended reals, and how a positive real factor passes through a sum. -/

@[expose] public section

noncomputable section

open Idealize.ShloMosaic

namespace Cert.Scale

/-- The word of one half. -/
theorem half : Ideal.ofBits .f32 1056964608#32 = (((1 / 2 : ℝ)) : EReal) := by
  simp [Ideal.ofBits, Ideal.ieee, -EReal.coe_mul]; norm_num

/-- The word of `1 / 1024`. -/
theorem mean : Ideal.ofBits .f32 981467136#32 = (((1 / 1024 : ℝ)) : EReal) := by
  simp [Ideal.ofBits, Ideal.ieee, -EReal.coe_mul]; norm_num

/-- The word of `1024`. -/
theorem width : Ideal.ofBits .f32 1149239296#32 = ((1024 : ℝ) : EReal) := by
  simp [Ideal.ofBits, Ideal.ieee, -EReal.coe_mul]; norm_num

/-- The word of `2`. -/
theorem two : Ideal.ofBits .f32 1073741824#32 = ((2 : ℝ) : EReal) := by
  simp [Ideal.ofBits, Ideal.ieee, -EReal.coe_mul]; norm_num

/-- Division by a real that is not zero is multiplication by its inverse. -/
theorem div_coe (x : EReal) {r : ℝ} (h : r ≠ 0) : Ideal.div x (r : EReal) = x * ((r⁻¹ : ℝ) : EReal) := by
  have h' : (r : EReal) ≠ 0 := by exact_mod_cast h
  rw [Ideal.div, if_neg h', EReal.coe_inv]

/-- A real factor that is not negative goes into a finite sum of extended reals. -/
theorem mul_sum {ι : Type*} (s : Finset ι) (f : ι → EReal) {r : ℝ} (h : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast h) (EReal.coe_ne_top r), ih]

/-- The factor of the gradient: half of the mean, times the two of the square. -/
theorem grad (x : EReal) : x * Ideal.ofBits .f32 981467136#32
    = Ideal.div (Ideal.ofBits .f32 1056964608#32) (Ideal.ofBits .f32 1149239296#32) * (Ideal.ofBits .f32 1073741824#32 * x) := by
  rw [half, mean, width, two, div_coe _ (by norm_num), ← mul_assoc, ← EReal.coe_mul, ← EReal.coe_mul, mul_comm]
  norm_num

/-- Half the sum of all rows' means is the sum over the tiles of half their rows' means. -/
theorem loss {N : ℕ} (J T : ℕ) (hN : J * T = N) (f : Fin N → EReal) :
    ∑ j : Fin J, Ideal.ofBits .f32 1056964608#32 * ∑ t : Fin T, f ⟨j.val * T + t.val, by
        have := j.isLt; have := t.isLt; nlinarith [Nat.mul_le_mul_right T (Nat.succ_le_of_lt j.isLt)]⟩ * Ideal.ofBits .f32 981467136#32
    = Ideal.ofBits .f32 1056964608#32 * ∑ k : Fin N, Ideal.div (f k) (Ideal.ofBits .f32 1149239296#32) := by
  rw [half, mean, width, Fin.sum_univ_tiles J T hN, mul_sum _ _ (by norm_num)]
  refine Finset.sum_congr rfl fun j _ => ?_
  congr 1
  refine Finset.sum_congr rfl fun t _ => ?_
  rw [div_coe _ (by norm_num)]
  norm_num

end Cert.Scale
end
-- ==== Proof.Loss.Value.lean ====
module

public import proofs.«01_k».proof.Proof.Gen.LossIdeal.Frame
public import proofs.«01_k».proof.Proof.Gen.LossReferenceIdeal.Read
public import Idealize.ShloMosaic.Lib.Pipeline.ValueKit
public import Idealize.ShloMosaic.Lib.Pointwise
public import Idealize.ShloMosaic.Lib.Claim
public import proofs.«01_k».proof.Proof.Loss.Scale

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen

variable (m : (ℓ : Loc nD τ sig) → Buf (Elt Ideal) ℓ)

/-- Where each window's block sits at point `t`. -/
theorem idx : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![t.val, 0] ∧ win0_6.index t = ![t.val, 0] ∧
    win0_7.index t = ![t.val, 0, 0] :=
  (by decide +kernel : ∀ t : Fin grid0.N, _)

open Cert.LossReferenceIdeal.Read in
/-- A tile of the down projection. -/
theorem ffn_point (c : Dev nD) (t : Fin cfg0.N) (y) : k0_pay1 (iblk m c 0 t) (iblk m c 1 t) y
    = val_main_v0 (F := Ideal) (m ((c : Thread nD τ).loc main_arg0)) (m ((c : Thread nD τ).loc main_arg1)) (((cfg0.win 6).blk t).view.emb y) := by
  pointwise [k0_pay1, val_main_v0]
  blk_point [iblk, V, idx t]

/-- A row of tile `t`. -/
abbrev row (t : Fin cfg0.N) (r : Fin 256) : Fin 8192 := ⟨t.val * 256 + r.val, by have : t.val < 32 := t.isLt; omega⟩

/-- A row of the residual stream, read by tile. -/
theorem blk_x (c : Dev nD) (t : Fin cfg0.N) (r : Fin 256) (k : Fin 1024) :
    iblk m c 2 t (ix2 r k) = m ((c : Thread nD τ).loc main_arg2) (ix2 (row t r) k) := by
  blk_point [iblk, V, idx t]

/-- A row of the target, read by tile. -/
theorem blk_target (c : Dev nD) (t : Fin cfg0.N) (r : Fin 256) (k : Fin 1024) :
    iblk m c 4 t (ix2 r k) = m ((c : Thread nD τ).loc main_arg4) (ix2 (row t r) k) := by
  blk_point [iblk, V, idx t]

/-- A row of the activation, read by tile. -/
theorem blk_act (c : Dev nD) (t : Fin cfg0.N) (r : Fin 256) (k : Fin 2816) :
    iblk m c 0 t (ix2 r k) = m ((c : Thread nD τ).loc main_arg0) (ix2 (row t r) k) := by
  blk_point [iblk, V, idx t]

/-- The weight, the same for every tile. -/
theorem blk_weight (c : Dev nD) (t : Fin cfg0.N) (r : Fin 2816) (k : Fin 1024) :
    iblk m c 1 t (ix2 r k) = m ((c : Thread nD τ).loc main_arg1) (ix2 r k) := by
  blk_point [iblk, V, idx t]

/-- The gate as the row the region reads. -/
theorem V_gate (c : Dev nD) : V m c main_v2 = Cert.LossReferenceIdeal.Read.val_main_v1 (F := Ideal) (m ((c : Thread nD τ).loc main_arg3)) := by
  entry_read
  rfl

/-- The gate, the same for every tile. -/
theorem blk_gate (c : Dev nD) (t : Fin cfg0.N) (k : Fin 1024) :
    iblk m c 3 t (ix2 0 k) = m ((c : Thread nD τ).loc main_arg3) (ix1 k) := by
  have h : ((win0_3.blk t).view.emb (ix2 0 k)) = (ix2 0 k : S1x1024.Idx) := by
    blk_point [idx t]
  refine (congrArg (V m c main_v2) h).trans ?_
  rw [V_gate]
  pointwise [Cert.LossReferenceIdeal.Read.val_main_v1_apply]
  exact congrArg _ (by idx_ext)

open Cert.LossReferenceIdeal.Read in
/-- The error at a position, as both programs write it. -/
theorem err_apply (c : Dev nD) (t : Fin cfg0.N) (r : Fin 256) (k : Fin 1024) :
    k0_pay2 (iblk m c 0 t) (iblk m c 1 t) (iblk m c 2 t) (iblk m c 3 t) (iblk m c 4 t) (ix2 r k)
    = val_main_v5 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix2 (row t r) k) := by
  pointwise [k0_pay2, k0_pay1, val_main_v5_apply, val_main_v4_apply, val_main_v3_apply, val_main_v2_apply, val_main_v1_apply, val_main_v0]
  rw [blk_x, blk_target, blk_gate]
  simp only [blk_act, blk_weight]
  have e : Cert.LossReferenceIdeal.Read.idx_main_v1 (Cert.LossReferenceIdeal.Read.idx_main_v2 (ix2 (row t r) k)) = ix1 k := by idx_ext
  rw [e]

open Cert.LossReferenceIdeal.Read in
/-- A tile of the gradient of the loss. -/
theorem dy_point (c : Dev nD) (t : Fin cfg0.N) (y) :
    k0_pay3 (iblk m c 0 t) (iblk m c 1 t) (iblk m c 2 t) (iblk m c 3 t) (iblk m c 4 t) y
    = val_main_v19 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  have e : ((cfg0.win 5).blk t).view.emb y = ix2 (row t (y 0)) (y 1) := by
    blk_point [idx t]
  rw [e]
  pointwise [k0_pay3, val_main_v19_apply, val_main_v18_apply, val_main_v17_apply, val_main_v16_apply, val_main_v15_apply, val_main_v14_apply, val_main_v8_apply, val_main_v7_apply, val_main_cst, val_main_cst_4, val_main_cst_5, val_main_cst_6]
  refine Eq.trans ?_ (Cert.Scale.grad _)
  exact congrArg (· * _) ((congrArg _ (eq_ix2 y)).trans (err_apply m c t (y 0) (y 1)))

open Cert.LossReferenceIdeal.Read in
/-- The share of the loss of a row tile: half the sum of its rows' means of squared errors. -/
def part (x0 : FVec Ideal S8192x2816 .f32) (x1 : FVec Ideal S2816x1024 .f32) (x2 : FVec Ideal S8192x1024 .f32)
    (x3 : FVec Ideal S1024 .f32) (x4 : FVec Ideal S8192x1024 .f32) : FVec Ideal S32x8x128 .f32 := fun i =>
  Ideal.ofBits .f32 1056964608#32 * ∑ t : Fin 256, (∑ k : Fin 1024,
      val_main_v6 (F := Ideal) x0 x1 x2 x3 x4 (ix2 ⟨(i 0).val * 256 + t.val, by have : (i 0).val < 32 := (i 0).isLt; omega⟩ k))
    * Ideal.ofBits .f32 981467136#32

open Cert.LossReferenceIdeal.Read in
/-- The share of the loss that a tile writes over its block. -/
theorem part_point (c : Dev nD) (t : Fin cfg0.N) (y) :
    k0_pay4 (iblk m c 0 t) (iblk m c 1 t) (iblk m c 2 t) (iblk m c 3 t) (iblk m c 4 t) y
    = part (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 7).blk t).view.emb y) := by
  have e : (((cfg0.win 7).blk t).view.emb y) = ix3 t (y 1) (y 2) := by
    blk_point [idx t]
  rw [e]
  pointwise [k0_pay4, part, val_main_v6_apply]
  simp only [err_apply]

/-- The down projection the region leaves. -/
theorem ffn_final (c : Dev nD) : (dats m 0 c).arrAt 6 cfg0.N
    = Cert.LossReferenceIdeal.Read.val_main_v0 (F := Ideal) (m ((c : Thread nD τ).loc main_arg0)) (m ((c : Thread nD τ).loc main_arg1)) := by
  refine (dats m 0 c).arrAt_eq_of_covers 6 _ (by decide +kernel) fun t _ y => ?_
  blk_simp
  rw [after0_6]
  frame_out
  exact ffn_point m c t y

/-- The gradient the region leaves. -/
theorem dy_final (c : Dev nD) : (dats m 0 c).arrAt 5 cfg0.N
    = Cert.LossReferenceIdeal.Read.val_main_v19 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact dy_point m c t y

/-- The shares of the loss the region leaves. -/
theorem part_final (c : Dev nD) : (dats m 0 c).arrAt 7 cfg0.N
    = part (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  exact part_point m c t y

open Cert.LossReferenceIdeal.Read in
/-- The tiles' shares add up to the loss. -/
theorem loss_sum (x0 : FVec Ideal S8192x2816 .f32) (x1 : FVec Ideal S2816x1024 .f32) (x2 : FVec Ideal S8192x1024 .f32)
    (x3 : FVec Ideal S1024 .f32) (x4 : FVec Ideal S8192x1024 .f32) :
    (Host.reduceAdd (shapeCast S32 (extractStridedSlice S32x1x1 ![0, 0, 0] (part x0 x1 x2 x3 x4) slices_S32x8x128_S32x1x1_0_0_0)
      shapeCasts_S32x1x1_S32) (constant S_ FTy.f32 0#32) reducesTo_S32_S_d0 h_S_ : FVec Ideal S_ .f32)
    = val_main_v13 (F := Ideal) x0 x1 x2 x3 x4 := by
  funext i
  pointwise [part, val_main_v13_apply, val_main_v12_apply, val_main_v11_apply, val_main_v10_apply, val_main_v9_apply, val_main_cst_3, val_main_cst_2, val_main_cst_1, val_main_cst_0]
  refine (Cert.Scale.loss 32 256 rfl fun r => ∑ k : Fin 1024, val_main_v6 (F := Ideal) x0 x1 x2 x3 x4 (ix2 r k)).trans ?_
  refine congrArg _ ?_
  refine Fintype.sum_bijective (fun k : Fin 8192 => (ix1 k : Cert.LossReferenceIdeal.S8192.Idx)) ⟨fun a b h => congrFun h 0, fun j => ⟨j 0, (eq_ix1 j).symm⟩⟩ _ _ fun k => ?_
  refine congrArg (fun s => Ideal.div s _) (Finset.sum_congr rfl fun j _ => congrArg _ ?_)
  idx_ext

open Cert.LossReferenceIdeal.Read in
/-- The sum the host takes after the region is the loss. -/
theorem loss_tail (c : Dev nD) : Pipeline.afterTail₀ cfgs (dats m) 0 (V0 m) [hostOps1] c main_v6
    = val_main_v13 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  unfold Pipeline.afterTail₀
  simp only [hostOps1, List.flatten_cons, List.flatten_nil, List.append_nil]
  after_results
  rw [show (Pipeline.withArrays (cfgs 0).spec c (V0 m c) (fun w => (dats m 0 c).arrAt w (cfgs 0).N) (Proc.devRef .tc main_v3_2)) = (dats m 0 c).arrAt 7 (cfgs 0).N from
      Pipeline.withArrays_arr spec0 (by decide) c (V0 m c) _ 7, part_final m c]
  exact loss_sum _ _ _ _ _

end Cert.LossIdeal.Value
end
-- ==== Proof.Attn.Tiles.lean ====
/-
  What the gradient call computes on one tile of 1024 queries against one block of 768 keys: the softmax weights from the
  saved log-sum, the scores' cotangent, and the tile's addends to the gradients of keys, values and queries.
-/
module

public import proofs.«01_k».proof.Proof.Gen.AttnIdeal.Skeleton
public import Idealize.ShloMosaic.Lib.Pipeline.ValueKit
public import Idealize.ShloMosaic.Lib.Pointwise

@[expose] public section

set_option maxRecDepth 16384

noncomputable section

open Idealize.ShloMosaic

namespace Cert.AttnIdeal.Tiles

open Cert.AttnIdeal Cert.AttnIdeal.Gen

variable (x1 x2 : Vec Ideal S768x128 .bf16) (q o g : Vec Ideal S1024x128 .bf16) (s : Vec Ideal S1024x1 .f32)
  (a : FVec Ideal S768x128 .f32) (b : FVec Ideal S1024x128 .f32)

/-- The softmax weight of a query of the tile at a key of the block. -/
def prob (r : Fin 1024) (l : Fin 768) : EReal :=
  Ideal.exp2 ((∑ d : Fin 128, q (ix2 r d) * x1 (ix2 l d)) * Named.named (F := Ideal) κ (φ := .f32) "scale_log2e" 0x3E16C740#32
    - s (ix2 r 0) * Named.named (F := Ideal) κ (φ := .f32) "log2e" 0x3FB8AA3B#32)

/-- The cotangent of the product of a query of the tile and a key of the block. -/
def ds (r : Fin 1024) (l : Fin 768) : EReal :=
  prob x1 q s r l * ((∑ e : Fin 128, g (ix2 r e) * x2 (ix2 l e)) - ∑ e : Fin 128, g (ix2 r e) * o (ix2 r e)) * Ideal.ofBits .f32 0x3DD105EC#32

theorem dv0 (l : Fin 768) (e : Fin 128) :
    k0_pay8 x1 q g s (ix2 l e) = ∑ r : Fin 1024, prob x1 q s r l * g (ix2 r e) := by
  pointwise [k0_pay2, k0_pay3, k0_pay4, k0_pay5, k0_pay6, k0_pay7, k0_pay8, k0_pay9, k0_pay10, k0_pay11, k0_pay12, k0_pay13]
  rfl

theorem dk0 (l : Fin 768) (d : Fin 128) :
    k0_pay12 (k0_pay4 (F := Ideal)) (k0_pay5 q) (k0_pay7 x1 q s) (k0_pay9 x2 g) (k0_pay10 g o) (ix2 l d)
      = ∑ r : Fin 1024, ds x1 x2 q o g s r l * q (ix2 r d) := by
  pointwise [k0_pay2, k0_pay3, k0_pay4, k0_pay5, k0_pay6, k0_pay7, k0_pay8, k0_pay9, k0_pay10, k0_pay11, k0_pay12, k0_pay13]
  rfl

theorem dq0 (r : Fin 1024) (d : Fin 128) :
    k0_pay13 (k0_pay2 x1) (k0_pay7 x1 q s) (k0_pay9 x2 g) (k0_pay10 g o) b (ix2 r d)
      = b (ix2 r d) + ∑ l : Fin 768, ds x1 x2 q o g s r l * x1 (ix2 l d) := by
  pointwise [k0_pay2, k0_pay3, k0_pay4, k0_pay5, k0_pay6, k0_pay7, k0_pay8, k0_pay9, k0_pay10, k0_pay11, k0_pay12, k0_pay13]
  rfl

theorem dv1 (l : Fin 768) (e : Fin 128) :
    k0_pay17 (k0_pay2 x1) a q g s (ix2 l e)
      = a (ix2 l e) + ∑ r : Fin 1024, prob x1 q s r l * g (ix2 r e) := by
  pointwise [k0_pay2, k0_pay3, k0_pay14, k0_pay15, k0_pay16, k0_pay17, k0_pay18, k0_pay19, k0_pay20, k0_pay21, k0_pay22, k0_pay23]
  rfl

theorem dk1 (l : Fin 768) (d : Fin 128) :
    k0_pay22 a (k0_pay14 q) (k0_pay16 (k0_pay2 x1) q s) (k0_pay18 (k0_pay3 x2) g) (k0_pay19 g) (k0_pay20 o) (ix2 l d)
      = a (ix2 l d) + ∑ r : Fin 1024, ds x1 x2 q o g s r l * q (ix2 r d) := by
  pointwise [k0_pay2, k0_pay3, k0_pay14, k0_pay15, k0_pay16, k0_pay17, k0_pay18, k0_pay19, k0_pay20, k0_pay21, k0_pay22, k0_pay23]
  rfl

theorem dq1 (r : Fin 1024) (d : Fin 128) :
    k0_pay23 (k0_pay2 x1) (k0_pay16 (k0_pay2 x1) q s) (k0_pay18 (k0_pay3 x2) g) (k0_pay19 g) (k0_pay20 o) b (ix2 r d)
      = b (ix2 r d) + ∑ l : Fin 768, ds x1 x2 q o g s r l * x1 (ix2 l d) := by
  pointwise [k0_pay2, k0_pay3, k0_pay14, k0_pay15, k0_pay16, k0_pay17, k0_pay18, k0_pay19, k0_pay20, k0_pay21, k0_pay22, k0_pay23]
  rfl

theorem dv2 (l : Fin 768) (e : Fin 128) :
    k0_pay27 (k0_pay2 x1) a q g s (ix2 l e)
      = a (ix2 l e) + ∑ r : Fin 1024, prob x1 q s r l * g (ix2 r e) := by
  pointwise [k0_pay2, k0_pay3, k0_pay24, k0_pay25, k0_pay26, k0_pay27, k0_pay28, k0_pay29, k0_pay30, k0_pay31, k0_pay32]
  rfl

theorem dk2 (l : Fin 768) (d : Fin 128) :
    k0_pay31 a (k0_pay24 q) (k0_pay26 (k0_pay2 x1) q s) (k0_pay28 (k0_pay3 x2) g) (k0_pay29 g) o (ix2 l d)
      = a (ix2 l d) + ∑ r : Fin 1024, ds x1 x2 q o g s r l * q (ix2 r d) := by
  pointwise [k0_pay2, k0_pay3, k0_pay24, k0_pay25, k0_pay26, k0_pay27, k0_pay28, k0_pay29, k0_pay30, k0_pay31, k0_pay32]
  rfl

theorem dq2 (r : Fin 1024) (d : Fin 128) :
    k0_pay32 (k0_pay2 x1) (k0_pay26 (k0_pay2 x1) q s) (k0_pay28 (k0_pay3 x2) g) (k0_pay29 g) o b (ix2 r d)
      = b (ix2 r d) + ∑ l : Fin 768, ds x1 x2 q o g s r l * x1 (ix2 l d) := by
  pointwise [k0_pay2, k0_pay3, k0_pay24, k0_pay25, k0_pay26, k0_pay27, k0_pay28, k0_pay29, k0_pay30, k0_pay31, k0_pay32]
  rfl

theorem dv3 (l : Fin 768) (e : Fin 128) :
    k0_pay37 a (k0_pay36 (k0_pay2 x1) q g s) (ix2 l e)
      = a (ix2 l e) + ∑ r : Fin 1024, prob x1 q s r l * g (ix2 r e) := by
  pointwise [k0_pay2, k0_pay3, k0_pay33, k0_pay34, k0_pay35, k0_pay36, k0_pay37, k0_pay38, k0_pay39, k0_pay40]
  rfl

theorem dk3 (l : Fin 768) (d : Fin 128) :
    k0_pay39 (k0_pay3 x2) a (k0_pay33 q) (k0_pay34 g) (k0_pay35 (k0_pay2 x1) q s) o (ix2 l d)
      = a (ix2 l d) + ∑ r : Fin 1024, ds x1 x2 q o g s r l * q (ix2 r d) := by
  pointwise [k0_pay2, k0_pay3, k0_pay33, k0_pay34, k0_pay35, k0_pay36, k0_pay37, k0_pay38, k0_pay39, k0_pay40]
  rfl

theorem dq3 (r : Fin 1024) (d : Fin 128) :
    k0_pay40 (k0_pay2 x1) (k0_pay3 x2) (k0_pay34 g) (k0_pay35 (k0_pay2 x1) q s) o b (ix2 r d)
      = b (ix2 r d) + ∑ l : Fin 768, ds x1 x2 q o g s r l * x1 (ix2 l d) := by
  pointwise [k0_pay2, k0_pay3, k0_pay33, k0_pay34, k0_pay35, k0_pay36, k0_pay37, k0_pay38, k0_pay39, k0_pay40]
  rfl

theorem dv4 (l : Fin 768) (e : Fin 128) :
    k0_pay45 a (k0_pay42 g) (k0_pay43 (k0_pay2 x1) q s) (ix2 l e)
      = a (ix2 l e) + ∑ r : Fin 1024, prob x1 q s r l * g (ix2 r e) := by
  pointwise [k0_pay2, k0_pay3, k0_pay41, k0_pay42, k0_pay43, k0_pay44, k0_pay45, k0_pay46, k0_pay47, k0_pay48]
  rfl

theorem dk4 (l : Fin 768) (d : Fin 128) :
    k0_pay47 (k0_pay3 x2) a (k0_pay41 q) (k0_pay42 g) (k0_pay43 (k0_pay2 x1) q s) o (ix2 l d)
      = a (ix2 l d) + ∑ r : Fin 1024, ds x1 x2 q o g s r l * q (ix2 r d) := by
  pointwise [k0_pay2, k0_pay3, k0_pay41, k0_pay42, k0_pay43, k0_pay44, k0_pay45, k0_pay46, k0_pay47, k0_pay48]
  rfl

theorem dq4 (r : Fin 1024) (d : Fin 128) :
    k0_pay48 (k0_pay2 x1) (k0_pay3 x2) (k0_pay42 g) (k0_pay43 (k0_pay2 x1) q s) o b (ix2 r d)
      = b (ix2 r d) + ∑ l : Fin 768, ds x1 x2 q o g s r l * x1 (ix2 l d) := by
  pointwise [k0_pay2, k0_pay3, k0_pay41, k0_pay42, k0_pay43, k0_pay44, k0_pay45, k0_pay46, k0_pay47, k0_pay48]
  rfl

theorem dv5 (l : Fin 768) (e : Fin 128) :
    k0_pay54 a (k0_pay50 g) (k0_pay51 (k0_pay2 x1) q) (k0_pay52 s) (Named.named κ "log2e" 0x3FB8AA3B#32) (ix2 l e)
      = a (ix2 l e) + ∑ r : Fin 1024, prob x1 q s r l * g (ix2 r e) := by
  pointwise [k0_pay2, k0_pay3, k0_pay49, k0_pay50, k0_pay51, k0_pay52, k0_pay53, k0_pay54, k0_pay55, k0_pay56, k0_pay57]
  rfl

theorem dk5 (l : Fin 768) (d : Fin 128) :
    k0_pay56 (k0_pay3 x2) a (k0_pay49 q) (k0_pay50 g) (k0_pay51 (k0_pay2 x1) q) (k0_pay52 s) (Named.named κ "log2e" 0x3FB8AA3B#32) o (ix2 l d)
      = a (ix2 l d) + ∑ r : Fin 1024, ds x1 x2 q o g s r l * q (ix2 r d) := by
  pointwise [k0_pay2, k0_pay3, k0_pay49, k0_pay50, k0_pay51, k0_pay52, k0_pay53, k0_pay54, k0_pay55, k0_pay56, k0_pay57]
  rfl

theorem dq5 (r : Fin 1024) (d : Fin 128) :
    k0_pay57 (k0_pay2 x1) (k0_pay3 x2) (k0_pay50 g) (k0_pay51 (k0_pay2 x1) q) (k0_pay52 s) (Named.named κ "log2e" 0x3FB8AA3B#32) o b (ix2 r d)
      = b (ix2 r d) + ∑ l : Fin 768, ds x1 x2 q o g s r l * x1 (ix2 l d) := by
  pointwise [k0_pay2, k0_pay3, k0_pay49, k0_pay50, k0_pay51, k0_pay52, k0_pay53, k0_pay54, k0_pay55, k0_pay56, k0_pay57]
  rfl

theorem dv6 (l : Fin 768) (e : Fin 128) :
    k0_pay62 a (k0_pay59 g) (k0_pay60 (k0_pay2 x1) q) s (ix2 l e)
      = a (ix2 l e) + ∑ r : Fin 1024, prob x1 q s r l * g (ix2 r e) := by
  pointwise [k0_pay2, k0_pay3, k0_pay58, k0_pay59, k0_pay60, k0_pay61, k0_pay62, k0_pay63, k0_pay64, k0_pay65]
  rfl

theorem dk6 (l : Fin 768) (d : Fin 128) :
    k0_pay64 (k0_pay3 x2) a (k0_pay58 q) (k0_pay59 g) (k0_pay60 (k0_pay2 x1) q) s o (ix2 l d)
      = a (ix2 l d) + ∑ r : Fin 1024, ds x1 x2 q o g s r l * q (ix2 r d) := by
  pointwise [k0_pay2, k0_pay3, k0_pay58, k0_pay59, k0_pay60, k0_pay61, k0_pay62, k0_pay63, k0_pay64, k0_pay65]
  rfl

theorem dq6 (r : Fin 1024) (d : Fin 128) :
    k0_pay65 (k0_pay2 x1) (k0_pay3 x2) (k0_pay59 g) (k0_pay60 (k0_pay2 x1) q) s o b (ix2 r d)
      = b (ix2 r d) + ∑ l : Fin 768, ds x1 x2 q o g s r l * x1 (ix2 l d) := by
  pointwise [k0_pay2, k0_pay3, k0_pay58, k0_pay59, k0_pay60, k0_pay61, k0_pay62, k0_pay63, k0_pay64, k0_pay65]
  rfl

theorem dv7 (l : Fin 768) (e : Fin 128) :
    k0_pay70 a (k0_pay67 g) (k0_pay68 (k0_pay2 x1) q) s (ix2 l e)
      = a (ix2 l e) + ∑ r : Fin 1024, prob x1 q s r l * g (ix2 r e) := by
  pointwise [k0_pay2, k0_pay3, k0_pay66, k0_pay67, k0_pay68, k0_pay69, k0_pay70, k0_pay71, k0_pay72, k0_pay73]
  rfl

theorem dk7 (l : Fin 768) (d : Fin 128) :
    k0_pay72 (k0_pay3 x2) a (k0_pay66 q) (k0_pay67 g) (k0_pay68 (k0_pay2 x1) q) s o (ix2 l d)
      = a (ix2 l d) + ∑ r : Fin 1024, ds x1 x2 q o g s r l * q (ix2 r d) := by
  pointwise [k0_pay2, k0_pay3, k0_pay66, k0_pay67, k0_pay68, k0_pay69, k0_pay70, k0_pay71, k0_pay72, k0_pay73]
  rfl

theorem dq7 (r : Fin 1024) (d : Fin 128) :
    k0_pay73 (k0_pay2 x1) (k0_pay3 x2) (k0_pay67 g) (k0_pay68 (k0_pay2 x1) q) s o b (ix2 r d)
      = b (ix2 r d) + ∑ l : Fin 768, ds x1 x2 q o g s r l * x1 (ix2 l d) := by
  pointwise [k0_pay2, k0_pay3, k0_pay66, k0_pay67, k0_pay68, k0_pay69, k0_pay70, k0_pay71, k0_pay72, k0_pay73]
  rfl

end Cert.AttnIdeal.Tiles

end
-- ==== Proof.Attn.Value.lean ====
/-
  The attention's backward region, block by block: what a grid point leaves in the three gradients' blocks as sums over the
  queries and keys it reads, and the gradients' arrays after the run.
-/
module

public import proofs.«01_k».proof.Proof.Gen.AttnIdeal.Value
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Attn.Tiles

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- A tile of rows of a block. -/
theorem ld_rows {φ : EltTy} (x : Vec Ideal S8192x128 φ) (o : ℕ) (pf) (r : Fin 1024) (d : Fin 128) (ho : o + 1024 ≤ 8192) :
    View.ld x (Rect.unit (s := S8192x128) ![o, 0] ![1024, 128] pf) (ix2 r d) = x (ix2 ⟨o + r, by omega⟩ d) := by
  pointwise []

/-- The first column of a tile of rows of a block. -/
theorem ld_col {φ : EltTy} (x : Vec Ideal S8192x128 φ) (o : ℕ) (pf) (r : Fin 1024) (ho : o + 1024 ≤ 8192) :
    View.ld x (Rect.unit (s := S8192x128) ![o, 0] ![1024, 1] pf) (ix2 r 0) = x (ix2 ⟨o + r, by omega⟩ 0) := by
  pointwise []

/-- A sum over the queries, tile by tile. -/
theorem sum_tiles (f : Fin 8192 → EReal) : ∑ i, f i
    = (∑ r : Fin 1024, f ⟨0 + r, by omega⟩) + (∑ r : Fin 1024, f ⟨1024 + r, by omega⟩) + (∑ r : Fin 1024, f ⟨2048 + r, by omega⟩)
      + (∑ r : Fin 1024, f ⟨3072 + r, by omega⟩) + (∑ r : Fin 1024, f ⟨4096 + r, by omega⟩) + (∑ r : Fin 1024, f ⟨5120 + r, by omega⟩)
      + (∑ r : Fin 1024, f ⟨6144 + r, by omega⟩) + (∑ r : Fin 1024, f ⟨7168 + r, by omega⟩) := by
  rw [Fin.sum_univ_tiles 8 1024 (by norm_num) f, Fin.sum_univ_eight]
  rfl

section Blocks

variable (x0 : Vec Ideal S8192x128 .bf16) (x1 x2 : Vec Ideal S768x128 .bf16) (x3 x4 : Vec Ideal S8192x128 .bf16) (x5 : Vec Ideal S8192x128 .f32)

/-- The softmax weight of query `i` at key `l` of the block. -/
def prob (i : Fin 8192) (l : Fin 768) : EReal :=
  Ideal.exp2 ((∑ d : Fin 128, x0 (ix2 i d) * x1 (ix2 l d)) * Named.named (F := Ideal) κ (φ := .f32) "scale_log2e" 0x3E16C740#32
    - x5 (ix2 i 0) * Named.named (F := Ideal) κ (φ := .f32) "log2e" 0x3FB8AA3B#32)

/-- The cotangent of the product of query `i` and key `l` of the block. -/
def ds (i : Fin 8192) (l : Fin 768) : EReal :=
  prob x0 x1 x5 i l * ((∑ e : Fin 128, x4 (ix2 i e) * x2 (ix2 l e)) - ∑ e : Fin 128, x4 (ix2 i e) * x3 (ix2 i e)) * Ideal.ofBits .f32 0x3DD105EC#32

section Tile

variable {x0 x1 x2 x3 x4 x5} (n : ℕ) (hn : n + 1024 ≤ 8192) {q o g : Vec Ideal S1024x128 .bf16} {s : Vec Ideal S1024x1 .f32}
  (hq : ∀ r d, q (ix2 r d) = x0 (ix2 ⟨n + r, by omega⟩ d)) (ho : ∀ r d, o (ix2 r d) = x3 (ix2 ⟨n + r, by omega⟩ d))
  (hg : ∀ r d, g (ix2 r d) = x4 (ix2 ⟨n + r, by omega⟩ d)) (hs : ∀ r, s (ix2 r 0) = x5 (ix2 ⟨n + r, by omega⟩ 0))

include hq hs in
theorem tile_prob (r : Fin 1024) (l : Fin 768) : Tiles.prob x1 q s r l = prob x0 x1 x5 ⟨n + r, by omega⟩ l := by
  unfold Tiles.prob prob
  simp only [hq, hs]

include hq ho hg hs in
theorem tile_ds (r : Fin 1024) (l : Fin 768) : Tiles.ds x1 x2 q o g s r l = ds x0 x1 x2 x3 x4 x5 ⟨n + r, by omega⟩ l := by
  unfold Tiles.ds ds
  simp only [tile_prob n hn hq hs, ho, hg]

include hq ho hg hs in
theorem tile_key (l : Fin 768) (d : Fin 128) : ∑ r : Fin 1024, Tiles.ds x1 x2 q o g s r l * q (ix2 r d)
    = ∑ r : Fin 1024, ds x0 x1 x2 x3 x4 x5 ⟨n + r, by omega⟩ l * x0 (ix2 ⟨n + r, by omega⟩ d) := by
  simp only [tile_ds n hn hq ho hg hs, hq]

include hq hg hs in
theorem tile_value (l : Fin 768) (e : Fin 128) : ∑ r : Fin 1024, Tiles.prob x1 q s r l * g (ix2 r e)
    = ∑ r : Fin 1024, prob x0 x1 x5 ⟨n + r, by omega⟩ l * x4 (ix2 ⟨n + r, by omega⟩ e) := by
  simp only [tile_prob n hn hq hs, hg]

include hq ho hg hs in
theorem tile_query (r : Fin 1024) (d : Fin 128) : ∑ l : Fin 768, Tiles.ds x1 x2 q o g s r l * x1 (ix2 l d)
    = ∑ l : Fin 768, ds x0 x1 x2 x3 x4 x5 ⟨n + r, by omega⟩ l * x1 (ix2 l d) := by
  simp only [tile_ds n hn hq ho hg hs]

end Tile

section Loads

variable {x0 x1 x2 x3 x4 x5} (n : ℕ) (hn : n + 1024 ≤ 8192)

theorem key_ld (p0 p3 p4 p5) (l : Fin 768) (d : Fin 128) :
    ∑ r : Fin 1024, Tiles.ds x1 x2 (View.ld x0 (Rect.unit (s := S8192x128) ![n, 0] ![1024, 128] p0))
        (View.ld x3 (Rect.unit (s := S8192x128) ![n, 0] ![1024, 128] p3)) (View.ld x4 (Rect.unit (s := S8192x128) ![n, 0] ![1024, 128] p4))
        (View.ld x5 (Rect.unit (s := S8192x128) ![n, 0] ![1024, 1] p5)) r l
        * View.ld x0 (Rect.unit (s := S8192x128) ![n, 0] ![1024, 128] p0) (ix2 r d)
      = ∑ r : Fin 1024, ds x0 x1 x2 x3 x4 x5 ⟨n + r, by omega⟩ l * x0 (ix2 ⟨n + r, by omega⟩ d) :=
  tile_key n hn (fun r d => ld_rows _ n _ r d (by omega)) (fun r d => ld_rows _ n _ r d (by omega))
    (fun r d => ld_rows _ n _ r d (by omega)) (fun r => ld_col _ n _ r (by omega)) l d

theorem value_ld (p0 p4 p5) (l : Fin 768) (e : Fin 128) :
    ∑ r : Fin 1024, Tiles.prob x1 (View.ld x0 (Rect.unit (s := S8192x128) ![n, 0] ![1024, 128] p0))
        (View.ld x5 (Rect.unit (s := S8192x128) ![n, 0] ![1024, 1] p5)) r l
        * View.ld x4 (Rect.unit (s := S8192x128) ![n, 0] ![1024, 128] p4) (ix2 r e)
      = ∑ r : Fin 1024, prob x0 x1 x5 ⟨n + r, by omega⟩ l * x4 (ix2 ⟨n + r, by omega⟩ e) :=
  tile_value n hn (fun r d => ld_rows _ n _ r d (by omega)) (fun r d => ld_rows _ n _ r d (by omega)) (fun r => ld_col _ n _ r (by omega)) l e

theorem query_ld (p0 p3 p4 p5) (r : Fin 1024) (d : Fin 128) :
    ∑ l : Fin 768, Tiles.ds x1 x2 (View.ld x0 (Rect.unit (s := S8192x128) ![n, 0] ![1024, 128] p0))
        (View.ld x3 (Rect.unit (s := S8192x128) ![n, 0] ![1024, 128] p3)) (View.ld x4 (Rect.unit (s := S8192x128) ![n, 0] ![1024, 128] p4))
        (View.ld x5 (Rect.unit (s := S8192x128) ![n, 0] ![1024, 1] p5)) r l * x1 (ix2 l d)
      = ∑ l : Fin 768, ds x0 x1 x2 x3 x4 x5 ⟨n + r, by omega⟩ l * x1 (ix2 l d) :=
  tile_query n hn (fun r d => ld_rows _ n _ r d (by omega)) (fun r d => ld_rows _ n _ r d (by omega))
    (fun r d => ld_rows _ n _ r d (by omega)) (fun r => ld_col _ n _ r (by omega)) r d

end Loads

end Blocks

variable (m : (ℓ : Loc nD τ sig) → Buf (Elt Ideal) ℓ)

/-- The block of queries. -/
abbrev B0 (c : Dev nD) (t : Fin cfg0.N) : Vec Ideal S8192x128 .bf16 := iblk m c 0 t
/-- The block of keys. -/
abbrev B1 (c : Dev nD) (t : Fin cfg0.N) : Vec Ideal S768x128 .bf16 := iblk m c 1 t
/-- The block of values. -/
abbrev B2 (c : Dev nD) (t : Fin cfg0.N) : Vec Ideal S768x128 .bf16 := iblk m c 2 t
/-- The block of outputs. -/
abbrev B3 (c : Dev nD) (t : Fin cfg0.N) : Vec Ideal S8192x128 .bf16 := iblk m c 3 t
/-- The block of the outputs' cotangent. -/
abbrev B4 (c : Dev nD) (t : Fin cfg0.N) : Vec Ideal S8192x128 .bf16 := iblk m c 4 t
/-- The block of log-sums. -/
abbrev B5 (c : Dev nD) (t : Fin cfg0.N) : Vec Ideal S8192x128 .f32 := iblk m c 5 t

/-- The scores' cotangent at a grid point. -/
abbrev dsAt (c : Dev nD) (t : Fin cfg0.N) : Fin 8192 → Fin 768 → EReal :=
  ds (B0 m c t) (B1 m c t) (B2 m c t) (B3 m c t) (B4 m c t) (B5 m c t)

/-- Eight addends, one by one. -/
theorem add8 {a b c d e f g h a' b' c' d' e' f' g' h' : EReal} (ha : a = a') (hb : b = b') (hc : c = c') (hd : d = d') (he : e = e')
    (hf : f = f') (hg : g = g') (hh : h = h') : a + b + c + d + e + f + g + h = a' + b' + c' + d' + e' + f' + g' + h' := by
  rw [ha, hb, hc, hd, he, hf, hg, hh]

/-- The gradient of the keys that a grid point writes. -/
theorem key_point (c : Dev nD) (t : Fin cfg0.N) (l : Fin 768) (d : Fin 128) :
    (outsAt0 m c t.val t.isLt).2.1 (ix2 l d) = ∑ i : Fin 8192, dsAt m c t i l * B0 m c t (ix2 i d) := by
  rw [sum_tiles]
  by_cases h : t.val % 11 = 0
  all_goals
    first | rw [outsAt0_A m c t h] | rw [outsAt0_B m c t h]
    frame_out
    rw [Tiles.dk7, Tiles.dk6, Tiles.dk5, Tiles.dk4, Tiles.dk3, Tiles.dk2, Tiles.dk1, Tiles.dk0]
    exact add8 (key_ld 0 (by norm_num) _ _ _ _ l d) (key_ld 1024 (by norm_num) _ _ _ _ l d) (key_ld 2048 (by norm_num) _ _ _ _ l d)
      (key_ld 3072 (by norm_num) _ _ _ _ l d) (key_ld 4096 (by norm_num) _ _ _ _ l d) (key_ld 5120 (by norm_num) _ _ _ _ l d)
      (key_ld 6144 (by norm_num) _ _ _ _ l d) (key_ld 7168 (by norm_num) _ _ _ _ l d)

/-- The gradient of the values that a grid point writes. -/
theorem value_point (c : Dev nD) (t : Fin cfg0.N) (l : Fin 768) (e : Fin 128) :
    (outsAt0 m c t.val t.isLt).2.2 (ix2 l e)
      = ∑ i : Fin 8192, prob (B0 m c t) (B1 m c t) (B5 m c t) i l * B4 m c t (ix2 i e) := by
  rw [sum_tiles]
  by_cases h : t.val % 11 = 0
  all_goals
    first | rw [outsAt0_A m c t h] | rw [outsAt0_B m c t h]
    frame_out
    rw [Tiles.dv7, Tiles.dv6, Tiles.dv5, Tiles.dv4, Tiles.dv3, Tiles.dv2, Tiles.dv1, Tiles.dv0]
    exact add8 (value_ld 0 (by norm_num) _ _ _ l e) (value_ld 1024 (by norm_num) _ _ _ l e) (value_ld 2048 (by norm_num) _ _ _ l e)
      (value_ld 3072 (by norm_num) _ _ _ l e) (value_ld 4096 (by norm_num) _ _ _ l e) (value_ld 5120 (by norm_num) _ _ _ l e)
      (value_ld 6144 (by norm_num) _ _ _ l e) (value_ld 7168 (by norm_num) _ _ _ l e)

theorem inb (n : ℕ) (hn : n + 1024 ≤ 8192) : ∀ a, (![n, 0] : Fin 2 → ℕ) a + (![1024, 128] : Fin 2 → ℕ) a ≤ S8192x128.size a := by
  intro a
  fin_cases a
  · exact hn
  · exact le_refl 128

/-- A tile of rows of the queries' gradient that a grid point stores. -/
theorem piece (x0 : Vec Ideal S8192x128 .bf16) (x1 x2 : Vec Ideal S768x128 .bf16) (x3 x4 : Vec Ideal S8192x128 .bf16) (x5 : Vec Ideal S8192x128 .f32)
    (f : S8192x128.Idx → EReal) (n : ℕ) (pf) (hn : n + 1024 ≤ 8192) (w : Vec Ideal S1024x128 .f32)
    (hw : ∀ r d, w (ix2 r d) = f (ix2 ⟨n + r, by omega⟩ d) + ∑ l : Fin 768, ds x0 x1 x2 x3 x4 x5 ⟨n + r, by omega⟩ l * x1 (ix2 l d))
    (x : (Rect.unit (s := S8192x128) ![n, 0] ![1024, 128] pf).shape.Idx) :
    w x = (fun y : S8192x128.Idx => f y + ∑ l : Fin 768, ds x0 x1 x2 x3 x4 x5 (y 0) l * x1 (ix2 l (y 1)))
      ((Rect.unit (s := S8192x128) ![n, 0] ![1024, 128] pf).emb x) := by
  obtain ⟨r, d, rfl⟩ : ∃ (r : Fin 1024) (d : Fin 128), x = ix2 r d := ⟨x 0, x 1, eq_ix2 x⟩
  refine (hw r d).trans ?_
  have e : (Rect.unit (s := S8192x128) ![n, 0] ![1024, 128] pf).emb (ix2 r d) = ix2 ⟨n + r, by omega⟩ d := by idx_ext
  rw [e]
  rfl

/-- The queries' gradient after a grid point, from what it held before: eight tiles of rows. -/
theorem query_point_B (c : Dev nD) (t : Fin cfg0.N) (h : ¬ t.val % 11 = 0) (i : Fin 8192) (d : Fin 128) :
    (outsAt0 m c t.val t.isLt).1 (ix2 i d)
      = (outsAt0 m c (t.val - 1) (by omega)).1 (ix2 i d) + ∑ l : Fin 768, dsAt m c t i l * B1 m c t (ix2 l d) := by
  rw [outsAt0_B m c t h]
  frame_out
  refine (View.canon_append_of_piecesOf (fun y : S8192x128.Idx => (outsAt0 m c (t.val - 1) (by omega)).1 y
    + ∑ l : Fin 768, dsAt m c t (y 0) l * B1 m c t (ix2 l (y 1))) [] [_, _, _, _, _, _, _, _] ?_ _ ?_)
  · refine ⟨?_, ?_, ?_, ?_, ?_, ?_, ?_, ?_, trivial⟩
    · exact piece _ _ _ _ _ _ (outsAt0 m c (t.val - 1) (by omega)).1 7168 (inb 7168 (by norm_num)) (by norm_num) _ fun r d =>
        (Tiles.dq7 ..).trans (congrArg₂ (· + ·) (ld_rows _ 7168 _ r d (by norm_num)) (query_ld 7168 (by norm_num) _ _ _ _ r d))
    · exact piece _ _ _ _ _ _ (outsAt0 m c (t.val - 1) (by omega)).1 6144 (inb 6144 (by norm_num)) (by norm_num) _ fun r d =>
        (Tiles.dq6 ..).trans (congrArg₂ (· + ·) (ld_rows _ 6144 _ r d (by norm_num)) (query_ld 6144 (by norm_num) _ _ _ _ r d))
    · exact piece _ _ _ _ _ _ (outsAt0 m c (t.val - 1) (by omega)).1 5120 (inb 5120 (by norm_num)) (by norm_num) _ fun r d =>
        (Tiles.dq5 ..).trans (congrArg₂ (· + ·) (ld_rows _ 5120 _ r d (by norm_num)) (query_ld 5120 (by norm_num) _ _ _ _ r d))
    · exact piece _ _ _ _ _ _ (outsAt0 m c (t.val - 1) (by omega)).1 4096 (inb 4096 (by norm_num)) (by norm_num) _ fun r d =>
        (Tiles.dq4 ..).trans (congrArg₂ (· + ·) (ld_rows _ 4096 _ r d (by norm_num)) (query_ld 4096 (by norm_num) _ _ _ _ r d))
    · exact piece _ _ _ _ _ _ (outsAt0 m c (t.val - 1) (by omega)).1 3072 (inb 3072 (by norm_num)) (by norm_num) _ fun r d =>
        (Tiles.dq3 ..).trans (congrArg₂ (· + ·) (ld_rows _ 3072 _ r d (by norm_num)) (query_ld 3072 (by norm_num) _ _ _ _ r d))
    · exact piece _ _ _ _ _ _ (outsAt0 m c (t.val - 1) (by omega)).1 2048 (inb 2048 (by norm_num)) (by norm_num) _ fun r d =>
        (Tiles.dq2 ..).trans (congrArg₂ (· + ·) (ld_rows _ 2048 _ r d (by norm_num)) (query_ld 2048 (by norm_num) _ _ _ _ r d))
    · exact piece _ _ _ _ _ _ (outsAt0 m c (t.val - 1) (by omega)).1 1024 (inb 1024 (by norm_num)) (by norm_num) _ fun r d =>
        (Tiles.dq1 ..).trans (congrArg₂ (· + ·) (ld_rows _ 1024 _ r d (by norm_num)) (query_ld 1024 (by norm_num) _ _ _ _ r d))
    · exact piece _ _ _ _ _ _ (outsAt0 m c (t.val - 1) (by omega)).1 0 (inb 0 (by norm_num)) (by norm_num) _ fun r d =>
        (Tiles.dq0 ..).trans (congrArg₂ (· + ·) (ld_rows _ 0 _ r d (by norm_num)) (query_ld 0 (by norm_num) _ _ _ _ r d))
  · exact View.cover_of_tiledL _ ![1024, 128] (by sl_kernel_rfl) _

theorem pay1_zero (y) : k0_pay1 (F := Ideal) y = 0 := by
  pointwise [k0_pay1]

/-- The same at the first key block of a head, where the gradient starts from zero. -/
theorem query_point_A (c : Dev nD) (t : Fin cfg0.N) (h : t.val % 11 = 0) (i : Fin 8192) (d : Fin 128) :
    (outsAt0 m c t.val t.isLt).1 (ix2 i d) = ∑ l : Fin 768, dsAt m c t i l * B1 m c t (ix2 l d) := by
  rw [outsAt0_A m c t h]
  frame_open
  simp (disch := decide) only [↓ View.readCov_skip, ↓ View.readCov_cons_toLoadRect, ↓ View.readCov_fill]
  frame_out
  refine (View.canon_append_of_piecesOf (fun y : S8192x128.Idx => k0_pay1 (F := Ideal) y
    + ∑ l : Fin 768, dsAt m c t (y 0) l * B1 m c t (ix2 l (y 1))) [_] [_, _, _, _, _, _, _, _] ?_ _ ?_).trans ?_
  · refine ⟨?_, ?_, ?_, ?_, ?_, ?_, ?_, ?_, trivial⟩
    · exact piece _ _ _ _ _ _ (k0_pay1 (F := Ideal)) 7168 (inb 7168 (by norm_num)) (by norm_num) _ fun r d =>
        (Tiles.dq7 ..).trans (congrArg₂ (· + ·) (ld_rows _ 7168 _ r d (by norm_num)) (query_ld 7168 (by norm_num) _ _ _ _ r d))
    · exact piece _ _ _ _ _ _ (k0_pay1 (F := Ideal)) 6144 (inb 6144 (by norm_num)) (by norm_num) _ fun r d =>
        (Tiles.dq6 ..).trans (congrArg₂ (· + ·) (ld_rows _ 6144 _ r d (by norm_num)) (query_ld 6144 (by norm_num) _ _ _ _ r d))
    · exact piece _ _ _ _ _ _ (k0_pay1 (F := Ideal)) 5120 (inb 5120 (by norm_num)) (by norm_num) _ fun r d =>
        (Tiles.dq5 ..).trans (congrArg₂ (· + ·) (ld_rows _ 5120 _ r d (by norm_num)) (query_ld 5120 (by norm_num) _ _ _ _ r d))
    · exact piece _ _ _ _ _ _ (k0_pay1 (F := Ideal)) 4096 (inb 4096 (by norm_num)) (by norm_num) _ fun r d =>
        (Tiles.dq4 ..).trans (congrArg₂ (· + ·) (ld_rows _ 4096 _ r d (by norm_num)) (query_ld 4096 (by norm_num) _ _ _ _ r d))
    · exact piece _ _ _ _ _ _ (k0_pay1 (F := Ideal)) 3072 (inb 3072 (by norm_num)) (by norm_num) _ fun r d =>
        (Tiles.dq3 ..).trans (congrArg₂ (· + ·) (ld_rows _ 3072 _ r d (by norm_num)) (query_ld 3072 (by norm_num) _ _ _ _ r d))
    · exact piece _ _ _ _ _ _ (k0_pay1 (F := Ideal)) 2048 (inb 2048 (by norm_num)) (by norm_num) _ fun r d =>
        (Tiles.dq2 ..).trans (congrArg₂ (· + ·) (ld_rows _ 2048 _ r d (by norm_num)) (query_ld 2048 (by norm_num) _ _ _ _ r d))
    · exact piece _ _ _ _ _ _ (k0_pay1 (F := Ideal)) 1024 (inb 1024 (by norm_num)) (by norm_num) _ fun r d =>
        (Tiles.dq1 ..).trans (congrArg₂ (· + ·) (ld_rows _ 1024 _ r d (by norm_num)) (query_ld 1024 (by norm_num) _ _ _ _ r d))
    · exact piece _ _ _ _ _ _ (k0_pay1 (F := Ideal)) 0 (inb 0 (by norm_num)) (by norm_num) _ fun r d =>
        (Tiles.dq0 ..).trans (congrArg₂ (· + ·) (ld_rows _ 0 _ r d (by norm_num)) (query_ld 0 (by norm_num) _ _ _ _ r d))
  · exact View.cover_of_tiledL _ ![1024, 128] (by sl_kernel_rfl) _
  · simp only [pay1_zero, zero_add]
    rfl

end Cert.AttnIdeal.Value

end
-- ==== Proof.Attn.Final.lean ====
/-
  The attention's backward region as a whole: the arrays of the three gradients after the run, as sums over the arrays the
  region reads.
-/
module

public import proofs.«01_k».proof.Proof.Attn.Value

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen

/-- The blocks' places: head `t / 11`, key block `t % 11`. -/
theorem idx : ∀ t : Fin cfg0.N, win0_0.index t = ![0, t.val / 11] ∧ win0_1.index t = ![t.val % 11, t.val / 11] ∧
    win0_2.index t = ![t.val % 11, t.val / 11] ∧ win0_3.index t = ![0, t.val / 11] ∧ win0_4.index t = ![0, t.val / 11] ∧
    win0_5.index t = ![0, t.val / 11] ∧ win0_6.index t = ![0, t.val / 11] ∧ win0_7.index t = ![t.val % 11, t.val / 11] ∧
    win0_8.index t = ![t.val % 11, t.val / 11] :=
  (by decide +kernel : ∀ t : Fin grid0.N, _)

/-- Column `d` of head `h` of the heads laid side by side. -/
abbrev col (h : ℕ) (hh : h < 8) (d : Fin 128) : Fin 1024 := ⟨h * 128 + d, by omega⟩

theorem head_lt (t : Fin cfg0.N) : t.val / 11 < 8 := by
  have : t.val < 88 := t.isLt
  omega

/-- Key `l` of key block `t % 11`. -/
abbrev key (t : ℕ) (l : Fin 768) : Fin 8448 := ⟨t % 11 * 768 + l, by omega⟩

variable (m : (ℓ : Loc nD τ sig) → Buf (Elt Ideal) ℓ)

/-! The arrays the region reads. -/

abbrev A0 (c : Dev nD) : Vec Ideal S8192x1024 .bf16 := V m c main_v24
abbrev A1 (c : Dev nD) : Vec Ideal S8448x1024 .bf16 := V m c main_v27
abbrev A2 (c : Dev nD) : Vec Ideal S8448x1024 .bf16 := V m c main_v30
abbrev A3 (c : Dev nD) : Vec Ideal S8192x1024 .bf16 := V m c main_v33
abbrev A4 (c : Dev nD) : Vec Ideal S8192x1024 .bf16 := V m c main_v36
abbrev A5 (c : Dev nD) : Vec Ideal S8192x1024 .f32 := V m c main_v21

theorem blk0 (c : Dev nD) (t : Fin cfg0.N) (i : Fin 8192) (d : Fin 128) :
    B0 m c t (ix2 i d) = A0 m c (ix2 i (col (t.val / 11) (head_lt t) d)) := by
  have e : (win0_0.blk t).view.emb (ix2 i d) = ix2 i (col (t.val / 11) (head_lt t) d) := by
    blk_point [idx t]
  unfold B0 iblk A0
  generalize V m c = W
  exact congrArg (W main_v24) e

theorem blk1 (c : Dev nD) (t : Fin cfg0.N) (l : Fin 768) (d : Fin 128) :
    B1 m c t (ix2 l d) = A1 m c (ix2 (key t l) (col (t.val / 11) (head_lt t) d)) := by
  have e : (win0_1.blk t).view.emb (ix2 l d) = ix2 (key t l) (col (t.val / 11) (head_lt t) d) := by
    blk_point [idx t]
  unfold B1 iblk A1
  generalize V m c = W
  exact congrArg (W main_v27) e

theorem blk2 (c : Dev nD) (t : Fin cfg0.N) (l : Fin 768) (d : Fin 128) :
    B2 m c t (ix2 l d) = A2 m c (ix2 (key t l) (col (t.val / 11) (head_lt t) d)) := by
  have e : (win0_2.blk t).view.emb (ix2 l d) = ix2 (key t l) (col (t.val / 11) (head_lt t) d) := by
    blk_point [idx t]
  unfold B2 iblk A2
  generalize V m c = W
  exact congrArg (W main_v30) e

theorem blk3 (c : Dev nD) (t : Fin cfg0.N) (i : Fin 8192) (d : Fin 128) :
    B3 m c t (ix2 i d) = A3 m c (ix2 i (col (t.val / 11) (head_lt t) d)) := by
  have e : (win0_3.blk t).view.emb (ix2 i d) = ix2 i (col (t.val / 11) (head_lt t) d) := by
    blk_point [idx t]
  unfold B3 iblk A3
  generalize V m c = W
  exact congrArg (W main_v33) e

theorem blk4 (c : Dev nD) (t : Fin cfg0.N) (i : Fin 8192) (d : Fin 128) :
    B4 m c t (ix2 i d) = A4 m c (ix2 i (col (t.val / 11) (head_lt t) d)) := by
  have e : (win0_4.blk t).view.emb (ix2 i d) = ix2 i (col (t.val / 11) (head_lt t) d) := by
    blk_point [idx t]
  unfold B4 iblk A4
  generalize V m c = W
  exact congrArg (W main_v36) e

theorem emb5 (t : Fin cfg0.N) (i : Fin 8192) (d : Fin 128) :
    (win0_5.blk t).view.emb (ix2 i d) = ix2 i (col (t.val / 11) (head_lt t) d) := by
  blk_point [idx t]

theorem read5 (W : ∀ b : Ref sig .tc, b.ty.Contents (Elt Ideal)) (t : Fin cfg0.N) (y : S8192x128.Idx) :
    ((cfg0.win 5).blk t).view.read (Elt Ideal) (W (Pipeline.arrRef spec0 5)) y = W main_v21 ((win0_5.blk t).view.emb y) := rfl

theorem read5_of (W : ∀ b : Ref sig .tc, b.ty.Contents (Elt Ideal)) (c : Dev nD) (hW : W = fun b => V m c b) (t : Fin cfg0.N)
    (y : S8192x128.Idx) : B5 m c t y = W main_v21 ((win0_5.blk t).view.emb y) := by
  unfold B5 iblk
  rw [show V m c (Pipeline.arrRef spec0 5) = W (Pipeline.arrRef spec0 5) from (congrFun hW _).symm]
  exact read5 W t y

theorem blk5 (c : Dev nD) (t : Fin cfg0.N) (i : Fin 8192) (d : Fin 128) :
    B5 m c t (ix2 i d) = A5 m c (ix2 i (col (t.val / 11) (head_lt t) d)) :=
  (read5_of m _ c rfl t _).trans (congrArg (A5 m c) (emb5 t i d))

/-- The weight of key `j` at query `i` in head `h`, from the whole arrays. -/
def probAll (c : Dev nD) (h : ℕ) (hh : h < 8) (i : Fin 8192) (j : Fin 8448) : EReal :=
  Ideal.exp2 ((∑ d : Fin 128, A0 m c (ix2 i (col h hh d)) * A1 m c (ix2 j (col h hh d)))
      * Named.named (F := Ideal) κ (φ := .f32) "scale_log2e" 0x3E16C740#32
    - A5 m c (ix2 i (col h hh 0)) * Named.named (F := Ideal) κ (φ := .f32) "log2e" 0x3FB8AA3B#32)

/-- The cotangent of the product of query `i` and key `j` in head `h`, from the whole arrays. -/
def dsAll (c : Dev nD) (h : ℕ) (hh : h < 8) (i : Fin 8192) (j : Fin 8448) : EReal :=
  probAll m c h hh i j * ((∑ e : Fin 128, A4 m c (ix2 i (col h hh e)) * A2 m c (ix2 j (col h hh e)))
    - ∑ e : Fin 128, A4 m c (ix2 i (col h hh e)) * A3 m c (ix2 i (col h hh e))) * Ideal.ofBits .f32 0x3DD105EC#32

theorem dsAll_congr (c : Dev nD) {h h' : ℕ} (e : h = h') (hh : h < 8) (hh' : h' < 8) (i : Fin 8192) (j : Fin 8448) :
    dsAll m c h hh i j = dsAll m c h' hh' i j := by
  subst e
  rfl

theorem prob_blk (c : Dev nD) (t : Fin cfg0.N) (i : Fin 8192) (l : Fin 768) :
    prob (B0 m c t) (B1 m c t) (B5 m c t) i l = probAll m c (t.val / 11) (head_lt t) i (key t l) := by
  unfold prob probAll
  simp only [blk0, blk1, blk5]

theorem ds_blk (c : Dev nD) (t : Fin cfg0.N) (i : Fin 8192) (l : Fin 768) :
    dsAt m c t i l = dsAll m c (t.val / 11) (head_lt t) i (key t l) := by
  unfold dsAt ds dsAll
  simp only [prob_blk, blk2, blk3, blk4]

theorem col_lt (C : Fin 1024) : C.val / 128 < 8 := by omega

theorem col_div (h : ℕ) (d : Fin 128) : (h * 128 + d.val) / 128 = h := by
  omega

/-- The gradient of the keys: a sum over all queries. -/
def keyGrad (c : Dev nD) (j : Fin 8448) (C : Fin 1024) : EReal :=
  ∑ i : Fin 8192, dsAll m c (C.val / 128) (col_lt C) i j * A0 m c (ix2 i C)

/-- The gradient of the values: a sum over all queries. -/
def valueGrad (c : Dev nD) (j : Fin 8448) (C : Fin 1024) : EReal :=
  ∑ i : Fin 8192, probAll m c (C.val / 128) (col_lt C) i j * A4 m c (ix2 i C)

/-- The gradient of the queries: a sum over all keys. -/
def queryGrad (c : Dev nD) (i : Fin 8192) (C : Fin 1024) : EReal :=
  ∑ j : Fin 8448, dsAll m c (C.val / 128) (col_lt C) i j * A1 m c (ix2 j C)

theorem key_block (c : Dev nD) (t : Fin cfg0.N) (l : Fin 768) (d : Fin 128) :
    (outsAt0 m c t.val t.isLt).2.1 (ix2 l d) = keyGrad m c (key t l) (col (t.val / 11) (head_lt t) d) := by
  rw [key_point]
  unfold keyGrad
  simp only [ds_blk, blk0, col_div]

theorem value_block (c : Dev nD) (t : Fin cfg0.N) (l : Fin 768) (d : Fin 128) :
    (outsAt0 m c t.val t.isLt).2.2 (ix2 l d) = valueGrad m c (key t l) (col (t.val / 11) (head_lt t) d) := by
  rw [value_point]
  unfold valueGrad
  simp only [prob_blk, blk4, col_div]

/-- The gradient of the keys after the region. -/
theorem key_final (c : Dev nD) : (dats m 0 c).arrAt 7 cfg0.N = fun y : S8448x1024.Idx => keyGrad m c (y 0) (y 1) := by
  refine (dats m 0 c).arrAt_eq_of_covers 7 _ (by decide +kernel) fun t _ y => ?_
  have e : ((cfg0.win 7).blk t).view.emb y = ix2 (key t (y 0)) (col (t.val / 11) (head_lt t) (y 1)) := by
    blk_point [idx t]
  rw [after0_7, e]
  exact (congrArg _ (eq_ix2 y)).trans (key_block m c t (y 0) (y 1))

/-- The gradient of the values after the region. -/
theorem value_final (c : Dev nD) : (dats m 0 c).arrAt 8 cfg0.N = fun y : S8448x1024.Idx => valueGrad m c (y 0) (y 1) := by
  refine (dats m 0 c).arrAt_eq_of_covers 8 _ (by decide +kernel) fun t _ y => ?_
  have e : ((cfg0.win 8).blk t).view.emb y = ix2 (key t (y 0)) (col (t.val / 11) (head_lt t) (y 1)) := by
    blk_point [idx t]
  rw [after0_8, e]
  exact (congrArg _ (eq_ix2 y)).trans (value_block m c t (y 0) (y 1))

/-- The queries' gradient at the last key block of a head: the key blocks' shares add up. -/
theorem query_block (c : Dev nD) (t : Fin cfg0.N) (ht : t.val % 11 = 10) (y : S8192x128.Idx) :
    (outsAt0 m c t.val t.isLt).1 y = queryGrad m c (y 0) (col (t.val / 11) (head_lt t) (y 1)) := by
  have h := Pipeline.eq_sum_fin_of_reset_step_apply_of_flush (fun n h => (outsAt0 m c n h).1) 11 (fun _ => (0 : EReal))
    (fun s (y : S8192x128.Idx) => ∑ l : Fin 768, dsAt m c s (y 0) l * B1 m c s (ix2 l (y 1)))
    (fun t h j => by
      rw [zero_add]
      exact (congrArg _ (eq_ix2 j)).trans (query_point_A m c t h (j 0) (j 1)))
    (fun t h j => by
      refine (congrArg _ (eq_ix2 j)).trans ((query_point_B m c t h (j 0) (j 1)).trans ?_)
      exact congrArg (fun z => (outsAt0 m c (t.val - 1) _).1 z + _) (eq_ix2 j).symm)
    t ht y
  rw [zero_add] at h
  refine h.trans ?_
  unfold queryGrad
  refine Eq.trans ?_ (Fin.sum_univ_tiles 11 768 (by norm_num) _).symm
  refine Finset.sum_congr rfl fun s _ => Finset.sum_congr rfl fun l _ => ?_
  refine (congrArg₂ (· * ·) (ds_blk m c _ (y 0) l) (blk1 m c _ l (y 1))).trans ?_
  have h1 : (11 * (t.val / 11) + s.val) / 11 = t.val / 11 := by omega
  have h2 : key (11 * (t.val / 11) + s.val) l = ⟨s.val * 768 + l.val, by omega⟩ := by
    refine Fin.ext ?_
    show (11 * (t.val / 11) + s.val) % 11 * 768 + l.val = s.val * 768 + l.val
    have : (11 * (t.val / 11) + s.val) % 11 = s.val := by omega
    rw [this]
  simp only [h1, h2]
  exact congrArg (· * _) (dsAll_congr m c (col_div _ (y 1)).symm _ _ _ _)

/-- The gradient of the queries after the region. -/
theorem query_final (c : Dev nD) : (dats m 0 c).arrAt 6 cfg0.N = fun y : S8192x1024.Idx => queryGrad m c (y 0) (y 1) := by
  refine (dats m 0 c).arrAt_eq_of_covers 6 _ (by decide +kernel) fun t hf y => ?_
  have e : ((cfg0.win 6).blk t).view.emb y = ix2 (y 0) (col (t.val / 11) (head_lt t) (y 1)) := by
    blk_point [idx t]
  rw [after0_6, e]
  exact query_block m c t ((flush0_6 t).mp hf) y

end Cert.AttnIdeal.Value

end
-- ==== Proof.Reals.lean ====
/-
  Extended reals that are real numbers: sums, quotients, powers and maxima of real numbers stay real, so a formula over
  finite arguments can be compared in the field of real numbers.
-/
module

public import Idealize.ShloMosaic.PureOps.Ideal
public import Idealize.ShloMosaic.Lib.Pointwise

@[expose] public section

noncomputable section

namespace Cert.Reals

open Idealize.ShloMosaic

/-- A sum of real numbers, taken among the extended reals, is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two real numbers, the divisor not zero, is the real quotient. -/
theorem div_coe (a : ℝ) {b : ℝ} (hb : b ≠ 0) : Ideal.div (a : EReal) (b : EReal) = ((a / b : ℝ) : EReal) := by
  rw [Ideal.div_coe hb, ← EReal.coe_mul, mul_one_div]

/-- An extended real whose magnitude is below infinity is a real number. -/
theorem real_of_abs_lt {x : EReal} (h : max x (-x) < ⊤) : ∃ r : ℝ, x = (r : EReal) := by
  induction x with
  | bot => simp at h
  | top => simp at h
  | coe r => exact ⟨r, rfl⟩

/-- The largest of finitely many (at least one) real numbers is a real number. -/
theorem fold_max_real {ι : Type*} [Fintype ι] [Nonempty ι] (f : ι → ℝ) :
    ∃ r : ℝ, (Finset.univ : Finset ι).fold max (⊥ : EReal) (fun k => (f k : EReal)) = (r : EReal) := by
  classical
  suffices h : ∀ s : Finset ι, s.Nonempty → ∃ r : ℝ, s.fold max (⊥ : EReal) (fun k => (f k : EReal)) = (r : EReal) from
    h _ Finset.univ_nonempty
  intro s hs
  induction hs using Finset.Nonempty.cons_induction with
  | singleton a => exact ⟨f a, by simp⟩
  | cons a s ha _ ih =>
    obtain ⟨r, hr⟩ := ih
    exact ⟨max (f a) r, by rw [Finset.fold_cons, hr]; exact (EReal.coe_strictMono.monotone.map_max).symm⟩

/-- A power of two whose exponent was multiplied by log₂ e is a power of e. -/
theorem exp2_scaled (x : ℝ) : Real.rpow 2 (x * (Real.log 2)⁻¹) = Real.exp x := by
  have h2 : Real.log 2 ≠ 0 := (Real.log_pos (by norm_num)).ne'
  show (2 : ℝ) ^ (x * (Real.log 2)⁻¹) = _
  rw [Real.rpow_def_of_pos (by norm_num)]
  congr 1
  field_simp

end Cert.Reals

end
-- ==== Proof.Attn.Softmax.lean ====
/-
  The gradient of one row of softmax attention, over the real numbers: the form that recomputes the weights from the row's
  saved log-sum and subtracts the row sum of output times cotangent, and the form that differentiates the quotient.
-/
module

public import Mathlib.Analysis.SpecialFunctions.Log.Basic
public import Mathlib.Algebra.BigOperators.Field
public import Mathlib.Tactic.Ring
public import Mathlib.Tactic.FieldSimp

@[expose] public section

noncomputable section

namespace Cert.Softmax

variable {J E : Type*} [Fintype J] [Fintype E] [Nonempty J]

/-- A row's weight read off its log-sum: `exp (s − (a + log Σ exp (s − a)))` is the quotient, whatever shift `a` was used. -/
theorem weight (s : J → ℝ) (a b : ℝ) (j : J) :
    Real.exp (s j - (a + Real.log (∑ k, Real.exp (s k - a)))) = Real.exp (s j - b) / ∑ k, Real.exp (s k - b) := by
  have hpos : ∀ c : ℝ, 0 < ∑ k, Real.exp (s k - c) := fun c => Finset.sum_pos (fun k _ => Real.exp_pos _) Finset.univ_nonempty
  have hsplit : ∀ c : ℝ, ∑ k, Real.exp (s k - c) = (∑ k, Real.exp (s k)) * Real.exp (-c) := fun c => by
    rw [Finset.sum_mul]
    exact Finset.sum_congr rfl fun k _ => by rw [← Real.exp_add, sub_eq_add_neg]
  rw [← sub_sub, Real.exp_sub, Real.exp_log (hpos a), sub_eq_add_neg, sub_eq_add_neg, Real.exp_add, Real.exp_add, hsplit a, hsplit b,
    mul_div_mul_right _ _ (Real.exp_ne_zero _), mul_div_mul_right _ _ (Real.exp_ne_zero _)]

/-- A row's log-sum is the same whatever shift was used. -/
theorem logsum_shift (s : J → ℝ) (a b : ℝ) :
    a + Real.log (∑ k, Real.exp (s k - a)) = b + Real.log (∑ k, Real.exp (s k - b)) := by
  have split : ∀ c : ℝ, c + Real.log (∑ k, Real.exp (s k - c)) = Real.log (∑ k, Real.exp (s k)) := fun c => by
    have hpos : 0 < ∑ k, Real.exp (s k) := Finset.sum_pos (fun k _ => Real.exp_pos _) Finset.univ_nonempty
    have h : ∑ k, Real.exp (s k - c) = (∑ k, Real.exp (s k)) * Real.exp (-c) := by
      rw [Finset.sum_mul]
      exact Finset.sum_congr rfl fun k _ => by rw [← Real.exp_add, sub_eq_add_neg]
    rw [h, Real.log_mul hpos.ne' (Real.exp_ne_zero _), Real.log_exp]
    ring
  rw [split a, split b]

/-- The row sum of output times cotangent is the weighted sum of the weights' cotangents. -/
theorem delta (w : J → ℝ) (v : J → E → ℝ) (g : E → ℝ) : ∑ e, g e * ∑ j, v j e * w j = ∑ j, w j * ∑ e, g e * v j e := by
  simp only [Finset.mul_sum]
  rw [Finset.sum_comm]
  exact Finset.sum_congr rfl fun j _ => Finset.sum_congr rfl fun e _ => by ring

/-- The score's gradient of the quotient rule, `(p / L − Σ p · L⁻² · e) · e`, is `w (p − Σ w p)` for `w = e / L`. -/
theorem grad (p e : J → ℝ) (L : ℝ) (hL : L ≠ 0) (j : J) :
    (p j / L + -∑ k, p k * (1 / (L * L)) * e k) * e j = e j / L * (p j - ∑ k, e k / L * p k) := by
  have h : ∑ k, p k * (1 / (L * L)) * e k = (∑ k, e k / L * p k) / L := by
    rw [Finset.sum_div]
    exact Finset.sum_congr rfl fun k _ => by field_simp
  rw [h]
  field_simp
  ring

end Cert.Softmax

end
-- ==== Proof.Attn.Spec.lean ====
/-
  Softmax attention of every latent query over the latent and the context keys, and its gradient, over the real numbers.
-/
module

public import proofs.«01_k».proof.Proof.Attn.Softmax

@[expose] public section

noncomputable section

namespace Cert.Attention

/-- The factor on the scores, the single-precision number nearest 1 / √96. -/
def scale : ℝ := 3424635 / 33554432

/-- Latent rows followed by context rows. -/
def rows {n : ℕ} (lat : Fin 8192 → Fin 8 → Fin n → ℝ) (ctx : Fin 256 → Fin 8 → Fin n → ℝ) (j : Fin 8448) (h : Fin 8) (d : Fin n) : ℝ :=
  if hj : (j : ℕ) < 8192 then lat ⟨j, hj⟩ h d else ctx ⟨(j : ℕ) - 8192, by omega⟩ h d

variable (q : Fin 8192 → Fin 8 → Fin 96 → ℝ) (k : Fin 8448 → Fin 8 → Fin 96 → ℝ) (v : Fin 8448 → Fin 8 → Fin 64 → ℝ)
  (g : Fin 8192 → Fin 8 → Fin 64 → ℝ)

/-- The scaled score of query `i` against key `j` in head `h`. -/
def score (h : Fin 8) (i : Fin 8192) (j : Fin 8448) : ℝ := (∑ d, q i h d * k j h d) * scale

/-- The softmax weight. -/
def weight (h : Fin 8) (i : Fin 8192) (j : Fin 8448) : ℝ := Real.exp (score q k h i j) / ∑ l, Real.exp (score q k h i l)

/-- The weights' cotangent. -/
def dweight (h : Fin 8) (i : Fin 8192) (j : Fin 8448) : ℝ := ∑ e, g i h e * v j h e

/-- The cotangent of the products of queries and keys. -/
def dscore (h : Fin 8) (i : Fin 8192) (j : Fin 8448) : ℝ :=
  weight q k h i j * (dweight v g h i j - ∑ l, weight q k h i l * dweight v g h i l) * scale

/-- The query's gradient. -/
def dq (i : Fin 8192) (h : Fin 8) (d : Fin 96) : ℝ := ∑ j, dscore q k v g h i j * k j h d

/-- The key's gradient. -/
def dk (j : Fin 8448) (h : Fin 8) (d : Fin 96) : ℝ := ∑ i, dscore q k v g h i j * q i h d

/-- The value's gradient. -/
def dv (j : Fin 8448) (h : Fin 8) (e : Fin 64) : ℝ := ∑ i, weight q k h i j * g i h e

/-- The heads of an array side by side, each padded with zero columns to 128. -/
def padded {r n : ℕ} (t : Fin r → Fin 8 → Fin n → ℝ) (i : Fin r) (c : Fin 1024) : ℝ :=
  if hc : (c : ℕ) % 128 < n then t i ⟨(c : ℕ) / 128, by omega⟩ ⟨(c : ℕ) % 128, hc⟩ else 0

theorem padded_of_lt {r n : ℕ} (t : Fin r → Fin 8 → Fin n → ℝ) (i : Fin r) (c : Fin 1024) (h : (c : ℕ) % 128 < n) :
    padded t i c = t i ⟨c / 128, by omega⟩ ⟨c % 128, h⟩ := dif_pos h

theorem padded_of_not_lt {r n : ℕ} (t : Fin r → Fin 8 → Fin n → ℝ) (i : Fin r) (c : Fin 1024) (h : ¬ (c : ℕ) % 128 < n) :
    padded t i c = 0 := dif_neg h

/-- A product of two padded heads over all 128 columns is the product over the head's own columns. -/
theorem padded_sum {r r' n : ℕ} (hn : n ≤ 128) (t : Fin r → Fin 8 → Fin n → ℝ) (t' : Fin r' → Fin 8 → Fin n → ℝ) (i : Fin r) (j : Fin r')
    (h : ℕ) (hh : h < 8) : ∑ d : Fin 128, padded t i ⟨h * 128 + d, by omega⟩ * padded t' j ⟨h * 128 + d, by omega⟩
      = ∑ d : Fin n, t i ⟨h, hh⟩ d * t' j ⟨h, hh⟩ d := by
  symm
  refine Fintype.sum_of_injective (Fin.castLE hn) (Fin.castLE_injective hn) _ _ (fun d hd => ?_) fun d => ?_
  · have hd' : ¬ (h * 128 + d.val) % 128 < n := by
      intro hlt
      exact hd ⟨⟨d, by omega⟩, rfl⟩
    rw [padded_of_not_lt t i _ hd', zero_mul]
  · have hd' : (h * 128 + d.val) % 128 < n := by omega
    have e1 : (h * 128 + d.val) / 128 = h := by omega
    have e2 : (h * 128 + d.val) % 128 = d := by omega
    simp only [Fin.val_castLE]
    rw [padded_of_lt t i _ hd', padded_of_lt t' j _ hd']
    simp only [e1, e2, Fin.eta]

/-- The attention's output. -/
def out (i : Fin 8192) (h : Fin 8) (e : Fin 64) : ℝ := ∑ j, v j h e * weight q k h i j

/-- The weight from a shifted row: whatever the shift. -/
theorem weight_shift (h : Fin 8) (i : Fin 8192) (a : ℝ) (j : Fin 8448) :
    Real.exp (score q k h i j - a) / ∑ l, Real.exp (score q k h i l - a) = weight q k h i j := by
  have e := (Cert.Softmax.weight (score q k h i) 0 a j).symm.trans (Cert.Softmax.weight (score q k h i) 0 0 j)
  simpa only [sub_zero, weight] using e

/-- The weight from a row's log-sum. -/
theorem weight_logsum (h : Fin 8) (i : Fin 8192) (a : ℝ) (j : Fin 8448) :
    Real.exp (score q k h i j - (a + Real.log (∑ l, Real.exp (score q k h i l - a)))) = weight q k h i j := by
  have e := Cert.Softmax.weight (score q k h i) a 0 j
  simpa only [sub_zero, weight] using e

/-- The row sum of the cotangent against the output. -/
theorem delta (h : Fin 8) (i : Fin 8192) :
    ∑ e, g i h e * out q k v i h e = ∑ l, weight q k h i l * dweight v g h i l :=
  Cert.Softmax.delta (weight q k h i) (fun j e => v j h e) (fun e => g i h e)

end Cert.Attention

end
-- ==== Proof.Attn.Reference.lean ====
/-
  The reference's gradients at real arguments: every intermediate array of the differentiated softmax attention is an array
  of real numbers, and the three results are the gradients of `Proof.Attn.Spec`, padded and laid side by side.
-/
module

public import proofs.«01_k».proof.Proof.Reals
public import proofs.«01_k».proof.Proof.Attn.Spec
public import proofs.«01_k».proof.Proof.Gen.AttnReferenceIdeal.Read
public import Idealize.ShloMosaic.Lib.Pipeline.ValueKit
public import Idealize.ShloMosaic.Lib.Pointwise

@[expose] public section

set_option maxRecDepth 16384

noncomputable section

namespace Cert.AttnReferenceIdeal.Real

open Idealize.ShloMosaic Cert.AttnReferenceIdeal Cert.AttnReferenceIdeal.Read Cert.Reals Cert.Attention

/-- An array of real numbers as an array of extended reals. -/
abbrev lift {a b c : ℕ} (f : Fin a → Fin b → Fin c → ℝ) : (⟨3, ![a, b, c]⟩ : Shape).Idx → EReal := fun i => ((f (i 0) (i 1) (i 2) : ℝ) : EReal)

variable (q kl : Fin 8192 → Fin 8 → Fin 96 → ℝ) (vl : Fin 8192 → Fin 8 → Fin 64 → ℝ)
  (kc : Fin 256 → Fin 8 → Fin 96 → ℝ) (vc : Fin 256 → Fin 8 → Fin 64 → ℝ) (g : Fin 8192 → Fin 8 → Fin 64 → ℝ)

theorem scale_word : Ideal.ofBits .f32 0x3DD105EC#32 = ((scale : ℝ) : EReal) := by
  simp [Ideal.ofBits, Ideal.ieee, scale, -EReal.coe_mul]; norm_num

theorem keys (j : Fin 8448) (h : Fin 8) (d : Fin 96) :
    val_main_v0 (F := Ideal) (lift kl) (lift kc) (ix3 j h d) = ((rows kl kc j h d : ℝ) : EReal) := by
  pointwise [val_main_v0]
  unfold rows
  split <;> rfl

theorem values (j : Fin 8448) (h : Fin 8) (e : Fin 64) :
    val_main_v1 (F := Ideal) (lift vl) (lift vc) (ix3 j h e) = ((rows vl vc j h e : ℝ) : EReal) := by
  pointwise [val_main_v1]
  unfold rows
  split <;> rfl

theorem scores (h : Fin 8) (i : Fin 8192) (j : Fin 8448) :
    val_main_v4 (F := Ideal) (lift q) (lift kl) (lift kc) (ix3 h i j) = ((score q (rows kl kc) h i j : ℝ) : EReal) := by
  pointwise [val_main_v4, val_main_v3, val_main_v2, val_main_cst]
  simp only [keys, scale_word, ← EReal.coe_mul, sum_coe]
  rfl

theorem zero_word : Ideal.ofBits .f32 0x00000000#32 = 0 := by
  simp [Ideal.ofBits, Ideal.ieee]

theorem one_word : Ideal.ofBits .f32 0x3F800000#32 = ((1 : ℝ) : EReal) := by
  simp [Ideal.ofBits, Ideal.ieee, -EReal.coe_mul]; norm_num

theorem bottom_word : Ideal.ofBits .f32 0xFF800000#32 = ⊥ := by
  simp [Ideal.ofBits, Ideal.ieee]

theorem row_max (h : Fin 8) (i : Fin 8192) : val_main_v5 (F := Ideal) (lift q) (lift kl) (lift kc) (ix2 h i)
   = (Finset.univ : Finset (Fin 8448)).fold max (Ideal.ofBits .f32 0xFF800000#32) (fun j => val_main_v4 (F := Ideal) (lift q) (lift kl) (lift kc) (ix3 h i j)) := by
  unfold val_main_v5
  generalize val_main_v4 (F := Ideal) (lift q) (lift kl) (lift kc) = y
  pointwise [val_main_cst_0]

theorem row_top (h : Fin 8) (i : Fin 8192) : val_main_v12 (F := Ideal) (lift q) (lift kl) (lift kc) (ix2 h i)
    = max (Ideal.ofBits .f32 0xFF800000#32) (val_main_v5 (F := Ideal) (lift q) (lift kl) (lift kc) (ix2 h i)) := by
  rw [val_main_v12_apply, val_main_v11_apply, val_main_cst_2_apply]
  generalize val_main_v5 (F := Ideal) (lift q) (lift kl) (lift kc) (ix2 h i) = y
  rfl

/-- The largest score of every row is a real number. -/
theorem maximum : ∃ a : Fin 8 → Fin 8192 → ℝ, ∀ h i,
    val_main_v5 (F := Ideal) (lift q) (lift kl) (lift kc) (ix2 h i) = ((a h i : ℝ) : EReal) := by
  have e : ∀ h i, ∃ r : ℝ, val_main_v5 (F := Ideal) (lift q) (lift kl) (lift kc) (ix2 h i) = (r : EReal) := by
    intro h i
    obtain ⟨r, hr⟩ := fold_max_real fun j : Fin 8448 => score q (rows kl kc) h i j
    refine ⟨r, (row_max q kl kc h i).trans (Eq.trans ?_ hr)⟩
    rw [bottom_word, funext fun j => scores q kl kc h i j]
  choose a ha using e
  exact ⟨a, ha⟩

/-- So is the value subtracted from the row. -/
theorem top : ∃ a : Fin 8 → Fin 8192 → ℝ, ∀ h i,
    val_main_v12 (F := Ideal) (lift q) (lift kl) (lift kc) (ix2 h i) = ((a h i : ℝ) : EReal) := by
  obtain ⟨a, ha⟩ := maximum q kl kc
  refine ⟨a, fun h i => (row_top q kl kc h i).trans ?_⟩
  rw [ha, bottom_word]
  exact max_eq_right bot_le

section

variable (a : Fin 8 → Fin 8192 → ℝ) (ha : ∀ h i, val_main_v12 (F := Ideal) (lift q) (lift kl) (lift kc) (ix2 h i) = ((a h i : ℝ) : EReal))

include ha

theorem numer (h : Fin 8) (i : Fin 8192) (j : Fin 8448) :
    val_main_v25 (F := Ideal) (lift q) (lift kl) (lift kc) (ix3 h i j) = ((Real.exp (score q (rows kl kc) h i j - a h i) : ℝ) : EReal) := by
  pointwise [val_main_v25, val_main_v24, val_main_v23, val_main_v22]
  rw [scores, ha, ← EReal.coe_sub, Ideal.exp_coe]

theorem denom (h : Fin 8) (i : Fin 8192) :
    val_main_v26 (F := Ideal) (lift q) (lift kl) (lift kc) (ix2 h i) = ((∑ j, Real.exp (score q (rows kl kc) h i j - a h i) : ℝ) : EReal) := by
  pointwise [val_main_v26, val_main_cst_8]
  simp only [numer q kl kc a ha, sum_coe, zero_word, zero_add]

omit ha in
theorem denom_ne (h : Fin 8) (i : Fin 8192) : (∑ j, Real.exp (score q (rows kl kc) h i j - a h i)) ≠ 0 :=
  (Finset.sum_pos (fun _ _ => Real.exp_pos _) Finset.univ_nonempty).ne'

theorem weights (h : Fin 8) (i : Fin 8192) (j : Fin 8448) :
    val_main_v29 (F := Ideal) (lift q) (lift kl) (lift kc) (ix3 h i j) = ((weight q (rows kl kc) h i j : ℝ) : EReal) := by
  pointwise [val_main_v29, val_main_v28, val_main_v27]
  rw [numer q kl kc a ha, denom q kl kc a ha, div_coe _ (denom_ne q kl kc a h i), weight_shift]

omit ha in
theorem dweights (h : Fin 8) (i : Fin 8192) (j : Fin 8448) :
    val_main_v36 (F := Ideal) (lift vl) (lift vc) (lift g) (ix3 h i j) = ((dweight (rows vl vc) g h i j : ℝ) : EReal) := by
  pointwise [val_main_v36, val_main_v35]
  simp only [values, ← EReal.coe_mul, sum_coe]
  rfl

theorem dscores (h : Fin 8) (i : Fin 8192) (j : Fin 8448) :
    val_main_v52 (F := Ideal) (lift q) (lift kl) (lift vl) (lift kc) (lift vc) (lift g) (ix3 h i j)
      = ((dscore q (rows kl kc) (rows vl vc) g h i j : ℝ) : EReal) := by
  pointwise [val_main_v52, val_main_v51, val_main_cst_12, val_main_v50, val_main_v49, val_main_v48, val_main_v47, val_main_cst_11,
    val_main_v46, val_main_v45, val_main_v44, val_main_v43, val_main_v42, val_main_cst_10, val_main_v41, val_main_v40, val_main_v39,
    val_main_v32, val_main_v31, val_main_v30, val_main_v27, val_main_cst_9]
  have hL := denom_ne q kl kc a h i
  simp only [numer q kl kc a ha, denom q kl kc a ha, dweights, scale_word, ← EReal.coe_one, ← EReal.coe_mul, div_coe _ hL,
    div_coe _ (mul_ne_zero hL hL), sum_coe, ← EReal.coe_neg, ← EReal.coe_add, Finset.univ_unique, Finset.sum_singleton]
  congr 2
  refine (Cert.Softmax.grad _ _ _ hL j).trans ?_
  simp only [weight_shift]

end

theorem key_grad (j : Fin 8448) (h : Fin 8) (d : Fin 96) :
    val_main_v54 (F := Ideal) (lift q) (lift kl) (lift vl) (lift kc) (lift vc) (lift g) (ix3 j h d)
      = ((dk q (rows kl kc) (rows vl vc) g j h d : ℝ) : EReal) := by
  obtain ⟨a, ha⟩ := top q kl kc
  pointwise [val_main_v54, val_main_v53]
  simp only [dscores q kl vl kc vc g a ha, ← EReal.coe_mul, sum_coe]
  rfl

theorem query_grad (i : Fin 8192) (h : Fin 8) (d : Fin 96) :
    val_main_v56 (F := Ideal) (lift q) (lift kl) (lift vl) (lift kc) (lift vc) (lift g) (ix3 i h d)
      = ((dq q (rows kl kc) (rows vl vc) g i h d : ℝ) : EReal) := by
  obtain ⟨a, ha⟩ := top q kl kc
  pointwise [val_main_v56, val_main_v55]
  simp only [dscores q kl vl kc vc g a ha, keys, ← EReal.coe_mul, sum_coe]
  rfl

theorem value_grad (j : Fin 8448) (h : Fin 8) (e : Fin 64) :
    val_main_v38 (F := Ideal) (lift q) (lift kl) (lift kc) (lift g) (ix3 j h e)
      = ((dv q (rows kl kc) g j h e : ℝ) : EReal) := by
  obtain ⟨a, ha⟩ := top q kl kc
  pointwise [val_main_v38, val_main_v37, val_main_v35]
  simp only [weights q kl kc a ha, ← EReal.coe_mul, sum_coe]
  congr 1
  exact Finset.sum_congr rfl fun i _ => mul_comm _ _

theorem query_result (i : Fin 8192) (c : Fin 1024) :
    val_main_v62 (F := Ideal) (lift q) (lift kl) (lift vl) (lift kc) (lift vc) (lift g) (ix2 i c)
      = ((padded (dq q (rows kl kc) (rows vl vc) g) i c : ℝ) : EReal) := by
  have grad := query_grad q kl vl kc vc g
  unfold val_main_v62 val_main_v61 padded
  generalize val_main_v56 (F := Ideal) (lift q) (lift kl) (lift vl) (lift kc) (lift vc) (lift g) = y at grad ⊢
  pointwise [val_main_cst_13]
  have hc : (c : ℕ) / 128 < 8 := by omega
  by_cases h : (c : ℕ) % 128 < 96
  · rw [dif_pos ⟨hc, h⟩, dif_pos h]
    exact grad _ _ _
  · rw [dif_neg fun h' => h h'.2, dif_neg h]
    rfl

end Cert.AttnReferenceIdeal.Real

end
-- ==== Proof.Attn.Entry.lean ====
/-
  The arrays the attention's backward region reads, at real arguments: the heads laid side by side and padded, the attention's
  output and its rows' log-sums.
-/
module

public import proofs.«01_k».proof.Proof.Reals
public import proofs.«01_k».proof.Proof.Attn.Spec
public import proofs.«01_k».proof.Proof.Attn.Reference
public import proofs.«01_k».proof.Proof.Gen.AttnIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnIdeal.Value

open Cert.AttnIdeal Cert.AttnIdeal.Gen Cert.Attention Cert.Reals
open Cert.AttnReferenceIdeal.Real (lift)
open Cert.AttnReferenceIdeal.Read (val_main_v0 val_main_v1 val_main_v4 val_main_v5)

/-! The host's operations after the scores and their rows' largest, as functions of arrays. -/

/-- The exponentials of the scores less their row's largest. -/
def numers (x : FVec Ideal S8x8192x8448 .f32) (a : FVec Ideal S8x8192 .f32) : FVec Ideal S8x8192x8448 .f32 :=
  Host.exp (subf x (broadcastInDim S8x8192x8448 ![0, 1, 2] bcast_S8x8192x1_S8x8192x8448_0_1_2
    (broadcastInDim S8x8192x1 ![0, 1] bcast_S8x8192_S8x8192x1_0_1 a)))

/-- Their rows' sums. -/
def denoms (y : FVec Ideal S8x8192x8448 .f32) : FVec Ideal S8x8192 .f32 :=
  Host.reduceAdd y (constant S_ FTy.f32 0#32) reducesTo_S8x8192x8448_S8x8192_d2 h_S_

/-- The rows' log-sums, one column of 128 per head. -/
def logsums (a s : FVec Ideal S8x8192 .f32) : FVec Ideal S8192x1024 .f32 :=
  shapeCast S8192x1024 (broadcastInDim S8192x8x128 ![0, 1, 2] bcast_S8192x8x1_S8192x8x128_0_1_2
    (broadcastInDim S8192x8x1 ![0, 1] bcast_S8192x8_S8192x8x1_0_1 (transpose S8192x8 [1, 0] (addf a (Host.log s)) transposes_S8x8192_S8192x8_1_0)))
    shapeCasts_S8192x8x128_S8192x1024

/-- The attention's output. -/
def outs (v : FVec Ideal S8448x8x64 .f32) (y : FVec Ideal S8x8192x8448 .f32) (s : FVec Ideal S8x8192 .f32) : FVec Ideal S8192x8x64 .f32 :=
  transpose S8192x8x64 [2, 0, 1]
    (Host.dotGeneral dot_S8448x8x64_S8x8192x8448_S8x64x8192_0_2_2_1_1_0 none v
      (Host.divf y (broadcastInDim S8x8192x8448 ![0, 1, 2] bcast_S8x8192x1_S8x8192x8448_0_1_2
        (broadcastInDim S8x8192x1 ![0, 1] bcast_S8x8192_S8x8192x1_0_1 s)))) transposes_S8x64x8192_S8192x8x64_2_0_1

/-- The heads of 8192 rows side by side, each padded from 96 to 128 columns. -/
def queryCols (x : FVec Ideal S8192x8x96 .f32) : FVec Ideal S8192x1024 .bf16 :=
  truncf .bf16 (shapeCast S8192x1024 (pad S8192x8x128 ![0, 0, 0] ![0, 0, 32] ![0, 0, 0] x
    (constant S_ .f32 0#32) pads_S8192x8x96_S8192x8x128_000_000_0320 h_S_) shapeCasts_S8192x8x128_S8192x1024) bitsLt_bf16_f32

/-- The heads of 8448 rows side by side, each padded from 96 to 128 columns. -/
def keyCols (x : FVec Ideal S8448x8x96 .f32) : FVec Ideal S8448x1024 .bf16 :=
  truncf .bf16 (shapeCast S8448x1024 (pad S8448x8x128 ![0, 0, 0] ![0, 0, 32] ![0, 0, 0] x
    (constant S_ .f32 0#32) pads_S8448x8x96_S8448x8x128_000_000_0320 h_S_) shapeCasts_S8448x8x128_S8448x1024) bitsLt_bf16_f32

/-- The heads of 8448 rows side by side, each padded from 64 to 128 columns. -/
def valueCols (x : FVec Ideal S8448x8x64 .f32) : FVec Ideal S8448x1024 .bf16 :=
  truncf .bf16 (shapeCast S8448x1024 (pad S8448x8x128 ![0, 0, 0] ![0, 0, 64] ![0, 0, 0] x
    (constant S_ .f32 0#32) pads_S8448x8x64_S8448x8x128_000_000_0640 h_S_) shapeCasts_S8448x8x128_S8448x1024) bitsLt_bf16_f32

/-- The heads of 8192 rows side by side, each padded from 64 to 128 columns. -/
def outCols (x : FVec Ideal S8192x8x64 .f32) : FVec Ideal S8192x1024 .bf16 :=
  truncf .bf16 (shapeCast S8192x1024 (pad S8192x8x128 ![0, 0, 0] ![0, 0, 64] ![0, 0, 0] x
    (constant S_ .f32 0#32) pads_S8192x8x64_S8192x8x128_000_000_0640 h_S_) shapeCasts_S8192x8x128_S8192x1024) bitsLt_bf16_f32

section Entry

variable (m : (ℓ : Loc nD τ sig) → Buf (Elt Ideal) ℓ) (c : Dev nD)
  (x0 : FVec Ideal S8192x8x96 .f32) (x1 : FVec Ideal S8192x8x96 .f32) (x2 : FVec Ideal S8192x8x64 .f32)
  (x3 : FVec Ideal S256x8x96 .f32) (x4 : FVec Ideal S256x8x64 .f32) (x5 : FVec Ideal S8192x8x64 .f32)
  (h0 : m ((c : Thread nD τ).loc main_arg0) = x0) (h1 : m ((c : Thread nD τ).loc main_arg1) = x1)
  (h2 : m ((c : Thread nD τ).loc main_arg2) = x2) (h3 : m ((c : Thread nD τ).loc main_arg3) = x3)
  (h4 : m ((c : Thread nD τ).loc main_arg4) = x4) (h5 : m ((c : Thread nD τ).loc main_arg5) = x5)

include h0 in
theorem V_query : V m c main_v24 = queryCols x0 := by
  subst h0
  entry_read
  rfl

include h1 h3 in
theorem V_key : V m c main_v27 = keyCols (val_main_v0 (F := Ideal) x1 x3) := by
  subst h1 h3
  entry_read
  rfl

include h2 h4 in
theorem V_value : V m c main_v30 = valueCols (val_main_v1 (F := Ideal) x2 x4) := by
  subst h2 h4
  entry_read
  rfl

include h5 in
theorem V_cotangent : V m c main_v36 = outCols x5 := by
  subst h5
  entry_read
  rfl

include h0 h1 h3 in
theorem V_logsum : V m c main_v21 = logsums (val_main_v5 (F := Ideal) x0 x1 x3)
    (denoms (numers (val_main_v4 (F := Ideal) x0 x1 x3) (val_main_v5 (F := Ideal) x0 x1 x3))) := by
  subst h0 h1 h3
  entry_read
  rfl

include h0 h1 h2 h3 h4 in
theorem V_out : V m c main_v33 = outCols
    (outs (val_main_v1 (F := Ideal) x2 x4) (numers (val_main_v4 (F := Ideal) x0 x1 x3) (val_main_v5 (F := Ideal) x0 x1 x3))
      (denoms (numers (val_main_v4 (F := Ideal) x0 x1 x3) (val_main_v5 (F := Ideal) x0 x1 x3)))) := by
  subst h0 h1 h2 h3 h4
  entry_read
  rfl

end Entry

section Values

variable (q kl : Fin 8192 → Fin 8 → Fin 96 → ℝ) (vl : Fin 8192 → Fin 8 → Fin 64 → ℝ)
  (kc : Fin 256 → Fin 8 → Fin 96 → ℝ) (vc : Fin 256 → Fin 8 → Fin 64 → ℝ) (g : Fin 8192 → Fin 8 → Fin 64 → ℝ)

theorem queryCols_real (x : FVec Ideal S8192x8x96 .f32) (f : Fin 8192 → Fin 8 → Fin 96 → ℝ) (hx : ∀ i h d, x (ix3 i h d) = ((f i h d : ℝ) : EReal))
    (i : Fin 8192) (C : Fin 1024) : queryCols x (ix2 i C) = ((padded f i C : ℝ) : EReal) := by
  have hc : (C : ℕ) / 128 < 8 := by omega
  by_cases h : (C : ℕ) % 128 < 96
  · rw [padded_of_lt f i C h]
    pointwise [queryCols]
    rw [dif_pos (c := (C : ℕ) / 128 < 8 ∧ (C : ℕ) % 128 < 96) ⟨hc, h⟩]
    exact hx _ _ _
  · rw [padded_of_not_lt f i C h]
    pointwise [queryCols]
    rw [dif_neg (c := (C : ℕ) / 128 < 8 ∧ (C : ℕ) % 128 < 96) fun h' => h h'.2]
    rfl

theorem keyCols_real (x : FVec Ideal S8448x8x96 .f32) (f : Fin 8448 → Fin 8 → Fin 96 → ℝ) (hx : ∀ i h d, x (ix3 i h d) = ((f i h d : ℝ) : EReal))
    (i : Fin 8448) (C : Fin 1024) : keyCols x (ix2 i C) = ((padded f i C : ℝ) : EReal) := by
  have hc : (C : ℕ) / 128 < 8 := by omega
  by_cases h : (C : ℕ) % 128 < 96
  · rw [padded_of_lt f i C h]
    pointwise [keyCols]
    rw [dif_pos (c := (C : ℕ) / 128 < 8 ∧ (C : ℕ) % 128 < 96) ⟨hc, h⟩]
    exact hx _ _ _
  · rw [padded_of_not_lt f i C h]
    pointwise [keyCols]
    rw [dif_neg (c := (C : ℕ) / 128 < 8 ∧ (C : ℕ) % 128 < 96) fun h' => h h'.2]
    rfl

theorem valueCols_real (x : FVec Ideal S8448x8x64 .f32) (f : Fin 8448 → Fin 8 → Fin 64 → ℝ) (hx : ∀ i h d, x (ix3 i h d) = ((f i h d : ℝ) : EReal))
    (i : Fin 8448) (C : Fin 1024) : valueCols x (ix2 i C) = ((padded f i C : ℝ) : EReal) := by
  have hc : (C : ℕ) / 128 < 8 := by omega
  by_cases h : (C : ℕ) % 128 < 64
  · rw [padded_of_lt f i C h]
    pointwise [valueCols]
    rw [dif_pos (c := (C : ℕ) / 128 < 8 ∧ (C : ℕ) % 128 < 64) ⟨hc, h⟩]
    exact hx _ _ _
  · rw [padded_of_not_lt f i C h]
    pointwise [valueCols]
    rw [dif_neg (c := (C : ℕ) / 128 < 8 ∧ (C : ℕ) % 128 < 64) fun h' => h h'.2]
    rfl

theorem outCols_real (x : FVec Ideal S8192x8x64 .f32) (f : Fin 8192 → Fin 8 → Fin 64 → ℝ) (hx : ∀ i h d, x (ix3 i h d) = ((f i h d : ℝ) : EReal))
    (i : Fin 8192) (C : Fin 1024) : outCols x (ix2 i C) = ((padded f i C : ℝ) : EReal) := by
  have hc : (C : ℕ) / 128 < 8 := by omega
  by_cases h : (C : ℕ) % 128 < 64
  · rw [padded_of_lt f i C h]
    pointwise [outCols]
    rw [dif_pos (c := (C : ℕ) / 128 < 8 ∧ (C : ℕ) % 128 < 64) ⟨hc, h⟩]
    exact hx _ _ _
  · rw [padded_of_not_lt f i C h]
    pointwise [outCols]
    rw [dif_neg (c := (C : ℕ) / 128 < 8 ∧ (C : ℕ) % 128 < 64) fun h' => h h'.2]
    rfl

theorem numers_real (x : FVec Ideal S8x8192x8448 .f32) (a : FVec Ideal S8x8192 .f32) (f : Fin 8 → Fin 8192 → Fin 8448 → ℝ)
    (b : Fin 8 → Fin 8192 → ℝ) (hx : ∀ h i j, x (ix3 h i j) = ((f h i j : ℝ) : EReal)) (ha : ∀ h i, a (ix2 h i) = ((b h i : ℝ) : EReal))
    (h : Fin 8) (i : Fin 8192) (j : Fin 8448) : numers x a (ix3 h i j) = ((Real.exp (f h i j - b h i) : ℝ) : EReal) := by
  pointwise [numers]
  rw [hx, ha, ← EReal.coe_sub, Ideal.exp_coe]

theorem denoms_real (y : FVec Ideal S8x8192x8448 .f32) (f : Fin 8 → Fin 8192 → Fin 8448 → ℝ)
    (hy : ∀ h i j, y (ix3 h i j) = ((f h i j : ℝ) : EReal)) (h : Fin 8) (i : Fin 8192) :
    denoms y (ix2 h i) = ((∑ j, f h i j : ℝ) : EReal) := by
  pointwise [denoms]
  simp only [hy, sum_coe, zero_add]

theorem logsums_real (a s : FVec Ideal S8x8192 .f32) (b t : Fin 8 → Fin 8192 → ℝ) (ha : ∀ h i, a (ix2 h i) = ((b h i : ℝ) : EReal))
    (hs : ∀ h i, s (ix2 h i) = ((t h i : ℝ) : EReal)) (ht : ∀ h i, 0 < t h i) (i : Fin 8192) (C : Fin 1024) :
    logsums a s (ix2 i C) = ((b ⟨C / 128, by omega⟩ i + Real.log (t ⟨C / 128, by omega⟩ i) : ℝ) : EReal) := by
  pointwise [logsums]
  rw [ha, hs, Ideal.log_coe, if_neg (not_le.mpr (ht _ _)), ← EReal.coe_add]

theorem outs_real (v : FVec Ideal S8448x8x64 .f32) (y : FVec Ideal S8x8192x8448 .f32) (s : FVec Ideal S8x8192 .f32)
    (w : Fin 8448 → Fin 8 → Fin 64 → ℝ) (f : Fin 8 → Fin 8192 → Fin 8448 → ℝ) (t : Fin 8 → Fin 8192 → ℝ)
    (hv : ∀ j h e, v (ix3 j h e) = ((w j h e : ℝ) : EReal)) (hy : ∀ h i j, y (ix3 h i j) = ((f h i j : ℝ) : EReal))
    (hs : ∀ h i, s (ix2 h i) = ((t h i : ℝ) : EReal)) (ht : ∀ h i, t h i ≠ 0) (i : Fin 8192) (h : Fin 8) (e : Fin 64) :
    outs v y s (ix3 i h e) = ((∑ j, w j h e * (f h i j / t h i) : ℝ) : EReal) := by
  pointwise [outs]
  simp only [hv, hy, hs, div_coe _ (ht _ _), ← EReal.coe_mul, sum_coe]

end Values

end Cert.AttnIdeal.Value

end
-- ==== Proof.Attn.Result.lean ====
/-
  The attention's backward region at real arguments: the three arrays it leaves are the gradients of `Proof.Attn.Spec`.
-/
module

public import proofs.«01_k».proof.Proof.Attn.Final
public import proofs.«01_k».proof.Proof.Attn.Entry

@[expose] public section

set_option maxRecDepth 16384

noncomputable section

open Idealize.ShloMosaic Idealize.ShloMosaic.TcCoe Idealize.SL.Sem

namespace Cert.AttnIdeal.Value

open Cert.AttnIdeal Cert.AttnIdeal.Gen Cert.Attention Cert.Reals
open Cert.AttnReferenceIdeal.Real (lift scale_word maximum scores keys values)

theorem scale_log2e : Named.named (F := Ideal) κ "scale_log2e" (φ := .f32) 0x3E16C740#32 = ((scale * (Real.log 2)⁻¹ : ℝ) : EReal) :=
  IdealRules.named_const.ideal_named_scalar _ _ _ _ rfl

theorem log2e : Named.named (F := Ideal) κ "log2e" (φ := .f32) 0x3FB8AA3B#32 = (((Real.log 2)⁻¹ : ℝ) : EReal) :=
  IdealRules.named_const.ideal_named_scalar _ _ _ _ rfl

variable (m : (ℓ : Loc nD τ sig) → Buf (Elt Ideal) ℓ) (c : Dev nD)
  (q : Fin 8192 → Fin 8 → Fin 96 → ℝ) (k : Fin 8448 → Fin 8 → Fin 96 → ℝ) (v : Fin 8448 → Fin 8 → Fin 64 → ℝ)
  (g : Fin 8192 → Fin 8 → Fin 64 → ℝ) (a : Fin 8 → Fin 8192 → ℝ)

/-- What the region finds in the six arrays it reads. -/
structure Found : Prop where
  query : ∀ i C, A0 m c (ix2 i C) = ((padded q i C : ℝ) : EReal)
  key : ∀ j C, A1 m c (ix2 j C) = ((padded k j C : ℝ) : EReal)
  value : ∀ j C, A2 m c (ix2 j C) = ((padded v j C : ℝ) : EReal)
  output : ∀ i C, A3 m c (ix2 i C) = ((padded (out q k v) i C : ℝ) : EReal)
  cotangent : ∀ i C, A4 m c (ix2 i C) = ((padded g i C : ℝ) : EReal)
  logsum : ∀ i (C : Fin 1024), A5 m c (ix2 i C) = ((a ⟨C / 128, by omega⟩ i
    + Real.log (∑ l, Real.exp (score q k ⟨C / 128, by omega⟩ i l - a ⟨C / 128, by omega⟩ i)) : ℝ) : EReal)

variable {m c q k v g a} (f : Found m c q k v g a)

include f

theorem prob_real (h : ℕ) (hh : h < 8) (i : Fin 8192) (j : Fin 8448) :
    probAll m c h hh i j = ((weight q k ⟨h, hh⟩ i j : ℝ) : EReal) := by
  unfold probAll
  rw [scale_log2e, log2e, f.logsum]
  simp only [f.query, f.key, ← EReal.coe_mul, sum_coe, ← EReal.coe_sub]
  rw [padded_sum (by norm_num) q k i j h hh]
  have e : (⟨(col h hh 0).val / 128, by omega⟩ : Fin 8) = ⟨h, hh⟩ := by
    refine Fin.ext ?_
    show (h * 128 + 0) / 128 = h
    omega
  rw [e, Ideal.exp2_coe]
  refine congrArg _ ?_
  rw [← weight_logsum q k ⟨h, hh⟩ i (a ⟨h, hh⟩ i) j, ← exp2_scaled]
  refine congrArg (Real.rpow 2) ?_
  unfold score
  ring

theorem ds_real (h : ℕ) (hh : h < 8) (i : Fin 8192) (j : Fin 8448) :
    dsAll m c h hh i j = ((dscore q k v g ⟨h, hh⟩ i j : ℝ) : EReal) := by
  unfold dsAll
  rw [prob_real f, scale_word]
  simp only [f.value, f.output, f.cotangent, ← EReal.coe_mul, sum_coe, ← EReal.coe_sub]
  rw [padded_sum (by norm_num) g v i j h hh, padded_sum (by norm_num) g (out q k v) i i h hh, delta]
  rfl

theorem query_real (i : Fin 8192) (C : Fin 1024) : queryGrad m c i C = ((padded (dq q k v g) i C : ℝ) : EReal) := by
  unfold queryGrad
  simp only [ds_real f, f.key, ← EReal.coe_mul, sum_coe]
  refine congrArg _ ?_
  by_cases h : (C : ℕ) % 128 < 96
  · simp only [padded_of_lt _ _ C h]
    rfl
  · simp only [padded_of_not_lt _ _ C h, mul_zero, Finset.sum_const_zero]

theorem key_real (j : Fin 8448) (C : Fin 1024) : keyGrad m c j C = ((padded (dk q k v g) j C : ℝ) : EReal) := by
  unfold keyGrad
  simp only [ds_real f, f.query, ← EReal.coe_mul, sum_coe]
  refine congrArg _ ?_
  by_cases h : (C : ℕ) % 128 < 96
  · simp only [padded_of_lt _ _ C h]
    rfl
  · simp only [padded_of_not_lt _ _ C h, mul_zero, Finset.sum_const_zero]

theorem value_real (j : Fin 8448) (C : Fin 1024) : valueGrad m c j C = ((padded (dv q k g) j C : ℝ) : EReal) := by
  unfold valueGrad
  simp only [prob_real f, f.cotangent, ← EReal.coe_mul, sum_coe]
  refine congrArg _ ?_
  by_cases h : (C : ℕ) % 128 < 64
  · simp only [padded_of_lt _ _ C h]
    rfl
  · simp only [padded_of_not_lt _ _ C h, mul_zero, Finset.sum_const_zero]

omit f

/-- At real arguments the region finds the padded heads, the attention's output and its rows' log-sums. -/
theorem found (kl : Fin 8192 → Fin 8 → Fin 96 → ℝ) (vl : Fin 8192 → Fin 8 → Fin 64 → ℝ)
    (kc : Fin 256 → Fin 8 → Fin 96 → ℝ) (vc : Fin 256 → Fin 8 → Fin 64 → ℝ)
    (h0 : m ((c : Thread nD τ).loc main_arg0) = lift q) (h1 : m ((c : Thread nD τ).loc main_arg1) = lift kl)
    (h2 : m ((c : Thread nD τ).loc main_arg2) = lift vl) (h3 : m ((c : Thread nD τ).loc main_arg3) = lift kc)
    (h4 : m ((c : Thread nD τ).loc main_arg4) = lift vc) (h5 : m ((c : Thread nD τ).loc main_arg5) = lift g) :
    ∃ a, Found m c q (rows kl kc) (rows vl vc) g a := by
  obtain ⟨a, ha⟩ := maximum q kl kc
  have hn := numers_real _ _ _ _ (scores q kl kc) ha
  have hd := denoms_real _ _ hn
  have pos : ∀ h i, 0 < ∑ j, Real.exp (score q (rows kl kc) h i j - a h i) := fun h i =>
    Finset.sum_pos (fun _ _ => Real.exp_pos _) Finset.univ_nonempty
  refine ⟨a, ?_, ?_, ?_, ?_, ?_, ?_⟩
  · intro i C
    exact (congrFun (V_query m c _ h0) _).trans (queryCols_real _ q (fun _ _ _ => rfl) i C)
  · intro j C
    exact (congrFun (V_key m c _ _ h1 h3) _).trans (keyCols_real _ _ (keys kl kc) j C)
  · intro j C
    exact (congrFun (V_value m c _ _ h2 h4) _).trans (valueCols_real _ _ (values vl vc) j C)
  · intro i C
    refine (congrFun (V_out m c _ _ _ _ _ h0 h1 h2 h3 h4) _).trans (outCols_real _ _ (fun i h e => ?_) i C)
    refine (outs_real _ _ _ _ _ _ (values vl vc) hn hd (fun h i => (pos h i).ne') i h e).trans ?_
    simp only [weight_shift]
    rfl
  · intro i C
    exact (congrFun (V_cotangent m c _ h5) _).trans (outCols_real _ g (fun _ _ _ => rfl) i C)
  · intro i C
    exact (congrFun (V_logsum m c _ _ _ h0 h1 h3) _).trans (logsums_real _ _ _ _ ha hd pos i C)

end Cert.AttnIdeal.Value

end
-- ==== Proof.Attn.Results.lean ====
/-
  The reference's gradients of the keys and of the values: its two parts for the rows of the latents and of the context, joined.
-/
module

public import proofs.«01_k».proof.Proof.Attn.Reference

@[expose] public section

set_option maxRecDepth 16384

noncomputable section

namespace Cert.AttnReferenceIdeal.Real

open Idealize.ShloMosaic Cert.AttnReferenceIdeal Cert.AttnReferenceIdeal.Read Cert.Reals Cert.Attention

variable (q kl : Fin 8192 → Fin 8 → Fin 96 → ℝ) (vl : Fin 8192 → Fin 8 → Fin 64 → ℝ)
  (kc : Fin 256 → Fin 8 → Fin 96 → ℝ) (vc : Fin 256 → Fin 8 → Fin 64 → ℝ) (g : Fin 8192 → Fin 8 → Fin 64 → ℝ)

theorem key_result (j : Fin 8448) (c : Fin 1024) :
    val_main_v65 (F := Ideal) (lift q) (lift kl) (lift vl) (lift kc) (lift vc) (lift g) (ix2 j c)
      = ((padded (dk q (rows kl kc) (rows vl vc) g) j c : ℝ) : EReal) := by
  have grad := key_grad q kl vl kc vc g
  have hc : (c : ℕ) / 128 < 8 := by omega
  unfold val_main_v65 val_main_v64 val_main_v63 val_main_v60 val_main_v59
  generalize val_main_v54 (F := Ideal) (lift q) (lift kl) (lift vl) (lift kc) (lift vc) (lift g) = y at grad ⊢
  generalize dk q (rows kl kc) (rows vl vc) g = z at grad ⊢
  have join : ∀ h d, (if h0 : (j : ℕ) < 8192 then y (ix3 j h d) else y (ix3 ⟨8192 + ((j : ℕ) - 8192), by omega⟩ h d)) = ((z j h d : ℝ) : EReal) := by
    intro h d
    split
    · exact grad _ _ _
    · have e : 8192 + ((j : ℕ) - 8192) = j := by omega
      simp only [e, Fin.eta]
      exact grad _ _ _
  by_cases h : (c : ℕ) % 128 < 96
  · rw [padded_of_lt z j c h]
    pointwise [val_main_cst_14]
    rw [dif_pos (c := (c : ℕ) / 128 < 8 ∧ (c : ℕ) % 128 < 96) ⟨hc, h⟩]
    exact join ⟨_, hc⟩ ⟨_, h⟩
  · rw [padded_of_not_lt z j c h]
    pointwise [val_main_cst_14]
    rw [dif_neg (c := (c : ℕ) / 128 < 8 ∧ (c : ℕ) % 128 < 96) fun h' => h h'.2]
    rfl

theorem value_result (j : Fin 8448) (c : Fin 1024) :
    val_main_v68 (F := Ideal) (lift q) (lift kl) (lift kc) (lift g) (ix2 j c)
      = ((padded (dv q (rows kl kc) g) j c : ℝ) : EReal) := by
  have grad := value_grad q kl kc g
  have hc : (c : ℕ) / 128 < 8 := by omega
  unfold val_main_v68 val_main_v67 val_main_v66 val_main_v58 val_main_v57
  generalize val_main_v38 (F := Ideal) (lift q) (lift kl) (lift kc) (lift g) = y at grad ⊢
  generalize dv q (rows kl kc) g = z at grad ⊢
  have join : ∀ h d, (if h0 : (j : ℕ) < 8192 then y (ix3 j h d) else y (ix3 ⟨8192 + ((j : ℕ) - 8192), by omega⟩ h d)) = ((z j h d : ℝ) : EReal) := by
    intro h d
    split
    · exact grad _ _ _
    · have e : 8192 + ((j : ℕ) - 8192) = j := by omega
      simp only [e, Fin.eta]
      exact grad _ _ _
  by_cases h : (c : ℕ) % 128 < 64
  · rw [padded_of_lt z j c h]
    pointwise [val_main_cst_15]
    rw [dif_pos (c := (c : ℕ) / 128 < 8 ∧ (c : ℕ) % 128 < 64) ⟨hc, h⟩]
    exact join ⟨_, hc⟩ ⟨_, h⟩
  · rw [padded_of_not_lt z j c h]
    pointwise [val_main_cst_15]
    rw [dif_neg (c := (c : ℕ) / 128 < 8 ∧ (c : ℕ) % 128 < 64) fun h' => h h'.2]
    rfl

end Cert.AttnReferenceIdeal.Real

end
-- ==== Proof.Attn.Agree.lean ====
/-
  The two attention programs leave the same three arrays when their arguments are finite.
-/
module

public import proofs.«01_k».proof.Proof.Attn.Result
public import proofs.«01_k».proof.Proof.Attn.Results
public import proofs.«01_k».proof.Proof.Gen.AttnReferenceIdeal.Run
public import proofs.«01_k».proof.Pre_attention_finite

@[expose] public section

set_option maxRecDepth 16384

noncomputable section

open Idealize.ShloMosaic Idealize.ShloMosaic.TcCoe Idealize.SL.Sem

namespace Cert.AttnIdeal.Value

open Cert.AttnIdeal Cert.AttnIdeal.Gen Cert.Attention Cert.Reals
open Cert.AttnReferenceIdeal.Real (lift query_result key_result value_result)
open Cert.AttnReferenceIdeal.Read (val_main_v62 val_main_v65 val_main_v68)

/-- An array all of whose magnitudes lie below infinity is an array of real numbers. -/
theorem real_array {a b c : ℕ} (x : FVec Ideal ⟨3, ![a, b, c]⟩ .f32) (hb : (⟨0, ![]⟩ : Shape).BroadcastsInDim ⟨3, ![a, b, c]⟩ (![] : Fin 0 → Fin 3))
    (h : cmpf .olt (Host.absf x) (broadcastInDim ⟨3, ![a, b, c]⟩ ![] hb (constant ⟨0, ![]⟩ .f32 0x7F800000#32)) = fun _ => 1#1) :
    ∃ f : Fin a → Fin b → Fin c → ℝ, x = lift f := by
  have real : ∀ i, ∃ r : ℝ, x i = (r : EReal) := fun i => by
    have e := congrFun h i
    have top : Ideal.ofBits .f32 0x7F800000#32 = (⊤ : EReal) := by simp [Ideal.ofBits, Ideal.ieee]
    have e' : Scalar.cmpf .olt (max (x i) (-(x i))) (Ideal.ofBits .f32 0x7F800000#32) = 1#1 := e
    rw [top] at e'
    by_contra hx
    have hn : ¬ max (x i) (-(x i)) < ⊤ := fun hlt => hx (real_of_abs_lt hlt)
    have e0 : Ideal.cmp .olt (max (x i) (-(x i))) (⊤ : EReal) = 0#1 := by
      unfold Ideal.cmp
      simp only [hn]
      rfl
    exact absurd (e0.symm.trans e') (by decide)
  choose f hf using real
  exact ⟨fun i j k => f (ix3 i j k), funext fun i => (hf i).trans (congrArg (fun t => ((f t : ℝ) : EReal)) (eq_ix3 i))⟩

variable (m : (ℓ : Loc nD τ sig) → Buf (Elt Ideal) ℓ) (c : Dev nD)
  (q : Fin 8192 → Fin 8 → Fin 96 → ℝ) (kl : Fin 8192 → Fin 8 → Fin 96 → ℝ) (vl : Fin 8192 → Fin 8 → Fin 64 → ℝ)
  (kc : Fin 256 → Fin 8 → Fin 96 → ℝ) (vc : Fin 256 → Fin 8 → Fin 64 → ℝ) (g : Fin 8192 → Fin 8 → Fin 64 → ℝ)
  (h0 : m ((c : Thread nD τ).loc main_arg0) = lift q) (h1 : m ((c : Thread nD τ).loc main_arg1) = lift kl)
  (h2 : m ((c : Thread nD τ).loc main_arg2) = lift vl) (h3 : m ((c : Thread nD τ).loc main_arg3) = lift kc)
  (h4 : m ((c : Thread nD τ).loc main_arg4) = lift vc) (h5 : m ((c : Thread nD τ).loc main_arg5) = lift g)

include h0 h1 h2 h3 h4 h5

theorem query_agree : (dats m 0 c).arrAt 6 cfg0.N = val_main_v62 (F := Ideal) (lift q) (lift kl) (lift vl) (lift kc) (lift vc) (lift g) := by
  obtain ⟨a, f⟩ := found kl vl kc vc h0 h1 h2 h3 h4 h5
  refine (query_final m c).trans (funext fun y => ?_)
  refine (query_real f (y 0) (y 1)).trans ?_
  exact (query_result q kl vl kc vc g (y 0) (y 1)).symm.trans (congrArg _ (eq_ix2 y).symm)

theorem key_agree : (dats m 0 c).arrAt 7 cfg0.N = val_main_v65 (F := Ideal) (lift q) (lift kl) (lift vl) (lift kc) (lift vc) (lift g) := by
  obtain ⟨a, f⟩ := found kl vl kc vc h0 h1 h2 h3 h4 h5
  refine (key_final m c).trans (funext fun y => ?_)
  refine (key_real f (y 0) (y 1)).trans ?_
  exact (key_result q kl vl kc vc g (y 0) (y 1)).symm.trans (congrArg _ (eq_ix2 y).symm)

theorem value_agree : (dats m 0 c).arrAt 8 cfg0.N = val_main_v68 (F := Ideal) (lift q) (lift kl) (lift kc) (lift g) := by
  obtain ⟨a, f⟩ := found kl vl kc vc h0 h1 h2 h3 h4 h5
  refine (value_final m c).trans (funext fun y => ?_)
  refine (value_real f (y 0) (y 1)).trans ?_
  exact (value_result q kl kc g (y 0) (y 1)).symm.trans (congrArg _ (eq_ix2 y).symm)

end Cert.AttnIdeal.Value

namespace Cert.AttnReferenceIdeal.Real

open Cert.AttnReferenceIdeal Cert.AttnReferenceIdeal.Read

variable (m : (ℓ : Loc nD τ sig) → Buf (Elt Ideal) ℓ) (c : Dev nD)
  (x0 x1 : FVec Ideal S8192x8x96 .f32) (x2 : FVec Ideal S8192x8x64 .f32) (x3 : FVec Ideal S256x8x96 .f32)
  (x4 : FVec Ideal S256x8x64 .f32) (x5 : FVec Ideal S8192x8x64 .f32)
  (h0 : m ((c.tc : Thread nD τ).loc main_arg0) = x0) (h1 : m ((c.tc : Thread nD τ).loc main_arg1) = x1)
  (h2 : m ((c.tc : Thread nD τ).loc main_arg2) = x2) (h3 : m ((c.tc : Thread nD τ).loc main_arg3) = x3)
  (h4 : m ((c.tc : Thread nD τ).loc main_arg4) = x4) (h5 : m ((c.tc : Thread nD τ).loc main_arg5) = x5)

include h0 h1 h2 h3 h4 h5

theorem query_left : Cert.AttnReferenceIdeal.Value.res_main_v62 m c = val_main_v62 (F := Ideal) x0 x1 x2 x3 x4 x5 := by
  subst h0 h1 h2 h3 h4 h5
  exact val_main_v62_eq m c

theorem key_left : Cert.AttnReferenceIdeal.Value.res_main_v65 m c = val_main_v65 (F := Ideal) x0 x1 x2 x3 x4 x5 := by
  subst h0 h1 h2 h3 h4 h5
  exact val_main_v65_eq m c

omit h2 h4 in
theorem value_left : Cert.AttnReferenceIdeal.Value.res_main_v68 m c = val_main_v68 (F := Ideal) x0 x1 x3 x5 := by
  subst h0 h1 h3 h5
  exact val_main_v68_eq m c

end Cert.AttnReferenceIdeal.Real

end
-- ==== Proof.Fwd.Steps.lean ====
/-
  What the attention call computes on one tile of 1024 queries: eleven blocks of 768 keys, each of which moves the largest score
  seen so far and rescales the weighted sum of the values accordingly.
-/
module

public import proofs.«01_k».proof.Proof.Gen.FwdIdeal.Skeleton
public import Idealize.ShloMosaic.Lib.Pipeline.ValueKit
public import Idealize.ShloMosaic.Lib.Pointwise

@[expose] public section

set_option maxRecDepth 16384

noncomputable section

open Idealize.ShloMosaic

namespace Cert.FwdIdeal.Steps

open Cert.FwdIdeal Cert.FwdIdeal.Gen

/-- The products of the tile's queries and a block's keys. -/
abbrev dots (q : FVec Ideal S1024x128 .bf16) (k : Vec Ideal S768x128 .bf16) : FVec Ideal S1024x768 .f32 := k0_pay7 q k

/-- The largest product seen after a block. -/
def top (a : FVec Ideal S1024x1 .f32) (x : FVec Ideal S1024x768 .f32) : FVec Ideal S1024x1 .f32 :=
  maximumf a (shapeCast S1024x1 (multiReduction .maximumf [1] S1024 x 0xFF800000#32 reduces_S1024x768_S1024 (.inl rfl) rfl) shapeCasts_S1024_S1024x1)

/-- The weighted sum of the values after a block. -/
def accum (a b : FVec Ideal S1024x1 .f32) (x : FVec Ideal S1024x768 .f32) (y : FVec Ideal S1024x128 .f32) (v : Vec Ideal S768x128 .bf16) :
    FVec Ideal S1024x128 .f32 :=
  addf (mulf (broadcastTo S1024x128 (exp2 (mulf (subf a b) (broadcast S1024x1 (Named.named κ "scale_log2e" 0x3E16C740#32))))
      broadcasts_S1024x1_S1024x128) y)
    (matmul dot_S1024x768_S768x128_S1024x128_1_0_0_1_n_n none
      (truncf .bf16 (exp2 (subf (mulf x (broadcast S1024x768 (Named.named κ "scale_log2e" 0x3E16C740#32)))
        (broadcastTo S1024x768 (mulf b (broadcast S1024x1 (Named.named κ "scale_log2e" 0x3E16C740#32))) broadcasts_S1024x1_S1024x768)))
        bitsLt_bf16_f32)
      (addf (shapeCast S768x128 v shapeCasts_S768x128_S768x128) (k0_pay2 (F := Ideal))) (constant S1024x128 .f32 0x00000000#32))

theorem dots_apply (q : FVec Ideal S1024x128 .bf16) (k : Vec Ideal S768x128 .bf16) (r : Fin 1024) (l : Fin 768) :
    dots q k (ix2 r l) = ∑ d : Fin 128, q (ix2 r d) * k (ix2 l d) := by
  pointwise [k0_pay7]

theorem top_apply (a : FVec Ideal S1024x1 .f32) (x : FVec Ideal S1024x768 .f32) (r : Fin 1024) :
    top a x (ix2 r 0) = max (a (ix2 r 0)) ((Finset.univ : Finset (Fin 768)).fold max (Ideal.ofBits .f32 0xFF800000#32) fun l => x (ix2 r l)) := by
  pointwise [top]

theorem accum_apply (a b : FVec Ideal S1024x1 .f32) (x : FVec Ideal S1024x768 .f32) (y : FVec Ideal S1024x128 .f32) (v : Vec Ideal S768x128 .bf16)
    (r : Fin 1024) (d : Fin 128) : accum a b x y v (ix2 r d)
      = Ideal.exp2 ((a (ix2 r 0) - b (ix2 r 0)) * Named.named (F := Ideal) κ (φ := .f32) "scale_log2e" 0x3E16C740#32) * y (ix2 r d)
        + ∑ l : Fin 768, Ideal.exp2 (x (ix2 r l) * Named.named (F := Ideal) κ (φ := .f32) "scale_log2e" 0x3E16C740#32
            - b (ix2 r 0) * Named.named (F := Ideal) κ (φ := .f32) "scale_log2e" 0x3E16C740#32) * (v (ix2 l d) + k0_pay2 (F := Ideal) (ix2 l d)) := by
  pointwise [accum]
  rfl

theorem lane : ∀ d : Fin 128, IntOp.cmpi .eq (BitVec.ofNat 32 d) 64#32 = if d = 64 then 1#1 else 0#1 := by decide +kernel

theorem ones_apply (l : Fin 768) (d : Fin 128) : k0_pay2 (F := Ideal) (ix2 l d) = ((if d = 64 then (1 : ℝ) else 0 : ℝ) : EReal) := by
  pointwise [k0_pay2]
  rw [lane]
  split
  · show (((BitVec.setWidth 32 1#1).toInt : ℝ) : EReal) = _
    norm_num
  · show (((BitVec.setWidth 32 0#1).toInt : ℝ) : EReal) = _
    norm_num

/-! The same after any number of blocks. -/

/-- The largest products after `n` blocks. -/
def tops (q : Vec Ideal S1024x128 .bf16) (k : ℕ → Vec Ideal S768x128 .bf16) : ℕ → FVec Ideal S1024x1 .f32
  | 0 => k0_pay3 (F := Ideal)
  | n + 1 => top (tops q k n) (dots (k0_pay1 q) (k n))

/-- The weighted sums of the values after `n` blocks. -/
def accs (q : Vec Ideal S1024x128 .bf16) (k v : ℕ → Vec Ideal S768x128 .bf16) : ℕ → FVec Ideal S1024x128 .f32
  | 0 => broadcast S1024x128 (Scalar.ofBits (F := Ideal) .f32 0x00000000#32)
  | n + 1 => accum (tops q k n) (tops q k (n + 1)) (dots (k0_pay1 q) (k n)) (accs q k v n) (v n)

/-- Column 64 of the sums, the sum of the weights. -/
def mass (y : FVec Ideal S1024x128 .f32) : FVec Ideal S1024x1 .f32 := extractStridedSlice S1024x1 ![0, 64] y slices_S1024x128_o0_64_S1024x1

/-- The output's tile. -/
def outTile (y : FVec Ideal S1024x128 .f32) : FVec Ideal S1024x128 .bf16 :=
  truncf .bf16 (select (cmpi .slt (iota .tc S1024x128 32 [1] iota_S1024x128_d1_w32) (broadcast S1024x128 64#32))
    (divf y (broadcastTo S1024x128 (mass y) broadcasts_S1024x1_S1024x128)) (broadcast S1024x128 (Scalar.ofBits (F := Ideal) .f32 0x00000000#32)))
    bitsLt_bf16_f32

/-- The log-sums' tile. -/
def lseTile (b : FVec Ideal S1024x1 .f32) (y : FVec Ideal S1024x128 .f32) : FVec Ideal S1024x128 .f32 :=
  broadcastTo S1024x128 (shapeCast S1024x1 (addf (mulf b (broadcast S1024x1 (Scalar.ofBits (F := Ideal) .f32 0x3DD105EC#32))) (log (mass y)))
    shapeCasts_S1024x1_S1024x1) broadcasts_S1024x1_S1024x128

theorem inner : ∀ d : Fin 128, IntOp.cmpi .slt (BitVec.ofNat 32 d) 64#32 = if (d : ℕ) < 64 then 1#1 else 0#1 := by decide +kernel

theorem outTile_apply (y : FVec Ideal S1024x128 .f32) (r : Fin 1024) (d : Fin 128) :
    outTile y (ix2 r d) = if (d : ℕ) < 64 then Ideal.div (y (ix2 r d)) (y (ix2 r 64)) else 0 := by
  pointwise [outTile, mass]
  rw [inner]
  split <;> rfl

theorem lseTile_apply (b : FVec Ideal S1024x1 .f32) (y : FVec Ideal S1024x128 .f32) (r : Fin 1024) (d : Fin 128) :
    lseTile b y (ix2 r d) = b (ix2 r 0) * Ideal.ofBits .f32 0x3DD105EC#32 + Ideal.log (y (ix2 r 64)) := by
  pointwise [lseTile, mass]

end Cert.FwdIdeal.Steps

end
-- ==== Proof.Fwd.Tile.lean ====
/-
  The two blocks that a grid point of the attention call leaves.
-/
module

public import proofs.«01_k».proof.Proof.Gen.FwdIdeal.Value
public import proofs.«01_k».proof.Proof.Fwd.Steps
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen

variable (m : (ℓ : Loc nD τ sig) → Buf (Elt Ideal) ℓ)

abbrev B0 (c : Dev nD) (t : Fin cfg0.N) : Vec Ideal S1024x128 .bf16 := iblk m c 0 t
abbrev B1 (c : Dev nD) (t : Fin cfg0.N) : Vec Ideal S8448x128 .bf16 := iblk m c 1 t
abbrev B2 (c : Dev nD) (t : Fin cfg0.N) : Vec Ideal S8448x128 .bf16 := iblk m c 2 t

theorem inb (n : ℕ) (hn : n < 11) : ∀ a, (![768 * n, 0] : Fin 2 → ℕ) a + (![768, 128] : Fin 2 → ℕ) a ≤ S8448x128.size a := by
  intro a
  fin_cases a
  · show 768 * n + 768 ≤ 8448
    omega
  · exact le_refl 128

/-- Block `n` of 768 rows. -/
def rowsOf (x : Vec Ideal S8448x128 .bf16) (n : ℕ) : Vec Ideal S768x128 .bf16 :=
  if h : n < 11 then View.ld x (Rect.unit (s := S8448x128) ![768 * n, 0] ![768, 128] (inb n h)) else fun _ => 0

theorem rowsOf_apply (x : Vec Ideal S8448x128 .bf16) (n : ℕ) (h : n < 11) (l : Fin 768) (d : Fin 128) :
    rowsOf x n (ix2 l d) = x (ix2 ⟨768 * n + l, by omega⟩ d) := by
  unfold rowsOf
  rw [dif_pos h]
  pointwise []

theorem out_point (c : Dev nD) (t : Fin cfg0.N) :
    (outsAt0 m c t).1 = Steps.outTile (Steps.accs (B0 m c t) (rowsOf (B1 m c t)) (rowsOf (B2 m c t)) 11) := by
  unfold outsAt0
  frame_out
  rfl

theorem lse_point (c : Dev nD) (t : Fin cfg0.N) :
    (outsAt0 m c t).2 = Steps.lseTile (Steps.tops (B0 m c t) (rowsOf (B1 m c t)) 11)
      (Steps.accs (B0 m c t) (rowsOf (B1 m c t)) (rowsOf (B2 m c t)) 11) := by
  unfold outsAt0
  frame_out
  rfl

end Cert.FwdIdeal.Value

end
-- ==== Proof.Fwd.Online.lean ====
/-
  The running softmax of one tile over the real numbers: after `n` blocks of keys the sums are those of the keys seen so far,
  shifted by the largest product seen so far.
-/
module

public import proofs.«01_k».proof.Proof.Reals
public import proofs.«01_k».proof.Proof.Attn.Spec
public import proofs.«01_k».proof.Proof.Attn.Reference
public import proofs.«01_k».proof.Proof.Fwd.Steps
public import Idealize.ShloMosaic.Lib.Claim

@[expose] public section

set_option maxRecDepth 16384

noncomputable section

open Idealize.ShloMosaic

namespace Cert.FwdIdeal.Steps

open Cert.FwdIdeal Cert.FwdIdeal.Gen Cert.Attention Cert.Reals
open Cert.AttnReferenceIdeal.Real (bottom_word zero_word)

theorem scale_log2e : Named.named (F := Ideal) κ "scale_log2e" (φ := .f32) 0x3E16C740#32 = ((scale * (Real.log 2)⁻¹ : ℝ) : EReal) :=
  IdealRules.named_const.ideal_named_scalar _ _ _ _ rfl

/-- A real number's power of two with the factor on the scores. -/
theorem exp2_gap (a b : ℝ) : Ideal.exp2 (((a - b) * (scale * (Real.log 2)⁻¹) : ℝ) : EReal) = ((Real.exp ((a - b) * scale) : ℝ) : EReal) := by
  rw [Ideal.exp2_coe, ← exp2_scaled]
  exact congrArg (fun t : ℝ => ((Real.rpow 2 t : ℝ) : EReal)) (by ring)

theorem pay1_apply (q : Vec Ideal S1024x128 .bf16) (r : Fin 1024) (d : Fin 128) : k0_pay1 q (ix2 r d) = q (ix2 r d) := by
  pointwise [k0_pay1]

theorem pay3_apply (r : Fin 1024) : k0_pay3 (F := Ideal) (ix2 r 0) = ⊥ := by
  pointwise [k0_pay3]
  exact bottom_word

/-- The larger of what was seen and a block's products is a real number. -/
theorem top_real {a : EReal} (ha : a = ⊥ ∨ ∃ x : ℝ, a = (x : EReal)) (s : Fin 768 → ℝ) :
    ∃ b : ℝ, max a ((Finset.univ : Finset (Fin 768)).fold max (Ideal.ofBits .f32 0xFF800000#32) fun l => ((s l : ℝ) : EReal)) = (b : EReal) := by
  obtain ⟨y, hy⟩ := fold_max_real s
  rw [bottom_word, hy]
  rcases ha with rfl | ⟨x, rfl⟩
  · exact ⟨y, max_eq_right bot_le⟩
  · rcases le_total x y with h | h
    · exact ⟨y, max_eq_right (EReal.coe_le_coe_iff.2 h)⟩
    · exact ⟨x, max_eq_left (EReal.coe_le_coe_iff.2 h)⟩

/-- What a block adds. -/
theorem block_real (b : ℝ) (s : Fin 768 → ℝ) (w : Fin 768 → ℝ) (x v : Fin 768 → EReal) (hx : ∀ l, x l = ((s l : ℝ) : EReal))
    (hv : ∀ l, v l = ((w l : ℝ) : EReal)) :
    ∑ l, Ideal.exp2 (x l * ((scale * (Real.log 2)⁻¹ : ℝ) : EReal) - (b : EReal) * ((scale * (Real.log 2)⁻¹ : ℝ) : EReal)) * v l
      = ((∑ l, Real.exp ((s l - b) * scale) * w l : ℝ) : EReal) := by
  rw [← sum_coe]
  refine Finset.sum_congr rfl fun l _ => ?_
  rw [hx, hv, ← EReal.coe_mul, ← EReal.coe_mul, ← EReal.coe_sub, ← sub_mul, exp2_gap, ← EReal.coe_mul]

variable (q : Vec Ideal S1024x128 .bf16) (k v : ℕ → Vec Ideal S768x128 .bf16) (s : Fin 1024 → ℕ → ℝ) (w : ℕ → Fin 128 → ℝ)
  (hs : ∀ n < 11, ∀ r l, dots (k0_pay1 q) (k n) (ix2 r l) = ((s r (768 * n + l) : ℝ) : EReal))
  (hw : ∀ n < 11, ∀ l d, v n (ix2 l d) + k0_pay2 (F := Ideal) (ix2 l d) = ((w (768 * n + l) d : ℝ) : EReal))

include hs hw

/-- After `n + 1` blocks. -/
theorem running (n : ℕ) (hn : n < 11) (r : Fin 1024) : ∃ a : ℝ, tops q k (n + 1) (ix2 r 0) = (a : EReal) ∧
    ∀ d, accs q k v (n + 1) (ix2 r d) = ((∑ j ∈ Finset.range (768 * (n + 1)), Real.exp ((s r j - a) * scale) * w j d : ℝ) : EReal) := by
  induction n with
  | zero =>
    obtain ⟨b, hb⟩ := top_real (.inl rfl) fun l => s r (768 * 0 + l)
    have ht : tops q k 1 (ix2 r 0) = (b : EReal) := by
      refine (top_apply _ _ r).trans (Eq.trans ?_ hb)
      rw [funext fun l => hs 0 hn r l]
      exact congrArg (fun z : EReal => max z _) (pay3_apply r)
    refine ⟨b, ht, fun d => ?_⟩
    refine (accum_apply _ _ _ _ _ r d).trans ?_
    rw [scale_log2e, ht, block_real b _ _ _ _ (fun l => hs 0 hn r l) (fun l => hw 0 hn l d)]
    have hz : accs q k v 0 (ix2 r d) = 0 := zero_word
    rw [hz, mul_zero, zero_add]
    refine congrArg _ ?_
    rw [Finset.sum_range]
    simp only [Nat.mul_zero, Nat.zero_add, Nat.mul_one]
  | succ n ih =>
    obtain ⟨a, ha, hacc⟩ := ih (by omega)
    obtain ⟨b, hb⟩ := top_real (.inr ⟨a, rfl⟩) fun l => s r (768 * (n + 1) + l)
    have ht : tops q k (n + 1 + 1) (ix2 r 0) = (b : EReal) := by
      refine (top_apply _ _ r).trans (Eq.trans ?_ hb)
      rw [funext fun l => hs (n + 1) hn r l, ha]
    refine ⟨b, ht, fun d => ?_⟩
    refine (accum_apply _ _ _ _ _ r d).trans ?_
    rw [scale_log2e, ht, block_real b _ _ _ _ (fun l => hs (n + 1) hn r l) (fun l => hw (n + 1) hn l d), ha, hacc d, ← EReal.coe_sub,
      ← EReal.coe_mul, exp2_gap, ← EReal.coe_mul, ← EReal.coe_add]
    refine congrArg _ ?_
    rw [show 768 * (n + 1 + 1) = 768 * (n + 1) + 768 from by ring, Finset.sum_range_add, Finset.mul_sum, Finset.sum_range (n := 768)]
    refine congrArg₂ (· + ·) (Finset.sum_congr rfl fun j _ => ?_) rfl
    rw [← mul_assoc, ← Real.exp_add]
    exact congrArg (fun z : ℝ => Real.exp z * w j d) (by ring)

/-- After the eleven blocks, over all keys. -/
theorem complete (r : Fin 1024) : ∃ a : ℝ, tops q k 11 (ix2 r 0) = (a : EReal) ∧
    ∀ d, accs q k v 11 (ix2 r d) = ((∑ j : Fin 8448, Real.exp ((s r j - a) * scale) * w j d : ℝ) : EReal) := by
  obtain ⟨a, ha, hacc⟩ := running q k v s w hs hw 10 (by norm_num) r
  exact ⟨a, ha, fun d => (hacc d).trans (congrArg _ (Finset.sum_range _))⟩

end Cert.FwdIdeal.Steps

end
-- ==== Proof.Fwd.Final.lean ====
/-
  The attention call at real arguments: the arrays of its output and its log-sums after the run.
-/
module

public import proofs.«01_k».proof.Proof.Fwd.Tile
public import proofs.«01_k».proof.Proof.Fwd.Online
public import proofs.«01_k».proof.Proof.Attn.Entry

@[expose] public section

set_option maxRecDepth 16384

noncomputable section

open Idealize.ShloMosaic Idealize.ShloMosaic.TcCoe Idealize.SL.Sem
open Idealize.ShloMosaic.Pipeline (Dat)

namespace Cert.FwdIdeal.Value

open Cert.FwdIdeal Cert.FwdIdeal.Gen Cert.Attention Cert.Reals
open Cert.AttnReferenceIdeal.Real (lift scale_word keys values)
open Cert.AttnReferenceIdeal.Read (val_main_v0 val_main_v1)
open Cert.AttnIdeal.Value (queryCols keyCols valueCols queryCols_real keyCols_real valueCols_real)

/-- The blocks' places: head `t / 8`, tile of queries `t % 8`. -/
theorem idx : ∀ t : Fin cfg0.N, win0_0.index t = ![t.val % 8, t.val / 8] ∧ win0_1.index t = ![0, t.val / 8] ∧
    win0_2.index t = ![0, t.val / 8] ∧ win0_3.index t = ![t.val % 8, t.val / 8] ∧ win0_4.index t = ![t.val % 8, t.val / 8] :=
  (by decide +kernel : ∀ t : Fin grid0.N, _)

/-- Column `d` of head `h` of the heads laid side by side. -/
abbrev col (h : ℕ) (hh : h < 8) (d : Fin 128) : Fin 1024 := ⟨h * 128 + d, by omega⟩

theorem col_div (h : ℕ) (hh : h < 8) (d : Fin 128) : (col h hh d : ℕ) / 128 = h := by
  show (h * 128 + (d : ℕ)) / 128 = h
  omega

theorem head_lt (t : Fin cfg0.N) : t.val / 8 < 8 := by
  have : t.val < 64 := t.isLt
  omega

/-- Query `r` of the tile `t % 8`. -/
abbrev query (t : ℕ) (r : Fin 1024) : Fin 8192 := ⟨t % 8 * 1024 + r, by omega⟩

variable (m : (ℓ : Loc nD τ sig) → Buf (Elt Ideal) ℓ)

/-! The arrays the region reads. -/

abbrev A0 (c : Dev nD) : Vec Ideal S8192x1024 .bf16 := V m c main_v4
abbrev A1 (c : Dev nD) : Vec Ideal S8448x1024 .bf16 := V m c main_v7
abbrev A2 (c : Dev nD) : Vec Ideal S8448x1024 .bf16 := V m c main_v10

theorem blk0 (c : Dev nD) (t : Fin cfg0.N) (r : Fin 1024) (d : Fin 128) :
    B0 m c t (ix2 r d) = A0 m c (ix2 (query t r) (col (t.val / 8) (head_lt t) d)) := by
  have e : (win0_0.blk t).view.emb (ix2 r d) = ix2 (query t r) (col (t.val / 8) (head_lt t) d) := by
    blk_point [idx t]
  unfold B0 iblk A0
  generalize V m c = W
  exact congrArg (W main_v4) e

theorem blk1 (c : Dev nD) (t : Fin cfg0.N) (j : Fin 8448) (d : Fin 128) :
    B1 m c t (ix2 j d) = A1 m c (ix2 j (col (t.val / 8) (head_lt t) d)) := by
  have e : (win0_1.blk t).view.emb (ix2 j d) = ix2 j (col (t.val / 8) (head_lt t) d) := by
    blk_point [idx t]
  unfold B1 iblk A1
  generalize V m c = W
  exact congrArg (W main_v7) e

theorem blk2 (c : Dev nD) (t : Fin cfg0.N) (j : Fin 8448) (d : Fin 128) :
    B2 m c t (ix2 j d) = A2 m c (ix2 j (col (t.val / 8) (head_lt t) d)) := by
  have e : (win0_2.blk t).view.emb (ix2 j d) = ix2 j (col (t.val / 8) (head_lt t) d) := by
    blk_point [idx t]
  unfold B2 iblk A2
  generalize V m c = W
  exact congrArg (W main_v10) e

/-- What the region finds in the three arrays it reads. -/
structure Found (c : Dev nD) (q : Fin 8192 → Fin 8 → Fin 96 → ℝ) (k : Fin 8448 → Fin 8 → Fin 96 → ℝ) (v : Fin 8448 → Fin 8 → Fin 64 → ℝ) : Prop where
  query : ∀ i C, A0 m c (ix2 i C) = ((padded q i C : ℝ) : EReal)
  key : ∀ j C, A1 m c (ix2 j C) = ((padded k j C : ℝ) : EReal)
  value : ∀ j C, A2 m c (ix2 j C) = ((padded v j C : ℝ) : EReal)

/-- At real arguments the region finds the padded heads. -/
theorem found (c : Dev nD) (q kl : Fin 8192 → Fin 8 → Fin 96 → ℝ) (vl : Fin 8192 → Fin 8 → Fin 64 → ℝ)
    (kc : Fin 256 → Fin 8 → Fin 96 → ℝ) (vc : Fin 256 → Fin 8 → Fin 64 → ℝ)
    (h0 : m ((c : Thread nD τ).loc main_arg0) = lift q) (h1 : m ((c : Thread nD τ).loc main_arg1) = lift kl)
    (h2 : m ((c : Thread nD τ).loc main_arg2) = lift vl) (h3 : m ((c : Thread nD τ).loc main_arg3) = lift kc)
    (h4 : m ((c : Thread nD τ).loc main_arg4) = lift vc) : Found m c q (rows kl kc) (rows vl vc) := by
  have e0 : A0 m c = queryCols (m ((c : Thread nD τ).loc main_arg0)) := by
    unfold A0
    entry_read
    rfl
  have e1 : A1 m c = keyCols (val_main_v0 (F := Ideal) (m ((c : Thread nD τ).loc main_arg1)) (m ((c : Thread nD τ).loc main_arg3))) := by
    unfold A1
    entry_read
    rfl
  have e2 : A2 m c = valueCols (val_main_v1 (F := Ideal) (m ((c : Thread nD τ).loc main_arg2)) (m ((c : Thread nD τ).loc main_arg4))) := by
    unfold A2
    entry_read
    rfl
  rw [h0] at e0
  rw [h1, h3] at e1
  rw [h2, h4] at e2
  exact ⟨fun i C => (congrFun e0 _).trans (queryCols_real _ q (fun _ _ _ => rfl) i C),
    fun j C => (congrFun e1 _).trans (keyCols_real _ _ (keys kl kc) j C), fun j C => (congrFun e2 _).trans (valueCols_real _ _ (values vl vc) j C)⟩

section Tile

variable {m} {c : Dev nD} {q : Fin 8192 → Fin 8 → Fin 96 → ℝ} {k : Fin 8448 → Fin 8 → Fin 96 → ℝ} {v : Fin 8448 → Fin 8 → Fin 64 → ℝ}
  (f : Found m c q k v) (t : Fin cfg0.N)

/-- The head of a grid point. -/
abbrev head (t : Fin cfg0.N) : Fin 8 := ⟨t.val / 8, head_lt t⟩

/-- The product of a query of the tile and a key. -/
def prod (q : Fin 8192 → Fin 8 → Fin 96 → ℝ) (k : Fin 8448 → Fin 8 → Fin 96 → ℝ) (t : Fin cfg0.N) (r : Fin 1024) (j : ℕ) : ℝ :=
  if h : j < 8448 then ∑ d, q (query t r) (head t) d * k ⟨j, h⟩ (head t) d else 0

/-- A column of a key's values, with the column of ones. -/
def vals (v : Fin 8448 → Fin 8 → Fin 64 → ℝ) (t : Fin cfg0.N) (j : ℕ) (d : Fin 128) : ℝ :=
  if h : j < 8448 then padded v ⟨j, h⟩ (col (t.val / 8) (head_lt t) d) + (if d = 64 then 1 else 0) else 0

include f

theorem prod_real (n : ℕ) (hn : n < 11) (r : Fin 1024) (l : Fin 768) :
    Steps.dots (k0_pay1 (B0 m c t)) (rowsOf (B1 m c t) n) (ix2 r l) = ((prod q k t r (768 * n + l) : ℝ) : EReal) := by
  refine (Steps.dots_apply _ _ r l).trans ?_
  simp only [Steps.pay1_apply, rowsOf_apply _ n hn, blk0, blk1, f.query, f.key, ← EReal.coe_mul, sum_coe]
  have hj : 768 * n + (l : ℕ) < 8448 := by omega
  unfold prod
  rw [dif_pos hj, padded_sum (by norm_num) q k _ _ (t.val / 8) (head_lt t)]

theorem vals_real (n : ℕ) (hn : n < 11) (l : Fin 768) (d : Fin 128) :
    rowsOf (B2 m c t) n (ix2 l d) + k0_pay2 (F := Ideal) (ix2 l d) = ((vals v t (768 * n + l) d : ℝ) : EReal) := by
  have hj : 768 * n + (l : ℕ) < 8448 := by omega
  rw [rowsOf_apply _ n hn, blk2, f.value, Steps.ones_apply, ← EReal.coe_add]
  unfold vals
  rw [dif_pos hj]

/-- A query's running sums at the end: the largest product, the sum of the weights and the weighted values. -/
theorem tile_real (r : Fin 1024) : ∃ a : ℝ, Steps.tops (B0 m c t) (rowsOf (B1 m c t)) 11 (ix2 r 0) = (a : EReal) ∧
    Steps.accs (B0 m c t) (rowsOf (B1 m c t)) (rowsOf (B2 m c t)) 11 (ix2 r 64)
      = ((∑ j, Real.exp (score q k (head t) (query t r) j - a * scale) : ℝ) : EReal) ∧
    ∀ (d : Fin 128) (hd : (d : ℕ) < 64), Steps.accs (B0 m c t) (rowsOf (B1 m c t)) (rowsOf (B2 m c t)) 11 (ix2 r d)
      = ((∑ j, Real.exp (score q k (head t) (query t r) j - a * scale) * v j (head t) ⟨d, hd⟩ : ℝ) : EReal) := by
  obtain ⟨a, ha, hacc⟩ := Steps.complete (B0 m c t) _ _ (prod q k t) (vals v t) (prod_real f t) (vals_real f t) r
  have hp : ∀ j : Fin 8448, (prod q k t r j - a) * scale = score q k (head t) (query t r) j - a * scale := fun j => by
    unfold prod score
    rw [dif_pos j.isLt]
    ring
  refine ⟨a, ha, (hacc 64).trans (congrArg _ ?_), fun d hd => (hacc d).trans (congrArg _ ?_)⟩
  · refine Finset.sum_congr rfl fun j _ => ?_
    have hv : vals v t j 64 = 1 := by
      unfold vals
      rw [dif_pos j.isLt, if_pos rfl, padded_of_not_lt, zero_add]
      show ¬ (t.val / 8 * 128 + 64) % 128 < 64
      omega
    rw [hp, hv, mul_one]
  · refine Finset.sum_congr rfl fun j _ => ?_
    have hv : vals v t j d = v j (head t) ⟨d, hd⟩ := by
      have hlt : (t.val / 8 * 128 + d.val) % 128 < 64 := by omega
      have e1 : (t.val / 8 * 128 + d.val) / 128 = t.val / 8 := by omega
      have e2 : (t.val / 8 * 128 + d.val) % 128 = d := by omega
      unfold vals
      rw [dif_pos j.isLt, if_neg (by rintro rfl; exact absurd hd (by decide)), add_zero, padded_of_lt v _ _ hlt]
      simp only [e1, e2, Fin.eta]
    rw [hp, hv]

/-- The output's block. -/
theorem out_block (r : Fin 1024) (d : Fin 128) : (outsAt0 m c t).1 (ix2 r d)
    = ((padded (out q k v) (query t r) (col (t.val / 8) (head_lt t) d) : ℝ) : EReal) := by
  refine (congrFun (out_point m c t) _).trans ((Steps.outTile_apply _ r d).trans ?_)
  obtain ⟨a, ha, hm, hacc⟩ := tile_real f t r
  have pos : 0 < ∑ j, Real.exp (score q k (head t) (query t r) j - a * scale) :=
    Finset.sum_pos (fun _ _ => Real.exp_pos _) Finset.univ_nonempty
  have e1 : (t.val / 8 * 128 + d.val) / 128 = t.val / 8 := by omega
  have e2 : (t.val / 8 * 128 + d.val) % 128 = d := by omega
  by_cases hd : (d : ℕ) < 64
  · have hlt : (t.val / 8 * 128 + d.val) % 128 < 64 := by omega
    rw [if_pos hd, hm, hacc d hd, div_coe _ pos.ne', padded_of_lt _ _ _ hlt]
    simp only [e1, e2, Fin.eta]
    refine congrArg _ ?_
    unfold out
    rw [Finset.sum_div]
    refine Finset.sum_congr rfl fun j _ => ?_
    rw [← weight_shift q k (head t) (query t r) (a * scale) j]
    ring
  · have hlt : ¬ (t.val / 8 * 128 + d.val) % 128 < 64 := by omega
    rw [if_neg hd, padded_of_not_lt _ _ _ hlt]
    rfl

/-- The log-sums' block. -/
theorem lse_block (b : ℝ) (r : Fin 1024) (d : Fin 128) : (outsAt0 m c t).2 (ix2 r d)
    = ((b + Real.log (∑ j, Real.exp (score q k (head t) (query t r) j - b)) : ℝ) : EReal) := by
  refine (congrFun (lse_point m c t) _).trans ((Steps.lseTile_apply _ _ r d).trans ?_)
  obtain ⟨a, ha, hm, -⟩ := tile_real f t r
  have pos : 0 < ∑ j, Real.exp (score q k (head t) (query t r) j - a * scale) :=
    Finset.sum_pos (fun _ _ => Real.exp_pos _) Finset.univ_nonempty
  rw [ha, hm, scale_word, Ideal.log_coe, if_neg (not_le.mpr pos), ← EReal.coe_mul, ← EReal.coe_add]
  exact congrArg _ (Cert.Softmax.logsum_shift (score q k (head t) (query t r)) (a * scale) b)

end Tile

variable {m} {c : Dev nD} {q : Fin 8192 → Fin 8 → Fin 96 → ℝ} {k : Fin 8448 → Fin 8 → Fin 96 → ℝ} {v : Fin 8448 → Fin 8 → Fin 64 → ℝ}
  (f : Found m c q k v)

include f

theorem out_final : (dats m 0 c).arrAt 3 cfg0.N = fun y : S8192x1024.Idx => ((padded (out q k v) (y 0) (y 1) : ℝ) : EReal) := by
  refine (dats m 0 c).arrAt_eq_of_covers 3 _ (by decide +kernel) fun t _ y => ?_
  have e : ((cfg0.win 3).blk t).view.emb y = ix2 (query t (y 0)) (col (t.val / 8) (head_lt t) (y 1)) := by
    blk_point [idx t]
  rw [after0_3, e]
  exact (congrArg _ (eq_ix2 y)).trans (out_block f t (y 0) (y 1))

theorem lse_final (b : Fin 8 → Fin 8192 → ℝ) : (dats m 0 c).arrAt 4 cfg0.N = fun y : S8192x1024.Idx =>
    ((b ⟨(y 1 : ℕ) / 128, Nat.div_lt_of_lt_mul (y 1).isLt⟩ (y 0)
      + Real.log (∑ j, Real.exp (score q k ⟨(y 1 : ℕ) / 128, Nat.div_lt_of_lt_mul (y 1).isLt⟩ (y 0) j
        - b ⟨(y 1 : ℕ) / 128, Nat.div_lt_of_lt_mul (y 1).isLt⟩ (y 0))) : ℝ) : EReal) := by
  refine (dats m 0 c).arrAt_eq_of_covers 4 _ (by decide +kernel) fun t _ y => ?_
  have e : ((cfg0.win 4).blk t).view.emb y = ix2 (query t (y 0)) (col (t.val / 8) (head_lt t) (y 1)) := by
    blk_point [idx t]
  rw [after0_4, e]
  refine (congrArg _ (eq_ix2 y)).trans ((lse_block f t (b (head t) (query t (y 0))) (y 0) (y 1)).trans ?_)
  have eh : (⟨(col (t.val / 8) (head_lt t) (y 1) : ℕ) / 128, Nat.div_lt_of_lt_mul (col (t.val / 8) (head_lt t) (y 1)).isLt⟩ : Fin 8) = head t :=
    Fin.ext (col_div _ (head_lt t) (y 1))
  exact congrArg (fun h : Fin 8 => ((b h (query t (y 0)) + Real.log (∑ j, Real.exp (score q k h (query t (y 0)) j - b h (query t (y 0)))) : ℝ) : EReal)) eh.symm

end Cert.FwdIdeal.Value

end
-- ==== Proof.Fwd.Agree.lean ====
/-
  The two attention programs of the forward pass leave the same two arrays when their arguments are finite.
-/
module

public import proofs.«01_k».proof.Proof.Fwd.Final
public import proofs.«01_k».proof.Proof.Gen.FwdReferenceIdeal.Read
public import proofs.«01_k».proof.Proof.Gen.FwdReferenceIdeal.Run

@[expose] public section

set_option maxRecDepth 16384

noncomputable section

open Idealize.ShloMosaic Idealize.ShloMosaic.TcCoe Idealize.SL.Sem

namespace Cert.FwdIdeal.Value

open Cert.FwdIdeal Cert.FwdIdeal.Gen Cert.Attention Cert.Reals
open Cert.AttnReferenceIdeal.Real (lift scores maximum top values)
open Cert.AttnReferenceIdeal.Read (val_main_v1 val_main_v4 val_main_v5 val_main_v12)
open Cert.AttnIdeal.Value (logsums denoms numers outs outCols numers_real denoms_real logsums_real outs_real outCols_real)

/-! The reference's two results from the scores and their rows' largest. -/

theorem reference_lse (x0 x1 : FVec Ideal S8192x8x96 .f32) (x3 : FVec Ideal S256x8x96 .f32) :
    Cert.FwdReferenceIdeal.Read.val_main_v16 (F := Ideal) x0 x1 x3
      = logsums (val_main_v5 (F := Ideal) x0 x1 x3) (denoms (numers (val_main_v4 (F := Ideal) x0 x1 x3) (val_main_v5 (F := Ideal) x0 x1 x3))) := rfl

theorem reference_out (x0 x1 : FVec Ideal S8192x8x96 .f32) (x2 : FVec Ideal S8192x8x64 .f32) (x3 : FVec Ideal S256x8x96 .f32)
    (x4 : FVec Ideal S256x8x64 .f32) : Cert.FwdReferenceIdeal.Read.val_main_v35 (F := Ideal) x0 x1 x2 x3 x4
      = outCols (outs (val_main_v1 (F := Ideal) x2 x4) (numers (val_main_v4 (F := Ideal) x0 x1 x3) (val_main_v12 (F := Ideal) x0 x1 x3))
          (denoms (numers (val_main_v4 (F := Ideal) x0 x1 x3) (val_main_v12 (F := Ideal) x0 x1 x3)))) := rfl

variable (m : (ℓ : Loc nD τ sig) → Buf (Elt Ideal) ℓ) (c : Dev nD)
  (q : Fin 8192 → Fin 8 → Fin 96 → ℝ) (kl : Fin 8192 → Fin 8 → Fin 96 → ℝ) (vl : Fin 8192 → Fin 8 → Fin 64 → ℝ)
  (kc : Fin 256 → Fin 8 → Fin 96 → ℝ) (vc : Fin 256 → Fin 8 → Fin 64 → ℝ)
  (h0 : m ((c : Thread nD τ).loc main_arg0) = lift q) (h1 : m ((c : Thread nD τ).loc main_arg1) = lift kl)
  (h2 : m ((c : Thread nD τ).loc main_arg2) = lift vl) (h3 : m ((c : Thread nD τ).loc main_arg3) = lift kc)
  (h4 : m ((c : Thread nD τ).loc main_arg4) = lift vc)

include h0 h1 h2 h3 h4

theorem out_agree : (dats m 0 c).arrAt 3 cfg0.N
    = Cert.FwdReferenceIdeal.Read.val_main_v35 (F := Ideal) (lift q) (lift kl) (lift vl) (lift kc) (lift vc) := by
  refine (out_final (found m c q kl vl kc vc h0 h1 h2 h3 h4)).trans (funext fun y => ?_)
  obtain ⟨a, ha⟩ := top q kl kc
  have hn := numers_real _ _ _ _ (scores q kl kc) ha
  have hd := denoms_real _ _ hn
  have pos : ∀ h i, 0 < ∑ j, Real.exp (score q (rows kl kc) h i j - a h i) := fun h i =>
    Finset.sum_pos (fun _ _ => Real.exp_pos _) Finset.univ_nonempty
  refine Eq.trans ?_ ((congrFun (reference_out _ _ _ _ _) (ix2 (y 0) (y 1))).symm.trans (congrArg _ (eq_ix2 y).symm))
  refine (outCols_real _ (out q (rows kl kc) (rows vl vc)) (fun i h e => ?_) (y 0) (y 1)).symm
  refine (outs_real _ _ _ _ _ _ (values vl vc) hn hd (fun h i => (pos h i).ne') i h e).trans ?_
  simp only [weight_shift]
  rfl

theorem lse_agree : (dats m 0 c).arrAt 4 cfg0.N
    = Cert.FwdReferenceIdeal.Read.val_main_v16 (F := Ideal) (lift q) (lift kl) (lift kc) := by
  obtain ⟨a, ha⟩ := maximum q kl kc
  refine (lse_final (found m c q kl vl kc vc h0 h1 h2 h3 h4) a).trans (funext fun y => ?_)
  have hn := numers_real _ _ _ _ (scores q kl kc) ha
  have hd := denoms_real _ _ hn
  have pos : ∀ h i, 0 < ∑ j, Real.exp (score q (rows kl kc) h i j - a h i) := fun h i =>
    Finset.sum_pos (fun _ _ => Real.exp_pos _) Finset.univ_nonempty
  refine Eq.trans ?_ ((congrFun (reference_lse _ _ _) (ix2 (y 0) (y 1))).symm.trans (congrArg _ (eq_ix2 y).symm))
  exact (logsums_real _ _ _ _ ha hd pos (y 0) (y 1)).symm

end Cert.FwdIdeal.Value

namespace Cert.FwdReferenceIdeal.Real

open Cert.FwdReferenceIdeal Cert.FwdReferenceIdeal.Read

variable (m : (ℓ : Loc nD τ sig) → Buf (Elt Ideal) ℓ) (c : Dev nD)
  (x0 x1 : FVec Ideal S8192x8x96 .f32) (x2 : FVec Ideal S8192x8x64 .f32) (x3 : FVec Ideal S256x8x96 .f32)
  (x4 : FVec Ideal S256x8x64 .f32)
  (h0 : m ((c.tc : Thread nD τ).loc main_arg0) = x0) (h1 : m ((c.tc : Thread nD τ).loc main_arg1) = x1)
  (h2 : m ((c.tc : Thread nD τ).loc main_arg2) = x2) (h3 : m ((c.tc : Thread nD τ).loc main_arg3) = x3)
  (h4 : m ((c.tc : Thread nD τ).loc main_arg4) = x4)

include h0 h1 h2 h3 h4

theorem out_left : val_main_v35 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) = val_main_v35 (F := Ideal) x0 x1 x2 x3 x4 := by
  subst h0 h1 h2 h3 h4
  rfl

omit h2 h4 in
theorem lse_left : val_main_v16 (F := Ideal) (m ((c.tc : Thread nD τ).loc main_arg0)) (m ((c.tc : Thread nD τ).loc main_arg1)) (m ((c.tc : Thread nD τ).loc main_arg3))
    = val_main_v16 (F := Ideal) x0 x1 x3 := by
  subst h0 h1 h3
  rfl

end Cert.FwdReferenceIdeal.Real

end
-- ==== Proof.Ffn.Steps.lean ====
/-
  What the gate's gradient call computes on one tile of 256 rows, for one range of 1408 columns: the rows with eight more on either
  side, the convolution along the rows, the cotangents of the two halves of its result, and the cotangents of its arguments.
-/
module

public import proofs.«01_k».proof.Proof.Gen.FfnIdeal.Skeleton
public import Idealize.ShloMosaic.Lib.Pipeline.ValueKit
public import Idealize.ShloMosaic.Lib.Pointwise

@[expose] public section

set_option maxRecDepth 16384

noncomputable section

open Idealize.ShloMosaic

namespace Cert.FfnIdeal.Steps

open Cert.FfnIdeal Cert.FfnIdeal.Gen

/-- Whether a tile has a tile before it, and whether it has one after it. -/
abbrev hasBefore (i : grid0.Coords) : BitVec 1 := Scalar.cmpi .sgt (BitVec.ofNat 32 (i 0).val) 0#32
abbrev hasAfter (i : grid0.Coords) : BitVec 1 := Scalar.cmpi .slt (BitVec.ofNat 32 (i 0).val) 31#32

/-- The rows of a tile with eight rows on either side, zero where there are none. -/
def ext (i : grid0.Coords) (p : Vec Ideal S8x1408 .f32) (x : Vec Ideal S256x1408 .f32) (n : Vec Ideal S8x1408 .f32) :
    FVec Ideal S272x1408 .f32 :=
  concatenate S272x1408 0 [⟨S8x1408, Scalar.select (hasBefore i) p (broadcast S8x1408 (Scalar.ofBits (F := Ideal) .f32 0x00000000#32))⟩,
    ⟨S256x1408, x⟩,
    ⟨S8x1408, Scalar.select (hasAfter i) n (broadcast S8x1408 (Scalar.ofBits (F := Ideal) .f32 0x00000000#32))⟩]
    concatenates_S8x1408_S256x1408_S8x1408_S272x1408_d0

/-- Each row's predecessor. -/
def before (x : FVec Ideal S272x1408 .f32) : FVec Ideal S272x1408 .f32 := dynamicRotate 0 1#32 none x rotates_S272x1408_d0

/-- Each row's successor. -/
def after (x : FVec Ideal S272x1408 .f32) : FVec Ideal S272x1408 .f32 := dynamicRotate 0 271#32 none x rotates_S272x1408_d0

/-- The taps, each spread over the rows. -/
def tap0 (w : Vec Ideal S8x1408 .f32) : FVec Ideal S272x1408 .f32 :=
  broadcastTo S272x1408 (extractStridedSlice S1x1408 ![0, 0] (shapeCast S8x1408 w shapeCasts_S8x1408_S8x1408) slices_S8x1408_o0_0_S1x1408)
    broadcasts_S1x1408_S272x1408
def tap1 (w : Vec Ideal S8x1408 .f32) : FVec Ideal S272x1408 .f32 :=
  broadcastTo S272x1408 (extractStridedSlice S1x1408 ![1, 0] (shapeCast S8x1408 w shapeCasts_S8x1408_S8x1408) slices_S8x1408_o1_0_S1x1408)
    broadcasts_S1x1408_S272x1408
def tap2 (w : Vec Ideal S8x1408 .f32) : FVec Ideal S272x1408 .f32 :=
  broadcastTo S272x1408 (extractStridedSlice S1x1408 ![2, 0] (shapeCast S8x1408 w shapeCasts_S8x1408_S8x1408) slices_S8x1408_o2_0_S1x1408)
    broadcasts_S1x1408_S272x1408

/-- The convolution along the rows. -/
def conv (e : FVec Ideal S272x1408 .f32) (w : Vec Ideal S8x1408 .f32) (b : Vec Ideal S1x1408 .f32) : FVec Ideal S272x1408 .f32 :=
  addf (addf (addf (mulf (before e) (tap0 w)) (mulf e (tap1 w))) (mulf (after e) (tap2 w)))
    (broadcastTo S272x1408 (shapeCast S1x1408 b shapeCasts_S1x1408_S1x1408) broadcasts_S1x1408_S272x1408)

/-- The cotangent of the output, of all rows of the tile and those around it. -/
abbrev dout (i : grid0.Coords) (x : Vec Ideal S256x1024 .f32) (p n : Vec Ideal S8x1024 .f32) (g : Vec Ideal S1x1024 .f32) :
    FVec Ideal S272x1024 .bf16 := k0_pay4 i x p n g

/-- The cotangent of the gated product. -/
abbrev dact (y : FVec Ideal S272x1024 .bf16) (w : Vec Ideal S1408x1024 .bf16) : FVec Ideal S272x1408 .f32 := k0_pay13 y w

/-- The cotangent of the gated half. -/
def dvalue (a g : FVec Ideal S272x1408 .f32) : FVec Ideal S272x1408 .f32 := mulf a (mulf g (logistic g))

/-- The cotangent of the gating half. -/
def dgate (a v g : FVec Ideal S272x1408 .f32) : FVec Ideal S272x1408 .f32 :=
  mulf (mulf a v) (mulf (logistic g) (addf (broadcast S272x1408 (Scalar.ofBits (F := Ideal) .f32 0x3F800000#32))
    (mulf g (subf (broadcast S272x1408 (Scalar.ofBits (F := Ideal) .f32 0x3F800000#32)) (logistic g)))))

/-- The cotangent of the convolution's argument. -/
def back (u : FVec Ideal S272x1408 .f32) (w : Vec Ideal S8x1408 .f32) : FVec Ideal S256x1408 .bf16 :=
  truncf .bf16 (extractStridedSlice S256x1408 ![8, 0] (addf (addf (mulf (after u) (tap0 w)) (mulf u (tap1 w))) (mulf (before u) (tap2 w)))
    slices_S272x1408_o8_0_S256x1408) bitsLt_bf16_f32

/-- The sum of the tile's own rows, spread over eight rows. -/
def total (x : FVec Ideal S272x1408 .f32) : FVec Ideal S8x1408 .f32 :=
  broadcastTo S8x1408 (shapeCast S1x1408 (shapeCast S1x1408 (multiReduction .add [0] S1408
    (extractStridedSlice S256x1408 ![8, 0] x slices_S272x1408_o8_0_S256x1408) 0x00000000#32 reduces_S256x1408_S1408 (.inl rfl) rfl)
    shapeCasts_S1408_S1x1408) shapeCasts_S1x1408_S1x1408) broadcasts_S1x1408_S8x1408

/-- An array that is row `k` of the one given. -/
def only (k : BitVec 32) (x : FVec Ideal S8x1408 .f32) : FVec Ideal S8x1408 .f32 :=
  select (cmpi .eq (iota .tc S8x1408 32 [0] iota_S8x1408_d0_w32) (broadcast S8x1408 k)) x
    (broadcast S8x1408 (Scalar.ofBits (F := Ideal) .f32 0x00000000#32))

/-- The tile's addend to the cotangents of the taps and of the shift: a row each. -/
def addend (u e : FVec Ideal S272x1408 .f32) : FVec Ideal S8x1408 .f32 :=
  addf (addf (addf (addf (broadcast S8x1408 (Scalar.ofBits (F := Ideal) .f32 0x00000000#32)) (only 0#32 (total (mulf (after u) e))))
    (only 1#32 (total (mulf u e)))) (only 2#32 (total (mulf (before u) e)))) (only 3#32 (total u))

/-- … added to what was there. -/
def plus (x : Vec Ideal S8x1408 .f32) (u e : FVec Ideal S272x1408 .f32) : FVec Ideal S8x1408 .f32 :=
  addf (shapeCast S8x1408 x shapeCasts_S8x1408_S8x1408) (addend u e)

theorem before_apply (x : FVec Ideal S272x1408 .f32) (r : Fin 272) (d : Fin 1408) (h : 1 ≤ (r : ℕ)) :
    before x (ix2 r d) = x (ix2 ⟨r - 1, by omega⟩ d) := by
  pointwise [before]
  exact congrArg (fun k => x (ix2 k d)) (Fin.ext (show ((r : ℕ) + 272 - 1) % 272 = r - 1 by omega))

theorem after_apply (x : FVec Ideal S272x1408 .f32) (r : Fin 272) (d : Fin 1408) (h : (r : ℕ) < 271) :
    after x (ix2 r d) = x (ix2 ⟨r + 1, by omega⟩ d) := by
  pointwise [after]
  exact congrArg (fun k => x (ix2 k d)) (Fin.ext (show ((r : ℕ) + 272 - 271) % 272 = r + 1 by omega))

theorem total_apply (x : FVec Ideal S272x1408 .f32) (k : Fin 8) (d : Fin 1408) :
    total x (ix2 k d) = ∑ r : Fin 256, x (ix2 ⟨8 + r, by omega⟩ d) := by
  pointwise [total]

theorem conv_apply (e : FVec Ideal S272x1408 .f32) (w : Vec Ideal S8x1408 .f32) (b : Vec Ideal S1x1408 .f32) (r : Fin 272) (d : Fin 1408) :
    conv e w b (ix2 r d) = before e (ix2 r d) * w (ix2 0 d) + e (ix2 r d) * w (ix2 1 d) + after e (ix2 r d) * w (ix2 2 d) + b (ix2 0 d) := by
  pointwise [conv, tap0, tap1, tap2]

theorem dvalue_apply (a g : FVec Ideal S272x1408 .f32) (r : Fin 272) (d : Fin 1408) :
    dvalue a g (ix2 r d) = a (ix2 r d) * (g (ix2 r d) * Ideal.logistic (g (ix2 r d))) := by
  pointwise [dvalue]

theorem dgate_apply (a v g : FVec Ideal S272x1408 .f32) (r : Fin 272) (d : Fin 1408) :
    dgate a v g (ix2 r d) = a (ix2 r d) * v (ix2 r d) * (Ideal.logistic (g (ix2 r d)) * (Ideal.ofBits .f32 0x3F800000#32
      + g (ix2 r d) * (Ideal.ofBits .f32 0x3F800000#32 - Ideal.logistic (g (ix2 r d))))) := by
  pointwise [dgate]

theorem back_apply (u : FVec Ideal S272x1408 .f32) (w : Vec Ideal S8x1408 .f32) (r : Fin 256) (d : Fin 1408) :
    back u w (ix2 r d) = after u (ix2 ⟨8 + r, by omega⟩ d) * w (ix2 0 d) + u (ix2 ⟨8 + r, by omega⟩ d) * w (ix2 1 d)
      + before u (ix2 ⟨8 + r, by omega⟩ d) * w (ix2 2 d) := by
  pointwise [back, tap0, tap1, tap2]

theorem row_word : ∀ (k : Fin 8) (n : Fin 4), IntOp.cmpi .eq (BitVec.ofNat 32 k) (BitVec.ofNat 32 n) = if (k : ℕ) = n then 1#1 else 0#1 := by
  decide +kernel

theorem only_apply (n : Fin 4) (x : FVec Ideal S8x1408 .f32) (k : Fin 8) (d : Fin 1408) :
    only (BitVec.ofNat 32 n) x (ix2 k d) = if (k : ℕ) = n then x (ix2 k d) else 0 := by
  pointwise [only]
  rw [row_word]
  split <;> rfl

theorem addend_apply (u e : FVec Ideal S272x1408 .f32) (k : Fin 8) (d : Fin 1408) :
    addend u e (ix2 k d) = 0 + (if (k : ℕ) = 0 then ∑ r : Fin 256, after u (ix2 ⟨8 + r, by omega⟩ d) * e (ix2 ⟨8 + r, by omega⟩ d) else 0)
      + (if (k : ℕ) = 1 then ∑ r : Fin 256, u (ix2 ⟨8 + r, by omega⟩ d) * e (ix2 ⟨8 + r, by omega⟩ d) else 0)
      + (if (k : ℕ) = 2 then ∑ r : Fin 256, before u (ix2 ⟨8 + r, by omega⟩ d) * e (ix2 ⟨8 + r, by omega⟩ d) else 0)
      + (if (k : ℕ) = 3 then ∑ r : Fin 256, u (ix2 ⟨8 + r, by omega⟩ d) else 0) := by
  have h0 := only_apply 0 (total (mulf (after u) e)) k d
  have h1 := only_apply 1 (total (mulf u e)) k d
  have h2 := only_apply 2 (total (mulf (before u) e)) k d
  have h3 := only_apply 3 (total u) k d
  rw [total_apply] at h0 h1 h2 h3
  refine congrArg₂ (· + ·) (congrArg₂ (· + ·) (congrArg₂ (· + ·) (congrArg₂ (· + ·) ?_ h0) h1) h2) h3
  pointwise []

theorem plus_apply (x : Vec Ideal S8x1408 .f32) (u e : FVec Ideal S272x1408 .f32) (k : Fin 8) (d : Fin 1408) :
    plus x u e (ix2 k d) = x (ix2 k d) + addend u e (ix2 k d) := by
  pointwise [plus]

theorem before_word : ∀ n : Fin 32, Scalar.cmpi .sgt (BitVec.ofNat 32 n) 0#32 = if 0 < (n : ℕ) then 1#1 else 0#1 := by decide +kernel
theorem after_word : ∀ n : Fin 32, Scalar.cmpi .slt (BitVec.ofNat 32 n) 31#32 = if (n : ℕ) < 31 then 1#1 else 0#1 := by decide +kernel

/-- A row of the extended tile: the tile before it, the tile, the tile after it. -/
def pick {n : ℕ} (t : ℕ) (p : Fin 8 → Fin n → EReal) (x : Fin 256 → Fin n → EReal) (q : Fin 8 → Fin n → EReal) (r : Fin 272) (d : Fin n) : EReal :=
  if h : (r : ℕ) < 8 then (if 0 < t then p ⟨r, h⟩ d else 0)
  else if h' : (r : ℕ) - 8 < 256 then x ⟨r - 8, h'⟩ d
  else (if t < 31 then q ⟨r - 8 - 256, by omega⟩ d else 0)

theorem ext_apply (i : grid0.Coords) (p : Vec Ideal S8x1408 .f32) (x : Vec Ideal S256x1408 .f32) (n : Vec Ideal S8x1408 .f32) (r : Fin 272) (d : Fin 1408) :
    ext i p x n (ix2 r d) = pick (i 0).val (fun a b => p (ix2 a b)) (fun a b => x (ix2 a b)) (fun a b => n (ix2 a b)) r d := by
  pointwise [ext]
  unfold hasBefore hasAfter pick
  rw [before_word (i 0), after_word (i 0)]
  split
  · split <;> rfl
  · split
    · rfl
    · split <;> rfl

theorem dout_apply (i : grid0.Coords) (x : Vec Ideal S256x1024 .f32) (p n : Vec Ideal S8x1024 .f32) (g : Vec Ideal S1x1024 .f32) (r : Fin 272) (d : Fin 1024) :
    dout i x p n g (ix2 r d)
      = pick (i 0).val (fun a b => p (ix2 a b)) (fun a b => x (ix2 a b)) (fun a b => n (ix2 a b)) r d * g (ix2 0 d) := by
  pointwise [k0_pay4, k0_pay2]
  unfold pick
  rw [before_word (i 0), after_word (i 0)]
  refine congrArg (· * g (ix2 0 d)) ?_
  split
  · split <;> rfl
  · split
    · rfl
    · split <;> rfl

theorem inner_apply (i : grid0.Coords) (x : Vec Ideal S256x1024 .f32) (p n : Vec Ideal S8x1024 .f32) (g : Vec Ideal S1x1024 .f32) (r : Fin 256) (d : Fin 1024) :
    k0_pay3 i x p n g (ix2 r d) = x (ix2 r d) * g (ix2 0 d) := by
  have h : k0_pay3 i x p n g (ix2 r d) = dout i x p n g (ix2 ⟨8 + r, by omega⟩ d) := by
    pointwise [k0_pay4, k0_pay3]
  rw [h, dout_apply]
  unfold pick
  rw [dif_neg (show ¬ 8 + (r : ℕ) < 8 by omega), dif_pos (show 8 + (r : ℕ) - 8 < 256 by omega)]
  exact congrArg (fun k => x (ix2 k d) * g (ix2 0 d)) (Fin.ext (show 8 + (r : ℕ) - 8 = r by omega))

theorem scale_apply (x f : Vec Ideal S256x1024 .f32) (k : Fin 8) (d : Fin 1024) :
    k0_pay5 x f (ix2 k d) = if (k : ℕ) = 0 then ∑ r : Fin 256, x (ix2 r d) * f (ix2 r d) else 0 := by
  pointwise [k0_pay5]
  have h := row_word k 0
  rw [show BitVec.ofNat 32 (0 : Fin 4) = 0#32 from rfl] at h
  rw [h]
  by_cases h0 : (k : ℕ) = 0
  · rw [if_pos (show (k : ℕ) = (0 : Fin 4) from h0), if_pos h0]
    rfl
  · rw [if_neg (show ¬ (k : ℕ) = (0 : Fin 4) from h0), if_neg h0]
    rfl

theorem sum_apply (z : FVec Ideal S8x1024 .f32) (o : Vec Ideal S8x1024 .f32) (k : Fin 8) (d : Fin 1024) :
    k0_pay7 z o (ix2 k d) = o (ix2 k d) + z (ix2 k d) := by
  pointwise [k0_pay7]

theorem dact_apply (y : FVec Ideal S272x1024 .bf16) (w : Vec Ideal S1408x1024 .bf16) (r : Fin 272) (c : Fin 1408) :
    dact y w (ix2 r c) = ∑ d : Fin 1024, y (ix2 r d) * w (ix2 c d) := by
  pointwise [k0_pay13]

end Cert.FfnIdeal.Steps

end
-- ==== Proof.Ffn.Spec.lean ====
/-
  The gate's gradient in real numbers. Rows are counted from eight on, and a row that is not there is zero: `u` is the convolution
  along the rows, its first half of columns is multiplied with the other half's gate.
-/
module

public import proofs.«01_k».proof.Proof.Reals

@[expose] public section

noncomputable section

namespace Cert.Ffn

/-- Row `r`, counted from eight on, of an array of 8192 rows. -/
def row {n : ℕ} (x : Fin 8192 → Fin n → ℝ) (r : ℕ) (c : Fin n) : ℝ := if h : 8 ≤ r ∧ r < 8200 then x ⟨r - 8, by omega⟩ c else 0

/-- The convolution of three rows. -/
def conv {n : ℕ} (e : ℕ → Fin n → ℝ) (w : Fin 3 → Fin n → ℝ) (b : Fin n → ℝ) (r : ℕ) (c : Fin n) : ℝ :=
  e (r - 1) c * w 0 c + e r c * w 1 c + e (r + 1) c * w 2 c + b c

/-- The logistic function. -/
def sg (x : ℝ) : ℝ := (1 + Real.exp (-x))⁻¹

/-- The derivative of the gate `x · sg x`. -/
def slope (x : ℝ) : ℝ := sg x * (1 + x * (1 - sg x))

/-- The cotangent of the gated product. -/
def da (ct : Fin 8192 → Fin 1024 → ℝ) (g : Fin 1024 → ℝ) (D : Fin 2816 → Fin 1024 → ℝ) (r : ℕ) (j : Fin 2816) : ℝ :=
  ∑ d : Fin 1024, row ct r d * g d * D j d

/-- The columns of the gated half and of the gating half. -/
def left (j : Fin 2816) : Fin 5632 := ⟨j, by omega⟩
def right (j : Fin 2816) : Fin 5632 := ⟨2816 + j, by omega⟩

/-- The cotangent of the convolution's result. -/
def du (up : Fin 8192 → Fin 5632 → ℝ) (w : Fin 3 → Fin 5632 → ℝ) (b : Fin 5632 → ℝ) (D : Fin 2816 → Fin 1024 → ℝ) (g : Fin 1024 → ℝ)
    (ct : Fin 8192 → Fin 1024 → ℝ) (r : ℕ) (c : Fin 5632) : ℝ :=
  if h : (c : ℕ) < 2816 then
    da ct g D r ⟨c, h⟩ * (conv (row up) w b r (right ⟨c, h⟩) * sg (conv (row up) w b r (right ⟨c, h⟩)))
  else
    da ct g D r ⟨c - 2816, by omega⟩ * conv (row up) w b r (left ⟨c - 2816, by omega⟩) * slope (conv (row up) w b r c)

theorem du_left (up : Fin 8192 → Fin 5632 → ℝ) (w : Fin 3 → Fin 5632 → ℝ) (b : Fin 5632 → ℝ) (D : Fin 2816 → Fin 1024 → ℝ) (g : Fin 1024 → ℝ)
    (ct : Fin 8192 → Fin 1024 → ℝ) (r : ℕ) (j : Fin 2816) : du up w b D g ct r (left j)
      = da ct g D r j * (conv (row up) w b r (right j) * sg (conv (row up) w b r (right j))) := by
  unfold du
  rw [dif_pos (show ((left j : Fin 5632) : ℕ) < 2816 from j.isLt)]
  rfl

theorem du_right (up : Fin 8192 → Fin 5632 → ℝ) (w : Fin 3 → Fin 5632 → ℝ) (b : Fin 5632 → ℝ) (D : Fin 2816 → Fin 1024 → ℝ) (g : Fin 1024 → ℝ)
    (ct : Fin 8192 → Fin 1024 → ℝ) (r : ℕ) (j : Fin 2816) : du up w b D g ct r (right j)
      = da ct g D r j * conv (row up) w b r (left j) * slope (conv (row up) w b r (right j)) := by
  unfold du
  rw [dif_neg (show ¬ ((right j : Fin 5632) : ℕ) < 2816 from by show ¬ 2816 + (j : ℕ) < 2816; omega)]
  have e : (⟨((right j : Fin 5632) : ℕ) - 2816, by show 2816 + (j : ℕ) - 2816 < 2816; omega⟩ : Fin 2816) = j :=
    Fin.ext (show 2816 + (j : ℕ) - 2816 = j by omega)
  rw [e]

/-- The cotangent of the convolution's argument. -/
def back {n : ℕ} (u : ℕ → Fin n → ℝ) (w : Fin 3 → Fin n → ℝ) (r : ℕ) (c : Fin n) : ℝ :=
  u (r + 1) c * w 0 c + u r c * w 1 c + u (r - 1) c * w 2 c

/-- The addends of a row to the cotangents of the taps and of the shift. -/
def tapd {n : ℕ} (u e : ℕ → Fin n → ℝ) (k : Fin 8) (r : ℕ) (c : Fin n) : ℝ :=
  if (k : ℕ) = 0 then u (r + 1) c * e r c else if (k : ℕ) = 1 then u r c * e r c else if (k : ℕ) = 2 then u (r - 1) c * e r c
  else if (k : ℕ) = 3 then u r c else 0

end Cert.Ffn

end
-- ==== Proof.Ffn.Local.lean ====
/-
  The gate's gradient call on one tile and one range of columns, when what it reads are real numbers. `N` is the number of the
  extended tile's first row.
-/
module

public import proofs.«01_k».proof.Proof.Ffn.Steps
public import proofs.«01_k».proof.Proof.Ffn.Spec

@[expose] public section

set_option maxRecDepth 16384

noncomputable section

open Idealize.ShloMosaic

namespace Cert.FfnIdeal.Local

open Cert.FfnIdeal Cert.FfnIdeal.Gen

variable (N : ℕ) (E U : ℕ → Fin 1408 → ℝ) (e u : FVec Ideal S272x1408 .f32) (w : Vec Ideal S8x1408 .f32) (W : Fin 3 → Fin 1408 → ℝ)

/-- The rows of `x` that have neighbours on both sides are those of `X`. -/
def Inside (x : FVec Ideal S272x1408 .f32) (X : ℕ → Fin 1408 → ℝ) : Prop :=
  ∀ (r : Fin 272) (d : Fin 1408), 1 ≤ (r : ℕ) → (r : ℕ) < 271 → x (ix2 r d) = ((X (N + r) d : ℝ) : EReal)

/-- The first three rows of `w` are those of `W`. -/
def Taps (w : Vec Ideal S8x1408 .f32) (W : Fin 3 → Fin 1408 → ℝ) : Prop := ∀ (k : Fin 3) (d : Fin 1408), w (ix2 ⟨k, by omega⟩ d) = ((W k d : ℝ) : EReal)

variable {N E U e u w W}

theorem conv_real (he : ∀ r d, e (ix2 r d) = ((E (N + r) d : ℝ) : EReal)) (hw : Taps w W) {b : Vec Ideal S1x1408 .f32} {B : Fin 1408 → ℝ}
    (hb : ∀ d, b (ix2 0 d) = ((B d : ℝ) : EReal)) : Inside N (Steps.conv e w b) (Cert.Ffn.conv E W B) := by
  intro r d h1 h2
  have w0 : w (ix2 0 d) = _ := hw 0 d
  have w1 : w (ix2 1 d) = _ := hw 1 d
  have w2 : w (ix2 2 d) = _ := hw 2 d
  rw [Steps.conv_apply, Steps.before_apply _ _ _ h1, Steps.after_apply _ _ _ h2, he, he, he, w0, w1, w2, hb]
  unfold Cert.Ffn.conv
  rw [show N + (r : ℕ) - 1 = N + (r - 1) by omega, show N + (r : ℕ) + 1 = N + (r + 1) by omega]
  push_cast
  rfl

theorem logistic_real (x : ℝ) : Ideal.logistic (x : EReal) = ((Cert.Ffn.sg x : ℝ) : EReal) := Ideal.logistic_coe x

theorem one_real : Ideal.ofBits .f32 0x3F800000#32 = ((1 : ℝ) : EReal) := by
  simp [Ideal.ofBits, Ideal.ieee, -EReal.coe_mul]
  norm_num

variable {a v g : FVec Ideal S272x1408 .f32} {A V G : ℕ → Fin 1408 → ℝ}

theorem dvalue_real (ha : ∀ r d, a (ix2 r d) = ((A (N + r) d : ℝ) : EReal)) (hg : Inside N g G) :
    Inside N (Steps.dvalue a g) fun r d => A r d * (G r d * Cert.Ffn.sg (G r d)) := by
  intro r d h1 h2
  rw [Steps.dvalue_apply, ha, hg r d h1 h2, logistic_real]
  push_cast
  rfl

theorem dgate_real (ha : ∀ r d, a (ix2 r d) = ((A (N + r) d : ℝ) : EReal)) (hv : Inside N v V) (hg : Inside N g G) :
    Inside N (Steps.dgate a v g) fun r d => A r d * V r d * Cert.Ffn.slope (G r d) := by
  intro r d h1 h2
  rw [Steps.dgate_apply, ha, hv r d h1 h2, hg r d h1 h2, logistic_real, one_real]
  unfold Cert.Ffn.slope
  push_cast
  rfl

theorem back_real (hu : Inside N u U) (hw : Taps w W) (r : Fin 256) (d : Fin 1408) :
    Steps.back u w (ix2 r d) = ((Cert.Ffn.back U W (N + 8 + r) d : ℝ) : EReal) := by
  have w0 : w (ix2 0 d) = _ := hw 0 d
  have w1 : w (ix2 1 d) = _ := hw 1 d
  have w2 : w (ix2 2 d) = _ := hw 2 d
  rw [Steps.back_apply, Steps.before_apply _ _ _ (by show 1 ≤ 8 + (r : ℕ); omega), Steps.after_apply _ _ _ (by show 8 + (r : ℕ) < 271; omega),
    hu _ _ (by show 1 ≤ 8 + (r : ℕ) + 1; omega) (by show 8 + (r : ℕ) + 1 < 271; omega),
    hu _ _ (by show 1 ≤ 8 + (r : ℕ); omega) (by show 8 + (r : ℕ) < 271; omega),
    hu _ _ (by show 1 ≤ 8 + (r : ℕ) - 1; omega) (by show 8 + (r : ℕ) - 1 < 271; omega), w0, w1, w2]
  unfold Cert.Ffn.back
  rw [show N + 8 + (r : ℕ) - 1 = N + (8 + r - 1) by omega, show N + 8 + (r : ℕ) + 1 = N + (8 + r + 1) by omega, show N + 8 + (r : ℕ) = N + (8 + r) by omega]
  push_cast
  rfl

theorem addend_real (hu : Inside N u U) (he : ∀ r d, e (ix2 r d) = ((E (N + r) d : ℝ) : EReal)) (k : Fin 8) (d : Fin 1408) :
    Steps.addend u e (ix2 k d) = ((∑ r : Fin 256, Cert.Ffn.tapd U E k (N + 8 + r) d : ℝ) : EReal) := by
  have s0 : ∑ r : Fin 256, Steps.after u (ix2 ⟨8 + r, by omega⟩ d) * e (ix2 ⟨8 + r, by omega⟩ d)
      = ((∑ r : Fin 256, U (N + 8 + r + 1) d * E (N + 8 + r) d : ℝ) : EReal) := by
    rw [← Cert.Reals.sum_coe]
    refine Finset.sum_congr rfl fun r _ => ?_
    rw [Steps.after_apply _ _ _ (by show 8 + (r : ℕ) < 271; omega),
      hu _ _ (by show 1 ≤ 8 + (r : ℕ) + 1; omega) (by show 8 + (r : ℕ) + 1 < 271; omega), he, ← EReal.coe_mul]
    rw [show N + 8 + (r : ℕ) + 1 = N + (8 + r + 1) by omega, show N + 8 + (r : ℕ) = N + (8 + r) by omega]
  have s1 : ∑ r : Fin 256, u (ix2 ⟨8 + r, by omega⟩ d) * e (ix2 ⟨8 + r, by omega⟩ d)
      = ((∑ r : Fin 256, U (N + 8 + r) d * E (N + 8 + r) d : ℝ) : EReal) := by
    rw [← Cert.Reals.sum_coe]
    refine Finset.sum_congr rfl fun r _ => ?_
    rw [hu _ _ (by show 1 ≤ 8 + (r : ℕ); omega) (by show 8 + (r : ℕ) < 271; omega), he, ← EReal.coe_mul]
    rw [show N + 8 + (r : ℕ) = N + (8 + r) by omega]
  have s2 : ∑ r : Fin 256, Steps.before u (ix2 ⟨8 + r, by omega⟩ d) * e (ix2 ⟨8 + r, by omega⟩ d)
      = ((∑ r : Fin 256, U (N + 8 + r - 1) d * E (N + 8 + r) d : ℝ) : EReal) := by
    rw [← Cert.Reals.sum_coe]
    refine Finset.sum_congr rfl fun r _ => ?_
    rw [Steps.before_apply _ _ _ (by show 1 ≤ 8 + (r : ℕ); omega),
      hu _ _ (by show 1 ≤ 8 + (r : ℕ) - 1; omega) (by show 8 + (r : ℕ) - 1 < 271; omega), he, ← EReal.coe_mul]
    rw [show N + 8 + (r : ℕ) - 1 = N + (8 + r - 1) by omega, show N + 8 + (r : ℕ) = N + (8 + r) by omega]
  have s3 : ∑ r : Fin 256, u (ix2 ⟨8 + r, by omega⟩ d) = ((∑ r : Fin 256, U (N + 8 + r) d : ℝ) : EReal) := by
    rw [← Cert.Reals.sum_coe]
    refine Finset.sum_congr rfl fun r _ => ?_
    rw [hu _ _ (by show 1 ≤ 8 + (r : ℕ); omega) (by show 8 + (r : ℕ) < 271; omega), show N + 8 + (r : ℕ) = N + (8 + r) by omega]
  rw [Steps.addend_apply, s0, s1, s2, s3]
  unfold Cert.Ffn.tapd
  by_cases h0 : (k : ℕ) = 0
  · simp [h0]
  by_cases h1 : (k : ℕ) = 1
  · simp [h1]
  by_cases h2 : (k : ℕ) = 2
  · simp [h2]
  by_cases h3 : (k : ℕ) = 3
  · simp [h3]
  simp [h0, h1, h2, h3]

theorem dact_real {n : ℕ} {y : FVec Ideal S272x1024 .bf16} {Y : ℕ → Fin 1024 → ℝ} (hy : ∀ r d, y (ix2 r d) = ((Y (N + r) d : ℝ) : EReal))
    {x : Vec Ideal S1408x1024 .bf16} {X : Fin n → Fin 1024 → ℝ} (sel : Fin 1408 → Fin n)
    (hx : ∀ c d, x (ix2 c d) = ((X (sel c) d : ℝ) : EReal)) (r : Fin 272) (c : Fin 1408) :
    Steps.dact y x (ix2 r c) = (((fun (r : ℕ) (c : Fin 1408) => ∑ d : Fin 1024, Y r d * X (sel c) d) (N + r) c : ℝ) : EReal) := by
  rw [Steps.dact_apply]
  show _ = ((∑ d : Fin 1024, Y (N + r) d * X (sel c) d : ℝ) : EReal)
  rw [← Cert.Reals.sum_coe]
  refine Finset.sum_congr rfl fun d _ => ?_
  rw [hy, hx, ← EReal.coe_mul]

/-- The extended tile `t` holds rows `256 t` to `256 t + 271`, counted from eight on. -/
theorem pick_real {n : ℕ} (t : ℕ) (h32 : t < 32) (p : Fin 8 → Fin n → EReal) (x : Fin 256 → Fin n → EReal) (q : Fin 8 → Fin n → EReal)
    (X : Fin 8192 → Fin n → ℝ) (hp : ∀ r d, p r d = ((X ⟨max (32 * (t : ℕ) - 1) 0 * 8 + r, by omega⟩ d : ℝ) : EReal))
    (hx : ∀ r d, x r d = ((X ⟨256 * t + r, by omega⟩ d : ℝ) : EReal))
    (hq : ∀ r d, q r d = ((X ⟨min (32 * ((t : ℕ) + 1)) 1023 * 8 + r, by omega⟩ d : ℝ) : EReal)) (r : Fin 272) (d : Fin n) :
    Steps.pick t p x q r d = ((Cert.Ffn.row X (256 * t + r) d : ℝ) : EReal) := by
  unfold Steps.pick Cert.Ffn.row
  by_cases h : (r : ℕ) < 8
  · rw [dif_pos h]
    by_cases ht : 0 < (t : ℕ)
    · rw [if_pos ht, hp, dif_pos (by omega)]
      exact congrArg (fun k => ((X k d : ℝ) : EReal)) (Fin.ext (show max (32 * (t : ℕ) - 1) 0 * 8 + r = 256 * t + r - 8 by omega))
    · rw [if_neg ht, dif_neg (by omega)]
      rfl
  · rw [dif_neg h]
    by_cases h' : (r : ℕ) - 8 < 256
    · rw [dif_pos h', hx, dif_pos (by omega)]
      exact congrArg (fun k => ((X k d : ℝ) : EReal)) (Fin.ext (show 256 * (t : ℕ) + (r - 8) = 256 * t + r - 8 by omega))
    · rw [dif_neg h']
      by_cases ht : (t : ℕ) < 31
      · rw [if_pos ht, hq, dif_pos (by omega)]
        exact congrArg (fun k => ((X k d : ℝ) : EReal)) (Fin.ext (show min (32 * ((t : ℕ) + 1)) 1023 * 8 + (r - 8 - 256) = 256 * t + r - 8 by omega))
      · rw [if_neg ht, dif_neg (by omega)]
        rfl

end Cert.FfnIdeal.Local

end
-- ==== Proof.Ffn.Tile.lean ====
/-
  What the gate's gradient call leaves after a grid point, as the steps of one tile.
-/
module

public import proofs.«01_k».proof.Proof.Gen.FfnIdeal.Value
public import proofs.«01_k».proof.Proof.Ffn.Local
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

abbrev B0 (c : Dev nD) (t : Fin cfg0.N) : Vec Ideal S256x1024 .f32 := iblk m c 0 t
abbrev B1 (c : Dev nD) (t : Fin cfg0.N) : Vec Ideal S8x1024 .f32 := iblk m c 1 t
abbrev B2 (c : Dev nD) (t : Fin cfg0.N) : Vec Ideal S8x1024 .f32 := iblk m c 2 t
abbrev B3 (c : Dev nD) (t : Fin cfg0.N) : Vec Ideal S256x1024 .f32 := iblk m c 3 t
abbrev B4 (c : Dev nD) (t : Fin cfg0.N) : Vec Ideal S256x5632 .f32 := iblk m c 4 t
abbrev B5 (c : Dev nD) (t : Fin cfg0.N) : Vec Ideal S8x5632 .f32 := iblk m c 5 t
abbrev B6 (c : Dev nD) (t : Fin cfg0.N) : Vec Ideal S8x5632 .f32 := iblk m c 6 t
abbrev B7 (c : Dev nD) (t : Fin cfg0.N) : Vec Ideal S8x5632 .f32 := iblk m c 7 t
abbrev B8 (c : Dev nD) (t : Fin cfg0.N) : Vec Ideal S1x5632 .f32 := iblk m c 8 t
abbrev B9 (c : Dev nD) (t : Fin cfg0.N) : Vec Ideal S2816x1024 .bf16 := iblk m c 9 t
abbrev B10 (c : Dev nD) (t : Fin cfg0.N) : Vec Ideal S1x1024 .f32 := iblk m c 10 t

section Loads

theorem inb8 (o : ℕ) (ho : o + 1408 ≤ 5632) : ∀ a, (![0, o] : Fin 2 → ℕ) a + (![8, 1408] : Fin 2 → ℕ) a ≤ S8x5632.size a := by
  intro a
  fin_cases a
  · exact le_refl 8
  · exact ho

theorem inb1 (o : ℕ) (ho : o + 1408 ≤ 5632) : ∀ a, (![0, o] : Fin 2 → ℕ) a + (![1, 1408] : Fin 2 → ℕ) a ≤ S1x5632.size a := by
  intro a
  fin_cases a
  · exact le_refl 1
  · exact ho

theorem inb256 (o : ℕ) (ho : o + 1408 ≤ 5632) : ∀ a, (![0, o] : Fin 2 → ℕ) a + (![256, 1408] : Fin 2 → ℕ) a ≤ S256x5632.size a := by
  intro a
  fin_cases a
  · exact le_refl 256
  · exact ho

theorem inbW (j : ℕ) (hj : j + 1408 ≤ 2816) : ∀ a, (![j, 0] : Fin 2 → ℕ) a + (![1408, 1024] : Fin 2 → ℕ) a ≤ S2816x1024.size a := by
  intro a
  fin_cases a
  · exact hj
  · exact le_refl 1024

/-- The 1408 columns of a block from column `o` on. -/
def cols8 (x : Vec Ideal S8x5632 .f32) (o : ℕ) (ho : o + 1408 ≤ 5632) : Vec Ideal S8x1408 .f32 :=
  View.ld x (Rect.unit (s := S8x5632) ![0, o] ![8, 1408] (inb8 o ho))
def cols1 (x : Vec Ideal S1x5632 .f32) (o : ℕ) (ho : o + 1408 ≤ 5632) : Vec Ideal S1x1408 .f32 :=
  View.ld x (Rect.unit (s := S1x5632) ![0, o] ![1, 1408] (inb1 o ho))
def cols256 (x : Vec Ideal S256x5632 .f32) (o : ℕ) (ho : o + 1408 ≤ 5632) : Vec Ideal S256x1408 .f32 :=
  View.ld x (Rect.unit (s := S256x5632) ![0, o] ![256, 1408] (inb256 o ho))
def rowsW (x : Vec Ideal S2816x1024 .bf16) (j : ℕ) (hj : j + 1408 ≤ 2816) : Vec Ideal S1408x1024 .bf16 :=
  View.ld x (Rect.unit (s := S2816x1024) ![j, 0] ![1408, 1024] (inbW j hj))

theorem cols8_apply (x : Vec Ideal S8x5632 .f32) (o : ℕ) (ho : o + 1408 ≤ 5632) (r : Fin 8) (d : Fin 1408) :
    cols8 x o ho (ix2 r d) = x (ix2 r ⟨o + d, by omega⟩) := by
  pointwise [cols8]
theorem cols1_apply (x : Vec Ideal S1x5632 .f32) (o : ℕ) (ho : o + 1408 ≤ 5632) (d : Fin 1408) :
    cols1 x o ho (ix2 0 d) = x (ix2 0 ⟨o + d, by omega⟩) := by
  pointwise [cols1]
theorem cols256_apply (x : Vec Ideal S256x5632 .f32) (o : ℕ) (ho : o + 1408 ≤ 5632) (r : Fin 256) (d : Fin 1408) :
    cols256 x o ho (ix2 r d) = x (ix2 r ⟨o + d, by omega⟩) := by
  pointwise [cols256]
theorem rowsW_apply (x : Vec Ideal S2816x1024 .bf16) (j : ℕ) (hj : j + 1408 ≤ 2816) (r : Fin 1408) (d : Fin 1024) :
    rowsW x j hj (ix2 r d) = x (ix2 ⟨j + r, by omega⟩ d) := by
  pointwise [rowsW]

end Loads

/-! The steps of one grid point, for the columns from `o` on (from `j` on in each half). -/

/-- The extended tile. -/
def extAt (c : Dev nD) (t : Fin cfg0.N) (o : ℕ) (ho : o + 1408 ≤ 5632) : FVec Ideal S272x1408 .f32 :=
  Steps.ext (grid0.coords t) (cols8 (B5 m c t) o ho) (cols256 (B4 m c t) o ho) (cols8 (B6 m c t) o ho)

/-- The convolution. -/
def convAt (c : Dev nD) (t : Fin cfg0.N) (o : ℕ) (ho : o + 1408 ≤ 5632) : FVec Ideal S272x1408 .f32 :=
  Steps.conv (extAt m c t o ho) (cols8 (B7 m c t) o ho) (cols1 (B8 m c t) o ho)

/-- The cotangent of the gated product. -/
def dactAt (c : Dev nD) (t : Fin cfg0.N) (j : ℕ) (hj : j + 1408 ≤ 2816) : FVec Ideal S272x1408 .f32 :=
  Steps.dact (Steps.dout (grid0.coords t) (B0 m c t) (B1 m c t) (B2 m c t) (B10 m c t)) (rowsW (B9 m c t) j hj)

/-- The cotangent of the gated half. -/
def valueAt (c : Dev nD) (t : Fin cfg0.N) (j : ℕ) (hj : j + 1408 ≤ 2816) : FVec Ideal S272x1408 .f32 :=
  Steps.dvalue (dactAt m c t j hj) (convAt m c t (2816 + j) (by omega))

/-- The cotangent of the gating half. -/
def gateAt (c : Dev nD) (t : Fin cfg0.N) (j : ℕ) (hj : j + 1408 ≤ 2816) : FVec Ideal S272x1408 .f32 :=
  Steps.dgate (dactAt m c t j hj) (convAt m c t j (by omega)) (convAt m c t (2816 + j) (by omega))

/-- What the blocks of a grid point hold: rows and columns of arrays of real numbers. -/
structure Reads (c : Dev nD) (t : Fin cfg0.N) (up : Fin 8192 → Fin 5632 → ℝ) (w : Fin 3 → Fin 5632 → ℝ) (b : Fin 5632 → ℝ)
    (D : Fin 2816 → Fin 1024 → ℝ) (g : Fin 1024 → ℝ) (ct : Fin 8192 → Fin 1024 → ℝ) : Prop where
  h0 : ∀ r d, B0 m c t (ix2 r d) = ((ct ⟨256 * t.val + r, by have := lt_of_lt_of_eq t.isLt (show cfg0.N = 32 from N_0); omega⟩ d : ℝ) : EReal)
  h1 : ∀ r d, B1 m c t (ix2 r d) = ((ct ⟨max (32 * t.val - 1) 0 * 8 + r, by have := lt_of_lt_of_eq t.isLt (show cfg0.N = 32 from N_0); omega⟩ d : ℝ) : EReal)
  h2 : ∀ r d, B2 m c t (ix2 r d) = ((ct ⟨min (32 * (t.val + 1)) 1023 * 8 + r, by omega⟩ d : ℝ) : EReal)
  h4 : ∀ r d, B4 m c t (ix2 r d) = ((up ⟨256 * t.val + r, by have := lt_of_lt_of_eq t.isLt (show cfg0.N = 32 from N_0); omega⟩ d : ℝ) : EReal)
  h5 : ∀ r d, B5 m c t (ix2 r d) = ((up ⟨max (32 * t.val - 1) 0 * 8 + r, by have := lt_of_lt_of_eq t.isLt (show cfg0.N = 32 from N_0); omega⟩ d : ℝ) : EReal)
  h6 : ∀ r d, B6 m c t (ix2 r d) = ((up ⟨min (32 * (t.val + 1)) 1023 * 8 + r, by omega⟩ d : ℝ) : EReal)
  h7 : ∀ (k : Fin 3) d, B7 m c t (ix2 ⟨k, by omega⟩ d) = ((w k d : ℝ) : EReal)
  h8 : ∀ d, B8 m c t (ix2 0 d) = ((b d : ℝ) : EReal)
  h9 : ∀ r d, B9 m c t (ix2 r d) = ((D r d : ℝ) : EReal)
  h10 : ∀ d, B10 m c t (ix2 0 d) = ((g d : ℝ) : EReal)

section Real

variable {m} {c : Dev nD} {t : Fin cfg0.N} {up : Fin 8192 → Fin 5632 → ℝ} {w : Fin 3 → Fin 5632 → ℝ} {b : Fin 5632 → ℝ}
  {D : Fin 2816 → Fin 1024 → ℝ} {g : Fin 1024 → ℝ} {ct : Fin 8192 → Fin 1024 → ℝ} (R : Reads m c t up w b D g ct)

theorem coord : ∀ t : Fin cfg0.N, ((grid0.coords t) 0).val = t.val := by decide +kernel

theorem lt32 (t : Fin cfg0.N) : t.val < 32 := lt_of_lt_of_eq t.isLt (show cfg0.N = 32 from N_0)

include R

theorem ext_real (o : ℕ) (ho : o + 1408 ≤ 5632) (r : Fin 272) (d : Fin 1408) :
    extAt m c t o ho (ix2 r d) = ((Cert.Ffn.row up (256 * t.val + r) ⟨o + d, by omega⟩ : ℝ) : EReal) := by
  unfold extAt
  rw [Steps.ext_apply, coord]
  exact Local.pick_real t.val (lt32 t) _ _ _ (fun a (d : Fin 1408) => up a ⟨o + d, by omega⟩)
    (fun r d => (cols8_apply ..).trans (R.h5 ..)) (fun r d => (cols256_apply ..).trans (R.h4 ..)) (fun r d => (cols8_apply ..).trans (R.h6 ..)) r d

theorem taps_real (o : ℕ) (ho : o + 1408 ≤ 5632) : Local.Taps (cols8 (B7 m c t) o ho) fun k d => w k ⟨o + d, by omega⟩ :=
  fun k d => (cols8_apply ..).trans (R.h7 ..)

theorem conv_real (o : ℕ) (ho : o + 1408 ≤ 5632) :
    Local.Inside (256 * t.val) (convAt m c t o ho) fun r d => Cert.Ffn.conv (Cert.Ffn.row up) w b r ⟨o + d, by omega⟩ :=
  Local.conv_real (E := fun r d => Cert.Ffn.row up r ⟨o + d, by omega⟩) (ext_real R o ho) (taps_real R o ho)
    (fun d => (cols1_apply ..).trans (R.h8 ..))

theorem dact_real (j : ℕ) (hj : j + 1408 ≤ 2816) (r : Fin 272) (d : Fin 1408) :
    dactAt m c t j hj (ix2 r d) = ((Cert.Ffn.da ct g D (256 * t.val + r) ⟨j + d, by omega⟩ : ℝ) : EReal) :=
  Local.dact_real (N := 256 * t.val) (Y := fun r d => Cert.Ffn.row ct r d * g d) (X := D)
    (fun r d => by
      rw [Steps.dout_apply, coord, Local.pick_real t.val (lt32 t) _ _ _ ct (fun r d => R.h1 ..) (fun r d => R.h0 ..) (fun r d => R.h2 ..), R.h10, ← EReal.coe_mul])
    (fun c : Fin 1408 => ⟨j + c, by omega⟩) (fun c d => (rowsW_apply ..).trans (R.h9 ..)) r d

theorem value_real (j : ℕ) (hj : j + 1408 ≤ 2816) :
    Local.Inside (256 * t.val) (valueAt m c t j hj) fun r d => Cert.Ffn.du up w b D g ct r ⟨j + d, by omega⟩ := by
  intro r d h1 h2
  refine (Local.dvalue_real (A := fun r d => Cert.Ffn.da ct g D r ⟨j + d, by omega⟩) (dact_real R j hj) (conv_real R (2816 + j) (by omega)) r d h1 h2).trans
    (congrArg _ (Eq.trans ?_ (Cert.Ffn.du_left up w b D g ct (256 * t.val + r) ⟨j + d, by omega⟩).symm))
  have e : (⟨2816 + j + d, by omega⟩ : Fin 5632) = Cert.Ffn.right ⟨j + d, by omega⟩ := Fin.ext (show 2816 + j + (d : ℕ) = 2816 + (j + d) by omega)
  rw [← e]

theorem gate_real (j : ℕ) (hj : j + 1408 ≤ 2816) :
    Local.Inside (256 * t.val) (gateAt m c t j hj) fun r d => Cert.Ffn.du up w b D g ct r ⟨2816 + j + d, by omega⟩ := by
  intro r d h1 h2
  have e : (⟨2816 + j + d, by omega⟩ : Fin 5632) = Cert.Ffn.right ⟨j + d, by omega⟩ := Fin.ext (show 2816 + j + (d : ℕ) = 2816 + (j + d) by omega)
  refine (Local.dgate_real (A := fun r d => Cert.Ffn.da ct g D r ⟨j + d, by omega⟩) (dact_real R j hj) (conv_real R j (by omega))
    (conv_real R (2816 + j) (by omega)) r d h1 h2).trans (congrArg _ ?_)
  show Cert.Ffn.da ct g D (256 * t.val + r) ⟨j + d, by omega⟩ * Cert.Ffn.conv (Cert.Ffn.row up) w b (256 * t.val + r) ⟨j + d, by omega⟩
    * Cert.Ffn.slope (Cert.Ffn.conv (Cert.Ffn.row up) w b (256 * t.val + r) ⟨2816 + j + d, by omega⟩)
    = Cert.Ffn.du up w b D g ct (256 * t.val + r) ⟨2816 + j + d, by omega⟩
  rw [e]
  exact (Cert.Ffn.du_right up w b D g ct (256 * t.val + r) ⟨j + d, by omega⟩).symm

/-- A range of columns of the convolution's argument's cotangent. -/
theorem back_piece (o : ℕ) (ho : o + 1408 ≤ 5632) (pf) {u : FVec Ideal S272x1408 .f32}
    (hu : Local.Inside (256 * t.val) u fun r d => Cert.Ffn.du up w b D g ct r ⟨o + d, by omega⟩)
    (x : (Rect.unit (s := S256x5632) ![0, o] ![256, 1408] pf).shape.Idx) :
    Steps.back u (cols8 (B7 m c t) o ho) x
      = (fun y : S256x5632.Idx => ((Cert.Ffn.back (Cert.Ffn.du up w b D g ct) w (256 * t.val + 8 + (y 0).val) (y 1) : ℝ) : EReal))
        ((Rect.unit (s := S256x5632) ![0, o] ![256, 1408] pf).emb x) := by
  obtain ⟨r, d, rfl⟩ : ∃ (r : Fin 256) (d : Fin 1408), x = ix2 r d := ⟨x 0, x 1, eq_ix2 x⟩
  refine (Local.back_real hu (taps_real R o ho) r d).trans ?_
  have e : (Rect.unit (s := S256x5632) ![0, o] ![256, 1408] pf).emb (ix2 r d) = ix2 r ⟨o + d, by omega⟩ := by idx_ext
  rw [e]
  rfl

/-- A range of columns of the cotangents of the taps and of the shift, added to what was there. -/
theorem taps_piece (o : ℕ) (ho : o + 1408 ≤ 5632) (pf) {u : FVec Ideal S272x1408 .f32}
    (hu : Local.Inside (256 * t.val) u fun r d => Cert.Ffn.du up w b D g ct r ⟨o + d, by omega⟩) (z : Vec Ideal S8x1408 .f32) (f : S8x5632.Idx → EReal)
    (hz : ∀ k d, z (ix2 k d) = f (ix2 k ⟨o + d, by omega⟩))
    (x : (Rect.unit (s := S8x5632) ![0, o] ![8, 1408] pf).shape.Idx) :
    Steps.plus z u (extAt m c t o ho) x
      = (fun y : S8x5632.Idx => f y + ((∑ r : Fin 256, Cert.Ffn.tapd (Cert.Ffn.du up w b D g ct) (Cert.Ffn.row up) (y 0) (256 * t.val + 8 + r) (y 1) : ℝ) : EReal))
        ((Rect.unit (s := S8x5632) ![0, o] ![8, 1408] pf).emb x) := by
  obtain ⟨r, d, rfl⟩ : ∃ (r : Fin 8) (d : Fin 1408), x = ix2 r d := ⟨x 0, x 1, eq_ix2 x⟩
  refine (Steps.plus_apply ..).trans ?_
  rw [hz, Local.addend_real (E := fun r d => Cert.Ffn.row up r ⟨o + d, by omega⟩) hu (ext_real R o ho) r d]
  have e : (Rect.unit (s := S8x5632) ![0, o] ![8, 1408] pf).emb (ix2 r d) = ix2 r ⟨o + d, by omega⟩ := by idx_ext
  rw [e]
  rfl

end Real

theorem dout_point (c : Dev nD) (t : Fin cfg0.N) :
    (outsAt0 m c t.val t.isLt).2.1 = k0_pay3 (grid0.coords t) (B0 m c t) (B1 m c t) (B2 m c t) (B10 m c t) := by
  by_cases h : t.val % 32 = 0
  · rw [outsAt0_A m c t h h h h h]
    frame_out
  · rw [outsAt0_B m c t h h h h h]
    frame_out

theorem scale_point_A (c : Dev nD) (t : Fin cfg0.N) (h : t.val % 32 = 0) :
    (outsAt0 m c t.val t.isLt).2.2.1 = k0_pay7 (k0_pay5 (B0 m c t) (B3 m c t)) (k0_pay6 (F := Ideal)) := by
  rw [outsAt0_A m c t h h h h h]
  frame_out

theorem scale_point_B (c : Dev nD) (t : Fin cfg0.N) (h : ¬ t.val % 32 = 0) :
    (outsAt0 m c t.val t.isLt).2.2.1 = k0_pay7 (k0_pay5 (B0 m c t) (B3 m c t)) (outsAt0 m c (t.val - 1) (by omega)).2.2.1 := by
  rw [outsAt0_B m c t h h h h h]
  frame_out

theorem up_point (c : Dev nD) (t : Fin cfg0.N) {up : Fin 8192 → Fin 5632 → ℝ} {w : Fin 3 → Fin 5632 → ℝ} {b : Fin 5632 → ℝ}
    {D : Fin 2816 → Fin 1024 → ℝ} {g : Fin 1024 → ℝ} {ct : Fin 8192 → Fin 1024 → ℝ} (R : Reads m c t up w b D g ct) :
    (outsAt0 m c t.val t.isLt).1 = fun y : S256x5632.Idx =>
      ((Cert.Ffn.back (Cert.Ffn.du up w b D g ct) w (256 * t.val + 8 + (y 0).val) (y 1) : ℝ) : EReal) := by
  by_cases h : t.val % 32 = 0
  · rw [outsAt0_A m c t h h h h h]
    frame_out
    funext y
    refine (View.canon_append_of_piecesOf (s := S256x5632) (e := .bf16) (Val := Elt Ideal) (fun y : S256x5632.Idx =>
      ((Cert.Ffn.back (Cert.Ffn.du up w b D g ct) w (256 * t.val + 8 + (y 0).val) (y 1) : ℝ) : EReal)) [] [_, _, _, _] ?_ _ ?_)
    · refine ⟨?_, ?_, ?_, ?_, trivial⟩
      · exact back_piece R 4224 (by norm_num) (inb256 4224 (by norm_num)) (gate_real R 1408 (by norm_num))
      · exact back_piece R 1408 (by norm_num) (inb256 1408 (by norm_num)) (value_real R 1408 (by norm_num))
      · exact back_piece R 2816 (by norm_num) (inb256 2816 (by norm_num)) (gate_real R 0 (by norm_num))
      · exact back_piece R 0 (by norm_num) (inb256 0 (by norm_num)) (value_real R 0 (by norm_num))
    · exact View.cover_of_tiledL _ ![256, 1408] (by sl_kernel_rfl) _
  · rw [outsAt0_B m c t h h h h h]
    frame_out
    funext y
    refine (View.canon_append_of_piecesOf (s := S256x5632) (e := .bf16) (Val := Elt Ideal) (fun y : S256x5632.Idx =>
      ((Cert.Ffn.back (Cert.Ffn.du up w b D g ct) w (256 * t.val + 8 + (y 0).val) (y 1) : ℝ) : EReal)) [] [_, _, _, _] ?_ _ ?_)
    · refine ⟨?_, ?_, ?_, ?_, trivial⟩
      · exact back_piece R 4224 (by norm_num) (inb256 4224 (by norm_num)) (gate_real R 1408 (by norm_num))
      · exact back_piece R 1408 (by norm_num) (inb256 1408 (by norm_num)) (value_real R 1408 (by norm_num))
      · exact back_piece R 2816 (by norm_num) (inb256 2816 (by norm_num)) (gate_real R 0 (by norm_num))
      · exact back_piece R 0 (by norm_num) (inb256 0 (by norm_num)) (value_real R 0 (by norm_num))
    · exact View.cover_of_tiledL _ ![256, 1408] (by sl_kernel_rfl) _

theorem taps_point_B (c : Dev nD) (t : Fin cfg0.N) (h : ¬ t.val % 32 = 0) {up : Fin 8192 → Fin 5632 → ℝ} {w : Fin 3 → Fin 5632 → ℝ} {b : Fin 5632 → ℝ}
    {D : Fin 2816 → Fin 1024 → ℝ} {g : Fin 1024 → ℝ} {ct : Fin 8192 → Fin 1024 → ℝ} (R : Reads m c t up w b D g ct) (k : Fin 8) (d : Fin 5632) :
    (outsAt0 m c t.val t.isLt).2.2.2 (ix2 k d) = (outsAt0 m c (t.val - 1) (by omega)).2.2.2 (ix2 k d)
      + ((∑ r : Fin 256, Cert.Ffn.tapd (Cert.Ffn.du up w b D g ct) (Cert.Ffn.row up) k (256 * t.val + 8 + r) d : ℝ) : EReal) := by
  rw [outsAt0_B m c t h h h h h]
  frame_out
  refine (View.canon_append_of_piecesOf (fun y : S8x5632.Idx => (outsAt0 m c (t.val - 1) (by omega)).2.2.2 y +
    ((∑ r : Fin 256, Cert.Ffn.tapd (Cert.Ffn.du up w b D g ct) (Cert.Ffn.row up) (y 0) (256 * t.val + 8 + r) (y 1) : ℝ) : EReal)) [] [_, _, _, _] ?_ _ ?_)
  · refine ⟨?_, ?_, ?_, ?_, trivial⟩
    · exact taps_piece R 4224 (by norm_num) (inb8 4224 (by norm_num)) (gate_real R 1408 (by norm_num)) _ _ (fun k d => cols8_apply (outsAt0 m c (t.val - 1) (by omega)).2.2.2 4224 (by norm_num) k d)
    · exact taps_piece R 1408 (by norm_num) (inb8 1408 (by norm_num)) (value_real R 1408 (by norm_num)) _ _ (fun k d => cols8_apply (outsAt0 m c (t.val - 1) (by omega)).2.2.2 1408 (by norm_num) k d)
    · exact taps_piece R 2816 (by norm_num) (inb8 2816 (by norm_num)) (gate_real R 0 (by norm_num)) _ _ (fun k d => cols8_apply (outsAt0 m c (t.val - 1) (by omega)).2.2.2 2816 (by norm_num) k d)
    · exact taps_piece R 0 (by norm_num) (inb8 0 (by norm_num)) (value_real R 0 (by norm_num)) _ _ (fun k d => cols8_apply (outsAt0 m c (t.val - 1) (by omega)).2.2.2 0 (by norm_num) k d)
  · exact View.cover_of_tiledL _ ![8, 1408] (by sl_kernel_rfl) _

/-- A store that is a block of `G`, over a fill of its own place, leaves `G` there. -/
theorem canon_over {Val : EltTy → Type} [∀ e, Nonempty (Val e)] {s : Shape} {e : EltTy} (G : s.Idx → Val e) (r : Rect s) (w z : r.shape.Idx → Val e)
    (L : List (View.Piece Val s e)) (y : s.Idx) (h : ∀ x, w x = G (r.emb x)) (hL : y ∉ r.set → View.canon L y = G y) :
    View.canon (⟨r, w⟩ :: ⟨r, z⟩ :: L) y = G y := by
  by_cases hm : y ∈ r.set
  · obtain ⟨x, rfl⟩ := r.exists_idx_of_mem hm
    rw [show r.idx x = r.emb x from rfl, View.canon_cons_emb]
    exact h x
  · rw [View.canon_cons_of_not_mem _ _ hm, View.canon_cons_of_not_mem _ _ hm]
    exact hL hm

/-- Four places cover an index. -/
theorem one_of_four {Val : EltTy → Type} {s : Shape} {e : EltTy} {p1 p2 p3 p4 : View.Piece Val s e} {y : s.Idx}
    (hc : ∃ p ∈ [p1, p2, p3, p4], y ∈ p.1.set) (h1 : y ∉ p1.1.set) (h2 : y ∉ p2.1.set) (h3 : y ∉ p3.1.set) (h4 : y ∉ p4.1.set) : False := by
  obtain ⟨p, hp, hy⟩ := hc
  rcases List.mem_cons.mp hp with rfl | hp
  · exact h1 hy
  rcases List.mem_cons.mp hp with rfl | hp
  · exact h2 hy
  rcases List.mem_cons.mp hp with rfl | hp
  · exact h3 hy
  rcases List.mem_cons.mp hp with rfl | hp
  · exact h4 hy
  · exact absurd hp List.not_mem_nil

theorem zero_fill (y) : k0_pay65 (F := Ideal) y = 0 := by
  pointwise [k0_pay65]

theorem taps_point_A (c : Dev nD) (t : Fin cfg0.N) (h : t.val % 32 = 0) {up : Fin 8192 → Fin 5632 → ℝ} {w : Fin 3 → Fin 5632 → ℝ} {b : Fin 5632 → ℝ}
    {D : Fin 2816 → Fin 1024 → ℝ} {g : Fin 1024 → ℝ} {ct : Fin 8192 → Fin 1024 → ℝ} (R : Reads m c t up w b D g ct) (k : Fin 8) (d : Fin 5632) :
    (outsAt0 m c t.val t.isLt).2.2.2 (ix2 k d)
      = 0 + ((∑ r : Fin 256, Cert.Ffn.tapd (Cert.Ffn.du up w b D g ct) (Cert.Ffn.row up) k (256 * t.val + 8 + r) d : ℝ) : EReal) := by
  rw [outsAt0_A m c t h h h h h]
  frame_open
  simp (disch := decide) only [↓ View.readCov_skip, ↓ View.readCov_cons_toLoadRect, ↓ View.readCov_fill]
  frame_out
  have hc := View.cover_of_tiledL ([⟨Rect.unit (s := S8x5632) ![0, 4224] ![8, 1408] (inb8 4224 (by norm_num)), fun _ => (0 : EReal)⟩,
    ⟨Rect.unit (s := S8x5632) ![0, 1408] ![8, 1408] (inb8 1408 (by norm_num)), fun _ => (0 : EReal)⟩,
    ⟨Rect.unit (s := S8x5632) ![0, 2816] ![8, 1408] (inb8 2816 (by norm_num)), fun _ => (0 : EReal)⟩,
    ⟨Rect.unit (s := S8x5632) ![0, 0] ![8, 1408] (inb8 0 (by norm_num)), fun _ => (0 : EReal)⟩] : List (View.Piece (Elt Ideal) S8x5632 .f32))
    ![8, 1408] (by sl_kernel_rfl) (ix2 k d)
  have z : ∀ (o : ℕ) (ho : o + 1408 ≤ 5632) (k : Fin 8) (d : Fin 1408), k0_pay65 (F := Ideal) (ix2 k d) = (fun _ : S8x5632.Idx => (0 : EReal)) (ix2 k ⟨o + d, by omega⟩) :=
    fun o ho k d => zero_fill _
  refine canon_over (Val := Elt Ideal) (e := .f32) (fun y : S8x5632.Idx => (0 : EReal) +
    ((∑ r : Fin 256, Cert.Ffn.tapd (Cert.Ffn.du up w b D g ct) (Cert.Ffn.row up) (y 0) (256 * t.val + 8 + r) (y 1) : ℝ) : EReal))
    _ _ _ _ _ (taps_piece R 4224 (by norm_num) (inb8 4224 (by norm_num)) (gate_real R 1408 (by norm_num)) _ (fun _ => 0) (z 4224 (by norm_num))) fun h1 => ?_
  refine canon_over (Val := Elt Ideal) (e := .f32) (fun y : S8x5632.Idx => (0 : EReal) +
    ((∑ r : Fin 256, Cert.Ffn.tapd (Cert.Ffn.du up w b D g ct) (Cert.Ffn.row up) (y 0) (256 * t.val + 8 + r) (y 1) : ℝ) : EReal))
    _ _ _ _ _ (taps_piece R 1408 (by norm_num) (inb8 1408 (by norm_num)) (value_real R 1408 (by norm_num)) _ (fun _ => 0) (z 1408 (by norm_num))) fun h2 => ?_
  refine canon_over (Val := Elt Ideal) (e := .f32) (fun y : S8x5632.Idx => (0 : EReal) +
    ((∑ r : Fin 256, Cert.Ffn.tapd (Cert.Ffn.du up w b D g ct) (Cert.Ffn.row up) (y 0) (256 * t.val + 8 + r) (y 1) : ℝ) : EReal))
    _ _ _ _ _ (taps_piece R 2816 (by norm_num) (inb8 2816 (by norm_num)) (gate_real R 0 (by norm_num)) _ (fun _ => 0) (z 2816 (by norm_num))) fun h3 => ?_
  refine canon_over (Val := Elt Ideal) (e := .f32) (fun y : S8x5632.Idx => (0 : EReal) +
    ((∑ r : Fin 256, Cert.Ffn.tapd (Cert.Ffn.du up w b D g ct) (Cert.Ffn.row up) (y 0) (256 * t.val + 8 + r) (y 1) : ℝ) : EReal))
    _ _ _ _ _ (taps_piece R 0 (by norm_num) (inb8 0 (by norm_num)) (value_real R 0 (by norm_num)) _ (fun _ => 0) (z 0 (by norm_num))) fun h4 => ?_
  exact (one_of_four hc h1 h2 h3 h4).elim

end Cert.FfnIdeal.Value

end
-- ==== Proof.Ffn.Final.lean ====
/-
  The gate's gradient region as a whole: its four arrays after the run, from the arrays the region reads.
-/
module

public import proofs.«01_k».proof.Proof.Ffn.Tile

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

/-- The blocks' places: tile `t` of 256 rows, the eight rows before and behind it, and whole arrays. -/
theorem idx : ∀ t : Fin cfg0.N, win0_0.index t = ![t.val, 0] ∧ win0_1.index t = ![max (32 * t.val - 1) 0, 0] ∧
    win0_2.index t = ![min (32 * (t.val + 1)) 1023, 0] ∧ win0_3.index t = ![t.val, 0] ∧ win0_4.index t = ![t.val, 0] ∧
    win0_5.index t = ![max (32 * t.val - 1) 0, 0] ∧ win0_6.index t = ![min (32 * (t.val + 1)) 1023, 0] ∧
    win0_7.index t = ![0, 0] ∧ win0_8.index t = ![0, 0] ∧ win0_9.index t = ![0, 0] ∧ win0_10.index t = ![0, 0] ∧
    win0_11.index t = ![t.val, 0] ∧ win0_12.index t = ![t.val, 0] ∧ win0_13.index t = ![0, 0] ∧ win0_14.index t = ![0, 0] :=
  (by decide +kernel : ∀ t : Fin grid0.N, _)

/-- Row `r` of tile `t`. -/
abbrev at256 (t : Fin cfg0.N) (r : Fin 256) : Fin 8192 := ⟨256 * t.val + r, by have := lt_of_lt_of_eq t.isLt (show cfg0.N = 32 from N_0); omega⟩
/-- Row `r` of the eight before tile `t`. -/
abbrev beforeRow (t : Fin cfg0.N) (r : Fin 8) : Fin 8192 := ⟨max (32 * t.val - 1) 0 * 8 + r, by have := lt_of_lt_of_eq t.isLt (show cfg0.N = 32 from N_0); omega⟩
/-- Row `r` of the eight behind tile `t`. -/
abbrev behindRow (t : Fin cfg0.N) (r : Fin 8) : Fin 8192 := ⟨min (32 * (t.val + 1)) 1023 * 8 + r, by omega⟩

variable (m : (ℓ : Loc nD τ sig) → Buf (Elt Ideal) ℓ)

/-! The arrays the region reads. -/

abbrev Ct (c : Dev nD) : Vec Ideal S8192x1024 .f32 := V m c main_arg5
abbrev Up (c : Dev nD) : Vec Ideal S8192x5632 .f32 := V m c main_arg0
abbrev Fwd (c : Dev nD) : Vec Ideal S8192x1024 .f32 := V m c main_v29
abbrev Tap (c : Dev nD) : Vec Ideal S8x5632 .f32 := V m c main_v31
abbrev Shift (c : Dev nD) : Vec Ideal S1x5632 .f32 := V m c main_v32
abbrev Down (c : Dev nD) : Vec Ideal S2816x1024 .bf16 := V m c main_v33
abbrev Gain (c : Dev nD) : Vec Ideal S1x1024 .f32 := V m c main_v34

theorem blk0 (c : Dev nD) (t : Fin cfg0.N) (r : Fin 256) (d : Fin 1024) : B0 m c t (ix2 r d) = Ct m c (ix2 (at256 t r) d) := by
  have e : (win0_0.blk t).view.emb (ix2 r d) = ix2 (at256 t r) d := by
    blk_point [idx t]
  unfold B0 iblk Ct
  generalize V m c = W
  exact congrArg (W main_arg5) e

theorem blk1 (c : Dev nD) (t : Fin cfg0.N) (r : Fin 8) (d : Fin 1024) : B1 m c t (ix2 r d) = Ct m c (ix2 (beforeRow t r) d) := by
  have e : (win0_1.blk t).view.emb (ix2 r d) = ix2 (beforeRow t r) d := by
    blk_point [idx t]
  unfold B1 iblk Ct
  generalize V m c = W
  exact congrArg (W main_arg5) e

theorem blk2 (c : Dev nD) (t : Fin cfg0.N) (r : Fin 8) (d : Fin 1024) : B2 m c t (ix2 r d) = Ct m c (ix2 (behindRow t r) d) := by
  have e : (win0_2.blk t).view.emb (ix2 r d) = ix2 (behindRow t r) d := by
    blk_point [idx t]
  unfold B2 iblk Ct
  generalize V m c = W
  exact congrArg (W main_arg5) e

theorem blk3 (c : Dev nD) (t : Fin cfg0.N) (r : Fin 256) (d : Fin 1024) : B3 m c t (ix2 r d) = Fwd m c (ix2 (at256 t r) d) := by
  have e : (win0_3.blk t).view.emb (ix2 r d) = ix2 (at256 t r) d := by
    blk_point [idx t]
  unfold B3 iblk Fwd
  generalize V m c = W
  exact congrArg (W main_v29) e

theorem blk4 (c : Dev nD) (t : Fin cfg0.N) (r : Fin 256) (d : Fin 5632) : B4 m c t (ix2 r d) = Up m c (ix2 (at256 t r) d) := by
  have e : (win0_4.blk t).view.emb (ix2 r d) = ix2 (at256 t r) d := by
    blk_point [idx t]
  unfold B4 iblk Up
  generalize V m c = W
  exact congrArg (W main_arg0) e

theorem blk5 (c : Dev nD) (t : Fin cfg0.N) (r : Fin 8) (d : Fin 5632) : B5 m c t (ix2 r d) = Up m c (ix2 (beforeRow t r) d) := by
  have e : (win0_5.blk t).view.emb (ix2 r d) = ix2 (beforeRow t r) d := by
    blk_point [idx t]
  unfold B5 iblk Up
  generalize V m c = W
  exact congrArg (W main_arg0) e

theorem blk6 (c : Dev nD) (t : Fin cfg0.N) (r : Fin 8) (d : Fin 5632) : B6 m c t (ix2 r d) = Up m c (ix2 (behindRow t r) d) := by
  have e : (win0_6.blk t).view.emb (ix2 r d) = ix2 (behindRow t r) d := by
    blk_point [idx t]
  unfold B6 iblk Up
  generalize V m c = W
  exact congrArg (W main_arg0) e

theorem blk7 (c : Dev nD) (t : Fin cfg0.N) (r : Fin 8) (d : Fin 5632) : B7 m c t (ix2 r d) = Tap m c (ix2 r d) := by
  have e : (win0_7.blk t).view.emb (ix2 r d) = ix2 r d := by
    blk_point [idx t]
  unfold B7 iblk Tap
  generalize V m c = W
  exact congrArg (W main_v31) e

theorem blk8 (c : Dev nD) (t : Fin cfg0.N) (r : Fin 1) (d : Fin 5632) : B8 m c t (ix2 r d) = Shift m c (ix2 r d) := by
  have e : (win0_8.blk t).view.emb (ix2 r d) = ix2 r d := by
    blk_point [idx t]
  unfold B8 iblk Shift
  generalize V m c = W
  exact congrArg (W main_v32) e

theorem blk9 (c : Dev nD) (t : Fin cfg0.N) (r : Fin 2816) (d : Fin 1024) : B9 m c t (ix2 r d) = Down m c (ix2 r d) := by
  have e : (win0_9.blk t).view.emb (ix2 r d) = ix2 r d := by
    blk_point [idx t]
  unfold B9 iblk Down
  generalize V m c = W
  exact congrArg (W main_v33) e

theorem blk10 (c : Dev nD) (t : Fin cfg0.N) (r : Fin 1) (d : Fin 1024) : B10 m c t (ix2 r d) = Gain m c (ix2 r d) := by
  have e : (win0_10.blk t).view.emb (ix2 r d) = ix2 r d := by
    blk_point [idx t]
  unfold B10 iblk Gain
  generalize V m c = W
  exact congrArg (W main_v34) e

theorem zero_gain (y) : k0_pay6 (F := Ideal) y = 0 := by
  pointwise [k0_pay6]

/-- What the region finds in the arrays it reads, where they hold real numbers. -/
structure Found (c : Dev nD) (up : Fin 8192 → Fin 5632 → ℝ) (w : Fin 3 → Fin 5632 → ℝ) (b : Fin 5632 → ℝ)
    (D : Fin 2816 → Fin 1024 → ℝ) (g : Fin 1024 → ℝ) (ct : Fin 8192 → Fin 1024 → ℝ) : Prop where
  up : ∀ n d, Up m c (ix2 n d) = ((up n d : ℝ) : EReal)
  tap : ∀ (k : Fin 3) d, Tap m c (ix2 ⟨k, by omega⟩ d) = ((w k d : ℝ) : EReal)
  shift : ∀ d, Shift m c (ix2 0 d) = ((b d : ℝ) : EReal)
  down : ∀ j d, Down m c (ix2 j d) = ((D j d : ℝ) : EReal)
  gain : ∀ d, Gain m c (ix2 0 d) = ((g d : ℝ) : EReal)
  ct : ∀ n d, Ct m c (ix2 n d) = ((ct n d : ℝ) : EReal)

section Real

variable {m} {c : Dev nD} {up : Fin 8192 → Fin 5632 → ℝ} {w : Fin 3 → Fin 5632 → ℝ} {b : Fin 5632 → ℝ}
  {D : Fin 2816 → Fin 1024 → ℝ} {g : Fin 1024 → ℝ} {ct : Fin 8192 → Fin 1024 → ℝ} (f : Found m c up w b D g ct)

include f

/-- The blocks of every grid point. -/
theorem reads (t : Fin cfg0.N) : Reads m c t up w b D g ct :=
  ⟨fun r d => (blk0 m c t r d).trans (f.ct _ _), fun r d => (blk1 m c t r d).trans (f.ct _ _), fun r d => (blk2 m c t r d).trans (f.ct _ _),
    fun r d => (blk4 m c t r d).trans (f.up _ _), fun r d => (blk5 m c t r d).trans (f.up _ _), fun r d => (blk6 m c t r d).trans (f.up _ _),
    fun k d => (blk7 m c t _ d).trans (f.tap _ _), fun d => (blk8 m c t 0 d).trans (f.shift _), fun r d => (blk9 m c t r d).trans (f.down _ _),
    fun d => (blk10 m c t 0 d).trans (f.gain _)⟩

/-- The gradient of the convolution's argument after the region. -/
theorem up_final : (dats m 0 c).arrAt 11 cfg0.N
    = fun y : S8192x5632.Idx => ((Cert.Ffn.back (Cert.Ffn.du up w b D g ct) w (8 + (y 0).val) (y 1) : ℝ) : EReal) := by
  refine (dats m 0 c).arrAt_eq_of_covers 11 _ (by decide +kernel) fun t _ y => ?_
  have e : ((cfg0.win 11).blk t).view.emb y = ix2 (at256 t (y 0)) (y 1) := by
    blk_point [idx t]
  rw [after0_11, e, up_point m c t (reads f t)]
  have h : 256 * t.val + 8 + (y 0).val = 8 + (256 * t.val + (y 0).val) := by omega
  exact congrArg (fun n => ((Cert.Ffn.back (Cert.Ffn.du up w b D g ct) w n (y 1) : ℝ) : EReal)) h

/-- The gradient of the projected product after the region. -/
theorem out_final : (dats m 0 c).arrAt 12 cfg0.N = fun y : S8192x1024.Idx => Ct m c (ix2 (y 0) (y 1)) * Gain m c (ix2 0 (y 1)) := by
  refine (dats m 0 c).arrAt_eq_of_covers 12 _ (by decide +kernel) fun t _ y => ?_
  have e : ((cfg0.win 12).blk t).view.emb y = ix2 (at256 t (y 0)) (y 1) := by
    blk_point [idx t]
  rw [after0_12, e, dout_point m c t]
  refine (congrArg _ (eq_ix2 y)).trans ((Steps.inner_apply _ _ _ _ _ (y 0) (y 1)).trans ?_)
  exact congrArg₂ (· * ·) (blk0 m c t (y 0) (y 1)) (blk10 m c t 0 (y 1))

omit f in
/-- The gain's gradient at the last tile: the tiles' shares add up. -/
theorem gain_block (t : Fin cfg0.N) (ht : t.val % 32 = 31) (y : S8x1024.Idx) : (outsAt0 m c t.val t.isLt).2.2.1 y
    = if ((y 0 : Fin 8) : ℕ) = 0 then ∑ n : Fin 8192, Ct m c (ix2 n (y 1)) * Fwd m c (ix2 n (y 1)) else 0 := by
  have h := Pipeline.eq_sum_fin_of_reset_step_apply_of_flush (fun n h => (outsAt0 m c n h).2.2.1) 32 (fun _ => (0 : EReal))
    (fun s (y : S8x1024.Idx) => k0_pay5 (B0 m c s) (B3 m c s) (ix2 (y 0) (y 1)))
    (fun t h j => by
      refine (congrFun (scale_point_A m c t h) j).trans ((congrArg _ (eq_ix2 j)).trans ((Steps.sum_apply _ _ (j 0) (j 1)).trans ?_))
      exact congrArg (· + _) (zero_gain _))
    (fun t h j => by
      refine (congrFun (scale_point_B m c t h) j).trans ((congrArg _ (eq_ix2 j)).trans ((Steps.sum_apply _ _ (j 0) (j 1)).trans ?_))
      exact congrArg (fun z => (outsAt0 m c (t.val - 1) _).2.2.1 z + _) (eq_ix2 j).symm)
    t ht y
  rw [zero_add] at h
  refine h.trans ?_
  have ht32 : t.val / 32 = 0 := by have := lt32 t; omega
  split
  · rename_i hk
    refine Eq.trans ?_ (Fin.sum_univ_tiles 32 256 (by norm_num) _).symm
    refine Finset.sum_congr rfl fun s _ => ?_
    refine (Steps.scale_apply _ _ (y 0) (y 1)).trans ?_
    rw [if_pos hk]
    refine Finset.sum_congr rfl fun r _ => ?_
    refine (congrArg₂ (· * ·) (blk0 m c _ r (y 1)) (blk3 m c _ r (y 1))).trans ?_
    have e : at256 ⟨32 * (t.val / 32) + s.val, by have := lt32 t; have := N_0; omega⟩ r = ⟨s.val * 256 + r.val, by omega⟩ :=
      Fin.ext (show 256 * (32 * (t.val / 32) + s.val) + r.val = s.val * 256 + r.val by omega)
    rw [e]
  · rename_i hk
    refine Finset.sum_eq_zero fun s _ => ?_
    refine (Steps.scale_apply _ _ (y 0) (y 1)).trans ?_
    rw [if_neg hk]

omit f in
/-- The gain's gradient after the region. -/
theorem gain_final : (dats m 0 c).arrAt 13 cfg0.N = fun y : S8x1024.Idx =>
    if ((y 0 : Fin 8) : ℕ) = 0 then ∑ n : Fin 8192, Ct m c (ix2 n (y 1)) * Fwd m c (ix2 n (y 1)) else (0 : EReal) := by
  refine (dats m 0 c).arrAt_eq_of_covers 13 _ (by decide +kernel) fun t hf y => ?_
  have e : ((cfg0.win 13).blk t).view.emb y = ix2 (y 0) (y 1) := by
    blk_point [idx t]
  rw [after0_13, e]
  exact gain_block t ((flush0_13 t).mp hf) y

/-- The taps' gradients at the last tile. -/
theorem taps_block (t : Fin cfg0.N) (ht : t.val % 32 = 31) (y : S8x5632.Idx) : (outsAt0 m c t.val t.isLt).2.2.2 y
    = ((∑ n : Fin 8192, Cert.Ffn.tapd (Cert.Ffn.du up w b D g ct) (Cert.Ffn.row up) (y 0) (8 + n.val) (y 1) : ℝ) : EReal) := by
  have h := Pipeline.eq_sum_fin_of_reset_step_apply_of_flush (fun n h => (outsAt0 m c n h).2.2.2) 32 (fun _ => (0 : EReal))
    (fun s (y : S8x5632.Idx) =>
      ((∑ r : Fin 256, Cert.Ffn.tapd (Cert.Ffn.du up w b D g ct) (Cert.Ffn.row up) (y 0) (256 * s.val + 8 + r) (y 1) : ℝ) : EReal))
    (fun t h j => (congrArg _ (eq_ix2 j)).trans (taps_point_A m c t h (reads f t) (j 0) (j 1)))
    (fun t h j => by
      refine (congrArg _ (eq_ix2 j)).trans ((taps_point_B m c t h (reads f t) (j 0) (j 1)).trans ?_)
      exact congrArg (fun z => (outsAt0 m c (t.val - 1) _).2.2.2 z + _) (eq_ix2 j).symm)
    t ht y
  rw [zero_add] at h
  refine h.trans ((Cert.Reals.sum_coe _ _).trans (congrArg _ ?_))
  refine Eq.trans ?_ (Fin.sum_univ_tiles 32 256 (by norm_num) _).symm
  refine Finset.sum_congr rfl fun s _ => Finset.sum_congr rfl fun r _ => ?_
  have e : 256 * (32 * (t.val / 32) + s.val) + 8 + r.val = 8 + (s.val * 256 + r.val) := by have := lt32 t; omega
  exact congrArg (fun n => Cert.Ffn.tapd (Cert.Ffn.du up w b D g ct) (Cert.Ffn.row up) (y 0) n (y 1)) e

/-- The taps' gradients after the region. -/
theorem taps_final : (dats m 0 c).arrAt 14 cfg0.N = fun y : S8x5632.Idx =>
    ((∑ n : Fin 8192, Cert.Ffn.tapd (Cert.Ffn.du up w b D g ct) (Cert.Ffn.row up) (y 0) (8 + n.val) (y 1) : ℝ) : EReal) := by
  refine (dats m 0 c).arrAt_eq_of_covers 14 _ (by decide +kernel) fun t hf y => ?_
  have e : ((cfg0.win 14).blk t).view.emb y = ix2 (y 0) (y 1) := by
    blk_point [idx t]
  rw [after0_14, e]
  exact taps_block f t ((flush0_14 t).mp hf) y

end Real

end Cert.FfnIdeal.Value

end
-- ==== Proof.Ffn.Reference.lean ====
/-
  The reference's gradient of the gate in real numbers: the derivatives of the lines of the forward pass, read row by row.
-/
module

public import proofs.«01_k».proof.Proof.Ffn.Spec
public import proofs.«01_k».proof.Proof.Gen.FfnReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnReferenceIdeal.Real

open Cert.FfnReferenceIdeal Cert.FfnReferenceIdeal.Read Cert.Ffn Cert.Reals

/-- Arrays of real numbers as arrays of extended reals. -/
abbrev lift1 {a : ℕ} (f : Fin a → ℝ) : (⟨1, ![a]⟩ : Shape).Idx → EReal := fun i => ((f (i 0) : ℝ) : EReal)
abbrev lift2 {a b : ℕ} (f : Fin a → Fin b → ℝ) : (⟨2, ![a, b]⟩ : Shape).Idx → EReal := fun i => ((f (i 0) (i 1) : ℝ) : EReal)

theorem zero_word : Ideal.ofBits .f32 0x00000000#32 = ((0 : ℝ) : EReal) := by
  simp [Ideal.ofBits, Ideal.ieee]

theorem one_word : Ideal.ofBits .f32 0x3F800000#32 = ((1 : ℝ) : EReal) := by
  simp [Ideal.ofBits, Ideal.ieee, -EReal.coe_mul]; norm_num

/-- A row there is. -/
theorem row_in {n : ℕ} (x : Fin 8192 → Fin n → ℝ) (r : ℕ) (k : Fin 8192) (c : Fin n) (h : r = 8 + k) : row x r c = x k c := by
  subst h
  unfold row
  rw [dif_pos (by omega)]
  congr 1
  exact Fin.ext (by show 8 + (k : ℕ) - 8 = k; omega)

/-- A row there is not. -/
theorem row_out {n : ℕ} (x : Fin 8192 → Fin n → ℝ) (r : ℕ) (c : Fin n) (h : ¬ (8 ≤ r ∧ r < 8200)) : row x r c = 0 := by
  unfold row
  rw [dif_neg h]

variable (up : Fin 8192 → Fin 5632 → ℝ) (w : Fin 3 → Fin 5632 → ℝ) (b : Fin 5632 → ℝ) (D : Fin 2816 → Fin 1024 → ℝ)
  (g : Fin 1024 → ℝ) (ct : Fin 8192 → Fin 1024 → ℝ)

/-- Where a row's output is not there, neither is its cotangent. -/
theorem du_out (r : ℕ) (c : Fin 5632) (h : ¬ (8 ≤ r ∧ r < 8200)) : du up w b D g ct r c = 0 := by
  have z : ∀ j, da ct g D r j = 0 := fun j => by
    unfold da
    exact Finset.sum_eq_zero fun d _ => by rw [row_out ct r d h, zero_mul, zero_mul]
  unfold du
  split <;> rw [z] <;> ring

theorem padded (r : Fin 8194) (c : Fin 5632) : val_main_v2 (F := Ideal) (lift2 up) (ix2 r c) = ((row up (7 + r) c : ℝ) : EReal) := by
  pointwise [val_main_v2, val_main_v1, val_main_cst_0]
  by_cases h1 : (r : ℕ) < 1
  · rw [dif_pos h1, row_out up _ c (by omega)]
    rfl
  · rw [dif_neg h1]
    by_cases h2 : (r : ℕ) - 1 < 8192
    · rw [dif_pos h2, row_in up (7 + r) ⟨r - 1, h2⟩ c (by show 7 + (r : ℕ) = 8 + (r - 1); omega)]
      rfl
    · rw [dif_neg h2, row_out up _ c (by omega)]
      rfl

theorem earlier (n : Fin 8192) (c : Fin 5632) : val_main_v5 (F := Ideal) (lift2 up) (ix2 n c) = ((row up (7 + n) c : ℝ) : EReal) := by
  pointwise [val_main_v5]
  exact (padded up _ c).trans (by simp)

theorem same (n : Fin 8192) (c : Fin 5632) : val_main_v11 (F := Ideal) (lift2 up) (ix2 n c) = ((row up (8 + n) c : ℝ) : EReal) := by
  pointwise [val_main_v11]
  refine (padded up _ c).trans (congrArg (fun r => ((row up r c : ℝ) : EReal)) ?_)
  show 7 + (1 + (n : ℕ)) = 8 + n
  omega

theorem later (n : Fin 8192) (c : Fin 5632) : val_main_v18 (F := Ideal) (lift2 up) (ix2 n c) = ((row up (9 + n) c : ℝ) : EReal) := by
  pointwise [val_main_v18]
  refine (padded up _ c).trans (congrArg (fun r => ((row up r c : ℝ) : EReal)) ?_)
  show 7 + (2 + (n : ℕ)) = 9 + n
  omega

theorem tap0 (c : Fin 5632) : val_main_v8 (F := Ideal) (lift2 w) (ix2 0 c) = ((w 0 c : ℝ) : EReal) := by
  pointwise [val_main_v8, val_main_v7, val_main_v6]
  rfl

theorem tap1 (c : Fin 5632) : val_main_v14 (F := Ideal) (lift2 w) (ix2 0 c) = ((w 1 c : ℝ) : EReal) := by
  pointwise [val_main_v14, val_main_v13, val_main_v12]
  rfl

theorem tap2 (c : Fin 5632) : val_main_v21 (F := Ideal) (lift2 w) (ix2 0 c) = ((w 2 c : ℝ) : EReal) := by
  pointwise [val_main_v21, val_main_v20, val_main_v19]
  rfl

theorem convolution (n : Fin 8192) (c : Fin 5632) :
    val_main_v27 (F := Ideal) (lift2 up) (lift2 w) (lift1 b) (ix2 n c) = ((conv (row up) w b (8 + n) c : ℝ) : EReal) := by
  pointwise [val_main_v27, val_main_v24, val_main_v17, val_main_v10, val_main_v16, val_main_v23, val_main_v9, val_main_v15, val_main_v22,
    val_main_v26, val_main_v25]
  rw [earlier, same, later, tap0, tap1, tap2]
  simp only [← EReal.coe_mul, ← EReal.coe_add]
  unfold conv
  rw [show 8 + (n : ℕ) - 1 = 7 + n by omega, show 8 + (n : ℕ) + 1 = 9 + n by omega]
  rfl

theorem logistic (n : Fin 8192) (j : Fin 2816) : val_main_v30_2 (F := Ideal) (lift2 up) (lift2 w) (lift1 b) (ix2 n j)
    = ((sg (conv (row up) w b (8 + n) (right j)) : ℝ) : EReal) := by
  pointwise [val_main_v30_2, val_main_call0_v4, val_main_call0_cst_0, val_main_call0_v3, val_main_call0_v2, val_main_call0_cst,
    val_main_call0_v1, val_main_call0_v0, val_main_v29]
  refine (congrArg (fun z => Ideal.div 1 (1 + Ideal.exp (-z))) (convolution up w b n (right j))).trans ?_
  exact Ideal.logistic_coe _

theorem cotangent (n : Fin 8192) (j : Fin 2816) : val_main_v43 (F := Ideal) (lift2 D) (lift1 g) (lift2 ct) (ix2 n j)
    = ((da ct g D (8 + n) j : ℝ) : EReal) := by
  pointwise [val_main_v43, val_main_v38, val_main_v37, val_main_v34]
  simp only [← EReal.coe_mul, sum_coe]
  unfold da
  refine congrArg _ (Finset.sum_congr rfl fun d _ => ?_)
  rw [row_in ct (8 + n) n d rfl, mul_comm (ct n d)]
  rfl

theorem left_half (n : Fin 8192) (j : Fin 2816) : val_main_v44 (F := Ideal) (lift2 up) (lift2 w) (lift1 b) (lift2 D) (lift1 g) (lift2 ct) (ix2 n j)
    = ((du up w b D g ct (8 + n) (left j) : ℝ) : EReal) := by
  rw [du_left]
  pointwise [val_main_v44, val_main_v30_0, val_main_v29]
  rw [logistic, cotangent, show (⟨2816 + (j : ℕ), _⟩ : Fin 5632) = right j from rfl, convolution, ← EReal.coe_mul, ← EReal.coe_mul]
  congr 1
  ring

theorem right_half (n : Fin 8192) (j : Fin 2816) : val_main_v46 (F := Ideal) (lift2 up) (lift2 w) (lift1 b) (lift2 D) (lift1 g) (lift2 ct) (ix2 n j)
    = ((du up w b D g ct (8 + n) (right j) : ℝ) : EReal) := by
  rw [du_right]
  pointwise [val_main_v46, val_main_call1_v1, val_main_call1_v2, val_main_call1_v0, val_main_v45, val_main_v28, val_main_v29, val_main_v30_1,
    val_main_call0_v7, val_main_call0_v6, val_main_call0_cst_1]
  rw [logistic, cotangent, show (⟨2816 + (j : ℕ), _⟩ : Fin 5632) = right j from rfl, show (⟨(j : ℕ), _⟩ : Fin 5632) = left j from rfl,
    convolution, convolution]
  simp only [← EReal.coe_one, ← EReal.coe_mul, ← EReal.coe_sub, ← EReal.coe_add]
  unfold Cert.Ffn.slope
  congr 1
  ring

/-- The cotangent of the convolution's result, both halves. -/
theorem whole (n : Fin 8192) (c : Fin 5632) :
    val_main_v47 (F := Ideal) (lift2 up) (lift2 w) (lift1 b) (lift2 D) (lift1 g) (lift2 ct) (ix2 n c) = ((du up w b D g ct (8 + n) c : ℝ) : EReal) := by
  pointwise [val_main_v47]
  by_cases h : (c : ℕ) < 2816
  · rw [dif_pos h, left_half]
    rfl
  · rw [dif_neg h, right_half]
    refine congrArg (fun d => ((du up w b D g ct (8 + n) d : ℝ) : EReal)) (Fin.ext ?_)
    show 2816 + ((c : ℕ) - 2816) = c
    omega

/-! The sums over the rows. -/

theorem sum3 (c : Fin 5632) : val_main_v50 (F := Ideal) (lift2 up) (lift2 w) (lift1 b) (lift2 D) (lift1 g) (lift2 ct) (ix1 c)
    = ((∑ n : Fin 8192, du up w b D g ct (8 + n) c : ℝ) : EReal) := by
  pointwise [val_main_v50, val_main_cst_6, val_main_v49, val_main_v48, val_main_cst_5]
  simp only [whole, sum_coe, Finset.univ_unique, Finset.sum_singleton]

theorem sum2 (c : Fin 5632) : val_main_v56 (F := Ideal) (lift2 up) (lift2 w) (lift1 b) (lift2 D) (lift1 g) (lift2 ct) (ix1 c)
    = ((∑ n : Fin 8192, row up (9 + n) c * du up w b D g ct (8 + n) c : ℝ) : EReal) := by
  pointwise [val_main_v56, val_main_cst_8, val_main_v53, val_main_v52, val_main_cst_7, val_main_v51]
  simp only [whole, later, ← EReal.coe_mul, sum_coe, Finset.univ_unique, Finset.sum_singleton]

theorem sum1 (c : Fin 5632) : val_main_v65 (F := Ideal) (lift2 up) (lift2 w) (lift1 b) (lift2 D) (lift1 g) (lift2 ct) (ix1 c)
    = ((∑ n : Fin 8192, row up (8 + n) c * du up w b D g ct (8 + n) c : ℝ) : EReal) := by
  pointwise [val_main_v65, val_main_cst_12, val_main_v62, val_main_v61, val_main_cst_11, val_main_v60]
  simp only [whole, same, ← EReal.coe_mul, sum_coe, Finset.univ_unique, Finset.sum_singleton]

theorem sum0 (c : Fin 5632) : val_main_v76 (F := Ideal) (lift2 up) (lift2 w) (lift1 b) (lift2 D) (lift1 g) (lift2 ct) (ix1 c)
    = ((∑ n : Fin 8192, row up (7 + n) c * du up w b D g ct (8 + n) c : ℝ) : EReal) := by
  pointwise [val_main_v76, val_main_cst_16, val_main_v73, val_main_v72, val_main_cst_15, val_main_v71]
  simp only [whole, earlier, ← EReal.coe_mul, sum_coe, Finset.univ_unique, Finset.sum_singleton]

/-- A sum over the rows may begin a row later when its two ends vanish. -/
theorem sum_shift (F : ℕ → ℝ) (h0 : F 0 = 0) (h1 : F 8192 = 0) : ∑ n : Fin 8192, F n = ∑ n : Fin 8192, F (n + 1) := by
  rw [← Finset.sum_range (fun n => F n), ← Finset.sum_range (fun n => F (n + 1))]
  have a := Finset.sum_range_succ F 8192
  have b := Finset.sum_range_succ' F 8192
  rw [h1, add_zero] at a
  rw [h0, add_zero] at b
  exact a.symm.trans b

theorem shift0 (c : Fin 5632) : ∑ n : Fin 8192, row up (7 + n) c * du up w b D g ct (8 + n) c
    = ∑ n : Fin 8192, du up w b D g ct (8 + n + 1) c * row up (8 + n) c := by
  refine (sum_shift (fun n => row up (7 + n) c * du up w b D g ct (8 + n) c) ?_ ?_).trans (Finset.sum_congr rfl fun n _ => ?_)
  · show row up 7 c * _ = 0
    rw [row_out up 7 c (by omega), zero_mul]
  · show _ * du up w b D g ct 8200 c = 0
    rw [du_out up w b D g ct 8200 c (by omega), mul_zero]
  · show row up (7 + ((n : ℕ) + 1)) c * du up w b D g ct (8 + ((n : ℕ) + 1)) c = _
    rw [show 7 + ((n : ℕ) + 1) = 8 + n by omega, mul_comm, ← add_assoc]

theorem shift2 (c : Fin 5632) : ∑ n : Fin 8192, row up (9 + n) c * du up w b D g ct (8 + n) c
    = ∑ n : Fin 8192, du up w b D g ct (8 + n - 1) c * row up (8 + n) c := by
  refine Eq.symm ((Finset.sum_congr rfl fun n _ => ?_).trans ((sum_shift (fun n => du up w b D g ct (7 + n) c * row up (8 + n) c) ?_ ?_).trans
    (Finset.sum_congr rfl fun n _ => ?_)))
  · show du up w b D g ct (8 + (n : ℕ) - 1) c * _ = du up w b D g ct (7 + (n : ℕ)) c * _
    rw [show 8 + (n : ℕ) - 1 = 7 + n by omega]
  · show du up w b D g ct 7 c * _ = 0
    rw [du_out up w b D g ct 7 c (by omega), zero_mul]
  · show _ * row up 8200 c = 0
    rw [row_out up 8200 c (by omega), mul_zero]
  · show du up w b D g ct (7 + ((n : ℕ) + 1)) c * row up (8 + ((n : ℕ) + 1)) c = _
    rw [show 7 + ((n : ℕ) + 1) = 8 + n by omega, show 8 + ((n : ℕ) + 1) = 9 + n by omega, mul_comm]

/-! The four results. -/

/-- The gradient of the convolution's argument. -/
theorem up_result (n : Fin 8192) (c : Fin 5632) :
    val_main_v87 (F := Ideal) (lift2 up) (lift2 w) (lift1 b) (lift2 D) (lift1 g) (lift2 ct) (ix2 n c)
      = ((back (du up w b D g ct) w (8 + n) c : ℝ) : EReal) := by
  pointwise [val_main_v87, val_main_v83, val_main_v81, val_main_v80, val_main_v70, val_main_v69, val_main_v59, val_main_v55, val_main_v54,
    val_main_v64, val_main_v63, val_main_v75, val_main_v74, val_main_cst_10, val_main_cst_14, val_main_cst_18]
  simp only [whole, tap0, tap1, tap2, ← EReal.coe_mul]
  unfold back
  have e1 : (if h : 2 ≤ 1 + (n : ℕ) ∧ 1 + (n : ℕ) - 2 < 8192 then ((du up w b D g ct (8 + (1 + (n : ℕ) - 2)) c * w 2 c : ℝ) : EReal) else 0)
      = ((du up w b D g ct (8 + n - 1) c * w 2 c : ℝ) : EReal) := by
    split
    · rw [show 8 + (1 + (n : ℕ) - 2) = 8 + n - 1 by omega]
    · rw [du_out up w b D g ct (8 + n - 1) c (by omega), zero_mul]
      rfl
  have e0 : (if h : 1 + (n : ℕ) < 8192 then ((du up w b D g ct (8 + (1 + (n : ℕ))) c * w 0 c : ℝ) : EReal) else 0)
      = ((du up w b D g ct (8 + n + 1) c * w 0 c : ℝ) : EReal) := by
    split
    · rw [show 8 + (1 + (n : ℕ)) = 8 + n + 1 by omega]
    · rw [du_out up w b D g ct (8 + n + 1) c (by omega), zero_mul]
      rfl
  rw [e1, e0, ← EReal.coe_add, ← EReal.coe_add]
  congr 1
  ring

/-- The gradients of the taps and of the shift, in eight rows. -/
theorem taps_result (k : Fin 8) (c : Fin 5632) :
    val_main_v93 (F := Ideal) (lift2 up) (lift2 w) (lift1 b) (lift2 D) (lift1 g) (lift2 ct) (ix2 k c)
      = ((∑ n : Fin 8192, tapd (du up w b D g ct) (row up) k (8 + n) c : ℝ) : EReal) := by
  pointwise [val_main_v93, val_main_v92, val_main_cst_20, val_main_v86, val_main_v85, val_main_v79, val_main_v78, val_main_v68, val_main_v67,
    val_main_v58, val_main_v77, val_main_v66, val_main_v57, val_main_cst_9, val_main_cst_13, val_main_cst_17]
  unfold tapd
  fin_cases k
  · simp [sum0, shift0]
  · simp [sum1, mul_comm]
  · simp [sum2, shift2]
  · simp [sum3]
  · simp
  · simp
  · simp
  · simp

/-- The gradient of the projected product. -/
theorem out_result (x4 : FVec Ideal S1024 .f32) (x5 : FVec Ideal S8192x1024 .f32) (n : Fin 8192) (d : Fin 1024) :
    val_main_v88 (F := Ideal) x4 x5 (ix2 n d) = x5 (ix2 n d) * x4 (ix1 d) := by
  pointwise [val_main_v88, val_main_v38, val_main_v37, val_main_v34]
  exact mul_comm _ _

/-- The gain's gradient, in eight rows. -/
theorem gain_result (x0 : FVec Ideal S8192x5632 .f32) (x1 : FVec Ideal S3x5632 .f32) (x2 : FVec Ideal S5632 .f32)
    (x3 : FVec Ideal S2816x1024 .f32) (x5 : FVec Ideal S8192x1024 .f32) (k : Fin 8) (d : Fin 1024) :
    val_main_v91 (F := Ideal) x0 x1 x2 x3 x5 (ix2 k d)
      = if (k : ℕ) = 0 then ∑ n : Fin 8192, x5 (ix2 n d) * val_main_v32 (F := Ideal) x0 x1 x2 x3 (ix2 n d) else 0 := by
  pointwise [val_main_v91, val_main_v90, val_main_cst_19, val_main_v89, val_main_v42, val_main_cst_4, val_main_v41, val_main_v40, val_main_cst_3,
    val_main_v39, val_main_v33, val_main_v0, val_main_cst]
  simp only [Nat.lt_one_iff, Finset.univ_unique, Finset.sum_singleton]
  split <;> rfl

end Cert.FfnReferenceIdeal.Real

end
-- ==== Proof.Ffn.Agree.lean ====
/-
  The two programs of the gate's gradient leave the same four arrays when their arguments are finite.
-/
module

public import proofs.«01_k».proof.Proof.Ffn.Final
public import proofs.«01_k».proof.Proof.Ffn.Reference
public import proofs.«01_k».proof.Proof.Gen.FfnReferenceIdeal.Run

@[expose] public section

set_option maxRecDepth 16384

noncomputable section

open Idealize.ShloMosaic Idealize.ShloMosaic.TcCoe Idealize.SL.Sem

namespace Cert.FfnIdeal.Value

open Cert.FfnIdeal Cert.FfnIdeal.Gen Cert.Reals
open Cert.FfnReferenceIdeal.Real (lift1 lift2)

/-- An array all of whose magnitudes lie below infinity holds a real number everywhere. -/
theorem real_entries {s : Shape} (x : FVec Ideal s .f32) (bc : Fin 0 → Fin s.rank) (hb : (⟨0, ![]⟩ : Shape).BroadcastsInDim s bc)
    (h : cmpf .olt (Host.absf x) (broadcastInDim s bc hb (constant ⟨0, ![]⟩ .f32 0x7F800000#32)) = fun _ => 1#1) (i : s.Idx) :
    ∃ r : ℝ, x i = (r : EReal) := by
  have e' : Scalar.cmpf .olt (max (x i) (-(x i))) (Ideal.ofBits .f32 0x7F800000#32) = 1#1 := congrFun h i
  rw [show Ideal.ofBits .f32 0x7F800000#32 = (⊤ : EReal) by simp [Ideal.ofBits, Ideal.ieee]] at e'
  by_contra hx
  have hn : ¬ max (x i) (-(x i)) < ⊤ := fun hlt => hx (real_of_abs_lt hlt)
  have e0 : Ideal.cmp .olt (max (x i) (-(x i))) (⊤ : EReal) = 0#1 := by
    unfold Ideal.cmp
    simp only [hn]
    rfl
  exact absurd (e0.symm.trans e') (by decide)

/-- A finite row, and a finite array of rows, are of real numbers. -/
theorem real_row {a : ℕ} (x : FVec Ideal ⟨1, ![a]⟩ .f32) (hb : (⟨0, ![]⟩ : Shape).BroadcastsInDim ⟨1, ![a]⟩ (![] : Fin 0 → Fin 1))
    (h : cmpf .olt (Host.absf x) (broadcastInDim ⟨1, ![a]⟩ ![] hb (constant ⟨0, ![]⟩ .f32 0x7F800000#32)) = fun _ => 1#1) :
    ∃ f : Fin a → ℝ, x = lift1 f := by
  choose f hf using fun k => real_entries x _ hb h (ix1 k)
  refine ⟨f, funext fun i => (congrArg x ?_).trans (hf (i 0))⟩
  funext k
  match k with
  | ⟨0, _⟩ => rfl

theorem real_rows {a b : ℕ} (x : FVec Ideal ⟨2, ![a, b]⟩ .f32) (hb : (⟨0, ![]⟩ : Shape).BroadcastsInDim ⟨2, ![a, b]⟩ (![] : Fin 0 → Fin 2))
    (h : cmpf .olt (Host.absf x) (broadcastInDim ⟨2, ![a, b]⟩ ![] hb (constant ⟨0, ![]⟩ .f32 0x7F800000#32)) = fun _ => 1#1) :
    ∃ f : Fin a → Fin b → ℝ, x = lift2 f := by
  choose f hf using fun k l => real_entries x _ hb h (ix2 k l)
  exact ⟨f, funext fun i => (congrArg x (eq_ix2 i)).trans (hf (i 0) (i 1))⟩

/-! What the host lines hand to the region. -/

/-- The taps in eight rows. -/
def tapRows (x1 : FVec Ideal S3x5632 .f32) : FVec Ideal S8x5632 .f32 :=
  concatenate S8x5632 0 [⟨S3x5632, x1⟩, ⟨S5x5632, broadcastInDim S5x5632 ![] Gen.bcast_S_S5x5632 (constant (F := Ideal) S_ .f32 0x00000000#32)⟩]
    Gen.concatenates_S3x5632_S5x5632_S8x5632_d0

theorem tapRows_apply (x1 : FVec Ideal S3x5632 .f32) (k : Fin 3) (d : Fin 5632) : tapRows x1 (ix2 ⟨k, by omega⟩ d) = x1 (ix2 k d) := by
  pointwise [tapRows]

def shiftRow (x2 : FVec Ideal S5632 .f32) : FVec Ideal S1x5632 .f32 := broadcastInDim S1x5632 ![1] Gen.bcast_S5632_S1x5632_1 x2

theorem shiftRow_apply (x2 : FVec Ideal S5632 .f32) (d : Fin 5632) : shiftRow x2 (ix2 0 d) = x2 (ix1 d) := by
  pointwise [shiftRow]

def gainRow (x4 : FVec Ideal S1024 .f32) : FVec Ideal S1x1024 .f32 := broadcastInDim S1x1024 ![1] Gen.bcast_S1024_S1x1024_1 x4

theorem gainRow_apply (x4 : FVec Ideal S1024 .f32) (d : Fin 1024) : gainRow x4 (ix2 0 d) = x4 (ix1 d) := by
  pointwise [gainRow]

variable (m : (ℓ : Loc nD τ sig) → Buf (Elt Ideal) ℓ) (c : Dev nD)

theorem ct_entry : Ct m c = m ((c : Thread nD τ).loc main_arg5) := by
  unfold Ct
  entry_read
  rfl

theorem up_entry : Up m c = m ((c : Thread nD τ).loc main_arg0) := by
  unfold Up
  entry_read
  rfl

theorem tap_entry : Tap m c = tapRows (m ((c : Thread nD τ).loc main_arg1)) := by
  unfold Tap
  entry_read
  rfl

theorem shift_entry : Shift m c = shiftRow (m ((c : Thread nD τ).loc main_arg2)) := by
  unfold Shift
  entry_read
  rfl

theorem down_entry : Down m c = truncf (F := Ideal) .bf16 (m ((c : Thread nD τ).loc main_arg3) : FVec Ideal S2816x1024 .f32) Gen.bitsLt_bf16_f32 := by
  unfold Down
  entry_read
  rfl

theorem gain_entry : Gain m c = gainRow (m ((c : Thread nD τ).loc main_arg4)) := by
  unfold Gain
  entry_read
  rfl

/-- The saved product is the reference's. -/
theorem fwd_entry : Fwd m c = Cert.FfnReferenceIdeal.Read.val_main_v32 (F := Ideal) (m ((c : Thread nD τ).loc main_arg0))
    (m ((c : Thread nD τ).loc main_arg1)) (m ((c : Thread nD τ).loc main_arg2)) (m ((c : Thread nD τ).loc main_arg3)) := by
  unfold Fwd
  entry_read
  rfl

variable (up : Fin 8192 → Fin 5632 → ℝ) (w : Fin 3 → Fin 5632 → ℝ) (b : Fin 5632 → ℝ) (D : Fin 2816 → Fin 1024 → ℝ)
  (g : Fin 1024 → ℝ) (ct : Fin 8192 → Fin 1024 → ℝ)
  (h0 : m ((c : Thread nD τ).loc main_arg0) = lift2 up) (h1 : m ((c : Thread nD τ).loc main_arg1) = lift2 w)
  (h2 : m ((c : Thread nD τ).loc main_arg2) = lift1 b) (h3 : m ((c : Thread nD τ).loc main_arg3) = lift2 D)
  (h4 : m ((c : Thread nD τ).loc main_arg4) = lift1 g) (h5 : m ((c : Thread nD τ).loc main_arg5) = lift2 ct)

include h0 h1 h2 h3 h4 h5

theorem found : Found m c up w b D g ct := by
  have e0 := up_entry m c
  have e1 := tap_entry m c
  have e2 := shift_entry m c
  have e3 := down_entry m c
  have e4 := gain_entry m c
  have e5 := ct_entry m c
  rw [h0] at e0
  rw [h1] at e1
  rw [h2] at e2
  rw [h3] at e3
  rw [h4] at e4
  rw [h5] at e5
  exact ⟨fun n d => congrFun e0 _, fun k d => (congrFun e1 _).trans (tapRows_apply _ k d), fun d => (congrFun e2 _).trans (shiftRow_apply _ d),
    fun j d => congrFun e3 _, fun d => (congrFun e4 _).trans (gainRow_apply _ d), fun n d => congrFun e5 _⟩

theorem up_agree : (dats m 0 c).arrAt 11 cfg0.N
    = Cert.FfnReferenceIdeal.Read.val_main_v87 (F := Ideal) (lift2 up) (lift2 w) (lift1 b) (lift2 D) (lift1 g) (lift2 ct) :=
  (up_final (found m c up w b D g ct h0 h1 h2 h3 h4 h5)).trans (funext fun y =>
    (Cert.FfnReferenceIdeal.Real.up_result up w b D g ct (y 0) (y 1)).symm.trans (congrArg _ (eq_ix2 y).symm))

theorem taps_agree : (dats m 0 c).arrAt 14 cfg0.N
    = Cert.FfnReferenceIdeal.Read.val_main_v93 (F := Ideal) (lift2 up) (lift2 w) (lift1 b) (lift2 D) (lift1 g) (lift2 ct) :=
  (taps_final (found m c up w b D g ct h0 h1 h2 h3 h4 h5)).trans (funext fun y =>
    (Cert.FfnReferenceIdeal.Real.taps_result up w b D g ct (y 0) (y 1)).symm.trans (congrArg _ (eq_ix2 y).symm))

theorem out_agree : (dats m 0 c).arrAt 12 cfg0.N = Cert.FfnReferenceIdeal.Read.val_main_v88 (F := Ideal) (lift1 g) (lift2 ct) := by
  have f := found m c up w b D g ct h0 h1 h2 h3 h4 h5
  refine (out_final f).trans (funext fun y => ?_)
  refine Eq.trans ?_ ((Cert.FfnReferenceIdeal.Real.out_result (lift1 g) (lift2 ct) (y 0) (y 1)).symm.trans (congrArg _ (eq_ix2 y).symm))
  exact congrArg₂ (· * ·) (f.ct _ _) (f.gain _)

theorem gain_agree : (dats m 0 c).arrAt 13 cfg0.N
    = Cert.FfnReferenceIdeal.Read.val_main_v91 (F := Ideal) (lift2 up) (lift2 w) (lift1 b) (lift2 D) (lift2 ct) := by
  have f := found m c up w b D g ct h0 h1 h2 h3 h4 h5
  have e := fwd_entry m c
  rw [h0, h1, h2, h3] at e
  refine (gain_final (m := m) (c := c)).trans (funext fun y => ?_)
  refine Eq.trans ?_ ((Cert.FfnReferenceIdeal.Real.gain_result (lift2 up) (lift2 w) (lift1 b) (lift2 D) (lift2 ct) (y 0) (y 1)).symm.trans
    (congrArg _ (eq_ix2 y).symm))
  by_cases hk : ((y 0 : Fin 8) : ℕ) = 0
  · rw [if_pos hk, if_pos hk]
    exact Finset.sum_congr rfl fun n _ => congrArg₂ (· * ·) (f.ct _ _) (congrFun e _)
  · rw [if_neg hk, if_neg hk]

end Cert.FfnIdeal.Value

namespace Cert.FfnReferenceIdeal.Real

open Cert.FfnReferenceIdeal Cert.FfnReferenceIdeal.Read

variable (m : (ℓ : Loc nD τ sig) → Buf (Elt Ideal) ℓ) (c : Dev nD)
  (x0 : FVec Ideal S8192x5632 .f32) (x1 : FVec Ideal S3x5632 .f32) (x2 : FVec Ideal S5632 .f32) (x3 : FVec Ideal S2816x1024 .f32)
  (x4 : FVec Ideal S1024 .f32) (x5 : FVec Ideal S8192x1024 .f32)
  (h0 : m ((c.tc : Thread nD τ).loc main_arg0) = x0) (h1 : m ((c.tc : Thread nD τ).loc main_arg1) = x1)
  (h2 : m ((c.tc : Thread nD τ).loc main_arg2) = x2) (h3 : m ((c.tc : Thread nD τ).loc main_arg3) = x3)
  (h4 : m ((c.tc : Thread nD τ).loc main_arg4) = x4) (h5 : m ((c.tc : Thread nD τ).loc main_arg5) = x5)

include h0 h1 h2 h3 h4 h5

theorem up_left : val_main_v87 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) = val_main_v87 (F := Ideal) x0 x1 x2 x3 x4 x5 := by
  subst h0 h1 h2 h3 h4 h5
  rfl

theorem taps_left : val_main_v93 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) = val_main_v93 (F := Ideal) x0 x1 x2 x3 x4 x5 := by
  subst h0 h1 h2 h3 h4 h5
  rfl

omit h4 in
theorem gain_left : val_main_v91 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg5))
    = val_main_v91 (F := Ideal) x0 x1 x2 x3 x5 := by
  subst h0 h1 h2 h3 h5
  rfl

omit h0 h1 h2 h3 in
theorem out_left : val_main_v88 (F := Ideal) (m ((c.tc : Thread nD τ).loc main_arg4)) (m ((c.tc : Thread nD τ).loc main_arg5))
    = val_main_v88 (F := Ideal) x4 x5 := by
  subst h4 h5
  rfl

end Cert.FfnReferenceIdeal.Real

end
-- ==== Proof.Scan.Body.lean ====
/- The frame of the backward scan of the recurrence, by hand: at every grid point the kernel's body runs to its end
   whatever its buffers hold (the two passes over the chunk by the loops' own invariants), and of what it leaves in its
   outputs nothing is named. So the launch ends, and no argument is written. -/
module

public import proofs.«01_k».proof.Proof.Gen.Scan.Frame
public import proofs.«01_k».proof.Proof.Gen.Scan.Skeleton
public import proofs.«01_k».proof.Proof.Gen.Scan.Loops
public import Idealize.ShloMosaic.Lib.Pipeline.Frame
public import Idealize.ShloMosaic.Lib.Tactic

@[expose] public section

set_option maxRecDepth 16384

noncomputable section

namespace Cert.Scan.Hand

open Cert.Scan Cert.Scan.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

/-- A buffer of core `c`, whole, at contents nobody names. -/
abbrev some (c : Dev nD) {sp : Space} {S : Shape} {e : EltTy} (M : Memref sig .tc sp S e) : sProp 𝕄 :=
  iprop(∃ d, owns (c : Thread nD τ) M fullShare d)

/-- The arithmetic of the branch the body opens at its first point. -/
abbrev first (i : grid0.Coords) : Prop :=
  Scalar.cmpi .ne (Scalar.extui (Scalar.cmpi .eq (BitVec.ofNat 32 (i 0).val) 0#32) : BitVec 32) 0#32 = 1#1

section Body

variable (c : Dev nD) (i : grid0.Coords)
  (arg1 : Memref sig .tc .vmem S256x512 .f32) (harg1 : arg1.IsWhole) (arg2 : Memref sig .tc .vmem S256x512 .f32)
  (harg2 : arg2.IsWhole) (arg3 : Memref sig .tc .vmem S1x2x2048 .f32) (harg3 : arg3.IsWhole) (arg4 : Memref sig .tc
  .vmem S512x2048 .bf16) (harg4 : arg4.IsWhole) (arg5 : Memref sig .tc .vmem S512x2048 .bf16) (harg5 : arg5.IsWhole)
  (arg6 : Memref sig .tc .vmem S2048x512 .bf16) (harg6 : arg6.IsWhole) (arg7 : Memref sig .tc .vmem S2048x512 .bf16)
  (harg7 : arg7.IsWhole) (arg8 : Memref sig .tc .vmem S3x2x8x2048 .f32) (harg8 : arg8.IsWhole) (arg9 : Memref sig .tc
  .vmem S2x8x2048 .f32) (harg9 : arg9.IsWhole) (arg10 : Memref sig .tc .vmem S3x2x8x2048 .f32) (harg10 :
  arg10.IsWhole) (arg11 : Memref sig .tc .vmem S2x8x2048 .f32) (harg11 : arg11.IsWhole) (arg12 : Memref sig .tc .vmem
  S256x512 .f32) (harg12 : arg12.IsWhole) (arg13 : Memref sig .tc .vmem S256x2048 .bf16) (harg13 : arg13.IsWhole)
  (arg14 : Memref sig .tc .vmem S256x2048 .bf16) (harg14 : arg14.IsWhole) (arg15 : Memref sig .tc .vmem S256x2048
  .bf16) (harg15 : arg15.IsWhole) (arg16 : Memref sig .tc .vmem S256x2048 .bf16) (harg16 : arg16.IsWhole) (arg17 :
  Memref sig .tc .vmem S2x8x2048 .f32) (harg17 : arg17.IsWhole) (arg18 : Memref sig .tc .vmem S256x2048 .f32) (harg18
  : arg18.IsWhole) (arg19 : Memref sig .tc .vmem S256x2048 .f32) (harg19 : arg19.IsWhole) (arg20 : Memref sig .tc
  .vmem S256x2048 .f32) (harg20 : arg20.IsWhole) (arg21 : Memref sig .tc .vmem S256x2048 .f32) (harg21 :
  arg21.IsWhole) (arg22 : Memref sig .tc .vmem S2x2048 .f32) (harg22 : arg22.IsWhole) (arg23 : Memref sig .tc .vmem
  S2x2048 .f32) (harg23 : arg23.IsWhole)

/-- Every buffer the body is handed, each at some contents. -/
def held : sProp 𝕄 :=
  iprop((some c arg1 ∗ some c arg2 ∗ some c arg3 ∗ some c arg4 ∗ some c arg5 ∗ some c arg6 ∗ some c arg7 ∗ some c arg8 ∗
    some c arg9 ∗ some c arg10 ∗ some c arg11 ∗ some c arg12 ∗ some c arg13 ∗ some c arg14 ∗ some c arg15 ∗ some c
    arg16 ∗ some c arg17) ∗ some c arg18 ∗ some c arg19 ∗ some c arg20 ∗ some c arg21 ∗ some c arg22 ∗ some c arg23)

set_option maxHeartbeats 4000000 in
/-- The body at a point, from any contents to some contents. -/
theorem body_runs (K : PUnit → sProp 𝕄) :
    iprop(held c arg1 arg2 arg3 arg4 arg5 arg6 arg7 arg8 arg9 arg10 arg11 arg12 arg13 arg14 arg15 arg16 arg17 arg18 arg19 arg20
        arg21 arg22 arg23
        ∗ (held c arg1 arg2 arg3 arg4 arg5 arg6 arg7 arg8 arg9 arg10 arg11 arg12 arg13 arg14 arg15 arg16 arg17 arg18 arg19 arg20
        arg21 arg22 arg23 -∗ K ⟨⟩)) ⊢
    wp frame (wpE (defs₀ (F := F)) Variants.none c none) Set.univ
      (cc0_ssm_bwd i arg1 harg1 arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18 harg18
        arg19 harg19 arg20 harg20 arg21 harg21 arg22 harg22 arg23 harg23) K := by
  simp only [cc0_ssm_bwd_eq_skeleton]; unfold cc0_ssm_bwd_skel
  simp only [k0_part13_eq_skeleton, k0_part14_eq_skeleton, k0_part15_eq_skeleton, k0_part16_eq_skeleton,
    k0_part17_eq_skeleton, k0_part18_eq_skeleton, k0_part19_eq_skeleton]
  unfold held some owns
  iintro ⟨⟨⟨⟨%d1, %f1, -, H1⟩, ⟨%d2, %f2, -, H2⟩, ⟨%d3, %f3, -, H3⟩, ⟨%d4, %f4, -, H4⟩, ⟨%d5, %f5, -, H5⟩, ⟨%d6, %f6, -, H6⟩,
    ⟨%d7, %f7, -, H7⟩, ⟨%d8, %f8, -, H8⟩, ⟨%d9, %f9, -, H9⟩, ⟨%d10, %f10, -, H10⟩, ⟨%d11, %f11, -, H11⟩, ⟨%d12, %f12,
    -, H12⟩, ⟨%d13, %f13, -, H13⟩, ⟨%d14, %f14, -, H14⟩, ⟨%d15, %f15, -, H15⟩, ⟨%d16, %f16, -, H16⟩, ⟨%d17, %f17, -,
    H17⟩⟩, ⟨%d18, %f18, -, H18⟩, ⟨%d19, %f19, -, H19⟩, ⟨%d20, %f20, -, H20⟩, ⟨%d21, %f21, -, H21⟩, ⟨%d22, %f22, -,
    H22⟩, ⟨%d23, %f23, -, H23⟩⟩, Hk⟩
  by_cases hc : first i
  all_goals
    sl_exec (disch := sl_exact hc)
    sl_step
    iapply Hk
    sl_close

end Body

/-! ## The proof data and the body obligation -/

variable (m : (ℓ : Loc nD τ sig) → Buf (Elt F) ℓ) (ρ : Dev nD → PrngReg)

/-- The proof data on core `c`: the arrays as launched, nothing said of what the body leaves in a buffer. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The scratch buffers, each at some contents. -/
theorem scratch_eq (c : Dev nD) :
    (Pipeline.scopedRest (Ix := Unit) (Name := ℕ) (U := UR sig nD τ) (Lvl := ℕ) (Val := Elt F) spec0 c : sProp 𝕄)
      = iprop(some c (Memref.whole cc0_scratch0) ∗ some c (Memref.whole cc0_scratch1)
          ∗ some c (Memref.whole cc0_scratch2) ∗ some c (Memref.whole cc0_scratch3)
          ∗ some c (Memref.whole cc0_scratch4) ∗ some c (Memref.whole cc0_scratch5)) := by
  rw [scopedRest0_eq]; simp only [some, owns_whole]

/-- The body table's row at the point is the body. -/
theorem defs₀_row (t : Fin cfg0.N) : defs₀ (F := F) .tc cfg0.body (cfg0.bodyArgs t (cfg0.slots t)) = bodyAt0 t := by
  unfold defs₀; rw [Defs.onTc_tc]

/-- What the body is handed at a point, and what it hands back. -/
def bodyPre (c : Dev nD) (t : Fin cfg0.N) (Y : (w : Fin cfg0.W) → (cfg0.win w).block.Idx → Elt F (cfg0.win w).elt) :
    sProp 𝕄 :=
  iprop((rdats m c).Φ t.castSucc ∗ (rdats m c).owesAt () t.castSucc
    ∗ bigSep Finset.univ fun w : Fin 17 => owns (c : Thread nD τ) ((cfg0.win w).stage (cfg0.slots t w)) fullShare (Y w))
def bodyPost (c : Dev nD) (t : Fin cfg0.N) (Y : (w : Fin cfg0.W) → (cfg0.win w).block.Idx → Elt F (cfg0.win w).elt) :
    sProp 𝕄 :=
  iprop((rdats m c).Φ t.succ ∗ (rdats m c).owesAt () t.succ
    ∗ bigSep Finset.univ fun w : Fin 17 => iprop(∃ X, ⌜(rdats m c).after w t (Y w) X⌝
        ∗ owns (c : Thread nD τ) ((cfg0.win w).stage (cfg0.slots t w)) fullShare X))

/-- The buffers of the body at point `t`: the windows' current ones and the scratch. -/
theorem held_at (c : Dev nD) (t : Fin cfg0.N) :
    (held c (win0_0.stage (cfg0.slots t 0)) (win0_1.stage (cfg0.slots t 1)) (win0_2.stage (cfg0.slots t 2)) (win0_3.stage
      (cfg0.slots t 3)) (win0_4.stage (cfg0.slots t 4)) (win0_5.stage (cfg0.slots t 5)) (win0_6.stage (cfg0.slots t
      6)) (win0_7.stage (cfg0.slots t 7)) (win0_8.stage (cfg0.slots t 8)) (win0_9.stage (cfg0.slots t 9))
      (win0_10.stage (cfg0.slots t 10)) (win0_11.stage (cfg0.slots t 11)) (win0_12.stage (cfg0.slots t 12))
      (win0_13.stage (cfg0.slots t 13)) (win0_14.stage (cfg0.slots t 14)) (win0_15.stage (cfg0.slots t 15))
      (win0_16.stage (cfg0.slots t 16)) (Memref.whole cc0_scratch0) (Memref.whole cc0_scratch1) (Memref.whole
      cc0_scratch2) (Memref.whole cc0_scratch3) (Memref.whole cc0_scratch4) (Memref.whole cc0_scratch5) : sProp 𝕄)
      = iprop((bigSep Finset.univ fun w : Fin 17 => some c ((cfg0.win w).stage (cfg0.slots t w)))
          ∗ Pipeline.scopedRest (Ix := Unit) (Name := ℕ) (U := UR sig nD τ) (Lvl := ℕ) (Val := Elt F) spec0 c) := by
  rw [bigSep_W0, scratch_eq]; rfl

/-- The windows at the contents handed over are the windows at some contents. -/
theorem windows_some (c : Dev nD) (t : Fin cfg0.N)
    (Y : (w : Fin cfg0.W) → (cfg0.win w).block.Idx → Elt F (cfg0.win w).elt) :
    (bigSep Finset.univ fun w : Fin 17 => owns (c : Thread nD τ) ((cfg0.win w).stage (cfg0.slots t w)) fullShare (Y w) :
      sProp 𝕄) ⊢ bigSep Finset.univ fun w : Fin 17 => some c ((cfg0.win w).stage (cfg0.slots t w)) :=
  bigSep_mono fun w _ => by
    show (owns (c : Thread nD τ) ((cfg0.win w).stage (cfg0.slots t w)) fullShare (Y w) : sProp 𝕄) ⊢ some c _
    iintro H
    iexists _
    iexact H

/-- The windows at some contents are what the proof data asks back. -/
theorem windows_any (c : Dev nD) (t : Fin cfg0.N)
    (Y : (w : Fin cfg0.W) → (cfg0.win w).block.Idx → Elt F (cfg0.win w).elt) :
    (bigSep Finset.univ fun w : Fin 17 => some c ((cfg0.win w).stage (cfg0.slots t w)) : sProp 𝕄)
      ⊢ bigSep Finset.univ fun w : Fin 17 => iprop(∃ X, ⌜(rdats m c).after w t (Y w) X⌝
          ∗ owns (c : Thread nD τ) ((cfg0.win w).stage (cfg0.slots t w)) fullShare X) :=
  bigSep_mono fun w _ => by
    show (some c ((cfg0.win w).stage (cfg0.slots t w)) : sProp 𝕄) ⊢ iprop(∃ X, ⌜(rdats m c).after w t (Y w) X⌝
          ∗ owns (c : Thread nD τ) ((cfg0.win w).stage (cfg0.slots t w)) fullShare X)
    iintro ⟨%X, H⟩
    iexists X
    isplitr
    · ipureintro; trivial
    iexact H

theorem sound_body (c : Dev nD) (t : Fin cfg0.N)
    (Y : (w : Fin cfg0.W) → (cfg0.win w).block.Idx → Elt F (cfg0.win w).elt) :
    bodyPre m c t Y ⊢ wp frame (wpE (defs₀ (F := F)) Variants.none c none) Set.univ (bodyAt0 t)
      (fun _ => bodyPost m c t Y) := by
  unfold bodyPre bodyPost bodyAt0
  rw [show (rdats m c).Φ t.succ = (rdats m c).Φ t.castSucc from rfl,
    show (rdats m c).owesAt () t.succ = (rdats m c).owesAt () t.castSucc from rfl,
    show (rdats m c).Φ t.castSucc = Pipeline.ΦA spec0 c from rfl]
  unfold Pipeline.ΦA
  iintro ⟨⟨HS, Hg⟩, HO, HW⟩
  iapply body_runs
  rw [held_at]
  isplitl [HW HS]
  · isplitl [HW]
    · iapply (windows_some c t Y); iexact HW
    iexact HS
  iintro ⟨HW, HS⟩
  isplitl [HS Hg]
  · isplitl [HS]; · iexact HS
    iexact Hg
  isplitl [HO]; · iexact HO
  iapply (windows_any m c t Y); iexact HW

theorem body_obligation (c : Dev nD) :
    (rdats (F := F) m c).BodyObligation (defs₀ (F := F)) Variants.none () Set.univ := fun t Y _ => by
  rw [defs₀_row]
  exact triple_restated (sound_body m c t Y) rfl .rfl fun _ => .rfl

/-! ## The launch -/

set_option backward.isDefEq.respectTransparency.types false in
/-- From any memory whose semaphore counters are zero every run ends, the inputs' arrays as launched, the counters at
    zero. -/
theorem run_main :
    θ_run defs (onTc (τ := τ) (main (F := F))) (s₀ m ρ)
      (fun r => Pipeline.RDat.FramePost (cfgs 0) (rdats m) (V m) r ∧ r.2.sem = fun _ => 0) :=
  Pipeline.RDat.θ_run_frame (Q' := _) cfgs (0 : Fin 1) launch0 defs₀ Variants.none (rdats m) m ρ main
    (hbody := body_obligation m) (hshare := fun c => (rdats m c).share_full fun _ => rfl)
    (howed := fun _ _ => rfl) (V := V m) (hmain := hmain m Variants.none) (hA := fun _ _ => rfl) (hΦ := fun _ _ => rfl)

variable {m ρ}

/-- An input window's array ends as launched. -/
theorem in_left {r : PUnit × MemSt nD τ sig (Elt F)} (h : Pipeline.RDat.FramePost (cfgs 0) (rdats m) (V m) r)
    (c : Dev nD) (w : Fin cfg0.W) (hin : (cfg0.win w).isOut = false) :
    r.2.mem ((cfg0.spec w).arr.view.loc (c.tc : Thread nD τ)) = V m c (Pipeline.arrRef spec0 w) :=
  Pipeline.RDat.FramePost.arr_in h c w hin

variable (m ρ)

/-- The frame: the program ends without fault, its arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨in_left h.1 c 0 rfl, in_left h.1 c 1 rfl, in_left h.1 c 2 rfl, in_left h.1 c 3 rfl, in_left h.1 c 4 rfl, in_left
    h.1 c 5 rfl, in_left h.1 c 6 rfl, in_left h.1 c 7 rfl, in_left h.1 c 8 rfl, in_left h.1 c 9 rfl, in_left h.1 c 10
    rfl⟩, h.2⟩)
    (run_main m ρ)

end Cert.Scan.Hand

end
-- ==== Proof.Scan.Same.lean ====
/- The idealised program of the recurrence's backward scan is the program itself read at the reals, and has its frame. -/
module
public import proofs.«01_k».proof.Defs
public import proofs.«01_k».proof.Proof.Scan.Body
public import proofs.«01_k».proof.Proof.Gen.ScanIdeal
public import Idealize.ShloMosaic.Lib.Claim
@[expose] public section
set_option maxRecDepth 65536
set_option maxHeartbeats 4000000
namespace Cert.Scan.Hand
open Idealize.ShloMosaic Idealize.ShloMosaic.TcCoe Idealize.SL.Sem
attribute [local instance] Cert.Scan.Gen.facts Cert.ScanIdeal.Gen.facts

/-- The two programs' bodies are one program. -/
theorem same_body : Cert.ScanIdeal.cc0_ssm_bwd (F := Idealize.ShloMosaic.Ideal) = Cert.Scan.cc0_ssm_bwd (F := Idealize.ShloMosaic.Ideal) := rfl

/-- … and so the two programs call the same bodies. -/
theorem same_bodies : Cert.ScanIdeal.defs₀ (F := Idealize.ShloMosaic.Ideal) = Cert.Scan.defs₀ (F := Idealize.ShloMosaic.Ideal) := by
  unfold Cert.ScanIdeal.defs₀ Cert.Scan.defs₀
  refine congrArg Defs.onTc (funext fun l => funext fun a => ?_)
  match l, a with
  | 0, (t, s) => exact rfl
  | ⟨_ + 1, h⟩, _ => exact absurd h (Nat.not_lt.2 (Nat.le_add_left _ _))

/-- … and so their pipelines. -/
theorem same_calls : Cert.ScanIdeal.defs (F := Idealize.ShloMosaic.Ideal) = Cert.Scan.defs (F := Idealize.ShloMosaic.Ideal) := by
  unfold Cert.ScanIdeal.defs Cert.Scan.defs
  exact congrArg (Pipeline.defs _) same_bodies

/-- The idealised program ends without fault, leaves its arguments alone and its counters at zero. -/
theorem ideal_frame : Cert.quiescent_ScanIdeal (hScanIdeal := Cert.ScanIdeal.Gen.facts) := by
  intro m ρ _
  have h := frame (F := Idealize.ShloMosaic.Ideal) m ρ
  rw [← same_calls] at h
  exact h
end Cert.Scan.Hand
end
-- ==== Proof.Mod.Value.lean ====
/-
  The modulation's gradients: the region's three arrays and the reference's are the same sums, at any argument.
-/
module
public import proofs.«01_k».proof.Proof.Gen.ModIdeal.Value
public import proofs.«01_k».proof.Proof.Gen.ModReferenceIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModIdeal.Value

open Cert.ModIdeal Cert.ModIdeal.Gen

/-- Row 0 of eight is chosen by its number. -/
theorem first_row (k : Fin 8) (a b : EReal) :
    Scalar.select (IntOp.cmpi .eq (BitVec.ofNat 32 (k : ℕ)) 0#32) a b = if (k : ℕ) = 0 then a else b := by
  fin_cases k <;> rfl

/-- The rows whose unit is taken: eight of the latents, the context's, and zeros. -/
def rows (x0 : FVec Ideal S8x1024 .f32) (x1 : FVec Ideal S1024 .f32) : FVec Ideal S16x1024 .f32 :=
  concatenate S16x1024 0 [⟨S9x1024, concatenate S9x1024 0 [⟨S8x1024, x0⟩, ⟨S1x1024, broadcastInDim S1x1024 ![1] bcast_S1024_S1x1024_1 x1⟩]
      concatenates_S8x1024_S1x1024_S9x1024_d0⟩,
    ⟨S7x1024, broadcastInDim S7x1024 ![] bcast_S_S7x1024 (constant (F := Ideal) S_ .f32 0x00000000#32)⟩]
    concatenates_S9x1024_S7x1024_S16x1024_d0

theorem rows_lat (x0 : FVec Ideal S8x1024 .f32) (x1 : FVec Ideal S1024 .f32) (k : Fin 8) (j : Fin 1024) :
    rows x0 x1 (ix2 ⟨k, by omega⟩ j) = x0 (ix2 k j) := by
  pointwise [rows]
  exact dif_pos (by omega)

theorem rows_ctx (x0 : FVec Ideal S8x1024 .f32) (x1 : FVec Ideal S1024 .f32) (j : Fin 1024) :
    rows x0 x1 (ix2 8 j) = x1 (ix1 j) := by
  pointwise [rows]

theorem rows_rest (x0 : FVec Ideal S8x1024 .f32) (x1 : FVec Ideal S1024 .f32) (k : Fin 16) (h : 8 < (k : ℕ)) (j : Fin 1024) :
    rows x0 x1 (ix2 k j) = 0 := by
  pointwise [rows]
  rw [dif_neg (by omega)]

open Cert.ModReferenceIdeal.Read in
/-- The weights' gradient. -/
theorem weights_point (x0 : FVec Ideal S8x1024 .f32) (x1 : FVec Ideal S1024 .f32) (x3 x4 : FVec Ideal S8x768 .f32) (k : Fin 1024) (j : Fin 768) :
    (k0_pay5 (F := Ideal) x4 x3 (rows x0 x1) (ix2 k j) : EReal) = val_main_v14 (F := Ideal) x0 x1 x3 x4 (ix2 k j) := by
  have hl : ∀ x : Fin 8, rows x0 x1 (ix2 ⟨x, by omega⟩ k) = x0 (ix2 x k) := fun x => rows_lat x0 x1 x k
  have hc := rows_ctx x0 x1 k
  generalize rows x0 x1 = v at hl hc ⊢
  pointwise [k0_pay5, k0_pay4, k0_pay3, k0_pay2, val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v2, val_main_call1_v0, val_main_call1_v1, val_main_call1_cst, val_main_call1_v2, val_main_call1_v3, val_main_call1_cst_0, val_main_call1_v4, val_main_v3_2, val_main_call1_cst_1, val_main_call1_v6, val_main_call1_v7, val_main_v3_1, val_main_v3_0, val_main_v4, val_main_v5, val_main_cst, val_main_v6, val_main_v7, val_main_v8, val_main_v9, val_main_v10, val_main_call2_v0, val_main_call2_v1, val_main_call2_v2, val_main_v11, val_main_v12, val_main_v13, val_main_v14, val_main_v15, val_main_call3_v0, val_main_call3_v1, val_main_call3_v2, val_main_v16, val_main_cst_0, val_main_v17, val_main_cst_1, val_main_v18, val_main_v19, val_main_cst_2, val_main_v20, val_main_v21, val_main_v22, val_main_cst_3, val_main_v23, val_main_v24, val_main_v25, val_main_cst_4, val_main_v26, val_main_v27]
  simp only [first_row]
  rw [Fin.sum_univ_one, Finset.sum_eq_single (a := (0 : Fin 8)) (f := fun x : Fin 8 => if (x : ℕ) = 0 then
      v (ix2 ⟨8 + (x : ℕ), by omega⟩ k) * Ideal.logistic (v (ix2 ⟨8 + (x : ℕ), by omega⟩ k)) * ∑ x, x4 (ix2 x j) else 0)
    (fun x _ hx => if_neg fun h0 => hx (Fin.ext h0)) (fun h0 => absurd (Finset.mem_univ _) h0),
    if_pos (show ((0 : Fin 8) : ℕ) = 0 from rfl)]
  refine congrArg₂ (· + ·) (Finset.sum_congr rfl fun x _ => ?_) ?_
  · rw [hl x]
    exact mul_comm _ _
  · rw [show (ix2 (⟨8 + ((0 : Fin 8) : ℕ), by decide⟩ : Fin 16) k : S16x1024.Idx) = ix2 8 k from rfl, hc]
    exact mul_comm _ _

open Cert.ModReferenceIdeal.Read in
/-- The rows' gradients. -/
theorem rows_point (x0 : FVec Ideal S8x1024 .f32) (x1 : FVec Ideal S1024 .f32) (x2 : FVec Ideal S1024x768 .f32) (x3 x4 : FVec Ideal S8x768 .f32)
    (k : Fin 16) (j : Fin 1024) :
    (k0_pay6 (F := Ideal) x4 x3 (rows x0 x1) x2 (ix2 k j) : EReal) = val_main_v24 (F := Ideal) x0 x1 x2 x3 x4 (ix2 k j) := by
  have hl : ∀ h : (k : ℕ) < 8, rows x0 x1 (ix2 k j) = x0 (ix2 ⟨k, h⟩ j) := fun h => rows_lat x0 x1 ⟨k, h⟩ j
  have hc : (k : ℕ) = 8 → rows x0 x1 (ix2 k j) = x1 (ix1 j) := fun h => by
    rw [show k = 8 from Fin.ext h]; exact rows_ctx x0 x1 j
  have hr := fun h => rows_rest x0 x1 k h j
  generalize rows x0 x1 = v at hl hc hr ⊢
  pointwise [k0_pay6, k0_pay4, k0_pay3, k0_pay2, val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v2, val_main_call1_v0, val_main_call1_v1, val_main_call1_cst, val_main_call1_v2, val_main_call1_v3, val_main_call1_cst_0, val_main_call1_v4, val_main_v3_2, val_main_call1_cst_1, val_main_call1_v6, val_main_call1_v7, val_main_v3_1, val_main_v3_0, val_main_v4, val_main_v5, val_main_cst, val_main_v6, val_main_v7, val_main_v8, val_main_v9, val_main_v10, val_main_call2_v0, val_main_call2_v1, val_main_call2_v2, val_main_v11, val_main_v12, val_main_v13, val_main_v14, val_main_v15, val_main_call3_v0, val_main_call3_v1, val_main_call3_v2, val_main_v16, val_main_cst_0, val_main_v17, val_main_cst_1, val_main_v18, val_main_v19, val_main_cst_2, val_main_v20, val_main_v21, val_main_v22, val_main_cst_3, val_main_v23, val_main_v24, val_main_v25, val_main_cst_4, val_main_v26, val_main_v27]
  rcases lt_trichotomy (k : ℕ) 8 with h | h | h
  · rw [dif_pos (by omega), dif_pos h, hl h]
    simp only [dif_pos h]
    rfl
  · rw [dif_pos (by omega), dif_neg (by omega), hc h, Fin.sum_univ_one]
    simp only [dif_neg (show ¬ (k : ℕ) < 8 by omega)]
    rw [show (k : ℕ) - 8 = 0 by omega]
    rfl
  · rw [dif_neg (by omega), hr h]
    have hs : ∀ a b : EReal, Scalar.select (IntOp.cmpi .eq (BitVec.ofNat 32 ((k : ℕ) - 8)) 0#32) a b = b := fun a b =>
      (first_row ⟨(k : ℕ) - 8, by omega⟩ a b).trans (if_neg (show ¬ (k : ℕ) - 8 = 0 by omega))
    simp only [dif_neg (show ¬ (k : ℕ) < 8 by omega), hs, zero_mul, Finset.sum_const_zero, zero_add]

open Cert.ModReferenceIdeal.Read in
/-- The shift's gradient. -/
theorem shift_point (v : FVec Ideal S16x6144 .f32) (k : Fin 8) (j : Fin 6144) :
    (k0_pay1 (F := Ideal) (k0_pay7 v) (iota .tc S8x6144 32 [0] iota_S8x6144_d0_w32) k0_pay8 (ix2 k j) : EReal) = val_main_v27 (F := Ideal) v (ix2 k j) := by
  pointwise [k0_pay1, k0_pay7, k0_pay8, val_main_v0, val_main_call0_v0, val_main_call0_v1, val_main_call0_cst, val_main_call0_v2, val_main_call0_v3, val_main_call0_cst_0, val_main_call0_v4, val_main_v1_2, val_main_call0_cst_1, val_main_call0_v6, val_main_call0_v7, val_main_v1_1, val_main_v1_0, val_main_v2, val_main_call1_v0, val_main_call1_v1, val_main_call1_cst, val_main_call1_v2, val_main_call1_v3, val_main_call1_cst_0, val_main_call1_v4, val_main_v3_2, val_main_call1_cst_1, val_main_call1_v6, val_main_call1_v7, val_main_v3_1, val_main_v3_0, val_main_v4, val_main_v5, val_main_cst, val_main_v6, val_main_v7, val_main_v8, val_main_v9, val_main_v10, val_main_call2_v0, val_main_call2_v1, val_main_call2_v2, val_main_v11, val_main_v12, val_main_v13, val_main_v14, val_main_v15, val_main_call3_v0, val_main_call3_v1, val_main_call3_v2, val_main_v16, val_main_cst_0, val_main_v17, val_main_cst_1, val_main_v18, val_main_v19, val_main_cst_2, val_main_v20, val_main_v21, val_main_v22, val_main_cst_3, val_main_v23, val_main_v24, val_main_v25, val_main_cst_4, val_main_v26, val_main_v27]
  rw [first_row]
  by_cases h : (k : ℕ) = 0
  · rw [if_pos h, dif_pos (by omega)]
  · rw [if_neg h, dif_neg (by omega)]

variable (m : (ℓ : Loc nD τ sig) → Buf (Elt Ideal) ℓ)

set_option maxHeartbeats 2000000 in
theorem rows_entry (c : Dev nD) : (V m c main_v3 : Vec Ideal S16x1024 .f32)
    = rows (m ((c : Thread nD τ).loc main_arg0)) (m ((c : Thread nD τ).loc main_arg1)) := by
  entry_read
  rfl

/-- The one grid point takes each array whole. -/
theorem idx : ∀ t : Fin cfg0.N, win0_0.index t = ![0, 0] ∧ win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] :=
  (by decide +kernel : ∀ t : Fin grid0.N, _)

theorem blk0 (c : Dev nD) (t : Fin cfg0.N) : (iblk m c 0 t : Vec Ideal S16x1024 .f32) = V m c main_v3 := by
  unfold iblk
  generalize V m c = W
  refine funext fun y => congrArg (W main_v3) ?_
  blk_point [idx t]
theorem blk1 (c : Dev nD) (t : Fin cfg0.N) : (iblk m c 1 t : Vec Ideal S1024x768 .f32) = m ((c : Thread nD τ).loc main_arg2) := by
  rw [← V_main_arg2 m c]
  unfold iblk
  generalize V m c = W
  refine funext fun y => congrArg (W main_arg2) ?_
  blk_point [idx t]
theorem blk2 (c : Dev nD) (t : Fin cfg0.N) : (iblk m c 2 t : Vec Ideal S8x768 .f32) = m ((c : Thread nD τ).loc main_arg3) := by
  rw [← V_main_arg3 m c]
  unfold iblk
  generalize V m c = W
  refine funext fun y => congrArg (W main_arg3) ?_
  blk_point [idx t]
theorem blk3 (c : Dev nD) (t : Fin cfg0.N) : (iblk m c 3 t : Vec Ideal S8x768 .f32) = m ((c : Thread nD τ).loc main_arg4) := by
  rw [← V_main_arg4 m c]
  unfold iblk
  generalize V m c = W
  refine funext fun y => congrArg (W main_arg4) ?_
  blk_point [idx t]
theorem blk4 (c : Dev nD) (t : Fin cfg0.N) : (iblk m c 4 t : Vec Ideal S16x6144 .f32) = m ((c : Thread nD τ).loc main_arg5) := by
  rw [← V_main_arg5 m c]
  unfold iblk
  generalize V m c = W
  refine funext fun y => congrArg (W main_arg5) ?_
  blk_point [idx t]

theorem weights_final (c : Dev nD) : (dats m 0 c).arrAt 5 cfg0.N
    = Cert.ModReferenceIdeal.Read.val_main_v14 (F := Ideal) (m ((c : Thread nD τ).loc main_arg0)) (m ((c : Thread nD τ).loc main_arg1))
      (m ((c : Thread nD τ).loc main_arg3)) (m ((c : Thread nD τ).loc main_arg4)) := by
  refine (dats m 0 c).arrAt_eq_of_covers 5 _ (by decide +kernel) fun t _ y => ?_
  have e : ((cfg0.win 5).blk t).view.emb y = ix2 (y 0) (y 1) := by
    blk_point [idx t]
  rw [after0_5, e]
  unfold out0_5
  frame_out
  rw [blk0, blk2, blk3, rows_entry]
  exact (congrArg _ (eq_ix2 y)).trans (weights_point _ _ _ _ (y 0) (y 1))

theorem rows_final (c : Dev nD) : (dats m 0 c).arrAt 6 cfg0.N
    = Cert.ModReferenceIdeal.Read.val_main_v24 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t _ y => ?_
  have e : ((cfg0.win 6).blk t).view.emb y = ix2 (y 0) (y 1) := by
    blk_point [idx t]
  rw [after0_6, e]
  unfold out0_6
  frame_out
  rw [blk0, blk1, blk2, blk3, rows_entry]
  exact (congrArg _ (eq_ix2 y)).trans (rows_point _ _ _ _ _ (y 0) (y 1))

theorem shift_final (c : Dev nD) : (dats m 0 c).arrAt 7 cfg0.N
    = Cert.ModReferenceIdeal.Read.val_main_v27 (F := Ideal) (m ((c : Thread nD τ).loc main_arg5)) := by
  refine (dats m 0 c).arrAt_eq_of_covers 7 _ (by decide +kernel) fun t _ y => ?_
  have e : ((cfg0.win 7).blk t).view.emb y = ix2 (y 0) (y 1) := by
    blk_point [idx t]
  rw [after0_7, e]
  unfold out0_7
  frame_out
  rw [blk4]
  exact (congrArg _ (eq_ix2 y)).trans (shift_point _ (y 0) (y 1))

theorem weights_same (c : Dev nD) (x0 : FVec Ideal S8x1024 .f32) (x1 : FVec Ideal S1024 .f32) (x3 : FVec Ideal S8x768 .f32) (x4 : FVec Ideal S8x768 .f32)
    (a0 : x0 = m ((c : Thread nD τ).loc main_arg0)) (a1 : x1 = m ((c : Thread nD τ).loc main_arg1)) (a3 : x3 = m ((c : Thread nD τ).loc main_arg3)) (a4 : x4 = m ((c : Thread nD τ).loc main_arg4)) :
    Cert.ModReferenceIdeal.Read.val_main_v14 (F := Ideal) x0 x1 x3 x4 = (dats m 0 c).arrAt 5 cfg0.N := by
  subst a0 a1 a3 a4
  exact (weights_final m c).symm

theorem rows_same (c : Dev nD) (x0 : FVec Ideal S8x1024 .f32) (x1 : FVec Ideal S1024 .f32) (x2 : FVec Ideal S1024x768 .f32) (x3 : FVec Ideal S8x768 .f32) (x4 : FVec Ideal S8x768 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) :
    Cert.ModReferenceIdeal.Read.val_main_v24 (F := Ideal) x0 x1 x2 x3 x4 = (dats m 0 c).arrAt 6 cfg0.N := by
  subst a0 a1 a2 a3 a4
  exact (rows_final m c).symm

theorem shift_same (c : Dev nD) (x5 : FVec Ideal S16x6144 .f32)
    (a5 : x5 = m ((c : Thread nD τ).loc main_arg5)) :
    Cert.ModReferenceIdeal.Read.val_main_v27 (F := Ideal) x5 = (dats m 0 c).arrAt 7 cfg0.N := by
  subst a5
  exact (shift_final m c).symm

end Cert.ModIdeal.Value
end
-- ==== Proof.Norm.Spec.lean ====
/-
  The gradient of a normalised row, `x · rsqrt(mean x² + ε)`: one formula for a row, whatever call or program computes it.
-/
module

public import Idealize.ShloMosaic.PureOps.Ideal
public import Idealize.ShloMosaic.Lib.Pointwise

@[expose] public section

noncomputable section

namespace Cert.Norm

open Idealize.ShloMosaic

variable (x v : Fin 1024 → EReal)

/-- The mean of the squares, and the small number added to it. -/
def ms : EReal := (∑ k, x k * x k) * Ideal.ofBits .f32 0x3A800000#32 + Ideal.ofBits .f32 0x358637BD#32

/-- What the row is multiplied by. -/
def inv : EReal := Ideal.rsqrt (ms x)

/-- What reaches the mean of the squares from the row's cotangent `v`. -/
def slope : EReal :=
  (∑ k, x k * v k) * (Ideal.ofBits .f32 0xBF000000#32 * Ideal.div (inv x) (ms x)) * Ideal.ofBits .f32 0x3A800000#32

/-- The row's gradient. -/
def dx (j : Fin 1024) : EReal := v j * inv x + x j * slope x v + slope x v * x j

/-- A quotient by 1024 is a product with its inverse. -/
theorem quotient (a : EReal) : Ideal.div a (Ideal.ofBits .f32 0x44800000#32) = a * Ideal.ofBits .f32 0x3A800000#32 := by
  have e : Ideal.ofBits .f32 0x44800000#32 = ((1024 : ℝ) : EReal) := by
    simp [Ideal.ofBits, Ideal.ieee, -EReal.coe_mul]; norm_num
  have e' : Ideal.ofBits .f32 0x3A800000#32 = ((1 / 1024 : ℝ) : EReal) := by
    simp [Ideal.ofBits, Ideal.ieee, -EReal.coe_mul]; norm_num
  rw [e, e', Ideal.div_coe (by norm_num)]

/-! The gradients of a row `x n` of `x · rsqrt(mean x² + ε) · g · (1 + sc)` whose cotangent is `dh n`: of the row, of the gain `g`
and of the scale `sc`. -/

variable {N : ℕ} (X dh : Fin N → Fin 1024 → EReal) (g sc : Fin 1024 → EReal)

def dxAt (n : Fin N) (j : Fin 1024) : EReal := dx (X n) (fun k => dh n k * (1 + sc k) * g k) j

def dgAt (n : Fin N) (j : Fin 1024) : EReal := X n j * inv (X n) * (dh n j * (1 + sc j))

def dscAt (n : Fin N) (j : Fin 1024) : EReal := X n j * inv (X n) * g j * dh n j

end Cert.Norm

end
-- ==== Proof.Norm.First.lean ====
/-
  The first norm's gradient region: what a tile of 256 rows leaves, and the three arrays after the run.
-/
module

public import proofs.«01_k».proof.Proof.Gen.NormOneIdeal.Value
public import proofs.«01_k».proof.Proof.Norm.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormOneIdeal.Value

open Cert.NormOneIdeal Cert.NormOneIdeal.Gen Cert.Norm

variable (m : (ℓ : Loc nD τ sig) → Buf (Elt Ideal) ℓ)

abbrev B0 (c : Dev nD) (t : Fin cfg0.N) : Vec Ideal S256x1024 .f32 := iblk m c 0 t
abbrev B1 (c : Dev nD) (t : Fin cfg0.N) : Vec Ideal S256x1024 .f32 := iblk m c 1 t
abbrev B2 (c : Dev nD) (t : Fin cfg0.N) : Vec Ideal S256x1024 .f32 := iblk m c 2 t
abbrev B3 (c : Dev nD) (t : Fin cfg0.N) : Vec Ideal S1x1024 .f32 := iblk m c 3 t
abbrev B4 (c : Dev nD) (t : Fin cfg0.N) : Vec Ideal S8x1024 .f32 := iblk m c 4 t

/-- Row `o` of the eight modulation rows. -/
def modRow0 (x : Vec Ideal S8x1024 .f32) : Vec Ideal S1x1024 .f32 := View.ld x (Rect.unit ![0, 0] ![1, 1024] inb_S8x1024_S1x1024_0_0)
def modRow2 (x : Vec Ideal S8x1024 .f32) : Vec Ideal S1x1024 .f32 := View.ld x (Rect.unit ![2, 0] ![1, 1024] inb_S8x1024_S1x1024_2_0)

theorem modRow0_apply (x : Vec Ideal S8x1024 .f32) (j : Fin 1024) : modRow0 x (ix2 0 j) = x (ix2 0 j) := by
  pointwise [modRow0]
theorem modRow2_apply (x : Vec Ideal S8x1024 .f32) (j : Fin 1024) : modRow2 x (ix2 0 j) = x (ix2 2 j) := by
  pointwise [modRow2]

/-- Whether a tile holds latent rows. -/
def lat (t : Fin cfg0.N) : BitVec 1 := Scalar.cmpi .slt (BitVec.ofNat 32 (grid0.coords t 0)) 32#32

theorem lat_word : ∀ t : Fin cfg0.N, lat t = if t.val < 32 then 1#1 else 0#1 :=
  (by decide +kernel : ∀ t : Fin grid0.N, Scalar.cmpi .slt (BitVec.ofNat 32 (grid0.coords t 0)) 32#32 = if t.val < 32 then 1#1 else 0#1)

theorem lat_select (t : Fin cfg0.N) (a b : EReal) : Scalar.select (lat t) a b = if t.val < 32 then a else b := by
  rw [lat_word t]
  split <;> rfl

/-- A tile's scale. -/
def scale (x : Vec Ideal S8x1024 .f32) (t : Fin cfg0.N) (j : Fin 1024) : EReal := if t.val < 32 then x (ix2 0 j) else x (ix2 2 j)

theorem scale_word (x : Vec Ideal S8x1024 .f32) (t : Fin cfg0.N) (j : Fin 1024) :
    Scalar.select (Scalar.cmpi .slt (BitVec.ofNat 32 (grid0.coords t 0)) 32#32) (modRow0 x (ix2 0 j)) (modRow2 x (ix2 0 j)) = scale x t j := by
  rw [modRow0_apply, modRow2_apply]
  exact lat_select t _ _

theorem scale_words (x : Vec Ideal S8x1024 .f32) (t : Fin cfg0.N) : scale x t = fun j =>
    Scalar.select (Scalar.cmpi .slt (BitVec.ofNat 32 (grid0.coords t 0)) 32#32) (modRow0 x (ix2 0 j)) (modRow2 x (ix2 0 j)) :=
  funext fun j => (scale_word x t j).symm

/-- The rows' gradient of one tile. -/
theorem dx_apply (x dh dr : FVec Ideal S256x1024 .f32) (g : FVec Ideal S1x1024 .f32) (s : FVec Ideal S8x1024 .f32) (t : Fin cfg0.N)
    (r : Fin 256) (j : Fin 1024) :
    (k0_pay15 (F := Ideal) (lat t) (k0_pay3 x) (k0_pay6 x) (k0_pay7 x) (k0_pay12 (grid0.coords t) (modRow0 s) (modRow2 s) dh) (k0_pay14 g) dr
        (ix2 r j) : EReal)
      = dxAt (fun r k => x (ix2 r k)) (fun r k => dh (ix2 r k)) (fun k => g (ix2 0 k)) (scale s t) r j + if t.val < 32 then dr (ix2 r j) else 0 := by
  rw [← lat_select, scale_words]
  pointwise [k0_pay15, k0_pay3, k0_pay6, k0_pay7, k0_pay12, k0_pay14, k0_pay5, k0_pay9, k0_pay4]
  simp only [Fin.sum_univ_one]
  rfl

/-- The gain's gradient from one tile. -/
theorem dg_apply (x dh : FVec Ideal S256x1024 .f32) (s : FVec Ideal S8x1024 .f32) (t : Fin cfg0.N) (j : Fin 1024) :
    (k0_pay13 (F := Ideal) (grid0.coords t) (modRow0 s) (modRow2 s) x dh (ix2 0 j) : EReal)
      = ∑ r, dgAt (fun r k => x (ix2 r k)) (fun r k => dh (ix2 r k)) (scale s t) r j := by
  rw [scale_words]
  pointwise [k0_pay13, k0_pay3, k0_pay6, k0_pay8, k0_pay12, k0_pay5, k0_pay9]
  rfl

/-- The scale's gradient from one tile. -/
theorem dsc_apply (x dh : FVec Ideal S256x1024 .f32) (g : FVec Ideal S1x1024 .f32) (j : Fin 1024) :
    (k0_pay11 (F := Ideal) x g dh (ix2 0 j) : EReal)
      = ∑ r, dscAt (fun r k => x (ix2 r k)) (fun r k => dh (ix2 r k)) (fun k => g (ix2 0 k)) r j := by
  pointwise [k0_pay11, k0_pay3, k0_pay6, k0_pay8, k0_pay5, k0_pay9, k0_pay4]
  rfl

/-- The shift's gradient from one tile. -/
theorem dsh_apply (dh : FVec Ideal S256x1024 .f32) (j : Fin 1024) : (k0_pay10 (F := Ideal) dh (ix2 0 j) : EReal) = ∑ r, dh (ix2 r j) := by
  pointwise [k0_pay10, k0_pay9]

theorem first_row (k : Fin 8) (a b : EReal) : Scalar.select (IntOp.cmpi .eq (BitVec.ofNat 32 (k : ℕ)) 0#32) a b = if (k : ℕ) = 0 then a else b := by
  fin_cases k <;> rfl

/-- A tile's share of the gain's rows joins what the rows hold. -/
theorem gain_apply (v : FVec Ideal S1x1024 .f32) (x : FVec Ideal S8x1024 .f32) (k : Fin 8) (j : Fin 1024) :
    (k0_pay17 (F := Ideal) v x (ix2 k j) : EReal) = x (ix2 k j) + if (k : ℕ) = 0 then v (ix2 0 j) else 0 := by
  pointwise [k0_pay17]
  rw [first_row]

theorem gain_step (x dh : FVec Ideal S256x1024 .f32) (s : FVec Ideal S8x1024 .f32) (t : Fin cfg0.N) (a : FVec Ideal S8x1024 .f32) (k : Fin 8) (j : Fin 1024) :
    (k0_pay17 (F := Ideal) (k0_pay13 (grid0.coords t) (modRow0 s) (modRow2 s) x dh) a (ix2 k j) : EReal) = a (ix2 k j) + if (k : ℕ) = 0 then
      ∑ r, dgAt (fun r k => x (ix2 r k)) (fun r k => dh (ix2 r k)) (scale s t) r j else 0 := by
  rw [gain_apply, dg_apply]

/-- The two rows a tile adds to. -/
theorem mod_rows (t : Fin cfg0.N) (k : Fin 8) (a b : EReal) :
    Scalar.select (IntOp.cmpi .eq (BitVec.ofNat 32 (k : ℕ)) (Scalar.select (lat t) 0#32 2#32)) a 0
      + Scalar.select (IntOp.cmpi .eq (BitVec.ofNat 32 (k : ℕ)) (Scalar.addi (Scalar.select (lat t) 0#32 2#32) 1#32)) b 0
      = if t.val < 32 then (if (k : ℕ) = 0 then a else if (k : ℕ) = 1 then b else 0) else (if (k : ℕ) = 2 then a else if (k : ℕ) = 3 then b else 0) := by
  rw [lat_word t]
  split
  · fin_cases k
    · exact add_zero a
    · exact zero_add b
    all_goals exact add_zero 0
  · fin_cases k
    · exact add_zero 0
    · exact add_zero 0
    · exact add_zero a
    · exact zero_add b
    all_goals exact add_zero 0

/-- A tile's share of the modulation's rows joins what the rows hold. -/
theorem mod_apply (v w : FVec Ideal S1x1024 .f32) (t : Fin cfg0.N) (x : FVec Ideal S8x1024 .f32) (k : Fin 8) (j : Fin 1024) :
    (k0_pay2 (F := Ideal) v w (iota Kind.tc S8x1024 32 [0] iota_S8x1024_d0_w32) (Scalar.select (lat t) 0#32 2#32) (k0_pay18 (lat t)) x (ix2 k j) : EReal)
      = x (ix2 k j) + if t.val < 32 then (if (k : ℕ) = 0 then w (ix2 0 j) else if (k : ℕ) = 1 then v (ix2 0 j) else 0)
          else (if (k : ℕ) = 2 then w (ix2 0 j) else if (k : ℕ) = 3 then v (ix2 0 j) else 0) := by
  rw [← mod_rows]
  pointwise [k0_pay2, k0_pay18]

theorem mod_step (x dh : FVec Ideal S256x1024 .f32) (g : FVec Ideal S1x1024 .f32) (t : Fin cfg0.N) (a : FVec Ideal S8x1024 .f32) (k : Fin 8) (j : Fin 1024) :
    (k0_pay2 (F := Ideal) (k0_pay10 dh) (k0_pay11 x g dh) (iota Kind.tc S8x1024 32 [0] iota_S8x1024_d0_w32) (Scalar.select (lat t) 0#32 2#32)
        (k0_pay18 (lat t)) a (ix2 k j) : EReal)
      = a (ix2 k j) + if t.val < 32 then
          (if (k : ℕ) = 0 then ∑ r, dscAt (fun r k => x (ix2 r k)) (fun r k => dh (ix2 r k)) (fun k => g (ix2 0 k)) r j
            else if (k : ℕ) = 1 then ∑ r, dh (ix2 r j) else 0)
          else (if (k : ℕ) = 2 then ∑ r, dscAt (fun r k => x (ix2 r k)) (fun r k => dh (ix2 r k)) (fun k => g (ix2 0 k)) r j
            else if (k : ℕ) = 3 then ∑ r, dh (ix2 r j) else 0) := by
  rw [mod_apply, dsc_apply, dsh_apply]

theorem zero_gain (y) : k0_pay16 (F := Ideal) y = 0 := by
  pointwise [k0_pay16]
theorem zero_mod (y) : k0_pay1 (F := Ideal) y = 0 := by
  pointwise [k0_pay1]

/-! What a grid point leaves. -/

theorem dx_point (c : Dev nD) (t : Fin cfg0.N) : (outsAt0 m c t.val t.isLt).1 = k0_pay15 (lat t) (k0_pay3 (B0 m c t)) (k0_pay6 (B0 m c t)) (k0_pay7 (B0 m c t))
    (k0_pay12 (grid0.coords t) (modRow0 (B4 m c t)) (modRow2 (B4 m c t)) (B1 m c t)) (k0_pay14 (B3 m c t)) (B2 m c t) := by
  by_cases h : t.val % 33 = 0
  · rw [outsAt0_A m c t h h]
    frame_out
    rfl
  · rw [outsAt0_B m c t h h]
    frame_out
    rfl

theorem gain_point_A (c : Dev nD) (t : Fin cfg0.N) (h : t.val % 33 = 0) : (outsAt0 m c t.val t.isLt).2.1
    = k0_pay17 (k0_pay13 (grid0.coords t) (modRow0 (B4 m c t)) (modRow2 (B4 m c t)) (B0 m c t) (B1 m c t)) (k0_pay16 (F := Ideal)) := by
  rw [outsAt0_A m c t h h]
  frame_out
  rfl

theorem gain_point_B (c : Dev nD) (t : Fin cfg0.N) (h : ¬ t.val % 33 = 0) : (outsAt0 m c t.val t.isLt).2.1
    = k0_pay17 (k0_pay13 (grid0.coords t) (modRow0 (B4 m c t)) (modRow2 (B4 m c t)) (B0 m c t) (B1 m c t)) (outsAt0 m c (t.val - 1) (by omega)).2.1 := by
  rw [outsAt0_B m c t h h]
  frame_out
  rfl

theorem mod_point_A (c : Dev nD) (t : Fin cfg0.N) (h : t.val % 33 = 0) : (outsAt0 m c t.val t.isLt).2.2
    = k0_pay2 (k0_pay10 (B1 m c t)) (k0_pay11 (B0 m c t) (B3 m c t) (B1 m c t)) (iota Kind.tc S8x1024 32 [0] iota_S8x1024_d0_w32)
      (Scalar.select (lat t) 0#32 2#32) (k0_pay18 (lat t)) (k0_pay1 (F := Ideal)) := by
  rw [outsAt0_A m c t h h]
  frame_out
  rfl

theorem mod_point_B (c : Dev nD) (t : Fin cfg0.N) (h : ¬ t.val % 33 = 0) : (outsAt0 m c t.val t.isLt).2.2
    = k0_pay2 (k0_pay10 (B1 m c t)) (k0_pay11 (B0 m c t) (B3 m c t) (B1 m c t)) (iota Kind.tc S8x1024 32 [0] iota_S8x1024_d0_w32)
      (Scalar.select (lat t) 0#32 2#32) (k0_pay18 (lat t)) (outsAt0 m c (t.val - 1) (by omega)).2.2 := by
  rw [outsAt0_B m c t h h]
  frame_out
  rfl

/-! What the host lines hand to the region. -/

/-- The latent rows over the context rows. -/
def joined (a : FVec Ideal S8192x1024 .f32) (b : FVec Ideal S256x1024 .f32) : FVec Ideal S8448x1024 .f32 :=
  concatenate S8448x1024 0 [⟨S8192x1024, a⟩, ⟨S256x1024, b⟩] concatenates_S8192x1024_S256x1024_S8448x1024_d0

/-- A vector as one row. -/
def oneRow (a : FVec Ideal S1024 .f32) : FVec Ideal S1x1024 .f32 := broadcastInDim S1x1024 ![1] bcast_S1024_S1x1024_1 a

/-- The four modulation vectors in eight rows. -/
def mods (a b a' b' : FVec Ideal S1024 .f32) : FVec Ideal S8x1024 .f32 :=
  concatenate S8x1024 0 [⟨S4x1024, concatenate S4x1024 0 [⟨S2x1024, concatenate S2x1024 0 [⟨S1x1024, oneRow a⟩, ⟨S1x1024, oneRow b⟩]
      concatenates_S1x1024_S1x1024_S2x1024_d0⟩, ⟨S2x1024, concatenate S2x1024 0 [⟨S1x1024, oneRow a'⟩, ⟨S1x1024, oneRow b'⟩]
      concatenates_S1x1024_S1x1024_S2x1024_d0⟩] concatenates_S2x1024_S2x1024_S4x1024_d0⟩,
    ⟨S4x1024, broadcastInDim S4x1024 ![] bcast_S_S4x1024 (constant (F := Ideal) S_ .f32 0x00000000#32)⟩] concatenates_S4x1024_S4x1024_S8x1024_d0

theorem joined_lat (a : FVec Ideal S8192x1024 .f32) (b : FVec Ideal S256x1024 .f32) (n : Fin 8448) (h : n.val < 8192) (j : Fin 1024) :
    joined a b (ix2 n j) = a (ix2 ⟨n, h⟩ j) := by
  pointwise [joined]
  exact dif_pos h
theorem joined_ctx (a : FVec Ideal S8192x1024 .f32) (b : FVec Ideal S256x1024 .f32) (n : Fin 8448) (h : ¬ n.val < 8192) (j : Fin 1024) :
    joined a b (ix2 n j) = b (ix2 ⟨n - 8192, by omega⟩ j) := by
  pointwise [joined]
  exact dif_neg h
theorem oneRow_apply (a : FVec Ideal S1024 .f32) (j : Fin 1024) : oneRow a (ix2 0 j) = a (ix1 j) := by
  pointwise [oneRow]
theorem mods_lat (a b a' b' : FVec Ideal S1024 .f32) (j : Fin 1024) : mods a b a' b' (ix2 0 j) = a (ix1 j) := by
  pointwise [mods, oneRow]
theorem mods_ctx (a b a' b' : FVec Ideal S1024 .f32) (j : Fin 1024) : mods a b a' b' (ix2 2 j) = a' (ix1 j) := by
  pointwise [mods, oneRow]

abbrev X0 (c : Dev nD) : FVec Ideal S8192x1024 .f32 := m ((c : Thread nD τ).loc main_arg0)
abbrev X1 (c : Dev nD) : FVec Ideal S256x1024 .f32 := m ((c : Thread nD τ).loc main_arg1)
abbrev X2 (c : Dev nD) : FVec Ideal S1024 .f32 := m ((c : Thread nD τ).loc main_arg2)
abbrev X3 (c : Dev nD) : FVec Ideal S1024 .f32 := m ((c : Thread nD τ).loc main_arg3)
abbrev X4 (c : Dev nD) : FVec Ideal S1024 .f32 := m ((c : Thread nD τ).loc main_arg4)
abbrev X5 (c : Dev nD) : FVec Ideal S1024 .f32 := m ((c : Thread nD τ).loc main_arg5)
abbrev X6 (c : Dev nD) : FVec Ideal S1024 .f32 := m ((c : Thread nD τ).loc main_arg6)
abbrev X7 (c : Dev nD) : FVec Ideal S8192x1024 .f32 := m ((c : Thread nD τ).loc main_arg7)
abbrev X8 (c : Dev nD) : FVec Ideal S8192x1024 .f32 := m ((c : Thread nD τ).loc main_arg8)
abbrev X9 (c : Dev nD) : FVec Ideal S256x1024 .f32 := m ((c : Thread nD τ).loc main_arg9)

set_option maxHeartbeats 2000000 in
theorem x_entry (c : Dev nD) : (V m c main_v0 : Vec Ideal S8448x1024 .f32) = joined (X0 m c) (X1 m c) := by
  entry_read
  rfl
set_option maxHeartbeats 2000000 in
theorem dh_entry (c : Dev nD) : (V m c main_v1 : Vec Ideal S8448x1024 .f32) = joined (X8 m c) (X9 m c) := by
  entry_read
  rfl
set_option maxHeartbeats 2000000 in
theorem g_entry (c : Dev nD) : (V m c main_v11 : Vec Ideal S1x1024 .f32) = oneRow (X2 m c) := by
  entry_read
  rfl
set_option maxHeartbeats 2000000 in
theorem mods_entry (c : Dev nD) : (V m c main_v10 : Vec Ideal S8x1024 .f32) = mods (X4 m c) (X3 m c) (X6 m c) (X5 m c) := by
  entry_read
  rfl

/-- The blocks' places. -/
theorem idx : ∀ t : Fin cfg0.N, win0_0.index t = ![t.val, 0] ∧ win0_1.index t = ![t.val, 0] ∧ win0_2.index t = ![min t.val 31, 0] ∧
    win0_3.index t = ![0, 0] ∧ win0_4.index t = ![0, 0] ∧ win0_5.index t = ![t.val, 0] ∧ win0_6.index t = ![0, 0] ∧ win0_7.index t = ![0, 0] :=
  (by decide +kernel : ∀ t : Fin grid0.N, _)

theorem lt33 (t : Fin cfg0.N) : t.val < 33 := lt_of_lt_of_eq t.isLt (show cfg0.N = 33 from N_0)

/-- Row `r` of tile `t`. -/
abbrev at256 (t : Fin cfg0.N) (r : Fin 256) : Fin 8448 := ⟨256 * t.val + r, by have := lt33 t; omega⟩

theorem blk0 (c : Dev nD) (t : Fin cfg0.N) (r : Fin 256) (d : Fin 1024) : B0 m c t (ix2 r d) = joined (X0 m c) (X1 m c) (ix2 (at256 t r) d) := by
  have e : (win0_0.blk t).view.emb (ix2 r d) = ix2 (at256 t r) d := by
    blk_point [idx t]
  rw [← x_entry]
  unfold B0 iblk
  generalize V m c = W
  exact congrArg (W main_v0) e
theorem blk1 (c : Dev nD) (t : Fin cfg0.N) (r : Fin 256) (d : Fin 1024) : B1 m c t (ix2 r d) = joined (X8 m c) (X9 m c) (ix2 (at256 t r) d) := by
  have e : (win0_1.blk t).view.emb (ix2 r d) = ix2 (at256 t r) d := by
    blk_point [idx t]
  rw [← dh_entry]
  unfold B1 iblk
  generalize V m c = W
  exact congrArg (W main_v1) e
theorem blk2 (c : Dev nD) (t : Fin cfg0.N) (r : Fin 256) (d : Fin 1024) : B2 m c t (ix2 r d) = X7 m c (ix2 ⟨256 * min t.val 31 + r, by omega⟩ d) := by
  have e : (win0_2.blk t).view.emb (ix2 r d) = ix2 ⟨256 * min t.val 31 + r, by omega⟩ d := by
    blk_point [idx t]
  unfold X7
  rw [← V_main_arg7 m c]
  unfold B2 iblk
  generalize V m c = W
  exact congrArg (W main_arg7) e
theorem blk3 (c : Dev nD) (t : Fin cfg0.N) (d : Fin 1024) : B3 m c t (ix2 0 d) = X2 m c (ix1 d) := by
  have e : (win0_3.blk t).view.emb (ix2 0 d) = ix2 0 d := by
    blk_point [idx t]
  refine Eq.trans ?_ (oneRow_apply (X2 m c) d)
  rw [← g_entry]
  unfold B3 iblk
  generalize V m c = W
  exact congrArg (W main_v11) e
theorem blk4 (c : Dev nD) (t : Fin cfg0.N) (r : Fin 8) (d : Fin 1024) : B4 m c t (ix2 r d) = mods (X4 m c) (X3 m c) (X6 m c) (X5 m c) (ix2 r d) := by
  have e : (win0_4.blk t).view.emb (ix2 r d) = ix2 r d := by
    blk_point [idx t]
  rw [← mods_entry]
  unfold B4 iblk
  generalize V m c = W
  exact congrArg (W main_v10) e

/-! The arguments as rows. -/

abbrev xs (c : Dev nD) (n : Fin 8192) (k : Fin 1024) : EReal := X0 m c (ix2 n k)
abbrev xc (c : Dev nD) (n : Fin 256) (k : Fin 1024) : EReal := X1 m c (ix2 n k)
abbrev gs (c : Dev nD) (k : Fin 1024) : EReal := X2 m c (ix1 k)
abbrev ss (c : Dev nD) (k : Fin 1024) : EReal := X4 m c (ix1 k)
abbrev sc (c : Dev nD) (k : Fin 1024) : EReal := X6 m c (ix1 k)
abbrev hs (c : Dev nD) (n : Fin 8192) (k : Fin 1024) : EReal := X8 m c (ix2 n k)
abbrev hc (c : Dev nD) (n : Fin 256) (k : Fin 1024) : EReal := X9 m c (ix2 n k)

/-- Row `r` of the latent tile `t`. -/
abbrev latRow (t : Fin cfg0.N) (h : t.val < 32) (r : Fin 256) : Fin 8192 := ⟨256 * t.val + r, by omega⟩

/-- The blocks of a latent tile. -/
theorem lat_reads (c : Dev nD) (t : Fin cfg0.N) (h : t.val < 32) : (fun r k => B0 m c t (ix2 r k)) = (fun r => xs m c (latRow t h r))
    ∧ (fun r k => B1 m c t (ix2 r k)) = (fun r => hs m c (latRow t h r)) ∧ scale (B4 m c t) t = ss m c := by
  refine ⟨funext fun r => funext fun k => ?_, funext fun r => funext fun k => ?_, funext fun k => ?_⟩
  · exact (blk0 m c t r k).trans (joined_lat _ _ _ (by show 256 * t.val + r.val < 8192; omega) k)
  · exact (blk1 m c t r k).trans (joined_lat _ _ _ (by show 256 * t.val + r.val < 8192; omega) k)
  · unfold scale
    rw [if_pos h, blk4, mods_lat]

/-- The blocks of the context tile. -/
theorem ctx_reads (c : Dev nD) (t : Fin cfg0.N) (h : ¬ t.val < 32) : (fun r k => B0 m c t (ix2 r k)) = xc m c
    ∧ (fun r k => B1 m c t (ix2 r k)) = hc m c ∧ scale (B4 m c t) t = sc m c := by
  have h33 := lt33 t
  have e : ∀ r : Fin 256, (⟨256 * t.val + r.val - 8192, by omega⟩ : Fin 256) = r := fun r => Fin.ext (by show 256 * t.val + r.val - 8192 = r.val; omega)
  refine ⟨funext fun r => funext fun k => ?_, funext fun r => funext fun k => ?_, funext fun k => ?_⟩
  · exact (blk0 m c t r k).trans ((joined_ctx _ _ _ (by show ¬ 256 * t.val + r.val < 8192; omega) k).trans (congrArg (fun n => xc m c n k) (e r)))
  · exact (blk1 m c t r k).trans ((joined_ctx _ _ _ (by show ¬ 256 * t.val + r.val < 8192; omega) k).trans (congrArg (fun n => hc m c n k) (e r)))
  · unfold scale
    rw [if_neg h, blk4, mods_ctx]

theorem gain_reads (c : Dev nD) (t : Fin cfg0.N) : (fun k => B3 m c t (ix2 0 k)) = gs m c := funext fun k => blk3 m c t k

/-- The rows' gradient. -/
def dxAll (c : Dev nD) (n : Fin 8448) (j : Fin 1024) : EReal :=
  if h : n.val < 8192 then dxAt (xs m c) (hs m c) (gs m c) (ss m c) ⟨n, h⟩ j + X7 m c (ix2 ⟨n, h⟩ j)
  else dxAt (xc m c) (hc m c) (gs m c) (sc m c) ⟨n - 8192, by omega⟩ j

theorem dx_final (c : Dev nD) : (dats m 0 c).arrAt 5 cfg0.N = fun y : S8448x1024.Idx => dxAll m c (y 0) (y 1) := by
  refine (dats m 0 c).arrAt_eq_of_covers 5 _ (by decide +kernel) fun t _ y => ?_
  have e : ((cfg0.win 5).blk t).view.emb y = ix2 (at256 t (y 0)) (y 1) := by
    blk_point [idx t]
  have h33 := lt33 t
  rw [after0_5, e, dx_point m c t]
  refine (congrArg _ (eq_ix2 y)).trans ((dx_apply _ _ _ _ _ t (y 0) (y 1)).trans ?_)
  show _ = dxAll m c (at256 t (y 0)) (y 1)
  unfold dxAll
  by_cases h : t.val < 32
  · obtain ⟨e0, e1, e2⟩ := lat_reads m c t h
    rw [e0, e1, e2, gain_reads, if_pos h, dif_pos (show 256 * t.val + (y 0).val < 8192 by have := (show Fin 256 from y 0).isLt; have e : (y 0).val = (show Fin 256 from y 0).val := rfl; omega)]
    refine congrArg₂ (· + ·) rfl ((blk2 m c t (y 0) (y 1)).trans ?_)
    refine congrArg (fun n => X7 m c (ix2 n (y 1))) (Fin.ext ?_)
    show 256 * min t.val 31 + (y 0).val = 256 * t.val + (y 0).val
    rw [min_eq_left (by omega)]
  · obtain ⟨e0, e1, e2⟩ := ctx_reads m c t h
    rw [e0, e1, e2, gain_reads, if_neg h, add_zero, dif_neg (show ¬ 256 * t.val + (y 0).val < 8192 by omega)]
    refine congrArg (fun n => dxAt (xc m c) (hc m c) (gs m c) (sc m c) n (y 1)) (Fin.ext ?_)
    show (y 0).val = 256 * t.val + (y 0).val - 8192
    omega

/-- Thirty-two latent tiles and the context tile. -/
theorem tiles (t : Fin cfg0.N) (f : Fin cfg0.N → EReal) (a : Fin 8192 → EReal) (b : EReal)
    (ha : ∀ (s : Fin cfg0.N) (h : s.val < 32), f s = ∑ r : Fin 256, a (latRow s h r)) (hb : ∀ s : Fin cfg0.N, ¬ s.val < 32 → f s = b) :
    ∑ s : Fin 33, f ⟨33 * (t.val / 33) + s.val, by have := lt33 t; have : cfg0.N = 33 := N_0; omega⟩ = (∑ n, a n) + b := by
  have h33 := lt33 t
  have hN : cfg0.N = 33 := N_0
  rw [Fin.sum_univ_castSucc]
  refine congrArg₂ (· + ·) ?_ (hb ⟨33 * (t.val / 33) + 32, by omega⟩ (by show ¬ 33 * (t.val / 33) + 32 < 32; omega))
  refine Eq.trans ?_ (Fin.sum_univ_tiles 32 256 (by norm_num) _).symm
  refine Finset.sum_congr rfl fun s _ => (ha _ (by show 33 * (t.val / 33) + s.val < 32; omega)).trans (Finset.sum_congr rfl fun r _ => congrArg a (Fin.ext ?_))
  show 256 * (33 * (t.val / 33) + s.val) + r.val = s.val * 256 + r.val
  omega

/-- The gain's gradient in eight rows. -/
def dgAll (c : Dev nD) (k : Fin 8) (j : Fin 1024) : EReal :=
  if (k : ℕ) = 0 then (∑ n, dgAt (xs m c) (hs m c) (ss m c) n j) + ∑ n, dgAt (xc m c) (hc m c) (sc m c) n j else 0

theorem gain_block (c : Dev nD) (t : Fin cfg0.N) (ht : t.val % 33 = 32) (y : S8x1024.Idx) :
    (outsAt0 m c t.val t.isLt).2.1 y = dgAll m c (y 0) (y 1) := by
  have h := Pipeline.eq_sum_fin_of_reset_step_apply_of_flush (fun n h => (outsAt0 m c n h).2.1) 33 (fun _ => (0 : EReal))
    (fun s (y : S8x1024.Idx) => if ((y 0 : Fin 8) : ℕ) = 0 then
      ∑ r, dgAt (fun r k => B0 m c s (ix2 r k)) (fun r k => B1 m c s (ix2 r k)) (scale (B4 m c s) s) r (y 1) else (0 : EReal))
    (fun t h j => by
      refine (congrFun (gain_point_A m c t h) j).trans ((congrArg _ (eq_ix2 j)).trans ((gain_step _ _ _ t _ (j 0) (j 1)).trans ?_))
      exact congrArg (· + _) (zero_gain _))
    (fun t h j => by
      refine (congrFun (gain_point_B m c t h) j).trans ((congrArg _ (eq_ix2 j)).trans ((gain_step _ _ _ t _ (j 0) (j 1)).trans ?_))
      exact congrArg (fun z => (outsAt0 m c (t.val - 1) _).2.1 z + _) (eq_ix2 j).symm)
    t ht y
  rw [zero_add] at h
  refine h.trans ?_
  unfold dgAll
  by_cases hk : ((y 0 : Fin 8) : ℕ) = 0
  · simp only [if_pos hk]
    refine tiles t (fun s => ∑ r, dgAt (fun r k => B0 m c s (ix2 r k)) (fun r k => B1 m c s (ix2 r k)) (scale (B4 m c s) s) r (y 1))
      (fun n => dgAt (xs m c) (hs m c) (ss m c) n (y 1)) _ (fun s hs => ?_) (fun s hs => ?_)
    · obtain ⟨e0, e1, e2⟩ := lat_reads m c s hs
      show ∑ r, dgAt _ _ _ r (y 1) = _
      rw [e0, e1, e2]
      rfl
    · obtain ⟨e0, e1, e2⟩ := ctx_reads m c s hs
      show ∑ r, dgAt _ _ _ r (y 1) = _
      rw [e0, e1, e2]
  · simp only [if_neg hk]
    exact Finset.sum_const_zero

theorem gain_final (c : Dev nD) : (dats m 0 c).arrAt 6 cfg0.N = fun y : S8x1024.Idx => dgAll m c (y 0) (y 1) := by
  refine (dats m 0 c).arrAt_eq_of_covers 6 _ (by decide +kernel) fun t hf y => ?_
  have e : ((cfg0.win 6).blk t).view.emb y = ix2 (y 0) (y 1) := by
    blk_point [idx t]
  rw [after0_6, e]
  exact gain_block m c t ((flush0_6 t).mp hf) y

/-- The modulation's gradients in eight rows. -/
def dmAll (c : Dev nD) (k : Fin 8) (j : Fin 1024) : EReal :=
  (∑ n, if (k : ℕ) = 0 then dscAt (xs m c) (hs m c) (gs m c) n j else if (k : ℕ) = 1 then hs m c n j else 0)
    + if (k : ℕ) = 2 then ∑ n, dscAt (xc m c) (hc m c) (gs m c) n j else if (k : ℕ) = 3 then ∑ n, hc m c n j else 0

/-- What a tile adds to the modulation's rows. -/
def modShare (c : Dev nD) (s : Fin cfg0.N) (k : Fin 8) (j : Fin 1024) : EReal :=
  if s.val < 32 then (if (k : ℕ) = 0 then ∑ r, dscAt (fun r k => B0 m c s (ix2 r k)) (fun r k => B1 m c s (ix2 r k)) (fun k => B3 m c s (ix2 0 k)) r j
      else if (k : ℕ) = 1 then ∑ r, B1 m c s (ix2 r j) else 0)
    else (if (k : ℕ) = 2 then ∑ r, dscAt (fun r k => B0 m c s (ix2 r k)) (fun r k => B1 m c s (ix2 r k)) (fun k => B3 m c s (ix2 0 k)) r j
      else if (k : ℕ) = 3 then ∑ r, B1 m c s (ix2 r j) else 0)

theorem mod_block (c : Dev nD) (t : Fin cfg0.N) (ht : t.val % 33 = 32) (y : S8x1024.Idx) :
    (outsAt0 m c t.val t.isLt).2.2 y = dmAll m c (y 0) (y 1) := by
  have h := Pipeline.eq_sum_fin_of_reset_step_apply_of_flush (fun n h => (outsAt0 m c n h).2.2) 33 (fun _ => (0 : EReal))
    (fun s (y : S8x1024.Idx) => modShare m c s (y 0) (y 1))
    (fun t h j => by
      refine (congrFun (mod_point_A m c t h) j).trans ((congrArg _ (eq_ix2 j)).trans ((mod_step _ _ _ t _ (j 0) (j 1)).trans ?_))
      exact congrArg (· + _) (zero_mod _))
    (fun t h j => by
      refine (congrFun (mod_point_B m c t h) j).trans ((congrArg _ (eq_ix2 j)).trans ((mod_step _ _ _ t _ (j 0) (j 1)).trans ?_))
      exact congrArg (fun z => (outsAt0 m c (t.val - 1) _).2.2 z + _) (eq_ix2 j).symm)
    t ht y
  rw [zero_add] at h
  refine h.trans ?_
  unfold dmAll
  refine tiles t (fun s => modShare m c s (y 0) (y 1)) _ _ (fun s hs => ?_) (fun s hs => ?_)
  · obtain ⟨e0, e1, e2⟩ := lat_reads m c s hs
    have e1' : ∀ r, B1 m c s (ix2 r (y 1)) = Value.hs m c (latRow s hs r) (y 1) := fun r => congrFun (congrFun e1 r) (y 1)
    show modShare m c s (y 0) (y 1) = _
    unfold modShare
    rw [if_pos hs, e0, e1, gain_reads]
    simp only [e1']
    split
    · rfl
    · split
      · rfl
      · exact Finset.sum_const_zero.symm
  · obtain ⟨e0, e1, e2⟩ := ctx_reads m c s hs
    have e1' : ∀ r, B1 m c s (ix2 r (y 1)) = hc m c r (y 1) := fun r => congrFun (congrFun e1 r) (y 1)
    show modShare m c s (y 0) (y 1) = _
    unfold modShare
    rw [if_neg hs, e0, e1, gain_reads]
    simp only [e1']

theorem mod_final (c : Dev nD) : (dats m 0 c).arrAt 7 cfg0.N = fun y : S8x1024.Idx => dmAll m c (y 0) (y 1) := by
  refine (dats m 0 c).arrAt_eq_of_covers 7 _ (by decide +kernel) fun t hf y => ?_
  have e : ((cfg0.win 7).blk t).view.emb y = ix2 (y 0) (y 1) := by
    blk_point [idx t]
  rw [after0_7, e]
  exact mod_block m c t ((flush0_7 t).mp hf) y

end Cert.NormOneIdeal.Value

end
-- ==== Proof.Norm.FirstAgree.lean ====
/-
  The first norm's gradients in the reference program, row by row, and the agreement of the two programs.
-/
module

public import proofs.«01_k».proof.Proof.Norm.First
public import proofs.«01_k».proof.Proof.Gen.NormOneReferenceIdeal.Read

@[expose] public section

set_option maxRecDepth 16384

noncomputable section

open Idealize.ShloMosaic Idealize.ShloMosaic.TcCoe Idealize.SL.Sem

namespace Cert.NormOneReferenceIdeal.Rows

open Cert.NormOneReferenceIdeal Cert.NormOneReferenceIdeal.Read Cert.Norm

variable (x0 x7 x8 : FVec Ideal S8192x1024 .f32) (x1 x9 : FVec Ideal S256x1024 .f32) (x2 x4 x6 : FVec Ideal S1024 .f32)

/-- The latent rows' gradient. -/
theorem latent_rows (n : Fin 8192) (j : Fin 1024) : (val_main_v109 (F := Ideal) x0 x2 x4 x7 x8 (ix2 n j) : EReal)
    = dxAt (fun n k => x0 (ix2 n k)) (fun n k => x8 (ix2 n k)) (fun k => x2 (ix1 k)) (fun k => x4 (ix1 k)) n j + x7 (ix2 n j) := by
  pointwise [val_main_v109, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v33, val_main_v34, val_main_v35, val_main_v36, val_main_v37, val_main_v38, val_main_v39, val_main_cst_8, val_main_v40, val_main_v41, val_main_v42, val_main_v43, val_main_v44, val_main_v45, val_main_v46, val_main_v47, val_main_v48, val_main_cst_9, val_main_v49, val_main_v50, val_main_cst_10, val_main_v52, val_main_cst_11, val_main_v53, val_main_v54, val_main_v55, val_main_v56, val_main_cst_12, val_main_v58, val_main_cst_13, val_main_v59, val_main_v60, val_main_v61, val_main_v62, val_main_cst_14, val_main_v63, val_main_v64, val_main_cst_15, val_main_v65, val_main_v66, val_main_v67, val_main_v68, val_main_v69, val_main_cst_16, val_main_v70, val_main_v71, val_main_cst_17, val_main_v72, val_main_v73, val_main_v74, val_main_v75, val_main_v76, val_main_v78, val_main_cst_18, val_main_v79, val_main_v80, val_main_cst_19, val_main_v82, val_main_cst_20, val_main_v83, val_main_v84, val_main_v85, val_main_v86, val_main_cst_21, val_main_v88, val_main_cst_22, val_main_v89, val_main_v90, val_main_v91, val_main_v92, val_main_cst_23, val_main_v93, val_main_v95, val_main_cst_24, val_main_v96, val_main_v97, val_main_v98, val_main_v99, val_main_v100, val_main_v101, val_main_cst_25, val_main_v102, val_main_v103, val_main_cst_26, val_main_v104, val_main_v105, val_main_v106, val_main_v107, val_main_v108, val_main_v110, val_main_v111, val_main_v112, val_main_v113, val_main_v114, val_main_v116, val_main_cst_27, val_main_v117, val_main_cst_28, val_main_v119]
  simp only [Fin.sum_univ_one, quotient, add_assoc]
  rw [add_comm (x7 (ix2 n j))]
  unfold dxAt dx
  simp only [add_assoc]
  rfl

/-- The context rows' gradient. -/
theorem context_rows (n : Fin 256) (j : Fin 1024) : (val_main_v77 (F := Ideal) x1 x2 x6 x9 (ix2 n j) : EReal)
    = dxAt (fun n k => x1 (ix2 n k)) (fun n k => x9 (ix2 n k)) (fun k => x2 (ix1 k)) (fun k => x6 (ix1 k)) n j := by
  pointwise [val_main_v77, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v33, val_main_v34, val_main_v35, val_main_v36, val_main_v37, val_main_v38, val_main_v39, val_main_cst_8, val_main_v40, val_main_v41, val_main_v42, val_main_v43, val_main_v44, val_main_v45, val_main_v46, val_main_v47, val_main_v48, val_main_cst_9, val_main_v49, val_main_v50, val_main_cst_10, val_main_v52, val_main_cst_11, val_main_v53, val_main_v54, val_main_v55, val_main_v56, val_main_cst_12, val_main_v58, val_main_cst_13, val_main_v59, val_main_v60, val_main_v61, val_main_v62, val_main_cst_14, val_main_v63, val_main_v64, val_main_cst_15, val_main_v65, val_main_v66, val_main_v67, val_main_v68, val_main_v69, val_main_cst_16, val_main_v70, val_main_v71, val_main_cst_17, val_main_v72, val_main_v73, val_main_v74, val_main_v75, val_main_v76, val_main_v78, val_main_cst_18, val_main_v79, val_main_v80, val_main_cst_19, val_main_v82, val_main_cst_20, val_main_v83, val_main_v84, val_main_v85, val_main_v86, val_main_cst_21, val_main_v88, val_main_cst_22, val_main_v89, val_main_v90, val_main_v91, val_main_v92, val_main_cst_23, val_main_v93, val_main_v95, val_main_cst_24, val_main_v96, val_main_v97, val_main_v98, val_main_v99, val_main_v100, val_main_v101, val_main_cst_25, val_main_v102, val_main_v103, val_main_cst_26, val_main_v104, val_main_v105, val_main_v106, val_main_v107, val_main_v108, val_main_v110, val_main_v111, val_main_v112, val_main_v113, val_main_v114, val_main_v116, val_main_cst_27, val_main_v117, val_main_cst_28, val_main_v119]
  simp only [Fin.sum_univ_one, quotient]
  rfl

/-- The gain's gradient. -/
theorem gain_sum (j : Fin 1024) : (val_main_v94 (F := Ideal) x0 x1 x4 x6 x8 x9 (ix1 j) : EReal)
    = (∑ n, dgAt (fun n k => x0 (ix2 n k)) (fun n k => x8 (ix2 n k)) (fun k => x4 (ix1 k)) n j)
      + ∑ n, dgAt (fun n k => x1 (ix2 n k)) (fun n k => x9 (ix2 n k)) (fun k => x6 (ix1 k)) n j := by
  pointwise [val_main_v94, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v33, val_main_v34, val_main_v35, val_main_v36, val_main_v37, val_main_v38, val_main_v39, val_main_cst_8, val_main_v40, val_main_v41, val_main_v42, val_main_v43, val_main_v44, val_main_v45, val_main_v46, val_main_v47, val_main_v48, val_main_cst_9, val_main_v49, val_main_v50, val_main_cst_10, val_main_v52, val_main_cst_11, val_main_v53, val_main_v54, val_main_v55, val_main_v56, val_main_cst_12, val_main_v58, val_main_cst_13, val_main_v59, val_main_v60, val_main_v61, val_main_v62, val_main_cst_14, val_main_v63, val_main_v64, val_main_cst_15, val_main_v65, val_main_v66, val_main_v67, val_main_v68, val_main_v69, val_main_cst_16, val_main_v70, val_main_v71, val_main_cst_17, val_main_v72, val_main_v73, val_main_v74, val_main_v75, val_main_v76, val_main_v78, val_main_cst_18, val_main_v79, val_main_v80, val_main_cst_19, val_main_v82, val_main_cst_20, val_main_v83, val_main_v84, val_main_v85, val_main_v86, val_main_cst_21, val_main_v88, val_main_cst_22, val_main_v89, val_main_v90, val_main_v91, val_main_v92, val_main_cst_23, val_main_v93, val_main_v95, val_main_cst_24, val_main_v96, val_main_v97, val_main_v98, val_main_v99, val_main_v100, val_main_v101, val_main_cst_25, val_main_v102, val_main_v103, val_main_cst_26, val_main_v104, val_main_v105, val_main_v106, val_main_v107, val_main_v108, val_main_v110, val_main_v111, val_main_v112, val_main_v113, val_main_v114, val_main_v116, val_main_cst_27, val_main_v117, val_main_cst_28, val_main_v119]
  simp only [Fin.sum_univ_one, quotient]
  exact add_comm _ _

/-- The gradients of the latent scale and shift, and of the context's. -/
theorem scale_sum (j : Fin 1024) : (val_main_v87 (F := Ideal) x0 x2 x8 (ix1 j) : EReal)
    = ∑ n, dscAt (fun n k => x0 (ix2 n k)) (fun n k => x8 (ix2 n k)) (fun k => x2 (ix1 k)) n j := by
  pointwise [val_main_v87, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v33, val_main_v34, val_main_v35, val_main_v36, val_main_v37, val_main_v38, val_main_v39, val_main_cst_8, val_main_v40, val_main_v41, val_main_v42, val_main_v43, val_main_v44, val_main_v45, val_main_v46, val_main_v47, val_main_v48, val_main_cst_9, val_main_v49, val_main_v50, val_main_cst_10, val_main_v52, val_main_cst_11, val_main_v53, val_main_v54, val_main_v55, val_main_v56, val_main_cst_12, val_main_v58, val_main_cst_13, val_main_v59, val_main_v60, val_main_v61, val_main_v62, val_main_cst_14, val_main_v63, val_main_v64, val_main_cst_15, val_main_v65, val_main_v66, val_main_v67, val_main_v68, val_main_v69, val_main_cst_16, val_main_v70, val_main_v71, val_main_cst_17, val_main_v72, val_main_v73, val_main_v74, val_main_v75, val_main_v76, val_main_v78, val_main_cst_18, val_main_v79, val_main_v80, val_main_cst_19, val_main_v82, val_main_cst_20, val_main_v83, val_main_v84, val_main_v85, val_main_v86, val_main_cst_21, val_main_v88, val_main_cst_22, val_main_v89, val_main_v90, val_main_v91, val_main_v92, val_main_cst_23, val_main_v93, val_main_v95, val_main_cst_24, val_main_v96, val_main_v97, val_main_v98, val_main_v99, val_main_v100, val_main_v101, val_main_cst_25, val_main_v102, val_main_v103, val_main_cst_26, val_main_v104, val_main_v105, val_main_v106, val_main_v107, val_main_v108, val_main_v110, val_main_v111, val_main_v112, val_main_v113, val_main_v114, val_main_v116, val_main_cst_27, val_main_v117, val_main_cst_28, val_main_v119]
  simp only [Fin.sum_univ_one, quotient]
  rfl
theorem shift_sum (j : Fin 1024) : (val_main_v81 (F := Ideal) x8 (ix1 j) : EReal) = ∑ n : Fin 8192, x8 (ix2 n j) := by
  pointwise [val_main_v81, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v33, val_main_v34, val_main_v35, val_main_v36, val_main_v37, val_main_v38, val_main_v39, val_main_cst_8, val_main_v40, val_main_v41, val_main_v42, val_main_v43, val_main_v44, val_main_v45, val_main_v46, val_main_v47, val_main_v48, val_main_cst_9, val_main_v49, val_main_v50, val_main_cst_10, val_main_v52, val_main_cst_11, val_main_v53, val_main_v54, val_main_v55, val_main_v56, val_main_cst_12, val_main_v58, val_main_cst_13, val_main_v59, val_main_v60, val_main_v61, val_main_v62, val_main_cst_14, val_main_v63, val_main_v64, val_main_cst_15, val_main_v65, val_main_v66, val_main_v67, val_main_v68, val_main_v69, val_main_cst_16, val_main_v70, val_main_v71, val_main_cst_17, val_main_v72, val_main_v73, val_main_v74, val_main_v75, val_main_v76, val_main_v78, val_main_cst_18, val_main_v79, val_main_v80, val_main_cst_19, val_main_v82, val_main_cst_20, val_main_v83, val_main_v84, val_main_v85, val_main_v86, val_main_cst_21, val_main_v88, val_main_cst_22, val_main_v89, val_main_v90, val_main_v91, val_main_v92, val_main_cst_23, val_main_v93, val_main_v95, val_main_cst_24, val_main_v96, val_main_v97, val_main_v98, val_main_v99, val_main_v100, val_main_v101, val_main_cst_25, val_main_v102, val_main_v103, val_main_cst_26, val_main_v104, val_main_v105, val_main_v106, val_main_v107, val_main_v108, val_main_v110, val_main_v111, val_main_v112, val_main_v113, val_main_v114, val_main_v116, val_main_cst_27, val_main_v117, val_main_cst_28, val_main_v119]
  simp only [Fin.sum_univ_one]
theorem context_scale_sum (j : Fin 1024) : (val_main_v57 (F := Ideal) x1 x2 x9 (ix1 j) : EReal)
    = ∑ n, dscAt (fun n k => x1 (ix2 n k)) (fun n k => x9 (ix2 n k)) (fun k => x2 (ix1 k)) n j := by
  pointwise [val_main_v57, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v33, val_main_v34, val_main_v35, val_main_v36, val_main_v37, val_main_v38, val_main_v39, val_main_cst_8, val_main_v40, val_main_v41, val_main_v42, val_main_v43, val_main_v44, val_main_v45, val_main_v46, val_main_v47, val_main_v48, val_main_cst_9, val_main_v49, val_main_v50, val_main_cst_10, val_main_v52, val_main_cst_11, val_main_v53, val_main_v54, val_main_v55, val_main_v56, val_main_cst_12, val_main_v58, val_main_cst_13, val_main_v59, val_main_v60, val_main_v61, val_main_v62, val_main_cst_14, val_main_v63, val_main_v64, val_main_cst_15, val_main_v65, val_main_v66, val_main_v67, val_main_v68, val_main_v69, val_main_cst_16, val_main_v70, val_main_v71, val_main_cst_17, val_main_v72, val_main_v73, val_main_v74, val_main_v75, val_main_v76, val_main_v78, val_main_cst_18, val_main_v79, val_main_v80, val_main_cst_19, val_main_v82, val_main_cst_20, val_main_v83, val_main_v84, val_main_v85, val_main_v86, val_main_cst_21, val_main_v88, val_main_cst_22, val_main_v89, val_main_v90, val_main_v91, val_main_v92, val_main_cst_23, val_main_v93, val_main_v95, val_main_cst_24, val_main_v96, val_main_v97, val_main_v98, val_main_v99, val_main_v100, val_main_v101, val_main_cst_25, val_main_v102, val_main_v103, val_main_cst_26, val_main_v104, val_main_v105, val_main_v106, val_main_v107, val_main_v108, val_main_v110, val_main_v111, val_main_v112, val_main_v113, val_main_v114, val_main_v116, val_main_cst_27, val_main_v117, val_main_cst_28, val_main_v119]
  simp only [Fin.sum_univ_one, quotient]
  rfl
theorem context_shift_sum (j : Fin 1024) : (val_main_v51 (F := Ideal) x9 (ix1 j) : EReal) = ∑ n : Fin 256, x9 (ix2 n j) := by
  pointwise [val_main_v51, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v33, val_main_v34, val_main_v35, val_main_v36, val_main_v37, val_main_v38, val_main_v39, val_main_cst_8, val_main_v40, val_main_v41, val_main_v42, val_main_v43, val_main_v44, val_main_v45, val_main_v46, val_main_v47, val_main_v48, val_main_cst_9, val_main_v49, val_main_v50, val_main_cst_10, val_main_v52, val_main_cst_11, val_main_v53, val_main_v54, val_main_v55, val_main_v56, val_main_cst_12, val_main_v58, val_main_cst_13, val_main_v59, val_main_v60, val_main_v61, val_main_v62, val_main_cst_14, val_main_v63, val_main_v64, val_main_cst_15, val_main_v65, val_main_v66, val_main_v67, val_main_v68, val_main_v69, val_main_cst_16, val_main_v70, val_main_v71, val_main_cst_17, val_main_v72, val_main_v73, val_main_v74, val_main_v75, val_main_v76, val_main_v78, val_main_cst_18, val_main_v79, val_main_v80, val_main_cst_19, val_main_v82, val_main_cst_20, val_main_v83, val_main_v84, val_main_v85, val_main_v86, val_main_cst_21, val_main_v88, val_main_cst_22, val_main_v89, val_main_v90, val_main_v91, val_main_v92, val_main_cst_23, val_main_v93, val_main_v95, val_main_cst_24, val_main_v96, val_main_v97, val_main_v98, val_main_v99, val_main_v100, val_main_v101, val_main_cst_25, val_main_v102, val_main_v103, val_main_cst_26, val_main_v104, val_main_v105, val_main_v106, val_main_v107, val_main_v108, val_main_v110, val_main_v111, val_main_v112, val_main_v113, val_main_v114, val_main_v116, val_main_cst_27, val_main_v117, val_main_cst_28, val_main_v119]
  simp only [Fin.sum_univ_one]

end Cert.NormOneReferenceIdeal.Rows

namespace Cert.NormOneIdeal.Value

open Cert.NormOneIdeal Cert.NormOneIdeal.Gen Cert.Norm Cert.NormOneReferenceIdeal.Read Cert.NormOneReferenceIdeal.Rows

variable (m : (ℓ : Loc nD τ sig) → Buf (Elt Ideal) ℓ)

theorem rows_agree (c : Dev nD) : (dats m 0 c).arrAt 5 cfg0.N
    = val_main_v115 (F := Ideal) (X0 m c) (X1 m c) (X2 m c) (X4 m c) (X6 m c) (X7 m c) (X8 m c) (X9 m c) := by
  rw [dx_final]
  refine funext fun y => ?_
  refine Eq.trans ?_ (congrArg (val_main_v115 (F := Ideal) (X0 m c) (X1 m c) (X2 m c) (X4 m c) (X6 m c) (X7 m c) (X8 m c) (X9 m c)) (eq_ix2 y).symm)
  generalize y 0 = n
  generalize y 1 = j
  show dxAll m c n j = _
  unfold dxAll
  pointwise [val_main_v115]
  by_cases h : (show Fin 8448 from n).val < 8192
  · rw [dif_pos h, dif_pos h]
    exact (latent_rows _ _ _ _ _ _ _).symm
  · rw [dif_neg h, dif_neg h]
    exact (context_rows _ _ _ _ _ _).symm

theorem gain_agree (c : Dev nD) : (dats m 0 c).arrAt 6 cfg0.N
    = val_main_v118 (F := Ideal) (X0 m c) (X1 m c) (X4 m c) (X6 m c) (X8 m c) (X9 m c) := by
  rw [gain_final]
  refine funext fun y => ?_
  refine Eq.trans ?_ (congrArg (val_main_v118 (F := Ideal) (X0 m c) (X1 m c) (X4 m c) (X6 m c) (X8 m c) (X9 m c)) (eq_ix2 y).symm)
  generalize y 0 = n
  generalize y 1 = j
  show dgAll m c n j = _
  unfold dgAll
  pointwise [val_main_v118, val_main_v116, val_main_v117, val_main_cst_27]
  by_cases h : (show Fin 8 from n).val = 0
  · rw [if_pos h, dif_pos (show (show Fin 8 from n).val < 1 by omega)]
    exact (gain_sum _ _ _ _ _ _ _).symm
  · rw [if_neg h, dif_neg (show ¬ (show Fin 8 from n).val < 1 by omega)]

theorem mods_rows (c : Dev nD) (n : Fin 8) (j : Fin 1024) :
    dmAll m c n j = val_main_v120 (F := Ideal) (X0 m c) (X1 m c) (X2 m c) (X8 m c) (X9 m c) (ix2 n j) := by
  unfold dmAll
  pointwise [val_main_v120, val_main_v119, val_main_cst_28, val_main_v114, val_main_v113, val_main_v112, val_main_v111, val_main_v110]
  rw [scale_sum, shift_sum, context_scale_sum, context_shift_sum]
  have hn : (n : ℕ) = 0 ∨ (n : ℕ) = 1 ∨ (n : ℕ) = 2 ∨ (n : ℕ) = 3 ∨ 4 ≤ (n : ℕ) := by omega
  rcases hn with h | h | h | h | h
  · simp only [h, if_pos, reduceIte, add_zero, dif_pos, Nat.zero_lt_succ, Nat.reduceEqDiff, OfNat.zero_ne_ofNat, reduceDIte]
  · simp [h]
  · simp [h]
  · simp [h]
  · simp [show ¬ (n : ℕ) = 0 by omega, show ¬ (n : ℕ) = 1 by omega, show ¬ (n : ℕ) = 2 by omega, show ¬ (n : ℕ) = 3 by omega,
      show ¬ (n : ℕ) < 4 by omega]

theorem mods_agree (c : Dev nD) : (dats m 0 c).arrAt 7 cfg0.N
    = val_main_v120 (F := Ideal) (X0 m c) (X1 m c) (X2 m c) (X8 m c) (X9 m c) := by
  rw [mod_final]
  exact funext fun y => (mods_rows m c (y 0) (y 1)).trans
    (congrArg (val_main_v120 (F := Ideal) (X0 m c) (X1 m c) (X2 m c) (X8 m c) (X9 m c)) (eq_ix2 y).symm)

theorem rows_same (c : Dev nD) (x0 : FVec Ideal S8192x1024 .f32) (x1 : FVec Ideal S256x1024 .f32) (x2 : FVec Ideal S1024 .f32) (x4 : FVec Ideal S1024 .f32) (x6 : FVec Ideal S1024 .f32) (x7 : FVec Ideal S8192x1024 .f32) (x8 : FVec Ideal S8192x1024 .f32) (x9 : FVec Ideal S256x1024 .f32)
    (a0 : x0 = m ((c : Thread nD τ).loc main_arg0)) (a1 : x1 = m ((c : Thread nD τ).loc main_arg1)) (a2 : x2 = m ((c : Thread nD τ).loc main_arg2)) (a4 : x4 = m ((c : Thread nD τ).loc main_arg4)) (a6 : x6 = m ((c : Thread nD τ).loc main_arg6)) (a7 : x7 = m ((c : Thread nD τ).loc main_arg7)) (a8 : x8 = m ((c : Thread nD τ).loc main_arg8)) (a9 : x9 = m ((c : Thread nD τ).loc main_arg9)) :
    Cert.NormOneReferenceIdeal.Read.val_main_v115 (F := Ideal) x0 x1 x2 x4 x6 x7 x8 x9 = (dats m 0 c).arrAt 5 cfg0.N := by
  subst a0 a1 a2 a4 a6 a7 a8 a9
  exact (rows_agree m c).symm

theorem gain_same (c : Dev nD) (x0 : FVec Ideal S8192x1024 .f32) (x1 : FVec Ideal S256x1024 .f32) (x4 : FVec Ideal S1024 .f32) (x6 : FVec Ideal S1024 .f32) (x8 : FVec Ideal S8192x1024 .f32) (x9 : FVec Ideal S256x1024 .f32)
    (a0 : x0 = m ((c : Thread nD τ).loc main_arg0)) (a1 : x1 = m ((c : Thread nD τ).loc main_arg1)) (a4 : x4 = m ((c : Thread nD τ).loc main_arg4)) (a6 : x6 = m ((c : Thread nD τ).loc main_arg6)) (a8 : x8 = m ((c : Thread nD τ).loc main_arg8)) (a9 : x9 = m ((c : Thread nD τ).loc main_arg9)) :
    Cert.NormOneReferenceIdeal.Read.val_main_v118 (F := Ideal) x0 x1 x4 x6 x8 x9 = (dats m 0 c).arrAt 6 cfg0.N := by
  subst a0 a1 a4 a6 a8 a9
  exact (gain_agree m c).symm

theorem mods_same (c : Dev nD) (x0 : FVec Ideal S8192x1024 .f32) (x1 : FVec Ideal S256x1024 .f32) (x2 : FVec Ideal S1024 .f32) (x8 : FVec Ideal S8192x1024 .f32) (x9 : FVec Ideal S256x1024 .f32)
    (a0 : x0 = m ((c : Thread nD τ).loc main_arg0)) (a1 : x1 = m ((c : Thread nD τ).loc main_arg1)) (a2 : x2 = m ((c : Thread nD τ).loc main_arg2)) (a8 : x8 = m ((c : Thread nD τ).loc main_arg8)) (a9 : x9 = m ((c : Thread nD τ).loc main_arg9)) :
    Cert.NormOneReferenceIdeal.Read.val_main_v120 (F := Ideal) x0 x1 x2 x8 x9 = (dats m 0 c).arrAt 7 cfg0.N := by
  subst a0 a1 a2 a8 a9
  exact (mods_agree m c).symm

end Cert.NormOneIdeal.Value

end
-- ==== Proof.QkvFwd.Spec.lean ====
/-
  Heads of 96 columns in blocks of 128: the norm of a padded head, and its rotation by two shifts of the columns.
-/
module

public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

open Idealize.ShloMosaic

namespace Cert.Heads

/-- A row's norm `x · rsqrt(∑ x² · c + ε) · g`, where `c` is the inverse of the row's length. -/
def inv {n : ℕ} (c : EReal) (x : Fin n → EReal) : EReal := Ideal.rsqrt ((∑ k, x k * x k) * c + Ideal.ofBits .f32 0x358637BD#32)
def normed {n : ℕ} (c : EReal) (x g : Fin n → EReal) (j : Fin n) : EReal := x j * inv c x * g j

/-- A head in its block: zeros behind its columns. -/
def wide {k : ℕ} (f : Fin k → EReal) (d : Fin 128) : EReal := if h : (d : ℕ) < k then f ⟨d, h⟩ else 0

theorem wide_low {k : ℕ} (f : Fin k → EReal) (d : Fin 128) (h : (d : ℕ) < k) : wide f d = f ⟨d, h⟩ := dif_pos h
theorem wide_high {k : ℕ} (f : Fin k → EReal) (d : Fin 128) (h : ¬ (d : ℕ) < k) : wide f d = 0 := dif_neg h

theorem sum_mul_wide {n k : ℕ} (c : Fin n → EReal) (f : Fin n → Fin k → EReal) (d : Fin 128) :
    ∑ j, c j * wide (f j) d = wide (fun e => ∑ j, c j * f j e) d := by
  unfold wide
  split
  · rfl
  · exact Finset.sum_eq_zero fun j _ => mul_zero _

theorem squares_wide (f : Fin 96 → EReal) : ∑ d, wide f d * wide f d = ∑ e, f e * f e := by
  refine (Fin.sum_univ_add (a := 96) (b := 32) fun d => wide f d * wide f d).trans ?_
  have h : ∀ d : Fin 32, wide f (Fin.natAdd 96 d) * wide f (Fin.natAdd 96 d) = 0 := fun d => by
    rw [wide_high f _ (by simp), mul_zero]
  rw [Finset.sum_congr rfl fun d _ => h d, Finset.sum_const_zero, add_zero]
  exact Finset.sum_congr rfl fun d _ => by
    rw [wide_low f (Fin.castAdd 32 d) d.isLt]
    rfl

theorem normed_wide (c : EReal) (f g : Fin 96 → EReal) (d : Fin 128) : normed c (wide f) (wide g) d = wide (normed c f g) d := by
  unfold normed inv
  rw [squares_wide]
  by_cases h : (d : ℕ) < 96
  · simp only [wide_low _ d h]
  · rw [wide_high g d h, mul_zero]
    exact (wide_high _ d h).symm

/-- A head's columns 64 … 95 rotated in pairs sixteen apart. -/
def turn (y : Fin 96 → EReal) (cs sn : Fin 16 → EReal) (e : Fin 96) : EReal :=
  if h : (e : ℕ) < 64 then y e
  else if h' : (e : ℕ) < 80 then y e * cs ⟨e - 64, by omega⟩ - y ⟨e + 16, by omega⟩ * sn ⟨e - 64, by omega⟩
  else y ⟨e - 16, by omega⟩ * sn ⟨e - 80, by omega⟩ + y e * cs ⟨e - 80, by omega⟩

/-- The three tables a head is multiplied with. -/
def still (cs : Fin 16 → EReal) (d : Fin 128) : EReal :=
  if h : (d : ℕ) < 64 then 1 else if h' : (d : ℕ) < 80 then cs ⟨d - 64, by omega⟩ else if h'' : (d : ℕ) < 96 then cs ⟨d - 80, by omega⟩ else 0
def behind (sn : Fin 16 → EReal) (d : Fin 128) : EReal := if h : 80 ≤ (d : ℕ) ∧ (d : ℕ) < 96 then sn ⟨d - 80, by omega⟩ else 0
def ahead (sn : Fin 16 → EReal) (d : Fin 128) : EReal := if h : 64 ≤ (d : ℕ) ∧ (d : ℕ) < 80 then - sn ⟨d - 64, by omega⟩ else 0

/-- A head shifted right or left by sixteen columns, around its block. -/
abbrev before (d : Fin 128) : Fin 128 := ⟨((d : ℕ) + 112) % 128, by omega⟩
abbrev after (d : Fin 128) : Fin 128 := ⟨((d : ℕ) + 16) % 128, by omega⟩

theorem turn_wide (y : Fin 96 → EReal) (cs sn : Fin 16 → EReal) (d : Fin 128) :
    wide y d * still cs d + wide y (before d) * behind sn d + wide y (after d) * ahead sn d = wide (turn y cs sn) d := by
  unfold still behind ahead
  by_cases h1 : (d : ℕ) < 64
  · rw [dif_pos h1, dif_neg (by omega), dif_neg (by omega), wide_low _ d (by omega), wide_low _ d (by omega)]
    unfold turn
    rw [dif_pos h1, mul_zero, mul_zero, add_zero, add_zero, mul_one]
  · by_cases h2 : (d : ℕ) < 80
    · have e : wide y (after d) = y ⟨d + 16, by omega⟩ :=
        (wide_low y _ (by show ((d : ℕ) + 16) % 128 < 96; omega)).trans (congrArg y (Fin.ext (by show ((d : ℕ) + 16) % 128 = d + 16; omega)))
      rw [dif_neg h1, dif_pos h2, dif_neg (by omega), dif_pos (by omega), wide_low _ d (by omega), wide_low _ d (by omega), e]
      unfold turn
      rw [dif_neg h1, dif_pos h2, mul_zero, add_zero, mul_neg, sub_eq_add_neg]
    · by_cases h3 : (d : ℕ) < 96
      · have e : wide y (before d) = y ⟨d - 16, by omega⟩ :=
          (wide_low y _ (by show ((d : ℕ) + 112) % 128 < 96; omega)).trans (congrArg y (Fin.ext (by show ((d : ℕ) + 112) % 128 = d - 16; omega)))
        rw [dif_neg h1, dif_neg h2, dif_pos h3, dif_pos (by omega), dif_neg (by omega), wide_low _ d h3, wide_low _ d h3, e]
        unfold turn
        rw [dif_neg h1, dif_neg h2, mul_zero, add_zero, add_comm]
      · rw [wide_high _ d h3, wide_high _ d h3, dif_neg h1, dif_neg h2, dif_neg h3, dif_neg (by omega), dif_neg (by omega), mul_zero, mul_zero, mul_zero, add_zero, add_zero]

/-- A quotient by the row's length is a product with its inverse. -/
theorem quotient384 (a : EReal) : Ideal.div a (Ideal.ofBits .f32 0x43C00000#32) = a * ((1 / 384 : ℝ) : EReal) := by
  have e : Ideal.ofBits .f32 0x43C00000#32 = ((384 : ℝ) : EReal) := by
    simp [Ideal.ofBits, Ideal.ieee, -EReal.coe_mul]; norm_num
  rw [e, Ideal.div_coe (by norm_num)]
theorem quotient96 (a : EReal) : Ideal.div a (Ideal.ofBits .f32 0x42C00000#32) = a * ((1 / 96 : ℝ) : EReal) := by
  have e : Ideal.ofBits .f32 0x42C00000#32 = ((96 : ℝ) : EReal) := by
    simp [Ideal.ofBits, Ideal.ieee, -EReal.coe_mul]; norm_num
  rw [e, Ideal.div_coe (by norm_num)]
theorem quotient256 (a : EReal) : Ideal.div a (Ideal.ofBits .f32 0x43800000#32) = a * ((1 / 256 : ℝ) : EReal) := by
  have e : Ideal.ofBits .f32 0x43800000#32 = ((256 : ℝ) : EReal) := by
    simp [Ideal.ofBits, Ideal.ieee, -EReal.coe_mul]; norm_num
  rw [e, Ideal.div_coe (by norm_num)]
theorem word256 : Ideal.ofBits .f32 0x3B800000#32 = ((1 / 256 : ℝ) : EReal) := by
  simp [Ideal.ofBits, Ideal.ieee, -EReal.coe_mul]; norm_num

end Cert.Heads

end
-- ==== Proof.QkvFwd.Reference.lean ====
/-
  Reference.py's queries, keys and values at one row.
-/
module

public import proofs.«01_k».proof.Proof.Gen.QkvFwdReferenceIdeal.Read
public import proofs.«01_k».proof.Proof.QkvFwd.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvFwdReferenceIdeal.Rows

open Cert.QkvFwdReferenceIdeal Cert.QkvFwdReferenceIdeal.Gen Cert.QkvFwdReferenceIdeal.Read Cert.Heads

section
variable (y : FVec Ideal S8448x8x96 .f32) (a b : FVec Ideal S8192x16 .f32)

/-- A latent row among all rows. -/
abbrev among (n : Fin 8192) : Fin 8448 := ⟨n, by omega⟩

/-! The rotation of the latent rows' heads. -/

def first : FVec Ideal S8192x8x16 .f32 := extractStridedSlice S8192x8x16 ![0, 0, 64] y slices_S8448x8x96_S8192x8x16_0_0_64
def second : FVec Ideal S8192x8x16 .f32 := extractStridedSlice S8192x8x16 ![0, 0, 80] y slices_S8448x8x96_S8192x8x16_0_0_80
def over : FVec Ideal S8192x8x16 .f32 :=
  broadcastInDim S8192x8x16 ![0, 1, 2] bcast_S8192x1x16_S8192x8x16_0_1_2 (broadcastInDim S8192x1x16 ![0, 2] bcast_S8192x16_S8192x1x16_0_2 a)
def pair : FVec Ideal S8192x8x32 .f32 :=
  concatenate S8192x8x32 2 [⟨S8192x8x16, subf (mulf (first y) (over a)) (mulf (second y) (over b))⟩,
    ⟨S8192x8x16, addf (mulf (first y) (over b)) (mulf (second y) (over a))⟩] concatenates_S8192x8x16_S8192x8x16_S8192x8x32_d2
def latent : FVec Ideal S8192x8x96 .f32 :=
  concatenate S8192x8x96 2 [⟨S8192x8x64, extractStridedSlice S8192x8x64 ![0, 0, 0] y slices_S8448x8x96_S8192x8x64_0_0_0⟩,
    ⟨S8192x8x32, pair y a b⟩] concatenates_S8192x8x64_S8192x8x32_S8192x8x96_d2
def both : FVec Ideal S8448x8x96 .f32 :=
  concatenate S8448x8x96 0 [⟨S8192x8x96, latent y a b⟩, ⟨S256x8x96, extractStridedSlice S256x8x96 ![8192, 0, 0] y slices_S8448x8x96_S256x8x96_8192_0_0⟩]
    concatenates_S8192x8x96_S256x8x96_S8448x8x96_d0
def laid : FVec Ideal S8448x1024 .bf16 :=
  truncf .bf16 (shapeCast S8448x1024 (pad S8448x8x128 ![0, 0, 0] ![0, 0, 32] ![0, 0, 0] y (constant (F := Ideal) S_ .f32 0x00000000#32)
    pads_S8448x8x96_S8448x8x128_000_000_0320 h_S_) shapeCasts_S8448x8x128_S8448x1024) bitsLt_bf16_f32

theorem first_apply (n : Fin 8192) (h : Fin 8) (j : Fin 16) : (first y (ix3 n h j) : EReal) = y (ix3 (among n) h ⟨64 + j, by omega⟩) := by
  pointwise [first]
theorem second_apply (n : Fin 8192) (h : Fin 8) (j : Fin 16) : (second y (ix3 n h j) : EReal) = y (ix3 (among n) h ⟨80 + j, by omega⟩) := by
  pointwise [second]
theorem over_apply (n : Fin 8192) (h : Fin 8) (j : Fin 16) : (over a (ix3 n h j) : EReal) = a (ix2 n j) := by
  pointwise [over]
theorem pair_low (n : Fin 8192) (h : Fin 8) (j : Fin 32) (hj : j.val < 16) : (pair y a b (ix3 n h j) : EReal)
    = first y (ix3 n h ⟨j, hj⟩) * a (ix2 n ⟨j, hj⟩) - second y (ix3 n h ⟨j, hj⟩) * b (ix2 n ⟨j, hj⟩) := by
  rw [← over_apply a n h, ← over_apply b n h]
  pointwise [pair]
  exact dif_pos hj
theorem pair_high (n : Fin 8192) (h : Fin 8) (j : Fin 32) (hj : ¬ j.val < 16) : (pair y a b (ix3 n h j) : EReal)
    = first y (ix3 n h ⟨j - 16, by omega⟩) * b (ix2 n ⟨j - 16, by omega⟩) + second y (ix3 n h ⟨j - 16, by omega⟩) * a (ix2 n ⟨j - 16, by omega⟩) := by
  rw [← over_apply a n h, ← over_apply b n h]
  pointwise [pair]
  exact dif_neg hj
theorem latent_low (n : Fin 8192) (h : Fin 8) (e : Fin 96) (he : e.val < 64) : (latent y a b (ix3 n h e) : EReal) = y (ix3 (among n) h e) := by
  pointwise [latent]
  exact dif_pos he
theorem latent_high (n : Fin 8192) (h : Fin 8) (e : Fin 96) (he : ¬ e.val < 64) : (latent y a b (ix3 n h e) : EReal)
    = pair y a b (ix3 n h ⟨e - 64, by omega⟩) := by
  pointwise [latent]
  exact dif_neg he
theorem both_low (n : Fin 8448) (hn : n.val < 8192) (h : Fin 8) (e : Fin 96) : (both y a b (ix3 n h e) : EReal) = latent y a b (ix3 ⟨n, hn⟩ h e) := by
  pointwise [both]
  exact dif_pos hn
theorem both_high (n : Fin 8448) (hn : ¬ n.val < 8192) (h : Fin 8) (e : Fin 96) : (both y a b (ix3 n h e) : EReal) = y (ix3 n h e) := by
  pointwise [both]
  rw [dif_neg hn]
  exact congrArg (fun k => y (ix3 k h e)) (Fin.ext (by show 8192 + ((n : ℕ) - 8192) = n; omega))

/-- A row's cosines and sines: one and zero for the context rows. -/
def cosAt (n : Fin 8448) (j : Fin 16) : EReal := if h : n.val < 8192 then a (ix2 ⟨n, h⟩ j) else 1
def sinAt (n : Fin 8448) (j : Fin 16) : EReal := if h : n.val < 8192 then b (ix2 ⟨n, h⟩ j) else 0

theorem turn_still (f : Fin 96 → EReal) (e : Fin 96) : turn f (fun _ => 1) (fun _ => 0) e = f e := by
  unfold turn
  simp

theorem both_apply (n : Fin 8448) (h : Fin 8) (e : Fin 96) : (both y a b (ix3 n h e) : EReal)
    = turn (fun e => y (ix3 n h e)) (cosAt a n) (sinAt b n) e := by
  by_cases hn : n.val < 8192
  · have hc : cosAt a n = fun j => a (ix2 ⟨n, hn⟩ j) := funext fun j => dif_pos hn
    have hs : sinAt b n = fun j => b (ix2 ⟨n, hn⟩ j) := funext fun j => dif_pos hn
    rw [both_low y a b n hn, hc, hs]
    unfold turn
    by_cases h1 : (e : ℕ) < 64
    · rw [dif_pos h1, latent_low y a b _ h e h1]
    · rw [dif_neg h1, latent_high y a b _ h e h1]
      by_cases h2 : (e : ℕ) < 80
      · rw [dif_pos h2, pair_low y a b _ h _ (by show (e : ℕ) - 64 < 16; omega), first_apply, second_apply]
        refine congrArg₂ (fun p q => y (ix3 n h p) * a _ - y (ix3 n h q) * b _) (Fin.ext ?_) (Fin.ext ?_)
        · show 64 + ((e : ℕ) - 64) = e
          omega
        · show 80 + ((e : ℕ) - 64) = e + 16
          omega
      · rw [dif_neg h2, pair_high y a b _ h _ (by show ¬ (e : ℕ) - 64 < 16; omega), first_apply, second_apply]
        have hj : (⟨(e : ℕ) - 64 - 16, by omega⟩ : Fin 16) = ⟨e - 80, by omega⟩ := Fin.ext (by show (e : ℕ) - 64 - 16 = e - 80; omega)
        refine (congrArg (fun j : Fin 16 => y (ix3 n h ⟨64 + j, by omega⟩) * b (ix2 ⟨n, hn⟩ j) + y (ix3 n h ⟨80 + j, by omega⟩) * a (ix2 ⟨n, hn⟩ j)) hj).trans ?_
        refine congrArg₂ (fun p q => y (ix3 n h p) * b _ + y (ix3 n h q) * a _) (Fin.ext ?_) (Fin.ext ?_)
        · show 64 + ((e : ℕ) - 80) = e - 16
          omega
        · show 80 + ((e : ℕ) - 80) = e
          omega
  · have hc : cosAt a n = fun _ => 1 := funext fun j => dif_neg hn
    have hs : sinAt b n = fun _ => 0 := funext fun j => dif_neg hn
    rw [both_high y a b n hn, hc, hs, turn_still]

/-- A column's head, and its place in the head's block. -/
abbrev headOf (p : Fin 1024) : Fin 8 := ⟨(p : ℕ) / 128, by omega⟩
abbrev colOf (p : Fin 1024) : Fin 128 := ⟨(p : ℕ) % 128, by omega⟩

theorem laid_apply (n : Fin 8448) (p : Fin 1024) : (laid y (ix2 n p) : EReal) = wide (fun e => y (ix3 n (headOf p) e)) (colOf p) := by
  unfold wide
  pointwise [laid]
  by_cases h : (p : ℕ) % 128 < 96
  · rw [dif_pos h, dif_pos ⟨by omega, h⟩]
  · rw [dif_neg h, dif_neg fun h' => h h'.2]
end

variable (x0 : FVec Ideal S8448x384 .f32) (x1 : FVec Ideal S8448x256 .f32) (x2 : FVec Ideal S8448x32 .f32) (x3 : FVec Ideal S384 .f32)
  (x4 : FVec Ideal S384x768 .f32) (x5 : FVec Ideal S256 .f32) (x6 : FVec Ideal S256x1024 .f32) (x7 x8 : FVec Ideal S96 .f32)
  (x9 x10 : FVec Ideal S8192x16 .f32)

/-- The queries' and the keys' rows behind their first norms. -/
def qn (n : Fin 8448) : Fin 384 → EReal := normed ((1 / 384 : ℝ) : EReal) (fun k => x0 (ix2 n k)) (fun k => x3 (ix1 k))
def kn (n : Fin 8448) : Fin 256 → EReal := normed ((1 / 256 : ℝ) : EReal) (fun k => x1 (ix2 n k)) (fun k => x5 (ix1 k))

/-- A head's query, key and value before the heads' norms. -/
def qHead (n : Fin 8448) (h : Fin 8) (e : Fin 96) : EReal := ∑ k, qn x0 x3 n k * x4 (ix2 k ⟨(h : ℕ) * 96 + e, by omega⟩)
def kHead (n : Fin 8448) (h : Fin 8) (e : Fin 64) : EReal := ∑ k, kn x1 x5 n k * x6 (ix2 k ⟨(h : ℕ) * 128 + e, by omega⟩)
def vHead (n : Fin 8448) (h : Fin 8) (e : Fin 64) : EReal := ∑ k, kn x1 x5 n k * x6 (ix2 k ⟨(h : ℕ) * 128 + (64 + e), by omega⟩)

/-- A head's own key columns beside the shared ones. -/
def kFull (n : Fin 8448) (h : Fin 8) (e : Fin 96) : EReal :=
  if he : (e : ℕ) < 64 then kHead x1 x5 x6 n h ⟨e, he⟩ else x2 (ix2 n ⟨e - 64, by omega⟩)

theorem qn_apply (n : Fin 8448) (k : Fin 384) : (val_main_v12 (F := Ideal) x0 x3 (ix2 n k) : EReal) = qn x0 x3 n k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  simp only [Fin.sum_univ_one, quotient384]
  rfl
theorem kn_apply (n : Fin 8448) (k : Fin 256) : (val_main_v40 (F := Ideal) x1 x5 (ix2 n k) : EReal) = kn x1 x5 n k := by
  pointwise [val_main_v40, val_main_v39, val_main_v38, val_main_v37, val_main_v36, val_main_v35, val_main_v34, val_main_v33, val_main_v32, val_main_v31, val_main_v30, val_main_v29, val_main_v28, val_main_cst_5, val_main_cst_6, val_main_cst_7]
  simp only [Fin.sum_univ_one, quotient256]
  rfl
theorem qHead_apply (n : Fin 8448) (h : Fin 8) (e : Fin 96) : (val_main_v14 (F := Ideal) x0 x3 x4 (ix3 n h e) : EReal) = qHead x0 x3 x4 n h e := by
  unfold qHead
  simp only [← qn_apply]
  pointwise [val_main_v14, val_main_v13]
theorem kvHead_apply (n : Fin 8448) (h : Fin 8) (d : Fin 128) : (val_main_v42 (F := Ideal) x1 x5 x6 (ix3 n h d) : EReal)
    = ∑ k, kn x1 x5 n k * x6 (ix2 k ⟨(h : ℕ) * 128 + d, by omega⟩) := by
  simp only [← kn_apply]
  pointwise [val_main_v42, val_main_v41]
theorem kFull_apply (n : Fin 8448) (h : Fin 8) (e : Fin 96) : (val_main_v46 (F := Ideal) x1 x2 x5 x6 (ix3 n h e) : EReal) = kFull x1 x2 x5 x6 n h e := by
  unfold kFull kHead
  pointwise [val_main_v46, val_main_v45, val_main_v44, val_main_v43]
  by_cases he : (e : ℕ) < 64
  · simp only [dif_pos he]
    exact kvHead_apply x1 x5 x6 n h ⟨e, by omega⟩
  · simp only [dif_neg he]
theorem vHead_apply (n : Fin 8448) (h : Fin 8) (e : Fin 64) : (val_main_v104 (F := Ideal) x1 x5 x6 (ix3 n h e) : EReal) = vHead x1 x5 x6 n h e := by
  unfold vHead
  refine Eq.trans ?_ (kvHead_apply x1 x5 x6 n h ⟨64 + e, by omega⟩)
  pointwise [val_main_v104]
theorem q_apply (n : Fin 8448) (h : Fin 8) (e : Fin 96) : (val_main_v27 (F := Ideal) x0 x3 x4 x7 (ix3 n h e) : EReal)
    = normed ((1 / 96 : ℝ) : EReal) (qHead x0 x3 x4 n h) (fun e => x7 (ix1 e)) e := by
  unfold normed Heads.inv
  simp only [← qHead_apply]
  pointwise [val_main_v27, val_main_v26, val_main_v25, val_main_v24, val_main_v23, val_main_v22, val_main_v21, val_main_v20, val_main_v19, val_main_v18, val_main_v17, val_main_v16, val_main_v15, val_main_cst_2, val_main_cst_3, val_main_cst_4]
  simp only [Fin.sum_univ_one, quotient96]
theorem k_apply (n : Fin 8448) (h : Fin 8) (e : Fin 96) : (val_main_v59 (F := Ideal) x1 x2 x5 x6 x8 (ix3 n h e) : EReal)
    = normed ((1 / 96 : ℝ) : EReal) (kFull x1 x2 x5 x6 n h) (fun e => x8 (ix1 e)) e := by
  unfold normed Heads.inv
  simp only [← kFull_apply]
  pointwise [val_main_v59, val_main_v58, val_main_v57, val_main_v56, val_main_v55, val_main_v54, val_main_v53, val_main_v52, val_main_v51, val_main_v50, val_main_v49, val_main_v48, val_main_v47, val_main_cst_8, val_main_cst_9, val_main_cst_10]
  simp only [Fin.sum_univ_one, quotient96]

theorem q_out (n : Fin 8448) (p : Fin 1024) : (val_main_v81 (F := Ideal) x0 x3 x4 x7 x9 x10 (ix2 n p) : EReal)
    = wide (turn (normed ((1 / 96 : ℝ) : EReal) (qHead x0 x3 x4 n (headOf p)) fun e => x7 (ix1 e)) (cosAt x9 n) (sinAt x10 n)) (colOf p) := by
  have e : val_main_v81 (F := Ideal) x0 x3 x4 x7 x9 x10 = laid (both (val_main_v27 (F := Ideal) x0 x3 x4 x7) x9 x10) := rfl
  rw [e, laid_apply]
  simp only [both_apply, q_apply]
theorem k_out (n : Fin 8448) (p : Fin 1024) : (val_main_v103 (F := Ideal) x1 x2 x5 x6 x8 x9 x10 (ix2 n p) : EReal)
    = wide (turn (normed ((1 / 96 : ℝ) : EReal) (kFull x1 x2 x5 x6 n (headOf p)) fun e => x8 (ix1 e)) (cosAt x9 n) (sinAt x10 n)) (colOf p) := by
  have e : val_main_v103 (F := Ideal) x1 x2 x5 x6 x8 x9 x10 = laid (both (val_main_v59 (F := Ideal) x1 x2 x5 x6 x8) x9 x10) := rfl
  rw [e, laid_apply]
  simp only [both_apply, k_apply]
theorem v_out (n : Fin 8448) (p : Fin 1024) : (val_main_v107 (F := Ideal) x1 x5 x6 (ix2 n p) : EReal)
    = wide (vHead x1 x5 x6 n (headOf p)) (colOf p) := by
  unfold wide
  simp only [← vHead_apply]
  pointwise [val_main_v107, val_main_v106, val_main_v105, val_main_cst_13]
  by_cases h : (p : ℕ) % 128 < 64
  · rw [dif_pos h, dif_pos ⟨by omega, h⟩]
  · rw [dif_neg h, dif_neg fun h' => h h'.2]

end Cert.QkvFwdReferenceIdeal.Rows

end
-- ==== Proof.QkvFwd.Tile.lean ====
/-
  One tile of the version's queries, keys and values.
-/
module

public import proofs.«01_k».proof.Proof.Gen.QkvFwdIdeal.Value
public import proofs.«01_k».proof.Proof.QkvFwd.Reference
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvFwdIdeal.Tile

open Cert.QkvFwdIdeal Cert.QkvFwdIdeal.Gen Cert.Heads
open Cert.QkvFwdReferenceIdeal.Rows (headOf colOf cosAt sinAt)

theorem ninety_sixth : Named.named (F := Ideal) κ "one_96th" (φ := .f32) 0x3C2AAAAB#32 = ((1 / 96 : ℝ) : EReal) :=
  IdealRules.named_const.ideal_named_scalar _ _ _ _ rfl
theorem of_384 : Named.named (F := Ideal) κ "one_384th" (φ := .f32) 0x3B2AAAAB#32 = ((1 / 384 : ℝ) : EReal) :=
  IdealRules.named_const.ideal_named_scalar _ _ _ _ rfl

/-- A block's norm, and its rotation. -/
def tileNorm (x : FVec Ideal S256x128 .f32) (g : FVec Ideal S1x128 .f32) : FVec Ideal S256x128 .f32 :=
  mulf (mulf x (broadcastTo S256x128 (rsqrt (addf (mulf (shapeCast S256x1 (multiReduction .add [1] S256 (mulf x x) 0x00000000#32 reduces_S256x128_S256
    (.inl rfl) rfl) shapeCasts_S256_S256x1) (broadcast S256x1 (Named.named κ "one_96th" 0x3C2AAAAB#32)))
    (broadcast S256x1 (Scalar.ofBits .f32 0x358637BD#32)))) broadcasts_S256x1_S256x128)) (broadcastTo S256x128 g broadcasts_S1x128_S256x128)
def right (x : FVec Ideal S256x128 .f32) : FVec Ideal S256x128 .f32 := dynamicRotate 1 16#32 none x rotates_S256x128_d1
def left (x : FVec Ideal S256x128 .f32) : FVec Ideal S256x128 .f32 := dynamicRotate 1 112#32 none x rotates_S256x128_d1
def tileTurn (x ct s1 s2 : FVec Ideal S256x128 .f32) : FVec Ideal S256x128 .f32 :=
  addf (addf (mulf x ct) (mulf (right x) s1)) (mulf (left x) s2)

/-- The eight blocks of a tile, and a tile of eight blocks. -/
def cuts (x : FVec Ideal S256x1024 .f32) : Fin 8 → FVec Ideal S256x128 .f32 :=
  ![extractStridedSlice S256x128 ![0, 0] x slices_S256x1024_o0_0_S256x128,
    extractStridedSlice S256x128 ![0, 128] x slices_S256x1024_o0_128_S256x128,
    extractStridedSlice S256x128 ![0, 256] x slices_S256x1024_o0_256_S256x128,
    extractStridedSlice S256x128 ![0, 384] x slices_S256x1024_o0_384_S256x128,
    extractStridedSlice S256x128 ![0, 512] x slices_S256x1024_o0_512_S256x128,
    extractStridedSlice S256x128 ![0, 640] x slices_S256x1024_o0_640_S256x128,
    extractStridedSlice S256x128 ![0, 768] x slices_S256x1024_o0_768_S256x128,
    extractStridedSlice S256x128 ![0, 896] x slices_S256x1024_o0_896_S256x128]
def aside (f : Fin 8 → FVec Ideal S256x128 .f32) : FVec Ideal S256x1024 .bf16 :=
  truncf .bf16 (concatenate S256x1024 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩]
    concatenates_S256x128_S256x128_S256x128_S256x128_S256x128_S256x128_S256x128_S256x128_S256x1024_d1) bitsLt_bf16_f32

def qTile (y : FVec Ideal S256x1024 .f32) (g : FVec Ideal S1x128 .f32) (ct s1 s2 : FVec Ideal S256x128 .f32) : FVec Ideal S256x1024 .bf16 :=
  aside fun h => tileTurn (tileNorm (cuts y h) g) ct s1 s2
def kTile (y : FVec Ideal S256x1024 .f32) (z : FVec Ideal S256x128 .f32) (g : FVec Ideal S1x128 .f32) (ct s1 s2 : FVec Ideal S256x128 .f32) : FVec Ideal S256x1024 .bf16 :=
  aside fun h => tileTurn (tileNorm (addf (cuts y h) z) g) ct s1 s2

theorem cut_apply (o : ℕ) (ho : o + 128 ≤ 1024) (hs : S256x1024.Slices ![0, o] S256x128) (x : FVec Ideal S256x1024 .f32) (r : Fin 256) (d : Fin 128) :
    (extractStridedSlice S256x128 ![0, o] x hs (ix2 r d) : EReal) = x (ix2 r ⟨o + d, by omega⟩) := by
  refine extractStridedSlice_apply _ _ _ _ _ fun a => ?_
  match a with
  | 0 => exact (Nat.zero_add _).symm
  | 1 => rfl
theorem cuts_apply (x : FVec Ideal S256x1024 .f32) (h : Fin 8) (r : Fin 256) (d : Fin 128) :
    (cuts x h (ix2 r d) : EReal) = x (ix2 r ⟨128 * (h : ℕ) + d, by omega⟩) := by
  match h with
  | 0 => exact cut_apply 0 (by omega) slices_S256x1024_o0_0_S256x128 x r d
  | 1 => exact cut_apply 128 (by omega) slices_S256x1024_o0_128_S256x128 x r d
  | 2 => exact cut_apply 256 (by omega) slices_S256x1024_o0_256_S256x128 x r d
  | 3 => exact cut_apply 384 (by omega) slices_S256x1024_o0_384_S256x128 x r d
  | 4 => exact cut_apply 512 (by omega) slices_S256x1024_o0_512_S256x128 x r d
  | 5 => exact cut_apply 640 (by omega) slices_S256x1024_o0_640_S256x128 x r d
  | 6 => exact cut_apply 768 (by omega) slices_S256x1024_o0_768_S256x128 x r d
  | 7 => exact cut_apply 896 (by omega) slices_S256x1024_o0_896_S256x128 x r d
theorem aside_apply (f : Fin 8 → FVec Ideal S256x128 .f32) (r : Fin 256) (p : Fin 1024) : (aside f (ix2 r p) : EReal) = f (headOf p) (ix2 r (colOf p)) := by
  pointwise [aside]
  repeat' split
  all_goals exact congrArg₂ (fun a b => f a (ix2 r b)) (Fin.ext (by first | omega | (simp; omega))) (Fin.ext (by show _ = (p : ℕ) % 128; simp only []; omega))
theorem right_apply (x : FVec Ideal S256x128 .f32) (r : Fin 256) (d : Fin 128) : (right x (ix2 r d) : EReal) = x (ix2 r (before d)) := by
  pointwise [right]
  exact congrArg (fun k => x (ix2 r k)) (Fin.ext (by show ((d : ℕ) + 128 - 16) % 128 = (d + 112) % 128; omega))
theorem left_apply (x : FVec Ideal S256x128 .f32) (r : Fin 256) (d : Fin 128) : (left x (ix2 r d) : EReal) = x (ix2 r (after d)) := by
  pointwise [left]
  exact congrArg (fun k => x (ix2 r k)) (Fin.ext (by show ((d : ℕ) + 128 - 112) % 128 = (d + 16) % 128; omega))
theorem norm_apply (x : FVec Ideal S256x128 .f32) (g : FVec Ideal S1x128 .f32) (r : Fin 256) (d : Fin 128) : (tileNorm x g (ix2 r d) : EReal)
    = normed ((1 / 96 : ℝ) : EReal) (fun d => x (ix2 r d)) (fun d => g (ix2 0 d)) d := by
  unfold normed Heads.inv
  rw [← ninety_sixth]
  pointwise [tileNorm]
theorem turn_apply (x ct s1 s2 : FVec Ideal S256x128 .f32) (r : Fin 256) (d : Fin 128) : (tileTurn x ct s1 s2 (ix2 r d) : EReal)
    = x (ix2 r d) * ct (ix2 r d) + x (ix2 r (before d)) * s1 (ix2 r d) + x (ix2 r (after d)) * s2 (ix2 r d) := by
  rw [← right_apply x, ← left_apply x]
  pointwise [tileTurn]

/-- A padded head's norm and rotation. -/
theorem head_apply (x : FVec Ideal S256x128 .f32) (g : FVec Ideal S1x128 .f32) (ct s1 s2 : FVec Ideal S256x128 .f32) (r : Fin 256)
    (f u : Fin 96 → EReal) (cs sn : Fin 16 → EReal) (hx : ∀ d, (x (ix2 r d) : EReal) = wide f d) (hg : ∀ d, (g (ix2 0 d) : EReal) = wide u d)
    (hc : ∀ d, (ct (ix2 r d) : EReal) = still cs d) (h1 : ∀ d, (s1 (ix2 r d) : EReal) = behind sn d) (h2 : ∀ d, (s2 (ix2 r d) : EReal) = ahead sn d)
    (d : Fin 128) : (tileTurn (tileNorm x g) ct s1 s2 (ix2 r d) : EReal) = wide (turn (normed ((1 / 96 : ℝ) : EReal) f u) cs sn) d := by
  have ex : (fun d => (x (ix2 r d) : EReal)) = wide f := funext hx
  have eg : (fun d => (g (ix2 0 d) : EReal)) = wide u := funext hg
  have hn : ∀ d, (tileNorm x g (ix2 r d) : EReal) = wide (normed ((1 / 96 : ℝ) : EReal) f u) d := fun d =>
    (norm_apply x g r d).trans ((congrArg₂ (fun a b => normed ((1 / 96 : ℝ) : EReal) a b d) ex eg).trans (normed_wide _ f u d))
  rw [turn_apply, hn, hn, hn, hc, h1, h2, turn_wide]

theorem qproj_apply (x : FVec Ideal S256x384 .f32) (g : FVec Ideal S1x384 .f32) (w : FVec Ideal S384x1024 .bf16) (r : Fin 256) (p : Fin 1024) :
    (k0_pay18 (F := Ideal) (k0_pay4 x) (k0_pay7 g) (k0_pay11 w) (k0_pay17 x) (ix2 r p) : EReal)
      = ∑ k, normed ((1 / 384 : ℝ) : EReal) (fun k => x (ix2 r k)) (fun k => g (ix2 0 k)) k * w (ix2 k p) := by
  unfold normed Heads.inv
  rw [← of_384]
  pointwise [k0_pay18, k0_pay17, k0_pay11, k0_pay7, k0_pay4]
theorem kproj_apply (x : FVec Ideal S256x256 .f32) (g : FVec Ideal S1x256 .f32) (w : FVec Ideal S256x1024 .bf16) (r : Fin 256) (p : Fin 1024) :
    (k0_pay20 (F := Ideal) (k0_pay5 x) (k0_pay8 g) (k0_pay12 w) (ix2 r p) : EReal)
      = ∑ k, normed ((1 / 256 : ℝ) : EReal) (fun k => x (ix2 r k)) (fun k => g (ix2 0 k)) k * w (ix2 k p) := by
  unfold normed Heads.inv
  rw [← word256]
  pointwise [k0_pay20, k0_pay19, k0_pay12, k0_pay8, k0_pay5]
theorem vproj_apply (x : FVec Ideal S256x256 .f32) (g : FVec Ideal S1x256 .f32) (w : FVec Ideal S256x1024 .bf16) (r : Fin 256) (p : Fin 1024) :
    (k0_pay3 (F := Ideal) (k0_pay21 (F := Ideal) (k0_pay5 x) (k0_pay8 g) (k0_pay13 w)) (ix2 r p) : EReal)
      = ∑ k, normed ((1 / 256 : ℝ) : EReal) (fun k => x (ix2 r k)) (fun k => g (ix2 0 k)) k * w (ix2 k p) := by
  unfold normed Heads.inv
  rw [← word256]
  pointwise [k0_pay3, k0_pay21, k0_pay19, k0_pay13, k0_pay8, k0_pay5]

/-! What a grid point leaves. -/

variable (m : (ℓ : Loc nD τ sig) → Buf (Elt Ideal) ℓ)

abbrev B0 (c : Dev nD) (t : Fin cfg0.N) : Vec Ideal S256x384 .f32 := iblk m c 0 t
abbrev B1 (c : Dev nD) (t : Fin cfg0.N) : Vec Ideal S256x256 .f32 := X0_1 m c t
abbrev B2 (c : Dev nD) (t : Fin cfg0.N) : Vec Ideal S256x128 .f32 := iblk m c 2 t
abbrev B3 (c : Dev nD) (t : Fin cfg0.N) : Vec Ideal S1x384 .f32 := iblk m c 3 t
abbrev B4 (c : Dev nD) (t : Fin cfg0.N) : Vec Ideal S1x256 .f32 := iblk m c 4 t
abbrev B5 (c : Dev nD) (t : Fin cfg0.N) : Vec Ideal S1x128 .f32 := iblk m c 5 t
abbrev B6 (c : Dev nD) (t : Fin cfg0.N) : Vec Ideal S1x128 .f32 := iblk m c 6 t
abbrev B7 (c : Dev nD) (t : Fin cfg0.N) : Vec Ideal S384x1024 .bf16 := iblk m c 7 t
abbrev B8 (c : Dev nD) (t : Fin cfg0.N) : Vec Ideal S256x1024 .bf16 := iblk m c 8 t
abbrev B9 (c : Dev nD) (t : Fin cfg0.N) : Vec Ideal S256x1024 .bf16 := iblk m c 9 t
abbrev B10 (c : Dev nD) (t : Fin cfg0.N) : Vec Ideal S256x128 .f32 := iblk m c 10 t
abbrev B11 (c : Dev nD) (t : Fin cfg0.N) : Vec Ideal S256x128 .f32 := iblk m c 11 t
abbrev B12 (c : Dev nD) (t : Fin cfg0.N) : Vec Ideal S256x128 .f32 := iblk m c 12 t

theorem q_point (c : Dev nD) (t : Fin cfg0.N) : (outsAt0 m c t).1
    = qTile (k0_pay18 (k0_pay4 (B0 m c t)) (k0_pay7 (B3 m c t)) (k0_pay11 (B7 m c t)) (k0_pay17 (B0 m c t))) (k0_pay9 (B5 m c t)) (k0_pay14 (B10 m c t)) (k0_pay15 (B11 m c t)) (k0_pay16 (B12 m c t)) := by
  unfold outsAt0 out0_A_13
  frame_out
  rfl
theorem k_point (c : Dev nD) (t : Fin cfg0.N) : (outsAt0 m c t).2.1
    = kTile (k0_pay20 (k0_pay5 (B1 m c t)) (k0_pay8 (B4 m c t)) (k0_pay12 (B8 m c t))) (k0_pay6 (B2 m c t)) (k0_pay10 (B6 m c t)) (k0_pay14 (B10 m c t)) (k0_pay15 (B11 m c t)) (k0_pay16 (B12 m c t)) := by
  unfold outsAt0 out0_A_14
  frame_out
  rfl
theorem v_point (c : Dev nD) (t : Fin cfg0.N) : (outsAt0 m c t).2.2
    = k0_pay3 (F := Ideal) (k0_pay21 (k0_pay5 (B1 m c t)) (k0_pay8 (B4 m c t)) (k0_pay13 (B9 m c t))) := by
  unfold outsAt0 out0_A_15
  frame_out

end Cert.QkvFwdIdeal.Tile

end
-- ==== Proof.QkvFwd.Agree.lean ====
/-
  Queries, keys and values: the version's call and reference.py's lines return the same arrays.
-/
module

public import proofs.«01_k».proof.Proof.QkvFwd.Tile
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvFwdIdeal.Value

open Cert.QkvFwdIdeal Cert.QkvFwdIdeal.Gen Cert.QkvFwdIdeal.Tile Cert.Heads Cert.QkvFwdReferenceIdeal.Read
open Cert.QkvFwdReferenceIdeal.Rows (headOf colOf cosAt sinAt qn kn qHead kHead vHead kFull q_out k_out v_out)

variable (m : (ℓ : Loc nD τ sig) → Buf (Elt Ideal) ℓ)

/-! What the host lines hand to the region. -/

abbrev zero : FVec Ideal S_ .f32 := constant (F := Ideal) S_ .f32 0x00000000#32
abbrev one : FVec Ideal S_ .f32 := constant (F := Ideal) S_ .f32 0x3F800000#32

/-- The projection's columns: the keys' and values' row, the shared key, the queries' row. -/
def proj (x0 : FVec Ideal S8448x384 .f32) (x1 : FVec Ideal S8448x256 .f32) (x2 : FVec Ideal S8448x32 .f32) : FVec Ideal S8448x3456 .f32 :=
  concatenate S8448x3456 1 [⟨S8448x2816, pad S8448x2816 ![0, 2560] ![0, 0] ![0, 0] x1 zero pads_S8448x256_S8448x2816_000_256000 h_S_⟩,
    ⟨S8448x640, concatenate S8448x640 1 [⟨S8448x256, pad S8448x256 ![0, 64] ![0, 160] ![0, 0] x2 zero pads_S8448x32_S8448x256_000_641600 h_S_⟩,
      ⟨S8448x384, x0⟩] concatenates_S8448x256_S8448x384_S8448x640_d1⟩] concatenates_S8448x2816_S8448x640_S8448x3456_d1
def gain384 (a : FVec Ideal S384 .f32) : FVec Ideal S1x384 .f32 := broadcastInDim S1x384 ![1] bcast_S384_S1x384_1 a
def gain256 (a : FVec Ideal S256 .f32) : FVec Ideal S1x256 .f32 := broadcastInDim S1x256 ![1] bcast_S256_S1x256_1 a
def gain96 (a : FVec Ideal S96 .f32) : FVec Ideal S1x128 .f32 :=
  pad S1x128 ![0, 0] ![0, 32] ![0, 0] (broadcastInDim S1x96 ![1] bcast_S96_S1x96_1 a) zero pads_S1x96_S1x128_000_0320 h_S_
def wq (w : FVec Ideal S384x768 .f32) : FVec Ideal S384x1024 .bf16 :=
  truncf .bf16 (shapeCast S384x1024 (pad S384x8x128 ![0, 0, 0] ![0, 0, 32] ![0, 0, 0] (shapeCast S384x8x96 w shapeCasts_S384x768_S384x8x96) zero
    pads_S384x8x96_S384x8x128_000_000_0320 h_S_) shapeCasts_S384x8x128_S384x1024) bitsLt_bf16_f32
def wk (w : FVec Ideal S256x1024 .f32) : FVec Ideal S256x1024 .bf16 :=
  truncf .bf16 (shapeCast S256x1024 (pad S256x8x128 ![0, 0, 0] ![0, 0, 64] ![0, 0, 0] (extractStridedSlice S256x8x64 ![0, 0, 0]
    (shapeCast S256x8x128 w shapeCasts_S256x1024_S256x8x128) slices_S256x8x128_S256x8x64_0_0_0) zero
    pads_S256x8x64_S256x8x128_000_000_0640 h_S_) shapeCasts_S256x8x128_S256x1024) bitsLt_bf16_f32
def wv (w : FVec Ideal S256x1024 .f32) : FVec Ideal S256x1024 .bf16 :=
  truncf .bf16 (shapeCast S256x1024 (pad S256x8x128 ![0, 0, 0] ![0, 0, 64] ![0, 0, 0] (extractStridedSlice S256x8x64 ![0, 0, 64]
    (shapeCast S256x8x128 w shapeCasts_S256x1024_S256x8x128) slices_S256x8x128_S256x8x64_0_0_64) zero
    pads_S256x8x64_S256x8x128_000_000_0640 h_S_) shapeCasts_S256x8x128_S256x1024) bitsLt_bf16_f32
def cosRows (a : FVec Ideal S8192x16 .f32) : FVec Ideal S8448x16 .f32 :=
  concatenate S8448x16 0 [⟨S8192x16, a⟩, ⟨S256x16, broadcastInDim S256x16 ![] bcast_S_S256x16 one⟩] concatenates_S8192x16_S256x16_S8448x16_d0
def sinRows (a : FVec Ideal S8192x16 .f32) : FVec Ideal S8448x16 .f32 :=
  concatenate S8448x16 0 [⟨S8192x16, a⟩, ⟨S256x16, broadcastInDim S256x16 ![] bcast_S_S256x16 zero⟩] concatenates_S8192x16_S256x16_S8448x16_d0
def stillTab (y : FVec Ideal S8448x16 .f32) : FVec Ideal S8448x128 .f32 :=
  concatenate S8448x128 1 [⟨S8448x64, broadcastInDim S8448x64 ![] bcast_S_S8448x64 one⟩, ⟨S8448x64, pad S8448x64 ![0, 0] ![0, 32] ![0, 0]
    (concatenate S8448x32 1 [⟨S8448x16, y⟩, ⟨S8448x16, y⟩] concatenates_S8448x16_S8448x16_S8448x32_d1) zero
    pads_S8448x32_S8448x64_000_0320 h_S_⟩] concatenates_S8448x64_S8448x64_S8448x128_d1
def behindTab (y : FVec Ideal S8448x16 .f32) : FVec Ideal S8448x128 .f32 :=
  pad S8448x128 ![0, 80] ![0, 32] ![0, 0] y zero pads_S8448x16_S8448x128_000_80320 h_S_
def aheadTab (y : FVec Ideal S8448x16 .f32) : FVec Ideal S8448x128 .f32 :=
  pad S8448x128 ![0, 64] ![0, 48] ![0, 0] (Host.negf y) zero pads_S8448x16_S8448x128_000_64480 h_S_

theorem proj_q (x0 : FVec Ideal S8448x384 .f32) (x1 : FVec Ideal S8448x256 .f32) (x2 : FVec Ideal S8448x32 .f32) (n : Fin 8448) (k : Fin 384) :
    (proj x0 x1 x2 (ix2 n ⟨3072 + k, by omega⟩) : EReal) = x0 (ix2 n k) := by
  pointwise [proj]
  rw [dif_neg (by omega), dif_neg (by omega)]
  exact congrArg (fun j => x0 (ix2 n j)) (Fin.ext (by show 3072 + (k : ℕ) - 2816 - 256 = k; omega))
theorem proj_kv (x0 : FVec Ideal S8448x384 .f32) (x1 : FVec Ideal S8448x256 .f32) (x2 : FVec Ideal S8448x32 .f32) (n : Fin 8448) (k : Fin 256) :
    (proj x0 x1 x2 (ix2 n ⟨2560 + k, by omega⟩) : EReal) = x1 (ix2 n k) := by
  pointwise [proj]
  exact dif_pos (by omega)
/-- The shared key's block: zeros on both sides. -/
def shared (f : Fin 32 → EReal) (d : Fin 128) : EReal := if h : 64 ≤ (d : ℕ) ∧ (d : ℕ) < 96 then f ⟨d - 64, by omega⟩ else 0
theorem proj_shared (x0 : FVec Ideal S8448x384 .f32) (x1 : FVec Ideal S8448x256 .f32) (x2 : FVec Ideal S8448x32 .f32) (n : Fin 8448) (d : Fin 128) :
    (proj x0 x1 x2 (ix2 n ⟨2816 + d, by omega⟩) : EReal) = shared (fun k => x2 (ix2 n k)) d := by
  unfold shared
  pointwise [proj]
  have hd := d.isLt
  rw [dif_pos (show (d : ℕ) < 256 by omega)]
  by_cases h : 64 ≤ (d : ℕ) ∧ (d : ℕ) < 96
  · rw [dif_pos h, dif_pos ⟨h.1, by omega⟩]
  · rw [dif_neg h, dif_neg fun h' => h ⟨h'.1, by omega⟩]
theorem gain384_apply (a : FVec Ideal S384 .f32) (k : Fin 384) : gain384 a (ix2 0 k) = a (ix1 k) := by
  pointwise [gain384]
theorem gain256_apply (a : FVec Ideal S256 .f32) (k : Fin 256) : gain256 a (ix2 0 k) = a (ix1 k) := by
  pointwise [gain256]
theorem gain96_apply (a : FVec Ideal S96 .f32) (d : Fin 128) : (gain96 a (ix2 0 d) : EReal) = wide (fun e => a (ix1 e)) d := by
  unfold wide
  pointwise [gain96]
theorem wq_apply (w : FVec Ideal S384x768 .f32) (k : Fin 384) (p : Fin 1024) :
    (wq w (ix2 k p) : EReal) = wide (fun e : Fin 96 => w (ix2 k ⟨(headOf p : ℕ) * 96 + e, by omega⟩)) (colOf p) := by
  unfold wide
  pointwise [wq]
  all_goals split_ifs <;> first | rfl | (exfalso; omega)
theorem wk_apply (w : FVec Ideal S256x1024 .f32) (k : Fin 256) (p : Fin 1024) :
    (wk w (ix2 k p) : EReal) = wide (fun e : Fin 64 => w (ix2 k ⟨(headOf p : ℕ) * 128 + e, by omega⟩)) (colOf p) := by
  unfold wide
  pointwise [wk]
  all_goals split_ifs <;> first | rfl | (exfalso; omega) | exact congrArg (fun j => w (ix2 k j)) (Fin.ext (by first | omega | (dsimp only; omega)))
theorem wv_apply (w : FVec Ideal S256x1024 .f32) (k : Fin 256) (p : Fin 1024) :
    (wv w (ix2 k p) : EReal) = wide (fun e : Fin 64 => w (ix2 k ⟨(headOf p : ℕ) * 128 + (64 + e), by omega⟩)) (colOf p) := by
  unfold wide
  pointwise [wv]
  all_goals split_ifs <;> first | rfl | (exfalso; omega)
theorem cosRows_apply (a : FVec Ideal S8192x16 .f32) (n : Fin 8448) (j : Fin 16) : (cosRows a (ix2 n j) : EReal) = cosAt a n j := by
  unfold cosAt
  pointwise [cosRows]
theorem sinRows_apply (a : FVec Ideal S8192x16 .f32) (n : Fin 8448) (j : Fin 16) : (sinRows a (ix2 n j) : EReal) = sinAt a n j := by
  unfold sinAt
  pointwise [sinRows]
theorem still_apply (y : FVec Ideal S8448x16 .f32) (n : Fin 8448) (d : Fin 128) : (stillTab y (ix2 n d) : EReal) = still (fun j => y (ix2 n j)) d := by
  unfold still
  pointwise [stillTab]
  by_cases h1 : (d : ℕ) < 64
  · rw [dif_pos h1, dif_pos h1]
  rw [dif_neg h1, dif_neg h1]
  by_cases h2 : (d : ℕ) < 80
  · rw [dif_pos h2, dif_pos (show (d : ℕ) - 64 < 32 by omega), dif_pos (show (d : ℕ) - 64 < 16 by omega)]
  rw [dif_neg h2]
  by_cases h3 : (d : ℕ) < 96
  · rw [dif_pos h3, dif_pos (show (d : ℕ) - 64 < 32 by omega), dif_neg (show ¬(d : ℕ) - 64 < 16 by omega)]
    exact congrArg (fun j => y (ix2 n j)) (Fin.ext (by show (d : ℕ) - 64 - 16 = d - 80; omega))
  · rw [dif_neg h3, dif_neg (show ¬(d : ℕ) - 64 < 32 by omega)]
theorem behind_apply (y : FVec Ideal S8448x16 .f32) (n : Fin 8448) (d : Fin 128) : (behindTab y (ix2 n d) : EReal) = behind (fun j => y (ix2 n j)) d := by
  unfold behind
  pointwise [behindTab]
  all_goals split_ifs <;> first | rfl | (exfalso; omega)
theorem ahead_apply (y : FVec Ideal S8448x16 .f32) (n : Fin 8448) (d : Fin 128) : (aheadTab y (ix2 n d) : EReal) = ahead (fun j => y (ix2 n j)) d := by
  unfold ahead
  pointwise [aheadTab]
  all_goals split_ifs <;> first | rfl | (exfalso; omega)

abbrev X0 (c : Dev nD) : FVec Ideal S8448x384 .f32 := m ((c : Thread nD τ).loc main_arg0)
abbrev X1 (c : Dev nD) : FVec Ideal S8448x256 .f32 := m ((c : Thread nD τ).loc main_arg1)
abbrev X2 (c : Dev nD) : FVec Ideal S8448x32 .f32 := m ((c : Thread nD τ).loc main_arg2)
abbrev X3 (c : Dev nD) : FVec Ideal S384 .f32 := m ((c : Thread nD τ).loc main_arg3)
abbrev X4 (c : Dev nD) : FVec Ideal S384x768 .f32 := m ((c : Thread nD τ).loc main_arg4)
abbrev X5 (c : Dev nD) : FVec Ideal S256 .f32 := m ((c : Thread nD τ).loc main_arg5)
abbrev X6 (c : Dev nD) : FVec Ideal S256x1024 .f32 := m ((c : Thread nD τ).loc main_arg6)
abbrev X7 (c : Dev nD) : FVec Ideal S96 .f32 := m ((c : Thread nD τ).loc main_arg7)
abbrev X8 (c : Dev nD) : FVec Ideal S96 .f32 := m ((c : Thread nD τ).loc main_arg8)
abbrev X9 (c : Dev nD) : FVec Ideal S8192x16 .f32 := m ((c : Thread nD τ).loc main_arg9)
abbrev X10 (c : Dev nD) : FVec Ideal S8192x16 .f32 := m ((c : Thread nD τ).loc main_arg10)

set_option maxHeartbeats 2000000 in
theorem proj_entry (c : Dev nD) : (V m c main_v3 : Vec Ideal S8448x3456 .f32) = proj (X0 m c) (X1 m c) (X2 m c) := by
  entry_read
  rfl
set_option maxHeartbeats 2000000 in
theorem qa_entry (c : Dev nD) : (V m c main_v5 : Vec Ideal S1x384 .f32) = gain384 (X3 m c) := by
  entry_read
  rfl
set_option maxHeartbeats 2000000 in
theorem kva_entry (c : Dev nD) : (V m c main_v6 : Vec Ideal S1x256 .f32) = gain256 (X5 m c) := by
  entry_read
  rfl
set_option maxHeartbeats 2000000 in
theorem qg_entry (c : Dev nD) : (V m c main_v8 : Vec Ideal S1x128 .f32) = gain96 (X7 m c) := by
  entry_read
  rfl
set_option maxHeartbeats 2000000 in
theorem kg_entry (c : Dev nD) : (V m c main_v10 : Vec Ideal S1x128 .f32) = gain96 (X8 m c) := by
  entry_read
  rfl
set_option maxHeartbeats 2000000 in
theorem wq_entry (c : Dev nD) : (V m c main_v25 : Vec Ideal S384x1024 .bf16) = wq (X4 m c) := by
  entry_read
  rfl
set_option maxHeartbeats 2000000 in
theorem wk_entry (c : Dev nD) : (V m c main_v29 : Vec Ideal S256x1024 .bf16) = wk (X6 m c) := by
  entry_read
  rfl
set_option maxHeartbeats 2000000 in
theorem wv_entry (c : Dev nD) : (V m c main_v33 : Vec Ideal S256x1024 .bf16) = wv (X6 m c) := by
  entry_read
  rfl
set_option maxHeartbeats 2000000 in
theorem still_entry (c : Dev nD) : (V m c main_v18 : Vec Ideal S8448x128 .f32) = stillTab (cosRows (X9 m c)) := by
  entry_read
  rfl
set_option maxHeartbeats 2000000 in
theorem behind_entry (c : Dev nD) : (V m c main_v19 : Vec Ideal S8448x128 .f32) = behindTab (sinRows (X10 m c)) := by
  entry_read
  rfl
set_option maxHeartbeats 2000000 in
theorem ahead_entry (c : Dev nD) : (V m c main_v21 : Vec Ideal S8448x128 .f32) = aheadTab (sinRows (X10 m c)) := by
  entry_read
  rfl

/-- The blocks' places. -/
theorem idx : ∀ t : Fin cfg0.N, win0_0.index t = ![t.val, 8] ∧ win0_1.index t = ![t.val, 10] ∧ win0_2.index t = ![t.val, 22] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

theorem lt33 (t : Fin cfg0.N) : t.val < 33 := lt_of_lt_of_eq t.isLt (show cfg0.N = 33 from N_0)

/-- Row `r` of tile `t`. -/
abbrev at256 (t : Fin cfg0.N) (r : Fin 256) : Fin 8448 := ⟨256 * t.val + r, by have := lt33 t; omega⟩

theorem blk1 (c : Dev nD) (t : Fin cfg0.N) (r : Fin 256) (k : Fin 256) : (B1 m c t (ix2 r k) : EReal) = X1 m c (ix2 (at256 t r) k) := by
  refine Eq.trans ?_ (proj_kv (X0 m c) (X1 m c) (X2 m c) (at256 t r) k)
  rw [← proj_entry]
  unfold B1 X0_1 Pipeline.Window.fill
  rw [dif_pos (moved0_1 t _)]
  unfold iblk
  generalize V m c = W
  refine congrArg (W main_v3) ?_
  blk_point [idx t]
theorem blk0 (c : Dev nD) (t : Fin cfg0.N) (r : Fin 256) (d : Fin 384) : (B0 m c t (ix2 r d) : EReal) = X0 m c (ix2 (at256 t r) d) := by
  have e : (win0_0.blk t).view.emb (ix2 r d) = (ix2 (at256 t r) ⟨3072 + d, by omega⟩) := by
    blk_point [idx t]
  refine Eq.trans ?_ (proj_q (X0 m c) (X1 m c) (X2 m c) (at256 t r) d)
  rw [← proj_entry]
  unfold B0 iblk
  generalize V m c = W
  exact congrArg (W main_v3) e
theorem blk2 (c : Dev nD) (t : Fin cfg0.N) (r : Fin 256) (d : Fin 128) : (B2 m c t (ix2 r d) : EReal) = shared (fun k => X2 m c (ix2 (at256 t r) k)) d := by
  have e : (win0_2.blk t).view.emb (ix2 r d) = (ix2 (at256 t r) ⟨2816 + d, by omega⟩) := by
    blk_point [idx t]
  refine Eq.trans ?_ (proj_shared (X0 m c) (X1 m c) (X2 m c) (at256 t r) d)
  rw [← proj_entry]
  unfold B2 iblk
  generalize V m c = W
  exact congrArg (W main_v3) e
theorem blk3 (c : Dev nD) (t : Fin cfg0.N) (d : Fin 384) : (B3 m c t (ix2 0 d) : EReal) = X3 m c (ix1 d) := by
  have e : (win0_3.blk t).view.emb (ix2 0 d) = (ix2 0 d) := by
    blk_point [idx t]
  refine Eq.trans ?_ (gain384_apply (X3 m c) d)
  rw [← qa_entry]
  unfold B3 iblk
  generalize V m c = W
  exact congrArg (W main_v5) e
theorem blk4 (c : Dev nD) (t : Fin cfg0.N) (d : Fin 256) : (B4 m c t (ix2 0 d) : EReal) = X5 m c (ix1 d) := by
  have e : (win0_4.blk t).view.emb (ix2 0 d) = (ix2 0 d) := by
    blk_point [idx t]
  refine Eq.trans ?_ (gain256_apply (X5 m c) d)
  rw [← kva_entry]
  unfold B4 iblk
  generalize V m c = W
  exact congrArg (W main_v6) e
theorem blk5 (c : Dev nD) (t : Fin cfg0.N) (d : Fin 128) : (B5 m c t (ix2 0 d) : EReal) = wide (fun e => X7 m c (ix1 e)) d := by
  have e : (win0_5.blk t).view.emb (ix2 0 d) = (ix2 0 d) := by
    blk_point [idx t]
  refine Eq.trans ?_ (gain96_apply (X7 m c) d)
  rw [← qg_entry]
  unfold B5 iblk
  generalize V m c = W
  exact congrArg (W main_v8) e
theorem blk6 (c : Dev nD) (t : Fin cfg0.N) (d : Fin 128) : (B6 m c t (ix2 0 d) : EReal) = wide (fun e => X8 m c (ix1 e)) d := by
  have e : (win0_6.blk t).view.emb (ix2 0 d) = (ix2 0 d) := by
    blk_point [idx t]
  refine Eq.trans ?_ (gain96_apply (X8 m c) d)
  rw [← kg_entry]
  unfold B6 iblk
  generalize V m c = W
  exact congrArg (W main_v10) e
theorem blk7 (c : Dev nD) (t : Fin cfg0.N) (k : Fin 384) (d : Fin 1024) : (B7 m c t (ix2 k d) : EReal) = wide (fun e : Fin 96 => X4 m c (ix2 k ⟨(headOf d : ℕ) * 96 + e, by omega⟩)) (colOf d) := by
  have e : (win0_7.blk t).view.emb (ix2 k d) = (ix2 k d) := by
    blk_point [idx t]
  refine Eq.trans ?_ (wq_apply (X4 m c) k d)
  rw [← wq_entry]
  unfold B7 iblk
  generalize V m c = W
  exact congrArg (W main_v25) e
theorem blk8 (c : Dev nD) (t : Fin cfg0.N) (k : Fin 256) (d : Fin 1024) : (B8 m c t (ix2 k d) : EReal) = wide (fun e : Fin 64 => X6 m c (ix2 k ⟨(headOf d : ℕ) * 128 + e, by omega⟩)) (colOf d) := by
  have e : (win0_8.blk t).view.emb (ix2 k d) = (ix2 k d) := by
    blk_point [idx t]
  refine Eq.trans ?_ (wk_apply (X6 m c) k d)
  rw [← wk_entry]
  unfold B8 iblk
  generalize V m c = W
  exact congrArg (W main_v29) e
theorem blk9 (c : Dev nD) (t : Fin cfg0.N) (k : Fin 256) (d : Fin 1024) : (B9 m c t (ix2 k d) : EReal) = wide (fun e : Fin 64 => X6 m c (ix2 k ⟨(headOf d : ℕ) * 128 + (64 + e), by omega⟩)) (colOf d) := by
  have e : (win0_9.blk t).view.emb (ix2 k d) = (ix2 k d) := by
    blk_point [idx t]
  refine Eq.trans ?_ (wv_apply (X6 m c) k d)
  rw [← wv_entry]
  unfold B9 iblk
  generalize V m c = W
  exact congrArg (W main_v33) e
theorem blk10 (c : Dev nD) (t : Fin cfg0.N) (r : Fin 256) (d : Fin 128) : (B10 m c t (ix2 r d) : EReal) = still (fun j => cosRows (X9 m c) (ix2 (at256 t r) j)) d := by
  have e : (win0_10.blk t).view.emb (ix2 r d) = (ix2 (at256 t r) d) := by
    blk_point [idx t]
  refine Eq.trans ?_ (still_apply (cosRows (X9 m c)) (at256 t r) d)
  rw [← still_entry]
  unfold B10 iblk
  generalize V m c = W
  exact congrArg (W main_v18) e
theorem blk11 (c : Dev nD) (t : Fin cfg0.N) (r : Fin 256) (d : Fin 128) : (B11 m c t (ix2 r d) : EReal) = behind (fun j => sinRows (X10 m c) (ix2 (at256 t r) j)) d := by
  have e : (win0_11.blk t).view.emb (ix2 r d) = (ix2 (at256 t r) d) := by
    blk_point [idx t]
  refine Eq.trans ?_ (behind_apply (sinRows (X10 m c)) (at256 t r) d)
  rw [← behind_entry]
  unfold B11 iblk
  generalize V m c = W
  exact congrArg (W main_v19) e
theorem blk12 (c : Dev nD) (t : Fin cfg0.N) (r : Fin 256) (d : Fin 128) : (B12 m c t (ix2 r d) : EReal) = ahead (fun j => sinRows (X10 m c) (ix2 (at256 t r) j)) d := by
  have e : (win0_12.blk t).view.emb (ix2 r d) = (ix2 (at256 t r) d) := by
    blk_point [idx t]
  refine Eq.trans ?_ (ahead_apply (sinRows (X10 m c)) (at256 t r) d)
  rw [← ahead_entry]
  unfold B12 iblk
  generalize V m c = W
  exact congrArg (W main_v21) e

theorem still_tab (c : Dev nD) (t : Fin cfg0.N) (r : Fin 256) (d : Fin 128) : (k0_pay14 (B10 m c t) (ix2 r d) : EReal) = still (cosAt (X9 m c) (at256 t r)) d := by
  rw [show cosAt (X9 m c) (at256 t r) = fun j => cosRows (X9 m c) (ix2 (at256 t r) j) from funext fun j => (cosRows_apply _ _ j).symm, ← blk10]
  pointwise [k0_pay14]
theorem behind_tab (c : Dev nD) (t : Fin cfg0.N) (r : Fin 256) (d : Fin 128) : (k0_pay15 (B11 m c t) (ix2 r d) : EReal) = behind (sinAt (X10 m c) (at256 t r)) d := by
  rw [show sinAt (X10 m c) (at256 t r) = fun j => sinRows (X10 m c) (ix2 (at256 t r) j) from funext fun j => (sinRows_apply _ _ j).symm, ← blk11]
  pointwise [k0_pay15]
theorem ahead_tab (c : Dev nD) (t : Fin cfg0.N) (r : Fin 256) (d : Fin 128) : (k0_pay16 (B12 m c t) (ix2 r d) : EReal) = ahead (sinAt (X10 m c) (at256 t r)) d := by
  rw [show sinAt (X10 m c) (at256 t r) = fun j => sinRows (X10 m c) (ix2 (at256 t r) j) from funext fun j => (sinRows_apply _ _ j).symm, ← blk12]
  pointwise [k0_pay16]

/-- The rows behind the first norms, in the tile. -/
theorem qn_tile (c : Dev nD) (t : Fin cfg0.N) (r : Fin 256) (k : Fin 384) :
    normed ((1 / 384 : ℝ) : EReal) (fun k => ((B0 m c t) (ix2 r k) : EReal)) (fun k => (B3 m c t) (ix2 0 k)) k = qn (X0 m c) (X3 m c) (at256 t r) k :=
  congrArg₂ (fun f g => normed ((1 / 384 : ℝ) : EReal) f g k) (funext fun k => blk0 m c t r k) (funext fun k => blk3 m c t k)
theorem kn_tile (c : Dev nD) (t : Fin cfg0.N) (r : Fin 256) (k : Fin 256) :
    normed ((1 / 256 : ℝ) : EReal) (fun k => ((B1 m c t) (ix2 r k) : EReal)) (fun k => (B4 m c t) (ix2 0 k)) k = kn (X1 m c) (X5 m c) (at256 t r) k :=
  congrArg₂ (fun f g => normed ((1 / 256 : ℝ) : EReal) f g k) (funext fun k => blk1 m c t r k) (funext fun k => blk4 m c t k)

/-- Column `d` of head `h`. -/
abbrev col (h : Fin 8) (d : Fin 128) : Fin 1024 := ⟨128 * (h : ℕ) + d, by omega⟩
theorem headOf_col (h : Fin 8) (d : Fin 128) : headOf (col h d) = h := Fin.ext (by show (128 * (h : ℕ) + d) / 128 = h; omega)
theorem colOf_col (h : Fin 8) (d : Fin 128) : colOf (col h d) = d := Fin.ext (by show (128 * (h : ℕ) + d) % 128 = d; omega)

theorem q_prod (c : Dev nD) (t : Fin cfg0.N) (r : Fin 256) (p : Fin 1024) :
    (k0_pay18 (F := Ideal) (k0_pay4 (B0 m c t)) (k0_pay7 (B3 m c t)) (k0_pay11 (B7 m c t)) (k0_pay17 (B0 m c t)) (ix2 r p) : EReal)
      = wide (qHead (X0 m c) (X3 m c) (X4 m c) (at256 t r) (headOf p)) (colOf p) := by
  rw [qproj_apply]
  refine (Finset.sum_congr rfl fun k _ => congrArg₂ (· * ·) (qn_tile m c t r k) (blk7 m c t k p)).trans ?_
  rw [sum_mul_wide]
  rfl
theorem q_block (c : Dev nD) (t : Fin cfg0.N) (r : Fin 256) (h : Fin 8) (d : Fin 128) :
    (k0_pay18 (F := Ideal) (k0_pay4 (B0 m c t)) (k0_pay7 (B3 m c t)) (k0_pay11 (B7 m c t)) (k0_pay17 (B0 m c t)) (ix2 r (col h d)) : EReal)
      = wide (qHead (X0 m c) (X3 m c) (X4 m c) (at256 t r) h) d := by
  rw [q_prod, headOf_col, colOf_col]
theorem k_prod (c : Dev nD) (t : Fin cfg0.N) (r : Fin 256) (p : Fin 1024) :
    (k0_pay20 (F := Ideal) (k0_pay5 (B1 m c t)) (k0_pay8 (B4 m c t)) (k0_pay12 (B8 m c t)) (ix2 r p) : EReal)
      = wide (kHead (X1 m c) (X5 m c) (X6 m c) (at256 t r) (headOf p)) (colOf p) := by
  rw [kproj_apply]
  refine (Finset.sum_congr rfl fun k _ => congrArg₂ (· * ·) (kn_tile m c t r k) (blk8 m c t k p)).trans ?_
  rw [sum_mul_wide]
  rfl
theorem k_block (c : Dev nD) (t : Fin cfg0.N) (r : Fin 256) (h : Fin 8) (d : Fin 128) :
    (k0_pay20 (F := Ideal) (k0_pay5 (B1 m c t)) (k0_pay8 (B4 m c t)) (k0_pay12 (B8 m c t)) (ix2 r (col h d)) : EReal)
      = wide (kHead (X1 m c) (X5 m c) (X6 m c) (at256 t r) h) d := by
  rw [k_prod, headOf_col, colOf_col]

/-- A head's own columns and the shared ones, in the block. -/
theorem k_sum (c : Dev nD) (t : Fin cfg0.N) (r : Fin 256) (h : Fin 8) (d : Fin 128) :
    wide (kHead (X1 m c) (X5 m c) (X6 m c) (at256 t r) h) d + shared (fun k => X2 m c (ix2 (at256 t r) k)) d
      = wide (kFull (X1 m c) (X2 m c) (X5 m c) (X6 m c) (at256 t r) h) d := by
  unfold wide shared kFull
  by_cases h1 : (d : ℕ) < 64
  · rw [dif_pos h1, dif_neg (by omega), dif_pos (show (d : ℕ) < 96 by omega), dif_pos h1, add_zero]
  · by_cases h2 : (d : ℕ) < 96
    · rw [dif_neg h1, dif_pos ⟨by omega, h2⟩, dif_pos h2, dif_neg h1, zero_add]
    · rw [dif_neg h1, dif_neg (by omega), dif_neg h2, add_zero]

theorem place13 (t : Fin cfg0.N) (y : S256x1024.Idx) : (((cfg0.win 13).blk t).view.emb y : S8448x1024.Idx) = ix2 (at256 t (y 0)) (y 1) := by
  blk_point [idx t]
theorem place14 (t : Fin cfg0.N) (y : S256x1024.Idx) : (((cfg0.win 14).blk t).view.emb y : S8448x1024.Idx) = ix2 (at256 t (y 0)) (y 1) := by
  blk_point [idx t]
theorem place15 (t : Fin cfg0.N) (y : S256x1024.Idx) : (((cfg0.win 15).blk t).view.emb y : S8448x1024.Idx) = ix2 (at256 t (y 0)) (y 1) := by
  blk_point [idx t]

theorem q_tile (c : Dev nD) (t : Fin cfg0.N) (r : Fin 256) (p : Fin 1024) : ((outsAt0 m c t).1 (ix2 r p) : EReal)
    = val_main_v81 (F := Ideal) (X0 m c) (X3 m c) (X4 m c) (X7 m c) (X9 m c) (X10 m c) (ix2 (at256 t r) p) := by
  rw [q_point, q_out]
  refine (aside_apply _ r p).trans ?_
  refine head_apply _ _ _ _ _ r _ _ _ _ (fun d => (cuts_apply _ (headOf p) r d).trans (q_block m c t r (headOf p) d)) (fun d => ?_)
    (still_tab m c t r) (behind_tab m c t r) (ahead_tab m c t r) (colOf p)
  rw [← blk5 m c t]
  pointwise [k0_pay9]
theorem k_tile (c : Dev nD) (t : Fin cfg0.N) (r : Fin 256) (p : Fin 1024) : ((outsAt0 m c t).2.1 (ix2 r p) : EReal)
    = val_main_v103 (F := Ideal) (X1 m c) (X2 m c) (X5 m c) (X6 m c) (X8 m c) (X9 m c) (X10 m c) (ix2 (at256 t r) p) := by
  rw [k_point, k_out]
  refine (aside_apply _ r p).trans ?_
  refine head_apply _ _ _ _ _ r _ _ _ _ (fun d => ?_) (fun d => ?_) (still_tab m c t r) (behind_tab m c t r) (ahead_tab m c t r) (colOf p)
  · refine Eq.trans ?_ (k_sum m c t r (headOf p) d)
    refine congrArg₂ (· + ·) ((cuts_apply _ (headOf p) r d).trans (k_block m c t r (headOf p) d)) ?_
    rw [← blk2 m c t]
    pointwise [k0_pay6]
  · rw [← blk6 m c t]
    pointwise [k0_pay10]
theorem v_tile (c : Dev nD) (t : Fin cfg0.N) (r : Fin 256) (p : Fin 1024) : ((outsAt0 m c t).2.2 (ix2 r p) : EReal)
    = val_main_v107 (F := Ideal) (X1 m c) (X5 m c) (X6 m c) (ix2 (at256 t r) p) := by
  rw [v_point, v_out, vproj_apply]
  refine (Finset.sum_congr rfl fun k _ => congrArg₂ (· * ·) (kn_tile m c t r k) (blk9 m c t k p)).trans ?_
  rw [sum_mul_wide]
  rfl

theorem q_all (c : Dev nD) (t : Fin cfg0.N) (y : S256x1024.Idx) : ((dats m 0 c).after 13 t : Vec Ideal S256x1024 .bf16) y
    = val_main_v81 (F := Ideal) (X0 m c) (X3 m c) (X4 m c) (X7 m c) (X9 m c) (X10 m c) (ix2 (at256 t (y 0)) (y 1)) := by
  rw [after0_13]
  exact (congrArg _ (eq_ix2 y)).trans (q_tile m c t (y 0) (y 1))
theorem q_agree (c : Dev nD) : (dats m 0 c).arrAt 13 cfg0.N = val_main_v81 (F := Ideal) (X0 m c) (X3 m c) (X4 m c) (X7 m c) (X9 m c) (X10 m c) := by
  have h := q_all m c
  generalize val_main_v81 (F := Ideal) (X0 m c) (X3 m c) (X4 m c) (X7 m c) (X9 m c) (X10 m c) = G at h ⊢
  generalize dats m 0 c = D at h ⊢
  exact D.arrAt_eq_of_covers 13 G (by decide +kernel) fun t _ y => (h t y).trans (congrArg G (place13 t y).symm)

theorem k_all (c : Dev nD) (t : Fin cfg0.N) (y : S256x1024.Idx) : ((dats m 0 c).after 14 t : Vec Ideal S256x1024 .bf16) y
    = val_main_v103 (F := Ideal) (X1 m c) (X2 m c) (X5 m c) (X6 m c) (X8 m c) (X9 m c) (X10 m c) (ix2 (at256 t (y 0)) (y 1)) := by
  rw [after0_14]
  exact (congrArg _ (eq_ix2 y)).trans (k_tile m c t (y 0) (y 1))
theorem k_agree (c : Dev nD) : (dats m 0 c).arrAt 14 cfg0.N = val_main_v103 (F := Ideal) (X1 m c) (X2 m c) (X5 m c) (X6 m c) (X8 m c) (X9 m c) (X10 m c) := by
  have h := k_all m c
  generalize val_main_v103 (F := Ideal) (X1 m c) (X2 m c) (X5 m c) (X6 m c) (X8 m c) (X9 m c) (X10 m c) = G at h ⊢
  generalize dats m 0 c = D at h ⊢
  exact D.arrAt_eq_of_covers 14 G (by decide +kernel) fun t _ y => (h t y).trans (congrArg G (place14 t y).symm)

theorem v_all (c : Dev nD) (t : Fin cfg0.N) (y : S256x1024.Idx) : ((dats m 0 c).after 15 t : Vec Ideal S256x1024 .bf16) y
    = val_main_v107 (F := Ideal) (X1 m c) (X5 m c) (X6 m c) (ix2 (at256 t (y 0)) (y 1)) := by
  rw [after0_15]
  exact (congrArg _ (eq_ix2 y)).trans (v_tile m c t (y 0) (y 1))
theorem v_agree (c : Dev nD) : (dats m 0 c).arrAt 15 cfg0.N = val_main_v107 (F := Ideal) (X1 m c) (X5 m c) (X6 m c) := by
  have h := v_all m c
  generalize val_main_v107 (F := Ideal) (X1 m c) (X5 m c) (X6 m c) = G at h ⊢
  generalize dats m 0 c = D at h ⊢
  exact D.arrAt_eq_of_covers 15 G (by decide +kernel) fun t _ y => (h t y).trans (congrArg G (place15 t y).symm)

theorem q_same (c : Dev nD) (x0 : FVec Ideal S8448x384 .f32) (x3 : FVec Ideal S384 .f32) (x4 : FVec Ideal S384x768 .f32) (x7 : FVec Ideal S96 .f32) (x9 : FVec Ideal S8192x16 .f32) (x10 : FVec Ideal S8192x16 .f32)
    (a0 : x0 = m ((c : Thread nD τ).loc main_arg0)) (a3 : x3 = m ((c : Thread nD τ).loc main_arg3)) (a4 : x4 = m ((c : Thread nD τ).loc main_arg4)) (a7 : x7 = m ((c : Thread nD τ).loc main_arg7)) (a9 : x9 = m ((c : Thread nD τ).loc main_arg9)) (a10 : x10 = m ((c : Thread nD τ).loc main_arg10)) :
    Cert.QkvFwdReferenceIdeal.Read.val_main_v81 (F := Ideal) x0 x3 x4 x7 x9 x10 = (dats m 0 c).arrAt 13 cfg0.N := by
  subst a0 a3 a4 a7 a9 a10
  exact (q_agree m c).symm

theorem k_same (c : Dev nD) (x1 : FVec Ideal S8448x256 .f32) (x2 : FVec Ideal S8448x32 .f32) (x5 : FVec Ideal S256 .f32) (x6 : FVec Ideal S256x1024 .f32) (x8 : FVec Ideal S96 .f32) (x9 : FVec Ideal S8192x16 .f32) (x10 : FVec Ideal S8192x16 .f32)
    (a1 : x1 = m ((c : Thread nD τ).loc main_arg1)) (a2 : x2 = m ((c : Thread nD τ).loc main_arg2)) (a5 : x5 = m ((c : Thread nD τ).loc main_arg5)) (a6 : x6 = m ((c : Thread nD τ).loc main_arg6)) (a8 : x8 = m ((c : Thread nD τ).loc main_arg8)) (a9 : x9 = m ((c : Thread nD τ).loc main_arg9)) (a10 : x10 = m ((c : Thread nD τ).loc main_arg10)) :
    Cert.QkvFwdReferenceIdeal.Read.val_main_v103 (F := Ideal) x1 x2 x5 x6 x8 x9 x10 = (dats m 0 c).arrAt 14 cfg0.N := by
  subst a1 a2 a5 a6 a8 a9 a10
  exact (k_agree m c).symm

theorem v_same (c : Dev nD) (x1 : FVec Ideal S8448x256 .f32) (x5 : FVec Ideal S256 .f32) (x6 : FVec Ideal S256x1024 .f32)
    (a1 : x1 = m ((c : Thread nD τ).loc main_arg1)) (a5 : x5 = m ((c : Thread nD τ).loc main_arg5)) (a6 : x6 = m ((c : Thread nD τ).loc main_arg6)) :
    Cert.QkvFwdReferenceIdeal.Read.val_main_v107 (F := Ideal) x1 x5 x6 = (dats m 0 c).arrAt 15 cfg0.N := by
  subst a1 a5 a6
  exact (v_agree m c).symm

end Cert.QkvFwdIdeal.Value

end
-- ==== Proof.Adam.Agree.lean ====
/-
  The optimiser's update: the version's call and reference.py's lines return the same arrays.
-/
module

public import proofs.«01_k».proof.Proof.Gen.AdamIdeal.Value
public import proofs.«01_k».proof.Proof.Gen.AdamReferenceIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Adam

/-- The new first and second moments and the step, of the gradient `g`. -/
def first (g a : EReal) : EReal := Ideal.ofBits .f32 0x3F666666#32 * a + Ideal.ofBits .f32 0x3DCCCCCD#32 * g
def second (g b : EReal) : EReal := Ideal.ofBits .f32 0x3F7FBE77#32 * b + Ideal.ofBits .f32 0x3A83126F#32 * (g * g)
def step (g w a b : EReal) : EReal := Ideal.ofBits .f32 0xBA83126F#32 *
  (Ideal.div (Ideal.div (first g a) (Ideal.ofBits .f32 0x3F26BD02#32))
    (Ideal.sqrt (Ideal.div (second g b) (Ideal.ofBits .f32 0x3C231ACC#32)) + Ideal.ofBits .f32 0x322BCC77#32)
    + Ideal.ofBits .f32 0x3C23D70A#32 * w)

end Cert.Adam

namespace Cert.AdamReferenceIdeal.Rows

open Cert.AdamReferenceIdeal Cert.AdamReferenceIdeal.Read Cert.Adam

variable (x0 : FVec Ideal S8x1024x704 .f32) (x1 x2 x3 : FVec Ideal S1024x704 .f32)

theorem grad_apply (n : Fin 1024) (j : Fin 704) : (val_main_v0 (F := Ideal) x0 (ix2 n j) : EReal) = ∑ k : Fin 8, x0 (ix3 k n j) := by
  pointwise [val_main_v0, val_main_cst]
theorem first_apply (n : Fin 1024) (j : Fin 704) : (val_main_v5 (F := Ideal) x0 x2 (ix2 n j) : EReal)
    = first (∑ k : Fin 8, x0 (ix3 k n j)) (x2 (ix2 n j)) := by
  rw [← grad_apply]
  pointwise [val_main_v5, val_main_v4, val_main_v3, val_main_v2, val_main_v1, val_main_cst, val_main_cst_0, val_main_cst_1, val_main_cst_2, val_main_cst_3, val_main_cst_4, val_main_cst_5, val_main_cst_6, val_main_cst_7, val_main_cst_8]
  rfl
theorem second_apply (n : Fin 1024) (j : Fin 704) : (val_main_v11 (F := Ideal) x0 x3 (ix2 n j) : EReal)
    = second (∑ k : Fin 8, x0 (ix3 k n j)) (x3 (ix2 n j)) := by
  rw [← grad_apply]
  pointwise [val_main_v11, val_main_v10, val_main_v9, val_main_v8, val_main_v7, val_main_v6, val_main_cst, val_main_cst_0, val_main_cst_1, val_main_cst_2, val_main_cst_3, val_main_cst_4, val_main_cst_5, val_main_cst_6, val_main_cst_7, val_main_cst_8]
  rfl
theorem step_apply (n : Fin 1024) (j : Fin 704) : (val_main_v24 (F := Ideal) x0 x1 x2 x3 (ix2 n j) : EReal)
    = step (∑ k : Fin 8, x0 (ix3 k n j)) (x1 (ix2 n j)) (x2 (ix2 n j)) (x3 (ix2 n j)) := by
  unfold step
  rw [← first_apply, ← second_apply]
  pointwise [val_main_v24, val_main_v23, val_main_v22, val_main_v21, val_main_v20, val_main_v19, val_main_v18, val_main_v17, val_main_v16, val_main_v15, val_main_v14, val_main_v13, val_main_v12, val_main_cst, val_main_cst_0, val_main_cst_1, val_main_cst_2, val_main_cst_3, val_main_cst_4, val_main_cst_5, val_main_cst_6, val_main_cst_7, val_main_cst_8]

end Cert.AdamReferenceIdeal.Rows

namespace Cert.AdamIdeal.Value

open Cert.AdamIdeal Cert.AdamIdeal.Gen Cert.Adam Cert.AdamReferenceIdeal.Read

variable (m : (ℓ : Loc nD τ sig) → Buf (Elt Ideal) ℓ)

abbrev B0 (c : Dev nD) (t : Fin cfg0.N) : Vec Ideal S8x256x704 .bf16 := iblk m c 0 t
abbrev B1 (c : Dev nD) (t : Fin cfg0.N) : Vec Ideal S256x704 .f32 := iblk m c 1 t
abbrev B2 (c : Dev nD) (t : Fin cfg0.N) : Vec Ideal S256x704 .f32 := iblk m c 2 t
abbrev B3 (c : Dev nD) (t : Fin cfg0.N) : Vec Ideal S256x704 .f32 := iblk m c 3 t

section
variable (p : Vec Ideal S8x256x704 .bf16) (w a b : Vec Ideal S256x704 .f32) (r : Fin 256) (j : Fin 704)

theorem sum_apply : (k0_pay5 (F := Ideal) p w a b (ix2 r j) : EReal) = ∑ k : Fin 8, p (ix3 k r j) := by
  rw [Fin.sum_univ_eight]
  pointwise [k0_pay5, k0_pay4]
theorem first_pay (g : FVec Ideal S256x704 .f32) : (k0_pay1 (F := Ideal) g a (Scalar.ofBits .f32 0x3F666666#32) (ix2 r j) : EReal)
    = first (g (ix2 r j)) (a (ix2 r j)) := by
  pointwise [k0_pay1]
  rfl
theorem second_pay (g : FVec Ideal S256x704 .f32) : (k0_pay2 (F := Ideal) g b (ix2 r j) : EReal) = second (g (ix2 r j)) (b (ix2 r j)) := by
  pointwise [k0_pay2]
  rfl
theorem step_pay (g : FVec Ideal S256x704 .f32) : (k0_pay3 (F := Ideal) g a (Scalar.ofBits .f32 0x3F666666#32) b w (ix2 r j) : EReal)
    = step (g (ix2 r j)) (w (ix2 r j)) (a (ix2 r j)) (b (ix2 r j)) := by
  unfold step
  rw [← first_pay, ← second_pay]
  pointwise [k0_pay3]

theorem out_4 : out0_4 (F := Ideal) p w a b = k0_pay5 p w a b := by
  unfold out0_4
  frame_out
theorem out_5 : out0_5 (F := Ideal) p w a b = k0_pay3 (k0_pay5 p w a b) a (Scalar.ofBits .f32 0x3F666666#32) b w := by
  unfold out0_5
  frame_out
theorem out_6 : out0_6 (F := Ideal) p w a b = k0_pay1 (k0_pay5 p w a b) a (Scalar.ofBits .f32 0x3F666666#32) := by
  unfold out0_6
  frame_out
theorem out_7 : out0_7 (F := Ideal) p w a b = k0_pay2 (k0_pay5 p w a b) b := by
  unfold out0_7
  frame_out
end

/-! What the host lines hand to the region. -/

abbrev X0 (c : Dev nD) : FVec Ideal S8x1024x704 .f32 := m ((c : Thread nD τ).loc main_arg0)
abbrev X1 (c : Dev nD) : FVec Ideal S1024x704 .f32 := m ((c : Thread nD τ).loc main_arg1)
abbrev X2 (c : Dev nD) : FVec Ideal S1024x704 .f32 := m ((c : Thread nD τ).loc main_arg2)
abbrev X3 (c : Dev nD) : FVec Ideal S1024x704 .f32 := m ((c : Thread nD τ).loc main_arg3)

set_option maxHeartbeats 2000000 in
theorem parts_entry (c : Dev nD) : (V m c main_v0 : Vec Ideal S8x1024x704 .bf16) = truncf .bf16 (X0 m c) bitsLt_bf16_f32 := by
  entry_read
  rfl

/-- The blocks' places. -/
theorem idx : ∀ t : Fin cfg0.N, win0_0.index t = ![0, t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] :=
  (by decide +kernel : ∀ t : Fin grid0.N, _)

theorem lt4 (t : Fin cfg0.N) : t.val < 4 := lt_of_lt_of_eq t.isLt (show cfg0.N = 4 from N_0)

/-- Row `r` of tile `t`. -/
abbrev at256 (t : Fin cfg0.N) (r : Fin 256) : Fin 1024 := ⟨256 * t.val + r, by have := lt4 t; omega⟩

theorem blk0 (c : Dev nD) (t : Fin cfg0.N) (k : Fin 8) (r : Fin 256) (d : Fin 704) : B0 m c t (ix3 k r d) = X0 m c (ix3 k (at256 t r) d) := by
  have e : (win0_0.blk t).view.emb (ix3 k r d) = ix3 k (at256 t r) d := by
    blk_point [idx t]
  have h : (truncf .bf16 (X0 m c) bitsLt_bf16_f32 : FVec Ideal S8x1024x704 .bf16) (ix3 k (at256 t r) d) = X0 m c (ix3 k (at256 t r) d) := by
    pointwise []
  refine Eq.trans ?_ h
  rw [← parts_entry]
  unfold B0 iblk
  generalize V m c = W
  exact congrArg (W main_v0) e
theorem blk1 (c : Dev nD) (t : Fin cfg0.N) (r : Fin 256) (d : Fin 704) : B1 m c t (ix2 r d) = X1 m c (ix2 (at256 t r) d) := by
  have e : (win0_1.blk t).view.emb (ix2 r d) = ix2 (at256 t r) d := by
    blk_point [idx t]
  unfold X1
  rw [← V_main_arg1 m c]
  unfold B1 iblk
  generalize V m c = W
  exact congrArg (W main_arg1) e
theorem blk2 (c : Dev nD) (t : Fin cfg0.N) (r : Fin 256) (d : Fin 704) : B2 m c t (ix2 r d) = X2 m c (ix2 (at256 t r) d) := by
  have e : (win0_2.blk t).view.emb (ix2 r d) = ix2 (at256 t r) d := by
    blk_point [idx t]
  unfold X2
  rw [← V_main_arg2 m c]
  unfold B2 iblk
  generalize V m c = W
  exact congrArg (W main_arg2) e
theorem blk3 (c : Dev nD) (t : Fin cfg0.N) (r : Fin 256) (d : Fin 704) : B3 m c t (ix2 r d) = X3 m c (ix2 (at256 t r) d) := by
  have e : (win0_3.blk t).view.emb (ix2 r d) = ix2 (at256 t r) d := by
    blk_point [idx t]
  unfold X3
  rw [← V_main_arg3 m c]
  unfold B3 iblk
  generalize V m c = W
  exact congrArg (W main_arg3) e

theorem grad_blk (c : Dev nD) (t : Fin cfg0.N) (r : Fin 256) (j : Fin 704) :
    (k0_pay5 (F := Ideal) (B0 m c t) (B1 m c t) (B2 m c t) (B3 m c t) (ix2 r j) : EReal) = ∑ k : Fin 8, X0 m c (ix3 k (at256 t r) j) :=
  (sum_apply ..).trans (Finset.sum_congr rfl fun k _ => blk0 m c t k r j)

theorem grad_tile (c : Dev nD) (t : Fin cfg0.N) (r : Fin 256) (j : Fin 704) : (out0_4 (F := Ideal) (B0 m c t) (B1 m c t) (B2 m c t) (B3 m c t) (ix2 r j) : EReal)
    = val_main_v0 (F := Ideal) (X0 m c) (ix2 (at256 t r) j) := by
  rw [out_4, grad_blk, AdamReferenceIdeal.Rows.grad_apply]
theorem grad_all (c : Dev nD) (t : Fin cfg0.N) (y : S256x704.Idx) : ((dats m 0 c).after 4 t : Vec Ideal S256x704 .f32) y
    = val_main_v0 (F := Ideal) (X0 m c) (ix2 (at256 t (y 0)) (y 1)) := by
  rw [after0_4]
  exact (congrArg _ (eq_ix2 y)).trans (grad_tile m c t (y 0) (y 1))
theorem grad_place (t : Fin cfg0.N) (y : S256x704.Idx) : (((cfg0.win 4).blk t).view.emb y : S1024x704.Idx) = ix2 (at256 t (y 0)) (y 1) := by
  blk_point [idx t]
theorem grad_agree (c : Dev nD) : (dats m 0 c).arrAt 4 cfg0.N = val_main_v0 (F := Ideal) (X0 m c) := by
  have h := grad_all m c
  generalize val_main_v0 (F := Ideal) (X0 m c) = G at h ⊢
  generalize dats m 0 c = D at h ⊢
  exact D.arrAt_eq_of_covers 4 G (by decide +kernel) fun t _ y => (h t y).trans (congrArg G (grad_place t y).symm)

theorem step_tile (c : Dev nD) (t : Fin cfg0.N) (r : Fin 256) (j : Fin 704) : (out0_5 (F := Ideal) (B0 m c t) (B1 m c t) (B2 m c t) (B3 m c t) (ix2 r j) : EReal)
    = val_main_v24 (F := Ideal) (X0 m c) (X1 m c) (X2 m c) (X3 m c) (ix2 (at256 t r) j) := by
  rw [out_5, step_pay, grad_blk, blk1, blk2, blk3, AdamReferenceIdeal.Rows.step_apply]
theorem step_all (c : Dev nD) (t : Fin cfg0.N) (y : S256x704.Idx) : ((dats m 0 c).after 5 t : Vec Ideal S256x704 .f32) y
    = val_main_v24 (F := Ideal) (X0 m c) (X1 m c) (X2 m c) (X3 m c) (ix2 (at256 t (y 0)) (y 1)) := by
  rw [after0_5]
  exact (congrArg _ (eq_ix2 y)).trans (step_tile m c t (y 0) (y 1))
theorem step_place (t : Fin cfg0.N) (y : S256x704.Idx) : (((cfg0.win 5).blk t).view.emb y : S1024x704.Idx) = ix2 (at256 t (y 0)) (y 1) := by
  blk_point [idx t]
theorem step_agree (c : Dev nD) : (dats m 0 c).arrAt 5 cfg0.N = val_main_v24 (F := Ideal) (X0 m c) (X1 m c) (X2 m c) (X3 m c) := by
  have h := step_all m c
  generalize val_main_v24 (F := Ideal) (X0 m c) (X1 m c) (X2 m c) (X3 m c) = G at h ⊢
  generalize dats m 0 c = D at h ⊢
  exact D.arrAt_eq_of_covers 5 G (by decide +kernel) fun t _ y => (h t y).trans (congrArg G (step_place t y).symm)

theorem first_tile (c : Dev nD) (t : Fin cfg0.N) (r : Fin 256) (j : Fin 704) : (out0_6 (F := Ideal) (B0 m c t) (B1 m c t) (B2 m c t) (B3 m c t) (ix2 r j) : EReal)
    = val_main_v5 (F := Ideal) (X0 m c) (X2 m c) (ix2 (at256 t r) j) := by
  rw [out_6, first_pay, grad_blk, blk2, AdamReferenceIdeal.Rows.first_apply]
theorem first_all (c : Dev nD) (t : Fin cfg0.N) (y : S256x704.Idx) : ((dats m 0 c).after 6 t : Vec Ideal S256x704 .f32) y
    = val_main_v5 (F := Ideal) (X0 m c) (X2 m c) (ix2 (at256 t (y 0)) (y 1)) := by
  rw [after0_6]
  exact (congrArg _ (eq_ix2 y)).trans (first_tile m c t (y 0) (y 1))
theorem first_place (t : Fin cfg0.N) (y : S256x704.Idx) : (((cfg0.win 6).blk t).view.emb y : S1024x704.Idx) = ix2 (at256 t (y 0)) (y 1) := by
  blk_point [idx t]
theorem first_agree (c : Dev nD) : (dats m 0 c).arrAt 6 cfg0.N = val_main_v5 (F := Ideal) (X0 m c) (X2 m c) := by
  have h := first_all m c
  generalize val_main_v5 (F := Ideal) (X0 m c) (X2 m c) = G at h ⊢
  generalize dats m 0 c = D at h ⊢
  exact D.arrAt_eq_of_covers 6 G (by decide +kernel) fun t _ y => (h t y).trans (congrArg G (first_place t y).symm)

theorem second_tile (c : Dev nD) (t : Fin cfg0.N) (r : Fin 256) (j : Fin 704) : (out0_7 (F := Ideal) (B0 m c t) (B1 m c t) (B2 m c t) (B3 m c t) (ix2 r j) : EReal)
    = val_main_v11 (F := Ideal) (X0 m c) (X3 m c) (ix2 (at256 t r) j) := by
  rw [out_7, second_pay, grad_blk, blk3, AdamReferenceIdeal.Rows.second_apply]
theorem second_all (c : Dev nD) (t : Fin cfg0.N) (y : S256x704.Idx) : ((dats m 0 c).after 7 t : Vec Ideal S256x704 .f32) y
    = val_main_v11 (F := Ideal) (X0 m c) (X3 m c) (ix2 (at256 t (y 0)) (y 1)) := by
  rw [after0_7]
  exact (congrArg _ (eq_ix2 y)).trans (second_tile m c t (y 0) (y 1))
theorem second_place (t : Fin cfg0.N) (y : S256x704.Idx) : (((cfg0.win 7).blk t).view.emb y : S1024x704.Idx) = ix2 (at256 t (y 0)) (y 1) := by
  blk_point [idx t]
theorem second_agree (c : Dev nD) : (dats m 0 c).arrAt 7 cfg0.N = val_main_v11 (F := Ideal) (X0 m c) (X3 m c) := by
  have h := second_all m c
  generalize val_main_v11 (F := Ideal) (X0 m c) (X3 m c) = G at h ⊢
  generalize dats m 0 c = D at h ⊢
  exact D.arrAt_eq_of_covers 7 G (by decide +kernel) fun t _ y => (h t y).trans (congrArg G (second_place t y).symm)

theorem grad_same (c : Dev nD) (x0 : FVec Ideal S8x1024x704 .f32)
    (a0 : x0 = m ((c : Thread nD τ).loc main_arg0)) :
    Cert.AdamReferenceIdeal.Read.val_main_v0 (F := Ideal) x0 = (dats m 0 c).arrAt 4 cfg0.N := by
  subst a0
  exact (grad_agree m c).symm

theorem step_same (c : Dev nD) (x0 : FVec Ideal S8x1024x704 .f32) (x1 : FVec Ideal S1024x704 .f32) (x2 : FVec Ideal S1024x704 .f32) (x3 : FVec Ideal S1024x704 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) :
    Cert.AdamReferenceIdeal.Read.val_main_v24 (F := Ideal) x0 x1 x2 x3 = (dats m 0 c).arrAt 5 cfg0.N := by
  subst a0 a1 a2 a3
  exact (step_agree m c).symm

theorem first_same (c : Dev nD) (x0 : FVec Ideal S8x1024x704 .f32) (x2 : FVec Ideal S1024x704 .f32)
    (a0 : x0 = m ((c : Thread nD τ).loc main_arg0)) (a2 : x2 = m ((c : Thread nD τ).loc main_arg2)) :
    Cert.AdamReferenceIdeal.Read.val_main_v5 (F := Ideal) x0 x2 = (dats m 0 c).arrAt 6 cfg0.N := by
  subst a0 a2
  exact (first_agree m c).symm

theorem second_same (c : Dev nD) (x0 : FVec Ideal S8x1024x704 .f32) (x3 : FVec Ideal S1024x704 .f32)
    (a0 : x0 = m ((c : Thread nD τ).loc main_arg0)) (a3 : x3 = m ((c : Thread nD τ).loc main_arg3)) :
    Cert.AdamReferenceIdeal.Read.val_main_v11 (F := Ideal) x0 x3 = (dats m 0 c).arrAt 7 cfg0.N := by
  subst a0 a3
  exact (second_agree m c).symm

end Cert.AdamIdeal.Value

end
-- ==== Proof.Diag.Agree.lean ====
/-
  The product by diagonal blocks: the version's accumulating call and reference.py's products return the same arrays.
-/
module

public import proofs.«01_k».proof.Proof.Gen.DiagIdeal.Value
public import proofs.«01_k».proof.Proof.Gen.DiagReferenceIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiagReferenceIdeal.Rows

open Cert.DiagReferenceIdeal Cert.DiagReferenceIdeal.Read

variable (x0 : FVec Ideal S8448x512 .f32) (x1 x2 : FVec Ideal S8448x2048 .f32)

/-- Columns `256 p + a` and `1024 p + b`. -/
abbrev left (p : Fin 2) (a : Fin 256) : Fin 512 := ⟨256 * p + a, by omega⟩
abbrev right (p : Fin 2) (b : Fin 1024) : Fin 2048 := ⟨1024 * p + b, by omega⟩

theorem first_0 (a : Fin 256) (b : Fin 1024) : (val_main_v10 (F := Ideal) x0 x1 (ix3 0 a b) : EReal) = ∑ n : Fin 8448, x0 (ix2 n (left 0 a)) * x1 (ix2 n (right 0 b)) := by
  pointwise [val_main_v10, val_main_v4, val_main_v3, val_main_v2, val_main_v1, val_main_v0]
  simp [left, right]
theorem first_1 (a : Fin 256) (b : Fin 1024) : (val_main_v10 (F := Ideal) x0 x1 (ix3 1 a b) : EReal) = ∑ n : Fin 8448, x0 (ix2 n (left 1 a)) * x1 (ix2 n (right 1 b)) := by
  pointwise [val_main_v10, val_main_v9, val_main_v8, val_main_v7, val_main_v6, val_main_v5]
  simp [left, right]
theorem first_apply (p : Fin 2) (a : Fin 256) (b : Fin 1024) : (val_main_v10 (F := Ideal) x0 x1 (ix3 p a b) : EReal)
    = ∑ n : Fin 8448, x0 (ix2 n (left p a)) * x1 (ix2 n (right p b)) := by
  match p with
  | 0 => exact first_0 x0 x1 a b
  | 1 => exact first_1 x0 x1 a b
theorem second_0 (a : Fin 256) (b : Fin 1024) : (val_main_v21 (F := Ideal) x0 x2 (ix3 0 a b) : EReal) = ∑ n : Fin 8448, x0 (ix2 n (left 0 a)) * x2 (ix2 n (right 0 b)) := by
  pointwise [val_main_v21, val_main_v15, val_main_v14, val_main_v13, val_main_v12, val_main_v11]
  simp [left, right]
theorem second_1 (a : Fin 256) (b : Fin 1024) : (val_main_v21 (F := Ideal) x0 x2 (ix3 1 a b) : EReal) = ∑ n : Fin 8448, x0 (ix2 n (left 1 a)) * x2 (ix2 n (right 1 b)) := by
  pointwise [val_main_v21, val_main_v20, val_main_v19, val_main_v18, val_main_v17, val_main_v16]
  simp [left, right]
theorem second_apply (p : Fin 2) (a : Fin 256) (b : Fin 1024) : (val_main_v21 (F := Ideal) x0 x2 (ix3 p a b) : EReal)
    = ∑ n : Fin 8448, x0 (ix2 n (left p a)) * x2 (ix2 n (right p b)) := by
  match p with
  | 0 => exact second_0 x0 x2 a b
  | 1 => exact second_1 x0 x2 a b

end Cert.DiagReferenceIdeal.Rows

namespace Cert.DiagIdeal.Value

open Cert.DiagIdeal Cert.DiagIdeal.Gen Cert.DiagReferenceIdeal.Read Cert.DiagReferenceIdeal.Rows

variable (m : (ℓ : Loc nD τ sig) → Buf (Elt Ideal) ℓ)

abbrev B0 (c : Dev nD) (t : Fin cfg0.N) : Vec Ideal S768x256 .f32 := X0_0 m c t
abbrev B1 (c : Dev nD) (t : Fin cfg0.N) : Vec Ideal S768x1024 .f32 := iblk m c 1 t
abbrev B2 (c : Dev nD) (t : Fin cfg0.N) : Vec Ideal S768x1024 .f32 := iblk m c 2 t

section
variable (u : Vec Ideal S768x256 .f32) (g : Vec Ideal S768x1024 .f32) (z : Vec Ideal S256x1024 .f32) (a : Fin 256) (b : Fin 1024)

/-- One point's part of the product. -/
abbrev part : EReal := ∑ r : Fin 768, u (ix2 r a) * g (ix2 r b)

theorem first_step : (k0_pay4 (F := Ideal) u z g (ix2 a b) : EReal) = z (ix2 a b) + part u g a b := by
  pointwise [k0_pay4, k0_pay2]
theorem second_step : (k0_pay7 (F := Ideal) u z g (ix2 a b) : EReal) = z (ix2 a b) + part u g a b := by
  pointwise [k0_pay7, k0_pay2]
theorem first_zero (y : S256x1024.Idx) : (k0_pay3 (F := Ideal) y : EReal) = 0 := by
  pointwise [k0_pay3]
theorem second_zero (y : S256x1024.Idx) : (k0_pay6 (F := Ideal) y : EReal) = 0 := by
  pointwise [k0_pay6]
theorem first_out (p : Fin 1) : (k0_pay1 (F := Ideal) z (ix3 p a b) : EReal) = z (ix2 a b) := by
  pointwise [k0_pay1]
theorem second_out (p : Fin 1) : (k0_pay5 (F := Ideal) z (ix3 p a b) : EReal) = z (ix2 a b) := by
  pointwise [k0_pay5]
end

/-! What a grid point leaves. -/

theorem first_A (c : Dev nD) (t : Fin cfg0.N) (h : t.val % 11 = 0) : (outsAt0 m c t.val t.isLt).2.2.1
    = k0_pay4 (B0 m c t) (k0_pay3 (F := Ideal)) (B1 m c t) := by
  rw [outsAt0_A m c t h (by omega) h (by omega)]
  frame_out
theorem first_B (c : Dev nD) (t : Fin cfg0.N) (h : ¬ t.val % 11 = 0) : (outsAt0 m c t.val t.isLt).2.2.1
    = k0_pay4 (B0 m c t) (outsAt0 m c (t.val - 1) (by omega)).2.2.1 (B1 m c t) := by
  by_cases h' : t.val % 11 = 10
  · rw [outsAt0_C m c t h h' h h']
    frame_out
    exact congrArg (fun z => k0_pay4 (B0 m c t) z (B1 m c t)) (read_unread_whole _ _ _)
  · rw [outsAt0_B m c t h h' h h']
    frame_out
    exact congrArg (fun z => k0_pay4 (B0 m c t) z (B1 m c t)) (read_unread_whole _ _ _)
theorem first_C (c : Dev nD) (t : Fin cfg0.N) (h : t.val % 11 = 10) : (outsAt0 m c t.val t.isLt).1
    = k0_pay1 (outsAt0 m c t.val t.isLt).2.2.1 := by
  rw [outsAt0_C m c t (by omega) h (by omega) h]
  frame_out
  rfl

theorem second_A (c : Dev nD) (t : Fin cfg0.N) (h : t.val % 11 = 0) : (outsAt0 m c t.val t.isLt).2.2.2
    = k0_pay7 (B0 m c t) (k0_pay6 (F := Ideal)) (B2 m c t) := by
  rw [outsAt0_A m c t h (by omega) h (by omega)]
  frame_out
theorem second_B (c : Dev nD) (t : Fin cfg0.N) (h : ¬ t.val % 11 = 0) : (outsAt0 m c t.val t.isLt).2.2.2
    = k0_pay7 (B0 m c t) (outsAt0 m c (t.val - 1) (by omega)).2.2.2 (B2 m c t) := by
  by_cases h' : t.val % 11 = 10
  · rw [outsAt0_C m c t h h' h h']
    frame_out
    exact congrArg (fun z => k0_pay7 (B0 m c t) z (B2 m c t)) (read_unread_whole _ _ _)
  · rw [outsAt0_B m c t h h' h h']
    frame_out
    exact congrArg (fun z => k0_pay7 (B0 m c t) z (B2 m c t)) (read_unread_whole _ _ _)
theorem second_C (c : Dev nD) (t : Fin cfg0.N) (h : t.val % 11 = 10) : (outsAt0 m c t.val t.isLt).2.1
    = k0_pay5 (outsAt0 m c t.val t.isLt).2.2.2 := by
  rw [outsAt0_C m c t (by omega) h (by omega) h]
  frame_out
  rfl

/-! What the host lines hand to the region. -/

/-- The argument's columns among the projection's, zeros elsewhere. -/
def columns (u : FVec Ideal S8448x512 .f32) : FVec Ideal S8448x3456 .f32 :=
  concatenate S8448x3456 1 [⟨S8448x2560, concatenate S8448x2560 1 [⟨S8448x2048, broadcastInDim S8448x2048 ![] bcast_S_S8448x2048
      (constant (F := Ideal) S_ .f32 0x00000000#32)⟩, ⟨S8448x512, u⟩] concatenates_S8448x2048_S8448x512_S8448x2560_d1⟩,
    ⟨S8448x896, broadcastInDim S8448x896 ![] bcast_S_S8448x896 (constant (F := Ideal) S_ .f32 0x00000000#32)⟩]
    concatenates_S8448x2560_S8448x896_S8448x3456_d1

theorem columns_apply (u : FVec Ideal S8448x512 .f32) (n : Fin 8448) (k : Fin 512) :
    columns u (ix2 n ⟨2048 + k, by omega⟩) = u (ix2 n k) := by
  pointwise [columns]
  exact dif_pos (by omega)

abbrev X0 (c : Dev nD) : FVec Ideal S8448x512 .f32 := m ((c : Thread nD τ).loc main_arg0)
abbrev X1 (c : Dev nD) : FVec Ideal S8448x2048 .f32 := m ((c : Thread nD τ).loc main_arg1)
abbrev X2 (c : Dev nD) : FVec Ideal S8448x2048 .f32 := m ((c : Thread nD τ).loc main_arg2)

set_option maxHeartbeats 2000000 in
theorem u_entry (c : Dev nD) : (V m c main_v3 : Vec Ideal S8448x3456 .f32) = columns (X0 m c) := by
  entry_read
  rfl

/-- The blocks' places. -/
theorem idx : ∀ t : Fin cfg0.N, win0_0.index t = ![t.val % 11, 8 + t.val / 11] ∧ win0_1.index t = ![t.val % 11, t.val / 11] ∧ win0_2.index t = ![t.val % 11, t.val / 11] ∧
    win0_3.index t = ![t.val / 11, 0, 0] ∧ win0_4.index t = ![t.val / 11, 0, 0] :=
  (by decide +kernel : ∀ t : Fin grid0.N, _)

theorem lt22 (t : Fin cfg0.N) : t.val < 22 := lt_of_lt_of_eq t.isLt (show cfg0.N = 22 from N_0)

/-- The half a point works on, and row `r` of its tile. -/
abbrev half (t : Fin cfg0.N) : Fin 2 := ⟨t.val / 11, by have := lt22 t; omega⟩
abbrev at768 (t : Fin cfg0.N) (r : Fin 768) : Fin 8448 := ⟨768 * (t.val % 11) + r, by omega⟩

theorem blk0 (c : Dev nD) (t : Fin cfg0.N) (r : Fin 768) (a : Fin 256) : B0 m c t (ix2 r a) = X0 m c (ix2 (at768 t r) (left (half t) a)) := by
  refine Eq.trans ?_ (columns_apply (X0 m c) (at768 t r) (left (half t) a))
  rw [← u_entry]
  unfold B0 X0_0 Pipeline.Window.fill
  rw [dif_pos (moved0_0 t _)]
  unfold iblk
  generalize V m c = W
  refine congrArg (W main_v3) ?_
  blk_point [idx t]
theorem blk1 (c : Dev nD) (t : Fin cfg0.N) (r : Fin 768) (b : Fin 1024) : B1 m c t (ix2 r b) = X1 m c (ix2 (at768 t r) (right (half t) b)) := by
  have e : (win0_1.blk t).view.emb (ix2 r b) = ix2 (at768 t r) (right (half t) b) := by
    blk_point [idx t]
  unfold X1
  rw [← V_main_arg1 m c]
  unfold B1 iblk
  generalize V m c = W
  exact congrArg (W main_arg1) e
theorem blk2 (c : Dev nD) (t : Fin cfg0.N) (r : Fin 768) (b : Fin 1024) : B2 m c t (ix2 r b) = X2 m c (ix2 (at768 t r) (right (half t) b)) := by
  have e : (win0_2.blk t).view.emb (ix2 r b) = ix2 (at768 t r) (right (half t) b) := by
    blk_point [idx t]
  unfold X2
  rw [← V_main_arg2 m c]
  unfold B2 iblk
  generalize V m c = W
  exact congrArg (W main_arg2) e

/-- The sum over the tiles is the sum over the rows. -/
theorem tiles (t : Fin cfg0.N) (f : Fin cfg0.N → EReal) (a : Fin 2 → Fin 8448 → EReal) (ha : ∀ s : Fin cfg0.N, f s = ∑ r : Fin 768, a (half s) (at768 s r)) :
    ∑ s : Fin 11, f ⟨11 * (t.val / 11) + s.val, by have := lt22 t; have : cfg0.N = 22 := N_0; omega⟩ = ∑ n, a (half t) n := by
  have h22 := lt22 t
  have hN : cfg0.N = 22 := N_0
  refine Eq.trans ?_ (Fin.sum_univ_tiles 11 768 (by norm_num) _).symm
  refine Finset.sum_congr rfl fun s _ => (ha _).trans (Finset.sum_congr rfl fun r _ => congrArg₂ a (Fin.ext ?_) (Fin.ext ?_))
  · show (11 * (t.val / 11) + s.val) / 11 = t.val / 11
    omega
  · show 768 * ((11 * (t.val / 11) + s.val) % 11) + r.val = s.val * 768 + r.val
    omega

theorem first_block (c : Dev nD) (t : Fin cfg0.N) (ht : t.val % 11 = 10) (a : Fin 256) (b : Fin 1024) :
    (outsAt0 m c t.val t.isLt).2.2.1 (ix2 a b) = val_main_v10 (F := Ideal) (X0 m c) (X1 m c) (ix3 (half t) a b) := by
  have h := Pipeline.eq_sum_fin_of_reset_step_apply_of_flush (fun n h => (outsAt0 m c n h).2.2.1) 11 (fun _ => (0 : EReal))
    (fun s (y : S256x1024.Idx) => part (B0 m c s) (B1 m c s) (y 0) (y 1))
    (fun t h j => by
      refine (congrFun (first_A m c t h) j).trans ((congrArg _ (eq_ix2 j)).trans ((first_step _ _ _ (j 0) (j 1)).trans ?_))
      exact congrArg (· + _) (first_zero _))
    (fun t h j => by
      refine (congrFun (first_B m c t h) j).trans ((congrArg _ (eq_ix2 j)).trans ((first_step _ _ _ (j 0) (j 1)).trans ?_))
      exact congrArg (fun z => (outsAt0 m c (t.val - 1) _).2.2.1 z + _) (eq_ix2 j).symm)
    t ht (ix2 a b)
  rw [zero_add] at h
  refine h.trans (Eq.trans ?_ (first_apply _ _ (half t) a b).symm)
  exact tiles t (fun s => part (B0 m c s) (B1 m c s) a b) (fun p n => X0 m c (ix2 n (left p a)) * X1 m c (ix2 n (right p b)))
    fun s => Finset.sum_congr rfl fun r _ => congrArg₂ (· * ·) (blk0 m c s r a) (blk1 m c s r b)

theorem first_place (t : Fin cfg0.N) (y : S1x256x1024.Idx) : (((cfg0.win 3).blk t).view.emb y : S2x256x1024.Idx) = ix3 (half t) (y 1) (y 2) := by
  blk_point [idx t]

theorem first_all (c : Dev nD) (t : Fin cfg0.N) (ht : t.val % 11 = 10) (y : S1x256x1024.Idx) : ((dats m 0 c).after 3 t : Vec Ideal S1x256x1024 .f32) y
    = val_main_v10 (F := Ideal) (X0 m c) (X1 m c) (ix3 (half t) (y 1) (y 2)) := by
  rw [after0_3, first_C m c t ht]
  exact (congrArg _ (eq_ix3 y)).trans ((first_out _ (y 1) (y 2) (y 0)).trans (first_block m c t ht (y 1) (y 2)))

theorem first_agree (c : Dev nD) : (dats m 0 c).arrAt 3 cfg0.N = val_main_v10 (F := Ideal) (X0 m c) (X1 m c) := by
  have h := first_all m c
  have hf := fun t => (flush0_3 t).mp
  generalize val_main_v10 (F := Ideal) (X0 m c) (X1 m c) = G at h ⊢
  generalize dats m 0 c = D at h ⊢
  exact D.arrAt_eq_of_covers 3 G (by decide +kernel) fun t ht y => (h t (hf t ht) y).trans (congrArg G (first_place t y).symm)

theorem second_block (c : Dev nD) (t : Fin cfg0.N) (ht : t.val % 11 = 10) (a : Fin 256) (b : Fin 1024) :
    (outsAt0 m c t.val t.isLt).2.2.2 (ix2 a b) = val_main_v21 (F := Ideal) (X0 m c) (X2 m c) (ix3 (half t) a b) := by
  have h := Pipeline.eq_sum_fin_of_reset_step_apply_of_flush (fun n h => (outsAt0 m c n h).2.2.2) 11 (fun _ => (0 : EReal))
    (fun s (y : S256x1024.Idx) => part (B0 m c s) (B2 m c s) (y 0) (y 1))
    (fun t h j => by
      refine (congrFun (second_A m c t h) j).trans ((congrArg _ (eq_ix2 j)).trans ((second_step _ _ _ (j 0) (j 1)).trans ?_))
      exact congrArg (· + _) (second_zero _))
    (fun t h j => by
      refine (congrFun (second_B m c t h) j).trans ((congrArg _ (eq_ix2 j)).trans ((second_step _ _ _ (j 0) (j 1)).trans ?_))
      exact congrArg (fun z => (outsAt0 m c (t.val - 1) _).2.2.2 z + _) (eq_ix2 j).symm)
    t ht (ix2 a b)
  rw [zero_add] at h
  refine h.trans (Eq.trans ?_ (second_apply _ _ (half t) a b).symm)
  exact tiles t (fun s => part (B0 m c s) (B2 m c s) a b) (fun p n => X0 m c (ix2 n (left p a)) * X2 m c (ix2 n (right p b)))
    fun s => Finset.sum_congr rfl fun r _ => congrArg₂ (· * ·) (blk0 m c s r a) (blk2 m c s r b)

theorem second_place (t : Fin cfg0.N) (y : S1x256x1024.Idx) : (((cfg0.win 4).blk t).view.emb y : S2x256x1024.Idx) = ix3 (half t) (y 1) (y 2) := by
  blk_point [idx t]

theorem second_all (c : Dev nD) (t : Fin cfg0.N) (ht : t.val % 11 = 10) (y : S1x256x1024.Idx) : ((dats m 0 c).after 4 t : Vec Ideal S1x256x1024 .f32) y
    = val_main_v21 (F := Ideal) (X0 m c) (X2 m c) (ix3 (half t) (y 1) (y 2)) := by
  rw [after0_4, second_C m c t ht]
  exact (congrArg _ (eq_ix3 y)).trans ((second_out _ (y 1) (y 2) (y 0)).trans (second_block m c t ht (y 1) (y 2)))

theorem second_agree (c : Dev nD) : (dats m 0 c).arrAt 4 cfg0.N = val_main_v21 (F := Ideal) (X0 m c) (X2 m c) := by
  have h := second_all m c
  have hf := fun t => (flush0_4 t).mp
  generalize val_main_v21 (F := Ideal) (X0 m c) (X2 m c) = G at h ⊢
  generalize dats m 0 c = D at h ⊢
  exact D.arrAt_eq_of_covers 4 G (by decide +kernel) fun t ht y => (h t (hf t ht) y).trans (congrArg G (second_place t y).symm)

theorem first_same (c : Dev nD) (x0 : FVec Ideal S8448x512 .f32) (x1 : FVec Ideal S8448x2048 .f32)
    (a0 : x0 = m ((c : Thread nD τ).loc main_arg0)) (a1 : x1 = m ((c : Thread nD τ).loc main_arg1)) :
    Cert.DiagReferenceIdeal.Read.val_main_v10 (F := Ideal) x0 x1 = (dats m 0 c).arrAt 3 cfg0.N := by
  subst a0 a1
  exact (first_agree m c).symm

theorem second_same (c : Dev nD) (x0 : FVec Ideal S8448x512 .f32) (x2 : FVec Ideal S8448x2048 .f32)
    (a0 : x0 = m ((c : Thread nD τ).loc main_arg0)) (a2 : x2 = m ((c : Thread nD τ).loc main_arg2)) :
    Cert.DiagReferenceIdeal.Read.val_main_v21 (F := Ideal) x0 x2 = (dats m 0 c).arrAt 4 cfg0.N := by
  subst a0 a2
  exact (second_agree m c).symm

end Cert.DiagIdeal.Value

end
-- ==== Proof.Up.Agree.lean ====
/-
  The plain product: the version's tiled call and reference.py's product return the same array.
-/
module

public import proofs.«01_k».proof.Proof.Gen.UpIdeal.Value
public import proofs.«01_k».proof.Proof.Gen.UpReferenceIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpReferenceIdeal.Rows

open Cert.UpReferenceIdeal Cert.UpReferenceIdeal.Read

theorem out_apply (x0 : FVec Ideal S8192x1024 .f32) (x1 : FVec Ideal S1024x5632 .f32) (n : Fin 8192) (j : Fin 5632) :
    (val_main_v0 (F := Ideal) x0 x1 (ix2 n j) : EReal) = ∑ k : Fin 1024, x0 (ix2 n k) * x1 (ix2 k j) := by
  pointwise [val_main_v0]

end Cert.UpReferenceIdeal.Rows

namespace Cert.UpIdeal.Value

open Cert.UpIdeal Cert.UpIdeal.Gen Cert.UpReferenceIdeal.Read

variable (m : (ℓ : Loc nD τ sig) → Buf (Elt Ideal) ℓ)

abbrev B0 (c : Dev nD) (t : Fin cfg0.N) : Vec Ideal S1024x1024 .bf16 := iblk m c 0 t
abbrev B1 (c : Dev nD) (t : Fin cfg0.N) : Vec Ideal S1024x1408 .bf16 := iblk m c 1 t

theorem pay_apply (a : FVec Ideal S1024x1024 .bf16) (b : FVec Ideal S1024x1408 .bf16) (r : Fin 1024) (j : Fin 1408) :
    (k0_pay2 (F := Ideal) a b (k0_pay1 (F := Ideal)) (ix2 r j) : EReal) = ∑ k : Fin 1024, a (ix2 r k) * b (ix2 k j) := by
  pointwise [k0_pay2, k0_pay1]

/-- The accumulator is zeroed, takes the one product, and is written out at the same point. -/
theorem point (c : Dev nD) (t : Fin cfg0.N) : outsAt0 m c t = k0_pay2 (B0 m c t) (B1 m c t) (k0_pay1 (F := Ideal)) := by
  unfold outsAt0
  frame_out

/-! What the host lines hand to the region. -/

abbrev X0 (c : Dev nD) : FVec Ideal S8192x1024 .f32 := m ((c : Thread nD τ).loc main_arg0)
abbrev X1 (c : Dev nD) : FVec Ideal S1024x5632 .f32 := m ((c : Thread nD τ).loc main_arg1)

set_option maxHeartbeats 2000000 in
theorem h_entry (c : Dev nD) : (V m c main_v0 : Vec Ideal S8192x1024 .bf16) = truncf .bf16 (X0 m c) bitsLt_bf16_f32 := by
  entry_read
  rfl
set_option maxHeartbeats 2000000 in
theorem w_entry (c : Dev nD) : (V m c main_v1 : Vec Ideal S1024x5632 .bf16) = truncf .bf16 (X1 m c) bitsLt_bf16_f32 := by
  entry_read
  rfl

/-- The blocks' places. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem lt32 (t : Fin cfg0.N) : t.val < 32 := lt_of_lt_of_eq t.isLt (show cfg0.N = 32 from N_0)

/-- Row `r` and column `j` of tile `t`. -/
abbrev row (t : Fin cfg0.N) (r : Fin 1024) : Fin 8192 := ⟨1024 * (t.val / 4) + r, by have := lt32 t; omega⟩
abbrev col (t : Fin cfg0.N) (j : Fin 1408) : Fin 5632 := ⟨1408 * (t.val % 4) + j, by omega⟩

theorem blk0 (c : Dev nD) (t : Fin cfg0.N) (r k : Fin 1024) : B0 m c t (ix2 r k) = X0 m c (ix2 (row t r) k) := by
  have e : (win0_0.blk t).view.emb (ix2 r k) = ix2 (row t r) k := by
    blk_point [idx t]
  have h : (truncf .bf16 (X0 m c) bitsLt_bf16_f32 : FVec Ideal S8192x1024 .bf16) (ix2 (row t r) k) = X0 m c (ix2 (row t r) k) := by
    pointwise []
  refine Eq.trans ?_ h
  rw [← h_entry]
  unfold B0 iblk
  generalize V m c = W
  exact congrArg (W main_v0) e
theorem blk1 (c : Dev nD) (t : Fin cfg0.N) (k : Fin 1024) (j : Fin 1408) : B1 m c t (ix2 k j) = X1 m c (ix2 k (col t j)) := by
  have e : (win0_1.blk t).view.emb (ix2 k j) = ix2 k (col t j) := by
    blk_point [idx t]
  have h : (truncf .bf16 (X1 m c) bitsLt_bf16_f32 : FVec Ideal S1024x5632 .bf16) (ix2 k (col t j)) = X1 m c (ix2 k (col t j)) := by
    pointwise []
  refine Eq.trans ?_ h
  rw [← w_entry]
  unfold B1 iblk
  generalize V m c = W
  exact congrArg (W main_v1) e

theorem tile (c : Dev nD) (t : Fin cfg0.N) (r : Fin 1024) (j : Fin 1408) : (k0_pay2 (F := Ideal) (B0 m c t) (B1 m c t) (k0_pay1 (F := Ideal)) (ix2 r j) : EReal)
    = val_main_v0 (F := Ideal) (X0 m c) (X1 m c) (ix2 (row t r) (col t j)) := by
  rw [pay_apply, UpReferenceIdeal.Rows.out_apply]
  exact Finset.sum_congr rfl fun k _ => congrArg₂ (· * ·) (blk0 m c t r k) (blk1 m c t k j)

theorem tile_all (c : Dev nD) (t : Fin cfg0.N) (y : S1024x1408.Idx) : ((dats m 0 c).after 2 t : Vec Ideal S1024x1408 .f32) y
    = val_main_v0 (F := Ideal) (X0 m c) (X1 m c) (ix2 (row t (y 0)) (col t (y 1))) := by
  rw [after0_2, point]
  exact (congrArg _ (eq_ix2 y)).trans (tile m c t (y 0) (y 1))

theorem place (t : Fin cfg0.N) (y : S1024x1408.Idx) : (((cfg0.win 2).blk t).view.emb y : S8192x5632.Idx) = ix2 (row t (y 0)) (col t (y 1)) := by
  blk_point [idx t]

theorem agree (c : Dev nD) : (dats m 0 c).arrAt 2 cfg0.N = val_main_v0 (F := Ideal) (X0 m c) (X1 m c) := by
  have h := tile_all m c
  generalize val_main_v0 (F := Ideal) (X0 m c) (X1 m c) = G at h ⊢
  generalize dats m 0 c = D at h ⊢
  exact D.arrAt_eq_of_covers 2 G (by decide +kernel) fun t _ y => (h t y).trans (congrArg G (place t y).symm)

theorem out_same (c : Dev nD) (x0 : FVec Ideal S8192x1024 .f32) (x1 : FVec Ideal S1024x5632 .f32)
    (a0 : x0 = m ((c : Thread nD τ).loc main_arg0)) (a1 : x1 = m ((c : Thread nD τ).loc main_arg1)) :
    Cert.UpReferenceIdeal.Read.val_main_v0 (F := Ideal) x0 x1 = (dats m 0 c).arrAt 2 cfg0.N := by
  subst a0 a1
  exact (agree m c).symm

end Cert.UpIdeal.Value

end
-- ==== Proof.NormFwd.Agree.lean ====
/-
  The modulated norm's forward pass: the version's call and reference.py's lines return the same array.
-/
module

public import proofs.«01_k».proof.Proof.Gen.NormFwdIdeal.Value
public import proofs.«01_k».proof.Proof.Gen.NormFwdReferenceIdeal.Read
public import proofs.«01_k».proof.Proof.Norm.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm

/-- A row's modulated norm: `x · rsqrt(mean x² + ε) · g · (1 + sc) + sh`. -/
def modulated (x g sc sh : Fin 1024 → EReal) (j : Fin 1024) : EReal := x j * inv x * g j * (1 + sc j) + sh j

end Cert.Norm

namespace Cert.NormFwdReferenceIdeal.Rows

open Cert.NormFwdReferenceIdeal Cert.NormFwdReferenceIdeal.Read Cert.Norm

variable (x0 : FVec Ideal S8192x1024 .f32) (x1 : FVec Ideal S256x1024 .f32) (x2 x3 x4 x5 x6 : FVec Ideal S1024 .f32)

theorem latent_row (n : Fin 8192) (j : Fin 1024) : (val_main_v20 (F := Ideal) x0 x2 x3 x4 (ix2 n j) : EReal)
    = modulated (fun k => x0 (ix2 n k)) (fun k => x2 (ix1 k)) (fun k => x4 (ix1 k)) (fun k => x3 (ix1 k)) j := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6]
  simp only [Fin.sum_univ_one, quotient]
  rfl
theorem context_row (n : Fin 256) (j : Fin 1024) : (val_main_v41 (F := Ideal) x1 x2 x5 x6 (ix2 n j) : EReal)
    = modulated (fun k => x1 (ix2 n k)) (fun k => x2 (ix1 k)) (fun k => x6 (ix1 k)) (fun k => x5 (ix1 k)) j := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_cst, val_main_cst_0, val_main_cst_1, val_main_cst_2, val_main_cst_3, val_main_cst_4, val_main_cst_5, val_main_cst_6]
  simp only [Fin.sum_univ_one, quotient]
  rfl
theorem out_lat (n : Fin 8448) (h : n.val < 8192) (j : Fin 1024) : (val_main_v43 (F := Ideal) x0 x1 x2 x3 x4 x5 x6 (ix2 n j) : EReal)
    = modulated (fun k => x0 (ix2 ⟨n, h⟩ k)) (fun k => x2 (ix1 k)) (fun k => x4 (ix1 k)) (fun k => x3 (ix1 k)) j := by
  rw [← latent_row]
  pointwise [val_main_v43, val_main_v42]
  exact dif_pos h
theorem out_ctx (n : Fin 8448) (h : ¬ n.val < 8192) (j : Fin 1024) : (val_main_v43 (F := Ideal) x0 x1 x2 x3 x4 x5 x6 (ix2 n j) : EReal)
    = modulated (fun k => x1 (ix2 ⟨n - 8192, by omega⟩ k)) (fun k => x2 (ix1 k)) (fun k => x6 (ix1 k)) (fun k => x5 (ix1 k)) j := by
  rw [← context_row]
  pointwise [val_main_v43, val_main_v42]
  exact dif_neg h

end Cert.NormFwdReferenceIdeal.Rows

namespace Cert.NormFwdIdeal.Value

open Cert.NormFwdIdeal Cert.NormFwdIdeal.Gen Cert.Norm Cert.NormFwdReferenceIdeal.Read

variable (m : (ℓ : Loc nD τ sig) → Buf (Elt Ideal) ℓ)

abbrev B0 (c : Dev nD) (t : Fin cfg0.N) : Vec Ideal S256x1024 .f32 := iblk m c 0 t
abbrev B1 (c : Dev nD) (t : Fin cfg0.N) : Vec Ideal S1x1024 .f32 := iblk m c 1 t
abbrev B2 (c : Dev nD) (t : Fin cfg0.N) : Vec Ideal S8x1024 .f32 := iblk m c 2 t

/-- Four of the eight modulation rows. -/
def modRow0 (x : Vec Ideal S8x1024 .f32) : Vec Ideal S1x1024 .f32 := View.ld x (Rect.unit ![0, 0] ![1, 1024] inb_S8x1024_S1x1024_0_0)
def modRow1 (x : Vec Ideal S8x1024 .f32) : Vec Ideal S1x1024 .f32 := View.ld x (Rect.unit ![1, 0] ![1, 1024] inb_S8x1024_S1x1024_1_0)
def modRow2 (x : Vec Ideal S8x1024 .f32) : Vec Ideal S1x1024 .f32 := View.ld x (Rect.unit ![2, 0] ![1, 1024] inb_S8x1024_S1x1024_2_0)
def modRow3 (x : Vec Ideal S8x1024 .f32) : Vec Ideal S1x1024 .f32 := View.ld x (Rect.unit ![3, 0] ![1, 1024] inb_S8x1024_S1x1024_3_0)

theorem modRow0_apply (x : Vec Ideal S8x1024 .f32) (j : Fin 1024) : modRow0 x (ix2 0 j) = x (ix2 0 j) := by
  pointwise [modRow0]
theorem modRow1_apply (x : Vec Ideal S8x1024 .f32) (j : Fin 1024) : modRow1 x (ix2 0 j) = x (ix2 1 j) := by
  pointwise [modRow1]
theorem modRow2_apply (x : Vec Ideal S8x1024 .f32) (j : Fin 1024) : modRow2 x (ix2 0 j) = x (ix2 2 j) := by
  pointwise [modRow2]
theorem modRow3_apply (x : Vec Ideal S8x1024 .f32) (j : Fin 1024) : modRow3 x (ix2 0 j) = x (ix2 3 j) := by
  pointwise [modRow3]

/-- Whether a tile holds latent rows. -/
def lat (t : Fin cfg0.N) : BitVec 1 := Scalar.cmpi .slt (BitVec.ofNat 32 (grid0.coords t 0)) 32#32

theorem lat_word : ∀ t : Fin cfg0.N, lat t = if t.val < 32 then 1#1 else 0#1 :=
  (by decide +kernel : ∀ t : Fin grid0.N, Scalar.cmpi .slt (BitVec.ofNat 32 (grid0.coords t 0)) 32#32 = if t.val < 32 then 1#1 else 0#1)

theorem lat_select (t : Fin cfg0.N) (a b : EReal) : Scalar.select (lat t) a b = if t.val < 32 then a else b := by
  rw [lat_word t]
  split <;> rfl

/-- A tile's scale and shift. -/
def scale (x : Vec Ideal S8x1024 .f32) (t : Fin cfg0.N) (j : Fin 1024) : EReal := if t.val < 32 then x (ix2 0 j) else x (ix2 2 j)
def shift (x : Vec Ideal S8x1024 .f32) (t : Fin cfg0.N) (j : Fin 1024) : EReal := if t.val < 32 then x (ix2 1 j) else x (ix2 3 j)

theorem scale_words (x : Vec Ideal S8x1024 .f32) (t : Fin cfg0.N) : scale x t = fun j =>
    Scalar.select (Scalar.cmpi .slt (BitVec.ofNat 32 (grid0.coords t 0)) 32#32) (modRow0 x (ix2 0 j)) (modRow2 x (ix2 0 j)) :=
  funext fun j => by
    rw [modRow0_apply, modRow2_apply]
    exact (lat_select t _ _).symm
theorem shift_words (x : Vec Ideal S8x1024 .f32) (t : Fin cfg0.N) : shift x t = fun j =>
    Scalar.select (Scalar.cmpi .slt (BitVec.ofNat 32 (grid0.coords t 0)) 32#32) (modRow1 x (ix2 0 j)) (modRow3 x (ix2 0 j)) :=
  funext fun j => by
    rw [modRow1_apply, modRow3_apply]
    exact (lat_select t _ _).symm

theorem out_apply (x : FVec Ideal S256x1024 .f32) (g : FVec Ideal S1x1024 .f32) (s : FVec Ideal S8x1024 .f32) (t : Fin cfg0.N) (r : Fin 256) (j : Fin 1024) :
    (k0_pay1 (F := Ideal) (grid0.coords t) (modRow0 s) (modRow2 s) (modRow1 s) (modRow3 s) x g (ix2 r j) : EReal)
      = modulated (fun k => x (ix2 r k)) (fun k => g (ix2 0 k)) (scale s t) (shift s t) j := by
  rw [scale_words, shift_words]
  pointwise [k0_pay1]
  rfl

theorem out_3 (t : Fin cfg0.N) (x : Vec Ideal S256x1024 .f32) (g : Vec Ideal S1x1024 .f32) (s : Vec Ideal S8x1024 .f32) :
    out0_3 (F := Ideal) (grid0.coords t) x g s = k0_pay1 (F := Ideal) (grid0.coords t) (modRow0 s) (modRow2 s) (modRow1 s) (modRow3 s) x g := by
  unfold out0_3 modRow0 modRow1 modRow2 modRow3
  frame_out

/-! What the host lines hand to the region. -/

/-- The latent rows over the context rows. -/
def joined (a : FVec Ideal S8192x1024 .f32) (b : FVec Ideal S256x1024 .f32) : FVec Ideal S8448x1024 .f32 :=
  concatenate S8448x1024 0 [⟨S8192x1024, a⟩, ⟨S256x1024, b⟩] concatenates_S8192x1024_S256x1024_S8448x1024_d0

/-- A vector as one row. -/
def oneRow (a : FVec Ideal S1024 .f32) : FVec Ideal S1x1024 .f32 := broadcastInDim S1x1024 ![1] bcast_S1024_S1x1024_1 a

/-- The four modulation vectors in eight rows. -/
def mods (a b a' b' : FVec Ideal S1024 .f32) : FVec Ideal S8x1024 .f32 :=
  concatenate S8x1024 0 [⟨S4x1024, concatenate S4x1024 0 [⟨S2x1024, concatenate S2x1024 0 [⟨S1x1024, oneRow a⟩, ⟨S1x1024, oneRow b⟩]
      concatenates_S1x1024_S1x1024_S2x1024_d0⟩, ⟨S2x1024, concatenate S2x1024 0 [⟨S1x1024, oneRow a'⟩, ⟨S1x1024, oneRow b'⟩]
      concatenates_S1x1024_S1x1024_S2x1024_d0⟩] concatenates_S2x1024_S2x1024_S4x1024_d0⟩,
    ⟨S4x1024, broadcastInDim S4x1024 ![] bcast_S_S4x1024 (constant (F := Ideal) S_ .f32 0x00000000#32)⟩] concatenates_S4x1024_S4x1024_S8x1024_d0

theorem joined_lat (a : FVec Ideal S8192x1024 .f32) (b : FVec Ideal S256x1024 .f32) (n : Fin 8448) (h : n.val < 8192) (j : Fin 1024) :
    joined a b (ix2 n j) = a (ix2 ⟨n, h⟩ j) := by
  pointwise [joined]
  exact dif_pos h
theorem joined_ctx (a : FVec Ideal S8192x1024 .f32) (b : FVec Ideal S256x1024 .f32) (n : Fin 8448) (h : ¬ n.val < 8192) (j : Fin 1024) :
    joined a b (ix2 n j) = b (ix2 ⟨n - 8192, by omega⟩ j) := by
  pointwise [joined]
  exact dif_neg h
theorem oneRow_apply (a : FVec Ideal S1024 .f32) (j : Fin 1024) : oneRow a (ix2 0 j) = a (ix1 j) := by
  pointwise [oneRow]
theorem mods_0 (a b a' b' : FVec Ideal S1024 .f32) (j : Fin 1024) : mods a b a' b' (ix2 0 j) = a (ix1 j) := by
  pointwise [mods, oneRow]
theorem mods_1 (a b a' b' : FVec Ideal S1024 .f32) (j : Fin 1024) : mods a b a' b' (ix2 1 j) = b (ix1 j) := by
  pointwise [mods, oneRow]
theorem mods_2 (a b a' b' : FVec Ideal S1024 .f32) (j : Fin 1024) : mods a b a' b' (ix2 2 j) = a' (ix1 j) := by
  pointwise [mods, oneRow]
theorem mods_3 (a b a' b' : FVec Ideal S1024 .f32) (j : Fin 1024) : mods a b a' b' (ix2 3 j) = b' (ix1 j) := by
  pointwise [mods, oneRow]

abbrev X0 (c : Dev nD) : FVec Ideal S8192x1024 .f32 := m ((c : Thread nD τ).loc main_arg0)
abbrev X1 (c : Dev nD) : FVec Ideal S256x1024 .f32 := m ((c : Thread nD τ).loc main_arg1)
abbrev X2 (c : Dev nD) : FVec Ideal S1024 .f32 := m ((c : Thread nD τ).loc main_arg2)
abbrev X3 (c : Dev nD) : FVec Ideal S1024 .f32 := m ((c : Thread nD τ).loc main_arg3)
abbrev X4 (c : Dev nD) : FVec Ideal S1024 .f32 := m ((c : Thread nD τ).loc main_arg4)
abbrev X5 (c : Dev nD) : FVec Ideal S1024 .f32 := m ((c : Thread nD τ).loc main_arg5)
abbrev X6 (c : Dev nD) : FVec Ideal S1024 .f32 := m ((c : Thread nD τ).loc main_arg6)

set_option maxHeartbeats 2000000 in
theorem x_entry (c : Dev nD) : (V m c main_v0 : Vec Ideal S8448x1024 .f32) = joined (X0 m c) (X1 m c) := by
  entry_read
  rfl
set_option maxHeartbeats 2000000 in
theorem g_entry (c : Dev nD) : (V m c main_v10 : Vec Ideal S1x1024 .f32) = oneRow (X2 m c) := by
  entry_read
  rfl
set_option maxHeartbeats 2000000 in
theorem mods_entry (c : Dev nD) : (V m c main_v9 : Vec Ideal S8x1024 .f32) = mods (X4 m c) (X3 m c) (X6 m c) (X5 m c) := by
  entry_read
  rfl

/-- The blocks' places. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem lt33 (t : Fin cfg0.N) : t.val < 33 := lt_of_lt_of_eq t.isLt (show cfg0.N = 33 from N_0)

/-- Row `r` of tile `t`. -/
abbrev at256 (t : Fin cfg0.N) (r : Fin 256) : Fin 8448 := ⟨256 * t.val + r, by have := lt33 t; omega⟩

theorem blk0 (c : Dev nD) (t : Fin cfg0.N) (r : Fin 256) (d : Fin 1024) : B0 m c t (ix2 r d) = joined (X0 m c) (X1 m c) (ix2 (at256 t r) d) := by
  have e : (win0_0.blk t).view.emb (ix2 r d) = ix2 (at256 t r) d := by
    blk_point [idx t]
  rw [← x_entry]
  unfold B0 iblk
  generalize V m c = W
  exact congrArg (W main_v0) e
theorem blk1 (c : Dev nD) (t : Fin cfg0.N) (d : Fin 1024) : B1 m c t (ix2 0 d) = X2 m c (ix1 d) := by
  have e : (win0_1.blk t).view.emb (ix2 0 d) = ix2 0 d := by
    blk_point [idx t]
  refine Eq.trans ?_ (oneRow_apply (X2 m c) d)
  rw [← g_entry]
  unfold B1 iblk
  generalize V m c = W
  exact congrArg (W main_v10) e
theorem blk2 (c : Dev nD) (t : Fin cfg0.N) (r : Fin 8) (d : Fin 1024) : B2 m c t (ix2 r d) = mods (X4 m c) (X3 m c) (X6 m c) (X5 m c) (ix2 r d) := by
  have e : (win0_2.blk t).view.emb (ix2 r d) = ix2 r d := by
    blk_point [idx t]
  rw [← mods_entry]
  unfold B2 iblk
  generalize V m c = W
  exact congrArg (W main_v9) e

theorem scale_lat (c : Dev nD) (t : Fin cfg0.N) (h : t.val < 32) : scale (B2 m c t) t = fun k => X4 m c (ix1 k) :=
  funext fun k => (if_pos h).trans ((blk2 m c t 0 k).trans (mods_0 _ _ _ _ k))
theorem shift_lat (c : Dev nD) (t : Fin cfg0.N) (h : t.val < 32) : shift (B2 m c t) t = fun k => X3 m c (ix1 k) :=
  funext fun k => (if_pos h).trans ((blk2 m c t 1 k).trans (mods_1 _ _ _ _ k))
theorem scale_ctx (c : Dev nD) (t : Fin cfg0.N) (h : ¬ t.val < 32) : scale (B2 m c t) t = fun k => X6 m c (ix1 k) :=
  funext fun k => (if_neg h).trans ((blk2 m c t 2 k).trans (mods_2 _ _ _ _ k))
theorem shift_ctx (c : Dev nD) (t : Fin cfg0.N) (h : ¬ t.val < 32) : shift (B2 m c t) t = fun k => X5 m c (ix1 k) :=
  funext fun k => (if_neg h).trans ((blk2 m c t 3 k).trans (mods_3 _ _ _ _ k))

theorem tile (c : Dev nD) (t : Fin cfg0.N) (r : Fin 256) (j : Fin 1024) : (out0_3 (F := Ideal) (grid0.coords t) (B0 m c t) (B1 m c t) (B2 m c t) (ix2 r j) : EReal)
    = val_main_v43 (F := Ideal) (X0 m c) (X1 m c) (X2 m c) (X3 m c) (X4 m c) (X5 m c) (X6 m c) (ix2 (at256 t r) j) := by
  have hg : (fun k => (B1 m c t (ix2 0 k) : EReal)) = fun k => X2 m c (ix1 k) := funext fun k => blk1 m c t k
  rw [out_3]
  refine (out_apply _ _ _ t r j).trans ?_
  rw [hg]
  by_cases h : t.val < 32
  · have hn : (at256 t r).val < 8192 := by show 256 * t.val + r < 8192; omega
    rw [NormFwdReferenceIdeal.Rows.out_lat _ _ _ _ _ _ _ _ hn, scale_lat m c t h, shift_lat m c t h]
    exact congrArg (fun v => modulated v _ _ _ j) (funext fun k => (blk0 m c t r k).trans (joined_lat _ _ _ hn k))
  · have hn : ¬ (at256 t r).val < 8192 := by show ¬ 256 * t.val + r < 8192; omega
    rw [NormFwdReferenceIdeal.Rows.out_ctx _ _ _ _ _ _ _ _ hn, scale_ctx m c t h, shift_ctx m c t h]
    exact congrArg (fun v => modulated v _ _ _ j) (funext fun k => (blk0 m c t r k).trans (joined_ctx _ _ _ hn k))

theorem tile_all (c : Dev nD) (t : Fin cfg0.N) (y : S256x1024.Idx) : ((dats m 0 c).after 3 t : Vec Ideal S256x1024 .bf16) y
    = val_main_v43 (F := Ideal) (X0 m c) (X1 m c) (X2 m c) (X3 m c) (X4 m c) (X5 m c) (X6 m c) (ix2 (at256 t (y 0)) (y 1)) := by
  rw [after0_3]
  exact (congrArg _ (eq_ix2 y)).trans (tile m c t (y 0) (y 1))

theorem place (t : Fin cfg0.N) (y : S256x1024.Idx) : (((cfg0.win 3).blk t).view.emb y : S8448x1024.Idx) = ix2 (at256 t (y 0)) (y 1) := by
  blk_point [idx t]

theorem agree (c : Dev nD) : (dats m 0 c).arrAt 3 cfg0.N = val_main_v43 (F := Ideal) (X0 m c) (X1 m c) (X2 m c) (X3 m c) (X4 m c) (X5 m c) (X6 m c) := by
  have h := tile_all m c
  generalize val_main_v43 (F := Ideal) (X0 m c) (X1 m c) (X2 m c) (X3 m c) (X4 m c) (X5 m c) (X6 m c) = G at h ⊢
  generalize dats m 0 c = D at h ⊢
  exact D.arrAt_eq_of_covers 3 G (by decide +kernel) fun t _ y => (h t y).trans (congrArg G (place t y).symm)

theorem out_same (c : Dev nD) (x0 : FVec Ideal S8192x1024 .f32) (x1 : FVec Ideal S256x1024 .f32) (x2 : FVec Ideal S1024 .f32) (x3 : FVec Ideal S1024 .f32) (x4 : FVec Ideal S1024 .f32) (x5 : FVec Ideal S1024 .f32) (x6 : FVec Ideal S1024 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) (a5 : x5 = m ((c : Thread nD τ).loc main_arg5)) (a6 : x6 = m ((c : Thread nD τ).loc main_arg6)) :
    Cert.NormFwdReferenceIdeal.Read.val_main_v43 (F := Ideal) x0 x1 x2 x3 x4 x5 x6 = (dats m 0 c).arrAt 3 cfg0.N := by
  subst a0 a1 a2 a3 a4 a5 a6
  exact (agree m c).symm

end Cert.NormFwdIdeal.Value

end
-- ==== Proof.NormTwoFwd.Agree.lean ====
/-
  The second norm's forward pass: the version's call and reference.py's lines return the same array.
-/
module

public import proofs.«01_k».proof.Proof.Gen.NormTwoFwdIdeal.Value
public import proofs.«01_k».proof.Proof.Gen.NormTwoFwdReferenceIdeal.Read
public import proofs.«01_k».proof.Proof.NormFwd.Agree
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormTwoFwdReferenceIdeal.Rows

open Cert.NormTwoFwdReferenceIdeal Cert.NormTwoFwdReferenceIdeal.Read Cert.Norm

variable (x0 : FVec Ideal S8192x1024 .f32) (x1 x2 x3 : FVec Ideal S1024 .f32)

theorem row (n : Fin 8192) (j : Fin 1024) : (val_main_v21 (F := Ideal) x0 x1 x2 x3 (ix2 n j) : EReal)
    = modulated (fun k => x0 (ix2 n k)) (fun k => x1 (ix1 k)) (fun k => x3 (ix1 k)) (fun k => x2 (ix1 k)) j := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [Fin.sum_univ_one, quotient]
  rfl

end Cert.NormTwoFwdReferenceIdeal.Rows

namespace Cert.NormTwoFwdIdeal.Value

open Cert.NormTwoFwdIdeal Cert.NormTwoFwdIdeal.Gen Cert.Norm Cert.NormTwoFwdReferenceIdeal.Read

variable (m : (ℓ : Loc nD τ sig) → Buf (Elt Ideal) ℓ)

abbrev B0 (c : Dev nD) (t : Fin cfg0.N) : Vec Ideal S256x1024 .f32 := iblk m c 0 t
abbrev B1 (c : Dev nD) (t : Fin cfg0.N) : Vec Ideal S1x1024 .f32 := iblk m c 1 t
abbrev B2 (c : Dev nD) (t : Fin cfg0.N) : Vec Ideal S8x1024 .f32 := iblk m c 2 t

/-- Four of the eight modulation rows. -/
def modRow0 (x : Vec Ideal S8x1024 .f32) : Vec Ideal S1x1024 .f32 := View.ld x (Rect.unit ![0, 0] ![1, 1024] inb_S8x1024_S1x1024_0_0)
def modRow1 (x : Vec Ideal S8x1024 .f32) : Vec Ideal S1x1024 .f32 := View.ld x (Rect.unit ![1, 0] ![1, 1024] inb_S8x1024_S1x1024_1_0)
def modRow2 (x : Vec Ideal S8x1024 .f32) : Vec Ideal S1x1024 .f32 := View.ld x (Rect.unit ![2, 0] ![1, 1024] inb_S8x1024_S1x1024_2_0)
def modRow3 (x : Vec Ideal S8x1024 .f32) : Vec Ideal S1x1024 .f32 := View.ld x (Rect.unit ![3, 0] ![1, 1024] inb_S8x1024_S1x1024_3_0)

theorem modRow0_apply (x : Vec Ideal S8x1024 .f32) (j : Fin 1024) : modRow0 x (ix2 0 j) = x (ix2 0 j) := by
  pointwise [modRow0]
theorem modRow1_apply (x : Vec Ideal S8x1024 .f32) (j : Fin 1024) : modRow1 x (ix2 0 j) = x (ix2 1 j) := by
  pointwise [modRow1]

/-- Every tile holds latent rows. -/
def lat (t : Fin cfg0.N) : BitVec 1 := Scalar.cmpi .slt (BitVec.ofNat 32 (grid0.coords t 0)) 32#32

theorem lat_word : ∀ t : Fin cfg0.N, lat t = 1#1 :=
  (by decide +kernel : ∀ t : Fin grid0.N, Scalar.cmpi .slt (BitVec.ofNat 32 (grid0.coords t 0)) 32#32 = 1#1)

theorem lat_select (t : Fin cfg0.N) (a b : EReal) : Scalar.select (lat t) a b = a := by
  rw [lat_word t]
  rfl

theorem scale_words (x : Vec Ideal S8x1024 .f32) (t : Fin cfg0.N) : (fun j => x (ix2 0 j)) = fun j =>
    Scalar.select (Scalar.cmpi .slt (BitVec.ofNat 32 (grid0.coords t 0)) 32#32) (modRow0 x (ix2 0 j)) (modRow2 x (ix2 0 j)) :=
  funext fun j => by
    rw [modRow0_apply]
    exact (lat_select t _ _).symm
theorem shift_words (x : Vec Ideal S8x1024 .f32) (t : Fin cfg0.N) : (fun j => x (ix2 1 j)) = fun j =>
    Scalar.select (Scalar.cmpi .slt (BitVec.ofNat 32 (grid0.coords t 0)) 32#32) (modRow1 x (ix2 0 j)) (modRow3 x (ix2 0 j)) :=
  funext fun j => by
    rw [modRow1_apply]
    exact (lat_select t _ _).symm

theorem out_apply (x : FVec Ideal S256x1024 .f32) (g : FVec Ideal S1x1024 .f32) (s : FVec Ideal S8x1024 .f32) (t : Fin cfg0.N) (r : Fin 256) (j : Fin 1024) :
    (k0_pay1 (F := Ideal) (grid0.coords t) (modRow0 s) (modRow2 s) (modRow1 s) (modRow3 s) x g (ix2 r j) : EReal)
      = modulated (fun k => x (ix2 r k)) (fun k => g (ix2 0 k)) (fun k => s (ix2 0 k)) (fun k => s (ix2 1 k)) j := by
  rw [scale_words s t, shift_words s t]
  pointwise [k0_pay1]
  rfl

theorem out_3 (t : Fin cfg0.N) (x : Vec Ideal S256x1024 .f32) (g : Vec Ideal S1x1024 .f32) (s : Vec Ideal S8x1024 .f32) :
    out0_3 (F := Ideal) (grid0.coords t) x g s = k0_pay1 (F := Ideal) (grid0.coords t) (modRow0 s) (modRow2 s) (modRow1 s) (modRow3 s) x g := by
  unfold out0_3 modRow0 modRow1 modRow2 modRow3
  frame_out

/-! What the host lines hand to the region. -/

/-- A vector as one row. -/
def oneRow (a : FVec Ideal S1024 .f32) : FVec Ideal S1x1024 .f32 := broadcastInDim S1x1024 ![1] bcast_S1024_S1x1024_1 a

/-- The scale and the shift in eight rows. -/
def mods (a b : FVec Ideal S1024 .f32) : FVec Ideal S8x1024 .f32 :=
  concatenate S8x1024 0 [⟨S2x1024, concatenate S2x1024 0 [⟨S1x1024, oneRow a⟩, ⟨S1x1024, oneRow b⟩] concatenates_S1x1024_S1x1024_S2x1024_d0⟩,
    ⟨S6x1024, broadcastInDim S6x1024 ![] bcast_S_S6x1024 (constant (F := Ideal) S_ .f32 0x00000000#32)⟩] concatenates_S2x1024_S6x1024_S8x1024_d0

theorem oneRow_apply (a : FVec Ideal S1024 .f32) (j : Fin 1024) : oneRow a (ix2 0 j) = a (ix1 j) := by
  pointwise [oneRow]
theorem mods_0 (a b : FVec Ideal S1024 .f32) (j : Fin 1024) : mods a b (ix2 0 j) = a (ix1 j) := by
  pointwise [mods, oneRow]
theorem mods_1 (a b : FVec Ideal S1024 .f32) (j : Fin 1024) : mods a b (ix2 1 j) = b (ix1 j) := by
  pointwise [mods, oneRow]

abbrev X0 (c : Dev nD) : FVec Ideal S8192x1024 .f32 := m ((c : Thread nD τ).loc main_arg0)
abbrev X1 (c : Dev nD) : FVec Ideal S1024 .f32 := m ((c : Thread nD τ).loc main_arg1)
abbrev X2 (c : Dev nD) : FVec Ideal S1024 .f32 := m ((c : Thread nD τ).loc main_arg2)
abbrev X3 (c : Dev nD) : FVec Ideal S1024 .f32 := m ((c : Thread nD τ).loc main_arg3)

set_option maxHeartbeats 2000000 in
theorem g_entry (c : Dev nD) : (V m c main_v5 : Vec Ideal S1x1024 .f32) = oneRow (X1 m c) := by
  entry_read
  rfl
set_option maxHeartbeats 2000000 in
theorem mods_entry (c : Dev nD) : (V m c main_v4 : Vec Ideal S8x1024 .f32) = mods (X3 m c) (X2 m c) := by
  entry_read
  rfl

/-- The blocks' places. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem lt32 (t : Fin cfg0.N) : t.val < 32 := lt_of_lt_of_eq t.isLt (show cfg0.N = 32 from N_0)

/-- Row `r` of tile `t`. -/
abbrev at256 (t : Fin cfg0.N) (r : Fin 256) : Fin 8192 := ⟨256 * t.val + r, by have := lt32 t; omega⟩

theorem blk0 (c : Dev nD) (t : Fin cfg0.N) (r : Fin 256) (d : Fin 1024) : B0 m c t (ix2 r d) = X0 m c (ix2 (at256 t r) d) := by
  have e : (win0_0.blk t).view.emb (ix2 r d) = ix2 (at256 t r) d := by
    blk_point [idx t]
  unfold X0
  rw [← V_main_arg0 m c]
  unfold B0 iblk
  generalize V m c = W
  exact congrArg (W main_arg0) e
theorem blk1 (c : Dev nD) (t : Fin cfg0.N) (d : Fin 1024) : B1 m c t (ix2 0 d) = X1 m c (ix1 d) := by
  have e : (win0_1.blk t).view.emb (ix2 0 d) = ix2 0 d := by
    blk_point [idx t]
  refine Eq.trans ?_ (oneRow_apply (X1 m c) d)
  rw [← g_entry]
  unfold B1 iblk
  generalize V m c = W
  exact congrArg (W main_v5) e
theorem blk2 (c : Dev nD) (t : Fin cfg0.N) (r : Fin 8) (d : Fin 1024) : B2 m c t (ix2 r d) = mods (X3 m c) (X2 m c) (ix2 r d) := by
  have e : (win0_2.blk t).view.emb (ix2 r d) = ix2 r d := by
    blk_point [idx t]
  rw [← mods_entry]
  unfold B2 iblk
  generalize V m c = W
  exact congrArg (W main_v4) e

theorem tile (c : Dev nD) (t : Fin cfg0.N) (r : Fin 256) (j : Fin 1024) : (out0_3 (F := Ideal) (grid0.coords t) (B0 m c t) (B1 m c t) (B2 m c t) (ix2 r j) : EReal)
    = val_main_v21 (F := Ideal) (X0 m c) (X1 m c) (X2 m c) (X3 m c) (ix2 (at256 t r) j) := by
  have hg : (fun k => (B1 m c t (ix2 0 k) : EReal)) = fun k => X1 m c (ix1 k) := funext fun k => blk1 m c t k
  have h0 : (fun k => (B2 m c t (ix2 0 k) : EReal)) = fun k => X3 m c (ix1 k) := funext fun k => (blk2 m c t 0 k).trans (mods_0 _ _ k)
  have h1 : (fun k => (B2 m c t (ix2 1 k) : EReal)) = fun k => X2 m c (ix1 k) := funext fun k => (blk2 m c t 1 k).trans (mods_1 _ _ k)
  rw [out_3]
  refine (out_apply _ _ _ t r j).trans ?_
  rw [hg, h0, h1, NormTwoFwdReferenceIdeal.Rows.row]
  exact congrArg (fun v => modulated v _ _ _ j) (funext fun k => blk0 m c t r k)

theorem tile_all (c : Dev nD) (t : Fin cfg0.N) (y : S256x1024.Idx) : ((dats m 0 c).after 3 t : Vec Ideal S256x1024 .bf16) y
    = val_main_v21 (F := Ideal) (X0 m c) (X1 m c) (X2 m c) (X3 m c) (ix2 (at256 t (y 0)) (y 1)) := by
  rw [after0_3]
  exact (congrArg _ (eq_ix2 y)).trans (tile m c t (y 0) (y 1))

theorem place (t : Fin cfg0.N) (y : S256x1024.Idx) : (((cfg0.win 3).blk t).view.emb y : S8192x1024.Idx) = ix2 (at256 t (y 0)) (y 1) := by
  blk_point [idx t]

theorem agree (c : Dev nD) : (dats m 0 c).arrAt 3 cfg0.N = val_main_v21 (F := Ideal) (X0 m c) (X1 m c) (X2 m c) (X3 m c) := by
  have h := tile_all m c
  generalize val_main_v21 (F := Ideal) (X0 m c) (X1 m c) (X2 m c) (X3 m c) = G at h ⊢
  generalize dats m 0 c = D at h ⊢
  exact D.arrAt_eq_of_covers 3 G (by decide +kernel) fun t _ y => (h t y).trans (congrArg G (place t y).symm)

theorem out_same (c : Dev nD) (x0 : FVec Ideal S8192x1024 .f32) (x1 : FVec Ideal S1024 .f32) (x2 : FVec Ideal S1024 .f32) (x3 : FVec Ideal S1024 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) :
    Cert.NormTwoFwdReferenceIdeal.Read.val_main_v21 (F := Ideal) x0 x1 x2 x3 = (dats m 0 c).arrAt 3 cfg0.N := by
  subst a0 a1 a2 a3
  exact (agree m c).symm

end Cert.NormTwoFwdIdeal.Value

end
-- ==== Proof.ConvFwd.Agree.lean ====
/-
  The gated convolution's forward pass: the version's call and reference.py's lines return the same array.
-/
module

public import proofs.«01_k».proof.Proof.Gen.ConvFwdIdeal.Value
public import proofs.«01_k».proof.Proof.Gen.ConvFwdReferenceIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvFwd

/-- Row `r` of an array of 8192 rows with a row of zeros before it and one behind it. -/
def padded (x : Fin 8192 → Fin 5632 → EReal) (r : ℕ) (d : Fin 5632) : EReal := if h : 1 ≤ r ∧ r < 8193 then x ⟨r - 1, by omega⟩ d else 0

/-- The convolution of three rows: the one before, the row, the one behind. -/
def conv (p x q w0 w1 w2 b : Fin 5632 → EReal) (d : Fin 5632) : EReal := p d * w0 d + x d * w1 d + q d * w2 d + b d

/-- The columns of the gated half and of the gating half. -/
def left (j : Fin 2816) : Fin 5632 := ⟨j, by omega⟩
def right (j : Fin 2816) : Fin 5632 := ⟨2816 + j, by omega⟩

/-- The gated product of a row. -/
def gated (u : Fin 5632 → EReal) (j : Fin 2816) : EReal := u (right j) * Ideal.logistic (u (right j)) * u (left j)

theorem padded_in (x : Fin 8192 → Fin 5632 → EReal) (r : ℕ) (d : Fin 5632) (k : Fin 8192) (h : r = k + 1) : padded x r d = x k d := by
  subst h
  exact dif_pos ⟨by omega, by omega⟩
theorem padded_out (x : Fin 8192 → Fin 5632 → EReal) (r : ℕ) (d : Fin 5632) (h : ¬ (1 ≤ r ∧ r < 8193)) : padded x r d = 0 := dif_neg h

end Cert.ConvFwd

namespace Cert.ConvFwdReferenceIdeal.Rows

open Cert.ConvFwdReferenceIdeal Cert.ConvFwdReferenceIdeal.Read Cert.ConvFwd

variable (x0 : FVec Ideal S8192x5632 .f32) (x1 : FVec Ideal S3x5632 .f32) (x2 : FVec Ideal S5632 .f32)

/-- The arguments' rows. -/
abbrev up (n : Fin 8192) (d : Fin 5632) : EReal := x0 (ix2 n d)
abbrev tap (k : Fin 3) (d : Fin 5632) : EReal := x1 (ix2 k d)
abbrev shift (d : Fin 5632) : EReal := x2 (ix1 d)

theorem padded_apply (r : Fin 8194) (d : Fin 5632) : (val_main_v1 (F := Ideal) x0 (ix2 r d) : EReal) = padded (up x0) r d := by
  pointwise [val_main_v1, val_main_v0, val_main_cst]
  by_cases h1 : (r : ℕ) < 1
  · rw [dif_pos h1, padded_out _ _ _ (by omega)]
  · rw [dif_neg h1]
    by_cases h2 : (r : ℕ) - 1 < 8192
    · rw [dif_pos h2, padded_in (up x0) r d ⟨r - 1, h2⟩ (by show (r : ℕ) = r - 1 + 1; omega)]
    · rw [dif_neg h2, padded_out _ _ _ (by omega)]
theorem before_apply (n : Fin 8192) (d : Fin 5632) : (val_main_v2 (F := Ideal) x0 (ix2 n d) : EReal) = padded (up x0) n d := by
  refine Eq.trans ?_ (padded_apply x0 ⟨n, by omega⟩ d)
  pointwise [val_main_v2]
theorem same_apply (n : Fin 8192) (d : Fin 5632) : (val_main_v8 (F := Ideal) x0 (ix2 n d) : EReal) = padded (up x0) (1 + n) d := by
  refine Eq.trans ?_ (padded_apply x0 ⟨1 + n, by omega⟩ d)
  pointwise [val_main_v8]
theorem behind_apply (n : Fin 8192) (d : Fin 5632) : (val_main_v15 (F := Ideal) x0 (ix2 n d) : EReal) = padded (up x0) (2 + n) d := by
  refine Eq.trans ?_ (padded_apply x0 ⟨2 + n, by omega⟩ d)
  pointwise [val_main_v15]
theorem conv_apply (n : Fin 8192) (d : Fin 5632) : (val_main_v24 (F := Ideal) x0 x1 x2 (ix2 n d) : EReal)
    = conv (padded (up x0) n) (padded (up x0) (1 + n)) (padded (up x0) (2 + n)) (tap x1 0) (tap x1 1) (tap x1 2) (shift x2) d := by
  unfold conv
  rw [← before_apply, ← same_apply, ← behind_apply]
  pointwise [val_main_v24, val_main_v23, val_main_v22, val_main_v21, val_main_v20, val_main_v19, val_main_v18, val_main_v17, val_main_v16, val_main_v14, val_main_v13, val_main_v12, val_main_v11, val_main_v10, val_main_v9, val_main_v7, val_main_v6, val_main_v5, val_main_v4, val_main_v3]
theorem out_apply (n : Fin 8192) (j : Fin 2816) : (val_main_v29 (F := Ideal) x0 x1 x2 (ix2 n j) : EReal)
    = gated (fun d => val_main_v24 (F := Ideal) x0 x1 x2 (ix2 n d)) j := by
  unfold gated
  pointwise [val_main_v29, val_main_v28, val_main_v27, val_main_v26, val_main_v25, val_main_call0_v0, val_main_call0_v1, val_main_call0_cst, val_main_call0_v2, val_main_call0_v3, val_main_call0_cst_0, val_main_call0_v4, val_main_call0_v5]
  rfl

end Cert.ConvFwdReferenceIdeal.Rows

namespace Cert.ConvFwdIdeal.Value

open Cert.ConvFwdIdeal Cert.ConvFwdIdeal.Gen Cert.ConvFwd Cert.ConvFwdReferenceIdeal.Read

theorem gated_apply (v : FVec Ideal S256x5632 .f32) (r : Fin 256) (j : Fin 2816) : (k0_pay1 (F := Ideal) v (ix2 r j) : EReal) = gated (fun d => v (ix2 r d)) j := by
  unfold gated
  pointwise [k0_pay1]
  rfl

theorem before_word : ∀ n : Fin 32, Scalar.cmpi .sgt (BitVec.ofNat 32 n) 0#32 = if 0 < (n : ℕ) then 1#1 else 0#1 := by decide +kernel
theorem behind_word : ∀ n : Fin 32, Scalar.cmpi .slt (BitVec.ofNat 32 n) 31#32 = if (n : ℕ) < 31 then 1#1 else 0#1 := by decide +kernel
theorem first_word : ∀ r : Fin 256, IntOp.cmpi .eq (BitVec.ofNat 32 r) 0#32 = if (r : ℕ) = 0 then 1#1 else 0#1 := by decide +kernel
theorem last_word : ∀ r : Fin 256, IntOp.cmpi .eq (BitVec.ofNat 32 r) 255#32 = if (r : ℕ) = 255 then 1#1 else 0#1 := by decide +kernel

/-- The row before and the row behind row `r` of a tile. -/
def before (t : ℕ) (p : Fin 8 → Fin 5632 → EReal) (x : Fin 256 → Fin 5632 → EReal) (r : Fin 256) (d : Fin 5632) : EReal :=
  if (r : ℕ) = 0 then (if 0 < t then p 7 d else 0) else x ⟨(r + 256 - 1) % 256, by omega⟩ d
def behind (t : ℕ) (x : Fin 256 → Fin 5632 → EReal) (q : Fin 8 → Fin 5632 → EReal) (r : Fin 256) (d : Fin 5632) : EReal :=
  if (r : ℕ) = 255 then (if t < 31 then q 0 d else 0) else x ⟨(r + 256 - 255) % 256, by omega⟩ d

theorem tile_conv (i : grid0.Coords) (x : Vec Ideal S256x5632 .f32) (p q w : Vec Ideal S8x5632 .f32) (b : Vec Ideal S1x5632 .f32) (r : Fin 256) (d : Fin 5632) :
    (k0_pay2 (F := Ideal) i x p q w b (ix2 r d) : EReal)
      = conv (before (i 0).val (fun a d => p (ix2 a d)) (fun a d => x (ix2 a d)) r) (fun d => x (ix2 r d)) (behind (i 0).val (fun a d => x (ix2 a d)) (fun a d => q (ix2 a d)) r)
          (fun d => w (ix2 0 d)) (fun d => w (ix2 1 d)) (fun d => w (ix2 2 d)) (fun d => b (ix2 0 d)) d := by
  pointwise [k0_pay2]
  rw [before_word (i 0), behind_word (i 0), first_word r, last_word r]
  unfold conv before behind
  split <;> split <;> split <;> split <;> rfl

variable (m : (ℓ : Loc nD τ sig) → Buf (Elt Ideal) ℓ)

abbrev B0 (c : Dev nD) (t : Fin cfg0.N) : Vec Ideal S256x5632 .f32 := iblk m c 0 t
abbrev B1 (c : Dev nD) (t : Fin cfg0.N) : Vec Ideal S8x5632 .f32 := iblk m c 1 t
abbrev B2 (c : Dev nD) (t : Fin cfg0.N) : Vec Ideal S8x5632 .f32 := iblk m c 2 t
abbrev B3 (c : Dev nD) (t : Fin cfg0.N) : Vec Ideal S8x5632 .f32 := iblk m c 3 t
abbrev B4 (c : Dev nD) (t : Fin cfg0.N) : Vec Ideal S1x5632 .f32 := iblk m c 4 t

theorem out_5 (i : grid0.Coords) (x0 : Vec Ideal S256x5632 .f32) (x1 x2 x3 : Vec Ideal S8x5632 .f32) (x4 : Vec Ideal S1x5632 .f32) :
    out0_5 (F := Ideal) i x0 x1 x2 x3 x4 = k0_pay1 (F := Ideal) (k0_pay2 (F := Ideal) i x0 x1 x2 x3 x4) := by
  unfold out0_5
  frame_out

/-! What the host lines hand to the region. -/

abbrev X0 (c : Dev nD) : FVec Ideal S8192x5632 .f32 := m ((c : Thread nD τ).loc main_arg0)
abbrev X1 (c : Dev nD) : FVec Ideal S3x5632 .f32 := m ((c : Thread nD τ).loc main_arg1)
abbrev X2 (c : Dev nD) : FVec Ideal S5632 .f32 := m ((c : Thread nD τ).loc main_arg2)

/-- The taps above rows of zeros, and a vector as one row. -/
def taps (a : FVec Ideal S3x5632 .f32) : FVec Ideal S8x5632 .f32 :=
  concatenate S8x5632 0 [⟨S3x5632, a⟩, ⟨S5x5632, broadcastInDim S5x5632 ![] bcast_S_S5x5632 (constant (F := Ideal) S_ .f32 0x00000000#32)⟩]
    concatenates_S3x5632_S5x5632_S8x5632_d0
def oneRow (a : FVec Ideal S5632 .f32) : FVec Ideal S1x5632 .f32 := broadcastInDim S1x5632 ![1] bcast_S5632_S1x5632_1 a

theorem taps_apply (a : FVec Ideal S3x5632 .f32) (k : Fin 3) (d : Fin 5632) : taps a (ix2 ⟨k, by omega⟩ d) = a (ix2 k d) := by
  pointwise [taps]
theorem oneRow_apply (a : FVec Ideal S5632 .f32) (d : Fin 5632) : oneRow a (ix2 0 d) = a (ix1 d) := by
  pointwise [oneRow]

set_option maxHeartbeats 2000000 in
theorem taps_entry (c : Dev nD) : (V m c main_v1 : Vec Ideal S8x5632 .f32) = taps (X1 m c) := by
  entry_read
  rfl
set_option maxHeartbeats 2000000 in
theorem shift_entry (c : Dev nD) : (V m c main_v2 : Vec Ideal S1x5632 .f32) = oneRow (X2 m c) := by
  entry_read
  rfl

theorem coord : ∀ t : Fin cfg0.N, ((grid0.coords t) 0).val = t.val := by decide +kernel
theorem lt32 (t : Fin cfg0.N) : t.val < 32 := lt_of_lt_of_eq t.isLt (show cfg0.N = 32 from N_0)

/-- The blocks' places: tile `t` of 256 rows, the eight rows before and behind it, and whole arrays. -/
theorem idx : ∀ t : Fin cfg0.N, win0_0.index t = ![t.val, 0] ∧ win0_1.index t = ![max (32 * t.val - 1) 0, 0] ∧
    win0_2.index t = ![min (32 * (t.val + 1)) 1023, 0] ∧ win0_3.index t = ![0, 0] ∧ win0_4.index t = ![0, 0] ∧ win0_5.index t = ![t.val, 0] :=
  (by decide +kernel : ∀ t : Fin grid0.N, _)

/-- Row `r` of tile `t`, of the eight rows before it and of the eight behind it. -/
abbrev at256 (t : Fin cfg0.N) (r : Fin 256) : Fin 8192 := ⟨256 * t.val + r, by have := lt32 t; omega⟩
abbrev beforeRow (t : Fin cfg0.N) (r : Fin 8) : Fin 8192 := ⟨max (32 * t.val - 1) 0 * 8 + r, by have := lt32 t; omega⟩
abbrev behindRow (t : Fin cfg0.N) (r : Fin 8) : Fin 8192 := ⟨min (32 * (t.val + 1)) 1023 * 8 + r, by omega⟩

theorem blk0 (c : Dev nD) (t : Fin cfg0.N) (r : Fin 256) (d : Fin 5632) : B0 m c t (ix2 r d) = X0 m c (ix2 (at256 t r) d) := by
  have e : (win0_0.blk t).view.emb (ix2 r d) = ix2 (at256 t r) d := by
    blk_point [idx t]
  unfold X0
  rw [← V_main_arg0 m c]
  unfold B0 iblk
  generalize V m c = W
  exact congrArg (W main_arg0) e
theorem blk1 (c : Dev nD) (t : Fin cfg0.N) (r : Fin 8) (d : Fin 5632) : B1 m c t (ix2 r d) = X0 m c (ix2 (beforeRow t r) d) := by
  have e : (win0_1.blk t).view.emb (ix2 r d) = ix2 (beforeRow t r) d := by
    blk_point [idx t]
  unfold X0
  rw [← V_main_arg0 m c]
  unfold B1 iblk
  generalize V m c = W
  exact congrArg (W main_arg0) e
theorem blk2 (c : Dev nD) (t : Fin cfg0.N) (r : Fin 8) (d : Fin 5632) : B2 m c t (ix2 r d) = X0 m c (ix2 (behindRow t r) d) := by
  have e : (win0_2.blk t).view.emb (ix2 r d) = ix2 (behindRow t r) d := by
    blk_point [idx t]
  unfold X0
  rw [← V_main_arg0 m c]
  unfold B2 iblk
  generalize V m c = W
  exact congrArg (W main_arg0) e
theorem blk3 (c : Dev nD) (t : Fin cfg0.N) (k : Fin 3) (d : Fin 5632) : B3 m c t (ix2 ⟨k, by omega⟩ d) = X1 m c (ix2 k d) := by
  have e : (win0_3.blk t).view.emb (ix2 ⟨k, by omega⟩ d) = ix2 ⟨k, by omega⟩ d := by
    blk_point [idx t]
  refine Eq.trans ?_ (taps_apply (X1 m c) k d)
  rw [← taps_entry]
  unfold B3 iblk
  generalize V m c = W
  exact congrArg (W main_v1) e
theorem blk4 (c : Dev nD) (t : Fin cfg0.N) (d : Fin 5632) : B4 m c t (ix2 0 d) = X2 m c (ix1 d) := by
  have e : (win0_4.blk t).view.emb (ix2 0 d) = ix2 0 d := by
    blk_point [idx t]
  refine Eq.trans ?_ (oneRow_apply (X2 m c) d)
  rw [← shift_entry]
  unfold B4 iblk
  generalize V m c = W
  exact congrArg (W main_v2) e

open Cert.ConvFwdReferenceIdeal.Rows (up tap shift)

theorem same_row (c : Dev nD) (t : Fin cfg0.N) (r : Fin 256) (d : Fin 5632) :
    (B0 m c t (ix2 r d) : EReal) = padded (up (X0 m c)) (1 + (at256 t r).val) d :=
  (blk0 m c t r d).trans (padded_in (up (X0 m c)) _ d (at256 t r) (by omega)).symm
theorem before_row (c : Dev nD) (t : Fin cfg0.N) (r : Fin 256) (d : Fin 5632) :
    before t.val (fun a d => B1 m c t (ix2 a d)) (fun a d => B0 m c t (ix2 a d)) r d = padded (up (X0 m c)) (at256 t r).val d := by
  have ht := lt32 t
  unfold before
  by_cases h0 : (r : ℕ) = 0
  · rw [if_pos h0]
    by_cases h1 : 0 < t.val
    · rw [if_pos h1, padded_in (up (X0 m c)) _ d (beforeRow t 7) (by show 256 * t.val + r = max (32 * t.val - 1) 0 * 8 + 7 + 1; omega)]
      exact blk1 m c t 7 d
    · rw [if_neg h1, padded_out _ _ _ (by show ¬ (1 ≤ 256 * t.val + r ∧ 256 * t.val + r < 8193); omega)]
  · rw [if_neg h0, padded_in (up (X0 m c)) _ d (at256 t ⟨(r + 256 - 1) % 256, by omega⟩) (by show 256 * t.val + r = 256 * t.val + (r + 256 - 1) % 256 + 1; omega)]
    exact blk0 m c t _ d
theorem behind_row (c : Dev nD) (t : Fin cfg0.N) (r : Fin 256) (d : Fin 5632) :
    behind t.val (fun a d => B0 m c t (ix2 a d)) (fun a d => B2 m c t (ix2 a d)) r d = padded (up (X0 m c)) (2 + (at256 t r).val) d := by
  have ht := lt32 t
  unfold behind
  by_cases h0 : (r : ℕ) = 255
  · rw [if_pos h0]
    by_cases h1 : t.val < 31
    · rw [if_pos h1, padded_in (up (X0 m c)) _ d (behindRow t 0) (by show 2 + (256 * t.val + r) = min (32 * (t.val + 1)) 1023 * 8 + 0 + 1; omega)]
      exact blk2 m c t 0 d
    · rw [if_neg h1, padded_out _ _ _ (by show ¬ (1 ≤ 2 + (256 * t.val + r) ∧ 2 + (256 * t.val + r) < 8193); omega)]
  · rw [if_neg h0, padded_in (up (X0 m c)) _ d (at256 t ⟨(r + 256 - 255) % 256, by omega⟩) (by show 2 + (256 * t.val + r) = 256 * t.val + (r + 256 - 255) % 256 + 1; omega)]
    exact blk0 m c t _ d

theorem conv_row (c : Dev nD) (t : Fin cfg0.N) (r : Fin 256) (d : Fin 5632) :
    (k0_pay2 (F := Ideal) (grid0.coords t) (B0 m c t) (B1 m c t) (B2 m c t) (B3 m c t) (B4 m c t) (ix2 r d) : EReal)
      = val_main_v24 (F := Ideal) (X0 m c) (X1 m c) (X2 m c) (ix2 (at256 t r) d) := by
  rw [ConvFwdReferenceIdeal.Rows.conv_apply]
  refine (tile_conv _ _ _ _ _ _ r d).trans ?_
  rw [coord t]
  unfold conv
  rw [before_row, behind_row]
  exact congrArg₂ (· + ·) (congrArg₂ (· + ·) (congrArg₂ (· + ·) (congrArg₂ (· * ·) rfl (blk3 m c t 0 d)) (congrArg₂ (· * ·) (same_row m c t r d) (blk3 m c t 1 d)))
    (congrArg₂ (· * ·) rfl (blk3 m c t 2 d))) (blk4 m c t d)

theorem tile (c : Dev nD) (t : Fin cfg0.N) (r : Fin 256) (j : Fin 2816) :
    (out0_5 (F := Ideal) (grid0.coords t) (B0 m c t) (B1 m c t) (B2 m c t) (B3 m c t) (B4 m c t) (ix2 r j) : EReal)
      = val_main_v29 (F := Ideal) (X0 m c) (X1 m c) (X2 m c) (ix2 (at256 t r) j) := by
  rw [out_5]
  refine (gated_apply _ r j).trans (Eq.trans ?_ (ConvFwdReferenceIdeal.Rows.out_apply _ _ _ (at256 t r) j).symm)
  exact congrArg (fun u => gated u j) (funext fun d => conv_row m c t r d)

theorem tile_all (c : Dev nD) (t : Fin cfg0.N) (y : S256x2816.Idx) : ((dats m 0 c).after 5 t : Vec Ideal S256x2816 .bf16) y
    = val_main_v29 (F := Ideal) (X0 m c) (X1 m c) (X2 m c) (ix2 (at256 t (y 0)) (y 1)) := by
  rw [after0_5]
  exact (congrArg _ (eq_ix2 y)).trans (tile m c t (y 0) (y 1))

theorem place (t : Fin cfg0.N) (y : S256x2816.Idx) : (((cfg0.win 5).blk t).view.emb y : S8192x2816.Idx) = ix2 (at256 t (y 0)) (y 1) := by
  blk_point [idx t]

theorem agree (c : Dev nD) : (dats m 0 c).arrAt 5 cfg0.N = val_main_v29 (F := Ideal) (X0 m c) (X1 m c) (X2 m c) := by
  have h := tile_all m c
  generalize val_main_v29 (F := Ideal) (X0 m c) (X1 m c) (X2 m c) = G at h ⊢
  generalize dats m 0 c = D at h ⊢
  exact D.arrAt_eq_of_covers 5 G (by decide +kernel) fun t _ y => (h t y).trans (congrArg G (place t y).symm)

theorem out_same (c : Dev nD) (x0 : FVec Ideal S8192x5632 .f32) (x1 : FVec Ideal S3x5632 .f32) (x2 : FVec Ideal S5632 .f32)
    (a0 : x0 = m ((c : Thread nD τ).loc main_arg0)) (a1 : x1 = m ((c : Thread nD τ).loc main_arg1)) (a2 : x2 = m ((c : Thread nD τ).loc main_arg2)) :
    Cert.ConvFwdReferenceIdeal.Read.val_main_v29 (F := Ideal) x0 x1 x2 = (dats m 0 c).arrAt 5 cfg0.N := by
  subst a0 a1 a2
  exact (agree m c).symm

end Cert.ConvFwdIdeal.Value

end
-- ==== Proof.Prep.Spec.lean ====
/-
  The discretisation's gradient at one state, as formulas over the extended reals.
-/
module

public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Prep

variable (lr li ld p q c5 c6 : EReal)

/-- The step, the size and the angle of the discrete pole, and its distance from one. -/
def dt : EReal := Ideal.exp ld
def size : EReal := Ideal.exp (lr * dt ld)
def ang : EReal := li * dt ld
def nr : EReal := size lr ld * Ideal.cos (ang li ld) - 1
def ni : EReal := size lr ld * Ideal.sin (ang li ld)
/-- The quotient of that distance by the pole. -/
def den : EReal := lr * lr + li * li
def topR : EReal := nr lr li ld * lr + ni lr li ld * li
def topI : EReal := ni lr li ld * lr - nr lr li ld * li
def fR : EReal := Ideal.div (topR lr li ld) (den lr li)
def fI : EReal := Ideal.div (topI lr li ld) (den lr li)
def isq : EReal := Ideal.div 1 (den lr li * den lr li)
/-- The gradients of the quotient's parts `q` and `p`, carried back to the quotient's operands. -/
def gi : EReal := Ideal.div p (den lr li)
def gr : EReal := Ideal.div q (den lr li)
def de : EReal := -(p * isq lr li * topI lr li ld) + -(q * isq lr li * topR lr li ld)
def cr : EReal := c5 + -(gi lr li p) * li + gr lr li q * lr
def ci : EReal := c6 + gi lr li p * lr + gr lr li q * li
/-- Back to the angle and the size. -/
def dang : EReal := size lr ld * ci lr li p q c6 * Ideal.cos (ang li ld) + -(size lr ld * cr lr li p q c5) * Ideal.sin (ang li ld)
def dsize : EReal := (ci lr li p q c6 * Ideal.sin (ang li ld) + cr lr li p q c5 * Ideal.cos (ang li ld)) * size lr ld
/-- The gradients of the pole's two parts and of the step's logarithm. -/
def dlr : EReal := ni lr li ld * gi lr li p + nr lr li ld * gr lr li q + lr * de lr li ld p q + de lr li ld p q * lr
  + dsize lr li ld p q c5 c6 * dt ld
def dli : EReal := nr lr li ld * -(gi lr li p) + ni lr li ld * gr lr li q + li * de lr li ld p q + de lr li ld p q * li
  + dang lr li ld p q c5 c6 * dt ld
def dld : EReal := (li * dang lr li ld p q c5 c6 + lr * dsize lr li ld p q c5 c6) * dt ld

end Cert.Prep
-- ==== Proof.PrepFwd.Agree.lean ====
/-
  The discretisation of the scan's poles: the version's call and reference.py's lines return the same arrays.
-/
module

public import proofs.«01_k».proof.Proof.Gen.PrepFwdIdeal.Value
public import proofs.«01_k».proof.Proof.Gen.PrepFwdReferenceIdeal.Read
public import proofs.«01_k».proof.Proof.Prep.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepFwdReferenceIdeal.Rows

open Cert.PrepFwdReferenceIdeal Cert.PrepFwdReferenceIdeal.Read Cert.Prep

/-- The `r`-th power's number, and that power's two parts. -/
def num (r : Fin 8) : EReal := Scalar.sitofp (F := Ideal) .f32 (BitVec.ofNat 32 (r : ℕ) + 1#32)
def powR (lr li ld : EReal) (r : Fin 8) : EReal := Ideal.exp (lr * dt ld * num r) * Ideal.cos (li * dt ld * num r)
def powI (lr li ld : EReal) (r : Fin 8) : EReal := Ideal.exp (lr * dt ld * num r) * Ideal.sin (li * dt ld * num r)

variable (x0 x1 x2 : FVec Ideal S32x64 .f32) (x3 x4 : FVec Ideal S32x64x16 .f32) (h : Fin 32) (s : Fin 64)

theorem nr_apply : (val_main_v12 (F := Ideal) x0 x1 x2 (ix2 h s) : EReal) = nr (x0 (ix2 h s)) (x1 (ix2 h s)) (x2 (ix2 h s)) := by
  unfold nr size ang dt
  pointwise [val_main_v12, val_main_v11, val_main_v5, val_main_v4, val_main_v3, val_main_v2, val_main_v1, val_main_v0, val_main_cst]
theorem nr_again : (val_main_v19 (F := Ideal) x0 x1 x2 (ix2 h s) : EReal) = nr (x0 (ix2 h s)) (x1 (ix2 h s)) (x2 (ix2 h s)) := by
  unfold nr size ang dt
  pointwise [val_main_v19, val_main_v18, val_main_v5, val_main_v4, val_main_v3, val_main_v2, val_main_v1, val_main_v0, val_main_cst_0]
theorem ni_apply : (val_main_v7 (F := Ideal) x0 x1 x2 (ix2 h s) : EReal) = ni (x0 (ix2 h s)) (x1 (ix2 h s)) (x2 (ix2 h s)) := by
  unfold ni size ang dt
  pointwise [val_main_v7, val_main_v6, val_main_v3, val_main_v2, val_main_v1, val_main_v0]
theorem den_apply : (val_main_v10 (F := Ideal) x0 x1 (ix2 h s) : EReal) = den (x0 (ix2 h s)) (x1 (ix2 h s)) := by
  unfold den
  pointwise [val_main_v10, val_main_v9, val_main_v8]
theorem fR_apply : (val_main_v16 (F := Ideal) x0 x1 x2 (ix2 h s) : EReal) = fR (x0 (ix2 h s)) (x1 (ix2 h s)) (x2 (ix2 h s)) := by
  unfold fR topR
  rw [← nr_apply, ← ni_apply, ← den_apply]
  pointwise [val_main_v16, val_main_v15, val_main_v14, val_main_v13]
theorem fI_apply : (val_main_v22 (F := Ideal) x0 x1 x2 (ix2 h s) : EReal) = fI (x0 (ix2 h s)) (x1 (ix2 h s)) (x2 (ix2 h s)) := by
  unfold fI topI
  rw [← nr_again, ← ni_apply, ← den_apply]
  pointwise [val_main_v22, val_main_v21, val_main_v20, val_main_v17]

/-- The state a column stands for. -/
abbrev hd (n : Fin 2048) : Fin 32 := ⟨(n : ℕ) / 64, by omega⟩
abbrev st (n : Fin 2048) : Fin 64 := ⟨(n : ℕ) % 64, by omega⟩

theorem num_apply (r : Fin 8) : (val_main_v40 (F := Ideal) (ix1 r) : EReal) = num r := by
  unfold num
  rw [BitVec.add_comm]
  pointwise [val_main_v40, val_main_v39, val_main_v38, val_main_v37, val_main_c]
  rfl
theorem powR_row (r : Fin 8) (n : Fin 2048) : (val_main_v54 (F := Ideal) x0 x1 x2 (ix2 r n) : EReal) = powR (x0 (ix2 (hd n) (st n))) (x1 (ix2 (hd n) (st n))) (x2 (ix2 (hd n) (st n))) r := by
  unfold powR dt
  rw [← num_apply]
  pointwise [val_main_v54, val_main_v53, val_main_v52, val_main_v51, val_main_v50, val_main_v49, val_main_v48, val_main_v47, val_main_v46, val_main_v45, val_main_v44, val_main_v43, val_main_v42, val_main_v41, val_main_v0]
theorem powI_row (r : Fin 8) (n : Fin 2048) : (val_main_v56 (F := Ideal) x0 x1 x2 (ix2 r n) : EReal) = powI (x0 (ix2 (hd n) (st n))) (x1 (ix2 (hd n) (st n))) (x2 (ix2 (hd n) (st n))) r := by
  unfold powI dt
  rw [← num_apply]
  pointwise [val_main_v56, val_main_v55, val_main_v52, val_main_v51, val_main_v50, val_main_v49, val_main_v48, val_main_v47, val_main_v46, val_main_v45, val_main_v44, val_main_v43, val_main_v42, val_main_v41, val_main_v0]
theorem bR_row (k : Fin 16) (n : Fin 2048) : (val_main_v58 (F := Ideal) x0 x1 x2 x3 x4 (ix2 k n) : EReal)
    = fR (x0 (ix2 (hd n) (st n))) (x1 (ix2 (hd n) (st n))) (x2 (ix2 (hd n) (st n))) * x3 (ix3 (hd n) (st n) k) - fI (x0 (ix2 (hd n) (st n))) (x1 (ix2 (hd n) (st n))) (x2 (ix2 (hd n) (st n))) * x4 (ix3 (hd n) (st n) k) := by
  rw [← fI_apply, ← fR_apply]
  pointwise [val_main_v58, val_main_v57, val_main_v29, val_main_v28, val_main_v27, val_main_v26, val_main_v25, val_main_v24, val_main_v23]
theorem bI_row (k : Fin 16) (n : Fin 2048) : (val_main_v60 (F := Ideal) x0 x1 x2 x3 x4 (ix2 k n) : EReal)
    = fR (x0 (ix2 (hd n) (st n))) (x1 (ix2 (hd n) (st n))) (x2 (ix2 (hd n) (st n))) * x4 (ix3 (hd n) (st n) k) + fI (x0 (ix2 (hd n) (st n))) (x1 (ix2 (hd n) (st n))) (x2 (ix2 (hd n) (st n))) * x3 (ix3 (hd n) (st n) k) := by
  rw [← fI_apply, ← fR_apply]
  pointwise [val_main_v60, val_main_v59, val_main_v36, val_main_v35, val_main_v34, val_main_v33, val_main_v32, val_main_v31, val_main_v30]

end Cert.PrepFwdReferenceIdeal.Rows

namespace Cert.PrepFwdIdeal.Value

open Cert.PrepFwdIdeal Cert.PrepFwdIdeal.Gen Cert.Prep Cert.PrepFwdReferenceIdeal.Read
open Cert.PrepFwdReferenceIdeal.Rows (hd st num powR powI)

section Points
variable (x0 x1 x2 : FVec Ideal S1x2048 .f32) (x3 x4 : FVec Ideal S16x2048 .f32) (n : Fin 2048)

theorem num_apply (r : Fin 8) : (k0_pay1 (F := Ideal) (ix2 r n) : EReal) = num r := by
  unfold num
  pointwise [k0_pay1]
  rfl
theorem powR_apply (r : Fin 8) : (k0_pay5 (F := Ideal) x2 x0 x1 (ix2 r n) : EReal) = powR (x0 (ix2 0 n)) (x1 (ix2 0 n)) (x2 (ix2 0 n)) r := by
  unfold powR dt
  rw [← num_apply n]
  pointwise [k0_pay5, k0_pay4, k0_pay3, k0_pay2]
theorem powI_apply (r : Fin 8) : (k0_pay6 (F := Ideal) x2 x0 x1 (ix2 r n) : EReal) = powI (x0 (ix2 0 n)) (x1 (ix2 0 n)) (x2 (ix2 0 n)) r := by
  unfold powI dt
  rw [← num_apply n]
  pointwise [k0_pay6, k0_pay4, k0_pay3, k0_pay2]
theorem nr_apply : (k0_pay15 (F := Ideal) x0 x1 x2 (ix2 0 n) : EReal) = nr (x0 (ix2 0 n)) (x1 (ix2 0 n)) (x2 (ix2 0 n)) := by
  unfold nr size ang dt
  pointwise [k0_pay15, k0_pay13, k0_pay12, k0_pay11, k0_pay8, k0_pay7]
theorem ni_apply : (k0_pay14 (F := Ideal) x0 x1 x2 (ix2 0 n) : EReal) = ni (x0 (ix2 0 n)) (x1 (ix2 0 n)) (x2 (ix2 0 n)) := by
  unfold ni size ang dt
  pointwise [k0_pay14, k0_pay13, k0_pay12, k0_pay11, k0_pay8, k0_pay7]
theorem den_apply : (k0_pay16 (F := Ideal) x0 x1 (ix2 0 n) : EReal) = den (x0 (ix2 0 n)) (x1 (ix2 0 n)) := by
  unfold den
  pointwise [k0_pay16, k0_pay8, k0_pay7]
theorem fR_apply : (k0_pay17 (F := Ideal) x0 x1 x2 (ix2 0 n) : EReal) = fR (x0 (ix2 0 n)) (x1 (ix2 0 n)) (x2 (ix2 0 n)) := by
  unfold fR topR
  rw [← nr_apply, ← ni_apply, ← den_apply]
  pointwise [k0_pay17, k0_pay8, k0_pay7]
theorem fI_apply : (k0_pay18 (F := Ideal) x0 x1 x2 (ix2 0 n) : EReal) = fI (x0 (ix2 0 n)) (x1 (ix2 0 n)) (x2 (ix2 0 n)) := by
  unfold fI topI
  rw [← nr_apply, ← ni_apply, ← den_apply]
  pointwise [k0_pay18, k0_pay8, k0_pay7]
theorem bR_apply (k : Fin 16) : (k0_pay19 (F := Ideal) x0 x1 x2 x3 x4 (ix2 k n) : EReal) = fR (x0 (ix2 0 n)) (x1 (ix2 0 n)) (x2 (ix2 0 n)) * x3 (ix2 k n) - fI (x0 (ix2 0 n)) (x1 (ix2 0 n)) (x2 (ix2 0 n)) * x4 (ix2 k n) := by
  rw [← fI_apply, ← fR_apply]
  pointwise [k0_pay19, k0_pay9, k0_pay10]
theorem bI_apply (k : Fin 16) : (k0_pay20 (F := Ideal) x0 x1 x2 x3 x4 (ix2 k n) : EReal) = fR (x0 (ix2 0 n)) (x1 (ix2 0 n)) (x2 (ix2 0 n)) * x4 (ix2 k n) + fI (x0 (ix2 0 n)) (x1 (ix2 0 n)) (x2 (ix2 0 n)) * x3 (ix2 k n) := by
  rw [← fI_apply, ← fR_apply]
  pointwise [k0_pay20, k0_pay9, k0_pay10]

theorem out_5 : out0_5 (F := Ideal) x0 x1 x2 x3 x4 = k0_pay5 (F := Ideal) x2 x0 x1 := by
  unfold out0_5
  frame_out
theorem out_6 : out0_6 (F := Ideal) x0 x1 x2 x3 x4 = k0_pay6 (F := Ideal) x2 x0 x1 := by
  unfold out0_6
  frame_out
theorem out_7 : out0_7 (F := Ideal) x0 x1 x2 x3 x4 = k0_pay19 (F := Ideal) x0 x1 x2 x3 x4 := by
  unfold out0_7
  frame_out
theorem out_8 : out0_8 (F := Ideal) x0 x1 x2 x3 x4 = k0_pay20 (F := Ideal) x0 x1 x2 x3 x4 := by
  unfold out0_8
  frame_out
end Points

/-- The states side by side. -/
def flat (x : FVec Ideal S32x64 .f32) : FVec Ideal S1x2048 .f32 := shapeCast S1x2048 x shapeCasts_S32x64_S1x2048
/-- The states side by side, the input channels as rows. -/
def flat3 (x : FVec Ideal S32x64x16 .f32) : FVec Ideal S16x2048 .f32 :=
  shapeCast S16x2048 (transpose S16x32x64 [2, 0, 1] x transposes_S32x64x16_S16x32x64_2_0_1) shapeCasts_S16x32x64_S16x2048

theorem flat_apply (x : FVec Ideal S32x64 .f32) (n : Fin 2048) : flat x (ix2 0 n) = x (ix2 (hd n) (st n)) := by
  pointwise [flat]
theorem flat3_apply (x : FVec Ideal S32x64x16 .f32) (k : Fin 16) (n : Fin 2048) : flat3 x (ix2 k n) = x (ix3 (hd n) (st n) k) := by
  pointwise [flat3]

variable (m : (ℓ : Loc nD τ sig) → Buf (Elt Ideal) ℓ)

abbrev X0 (c : Dev nD) : FVec Ideal S32x64 .f32 := m ((c : Thread nD τ).loc main_arg0)
abbrev X1 (c : Dev nD) : FVec Ideal S32x64 .f32 := m ((c : Thread nD τ).loc main_arg1)
abbrev X2 (c : Dev nD) : FVec Ideal S32x64 .f32 := m ((c : Thread nD τ).loc main_arg2)
abbrev X3 (c : Dev nD) : FVec Ideal S32x64x16 .f32 := m ((c : Thread nD τ).loc main_arg3)
abbrev X4 (c : Dev nD) : FVec Ideal S32x64x16 .f32 := m ((c : Thread nD τ).loc main_arg4)

set_option maxHeartbeats 2000000 in
theorem entry0 (c : Dev nD) : (V m c main_v0 : Vec Ideal S1x2048 .f32) = flat (X0 m c) := by
  entry_read
  rfl
set_option maxHeartbeats 2000000 in
theorem entry1 (c : Dev nD) : (V m c main_v1 : Vec Ideal S1x2048 .f32) = flat (X1 m c) := by
  entry_read
  rfl
set_option maxHeartbeats 2000000 in
theorem entry2 (c : Dev nD) : (V m c main_v2 : Vec Ideal S1x2048 .f32) = flat (X2 m c) := by
  entry_read
  rfl
set_option maxHeartbeats 2000000 in
theorem entry3 (c : Dev nD) : (V m c main_v4 : Vec Ideal S16x2048 .f32) = flat3 (X3 m c) := by
  entry_read
  rfl
set_option maxHeartbeats 2000000 in
theorem entry4 (c : Dev nD) : (V m c main_v6 : Vec Ideal S16x2048 .f32) = flat3 (X4 m c) := by
  entry_read
  rfl

/-- The one grid point takes each array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem blk0 (c : Dev nD) (t : Fin cfg0.N) : (iblk m c 0 t : Vec Ideal S1x2048 .f32) = flat (X0 m c) := by
  rw [← entry0 m c]
  unfold iblk
  generalize V m c = W
  refine funext fun y => congrArg (W main_v0) ?_
  blk_point [idx t]
theorem blk1 (c : Dev nD) (t : Fin cfg0.N) : (iblk m c 1 t : Vec Ideal S1x2048 .f32) = flat (X1 m c) := by
  rw [← entry1 m c]
  unfold iblk
  generalize V m c = W
  refine funext fun y => congrArg (W main_v1) ?_
  blk_point [idx t]
theorem blk2 (c : Dev nD) (t : Fin cfg0.N) : (iblk m c 2 t : Vec Ideal S1x2048 .f32) = flat (X2 m c) := by
  rw [← entry2 m c]
  unfold iblk
  generalize V m c = W
  refine funext fun y => congrArg (W main_v2) ?_
  blk_point [idx t]
theorem blk3 (c : Dev nD) (t : Fin cfg0.N) : (iblk m c 3 t : Vec Ideal S16x2048 .f32) = flat3 (X3 m c) := by
  rw [← entry3 m c]
  unfold iblk
  generalize V m c = W
  refine funext fun y => congrArg (W main_v4) ?_
  blk_point [idx t]
theorem blk4 (c : Dev nD) (t : Fin cfg0.N) : (iblk m c 4 t : Vec Ideal S16x2048 .f32) = flat3 (X4 m c) := by
  rw [← entry4 m c]
  unfold iblk
  generalize V m c = W
  refine funext fun y => congrArg (W main_v6) ?_
  blk_point [idx t]

theorem powR_point (x0 x1 x2 : FVec Ideal S32x64 .f32) (x3 x4 : FVec Ideal S32x64x16 .f32) (r : Fin 8) (n : Fin 2048) :
    (k0_pay5 (F := Ideal) (flat x2) (flat x0) (flat x1) (ix2 r n) : EReal) = val_main_v54 (F := Ideal) x0 x1 x2 (ix2 r n) := by
  rw [powR_apply, PrepFwdReferenceIdeal.Rows.powR_row, flat_apply, flat_apply, flat_apply]
theorem powR_tile (c : Dev nD) (t : Fin cfg0.N) : ((dats m 0 c).after 5 t : Vec Ideal S8x2048 .f32) = val_main_v54 (F := Ideal) (X0 m c) (X1 m c) (X2 m c) := by
  rw [after0_5, blk0, blk1, blk2, blk3, blk4, out_5]
  exact funext fun y => (congrArg _ (eq_ix2 y)).trans ((powR_point _ _ _ (X3 m c) (X4 m c) (y 0) (y 1)).trans (congrArg _ (eq_ix2 y).symm))
theorem powR_agree (c : Dev nD) : (dats m 0 c).arrAt 5 cfg0.N = val_main_v54 (F := Ideal) (X0 m c) (X1 m c) (X2 m c) := by
  have h := powR_tile m c
  generalize val_main_v54 (F := Ideal) (X0 m c) (X1 m c) (X2 m c) = G at h ⊢
  refine (dats m 0 c).arrAt_eq_of_covers 5 G (by decide +kernel) fun t _ y => ?_
  rw [h t]
  refine congrArg G ?_
  blk_point [idx t]

theorem powI_point (x0 x1 x2 : FVec Ideal S32x64 .f32) (x3 x4 : FVec Ideal S32x64x16 .f32) (r : Fin 8) (n : Fin 2048) :
    (k0_pay6 (F := Ideal) (flat x2) (flat x0) (flat x1) (ix2 r n) : EReal) = val_main_v56 (F := Ideal) x0 x1 x2 (ix2 r n) := by
  rw [powI_apply, PrepFwdReferenceIdeal.Rows.powI_row, flat_apply, flat_apply, flat_apply]
theorem powI_tile (c : Dev nD) (t : Fin cfg0.N) : ((dats m 0 c).after 6 t : Vec Ideal S8x2048 .f32) = val_main_v56 (F := Ideal) (X0 m c) (X1 m c) (X2 m c) := by
  rw [after0_6, blk0, blk1, blk2, blk3, blk4, out_6]
  exact funext fun y => (congrArg _ (eq_ix2 y)).trans ((powI_point _ _ _ (X3 m c) (X4 m c) (y 0) (y 1)).trans (congrArg _ (eq_ix2 y).symm))
theorem powI_agree (c : Dev nD) : (dats m 0 c).arrAt 6 cfg0.N = val_main_v56 (F := Ideal) (X0 m c) (X1 m c) (X2 m c) := by
  have h := powI_tile m c
  generalize val_main_v56 (F := Ideal) (X0 m c) (X1 m c) (X2 m c) = G at h ⊢
  refine (dats m 0 c).arrAt_eq_of_covers 6 G (by decide +kernel) fun t _ y => ?_
  rw [h t]
  refine congrArg G ?_
  blk_point [idx t]

theorem bR_point (x0 x1 x2 : FVec Ideal S32x64 .f32) (x3 x4 : FVec Ideal S32x64x16 .f32) (r : Fin 16) (n : Fin 2048) :
    (k0_pay19 (F := Ideal) (flat x0) (flat x1) (flat x2) (flat3 x3) (flat3 x4) (ix2 r n) : EReal) = val_main_v58 (F := Ideal) x0 x1 x2 x3 x4 (ix2 r n) := by
  rw [bR_apply, PrepFwdReferenceIdeal.Rows.bR_row, flat_apply, flat_apply, flat_apply, flat3_apply, flat3_apply]
theorem bR_tile (c : Dev nD) (t : Fin cfg0.N) : ((dats m 0 c).after 7 t : Vec Ideal S16x2048 .f32) = val_main_v58 (F := Ideal) (X0 m c) (X1 m c) (X2 m c) (X3 m c) (X4 m c) := by
  rw [after0_7, blk0, blk1, blk2, blk3, blk4, out_7]
  exact funext fun y => (congrArg _ (eq_ix2 y)).trans ((bR_point _ _ _ (X3 m c) (X4 m c) (y 0) (y 1)).trans (congrArg _ (eq_ix2 y).symm))
theorem bR_agree (c : Dev nD) : (dats m 0 c).arrAt 7 cfg0.N = val_main_v58 (F := Ideal) (X0 m c) (X1 m c) (X2 m c) (X3 m c) (X4 m c) := by
  have h := bR_tile m c
  generalize val_main_v58 (F := Ideal) (X0 m c) (X1 m c) (X2 m c) (X3 m c) (X4 m c) = G at h ⊢
  refine (dats m 0 c).arrAt_eq_of_covers 7 G (by decide +kernel) fun t _ y => ?_
  rw [h t]
  refine congrArg G ?_
  blk_point [idx t]

theorem bI_point (x0 x1 x2 : FVec Ideal S32x64 .f32) (x3 x4 : FVec Ideal S32x64x16 .f32) (r : Fin 16) (n : Fin 2048) :
    (k0_pay20 (F := Ideal) (flat x0) (flat x1) (flat x2) (flat3 x3) (flat3 x4) (ix2 r n) : EReal) = val_main_v60 (F := Ideal) x0 x1 x2 x3 x4 (ix2 r n) := by
  rw [bI_apply, PrepFwdReferenceIdeal.Rows.bI_row, flat_apply, flat_apply, flat_apply, flat3_apply, flat3_apply]
theorem bI_tile (c : Dev nD) (t : Fin cfg0.N) : ((dats m 0 c).after 8 t : Vec Ideal S16x2048 .f32) = val_main_v60 (F := Ideal) (X0 m c) (X1 m c) (X2 m c) (X3 m c) (X4 m c) := by
  rw [after0_8, blk0, blk1, blk2, blk3, blk4, out_8]
  exact funext fun y => (congrArg _ (eq_ix2 y)).trans ((bI_point _ _ _ (X3 m c) (X4 m c) (y 0) (y 1)).trans (congrArg _ (eq_ix2 y).symm))
theorem bI_agree (c : Dev nD) : (dats m 0 c).arrAt 8 cfg0.N = val_main_v60 (F := Ideal) (X0 m c) (X1 m c) (X2 m c) (X3 m c) (X4 m c) := by
  have h := bI_tile m c
  generalize val_main_v60 (F := Ideal) (X0 m c) (X1 m c) (X2 m c) (X3 m c) (X4 m c) = G at h ⊢
  refine (dats m 0 c).arrAt_eq_of_covers 8 G (by decide +kernel) fun t _ y => ?_
  rw [h t]
  refine congrArg G ?_
  blk_point [idx t]

theorem powR_same (c : Dev nD) (x0 : FVec Ideal S32x64 .f32) (x1 : FVec Ideal S32x64 .f32) (x2 : FVec Ideal S32x64 .f32)
    (a0 : x0 = m ((c : Thread nD τ).loc main_arg0)) (a1 : x1 = m ((c : Thread nD τ).loc main_arg1)) (a2 : x2 = m ((c : Thread nD τ).loc main_arg2)) :
    Cert.PrepFwdReferenceIdeal.Read.val_main_v54 (F := Ideal) x0 x1 x2 = (dats m 0 c).arrAt 5 cfg0.N := by
  subst a0 a1 a2
  exact (powR_agree m c).symm

theorem powI_same (c : Dev nD) (x0 : FVec Ideal S32x64 .f32) (x1 : FVec Ideal S32x64 .f32) (x2 : FVec Ideal S32x64 .f32)
    (a0 : x0 = m ((c : Thread nD τ).loc main_arg0)) (a1 : x1 = m ((c : Thread nD τ).loc main_arg1)) (a2 : x2 = m ((c : Thread nD τ).loc main_arg2)) :
    Cert.PrepFwdReferenceIdeal.Read.val_main_v56 (F := Ideal) x0 x1 x2 = (dats m 0 c).arrAt 6 cfg0.N := by
  subst a0 a1 a2
  exact (powI_agree m c).symm

theorem bR_same (c : Dev nD) (x0 : FVec Ideal S32x64 .f32) (x1 : FVec Ideal S32x64 .f32) (x2 : FVec Ideal S32x64 .f32) (x3 : FVec Ideal S32x64x16 .f32) (x4 : FVec Ideal S32x64x16 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) :
    Cert.PrepFwdReferenceIdeal.Read.val_main_v58 (F := Ideal) x0 x1 x2 x3 x4 = (dats m 0 c).arrAt 7 cfg0.N := by
  subst a0 a1 a2 a3 a4
  exact (bR_agree m c).symm

theorem bI_same (c : Dev nD) (x0 : FVec Ideal S32x64 .f32) (x1 : FVec Ideal S32x64 .f32) (x2 : FVec Ideal S32x64 .f32) (x3 : FVec Ideal S32x64x16 .f32) (x4 : FVec Ideal S32x64x16 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) :
    Cert.PrepFwdReferenceIdeal.Read.val_main_v60 (F := Ideal) x0 x1 x2 x3 x4 = (dats m 0 c).arrAt 8 cfg0.N := by
  subst a0 a1 a2 a3 a4
  exact (bI_agree m c).symm

end Cert.PrepFwdIdeal.Value

end
-- ==== Proof.ModFwd.Agree.lean ====
/-
  The modulation's forward pass: the version's call and reference.py's lines return the same array.
-/
module

public import proofs.«01_k».proof.Proof.Gen.ModFwdIdeal.Value
public import proofs.«01_k».proof.Proof.Gen.ModFwdReferenceIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModFwdReferenceIdeal.Rows

open Cert.ModFwdReferenceIdeal Cert.ModFwdReferenceIdeal.Read

variable (x0 : FVec Ideal S8x1024 .f32) (x1 : FVec Ideal S1024 .f32) (x2 : FVec Ideal S1024x768 .f32) (x3 : FVec Ideal S768 .f32)

/-- The product of a row's gate with the weights. -/
def lin (v : Fin 1024 → EReal) (j : Fin 768) : EReal := ∑ k, v k * Ideal.logistic (v k) * x2 (ix2 k j)

theorem lat_apply (r : Fin 8) (j : Fin 768) : (val_main_v1 (F := Ideal) x0 x2 (ix2 r j) : EReal) = lin x2 (fun k => x0 (ix2 r k)) j := by
  unfold lin
  pointwise [val_main_v1, val_main_v0, val_main_call0_v0, val_main_call0_v1, val_main_call0_cst, val_main_call0_v2, val_main_call0_v3, val_main_call0_cst_0, val_main_call0_v4, val_main_call0_v5]
  rfl
theorem ctx_apply (j : Fin 768) : (val_main_v4 (F := Ideal) x1 x2 (ix2 0 j) : EReal) = lin x2 (fun k => x1 (ix1 k)) j := by
  unfold lin
  pointwise [val_main_v4, val_main_v3, val_main_v2, val_main_call1_v0, val_main_call1_v1, val_main_call1_cst, val_main_call1_v2, val_main_call1_v3, val_main_call1_cst_0, val_main_call1_v4, val_main_call1_v5]
  rfl

end Cert.ModFwdReferenceIdeal.Rows

namespace Cert.ModFwdIdeal.Value

open Cert.ModFwdIdeal Cert.ModFwdIdeal.Gen Cert.ModFwdReferenceIdeal.Read
open Cert.ModFwdReferenceIdeal.Rows (lin)

theorem out_apply (v : FVec Ideal S16x1024 .f32) (w : FVec Ideal S1024x768 .f32) (b : FVec Ideal S1x768 .f32) (r : Fin 16) (j : Fin 768) :
    (k0_pay1 (F := Ideal) v w b (ix2 r j) : EReal) = lin w (fun k => v (ix2 r k)) j + b (ix2 0 j) := by
  unfold lin
  pointwise [k0_pay1]

theorem lin_zero (w : FVec Ideal S1024x768 .f32) (j : Fin 768) : lin w (fun _ => 0) j = 0 := by
  unfold lin
  simp only [zero_mul, Finset.sum_const_zero]

/-- The rows whose unit is taken: eight of the latents, the context's, and zeros. -/
def rows (x0 : FVec Ideal S8x1024 .f32) (x1 : FVec Ideal S1024 .f32) : FVec Ideal S16x1024 .f32 :=
  concatenate S16x1024 0 [⟨S9x1024, concatenate S9x1024 0 [⟨S8x1024, x0⟩, ⟨S1x1024, broadcastInDim S1x1024 ![1] bcast_S1024_S1x1024_1 x1⟩]
      concatenates_S8x1024_S1x1024_S9x1024_d0⟩,
    ⟨S7x1024, broadcastInDim S7x1024 ![] bcast_S_S7x1024 (constant (F := Ideal) S_ .f32 0x00000000#32)⟩]
    concatenates_S9x1024_S7x1024_S16x1024_d0
def oneRow (a : FVec Ideal S768 .f32) : FVec Ideal S1x768 .f32 := broadcastInDim S1x768 ![1] bcast_S768_S1x768_1 a

theorem oneRow_apply (a : FVec Ideal S768 .f32) (j : Fin 768) : oneRow a (ix2 0 j) = a (ix1 j) := by
  pointwise [oneRow]
theorem rows_lat (x0 : FVec Ideal S8x1024 .f32) (x1 : FVec Ideal S1024 .f32) (k : Fin 8) (j : Fin 1024) :
    rows x0 x1 (ix2 ⟨k, by omega⟩ j) = x0 (ix2 k j) := by
  pointwise [rows]
  exact dif_pos (by omega)
theorem rows_ctx (x0 : FVec Ideal S8x1024 .f32) (x1 : FVec Ideal S1024 .f32) (j : Fin 1024) :
    rows x0 x1 (ix2 8 j) = x1 (ix1 j) := by
  pointwise [rows]
theorem rows_rest (x0 : FVec Ideal S8x1024 .f32) (x1 : FVec Ideal S1024 .f32) (k : Fin 16) (h : 8 < (k : ℕ)) (j : Fin 1024) :
    rows x0 x1 (ix2 k j) = 0 := by
  pointwise [rows]
  rw [dif_neg (by omega)]

theorem ref_lat (x0 : FVec Ideal S8x1024 .f32) (x1 : FVec Ideal S1024 .f32) (x2 : FVec Ideal S1024x768 .f32) (x3 : FVec Ideal S768 .f32) (k : Fin 8) (j : Fin 768) :
    (val_main_v10 (F := Ideal) x0 x1 x2 x3 (ix2 ⟨k, by omega⟩ j) : EReal) = val_main_v1 (F := Ideal) x0 x2 (ix2 k j) + x3 (ix1 j) := by
  pointwise [val_main_v10, val_main_v9, val_main_v8, val_main_v7, val_main_v6, val_main_v5, val_main_cst]
  rw [dif_pos (by omega)]
theorem ref_ctx (x0 : FVec Ideal S8x1024 .f32) (x1 : FVec Ideal S1024 .f32) (x2 : FVec Ideal S1024x768 .f32) (x3 : FVec Ideal S768 .f32) (j : Fin 768) :
    (val_main_v10 (F := Ideal) x0 x1 x2 x3 (ix2 8 j) : EReal) = val_main_v4 (F := Ideal) x1 x2 (ix2 0 j) + x3 (ix1 j) := by
  pointwise [val_main_v10, val_main_v9, val_main_v8, val_main_v7, val_main_v6, val_main_v5, val_main_cst]
theorem ref_rest (x0 : FVec Ideal S8x1024 .f32) (x1 : FVec Ideal S1024 .f32) (x2 : FVec Ideal S1024x768 .f32) (x3 : FVec Ideal S768 .f32) (k : Fin 16) (h : 8 < (k : ℕ)) (j : Fin 768) :
    (val_main_v10 (F := Ideal) x0 x1 x2 x3 (ix2 k j) : EReal) = 0 + x3 (ix1 j) := by
  rw [zero_add]
  pointwise [val_main_v10, val_main_v9, val_main_v8, val_main_v7, val_main_v6, val_main_v5, val_main_cst]
  rw [dif_neg (by omega), zero_add]

theorem out_point (x0 : FVec Ideal S8x1024 .f32) (x1 : FVec Ideal S1024 .f32) (x2 : FVec Ideal S1024x768 .f32) (x3 : FVec Ideal S768 .f32) (k : Fin 16) (j : Fin 768) :
    (k0_pay1 (F := Ideal) (rows x0 x1) x2 (oneRow x3) (ix2 k j) : EReal) = val_main_v10 (F := Ideal) x0 x1 x2 x3 (ix2 k j) := by
  rw [out_apply, oneRow_apply]
  by_cases h : (k : ℕ) < 8
  · refine Eq.trans ?_ (ref_lat x0 x1 x2 x3 ⟨k, h⟩ j).symm
    rw [ModFwdReferenceIdeal.Rows.lat_apply]
    exact congrArg (fun v => lin x2 v j + x3 (ix1 j)) (funext fun i => rows_lat x0 x1 ⟨k, h⟩ i)
  by_cases h8 : (k : ℕ) = 8
  · obtain rfl : k = 8 := Fin.ext h8
    rw [ref_ctx, ModFwdReferenceIdeal.Rows.ctx_apply]
    exact congrArg (fun v => lin x2 v j + x3 (ix1 j)) (funext fun i => rows_ctx x0 x1 i)
  · rw [ref_rest x0 x1 x2 x3 k (by omega) j, ← lin_zero x2 j]
    exact congrArg (fun v => lin x2 v j + x3 (ix1 j)) (funext fun i => rows_rest x0 x1 k (by omega) i)

variable (m : (ℓ : Loc nD τ sig) → Buf (Elt Ideal) ℓ)

abbrev X0 (c : Dev nD) : FVec Ideal S8x1024 .f32 := m ((c : Thread nD τ).loc main_arg0)
abbrev X1 (c : Dev nD) : FVec Ideal S1024 .f32 := m ((c : Thread nD τ).loc main_arg1)
abbrev X2 (c : Dev nD) : FVec Ideal S1024x768 .f32 := m ((c : Thread nD τ).loc main_arg2)
abbrev X3 (c : Dev nD) : FVec Ideal S768 .f32 := m ((c : Thread nD τ).loc main_arg3)

set_option maxHeartbeats 2000000 in
theorem rows_entry (c : Dev nD) : (V m c main_v3 : Vec Ideal S16x1024 .f32) = rows (X0 m c) (X1 m c) := by
  entry_read
  rfl
set_option maxHeartbeats 2000000 in
theorem bias_entry (c : Dev nD) : (V m c main_v4 : Vec Ideal S1x768 .f32) = oneRow (X3 m c) := by
  entry_read
  rfl

/-- The one grid point takes each array whole. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem blk0 (c : Dev nD) (t : Fin cfg0.N) : (iblk m c 0 t : Vec Ideal S16x1024 .f32) = rows (X0 m c) (X1 m c) := by
  rw [← rows_entry m c]
  unfold iblk
  generalize V m c = W
  refine funext fun y => congrArg (W main_v3) ?_
  blk_point [idx t]
theorem blk1 (c : Dev nD) (t : Fin cfg0.N) : (iblk m c 1 t : Vec Ideal S1024x768 .f32) = X2 m c := by
  unfold X2
  rw [← V_main_arg2 m c]
  unfold iblk
  generalize V m c = W
  refine funext fun y => congrArg (W main_arg2) ?_
  blk_point [idx t]
theorem blk2 (c : Dev nD) (t : Fin cfg0.N) : (iblk m c 2 t : Vec Ideal S1x768 .f32) = oneRow (X3 m c) := by
  rw [← bias_entry m c]
  unfold iblk
  generalize V m c = W
  refine funext fun y => congrArg (W main_v4) ?_
  blk_point [idx t]

theorem out_3 (x0 : FVec Ideal S16x1024 .f32) (x1 : FVec Ideal S1024x768 .f32) (x2 : FVec Ideal S1x768 .f32) :
    out0_3 (F := Ideal) x0 x1 x2 = k0_pay1 (F := Ideal) x0 x1 x2 := by
  unfold out0_3
  frame_out

theorem tile (c : Dev nD) (t : Fin cfg0.N) : ((dats m 0 c).after 3 t : Vec Ideal S16x768 .f32)
    = val_main_v10 (F := Ideal) (X0 m c) (X1 m c) (X2 m c) (X3 m c) := by
  rw [after0_3, blk0, blk1, blk2, out_3]
  exact funext fun y => (congrArg _ (eq_ix2 y)).trans ((out_point _ _ _ _ (y 0) (y 1)).trans (congrArg _ (eq_ix2 y).symm))

theorem agree (c : Dev nD) : (dats m 0 c).arrAt 3 cfg0.N = val_main_v10 (F := Ideal) (X0 m c) (X1 m c) (X2 m c) (X3 m c) := by
  have h := tile m c
  generalize val_main_v10 (F := Ideal) (X0 m c) (X1 m c) (X2 m c) (X3 m c) = G at h ⊢
  refine (dats m 0 c).arrAt_eq_of_covers 3 G (by decide +kernel) fun t _ y => ?_
  rw [h t]
  refine congrArg G ?_
  blk_point [idx t]

theorem out_same (c : Dev nD) (x0 : FVec Ideal S8x1024 .f32) (x1 : FVec Ideal S1024 .f32) (x2 : FVec Ideal S1024x768 .f32) (x3 : FVec Ideal S768 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) :
    Cert.ModFwdReferenceIdeal.Read.val_main_v10 (F := Ideal) x0 x1 x2 x3 = (dats m 0 c).arrAt 3 cfg0.N := by
  subst a0 a1 a2 a3
  exact (agree m c).symm

end Cert.ModFwdIdeal.Value

end
-- ==== Proof.Merge.Spec.lean ====
/-
  The merge's gradient at one row, as formulas over the extended reals.
-/
module

public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

/-- The weights of the attention's branch and of the state-space branch. -/
def wa (gl : Fin 2048 → EReal) (j : Fin 1024) : EReal := Ideal.logistic (gl ⟨j, by omega⟩)
def wb (gl : Fin 2048 → EReal) (j : Fin 1024) : EReal := Ideal.logistic (gl ⟨1024 + j, by omega⟩)

variable (a s : Fin 1024 → EReal) (gl : Fin 2048 → EReal) (g ct : Fin 1024 → EReal) (w : Fin 1024 → Fin 1024 → EReal)

/-- The mixture of the branches, its projection, and the gradients back to the mixture. -/
def mix (j : Fin 1024) : EReal := wa gl j * a j + wb gl j * s j
def proj (j : Fin 1024) : EReal := ∑ x, mix a s gl x * w x j
def dt (j : Fin 1024) : EReal := g j * ct j
def dm (x : Fin 1024) : EReal := ∑ j, dt g ct j * w x j
/-- The gradients of the two branches and of the gate's columns. -/
def da (j : Fin 1024) : EReal := wa gl j * dm g ct w j
def ds (j : Fin 1024) : EReal := wb gl j * dm g ct w j
def dgl (q : Fin 2048) : EReal :=
  if h : (q : ℕ) < 1024 then dm g ct w ⟨q, h⟩ * a ⟨q, h⟩ * (wa gl ⟨q, h⟩ * (1 - wa gl ⟨q, h⟩))
  else dm g ct w ⟨q - 1024, by omega⟩ * s ⟨q - 1024, by omega⟩ * (wb gl ⟨q - 1024, by omega⟩ * (1 - wb gl ⟨q - 1024, by omega⟩))

/-- Heads of 64 columns laid out at every 128. -/
def spread (f : Fin 512 → EReal) (p : Fin 1024) : EReal :=
  if h : (p : ℕ) / 128 < 8 ∧ (p : ℕ) % 128 < 64 then f ⟨p / 128 * 64 + p % 128, by omega⟩ else 0

theorem spread_low (f : Fin 512 → EReal) (h : Fin 8) (d : Fin 64) :
    spread f ⟨h * 128 + d, by omega⟩ = f ⟨h * 64 + d, by omega⟩ := by
  have e : ((h : ℕ) * 128 + d) / 128 < 8 ∧ ((h : ℕ) * 128 + d) % 128 < 64 := by omega
  refine (dif_pos e).trans (congrArg f (Fin.ext ?_))
  show ((h : ℕ) * 128 + d) / 128 * 64 + ((h : ℕ) * 128 + d) % 128 = h * 64 + d
  omega
theorem spread_high (f : Fin 512 → EReal) (h : Fin 8) (d : Fin 64) : spread f ⟨h * 128 + (64 + d), by omega⟩ = 0 :=
  dif_neg fun e => by
    have : ((h : ℕ) * 128 + (64 + d)) % 128 < 64 := e.2
    omega

/-- A product of two laid-out vectors sums over the heads' own columns. -/
theorem spread_sum (f g : Fin 512 → EReal) : ∑ p, spread f p * spread g p = ∑ x, f x * g x := by
  refine (Fin.sum_univ_tiles 8 128 (by norm_num) _).trans (Eq.trans ?_ (Fin.sum_univ_tiles 8 64 (by norm_num) _).symm)
  refine Finset.sum_congr rfl fun h _ => ?_
  refine (Fin.sum_univ_add (a := 64) (b := 64) _).trans ?_
  refine (congrArg₂ (· + ·) (Finset.sum_congr rfl fun d _ => congrArg₂ (· * ·) (spread_low f h d) (spread_low g h d))
    (Finset.sum_eq_zero fun d _ => ?_)).trans (add_zero _)
  exact (congrArg₂ (· * ·) (spread_high f h d) (spread_high g h d)).trans (mul_zero _)

theorem sum_mul_spread {n : ℕ} (c : Fin n → EReal) (f : Fin n → Fin 512 → EReal) (p : Fin 1024) :
    ∑ j, c j * spread (f j) p = spread (fun x => ∑ j, c j * f j x) p := by
  unfold spread
  by_cases h : (p : ℕ) / 128 < 8 ∧ (p : ℕ) % 128 < 64
  · simp only [dif_pos h]
  · simp only [dif_neg h, mul_zero, Finset.sum_const_zero]
theorem sum_spread_mul {n : ℕ} (c : Fin n → EReal) (f : Fin n → Fin 512 → EReal) (p : Fin 1024) :
    ∑ j, spread (f j) p * c j = spread (fun x => ∑ j, f j x * c j) p := by
  unfold spread
  by_cases h : (p : ℕ) / 128 < 8 ∧ (p : ℕ) % 128 < 64
  · simp only [dif_pos h]
  · simp only [dif_neg h, zero_mul, Finset.sum_const_zero]

end Cert.Merge
-- ==== Proof.MergeFwd.Agree.lean ====
/-
  The merge's forward pass: the version's call and reference.py's lines return the same array.
-/
module

public import proofs.«01_k».proof.Proof.Gen.MergeFwdIdeal.Value
public import proofs.«01_k».proof.Proof.Gen.MergeFwdReferenceIdeal.Read
public import proofs.«01_k».proof.Proof.Merge.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeFwdReferenceIdeal.Rows

open Cert.MergeFwdReferenceIdeal Cert.MergeFwdReferenceIdeal.Read Cert.Merge

variable (x0 : FVec Ideal S8192x8x64 .f32) (x1 : FVec Ideal S8192x1024 .f32) (x2 : FVec Ideal S8448x2048 .f32) (x3 : FVec Ideal S8448x1024 .f32)
  (x4 : FVec Ideal S1024 .f32) (x5 : FVec Ideal S512x1024 .f32) (x6 : FVec Ideal S1024x1024 .f32)

/-- A latent row among all rows. -/
abbrev latent (n : Fin 8192) : Fin 8448 := ⟨n, by omega⟩

/-- The arguments' rows: the heads side by side, their projection, and the rest. -/
abbrev oRow (n : Fin 8192) (x : Fin 512) : EReal := x0 (ix3 n ⟨(x : ℕ) / 64, by omega⟩ ⟨(x : ℕ) % 64, by omega⟩)
abbrev aRow (n : Fin 8192) (j : Fin 1024) : EReal := ∑ x, oRow x0 n x * x5 (ix2 x j)
abbrev sRow (n : Fin 8192) (j : Fin 1024) : EReal := x1 (ix2 n j)
abbrev glRow (n : Fin 8192) (q : Fin 2048) : EReal := x2 (ix2 (latent n) q)
abbrev wAt (x j : Fin 1024) : EReal := x6 (ix2 x j)

theorem a_apply (n : Fin 8192) (j : Fin 1024) : (val_main_v1 (F := Ideal) x0 x5 (ix2 n j) : EReal) = aRow x0 x5 n j := by
  pointwise [val_main_v1, val_main_v0]
theorem wa_apply (n : Fin 8192) (j : Fin 1024) : (val_main_v11 (F := Ideal) x2 (ix2 n j) : EReal) = wa (glRow x2 n) j := by
  pointwise [val_main_v11, val_main_v10, val_main_v9, val_main_v8, val_main_v7, val_main_v6, val_main_v3, val_main_v2, val_main_cst, val_main_cst_0]
  rfl
theorem wb_apply (n : Fin 8192) (j : Fin 1024) : (val_main_v18 (F := Ideal) x2 (ix2 n j) : EReal) = wb (glRow x2 n) j := by
  pointwise [val_main_v18, val_main_v17, val_main_v16, val_main_v15, val_main_v14, val_main_v13, val_main_v4, val_main_v2, val_main_cst_1, val_main_cst_2]
  rfl
theorem mix_apply (n : Fin 8192) (j : Fin 1024) : (val_main_v20 (F := Ideal) x0 x1 x2 x5 (ix2 n j) : EReal)
    = mix (aRow x0 x5 n) (sRow x1 n) (glRow x2 n) j := by
  unfold mix
  rw [← wa_apply, ← wb_apply, ← a_apply]
  pointwise [val_main_v20, val_main_v19, val_main_v12]
theorem proj_apply (n : Fin 8192) (j : Fin 1024) : (val_main_v21 (F := Ideal) x0 x1 x2 x5 x6 (ix2 n j) : EReal)
    = proj (aRow x0 x5 n) (sRow x1 n) (glRow x2 n) (wAt x6) j := by
  unfold proj
  simp only [← mix_apply]
  pointwise [val_main_v21]
theorem out_apply (n : Fin 8192) (j : Fin 1024) : (val_main_v25 (F := Ideal) x0 x1 x2 x3 x4 x5 x6 (ix2 n j) : EReal)
    = x3 (ix2 (latent n) j) + x4 (ix1 j) * proj (aRow x0 x5 n) (sRow x1 n) (glRow x2 n) (wAt x6) j := by
  rw [← proj_apply]
  pointwise [val_main_v25, val_main_v24, val_main_v23, val_main_v22, val_main_v5]

end Cert.MergeFwdReferenceIdeal.Rows

namespace Cert.MergeFwdIdeal.Value

open Cert.MergeFwdIdeal Cert.MergeFwdIdeal.Gen Cert.Merge Cert.MergeFwdReferenceIdeal.Read

abbrev oRow (o : FVec Ideal S256x1024 .bf16) (r : Fin 256) (p : Fin 1024) : EReal := o (ix2 r p)
abbrev aRow (o : FVec Ideal S256x1024 .bf16) (wo : FVec Ideal S1024x1024 .bf16) (r : Fin 256) (j : Fin 1024) : EReal := ∑ p : Fin 1024, oRow o r p * wo (ix2 p j)
abbrev sRow (s : FVec Ideal S256x1024 .f32) (r : Fin 256) (j : Fin 1024) : EReal := s (ix2 r j)
abbrev glRow (gl : FVec Ideal S256x2048 .f32) (r : Fin 256) (q : Fin 2048) : EReal := gl (ix2 r q)
abbrev wAt (w : FVec Ideal S1024x1024 .bf16) (x j : Fin 1024) : EReal := w (ix2 x j)

theorem out_apply (o : FVec Ideal S256x1024 .bf16) (s : FVec Ideal S256x1024 .f32) (gl : FVec Ideal S256x2048 .f32) (x : FVec Ideal S256x1024 .f32)
    (g : FVec Ideal S1x1024 .f32) (wo w : FVec Ideal S1024x1024 .bf16) (r : Fin 256) (j : Fin 1024) :
    (k0_pay1 (F := Ideal) o s gl x g wo w (ix2 r j) : EReal)
      = x (ix2 r j) + g (ix2 0 j) * proj (aRow o wo r) (sRow s r) (glRow gl r) (wAt w) j := by
  unfold proj mix wa wb
  pointwise [k0_pay1]

variable (m : (ℓ : Loc nD τ sig) → Buf (Elt Ideal) ℓ)

abbrev B0 (c : Dev nD) (t : Fin cfg0.N) : Vec Ideal S256x1024 .bf16 := iblk m c 0 t
abbrev B1 (c : Dev nD) (t : Fin cfg0.N) : Vec Ideal S256x1024 .f32 := iblk m c 1 t
abbrev B2 (c : Dev nD) (t : Fin cfg0.N) : Vec Ideal S256x2048 .f32 := X0_2 m c t
abbrev B3 (c : Dev nD) (t : Fin cfg0.N) : Vec Ideal S256x1024 .f32 := iblk m c 3 t
abbrev B4 (c : Dev nD) (t : Fin cfg0.N) : Vec Ideal S1x1024 .f32 := iblk m c 4 t
abbrev B5 (c : Dev nD) (t : Fin cfg0.N) : Vec Ideal S1024x1024 .bf16 := iblk m c 5 t
abbrev B6 (c : Dev nD) (t : Fin cfg0.N) : Vec Ideal S1024x1024 .bf16 := iblk m c 6 t

theorem point (c : Dev nD) (t : Fin cfg0.N) : outsAt0 m c t
    = k0_pay1 (F := Ideal) (B0 m c t) (B1 m c t) (B2 m c t) (B3 m c t) (B4 m c t) (B5 m c t) (B6 m c t) := by
  unfold outsAt0 out0_A_7
  frame_out

/-- The branch's output, each head padded to 128 columns, and the rows of its projection so. -/
def heads (o : FVec Ideal S8192x8x64 .f32) : FVec Ideal S8192x1024 .bf16 :=
  truncf .bf16 (shapeCast _ (pad S8192x8x128 ![0, 0, 0] ![0, 0, 64] ![0, 0, 0] o (constant (F := Ideal) S_ .f32 0x00000000#32)
    pads_S8192x8x64_S8192x8x128_000_000_0640 h_S_) shapeCasts_S8192x8x128_S8192x1024) bitsLt_bf16_f32
def headRows (w : FVec Ideal S512x1024 .f32) : FVec Ideal S1024x1024 .bf16 :=
  truncf .bf16 (shapeCast _ (pad S8x128x1024 ![0, 0, 0] ![0, 64, 0] ![0, 0, 0] (shapeCast S8x64x1024 w shapeCasts_S512x1024_S8x64x1024)
    (constant (F := Ideal) S_ .f32 0x00000000#32) pads_S8x64x1024_S8x128x1024_000_0640_000 h_S_) shapeCasts_S8x128x1024_S1024x1024) bitsLt_bf16_f32
/-- The gate's columns among the projection's, zeros elsewhere. -/
def columns (u : FVec Ideal S8448x2048 .f32) : FVec Ideal S8448x3456 .f32 :=
  concatenate S8448x3456 1 [⟨S8448x2048, u⟩, ⟨S8448x1408, broadcastInDim S8448x1408 ![] bcast_S_S8448x1408
    (constant (F := Ideal) S_ .f32 0x00000000#32)⟩] concatenates_S8448x2048_S8448x1408_S8448x3456_d1
def oneRow (a : FVec Ideal S1024 .f32) : FVec Ideal S1x1024 .f32 := broadcastInDim S1x1024 ![1] bcast_S1024_S1x1024_1 a

theorem heads_apply (o : FVec Ideal S8192x8x64 .f32) (n : Fin 8192) (p : Fin 1024) :
    (heads o (ix2 n p) : EReal) = spread (MergeFwdReferenceIdeal.Rows.oRow o n) p := by
  unfold spread
  pointwise [heads]
  by_cases h : (p : ℕ) / 128 < 8 ∧ (p : ℕ) % 128 < 64
  · simp only [dif_pos h]
    refine congrArg o (congrArg₂ (ix3 n) (Fin.ext ?_) (Fin.ext ?_))
    · show (p : ℕ) / 128 = ((p : ℕ) / 128 * 64 + p % 128) / 64
      omega
    · show (p : ℕ) % 128 = ((p : ℕ) / 128 * 64 + p % 128) % 64
      omega
  · simp only [dif_neg h]
theorem headRows_apply (w : FVec Ideal S512x1024 .f32) (p j : Fin 1024) : (headRows w (ix2 p j) : EReal) = spread (fun x => w (ix2 x j)) p := by
  unfold spread
  pointwise [headRows]
theorem columns_apply (u : FVec Ideal S8448x2048 .f32) (n : Fin 8448) (k : Fin 2048) :
    columns u (ix2 n ⟨k, by omega⟩) = u (ix2 n k) := by
  pointwise [columns]
theorem oneRow_apply (a : FVec Ideal S1024 .f32) (j : Fin 1024) : oneRow a (ix2 0 j) = a (ix1 j) := by
  pointwise [oneRow]

abbrev X0 (c : Dev nD) : FVec Ideal S8192x8x64 .f32 := m ((c : Thread nD τ).loc main_arg0)
abbrev X1 (c : Dev nD) : FVec Ideal S8192x1024 .f32 := m ((c : Thread nD τ).loc main_arg1)
abbrev X2 (c : Dev nD) : FVec Ideal S8448x2048 .f32 := m ((c : Thread nD τ).loc main_arg2)
abbrev X3 (c : Dev nD) : FVec Ideal S8448x1024 .f32 := m ((c : Thread nD τ).loc main_arg3)
abbrev X4 (c : Dev nD) : FVec Ideal S1024 .f32 := m ((c : Thread nD τ).loc main_arg4)
abbrev X5 (c : Dev nD) : FVec Ideal S512x1024 .f32 := m ((c : Thread nD τ).loc main_arg5)
abbrev X6 (c : Dev nD) : FVec Ideal S1024x1024 .f32 := m ((c : Thread nD τ).loc main_arg6)

set_option maxHeartbeats 2000000 in
theorem o_entry (c : Dev nD) : (V m c main_v6 : Vec Ideal S8192x1024 .bf16) = heads (X0 m c) := by
  entry_read
  rfl
set_option maxHeartbeats 2000000 in
theorem gl_entry (c : Dev nD) : (V m c main_v1 : Vec Ideal S8448x3456 .f32) = columns (X2 m c) := by
  entry_read
  rfl
set_option maxHeartbeats 2000000 in
theorem g_entry (c : Dev nD) : (V m c main_v7 : Vec Ideal S1x1024 .f32) = oneRow (X4 m c) := by
  entry_read
  rfl
set_option maxHeartbeats 2000000 in
theorem wo_entry (c : Dev nD) : (V m c main_v9 : Vec Ideal S1024x1024 .bf16) = headRows (X5 m c) := by
  entry_read
  rfl
set_option maxHeartbeats 2000000 in
theorem w_entry (c : Dev nD) : (V m c main_v10 : Vec Ideal S1024x1024 .bf16) = truncf .bf16 (X6 m c) bitsLt_bf16_f32 := by
  entry_read
  rfl

/-- The blocks' places. -/
theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![0, 0] ∧ win0_6.index t = ![0, 0] ∧ win0_7.index t = ![t.val, 0] :=
  (by decide +kernel : ∀ t : Fin grid0.N, _)

theorem lt32 (t : Fin cfg0.N) : t.val < 32 := lt_of_lt_of_eq t.isLt (show cfg0.N = 32 from N_0)

/-- Row `r` of tile `t`. -/
abbrev at256 (t : Fin cfg0.N) (r : Fin 256) : Fin 8192 := ⟨256 * t.val + r, by have := lt32 t; omega⟩

theorem blk0 (c : Dev nD) (t : Fin cfg0.N) (r : Fin 256) (p : Fin 1024) : (B0 m c t (ix2 r p) : EReal) = spread (MergeFwdReferenceIdeal.Rows.oRow (X0 m c) (at256 t r)) p := by
  have e : (win0_0.blk t).view.emb (ix2 r p) = ix2 (at256 t r) p := by
    blk_point [idx t]
  refine Eq.trans ?_ (heads_apply (X0 m c) (at256 t r) p)
  rw [← o_entry]
  unfold B0 iblk
  generalize V m c = W
  exact congrArg (W main_v6) e
theorem blk1 (c : Dev nD) (t : Fin cfg0.N) (r : Fin 256) (j : Fin 1024) : (B1 m c t (ix2 r j) : EReal) = X1 m c (ix2 (at256 t r) j) := by
  have e : (win0_1.blk t).view.emb (ix2 r j) = ix2 (at256 t r) j := by
    blk_point [idx t]
  unfold X1
  rw [← V_main_arg1 m c]
  unfold B1 iblk
  generalize V m c = W
  exact congrArg (W main_arg1) e
theorem blk2 (c : Dev nD) (t : Fin cfg0.N) (r : Fin 256) (q : Fin 2048) : (B2 m c t (ix2 r q) : EReal) = X2 m c (ix2 (MergeFwdReferenceIdeal.Rows.latent (at256 t r)) q) := by
  refine Eq.trans ?_ (columns_apply (X2 m c) (MergeFwdReferenceIdeal.Rows.latent (at256 t r)) q)
  rw [← gl_entry]
  unfold B2 X0_2 Pipeline.Window.fill
  rw [dif_pos (moved0_2 t _)]
  unfold iblk
  generalize V m c = W
  refine congrArg (W main_v1) ?_
  blk_point [idx t]
theorem blk4 (c : Dev nD) (t : Fin cfg0.N) (j : Fin 1024) : (B4 m c t (ix2 0 j) : EReal) = X4 m c (ix1 j) := by
  have e : (win0_4.blk t).view.emb (ix2 0 j) = ix2 0 j := by
    blk_point [idx t]
  refine Eq.trans ?_ (oneRow_apply (X4 m c) j)
  rw [← g_entry]
  unfold B4 iblk
  generalize V m c = W
  exact congrArg (W main_v7) e
theorem blk5 (c : Dev nD) (t : Fin cfg0.N) (p j : Fin 1024) : (B5 m c t (ix2 p j) : EReal) = spread (fun x => X5 m c (ix2 x j)) p := by
  have e : (win0_5.blk t).view.emb (ix2 p j) = ix2 p j := by
    blk_point [idx t]
  refine Eq.trans ?_ (headRows_apply (X5 m c) p j)
  rw [← wo_entry]
  unfold B5 iblk
  generalize V m c = W
  exact congrArg (W main_v9) e
theorem blk6 (c : Dev nD) (t : Fin cfg0.N) (x j : Fin 1024) : (B6 m c t (ix2 x j) : EReal) = X6 m c (ix2 x j) := by
  have e : (win0_6.blk t).view.emb (ix2 x j) = ix2 x j := by
    blk_point [idx t]
  refine Eq.trans ?_ (show (truncf (F := Ideal) .bf16 (X6 m c) bitsLt_bf16_f32 (ix2 x j) : EReal) = _ from rfl)
  rw [← w_entry]
  unfold B6 iblk
  generalize V m c = W
  exact congrArg (W main_v10) e
theorem blk3 (c : Dev nD) (t : Fin cfg0.N) (r : Fin 256) (j : Fin 1024) : (B3 m c t (ix2 r j) : EReal) = X3 m c (ix2 (MergeFwdReferenceIdeal.Rows.latent (at256 t r)) j) := by
  have e : (win0_3.blk t).view.emb (ix2 r j) = ix2 (MergeFwdReferenceIdeal.Rows.latent (at256 t r)) j := by
    blk_point [idx t]
  unfold X3
  rw [← V_main_arg3 m c]
  unfold B3 iblk
  generalize V m c = W
  exact congrArg (W main_arg3) e

theorem tile (c : Dev nD) (t : Fin cfg0.N) (r : Fin 256) (j : Fin 1024) : (outsAt0 m c t (ix2 r j) : EReal)
    = val_main_v25 (F := Ideal) (X0 m c) (X1 m c) (X2 m c) (X3 m c) (X4 m c) (X5 m c) (X6 m c) (ix2 (at256 t r) j) := by
  have ha : aRow (B0 m c t) (B5 m c t) r = MergeFwdReferenceIdeal.Rows.aRow (X0 m c) (X5 m c) (at256 t r) := by
    funext j
    refine Eq.trans (Finset.sum_congr rfl fun p _ => congrArg₂ (· * ·) (blk0 m c t r p) (blk5 m c t p j)) ?_
    exact spread_sum _ _
  have hs : sRow (B1 m c t) r = MergeFwdReferenceIdeal.Rows.sRow (X1 m c) (at256 t r) := funext fun j => blk1 m c t r j
  have hg : glRow (B2 m c t) r = MergeFwdReferenceIdeal.Rows.glRow (X2 m c) (at256 t r) := funext fun j => blk2 m c t r j
  have hw : wAt (B6 m c t) = MergeFwdReferenceIdeal.Rows.wAt (X6 m c) := funext fun x => funext fun j => blk6 m c t x j
  rw [MergeFwdReferenceIdeal.Rows.out_apply, point]
  refine (out_apply _ _ _ _ _ _ _ r j).trans ?_
  rw [ha, hs, hg, hw, blk3, blk4]

theorem tile_all (c : Dev nD) (t : Fin cfg0.N) (y : S256x1024.Idx) : ((dats m 0 c).after 7 t : Vec Ideal S256x1024 .f32) y
    = val_main_v25 (F := Ideal) (X0 m c) (X1 m c) (X2 m c) (X3 m c) (X4 m c) (X5 m c) (X6 m c) (ix2 (at256 t (y 0)) (y 1)) := by
  rw [after0_7]
  exact (congrArg _ (eq_ix2 y)).trans (tile m c t (y 0) (y 1))

theorem place (t : Fin cfg0.N) (y : S256x1024.Idx) : (((cfg0.win 7).blk t).view.emb y : S8192x1024.Idx) = ix2 (at256 t (y 0)) (y 1) := by
  blk_point [idx t]

theorem agree (c : Dev nD) : (dats m 0 c).arrAt 7 cfg0.N = val_main_v25 (F := Ideal) (X0 m c) (X1 m c) (X2 m c) (X3 m c) (X4 m c) (X5 m c) (X6 m c) := by
  have h := tile_all m c
  generalize val_main_v25 (F := Ideal) (X0 m c) (X1 m c) (X2 m c) (X3 m c) (X4 m c) (X5 m c) (X6 m c) = G at h ⊢
  generalize dats m 0 c = D at h ⊢
  exact D.arrAt_eq_of_covers 7 G (by decide +kernel) fun t _ y => (h t y).trans (congrArg G (place t y).symm)

theorem out_same (c : Dev nD) (x0 : FVec Ideal S8192x8x64 .f32) (x1 : FVec Ideal S8192x1024 .f32) (x2 : FVec Ideal S8448x2048 .f32) (x3 : FVec Ideal S8448x1024 .f32) (x4 : FVec Ideal S1024 .f32) (x5 : FVec Ideal S512x1024 .f32) (x6 : FVec Ideal S1024x1024 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) (a5 : x5 = m ((c : Thread nD τ).loc main_arg5)) (a6 : x6 = m ((c : Thread nD τ).loc main_arg6)) :
    Cert.MergeFwdReferenceIdeal.Read.val_main_v25 (F := Ideal) x0 x1 x2 x3 x4 x5 x6 = (dats m 0 c).arrAt 7 cfg0.N := by
  subst a0 a1 a2 a3 a4 a5 a6
  exact (agree m c).symm

end Cert.MergeFwdIdeal.Value

end
-- ==== Proof.Glu.Spec.lean ====
/-
  The gated unit's gradient at one row, as formulas over the extended reals.
-/
module

public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Glu

/-- The bent argument of the activation. -/
def th (y : EReal) : EReal :=
  Ideal.tanh (Ideal.ofBits .f32 0x3F4C422A#32 * (y + Ideal.ofBits .f32 0x3D372713#32 * (y * (y * y))))
/-- The activation's factor, and the activation. -/
def half (y : EReal) : EReal := Ideal.ofBits .f32 0x3F000000#32 * (1 + th y)
def gel (y : EReal) : EReal := y * half y
/-- The derivative of the bent argument. -/
def slope (y : EReal) : EReal := (1 + th y) * (1 - th y)

variable (y : Fin 512 → EReal) (w : Fin 512 → Fin 2048 → EReal) (ct : Fin 1024 → EReal)

/-- The product with the weights, its value half and the weight of its gate half. -/
def lin (q : Fin 2048) : EReal := ∑ x, gel (y x) * w x q
def val (j : Fin 1024) : EReal := lin y w ⟨j, by omega⟩
def gate (j : Fin 1024) : EReal := Ideal.logistic (lin y w ⟨1024 + j, by omega⟩)

/-- The product's gradient: the value half, then the gate half. -/
def cot (q : Fin 2048) : EReal :=
  if h : (q : ℕ) < 1024 then ct ⟨q, h⟩ * gate y w ⟨q, h⟩
  else val y w ⟨q - 1024, by omega⟩ * ct ⟨q - 1024, by omega⟩ * (gate y w ⟨q - 1024, by omega⟩ * (1 - gate y w ⟨q - 1024, by omega⟩))

/-- The activation's gradient, its share through the bend, and the argument's gradient. -/
def back (k : Fin 512) : EReal := ∑ q, cot y w ct q * w k q
def bend (k : Fin 512) : EReal :=
  Ideal.ofBits .f32 0x3F4C422A#32 * (Ideal.ofBits .f32 0x3F000000#32 * (y k * back y w ct k) * slope (y k))
def dy (k : Fin 512) : EReal :=
  back y w ct k * half (y k) + bend y w ct k
    + Ideal.ofBits .f32 0x3D372713#32 * bend y w ct k * (Ideal.ofBits .f32 0x40400000#32 * (y k * y k))

theorem cube (y : EReal) : y * y * y = y * (y * y) := mul_assoc y y y

end Cert.Glu
-- ==== Proof.GluFwd.Agree.lean ====
/-
  The gated unit's forward pass: the version's call and reference.py's lines return the same array.
-/
module

public import proofs.«01_k».proof.Proof.Gen.GluFwdIdeal.Value
public import proofs.«01_k».proof.Proof.Gen.GluFwdReferenceIdeal.Read
public import proofs.«01_k».proof.Proof.Glu.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluFwdReferenceIdeal.Rows

open Cert.GluFwdReferenceIdeal Cert.GluFwdReferenceIdeal.Read Cert.Glu

variable (x0 x1 x2 : FVec Ideal S8448x512 .f32) (x3 : FVec Ideal S512 .f32) (x4 : FVec Ideal S512x2048 .f32)

abbrev latent (n : Fin 8192) : Fin 8448 := ⟨n, by omega⟩
/-- The unit's argument at row `n`. -/
abbrev yRow (n : Fin 8192) (k : Fin 512) : EReal :=
  x0 (ix2 (latent n) k) * x3 (ix1 k) + x1 (ix2 (latent n) k) + x2 (ix2 (latent n) k)
abbrev wAt (k : Fin 512) (q : Fin 2048) : EReal := x4 (ix2 k q)

theorem y_apply (n : Fin 8192) (k : Fin 512) : (val_main_v7 (F := Ideal) x0 x1 x2 x3 (ix2 n k) : EReal) = yRow x0 x1 x2 x3 n k := by
  pointwise [val_main_v7, val_main_v6, val_main_v5, val_main_v4, val_main_v3, val_main_v2, val_main_v1, val_main_v0]
theorem half_apply (n : Fin 8192) (k : Fin 512) : (val_main_v19 (F := Ideal) x0 x1 x2 x3 (ix2 n k) : EReal) = half (yRow x0 x1 x2 x3 n k) := by
  rw [← y_apply]
  pointwise [val_main_v19, val_main_v18, val_main_v17, val_main_v16, val_main_v15, val_main_v14, val_main_v13, val_main_v12, val_main_v11, val_main_v10, val_main_v9, val_main_v8, val_main_cst, val_main_cst_0, val_main_cst_1, val_main_cst_2]
  simp only [cube]
  rfl
theorem gel_apply (n : Fin 8192) (k : Fin 512) : (val_main_v20 (F := Ideal) x0 x1 x2 x3 (ix2 n k) : EReal) = gel (yRow x0 x1 x2 x3 n k) := by
  refine Eq.trans ?_ (congrArg₂ (· * ·) (y_apply x0 x1 x2 x3 n k) (half_apply x0 x1 x2 x3 n k))
  pointwise [val_main_v20]
theorem lin_apply (n : Fin 8192) (q : Fin 2048) : (val_main_v21 (F := Ideal) x0 x1 x2 x3 x4 (ix2 n q) : EReal) = lin (yRow x0 x1 x2 x3 n) (wAt x4) q := by
  refine Eq.trans ?_ (Finset.sum_congr rfl fun x _ => congrArg (· * wAt x4 x q) (gel_apply x0 x1 x2 x3 n x))
  pointwise [val_main_v21]
theorem out_apply (n : Fin 8192) (j : Fin 1024) : (val_main_v30 (F := Ideal) x0 x1 x2 x3 x4 (ix2 n j) : EReal)
    = val (yRow x0 x1 x2 x3 n) (wAt x4) j * gate (yRow x0 x1 x2 x3 n) (wAt x4) j := by
  unfold val gate
  rw [← lin_apply, ← lin_apply]
  pointwise [val_main_v30, val_main_v29, val_main_v28, val_main_v27, val_main_v26, val_main_v25, val_main_v24, val_main_v23, val_main_v22, val_main_cst_3, val_main_cst_4]
  rfl

end Cert.GluFwdReferenceIdeal.Rows

namespace Cert.GluFwdIdeal.Value

open Cert.GluFwdIdeal Cert.GluFwdIdeal.Gen Cert.Glu Cert.GluFwdReferenceIdeal.Read

variable (u f b : FVec Ideal S256x512 .f32) (d : FVec Ideal S1x512 .f32) (w : FVec Ideal S512x2048 .bf16)

abbrev yRow (r : Fin 256) (k : Fin 512) : EReal := u (ix2 r k) * d (ix2 0 k) + f (ix2 r k) + b (ix2 r k)
abbrev wAt (k : Fin 512) (q : Fin 2048) : EReal := w (ix2 k q)

theorem out_apply (r : Fin 256) (j : Fin 1024) : (k0_pay1 (F := Ideal) u f b d w (ix2 r j) : EReal)
    = val (yRow u f b d r) (wAt w) j * gate (yRow u f b d r) (wAt w) j := by
  pointwise [k0_pay1, val, gate, lin, gel, half, th]

variable (m : (ℓ : Loc nD τ sig) → Buf (Elt Ideal) ℓ)

abbrev B0 (c : Dev nD) (t : Fin cfg0.N) : Vec Ideal S256x512 .f32 := X0_0 m c t
abbrev B1 (c : Dev nD) (t : Fin cfg0.N) : Vec Ideal S256x512 .f32 := iblk m c 1 t
abbrev B2 (c : Dev nD) (t : Fin cfg0.N) : Vec Ideal S256x512 .f32 := iblk m c 2 t
abbrev B3 (c : Dev nD) (t : Fin cfg0.N) : Vec Ideal S1x512 .f32 := iblk m c 3 t
abbrev B4 (c : Dev nD) (t : Fin cfg0.N) : Vec Ideal S512x2048 .bf16 := iblk m c 4 t

theorem point (c : Dev nD) (t : Fin cfg0.N) : outsAt0 m c t = k0_pay1 (F := Ideal) (B0 m c t) (B1 m c t) (B2 m c t) (B3 m c t) (B4 m c t) := by
  unfold outsAt0 out0_A_5
  frame_out

/-- The argument's columns among the projection's, zeros elsewhere. -/
def columns (u : FVec Ideal S8448x512 .f32) : FVec Ideal S8448x3456 .f32 :=
  concatenate S8448x3456 1 [⟨S8448x2560, concatenate S8448x2560 1 [⟨S8448x2048, broadcastInDim S8448x2048 ![] bcast_S_S8448x2048
      (constant (F := Ideal) S_ .f32 0x00000000#32)⟩, ⟨S8448x512, u⟩] concatenates_S8448x2048_S8448x512_S8448x2560_d1⟩,
    ⟨S8448x896, broadcastInDim S8448x896 ![] bcast_S_S8448x896 (constant (F := Ideal) S_ .f32 0x00000000#32)⟩]
    concatenates_S8448x2560_S8448x896_S8448x3456_d1
def oneRow (a : FVec Ideal S512 .f32) : FVec Ideal S1x512 .f32 := broadcastInDim S1x512 ![1] bcast_S512_S1x512_1 a

theorem oneRow_apply (a : FVec Ideal S512 .f32) (j : Fin 512) : oneRow a (ix2 0 j) = a (ix1 j) := by
  pointwise [oneRow]
theorem columns_apply (u : FVec Ideal S8448x512 .f32) (n : Fin 8448) (k : Fin 512) :
    columns u (ix2 n ⟨2048 + k, by omega⟩) = u (ix2 n k) := by
  pointwise [columns]
  exact dif_pos (by omega)

abbrev X0 (c : Dev nD) : FVec Ideal S8448x512 .f32 := m ((c : Thread nD τ).loc main_arg0)
abbrev X1 (c : Dev nD) : FVec Ideal S8448x512 .f32 := m ((c : Thread nD τ).loc main_arg1)
abbrev X2 (c : Dev nD) : FVec Ideal S8448x512 .f32 := m ((c : Thread nD τ).loc main_arg2)
abbrev X3 (c : Dev nD) : FVec Ideal S512 .f32 := m ((c : Thread nD τ).loc main_arg3)
abbrev X4 (c : Dev nD) : FVec Ideal S512x2048 .f32 := m ((c : Thread nD τ).loc main_arg4)

set_option maxHeartbeats 2000000 in
theorem u_entry (c : Dev nD) : (V m c main_v3 : Vec Ideal S8448x3456 .f32) = columns (X0 m c) := by
  entry_read
  rfl
set_option maxHeartbeats 2000000 in
theorem d_entry (c : Dev nD) : (V m c main_v4 : Vec Ideal S1x512 .f32) = oneRow (X3 m c) := by
  entry_read
  rfl
set_option maxHeartbeats 2000000 in
theorem w_entry (c : Dev nD) : (V m c main_v5 : Vec Ideal S512x2048 .bf16) = truncf .bf16 (X4 m c) bitsLt_bf16_f32 := by
  entry_read
  rfl

/-- The blocks' places. -/
theorem idx : ∀ t : Fin cfg0.N, win0_0.index t = ![t.val, 4] ∧ win0_1.index t = ![t.val, 0] ∧ win0_2.index t = ![t.val, 0] ∧
    win0_3.index t = ![0, 0] ∧ win0_4.index t = ![0, 0] ∧ win0_5.index t = ![t.val, 0] :=
  (by decide +kernel : ∀ t : Fin grid0.N, _)

theorem lt32 (t : Fin cfg0.N) : t.val < 32 := lt_of_lt_of_eq t.isLt (show cfg0.N = 32 from N_0)

/-- Row `r` of tile `t`. -/
abbrev at256 (t : Fin cfg0.N) (r : Fin 256) : Fin 8192 := ⟨256 * t.val + r, by have := lt32 t; omega⟩
abbrev all256 (t : Fin cfg0.N) (r : Fin 256) : Fin 8448 := ⟨256 * t.val + r, by have := lt32 t; omega⟩

theorem blk0 (c : Dev nD) (t : Fin cfg0.N) (r : Fin 256) (d : Fin 512) : B0 m c t (ix2 r d) = X0 m c (ix2 (all256 t r) d) := by
  refine Eq.trans ?_ (columns_apply (X0 m c) (all256 t r) d)
  rw [← u_entry]
  unfold B0 X0_0 Pipeline.Window.fill
  rw [dif_pos (moved0_0 t _)]
  unfold iblk
  generalize V m c = W
  refine congrArg (W main_v3) ?_
  blk_point [idx t]
theorem blk1 (c : Dev nD) (t : Fin cfg0.N) (r : Fin 256) (d : Fin 512) : B1 m c t (ix2 r d) = X1 m c (ix2 (all256 t r) d) := by
  have e : (win0_1.blk t).view.emb (ix2 r d) = ix2 (all256 t r) d := by
    blk_point [idx t]
  unfold X1
  rw [← V_main_arg1 m c]
  unfold B1 iblk
  generalize V m c = W
  exact congrArg (W main_arg1) e
theorem blk2 (c : Dev nD) (t : Fin cfg0.N) (r : Fin 256) (d : Fin 512) : B2 m c t (ix2 r d) = X2 m c (ix2 (all256 t r) d) := by
  have e : (win0_2.blk t).view.emb (ix2 r d) = ix2 (all256 t r) d := by
    blk_point [idx t]
  unfold X2
  rw [← V_main_arg2 m c]
  unfold B2 iblk
  generalize V m c = W
  exact congrArg (W main_arg2) e
theorem blk3 (c : Dev nD) (t : Fin cfg0.N) (d : Fin 512) : B3 m c t (ix2 0 d) = X3 m c (ix1 d) := by
  have e : (win0_3.blk t).view.emb (ix2 0 d) = ix2 0 d := by
    blk_point [idx t]
  refine Eq.trans ?_ (oneRow_apply (X3 m c) d)
  rw [← d_entry]
  unfold B3 iblk
  generalize V m c = W
  exact congrArg (W main_v4) e
theorem blk4 (c : Dev nD) (t : Fin cfg0.N) (k : Fin 512) (q : Fin 2048) : (B4 m c t (ix2 k q) : EReal) = X4 m c (ix2 k q) := by
  have e : (win0_4.blk t).view.emb (ix2 k q) = ix2 k q := by
    blk_point [idx t]
  refine Eq.trans ?_ (show (truncf (F := Ideal) .bf16 (X4 m c) bitsLt_bf16_f32 (ix2 k q) : EReal) = _ from rfl)
  rw [← w_entry]
  unfold B4 iblk
  generalize V m c = W
  exact congrArg (W main_v5) e

theorem tile (c : Dev nD) (t : Fin cfg0.N) (r : Fin 256) (j : Fin 1024) : (outsAt0 m c t (ix2 r j) : EReal)
    = val_main_v30 (F := Ideal) (X0 m c) (X1 m c) (X2 m c) (X3 m c) (X4 m c) (ix2 (at256 t r) j) := by
  have hy : yRow (B0 m c t) (B1 m c t) (B2 m c t) (B3 m c t) r
      = GluFwdReferenceIdeal.Rows.yRow (X0 m c) (X1 m c) (X2 m c) (X3 m c) (at256 t r) := by
    funext k
    unfold yRow
    rw [blk0, blk1, blk2, blk3]
  have hw : wAt (B4 m c t) = GluFwdReferenceIdeal.Rows.wAt (X4 m c) := funext fun k => funext fun q => blk4 m c t k q
  rw [GluFwdReferenceIdeal.Rows.out_apply, point]
  refine (out_apply _ _ _ _ _ r j).trans ?_
  rw [hy, hw]

theorem tile_all (c : Dev nD) (t : Fin cfg0.N) (y : S256x1024.Idx) : ((dats m 0 c).after 5 t : Vec Ideal S256x1024 .f32) y
    = val_main_v30 (F := Ideal) (X0 m c) (X1 m c) (X2 m c) (X3 m c) (X4 m c) (ix2 (at256 t (y 0)) (y 1)) := by
  rw [after0_5]
  exact (congrArg _ (eq_ix2 y)).trans (tile m c t (y 0) (y 1))

theorem place (t : Fin cfg0.N) (y : S256x1024.Idx) : (((cfg0.win 5).blk t).view.emb y : S8192x1024.Idx) = ix2 (at256 t (y 0)) (y 1) := by
  blk_point [idx t]

theorem agree (c : Dev nD) : (dats m 0 c).arrAt 5 cfg0.N = val_main_v30 (F := Ideal) (X0 m c) (X1 m c) (X2 m c) (X3 m c) (X4 m c) := by
  have h := tile_all m c
  generalize val_main_v30 (F := Ideal) (X0 m c) (X1 m c) (X2 m c) (X3 m c) (X4 m c) = G at h ⊢
  generalize dats m 0 c = D at h ⊢
  exact D.arrAt_eq_of_covers 5 G (by decide +kernel) fun t _ y => (h t y).trans (congrArg G (place t y).symm)

theorem out_same (c : Dev nD) (x0 : FVec Ideal S8448x512 .f32) (x1 : FVec Ideal S8448x512 .f32) (x2 : FVec Ideal S8448x512 .f32) (x3 : FVec Ideal S512 .f32) (x4 : FVec Ideal S512x2048 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) :
    Cert.GluFwdReferenceIdeal.Read.val_main_v30 (F := Ideal) x0 x1 x2 x3 x4 = (dats m 0 c).arrAt 5 cfg0.N := by
  subst a0 a1 a2 a3 a4
  exact (agree m c).symm

end Cert.GluFwdIdeal.Value

end
-- ==== Proof.Prep.Rows.lean ====
/-
  The discretisation's gradient in the two programs, state by state.
-/
module

public import proofs.«01_k».proof.Proof.Gen.PrepIdeal.Frame
public import proofs.«01_k».proof.Proof.Gen.PrepReferenceIdeal.Read
public import proofs.«01_k».proof.Proof.Prep.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepReferenceIdeal.Rows

open Cert.PrepReferenceIdeal Cert.PrepReferenceIdeal.Read Cert.Prep

variable (x0 x1 x2 x5 x6 : FVec Ideal S32x64 .f32) (x3 x4 x7 x8 : FVec Ideal S32x64x16 .f32) (h : Fin 32) (s : Fin 64)

abbrev gq : EReal := (∑ k : Fin 16, x8 (ix3 h s k) * x4 (ix3 h s k)) + ∑ k : Fin 16, x7 (ix3 h s k) * x3 (ix3 h s k)
abbrev gp : EReal := (∑ k : Fin 16, x8 (ix3 h s k) * x3 (ix3 h s k)) + ∑ k : Fin 16, -(x7 (ix3 h s k)) * x4 (ix3 h s k)

theorem dt_apply : (val_main_v0 (F := Ideal) x2 (ix2 h s) : EReal) = dt (x2 (ix2 h s)) := by
  pointwise [val_main_v0]
  rfl
theorem size_apply : (val_main_v2 (F := Ideal) x0 x2 (ix2 h s) : EReal) = size (x0 (ix2 h s)) (x2 (ix2 h s)) := by
  pointwise [val_main_v2, val_main_v1, val_main_v0]
  rfl
theorem cos_apply : (val_main_v4 (F := Ideal) x1 x2 (ix2 h s) : EReal) = Ideal.cos (ang (x1 (ix2 h s)) (x2 (ix2 h s))) := by
  pointwise [val_main_v4, val_main_v3, val_main_v0]
  rfl
theorem sin_apply : (val_main_v5 (F := Ideal) x1 x2 (ix2 h s) : EReal) = Ideal.sin (ang (x1 (ix2 h s)) (x2 (ix2 h s))) := by
  pointwise [val_main_v5, val_main_v3, val_main_v0]
  rfl
theorem cos_again : val_main_v8 (F := Ideal) x1 x2 = val_main_v4 x1 x2 := rfl
theorem sin_again : val_main_v7 (F := Ideal) x1 x2 = val_main_v5 x1 x2 := rfl
theorem nr_apply : (val_main_v11 (F := Ideal) x0 x1 x2 (ix2 h s) : EReal) = nr (x0 (ix2 h s)) (x1 (ix2 h s)) (x2 (ix2 h s)) := by
  unfold nr
  rw [← size_apply, ← cos_apply]
  pointwise [val_main_v11, val_main_v10, val_main_cst, val_main_v6]
theorem ni_apply : (val_main_v9 (F := Ideal) x0 x1 x2 (ix2 h s) : EReal) = ni (x0 (ix2 h s)) (x1 (ix2 h s)) (x2 (ix2 h s)) := by
  unfold ni
  rw [← size_apply, ← sin_apply]
  pointwise [val_main_v9]
  rw [sin_again]
theorem den_apply : (val_main_v14 (F := Ideal) x0 x1 (ix2 h s) : EReal) = den (x0 (ix2 h s)) (x1 (ix2 h s)) := by
  pointwise [val_main_v14, val_main_v13, val_main_v12]
  rfl
theorem topR_apply : (val_main_v17 (F := Ideal) x0 x1 x2 (ix2 h s) : EReal) = topR (x0 (ix2 h s)) (x1 (ix2 h s)) (x2 (ix2 h s)) := by
  unfold topR
  rw [← nr_apply, ← ni_apply]
  pointwise [val_main_v17, val_main_v16, val_main_v15]
theorem topI_apply : (val_main_v24 (F := Ideal) x0 x1 x2 (ix2 h s) : EReal) = topI (x0 (ix2 h s)) (x1 (ix2 h s)) (x2 (ix2 h s)) := by
  unfold topI
  rw [← nr_apply, ← ni_apply]
  pointwise [val_main_v24, val_main_v23, val_main_v22]
theorem fR_apply : (val_main_v18 (F := Ideal) x0 x1 x2 (ix2 h s) : EReal) = fR (x0 (ix2 h s)) (x1 (ix2 h s)) (x2 (ix2 h s)) := by
  unfold fR
  rw [← topR_apply, ← den_apply]
  pointwise [val_main_v18]
theorem fI_apply : (val_main_v25 (F := Ideal) x0 x1 x2 (ix2 h s) : EReal) = fI (x0 (ix2 h s)) (x1 (ix2 h s)) (x2 (ix2 h s)) := by
  unfold fI
  rw [← topI_apply, ← den_apply]
  pointwise [val_main_v25]
theorem inv_apply : (val_main_v21 (F := Ideal) x0 x1 (ix2 h s) : EReal) = isq (x0 (ix2 h s)) (x1 (ix2 h s)) := by
  unfold isq
  rw [← den_apply]
  pointwise [val_main_v21, val_main_v20, val_main_v19, val_main_cst_0]
theorem inv_again : (val_main_v28 (F := Ideal) x0 x1 (ix2 h s) : EReal) = isq (x0 (ix2 h s)) (x1 (ix2 h s)) := by
  unfold isq
  rw [← den_apply]
  pointwise [val_main_v28, val_main_v27, val_main_v26, val_main_cst_1]
theorem p_apply : (val_main_v69 (F := Ideal) x3 x4 x7 x8 (ix2 h s) : EReal) = (gp x3 x4 x7 x8 h s) := by
  pointwise [val_main_v69, val_main_v61, val_main_v60, val_main_v59, val_main_v58, val_main_v54, val_main_v47, val_main_v46, val_main_v45, val_main_v42, val_main_cst_6, val_main_cst_2, val_main_cst_4]
  exact Fin.sum_univ_one _
theorem q_apply : (val_main_v70 (F := Ideal) x3 x4 x7 x8 (ix2 h s) : EReal) = (gq x3 x4 x7 x8 h s) := by
  pointwise [val_main_v70, val_main_v68, val_main_v67, val_main_v66, val_main_v65, val_main_v53, val_main_v52, val_main_v51, val_main_v50, val_main_v41, val_main_cst_7, val_main_cst_3, val_main_cst_5]
  exact Fin.sum_univ_one _
theorem gi_apply : (val_main_v74 (F := Ideal) x0 x1 x3 x4 x7 x8 (ix2 h s) : EReal) = gi (x0 (ix2 h s)) (x1 (ix2 h s)) (gp x3 x4 x7 x8 h s) := by
  unfold gi
  rw [← p_apply, ← den_apply]
  pointwise [val_main_v74]
theorem gr_apply : (val_main_v86 (F := Ideal) x0 x1 x3 x4 x7 x8 (ix2 h s) : EReal) = gr (x0 (ix2 h s)) (x1 (ix2 h s)) (gq x3 x4 x7 x8 h s) := by
  unfold gr
  rw [← q_apply, ← den_apply]
  pointwise [val_main_v86]
theorem de_apply : (val_main_v85 (F := Ideal) x0 x1 x2 x3 x4 x7 x8 (ix2 h s) : EReal) = de (x0 (ix2 h s)) (x1 (ix2 h s)) (x2 (ix2 h s)) (gp x3 x4 x7 x8 h s) (gq x3 x4 x7 x8 h s) := by
  unfold de
  rw [← p_apply, ← q_apply, ← topR_apply, ← topI_apply]
  nth_rw 1 [← inv_again]
  rw [← inv_apply]
  pointwise [val_main_v85, val_main_v84, val_main_v83, val_main_v82, val_main_v73, val_main_v72, val_main_v71]
theorem cr_apply : (val_main_v94 (F := Ideal) x0 x1 x3 x4 x5 x7 x8 (ix2 h s) : EReal) = cr (x0 (ix2 h s)) (x1 (ix2 h s)) (gp x3 x4 x7 x8 h s) (gq x3 x4 x7 x8 h s) (x5 (ix2 h s)) := by
  unfold cr
  rw [← gi_apply, ← gr_apply]
  pointwise [val_main_v94, val_main_v93, val_main_v78, val_main_v77, val_main_v75]
theorem ci_apply : (val_main_v90 (F := Ideal) x0 x1 x3 x4 x6 x7 x8 (ix2 h s) : EReal) = ci (x0 (ix2 h s)) (x1 (ix2 h s)) (gp x3 x4 x7 x8 h s) (gq x3 x4 x7 x8 h s) (x6 (ix2 h s)) := by
  unfold ci
  rw [← gi_apply, ← gr_apply]
  pointwise [val_main_v90, val_main_v89, val_main_v81, val_main_v80]
theorem dang_apply : (val_main_v111 (F := Ideal) x0 x1 x2 x3 x4 x5 x6 x7 x8 (ix2 h s) : EReal) = dang (x0 (ix2 h s)) (x1 (ix2 h s)) (x2 (ix2 h s)) (gp x3 x4 x7 x8 h s) (gq x3 x4 x7 x8 h s) (x5 (ix2 h s)) (x6 (ix2 h s)) := by
  unfold dang
  rw [← ci_apply, ← cr_apply, ← size_apply, ← cos_apply, ← sin_apply]
  pointwise [val_main_v111, val_main_v110, val_main_v109, val_main_v106, val_main_v105, val_main_v103]
  rw [cos_again]
theorem dsize_apply : (val_main_v115 (F := Ideal) x0 x1 x2 x3 x4 x5 x6 x7 x8 (ix2 h s) : EReal) = dsize (x0 (ix2 h s)) (x1 (ix2 h s)) (x2 (ix2 h s)) (gp x3 x4 x7 x8 h s) (gq x3 x4 x7 x8 h s) (x5 (ix2 h s)) (x6 (ix2 h s)) := by
  unfold dsize
  rw [← ci_apply, ← cr_apply, ← size_apply, ← cos_apply, ← sin_apply]
  pointwise [val_main_v115, val_main_v108, val_main_v107, val_main_v104]
  rw [sin_again]
theorem dlr_apply : (val_main_v119 (F := Ideal) x0 x1 x2 x3 x4 x5 x6 x7 x8 (ix2 h s) : EReal) = dlr (x0 (ix2 h s)) (x1 (ix2 h s)) (x2 (ix2 h s)) (gp x3 x4 x7 x8 h s) (gq x3 x4 x7 x8 h s) (x5 (ix2 h s)) (x6 (ix2 h s)) := by
  unfold dlr
  rw [← dsize_apply, ← de_apply, ← gi_apply, ← gr_apply, ← nr_apply, ← ni_apply, ← dt_apply]
  pointwise [val_main_v119, val_main_v118, val_main_v102, val_main_v101, val_main_v100, val_main_v99, val_main_v92, val_main_v91, val_main_v79]
theorem dli_apply : (val_main_v114 (F := Ideal) x0 x1 x2 x3 x4 x5 x6 x7 x8 (ix2 h s) : EReal) = dli (x0 (ix2 h s)) (x1 (ix2 h s)) (x2 (ix2 h s)) (gp x3 x4 x7 x8 h s) (gq x3 x4 x7 x8 h s) (x5 (ix2 h s)) (x6 (ix2 h s)) := by
  unfold dli
  rw [← dang_apply, ← de_apply, ← gi_apply, ← gr_apply, ← nr_apply, ← ni_apply, ← dt_apply]
  pointwise [val_main_v114, val_main_v113, val_main_v98, val_main_v97, val_main_v96, val_main_v95, val_main_v88, val_main_v87, val_main_v76, val_main_v75]
theorem dld_apply : (val_main_v120 (F := Ideal) x0 x1 x2 x3 x4 x5 x6 x7 x8 (ix2 h s) : EReal) = dld (x0 (ix2 h s)) (x1 (ix2 h s)) (x2 (ix2 h s)) (gp x3 x4 x7 x8 h s) (gq x3 x4 x7 x8 h s) (x5 (ix2 h s)) (x6 (ix2 h s)) := by
  unfold dld
  rw [← dang_apply, ← dsize_apply, ← dt_apply]
  pointwise [val_main_v120, val_main_v117, val_main_v116, val_main_v112]

/-- The state a column stands for. -/
abbrev hd (n : Fin 2048) : Fin 32 := ⟨(n : ℕ) / 64, by omega⟩
abbrev st (n : Fin 2048) : Fin 64 := ⟨(n : ℕ) % 64, by omega⟩

theorem dlr_row (n : Fin 2048) : (val_main_v121 (F := Ideal) x0 x1 x2 x3 x4 x5 x6 x7 x8 (ix2 0 n) : EReal) = dlr (x0 (ix2 (hd n) (st n))) (x1 (ix2 (hd n) (st n))) (x2 (ix2 (hd n) (st n))) (gp x3 x4 x7 x8 (hd n) (st n)) (gq x3 x4 x7 x8 (hd n) (st n)) (x5 (ix2 (hd n) (st n))) (x6 (ix2 (hd n) (st n))) := by
  rw [← dlr_apply]
  pointwise [val_main_v121]
theorem dli_row (n : Fin 2048) : (val_main_v122 (F := Ideal) x0 x1 x2 x3 x4 x5 x6 x7 x8 (ix2 0 n) : EReal) = dli (x0 (ix2 (hd n) (st n))) (x1 (ix2 (hd n) (st n))) (x2 (ix2 (hd n) (st n))) (gp x3 x4 x7 x8 (hd n) (st n)) (gq x3 x4 x7 x8 (hd n) (st n)) (x5 (ix2 (hd n) (st n))) (x6 (ix2 (hd n) (st n))) := by
  rw [← dli_apply]
  pointwise [val_main_v122]
theorem dld_row (n : Fin 2048) : (val_main_v123 (F := Ideal) x0 x1 x2 x3 x4 x5 x6 x7 x8 (ix2 0 n) : EReal) = dld (x0 (ix2 (hd n) (st n))) (x1 (ix2 (hd n) (st n))) (x2 (ix2 (hd n) (st n))) (gp x3 x4 x7 x8 (hd n) (st n)) (gq x3 x4 x7 x8 (hd n) (st n)) (x5 (ix2 (hd n) (st n))) (x6 (ix2 (hd n) (st n))) := by
  rw [← dld_apply]
  pointwise [val_main_v123]
theorem dbr_row (k : Fin 16) (n : Fin 2048) : (val_main_v125 (F := Ideal) x0 x1 x2 x7 x8 (ix2 k n) : EReal)
    = fI (x0 (ix2 (hd n) (st n))) (x1 (ix2 (hd n) (st n))) (x2 (ix2 (hd n) (st n))) * x8 (ix3 (hd n) (st n) k) + fR (x0 (ix2 (hd n) (st n))) (x1 (ix2 (hd n) (st n))) (x2 (ix2 (hd n) (st n))) * x7 (ix3 (hd n) (st n) k) := by
  rw [← fI_apply, ← fR_apply]
  pointwise [val_main_v125, val_main_v124, val_main_v64, val_main_v63, val_main_v62, val_main_v53, val_main_v44, val_main_v43, val_main_v42, val_main_v29, val_main_v30]
theorem dbi_row (k : Fin 16) (n : Fin 2048) : (val_main_v127 (F := Ideal) x0 x1 x2 x7 x8 (ix2 k n) : EReal)
    = fR (x0 (ix2 (hd n) (st n))) (x1 (ix2 (hd n) (st n))) (x2 (ix2 (hd n) (st n))) * x8 (ix3 (hd n) (st n) k) + fI (x0 (ix2 (hd n) (st n))) (x1 (ix2 (hd n) (st n))) (x2 (ix2 (hd n) (st n))) * -(x7 (ix3 (hd n) (st n) k)) := by
  rw [← fI_apply, ← fR_apply]
  pointwise [val_main_v127, val_main_v126, val_main_v57, val_main_v56, val_main_v55, val_main_v54, val_main_v49, val_main_v48, val_main_v41, val_main_v29, val_main_v30]

end Cert.PrepReferenceIdeal.Rows

namespace Cert.PrepIdeal.Value

open Cert.PrepIdeal Cert.PrepIdeal.Gen Cert.Prep

variable (x0 x1 x2 x5 x6 : FVec Ideal S1x2048 .f32) (x3 x4 x7 x8 : FVec Ideal S16x2048 .f32) (n : Fin 2048)

abbrev gq : EReal := (∑ k : Fin 16, x8 (ix2 k n) * x4 (ix2 k n)) + ∑ k : Fin 16, x7 (ix2 k n) * x3 (ix2 k n)
abbrev gp : EReal := (∑ k : Fin 16, x8 (ix2 k n) * x3 (ix2 k n)) + ∑ k : Fin 16, -(x7 (ix2 k n)) * x4 (ix2 k n)

theorem lr_apply : (k0_pay9 (F := Ideal) x0 (ix2 0 n) : EReal) = x0 (ix2 0 n) := by
  pointwise [k0_pay9]
theorem li_apply : (k0_pay10 (F := Ideal) x1 (ix2 0 n) : EReal) = x1 (ix2 0 n) := by
  pointwise [k0_pay10]
theorem dt_apply : (k0_pay13 (F := Ideal) x2 (ix2 0 n) : EReal) = dt (x2 (ix2 0 n)) := by
  pointwise [k0_pay13]
  rfl
theorem size_apply : (k0_pay15 (F := Ideal) x0 x2 (ix2 0 n) : EReal) = size (x0 (ix2 0 n)) (x2 (ix2 0 n)) := by
  pointwise [k0_pay15, k0_pay13, k0_pay9]
  rfl
theorem cos_apply : (k0_pay16 (F := Ideal) x1 x2 (ix2 0 n) : EReal) = Ideal.cos (ang (x1 (ix2 0 n)) (x2 (ix2 0 n))) := by
  pointwise [k0_pay16, k0_pay14, k0_pay13, k0_pay10]
  rfl
theorem sin_apply : (k0_pay17 (F := Ideal) x1 x2 (ix2 0 n) : EReal) = Ideal.sin (ang (x1 (ix2 0 n)) (x2 (ix2 0 n))) := by
  pointwise [k0_pay17, k0_pay14, k0_pay13, k0_pay10]
  rfl
theorem sin_again : (k0_pay18 (F := Ideal) x1 x2 (ix2 0 n) : EReal) = Ideal.sin (ang (x1 (ix2 0 n)) (x2 (ix2 0 n))) := by
  pointwise [k0_pay18, k0_pay14, k0_pay13, k0_pay10]
  rfl
theorem cos_again : (k0_pay19 (F := Ideal) x1 x2 (ix2 0 n) : EReal) = Ideal.cos (ang (x1 (ix2 0 n)) (x2 (ix2 0 n))) := by
  pointwise [k0_pay19, k0_pay14, k0_pay13, k0_pay10]
  rfl
theorem nr_apply : (k0_pay21 (F := Ideal) x0 x1 x2 (ix2 0 n) : EReal) = nr (x0 (ix2 0 n)) (x1 (ix2 0 n)) (x2 (ix2 0 n)) := by
  unfold nr
  rw [← size_apply, ← cos_apply]
  pointwise [k0_pay21]
theorem ni_apply : (k0_pay20 (F := Ideal) x0 x1 x2 (ix2 0 n) : EReal) = ni (x0 (ix2 0 n)) (x1 (ix2 0 n)) (x2 (ix2 0 n)) := by
  unfold ni
  rw [← size_apply, ← sin_again]
  pointwise [k0_pay20]
theorem den_apply : (k0_pay22 (F := Ideal) x0 x1 (ix2 0 n) : EReal) = den (x0 (ix2 0 n)) (x1 (ix2 0 n)) := by
  pointwise [k0_pay22, k0_pay9, k0_pay10]
  rfl
theorem topR_apply : (k0_pay23 (F := Ideal) x0 x1 x2 (ix2 0 n) : EReal) = topR (x0 (ix2 0 n)) (x1 (ix2 0 n)) (x2 (ix2 0 n)) := by
  unfold topR
  rw [← nr_apply, ← ni_apply]
  pointwise [k0_pay23, k0_pay9, k0_pay10]
theorem topI_apply : (k0_pay26 (F := Ideal) x0 x1 x2 (ix2 0 n) : EReal) = topI (x0 (ix2 0 n)) (x1 (ix2 0 n)) (x2 (ix2 0 n)) := by
  unfold topI
  rw [← nr_apply, ← ni_apply]
  pointwise [k0_pay26, k0_pay9, k0_pay10]
theorem fR_apply : (k0_pay24 (F := Ideal) x0 x1 x2 (ix2 0 n) : EReal) = fR (x0 (ix2 0 n)) (x1 (ix2 0 n)) (x2 (ix2 0 n)) := by
  unfold fR
  rw [← topR_apply, ← den_apply]
  pointwise [k0_pay24]
theorem fI_apply : (k0_pay27 (F := Ideal) x0 x1 x2 (ix2 0 n) : EReal) = fI (x0 (ix2 0 n)) (x1 (ix2 0 n)) (x2 (ix2 0 n)) := by
  unfold fI
  rw [← topI_apply, ← den_apply]
  pointwise [k0_pay27]
theorem inv_apply : (k0_pay25 (F := Ideal) x0 x1 (ix2 0 n) : EReal) = isq (x0 (ix2 0 n)) (x1 (ix2 0 n)) := by
  unfold isq
  rw [← den_apply]
  pointwise [k0_pay25]
theorem inv_again : (k0_pay28 (F := Ideal) x0 x1 (ix2 0 n) : EReal) = isq (x0 (ix2 0 n)) (x1 (ix2 0 n)) := by
  unfold isq
  rw [← den_apply]
  pointwise [k0_pay28]
theorem p_apply : (k0_pay35 (F := Ideal) (k0_pay11 x3) (k0_pay12 x4) x7 x8 (ix2 0 n) : EReal) = gp x3 x4 x7 x8 n := by
  pointwise [k0_pay35, k0_pay32, k0_pay33, k0_pay31, k0_pay11, k0_pay12]
  simp only [zero_sub]
theorem q_apply : (k0_pay37 (F := Ideal) (k0_pay11 x3) (k0_pay12 x4) x7 x8 (ix2 0 n) : EReal) = gq x3 x4 x7 x8 n := by
  pointwise [k0_pay37, k0_pay32, k0_pay31, k0_pay11, k0_pay12]
theorem gi_apply : (k0_pay38 (F := Ideal) (k0_pay11 x3) (k0_pay12 x4) (k0_pay22 x0 x1) x7 x8 (ix2 0 n) : EReal) = gi (x0 (ix2 0 n)) (x1 (ix2 0 n)) (gp x3 x4 x7 x8 n) := by
  unfold gi
  rw [← p_apply, ← den_apply]
  pointwise [k0_pay38]
theorem gr_apply : (k0_pay1 (F := Ideal) (k0_pay22 x0 x1) (k0_pay37 (k0_pay11 x3) (k0_pay12 x4) x7 x8) (ix2 0 n) : EReal) = gr (x0 (ix2 0 n)) (x1 (ix2 0 n)) (gq x3 x4 x7 x8 n) := by
  unfold gr
  rw [← q_apply, ← den_apply]
  pointwise [k0_pay1]
theorem de_apply : (k0_pay44 (k0_pay11 x3) (k0_pay12 x4) (k0_pay23 x0 x1 x2) (k0_pay25 x0 x1) (k0_pay26 x0 x1 x2) (k0_pay28 x0 x1) x7 x8 (F := Ideal)  (ix2 0 n) : EReal) = de (x0 (ix2 0 n)) (x1 (ix2 0 n)) (x2 (ix2 0 n)) (gp x3 x4 x7 x8 n) (gq x3 x4 x7 x8 n) := by
  unfold de
  rw [← p_apply, ← q_apply, ← topR_apply, ← topI_apply]
  nth_rw 1 [← inv_again]
  rw [← inv_apply]
  pointwise [k0_pay44]
  simp only [zero_sub]
theorem cr_apply : (k0_pay3 (k0_pay9 x0) (k0_pay22 x0 x1) (k0_pay37 (k0_pay11 x3) (k0_pay12 x4) x7 x8) (k0_pay41 (k0_pay10 x1) (k0_pay11 x3) (k0_pay12 x4) (k0_pay22 x0 x1) (k0_pay29 x5) x7 x8) (F := Ideal)  (ix2 0 n) : EReal) = cr (x0 (ix2 0 n)) (x1 (ix2 0 n)) (gp x3 x4 x7 x8 n) (gq x3 x4 x7 x8 n) (x5 (ix2 0 n)) := by
  unfold cr
  rw [← gi_apply, ← gr_apply]
  pointwise [k0_pay3, k0_pay41, k0_pay39, k0_pay29, k0_pay9, k0_pay10]
  simp only [zero_sub]
theorem ci_apply : (k0_pay2 (k0_pay10 x1) (k0_pay22 x0 x1) (k0_pay37 (k0_pay11 x3) (k0_pay12 x4) x7 x8) (k0_pay43 (k0_pay9 x0) (k0_pay11 x3) (k0_pay12 x4) (k0_pay22 x0 x1) (k0_pay30 x6) x7 x8) (F := Ideal)  (ix2 0 n) : EReal) = ci (x0 (ix2 0 n)) (x1 (ix2 0 n)) (gp x3 x4 x7 x8 n) (gq x3 x4 x7 x8 n) (x6 (ix2 0 n)) := by
  unfold ci
  rw [← gi_apply, ← gr_apply]
  pointwise [k0_pay2, k0_pay43, k0_pay30, k0_pay9, k0_pay10]
theorem dang_apply : (k0_pay4 (k0_pay9 x0) (k0_pay10 x1) (k0_pay15 x0 x2) (k0_pay17 x1 x2) (k0_pay19 x1 x2) (k0_pay22 x0 x1) (k0_pay37 (k0_pay11 x3) (k0_pay12 x4) x7 x8) (k0_pay41 (k0_pay10 x1) (k0_pay11 x3) (k0_pay12 x4) (k0_pay22 x0 x1) (k0_pay29 x5) x7 x8) (k0_pay43 (k0_pay9 x0) (k0_pay11 x3) (k0_pay12 x4) (k0_pay22 x0 x1) (k0_pay30 x6) x7 x8) (F := Ideal)  (ix2 0 n) : EReal) = dang (x0 (ix2 0 n)) (x1 (ix2 0 n)) (x2 (ix2 0 n)) (gp x3 x4 x7 x8 n) (gq x3 x4 x7 x8 n) (x5 (ix2 0 n)) (x6 (ix2 0 n)) := by
  unfold dang
  rw [← ci_apply, ← cr_apply, ← size_apply, ← sin_apply, ← cos_again]
  pointwise [k0_pay4]
  simp only [zero_sub]
theorem dsize_apply : (k0_pay5 (k0_pay9 x0) (k0_pay10 x1) (k0_pay15 x0 x2) (k0_pay16 x1 x2) (k0_pay18 x1 x2) (k0_pay22 x0 x1) (k0_pay37 (k0_pay11 x3) (k0_pay12 x4) x7 x8) (k0_pay41 (k0_pay10 x1) (k0_pay11 x3) (k0_pay12 x4) (k0_pay22 x0 x1) (k0_pay29 x5) x7 x8) (k0_pay43 (k0_pay9 x0) (k0_pay11 x3) (k0_pay12 x4) (k0_pay22 x0 x1) (k0_pay30 x6) x7 x8) (F := Ideal)  (ix2 0 n) : EReal) = dsize (x0 (ix2 0 n)) (x1 (ix2 0 n)) (x2 (ix2 0 n)) (gp x3 x4 x7 x8 n) (gq x3 x4 x7 x8 n) (x5 (ix2 0 n)) (x6 (ix2 0 n)) := by
  unfold dsize
  rw [← ci_apply, ← cr_apply, ← size_apply, ← sin_again, ← cos_apply]
  pointwise [k0_pay5]
theorem dlr_apply : (k0_pay7 (k0_pay9 x0) (k0_pay10 x1) (k0_pay13 x2) (k0_pay15 x0 x2) (k0_pay16 x1 x2) (k0_pay18 x1 x2) (k0_pay21 x0 x1 x2) (k0_pay22 x0 x1) (k0_pay37 (k0_pay11 x3) (k0_pay12 x4) x7 x8) (k0_pay41 (k0_pay10 x1) (k0_pay11 x3) (k0_pay12 x4) (k0_pay22 x0 x1) (k0_pay29 x5) x7 x8) (k0_pay42 (k0_pay11 x3) (k0_pay12 x4) (k0_pay20 x0 x1 x2) (k0_pay22 x0 x1) x7 x8) (k0_pay43 (k0_pay9 x0) (k0_pay11 x3) (k0_pay12 x4) (k0_pay22 x0 x1) (k0_pay30 x6) x7 x8) (k0_pay44 (k0_pay11 x3) (k0_pay12 x4) (k0_pay23 x0 x1 x2) (k0_pay25 x0 x1) (k0_pay26 x0 x1 x2) (k0_pay28 x0 x1) x7 x8) (F := Ideal)  (ix2 0 n) : EReal) = dlr (x0 (ix2 0 n)) (x1 (ix2 0 n)) (x2 (ix2 0 n)) (gp x3 x4 x7 x8 n) (gq x3 x4 x7 x8 n) (x5 (ix2 0 n)) (x6 (ix2 0 n)) := by
  unfold dlr
  rw [← dsize_apply, ← de_apply, ← gi_apply, ← gr_apply, ← nr_apply, ← ni_apply, ← dt_apply]
  pointwise [k0_pay7, k0_pay42, k0_pay9]
theorem dli_apply : (k0_pay6 (k0_pay9 x0) (k0_pay10 x1) (k0_pay13 x2) (k0_pay15 x0 x2) (k0_pay17 x1 x2) (k0_pay19 x1 x2) (k0_pay20 x0 x1 x2) (k0_pay22 x0 x1) (k0_pay37 (k0_pay11 x3) (k0_pay12 x4) x7 x8) (k0_pay40 (k0_pay11 x3) (k0_pay12 x4) (k0_pay21 x0 x1 x2) (k0_pay22 x0 x1) x7 x8) (k0_pay41 (k0_pay10 x1) (k0_pay11 x3) (k0_pay12 x4) (k0_pay22 x0 x1) (k0_pay29 x5) x7 x8) (k0_pay43 (k0_pay9 x0) (k0_pay11 x3) (k0_pay12 x4) (k0_pay22 x0 x1) (k0_pay30 x6) x7 x8) (k0_pay44 (k0_pay11 x3) (k0_pay12 x4) (k0_pay23 x0 x1 x2) (k0_pay25 x0 x1) (k0_pay26 x0 x1 x2) (k0_pay28 x0 x1) x7 x8) (F := Ideal)  (ix2 0 n) : EReal) = dli (x0 (ix2 0 n)) (x1 (ix2 0 n)) (x2 (ix2 0 n)) (gp x3 x4 x7 x8 n) (gq x3 x4 x7 x8 n) (x5 (ix2 0 n)) (x6 (ix2 0 n)) := by
  unfold dli
  rw [← dang_apply, ← de_apply, ← gi_apply, ← gr_apply, ← nr_apply, ← ni_apply, ← dt_apply]
  pointwise [k0_pay6, k0_pay40, k0_pay39, k0_pay10]
  simp only [zero_sub]
theorem dld_apply : (k0_pay8 (k0_pay9 x0) (k0_pay10 x1) (k0_pay13 x2) (k0_pay15 x0 x2) (k0_pay16 x1 x2) (k0_pay17 x1 x2) (k0_pay18 x1 x2) (k0_pay19 x1 x2) (k0_pay22 x0 x1) (k0_pay37 (k0_pay11 x3) (k0_pay12 x4) x7 x8) (k0_pay41 (k0_pay10 x1) (k0_pay11 x3) (k0_pay12 x4) (k0_pay22 x0 x1) (k0_pay29 x5) x7 x8) (k0_pay43 (k0_pay9 x0) (k0_pay11 x3) (k0_pay12 x4) (k0_pay22 x0 x1) (k0_pay30 x6) x7 x8) (F := Ideal)  (ix2 0 n) : EReal) = dld (x0 (ix2 0 n)) (x1 (ix2 0 n)) (x2 (ix2 0 n)) (gp x3 x4 x7 x8 n) (gq x3 x4 x7 x8 n) (x5 (ix2 0 n)) (x6 (ix2 0 n)) := by
  unfold dld
  rw [← dang_apply, ← dsize_apply, ← dt_apply]
  pointwise [k0_pay8, k0_pay9, k0_pay10]
theorem dbr_apply (k : Fin 16) : (k0_pay36 (F := Ideal) (k0_pay24 x0 x1 x2) (k0_pay27 x0 x1 x2) x7 x8 (ix2 k n) : EReal)
    = fI (x0 (ix2 0 n)) (x1 (ix2 0 n)) (x2 (ix2 0 n)) * x8 (ix2 k n) + fR (x0 (ix2 0 n)) (x1 (ix2 0 n)) (x2 (ix2 0 n)) * x7 (ix2 k n) := by
  rw [← fI_apply, ← fR_apply]
  pointwise [k0_pay36, k0_pay31, k0_pay32]
theorem dbi_apply (k : Fin 16) : (k0_pay34 (F := Ideal) (k0_pay24 x0 x1 x2) (k0_pay27 x0 x1 x2) x7 x8 (ix2 k n) : EReal)
    = fR (x0 (ix2 0 n)) (x1 (ix2 0 n)) (x2 (ix2 0 n)) * x8 (ix2 k n) + fI (x0 (ix2 0 n)) (x1 (ix2 0 n)) (x2 (ix2 0 n)) * -(x7 (ix2 k n)) := by
  rw [← fI_apply, ← fR_apply]
  pointwise [k0_pay34, k0_pay31, k0_pay32, k0_pay33]
  simp only [zero_sub]

theorem out_9 : out0_9 (F := Ideal) x0 x1 x2 x3 x4 x5 x6 x7 x8 = k0_pay7 (F := Ideal) (k0_pay9 x0) (k0_pay10 x1) (k0_pay13 x2) (k0_pay15 x0 x2) (k0_pay16 x1 x2) (k0_pay18 x1 x2) (k0_pay21 x0 x1 x2) (k0_pay22 x0 x1) (k0_pay37 (k0_pay11 x3) (k0_pay12 x4) x7 x8) (k0_pay41 (k0_pay10 x1) (k0_pay11 x3) (k0_pay12 x4) (k0_pay22 x0 x1) (k0_pay29 x5) x7 x8) (k0_pay42 (k0_pay11 x3) (k0_pay12 x4) (k0_pay20 x0 x1 x2) (k0_pay22 x0 x1) x7 x8) (k0_pay43 (k0_pay9 x0) (k0_pay11 x3) (k0_pay12 x4) (k0_pay22 x0 x1) (k0_pay30 x6) x7 x8) (k0_pay44 (k0_pay11 x3) (k0_pay12 x4) (k0_pay23 x0 x1 x2) (k0_pay25 x0 x1) (k0_pay26 x0 x1 x2) (k0_pay28 x0 x1) x7 x8) := by
  unfold_out out0_9
  frame_out
theorem out_10 : out0_10 (F := Ideal) x0 x1 x2 x3 x4 x5 x6 x7 x8 = k0_pay6 (F := Ideal) (k0_pay9 x0) (k0_pay10 x1) (k0_pay13 x2) (k0_pay15 x0 x2) (k0_pay17 x1 x2) (k0_pay19 x1 x2) (k0_pay20 x0 x1 x2) (k0_pay22 x0 x1) (k0_pay37 (k0_pay11 x3) (k0_pay12 x4) x7 x8) (k0_pay40 (k0_pay11 x3) (k0_pay12 x4) (k0_pay21 x0 x1 x2) (k0_pay22 x0 x1) x7 x8) (k0_pay41 (k0_pay10 x1) (k0_pay11 x3) (k0_pay12 x4) (k0_pay22 x0 x1) (k0_pay29 x5) x7 x8) (k0_pay43 (k0_pay9 x0) (k0_pay11 x3) (k0_pay12 x4) (k0_pay22 x0 x1) (k0_pay30 x6) x7 x8) (k0_pay44 (k0_pay11 x3) (k0_pay12 x4) (k0_pay23 x0 x1 x2) (k0_pay25 x0 x1) (k0_pay26 x0 x1 x2) (k0_pay28 x0 x1) x7 x8) := by
  unfold_out out0_10
  frame_out
theorem out_11 : out0_11 (F := Ideal) x0 x1 x2 x3 x4 x5 x6 x7 x8 = k0_pay8 (F := Ideal) (k0_pay9 x0) (k0_pay10 x1) (k0_pay13 x2) (k0_pay15 x0 x2) (k0_pay16 x1 x2) (k0_pay17 x1 x2) (k0_pay18 x1 x2) (k0_pay19 x1 x2) (k0_pay22 x0 x1) (k0_pay37 (k0_pay11 x3) (k0_pay12 x4) x7 x8) (k0_pay41 (k0_pay10 x1) (k0_pay11 x3) (k0_pay12 x4) (k0_pay22 x0 x1) (k0_pay29 x5) x7 x8) (k0_pay43 (k0_pay9 x0) (k0_pay11 x3) (k0_pay12 x4) (k0_pay22 x0 x1) (k0_pay30 x6) x7 x8) := by
  unfold_out out0_11
  frame_out
theorem out_12 : out0_12 (F := Ideal) x0 x1 x2 x3 x4 x5 x6 x7 x8 = k0_pay36 (F := Ideal) (k0_pay24 x0 x1 x2) (k0_pay27 x0 x1 x2) x7 x8 := by
  unfold_out out0_12
  frame_out
theorem out_13 : out0_13 (F := Ideal) x0 x1 x2 x3 x4 x5 x6 x7 x8 = k0_pay34 (F := Ideal) (k0_pay24 x0 x1 x2) (k0_pay27 x0 x1 x2) x7 x8 := by
  unfold_out out0_13
  frame_out

end Cert.PrepIdeal.Value
-- ==== Proof.Prep.Agree.lean ====
/-
  The discretisation's gradient: the arrays of the two programs are the same.
-/
module

public import proofs.«01_k».proof.Proof.Prep.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen Cert.Prep
open Cert.PrepReferenceIdeal.Rows (hd st)

section Run
variable {F : FTy → Type} [FloatOps F]
variable (m : (ℓ : Loc nD τ sig) → Buf (Elt F) ℓ) (ρ : Dev nD → PrngReg)

/-- An argument no window stages keeps its value. -/
theorem kept {r : PUnit × MemSt nD τ sig (Elt F)} (h : Pipeline.FramePost cfgs (dats m) 0 (V m) r) (c : Dev nD) (b : Ref sig .tc)
    (hs : b.isScoped = false) (hw : ∀ w, Pipeline.arrRef spec0 w ≠ b) (hv : V m c b = m ((c : Thread nD τ).loc b)) :
    r.2.mem ((c : Thread nD τ).loc b) = m ((c : Thread nD τ).loc b) :=
  ((h c).2 b (Pipeline.mem_restRefs_of b hs hw)).trans hv

/-- The run, with the five results named and the nine arguments kept. -/
theorem run_blocks : θ_run defs (onTc (τ := τ) (main (F := F))) ⟨m, fun _ => 0, ρ⟩ fun r => ∀ c : Dev nD,
      r.2.mem ((c : Thread nD τ).loc main_v13_0) = (dats m 0 c).arrAt 9 cfg0.N
      ∧ r.2.mem ((c : Thread nD τ).loc main_v13_1) = (dats m 0 c).arrAt 10 cfg0.N
      ∧ r.2.mem ((c : Thread nD τ).loc main_v13_2) = (dats m 0 c).arrAt 11 cfg0.N
      ∧ r.2.mem ((c : Thread nD τ).loc main_v13_3) = (dats m 0 c).arrAt 12 cfg0.N
      ∧ r.2.mem ((c : Thread nD τ).loc main_v13_4) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9, (h c).1 10, (h c).1 11, (h c).1 12, (h c).1 13, kept m h c main_arg0 (by decide) (by decide) (V_main_arg0 m c), kept m h c main_arg1 (by decide) (by decide) (V_main_arg1 m c), kept m h c main_arg2 (by decide) (by decide) (V_main_arg2 m c), kept m h c main_arg3 (by decide) (by decide) (V_main_arg3 m c), kept m h c main_arg4 (by decide) (by decide) (V_main_arg4 m c), kept m h c main_arg5 (by decide) (by decide) (V_main_arg5 m c), kept m h c main_arg6 (by decide) (by decide) (V_main_arg6 m c), kept m h c main_arg7 (by decide) (by decide) (V_main_arg7 m c), kept m h c main_arg8 (by decide) (by decide) (V_main_arg8 m c)⟩) (run_main m ρ)

end Run

/-- The states side by side. -/
def flat (x : FVec Ideal S32x64 .f32) : FVec Ideal S1x2048 .f32 := shapeCast S1x2048 x shapeCasts_S32x64_S1x2048
/-- The states side by side, the input channels as rows. -/
def flat3 (x : FVec Ideal S32x64x16 .f32) : FVec Ideal S16x2048 .f32 :=
  shapeCast S16x2048 (transpose S16x32x64 [2, 0, 1] x transposes_S32x64x16_S16x32x64_2_0_1) shapeCasts_S16x32x64_S16x2048

theorem flat_apply (x : FVec Ideal S32x64 .f32) (n : Fin 2048) : flat x (ix2 0 n) = x (ix2 (hd n) (st n)) := by
  pointwise [flat]
theorem flat3_apply (x : FVec Ideal S32x64x16 .f32) (k : Fin 16) (n : Fin 2048) : flat3 x (ix2 k n) = x (ix3 (hd n) (st n) k) := by
  pointwise [flat3]

variable (m : (ℓ : Loc nD τ sig) → Buf (Elt Ideal) ℓ)

abbrev X0 (c : Dev nD) : FVec Ideal S32x64 .f32 := m ((c : Thread nD τ).loc main_arg0)
abbrev X1 (c : Dev nD) : FVec Ideal S32x64 .f32 := m ((c : Thread nD τ).loc main_arg1)
abbrev X2 (c : Dev nD) : FVec Ideal S32x64 .f32 := m ((c : Thread nD τ).loc main_arg2)
abbrev X3 (c : Dev nD) : FVec Ideal S32x64x16 .f32 := m ((c : Thread nD τ).loc main_arg3)
abbrev X4 (c : Dev nD) : FVec Ideal S32x64x16 .f32 := m ((c : Thread nD τ).loc main_arg4)
abbrev X5 (c : Dev nD) : FVec Ideal S32x64 .f32 := m ((c : Thread nD τ).loc main_arg5)
abbrev X6 (c : Dev nD) : FVec Ideal S32x64 .f32 := m ((c : Thread nD τ).loc main_arg6)
abbrev X7 (c : Dev nD) : FVec Ideal S32x64x16 .f32 := m ((c : Thread nD τ).loc main_arg7)
abbrev X8 (c : Dev nD) : FVec Ideal S32x64x16 .f32 := m ((c : Thread nD τ).loc main_arg8)

set_option maxHeartbeats 2000000 in
theorem entry0 (c : Dev nD) : (V m c main_v0 : Vec Ideal S1x2048 .f32) = flat (X0 m c) := by
  entry_read
  rfl
set_option maxHeartbeats 2000000 in
theorem entry1 (c : Dev nD) : (V m c main_v1 : Vec Ideal S1x2048 .f32) = flat (X1 m c) := by
  entry_read
  rfl
set_option maxHeartbeats 2000000 in
theorem entry2 (c : Dev nD) : (V m c main_v2 : Vec Ideal S1x2048 .f32) = flat (X2 m c) := by
  entry_read
  rfl
set_option maxHeartbeats 2000000 in
theorem entry3 (c : Dev nD) : (V m c main_v4 : Vec Ideal S16x2048 .f32) = flat3 (X3 m c) := by
  entry_read
  rfl
set_option maxHeartbeats 2000000 in
theorem entry4 (c : Dev nD) : (V m c main_v6 : Vec Ideal S16x2048 .f32) = flat3 (X4 m c) := by
  entry_read
  rfl
set_option maxHeartbeats 2000000 in
theorem entry5 (c : Dev nD) : (V m c main_v7 : Vec Ideal S1x2048 .f32) = flat (X5 m c) := by
  entry_read
  rfl
set_option maxHeartbeats 2000000 in
theorem entry6 (c : Dev nD) : (V m c main_v8 : Vec Ideal S1x2048 .f32) = flat (X6 m c) := by
  entry_read
  rfl
set_option maxHeartbeats 2000000 in
theorem entry7 (c : Dev nD) : (V m c main_v10 : Vec Ideal S16x2048 .f32) = flat3 (X7 m c) := by
  entry_read
  rfl
set_option maxHeartbeats 2000000 in
theorem entry8 (c : Dev nD) : (V m c main_v12 : Vec Ideal S16x2048 .f32) = flat3 (X8 m c) := by
  entry_read
  rfl

/-- The one grid point takes each array whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

theorem blk0 (c : Dev nD) (t : Fin cfg0.N) : (iblk m c 0 t : Vec Ideal S1x2048 .f32) = flat (X0 m c) := by
  rw [← entry0 m c]
  unfold iblk
  generalize V m c = W
  refine funext fun y => congrArg (W main_v0) ?_
  blk_point [idx t]
theorem blk1 (c : Dev nD) (t : Fin cfg0.N) : (iblk m c 1 t : Vec Ideal S1x2048 .f32) = flat (X1 m c) := by
  rw [← entry1 m c]
  unfold iblk
  generalize V m c = W
  refine funext fun y => congrArg (W main_v1) ?_
  blk_point [idx t]
theorem blk2 (c : Dev nD) (t : Fin cfg0.N) : (iblk m c 2 t : Vec Ideal S1x2048 .f32) = flat (X2 m c) := by
  rw [← entry2 m c]
  unfold iblk
  generalize V m c = W
  refine funext fun y => congrArg (W main_v2) ?_
  blk_point [idx t]
theorem blk3 (c : Dev nD) (t : Fin cfg0.N) : (iblk m c 3 t : Vec Ideal S16x2048 .f32) = flat3 (X3 m c) := by
  rw [← entry3 m c]
  unfold iblk
  generalize V m c = W
  refine funext fun y => congrArg (W main_v4) ?_
  blk_point [idx t]
theorem blk4 (c : Dev nD) (t : Fin cfg0.N) : (iblk m c 4 t : Vec Ideal S16x2048 .f32) = flat3 (X4 m c) := by
  rw [← entry4 m c]
  unfold iblk
  generalize V m c = W
  refine funext fun y => congrArg (W main_v6) ?_
  blk_point [idx t]
theorem blk5 (c : Dev nD) (t : Fin cfg0.N) : (iblk m c 5 t : Vec Ideal S1x2048 .f32) = flat (X5 m c) := by
  rw [← entry5 m c]
  unfold iblk
  generalize V m c = W
  refine funext fun y => congrArg (W main_v7) ?_
  blk_point [idx t]
theorem blk6 (c : Dev nD) (t : Fin cfg0.N) : (iblk m c 6 t : Vec Ideal S1x2048 .f32) = flat (X6 m c) := by
  rw [← entry6 m c]
  unfold iblk
  generalize V m c = W
  refine funext fun y => congrArg (W main_v8) ?_
  blk_point [idx t]
theorem blk7 (c : Dev nD) (t : Fin cfg0.N) : (iblk m c 7 t : Vec Ideal S16x2048 .f32) = flat3 (X7 m c) := by
  rw [← entry7 m c]
  unfold iblk
  generalize V m c = W
  refine funext fun y => congrArg (W main_v10) ?_
  blk_point [idx t]
theorem blk8 (c : Dev nD) (t : Fin cfg0.N) : (iblk m c 8 t : Vec Ideal S16x2048 .f32) = flat3 (X8 m c) := by
  rw [← entry8 m c]
  unfold iblk
  generalize V m c = W
  refine funext fun y => congrArg (W main_v12) ?_
  blk_point [idx t]

theorem gp_flat (x3 x4 x7 x8 : FVec Ideal S32x64x16 .f32) (n : Fin 2048) :
    gp (flat3 x3) (flat3 x4) (flat3 x7) (flat3 x8) n = Cert.PrepReferenceIdeal.Rows.gp x3 x4 x7 x8 (hd n) (st n) := by
  unfold gp Cert.PrepReferenceIdeal.Rows.gp
  simp only [flat3_apply]
theorem gq_flat (x3 x4 x7 x8 : FVec Ideal S32x64x16 .f32) (n : Fin 2048) :
    gq (flat3 x3) (flat3 x4) (flat3 x7) (flat3 x8) n = Cert.PrepReferenceIdeal.Rows.gq x3 x4 x7 x8 (hd n) (st n) := by
  unfold gq Cert.PrepReferenceIdeal.Rows.gq
  simp only [flat3_apply]

theorem dlr_point (x0 : FVec Ideal S32x64 .f32) (x1 : FVec Ideal S32x64 .f32) (x2 : FVec Ideal S32x64 .f32) (x3 : FVec Ideal S32x64x16 .f32) (x4 : FVec Ideal S32x64x16 .f32) (x5 : FVec Ideal S32x64 .f32) (x6 : FVec Ideal S32x64 .f32) (x7 : FVec Ideal S32x64x16 .f32) (x8 : FVec Ideal S32x64x16 .f32) (k : Fin 1) (n : Fin 2048) :
    (out0_9 (F := Ideal) (flat x0) (flat x1) (flat x2) (flat3 x3) (flat3 x4) (flat x5) (flat x6) (flat3 x7) (flat3 x8) (ix2 k n) : EReal) = Cert.PrepReferenceIdeal.Read.val_main_v121 (F := Ideal) x0 x1 x2 x3 x4 x5 x6 x7 x8 (ix2 k n) := by
  rw [show k = 0 from Subsingleton.elim _ _]
  rw [out_9, dlr_apply, Cert.PrepReferenceIdeal.Rows.dlr_row]
  simp only [flat_apply, flat3_apply, gp_flat, gq_flat]
theorem dlr_tile (c : Dev nD) (t : Fin cfg0.N) : ((dats m 0 c).after 9 t : Vec Ideal S1x2048 .f32) = Cert.PrepReferenceIdeal.Read.val_main_v121 (F := Ideal) (X0 m c) (X1 m c) (X2 m c) (X3 m c) (X4 m c) (X5 m c) (X6 m c) (X7 m c) (X8 m c) := by
  rw [after0_9, blk0, blk1, blk2, blk3, blk4, blk5, blk6, blk7, blk8]
  exact funext fun y => (congrArg _ (eq_ix2 y)).trans ((dlr_point _ _ _ _ _ _ _ _ _ (y 0) (y 1)).trans (congrArg _ (eq_ix2 y).symm))
theorem dlr_agree (c : Dev nD) : (dats m 0 c).arrAt 9 cfg0.N = Cert.PrepReferenceIdeal.Read.val_main_v121 (F := Ideal) (X0 m c) (X1 m c) (X2 m c) (X3 m c) (X4 m c) (X5 m c) (X6 m c) (X7 m c) (X8 m c) := by
  have h := dlr_tile m c
  generalize Cert.PrepReferenceIdeal.Read.val_main_v121 (F := Ideal) (X0 m c) (X1 m c) (X2 m c) (X3 m c) (X4 m c) (X5 m c) (X6 m c) (X7 m c) (X8 m c) = G at h ⊢
  refine (dats m 0 c).arrAt_eq_of_covers 9 G (by decide +kernel) fun t _ y => ?_
  rw [h t]
  refine congrArg G ?_
  blk_point [idx t]

theorem dli_point (x0 : FVec Ideal S32x64 .f32) (x1 : FVec Ideal S32x64 .f32) (x2 : FVec Ideal S32x64 .f32) (x3 : FVec Ideal S32x64x16 .f32) (x4 : FVec Ideal S32x64x16 .f32) (x5 : FVec Ideal S32x64 .f32) (x6 : FVec Ideal S32x64 .f32) (x7 : FVec Ideal S32x64x16 .f32) (x8 : FVec Ideal S32x64x16 .f32) (k : Fin 1) (n : Fin 2048) :
    (out0_10 (F := Ideal) (flat x0) (flat x1) (flat x2) (flat3 x3) (flat3 x4) (flat x5) (flat x6) (flat3 x7) (flat3 x8) (ix2 k n) : EReal) = Cert.PrepReferenceIdeal.Read.val_main_v122 (F := Ideal) x0 x1 x2 x3 x4 x5 x6 x7 x8 (ix2 k n) := by
  rw [show k = 0 from Subsingleton.elim _ _]
  rw [out_10, dli_apply, Cert.PrepReferenceIdeal.Rows.dli_row]
  simp only [flat_apply, flat3_apply, gp_flat, gq_flat]
theorem dli_tile (c : Dev nD) (t : Fin cfg0.N) : ((dats m 0 c).after 10 t : Vec Ideal S1x2048 .f32) = Cert.PrepReferenceIdeal.Read.val_main_v122 (F := Ideal) (X0 m c) (X1 m c) (X2 m c) (X3 m c) (X4 m c) (X5 m c) (X6 m c) (X7 m c) (X8 m c) := by
  rw [after0_10, blk0, blk1, blk2, blk3, blk4, blk5, blk6, blk7, blk8]
  exact funext fun y => (congrArg _ (eq_ix2 y)).trans ((dli_point _ _ _ _ _ _ _ _ _ (y 0) (y 1)).trans (congrArg _ (eq_ix2 y).symm))
theorem dli_agree (c : Dev nD) : (dats m 0 c).arrAt 10 cfg0.N = Cert.PrepReferenceIdeal.Read.val_main_v122 (F := Ideal) (X0 m c) (X1 m c) (X2 m c) (X3 m c) (X4 m c) (X5 m c) (X6 m c) (X7 m c) (X8 m c) := by
  have h := dli_tile m c
  generalize Cert.PrepReferenceIdeal.Read.val_main_v122 (F := Ideal) (X0 m c) (X1 m c) (X2 m c) (X3 m c) (X4 m c) (X5 m c) (X6 m c) (X7 m c) (X8 m c) = G at h ⊢
  refine (dats m 0 c).arrAt_eq_of_covers 10 G (by decide +kernel) fun t _ y => ?_
  rw [h t]
  refine congrArg G ?_
  blk_point [idx t]

theorem dld_point (x0 : FVec Ideal S32x64 .f32) (x1 : FVec Ideal S32x64 .f32) (x2 : FVec Ideal S32x64 .f32) (x3 : FVec Ideal S32x64x16 .f32) (x4 : FVec Ideal S32x64x16 .f32) (x5 : FVec Ideal S32x64 .f32) (x6 : FVec Ideal S32x64 .f32) (x7 : FVec Ideal S32x64x16 .f32) (x8 : FVec Ideal S32x64x16 .f32) (k : Fin 1) (n : Fin 2048) :
    (out0_11 (F := Ideal) (flat x0) (flat x1) (flat x2) (flat3 x3) (flat3 x4) (flat x5) (flat x6) (flat3 x7) (flat3 x8) (ix2 k n) : EReal) = Cert.PrepReferenceIdeal.Read.val_main_v123 (F := Ideal) x0 x1 x2 x3 x4 x5 x6 x7 x8 (ix2 k n) := by
  rw [show k = 0 from Subsingleton.elim _ _]
  rw [out_11, dld_apply, Cert.PrepReferenceIdeal.Rows.dld_row]
  simp only [flat_apply, flat3_apply, gp_flat, gq_flat]
theorem dld_tile (c : Dev nD) (t : Fin cfg0.N) : ((dats m 0 c).after 11 t : Vec Ideal S1x2048 .f32) = Cert.PrepReferenceIdeal.Read.val_main_v123 (F := Ideal) (X0 m c) (X1 m c) (X2 m c) (X3 m c) (X4 m c) (X5 m c) (X6 m c) (X7 m c) (X8 m c) := by
  rw [after0_11, blk0, blk1, blk2, blk3, blk4, blk5, blk6, blk7, blk8]
  exact funext fun y => (congrArg _ (eq_ix2 y)).trans ((dld_point _ _ _ _ _ _ _ _ _ (y 0) (y 1)).trans (congrArg _ (eq_ix2 y).symm))
theorem dld_agree (c : Dev nD) : (dats m 0 c).arrAt 11 cfg0.N = Cert.PrepReferenceIdeal.Read.val_main_v123 (F := Ideal) (X0 m c) (X1 m c) (X2 m c) (X3 m c) (X4 m c) (X5 m c) (X6 m c) (X7 m c) (X8 m c) := by
  have h := dld_tile m c
  generalize Cert.PrepReferenceIdeal.Read.val_main_v123 (F := Ideal) (X0 m c) (X1 m c) (X2 m c) (X3 m c) (X4 m c) (X5 m c) (X6 m c) (X7 m c) (X8 m c) = G at h ⊢
  refine (dats m 0 c).arrAt_eq_of_covers 11 G (by decide +kernel) fun t _ y => ?_
  rw [h t]
  refine congrArg G ?_
  blk_point [idx t]

theorem dbr_point (x0 : FVec Ideal S32x64 .f32) (x1 : FVec Ideal S32x64 .f32) (x2 : FVec Ideal S32x64 .f32) (x3 : FVec Ideal S32x64x16 .f32) (x4 : FVec Ideal S32x64x16 .f32) (x5 : FVec Ideal S32x64 .f32) (x6 : FVec Ideal S32x64 .f32) (x7 : FVec Ideal S32x64x16 .f32) (x8 : FVec Ideal S32x64x16 .f32) (k : Fin 16) (n : Fin 2048) :
    (out0_12 (F := Ideal) (flat x0) (flat x1) (flat x2) (flat3 x3) (flat3 x4) (flat x5) (flat x6) (flat3 x7) (flat3 x8) (ix2 k n) : EReal) = Cert.PrepReferenceIdeal.Read.val_main_v125 (F := Ideal) x0 x1 x2 x7 x8 (ix2 k n) := by
  rw [out_12, dbr_apply, Cert.PrepReferenceIdeal.Rows.dbr_row]
  simp only [flat_apply, flat3_apply]
theorem dbr_tile (c : Dev nD) (t : Fin cfg0.N) : ((dats m 0 c).after 12 t : Vec Ideal S16x2048 .f32) = Cert.PrepReferenceIdeal.Read.val_main_v125 (F := Ideal) (X0 m c) (X1 m c) (X2 m c) (X7 m c) (X8 m c) := by
  rw [after0_12, blk0, blk1, blk2, blk3, blk4, blk5, blk6, blk7, blk8]
  exact funext fun y => (congrArg _ (eq_ix2 y)).trans ((dbr_point _ _ _ _ _ _ _ _ _ (y 0) (y 1)).trans (congrArg _ (eq_ix2 y).symm))
theorem dbr_agree (c : Dev nD) : (dats m 0 c).arrAt 12 cfg0.N = Cert.PrepReferenceIdeal.Read.val_main_v125 (F := Ideal) (X0 m c) (X1 m c) (X2 m c) (X7 m c) (X8 m c) := by
  have h := dbr_tile m c
  generalize Cert.PrepReferenceIdeal.Read.val_main_v125 (F := Ideal) (X0 m c) (X1 m c) (X2 m c) (X7 m c) (X8 m c) = G at h ⊢
  refine (dats m 0 c).arrAt_eq_of_covers 12 G (by decide +kernel) fun t _ y => ?_
  rw [h t]
  refine congrArg G ?_
  blk_point [idx t]

theorem dbi_point (x0 : FVec Ideal S32x64 .f32) (x1 : FVec Ideal S32x64 .f32) (x2 : FVec Ideal S32x64 .f32) (x3 : FVec Ideal S32x64x16 .f32) (x4 : FVec Ideal S32x64x16 .f32) (x5 : FVec Ideal S32x64 .f32) (x6 : FVec Ideal S32x64 .f32) (x7 : FVec Ideal S32x64x16 .f32) (x8 : FVec Ideal S32x64x16 .f32) (k : Fin 16) (n : Fin 2048) :
    (out0_13 (F := Ideal) (flat x0) (flat x1) (flat x2) (flat3 x3) (flat3 x4) (flat x5) (flat x6) (flat3 x7) (flat3 x8) (ix2 k n) : EReal) = Cert.PrepReferenceIdeal.Read.val_main_v127 (F := Ideal) x0 x1 x2 x7 x8 (ix2 k n) := by
  rw [out_13, dbi_apply, Cert.PrepReferenceIdeal.Rows.dbi_row]
  simp only [flat_apply, flat3_apply]
theorem dbi_tile (c : Dev nD) (t : Fin cfg0.N) : ((dats m 0 c).after 13 t : Vec Ideal S16x2048 .f32) = Cert.PrepReferenceIdeal.Read.val_main_v127 (F := Ideal) (X0 m c) (X1 m c) (X2 m c) (X7 m c) (X8 m c) := by
  rw [after0_13, blk0, blk1, blk2, blk3, blk4, blk5, blk6, blk7, blk8]
  exact funext fun y => (congrArg _ (eq_ix2 y)).trans ((dbi_point _ _ _ _ _ _ _ _ _ (y 0) (y 1)).trans (congrArg _ (eq_ix2 y).symm))
theorem dbi_agree (c : Dev nD) : (dats m 0 c).arrAt 13 cfg0.N = Cert.PrepReferenceIdeal.Read.val_main_v127 (F := Ideal) (X0 m c) (X1 m c) (X2 m c) (X7 m c) (X8 m c) := by
  have h := dbi_tile m c
  generalize Cert.PrepReferenceIdeal.Read.val_main_v127 (F := Ideal) (X0 m c) (X1 m c) (X2 m c) (X7 m c) (X8 m c) = G at h ⊢
  refine (dats m 0 c).arrAt_eq_of_covers 13 G (by decide +kernel) fun t _ y => ?_
  rw [h t]
  refine congrArg G ?_
  blk_point [idx t]

theorem dlr_same (c : Dev nD) (x0 : FVec Ideal S32x64 .f32) (x1 : FVec Ideal S32x64 .f32) (x2 : FVec Ideal S32x64 .f32) (x3 : FVec Ideal S32x64x16 .f32) (x4 : FVec Ideal S32x64x16 .f32) (x5 : FVec Ideal S32x64 .f32) (x6 : FVec Ideal S32x64 .f32) (x7 : FVec Ideal S32x64x16 .f32) (x8 : FVec Ideal S32x64x16 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) (a5 : x5 = m ((c : Thread nD τ).loc main_arg5)) (a6 : x6 = m ((c : Thread nD τ).loc main_arg6)) (a7 : x7 = m ((c : Thread nD τ).loc main_arg7)) (a8 : x8 = m ((c : Thread nD τ).loc main_arg8)) :
    Cert.PrepReferenceIdeal.Read.val_main_v121 (F := Ideal) x0 x1 x2 x3 x4 x5 x6 x7 x8 = (dats m 0 c).arrAt 9 cfg0.N := by
  subst a0 a1 a2 a3 a4 a5 a6 a7 a8
  exact (dlr_agree m c).symm

theorem dli_same (c : Dev nD) (x0 : FVec Ideal S32x64 .f32) (x1 : FVec Ideal S32x64 .f32) (x2 : FVec Ideal S32x64 .f32) (x3 : FVec Ideal S32x64x16 .f32) (x4 : FVec Ideal S32x64x16 .f32) (x5 : FVec Ideal S32x64 .f32) (x6 : FVec Ideal S32x64 .f32) (x7 : FVec Ideal S32x64x16 .f32) (x8 : FVec Ideal S32x64x16 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) (a5 : x5 = m ((c : Thread nD τ).loc main_arg5)) (a6 : x6 = m ((c : Thread nD τ).loc main_arg6)) (a7 : x7 = m ((c : Thread nD τ).loc main_arg7)) (a8 : x8 = m ((c : Thread nD τ).loc main_arg8)) :
    Cert.PrepReferenceIdeal.Read.val_main_v122 (F := Ideal) x0 x1 x2 x3 x4 x5 x6 x7 x8 = (dats m 0 c).arrAt 10 cfg0.N := by
  subst a0 a1 a2 a3 a4 a5 a6 a7 a8
  exact (dli_agree m c).symm

theorem dld_same (c : Dev nD) (x0 : FVec Ideal S32x64 .f32) (x1 : FVec Ideal S32x64 .f32) (x2 : FVec Ideal S32x64 .f32) (x3 : FVec Ideal S32x64x16 .f32) (x4 : FVec Ideal S32x64x16 .f32) (x5 : FVec Ideal S32x64 .f32) (x6 : FVec Ideal S32x64 .f32) (x7 : FVec Ideal S32x64x16 .f32) (x8 : FVec Ideal S32x64x16 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) (a5 : x5 = m ((c : Thread nD τ).loc main_arg5)) (a6 : x6 = m ((c : Thread nD τ).loc main_arg6)) (a7 : x7 = m ((c : Thread nD τ).loc main_arg7)) (a8 : x8 = m ((c : Thread nD τ).loc main_arg8)) :
    Cert.PrepReferenceIdeal.Read.val_main_v123 (F := Ideal) x0 x1 x2 x3 x4 x5 x6 x7 x8 = (dats m 0 c).arrAt 11 cfg0.N := by
  subst a0 a1 a2 a3 a4 a5 a6 a7 a8
  exact (dld_agree m c).symm

theorem dbr_same (c : Dev nD) (x0 : FVec Ideal S32x64 .f32) (x1 : FVec Ideal S32x64 .f32) (x2 : FVec Ideal S32x64 .f32) (x7 : FVec Ideal S32x64x16 .f32) (x8 : FVec Ideal S32x64x16 .f32)
    (a0 : x0 = m ((c : Thread nD τ).loc main_arg0)) (a1 : x1 = m ((c : Thread nD τ).loc main_arg1)) (a2 : x2 = m ((c : Thread nD τ).loc main_arg2)) (a7 : x7 = m ((c : Thread nD τ).loc main_arg7)) (a8 : x8 = m ((c : Thread nD τ).loc main_arg8)) :
    Cert.PrepReferenceIdeal.Read.val_main_v125 (F := Ideal) x0 x1 x2 x7 x8 = (dats m 0 c).arrAt 12 cfg0.N := by
  subst a0 a1 a2 a7 a8
  exact (dbr_agree m c).symm

theorem dbi_same (c : Dev nD) (x0 : FVec Ideal S32x64 .f32) (x1 : FVec Ideal S32x64 .f32) (x2 : FVec Ideal S32x64 .f32) (x7 : FVec Ideal S32x64x16 .f32) (x8 : FVec Ideal S32x64x16 .f32)
    (a0 : x0 = m ((c : Thread nD τ).loc main_arg0)) (a1 : x1 = m ((c : Thread nD τ).loc main_arg1)) (a2 : x2 = m ((c : Thread nD τ).loc main_arg2)) (a7 : x7 = m ((c : Thread nD τ).loc main_arg7)) (a8 : x8 = m ((c : Thread nD τ).loc main_arg8)) :
    Cert.PrepReferenceIdeal.Read.val_main_v127 (F := Ideal) x0 x1 x2 x7 x8 = (dats m 0 c).arrAt 13 cfg0.N := by
  subst a0 a1 a2 a7 a8
  exact (dbi_agree m c).symm

end Cert.PrepIdeal.Value
-- ==== Proof.Merge.Rows.lean ====
/-
  The merge's gradient in the two programs, row by row.
-/
module

public import proofs.«01_k».proof.Proof.Gen.MergeIdeal.Value
public import proofs.«01_k».proof.Proof.Gen.MergeReferenceIdeal.Read
public import proofs.«01_k».proof.Proof.Merge.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeReferenceIdeal.Rows

open Cert.MergeReferenceIdeal Cert.MergeReferenceIdeal.Read Cert.Merge

variable (x0 : FVec Ideal S8192x8x64 .f32) (x1 x7 : FVec Ideal S8192x1024 .f32) (x2 : FVec Ideal S8448x2048 .f32) (x4 : FVec Ideal S1024 .f32)
  (x5 : FVec Ideal S512x1024 .f32) (x6 : FVec Ideal S1024x1024 .f32)

/-- A latent row among all rows. -/
abbrev latent (n : Fin 8192) : Fin 8448 := ⟨n, by omega⟩

/-- The arguments' rows: the heads side by side, their projection, and the rest. -/
abbrev oRow (n : Fin 8192) (x : Fin 512) : EReal := x0 (ix3 n ⟨(x : ℕ) / 64, by omega⟩ ⟨(x : ℕ) % 64, by omega⟩)
abbrev aRow (n : Fin 8192) (j : Fin 1024) : EReal := ∑ x, oRow x0 n x * x5 (ix2 x j)
abbrev sRow (n : Fin 8192) (j : Fin 1024) : EReal := x1 (ix2 n j)
abbrev glRow (n : Fin 8192) (q : Fin 2048) : EReal := x2 (ix2 (latent n) q)
abbrev gRow (j : Fin 1024) : EReal := x4 (ix1 j)
abbrev wAt (x j : Fin 1024) : EReal := x6 (ix2 x j)

theorem a_apply (n : Fin 8192) (j : Fin 1024) : (val_main_v1 (F := Ideal) x0 x5 (ix2 n j) : EReal) = aRow x0 x5 n j := by
  pointwise [val_main_v1, val_main_v0]
theorem wa_apply (n : Fin 8192) (j : Fin 1024) : (val_main_v11 (F := Ideal) x2 (ix2 n j) : EReal) = wa (glRow x2 n) j := by
  pointwise [val_main_v11, val_main_v10, val_main_cst_0, val_main_v9, val_main_v8, val_main_cst, val_main_v7, val_main_v6, val_main_v3, val_main_v2]
  rfl
theorem wb_apply (n : Fin 8192) (j : Fin 1024) : (val_main_v21 (F := Ideal) x2 (ix2 n j) : EReal) = wb (glRow x2 n) j := by
  pointwise [val_main_v21, val_main_v20, val_main_cst_3, val_main_v19, val_main_v18, val_main_cst_2, val_main_v17, val_main_v16, val_main_v4, val_main_v2]
  rfl
theorem mix_apply (n : Fin 8192) (j : Fin 1024) : (val_main_v26 (F := Ideal) x0 x1 x2 x5 (ix2 n j) : EReal)
    = mix (aRow x0 x5 n) (sRow x1 n) (glRow x2 n) j := by
  unfold mix
  rw [← wa_apply, ← wb_apply, ← a_apply]
  pointwise [val_main_v26, val_main_v25, val_main_v15]
theorem proj_apply (n : Fin 8192) (j : Fin 1024) : (val_main_v27 (F := Ideal) x0 x1 x2 x5 x6 (ix2 n j) : EReal)
    = proj (aRow x0 x5 n) (sRow x1 n) (glRow x2 n) (wAt x6) j := by
  unfold proj
  simp only [← mix_apply]
  pointwise [val_main_v27]
theorem dt_apply (n : Fin 8192) (j : Fin 1024) : (val_main_v33 (F := Ideal) x4 x7 (ix2 n j) : EReal) = dt (gRow x4) (sRow x7 n) j := by
  pointwise [val_main_v33, val_main_v32, val_main_v28]
  rfl
theorem dm_apply (n : Fin 8192) (j : Fin 1024) : (val_main_v40 (F := Ideal) x4 x6 x7 (ix2 n j) : EReal) = dm (gRow x4) (sRow x7 n) (wAt x6) j := by
  unfold dm
  simp only [← dt_apply]
  pointwise [val_main_v40]
theorem da_apply (n : Fin 8192) (j : Fin 1024) : (val_main_v44 (F := Ideal) x2 x4 x6 x7 (ix2 n j) : EReal)
    = da (glRow x2 n) (gRow x4) (sRow x7 n) (wAt x6) j := by
  unfold da
  rw [← wa_apply, ← dm_apply]
  pointwise [val_main_v44]

theorem ds_rows (n : Fin 8192) (j : Fin 1024) : (val_main_v41 (F := Ideal) x2 x4 x6 x7 (ix2 n j) : EReal)
    = ds (glRow x2 n) (gRow x4) (sRow x7 n) (wAt x6) j := by
  unfold ds
  rw [← wb_apply, ← dm_apply]
  pointwise [val_main_v41]
theorem dgl_rows (n : Fin 8192) (q : Fin 2048) : (val_main_v58 (F := Ideal) x0 x1 x2 x4 x5 x6 x7 (ix2 n q) : EReal)
    = dgl (aRow x0 x5 n) (sRow x1 n) (glRow x2 n) (gRow x4) (sRow x7 n) (wAt x6) q := by
  unfold dgl
  simp only [← wa_apply, ← wb_apply, ← dm_apply, ← a_apply]
  pointwise [val_main_v58, val_main_v48, val_main_v47, val_main_v46, val_main_v45, val_main_v43, val_main_v42, val_main_v24, val_main_v23, val_main_v22,
    val_main_cst_4, val_main_v14, val_main_v13, val_main_v12, val_main_cst_1]
theorem do_rows (n : Fin 8192) (p : Fin 1024) : (val_main_v57 (F := Ideal) x2 x4 x5 x6 x7 (ix2 n p) : EReal)
    = spread (fun x => ∑ j, da (glRow x2 n) (gRow x4) (sRow x7 n) (wAt x6) j * x5 (ix2 x j)) p := by
  unfold spread
  simp only [← da_apply]
  pointwise [val_main_v57, val_main_v56, val_main_v55, val_main_v52, val_main_v51, val_main_cst_9]
theorem gain_rows (n : Fin 8) (j : Fin 1024) : (val_main_v61 (F := Ideal) x0 x1 x2 x5 x6 x7 (ix2 n j) : EReal)
    = if (n : ℕ) = 0 then ∑ i, sRow x7 i j * proj (aRow x0 x5 i) (sRow x1 i) (glRow x2 i) (wAt x6) j else 0 := by
  simp only [← proj_apply]
  pointwise [val_main_v61, val_main_v60, val_main_v59, val_main_v37, val_main_v36, val_main_v35, val_main_v34, val_main_cst_5, val_main_cst_6, val_main_cst_10]
  simp only [Fin.sum_univ_one]
  have hn : (n : ℕ) = 0 ∨ 1 ≤ (n : ℕ) := by omega
  rcases hn with h | h
  · simp [h]
  · simp [Nat.not_lt.mpr h, Nat.one_le_iff_ne_zero.mp h]
theorem wo_rows (p j : Fin 1024) : (val_main_v62 (F := Ideal) x0 x2 x4 x6 x7 (ix2 p j) : EReal)
    = spread (fun x => ∑ i, oRow x0 i x * da (glRow x2 i) (gRow x4) (sRow x7 i) (wAt x6) j) p := by
  unfold spread
  simp only [← da_apply]
  pointwise [val_main_v62, val_main_v54, val_main_v53, val_main_v50, val_main_v49, val_main_v0, val_main_cst_8]
  simp only [mul_comm]
theorem wout_rows (x j : Fin 1024) : (val_main_v39 (F := Ideal) x0 x1 x2 x4 x5 x7 (ix2 x j) : EReal)
    = ∑ i, mix (aRow x0 x5 i) (sRow x1 i) (glRow x2 i) x * dt (gRow x4) (sRow x7 i) j := by
  simp only [← mix_apply, ← dt_apply]
  pointwise [val_main_v39, val_main_v38]
  exact Finset.sum_congr rfl fun i _ => mul_comm _ _

end Cert.MergeReferenceIdeal.Rows

namespace Cert.MergeIdeal.Value

open Cert.MergeIdeal Cert.MergeIdeal.Gen Cert.Merge

variable (o : FVec Ideal S256x1024 .bf16) (s : FVec Ideal S256x1024 .f32) (gl : FVec Ideal S256x2048 .f32) (g : FVec Ideal S1x1024 .f32)
  (wo w : FVec Ideal S1024x1024 .bf16) (ct : FVec Ideal S256x1024 .f32)

abbrev oRow (o : FVec Ideal S256x1024 .bf16) (r : Fin 256) (p : Fin 1024) : EReal := o (ix2 r p)
abbrev aRow (o : FVec Ideal S256x1024 .bf16) (wo : FVec Ideal S1024x1024 .bf16) (r : Fin 256) (j : Fin 1024) : EReal := ∑ p : Fin 1024, oRow o r p * wo (ix2 p j)
abbrev sRow (s : FVec Ideal S256x1024 .f32) (r : Fin 256) (j : Fin 1024) : EReal := s (ix2 r j)
abbrev glRow (gl : FVec Ideal S256x2048 .f32) (r : Fin 256) (q : Fin 2048) : EReal := gl (ix2 r q)
abbrev gRow (g : FVec Ideal S1x1024 .f32) (j : Fin 1024) : EReal := g (ix2 0 j)
abbrev wAt (w : FVec Ideal S1024x1024 .bf16) (x j : Fin 1024) : EReal := w (ix2 x j)

theorem a_apply (r : Fin 256) (j : Fin 1024) : (k0_pay9 (F := Ideal) o wo (ix2 r j) : EReal) = aRow o wo r j := by
  pointwise [k0_pay9, k0_pay7, k0_pay5]
theorem wa_apply (r : Fin 256) (j : Fin 1024) : (k0_pay10 (F := Ideal) gl (ix2 r j) : EReal) = wa (glRow gl r) j := by
  pointwise [k0_pay10, k0_pay6]
  rfl
theorem wb_apply (r : Fin 256) (j : Fin 1024) : (k0_pay12 (F := Ideal) gl (ix2 r j) : EReal) = wb (glRow gl r) j := by
  pointwise [k0_pay12, k0_pay6]
  rfl
theorem mix_apply (r : Fin 256) (j : Fin 1024) : (k0_pay14 (F := Ideal) o s gl wo (ix2 r j) : EReal)
    = mix (aRow o wo r) (sRow s r) (glRow gl r) j := by
  unfold mix
  rw [← wa_apply, ← wb_apply, ← a_apply]
  pointwise [k0_pay14]
theorem gain_apply (j : Fin 1024) : (k0_pay16 (F := Ideal) o s gl wo w ct (ix2 0 j) : EReal)
    = ∑ r, sRow ct r j * proj (aRow o wo r) (sRow s r) (glRow gl r) (wAt w) j := by
  unfold proj
  simp only [← mix_apply]
  pointwise [k0_pay16, k0_pay15, k0_pay8]
theorem dt_apply (r : Fin 256) (j : Fin 1024) : (k0_pay17 (F := Ideal) g ct (ix2 r j) : EReal) = dt (gRow g) (sRow ct r) j := by
  pointwise [k0_pay17, k0_pay15]
  rfl
theorem dm_apply (r : Fin 256) (j : Fin 1024) : (k0_pay19 (F := Ideal) (k0_pay17 g ct) (k0_pay18 w) (ix2 r j) : EReal)
    = dm (gRow g) (sRow ct r) (wAt w) j := by
  unfold dm
  simp only [← dt_apply]
  pointwise [k0_pay19, k0_pay18, k0_pay8]
theorem da_apply (r : Fin 256) (j : Fin 1024) : (k0_pay23 (F := Ideal) (k0_pay10 gl) (k0_pay17 g ct) (k0_pay18 w) (ix2 r j) : EReal)
    = da (glRow gl r) (gRow g) (sRow ct r) (wAt w) j := by
  unfold da
  rw [← wa_apply, ← dm_apply]
  pointwise [k0_pay23]

theorem ds_apply (r : Fin 256) (j : Fin 1024) : (k0_pay21 (F := Ideal) (k0_pay12 gl) (k0_pay17 g ct) (k0_pay18 w) (ix2 r j) : EReal)
    = ds (glRow gl r) (gRow g) (sRow ct r) (wAt w) j := by
  unfold ds
  rw [← wb_apply, ← dm_apply]
  pointwise [k0_pay21]
theorem dgl_any (v14 v16 v22 : FVec Ideal S256x1024 .f32) (v38 : FVec Ideal S256x1024 .bf16) (v39 : FVec Ideal S1024x1024 .bf16)
    (r : Fin 256) (q : Fin 2048) : (k0_pay22 (F := Ideal) s v14 v16 v22 v38 v39 (ix2 r q) : EReal)
    = if h : (q : ℕ) < 1024 then k0_pay19 (F := Ideal) v38 v39 (ix2 r ⟨q, h⟩) * v14 (ix2 r ⟨q, h⟩) * v16 (ix2 r ⟨q, h⟩)
      else k0_pay19 (F := Ideal) v38 v39 (ix2 r ⟨q - 1024, by omega⟩) * s (ix2 r ⟨q - 1024, by omega⟩) * v22 (ix2 r ⟨q - 1024, by omega⟩) := by
  pointwise [k0_pay22]
  by_cases h : (q : ℕ) < 1024
  · simp only [h, dite_true, zero_add]
  · simp only [h, dite_false, add_zero]
theorem slope_a (r : Fin 256) (j : Fin 1024) : (k0_pay11 (F := Ideal) gl (ix2 r j) : EReal) = wa (glRow gl r) j * (1 - wa (glRow gl r) j) := by
  rw [← wa_apply]
  pointwise [k0_pay11]
theorem slope_b (r : Fin 256) (j : Fin 1024) : (k0_pay13 (F := Ideal) gl (ix2 r j) : EReal) = wb (glRow gl r) j * (1 - wb (glRow gl r) j) := by
  rw [← wb_apply]
  pointwise [k0_pay13]
theorem dgl_apply (r : Fin 256) (q : Fin 2048) :
    (k0_pay22 (F := Ideal) s (k0_pay9 o wo) (k0_pay11 gl) (k0_pay13 gl) (k0_pay17 g ct) (k0_pay18 w) (ix2 r q) : EReal)
      = dgl (aRow o wo r) (sRow s r) (glRow gl r) (gRow g) (sRow ct r) (wAt w) q := by
  refine (dgl_any _ _ _ _ _ _ r q).trans ?_
  simp only [slope_a, slope_b, a_apply, dm_apply]
  rfl
theorem do_apply (r : Fin 256) (p : Fin 1024) : (k0_pay25 (F := Ideal) (k0_pay7 wo) (k0_pay10 gl) (k0_pay17 g ct) (k0_pay18 w) (ix2 r p) : EReal)
    = ∑ j : Fin 1024, da (glRow gl r) (gRow g) (sRow ct r) (wAt w) j * wo (ix2 p j) := by
  simp only [← da_apply]
  pointwise [k0_pay25, k0_pay7]

theorem first_row (k : Fin 8) (a b : EReal) : Scalar.select (IntOp.cmpi .eq (BitVec.ofNat 32 (k : ℕ)) 0#32) a b = if (k : ℕ) = 0 then a else b := by
  fin_cases k <;> rfl

/-- What a tile adds to the gain's rows and to the two weights. -/
theorem gain_step (a : FVec Ideal S8x1024 .f32) (n : Fin 8) (j : Fin 1024) : (k0_pay27 (F := Ideal) (k0_pay16 o s gl wo w ct) a (ix2 n j) : EReal)
    = a (ix2 n j) + if (n : ℕ) = 0 then ∑ r, sRow ct r j * proj (aRow o wo r) (sRow s r) (glRow gl r) (wAt w) j else 0 := by
  rw [← gain_apply, ← first_row]
  generalize k0_pay16 (F := Ideal) o s gl wo w ct = v
  pointwise [k0_pay27]
theorem wo_step (a : FVec Ideal S1024x1024 .f32) (p j : Fin 1024) :
    (k0_pay2 (F := Ideal) (k0_pay24 (k0_pay5 o) (k0_pay10 gl) (k0_pay17 g ct) (k0_pay18 w)) a (ix2 p j) : EReal)
      = a (ix2 p j) + ∑ r, oRow o r p * da (glRow gl r) (gRow g) (sRow ct r) (wAt w) j := by
  simp only [← da_apply]
  pointwise [k0_pay2, k0_pay24, k0_pay5]
theorem wout_step (a : FVec Ideal S1024x1024 .f32) (x j : Fin 1024) :
    (k0_pay4 (F := Ideal) (k0_pay20 (k0_pay14 o s gl wo) (k0_pay17 g ct)) a (ix2 x j) : EReal)
      = a (ix2 x j) + ∑ r, mix (aRow o wo r) (sRow s r) (glRow gl r) x * dt (gRow g) (sRow ct r) j := by
  simp only [← mix_apply, ← dt_apply]
  pointwise [k0_pay4, k0_pay20]

theorem zero_gain (y) : k0_pay26 (F := Ideal) y = 0 := by
  pointwise [k0_pay26]
theorem zero_wo (y) : k0_pay1 (F := Ideal) y = 0 := by
  pointwise [k0_pay1]
theorem zero_wout (y) : k0_pay3 (F := Ideal) y = 0 := by
  pointwise [k0_pay3]

end Cert.MergeIdeal.Value
-- ==== Proof.Merge.Agree.lean ====
/-
  The merge's gradient region: what a tile of 256 rows leaves, and the six arrays after the run, against the reference's.
-/
module

public import proofs.«01_k».proof.Proof.Merge.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen Cert.Merge Cert.MergeReferenceIdeal.Read

variable (m : (ℓ : Loc nD τ sig) → Buf (Elt Ideal) ℓ)

abbrev B0 (c : Dev nD) (t : Fin cfg0.N) : Vec Ideal S256x1024 .bf16 := iblk m c 0 t
abbrev B1 (c : Dev nD) (t : Fin cfg0.N) : Vec Ideal S256x1024 .f32 := iblk m c 1 t
abbrev B2 (c : Dev nD) (t : Fin cfg0.N) : Vec Ideal S256x2048 .f32 := X0_2 m c t
abbrev B4 (c : Dev nD) (t : Fin cfg0.N) : Vec Ideal S1x1024 .f32 := iblk m c 4 t
abbrev B5 (c : Dev nD) (t : Fin cfg0.N) : Vec Ideal S1024x1024 .bf16 := iblk m c 5 t
abbrev B6 (c : Dev nD) (t : Fin cfg0.N) : Vec Ideal S1024x1024 .bf16 := iblk m c 6 t
abbrev B7 (c : Dev nD) (t : Fin cfg0.N) : Vec Ideal S256x1024 .f32 := iblk m c 7 t

/-! What a grid point leaves. -/

theorem do_point (c : Dev nD) (t : Fin cfg0.N) : (outsAt0 m c t.val t.isLt).1 = k0_pay25 (k0_pay7 (B5 m c t)) (k0_pay10 (B2 m c t)) (k0_pay17 (B4 m c t) (B7 m c t)) (k0_pay18 (B6 m c t)) := by
  by_cases h : t.val % 32 = 0
  · rw [outsAt0_A m c t h h h]
    frame_out
  · rw [outsAt0_B m c t h h h]
    frame_out
theorem ds_point (c : Dev nD) (t : Fin cfg0.N) : (outsAt0 m c t.val t.isLt).2.1 = k0_pay21 (k0_pay12 (B2 m c t)) (k0_pay17 (B4 m c t) (B7 m c t)) (k0_pay18 (B6 m c t)) := by
  by_cases h : t.val % 32 = 0
  · rw [outsAt0_A m c t h h h]
    frame_out
  · rw [outsAt0_B m c t h h h]
    frame_out
theorem dgl_point (c : Dev nD) (t : Fin cfg0.N) : (outsAt0 m c t.val t.isLt).2.2.1 = k0_pay22 (B1 m c t) (k0_pay9 (B0 m c t) (B5 m c t)) (k0_pay11 (B2 m c t)) (k0_pay13 (B2 m c t)) (k0_pay17 (B4 m c t) (B7 m c t)) (k0_pay18 (B6 m c t)) := by
  by_cases h : t.val % 32 = 0
  · rw [outsAt0_A m c t h h h]
    frame_out
  · rw [outsAt0_B m c t h h h]
    frame_out

/-- What a tile adds to the gain's rows and to the two weights. -/
abbrev gainAdd (c : Dev nD) (t : Fin cfg0.N) (a : FVec Ideal S8x1024 .f32) : FVec Ideal S8x1024 .f32 :=
  k0_pay27 (F := Ideal) (k0_pay16 (B0 m c t) (B1 m c t) (B2 m c t) (B5 m c t) (B6 m c t) (B7 m c t)) a
abbrev woAdd (c : Dev nD) (t : Fin cfg0.N) (a : FVec Ideal S1024x1024 .f32) : FVec Ideal S1024x1024 .f32 :=
  k0_pay2 (F := Ideal) (k0_pay24 (k0_pay5 (B0 m c t)) (k0_pay10 (B2 m c t)) (k0_pay17 (B4 m c t) (B7 m c t)) (k0_pay18 (B6 m c t))) a
abbrev woutAdd (c : Dev nD) (t : Fin cfg0.N) (a : FVec Ideal S1024x1024 .f32) : FVec Ideal S1024x1024 .f32 :=
  k0_pay4 (F := Ideal) (k0_pay20 (k0_pay14 (B0 m c t) (B1 m c t) (B2 m c t) (B5 m c t)) (k0_pay17 (B4 m c t) (B7 m c t))) a

theorem gain_point_A (c : Dev nD) (t : Fin cfg0.N) (h : t.val % 32 = 0) : (outsAt0 m c t.val t.isLt).2.2.2.1
    = gainAdd m c t (k0_pay26 (F := Ideal)) := by
  rw [outsAt0_A m c t h h h]
  frame_out
theorem gain_point_B (c : Dev nD) (t : Fin cfg0.N) (h : ¬ t.val % 32 = 0) : (outsAt0 m c t.val t.isLt).2.2.2.1
    = gainAdd m c t (outsAt0 m c (t.val - 1) (by omega)).2.2.2.1 := by
  rw [outsAt0_B m c t h h h]
  frame_out
theorem wo_point_A (c : Dev nD) (t : Fin cfg0.N) (h : t.val % 32 = 0) : (outsAt0 m c t.val t.isLt).2.2.2.2.1
    = woAdd m c t (k0_pay1 (F := Ideal)) := by
  rw [outsAt0_A m c t h h h]
  frame_out
theorem wo_point_B (c : Dev nD) (t : Fin cfg0.N) (h : ¬ t.val % 32 = 0) : (outsAt0 m c t.val t.isLt).2.2.2.2.1
    = woAdd m c t (outsAt0 m c (t.val - 1) (by omega)).2.2.2.2.1 := by
  rw [outsAt0_B m c t h h h]
  frame_out
theorem wout_point_A (c : Dev nD) (t : Fin cfg0.N) (h : t.val % 32 = 0) : (outsAt0 m c t.val t.isLt).2.2.2.2.2
    = woutAdd m c t (k0_pay3 (F := Ideal)) := by
  rw [outsAt0_A m c t h h h]
  frame_out
theorem wout_point_B (c : Dev nD) (t : Fin cfg0.N) (h : ¬ t.val % 32 = 0) : (outsAt0 m c t.val t.isLt).2.2.2.2.2
    = woutAdd m c t (outsAt0 m c (t.val - 1) (by omega)).2.2.2.2.2 := by
  rw [outsAt0_B m c t h h h]
  frame_out

/-! What the host lines hand to the region. -/

/-- The branch's output, each head padded to 128 columns, and the rows of its projection so. -/
def heads (o : FVec Ideal S8192x8x64 .f32) : FVec Ideal S8192x1024 .bf16 :=
  truncf .bf16 (shapeCast _ (pad S8192x8x128 ![0, 0, 0] ![0, 0, 64] ![0, 0, 0] o (constant (F := Ideal) S_ .f32 0x00000000#32)
    pads_S8192x8x64_S8192x8x128_000_000_0640 h_S_) shapeCasts_S8192x8x128_S8192x1024) bitsLt_bf16_f32
def headRows (w : FVec Ideal S512x1024 .f32) : FVec Ideal S1024x1024 .bf16 :=
  truncf .bf16 (shapeCast _ (pad S8x128x1024 ![0, 0, 0] ![0, 64, 0] ![0, 0, 0] (shapeCast S8x64x1024 w shapeCasts_S512x1024_S8x64x1024)
    (constant (F := Ideal) S_ .f32 0x00000000#32) pads_S8x64x1024_S8x128x1024_000_0640_000 h_S_) shapeCasts_S8x128x1024_S1024x1024) bitsLt_bf16_f32
/-- The gate's columns among the projection's, zeros elsewhere. -/
def columns (u : FVec Ideal S8448x2048 .f32) : FVec Ideal S8448x3456 .f32 :=
  concatenate S8448x3456 1 [⟨S8448x2048, u⟩, ⟨S8448x1408, broadcastInDim S8448x1408 ![] bcast_S_S8448x1408
    (constant (F := Ideal) S_ .f32 0x00000000#32)⟩] concatenates_S8448x2048_S8448x1408_S8448x3456_d1
def oneRow (a : FVec Ideal S1024 .f32) : FVec Ideal S1x1024 .f32 := broadcastInDim S1x1024 ![1] bcast_S1024_S1x1024_1 a

theorem heads_apply (o : FVec Ideal S8192x8x64 .f32) (n : Fin 8192) (p : Fin 1024) :
    (heads o (ix2 n p) : EReal) = spread (MergeReferenceIdeal.Rows.oRow o n) p := by
  unfold spread
  pointwise [heads]
  by_cases h : (p : ℕ) / 128 < 8 ∧ (p : ℕ) % 128 < 64
  · simp only [dif_pos h]
    refine congrArg o (congrArg₂ (ix3 n) (Fin.ext ?_) (Fin.ext ?_))
    · show (p : ℕ) / 128 = ((p : ℕ) / 128 * 64 + p % 128) / 64
      omega
    · show (p : ℕ) % 128 = ((p : ℕ) / 128 * 64 + p % 128) % 64
      omega
  · simp only [dif_neg h]
theorem headRows_apply (w : FVec Ideal S512x1024 .f32) (p j : Fin 1024) : (headRows w (ix2 p j) : EReal) = spread (fun x => w (ix2 x j)) p := by
  unfold spread
  pointwise [headRows]
theorem columns_apply (u : FVec Ideal S8448x2048 .f32) (n : Fin 8448) (k : Fin 2048) :
    columns u (ix2 n ⟨k, by omega⟩) = u (ix2 n k) := by
  pointwise [columns]
theorem oneRow_apply (a : FVec Ideal S1024 .f32) (j : Fin 1024) : oneRow a (ix2 0 j) = a (ix1 j) := by
  pointwise [oneRow]

abbrev X0 (c : Dev nD) : FVec Ideal S8192x8x64 .f32 := m ((c : Thread nD τ).loc main_arg0)
abbrev X1 (c : Dev nD) : FVec Ideal S8192x1024 .f32 := m ((c : Thread nD τ).loc main_arg1)
abbrev X2 (c : Dev nD) : FVec Ideal S8448x2048 .f32 := m ((c : Thread nD τ).loc main_arg2)
abbrev X4 (c : Dev nD) : FVec Ideal S1024 .f32 := m ((c : Thread nD τ).loc main_arg4)
abbrev X5 (c : Dev nD) : FVec Ideal S512x1024 .f32 := m ((c : Thread nD τ).loc main_arg5)
abbrev X6 (c : Dev nD) : FVec Ideal S1024x1024 .f32 := m ((c : Thread nD τ).loc main_arg6)
abbrev X7 (c : Dev nD) : FVec Ideal S8192x1024 .f32 := m ((c : Thread nD τ).loc main_arg7)

set_option maxHeartbeats 2000000 in
theorem o_entry (c : Dev nD) : (V m c main_v6 : Vec Ideal S8192x1024 .bf16) = heads (X0 m c) := by
  entry_read
  rfl
set_option maxHeartbeats 2000000 in
theorem gl_entry (c : Dev nD) : (V m c main_v1 : Vec Ideal S8448x3456 .f32) = columns (X2 m c) := by
  entry_read
  rfl
set_option maxHeartbeats 2000000 in
theorem g_entry (c : Dev nD) : (V m c main_v7 : Vec Ideal S1x1024 .f32) = oneRow (X4 m c) := by
  entry_read
  rfl
set_option maxHeartbeats 2000000 in
theorem wo_entry (c : Dev nD) : (V m c main_v9 : Vec Ideal S1024x1024 .bf16) = headRows (X5 m c) := by
  entry_read
  rfl
set_option maxHeartbeats 2000000 in
theorem w_entry (c : Dev nD) : (V m c main_v10 : Vec Ideal S1024x1024 .bf16) = truncf .bf16 (X6 m c) bitsLt_bf16_f32 := by
  entry_read
  rfl

/-- The blocks' places. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![0, 0] ∧ win0_12.index t = ![0, 0] ∧ win0_13.index t = ![0, 0] :=
  (by decide +kernel : ∀ t : Fin grid0.N, _)

theorem lt32 (t : Fin cfg0.N) : t.val < 32 := lt_of_lt_of_eq t.isLt (show cfg0.N = 32 from N_0)

/-- Row `r` of tile `t`. -/
abbrev at256 (t : Fin cfg0.N) (r : Fin 256) : Fin 8192 := ⟨256 * t.val + r, by have := lt32 t; omega⟩

theorem blk0 (c : Dev nD) (t : Fin cfg0.N) (r : Fin 256) (p : Fin 1024) : (B0 m c t (ix2 r p) : EReal) = spread (MergeReferenceIdeal.Rows.oRow (X0 m c) (at256 t r)) p := by
  have e : (win0_0.blk t).view.emb (ix2 r p) = ix2 (at256 t r) p := by
    blk_point [idx t]
  refine Eq.trans ?_ (heads_apply (X0 m c) (at256 t r) p)
  rw [← o_entry]
  unfold B0 iblk
  generalize V m c = W
  exact congrArg (W main_v6) e
theorem blk1 (c : Dev nD) (t : Fin cfg0.N) (r : Fin 256) (j : Fin 1024) : (B1 m c t (ix2 r j) : EReal) = X1 m c (ix2 (at256 t r) j) := by
  have e : (win0_1.blk t).view.emb (ix2 r j) = ix2 (at256 t r) j := by
    blk_point [idx t]
  unfold X1
  rw [← V_main_arg1 m c]
  unfold B1 iblk
  generalize V m c = W
  exact congrArg (W main_arg1) e
theorem blk2 (c : Dev nD) (t : Fin cfg0.N) (r : Fin 256) (q : Fin 2048) : (B2 m c t (ix2 r q) : EReal) = X2 m c (ix2 (MergeReferenceIdeal.Rows.latent (at256 t r)) q) := by
  refine Eq.trans ?_ (columns_apply (X2 m c) (MergeReferenceIdeal.Rows.latent (at256 t r)) q)
  rw [← gl_entry]
  unfold B2 X0_2 Pipeline.Window.fill
  rw [dif_pos (moved0_2 t _)]
  unfold iblk
  generalize V m c = W
  refine congrArg (W main_v1) ?_
  blk_point [idx t]
theorem blk4 (c : Dev nD) (t : Fin cfg0.N) (j : Fin 1024) : (B4 m c t (ix2 0 j) : EReal) = X4 m c (ix1 j) := by
  have e : (win0_4.blk t).view.emb (ix2 0 j) = ix2 0 j := by
    blk_point [idx t]
  refine Eq.trans ?_ (oneRow_apply (X4 m c) j)
  rw [← g_entry]
  unfold B4 iblk
  generalize V m c = W
  exact congrArg (W main_v7) e
theorem blk5 (c : Dev nD) (t : Fin cfg0.N) (p j : Fin 1024) : (B5 m c t (ix2 p j) : EReal) = spread (fun x => X5 m c (ix2 x j)) p := by
  have e : (win0_5.blk t).view.emb (ix2 p j) = ix2 p j := by
    blk_point [idx t]
  refine Eq.trans ?_ (headRows_apply (X5 m c) p j)
  rw [← wo_entry]
  unfold B5 iblk
  generalize V m c = W
  exact congrArg (W main_v9) e
theorem blk6 (c : Dev nD) (t : Fin cfg0.N) (x j : Fin 1024) : (B6 m c t (ix2 x j) : EReal) = X6 m c (ix2 x j) := by
  have e : (win0_6.blk t).view.emb (ix2 x j) = ix2 x j := by
    blk_point [idx t]
  refine Eq.trans ?_ (show (truncf (F := Ideal) .bf16 (X6 m c) bitsLt_bf16_f32 (ix2 x j) : EReal) = _ from rfl)
  rw [← w_entry]
  unfold B6 iblk
  generalize V m c = W
  exact congrArg (W main_v10) e
theorem blk7 (c : Dev nD) (t : Fin cfg0.N) (r : Fin 256) (j : Fin 1024) : (B7 m c t (ix2 r j) : EReal) = X7 m c (ix2 (at256 t r) j) := by
  have e : (win0_7.blk t).view.emb (ix2 r j) = ix2 (at256 t r) j := by
    blk_point [idx t]
  unfold X7
  rw [← V_main_arg7 m c]
  unfold B7 iblk
  generalize V m c = W
  exact congrArg (W main_arg7) e

/-! The arguments as rows. -/

abbrev os (c : Dev nD) (n : Fin 8192) : Fin 512 → EReal := MergeReferenceIdeal.Rows.oRow (X0 m c) n
abbrev aas (c : Dev nD) (n : Fin 8192) : Fin 1024 → EReal := MergeReferenceIdeal.Rows.aRow (X0 m c) (X5 m c) n
abbrev ss (c : Dev nD) (n : Fin 8192) : Fin 1024 → EReal := MergeReferenceIdeal.Rows.sRow (X1 m c) n
abbrev gls (c : Dev nD) (n : Fin 8192) : Fin 2048 → EReal := MergeReferenceIdeal.Rows.glRow (X2 m c) n
abbrev gs (c : Dev nD) : Fin 1024 → EReal := MergeReferenceIdeal.Rows.gRow (X4 m c)
abbrev ws (c : Dev nD) : Fin 1024 → Fin 1024 → EReal := MergeReferenceIdeal.Rows.wAt (X6 m c)
abbrev cs (c : Dev nD) (n : Fin 8192) : Fin 1024 → EReal := MergeReferenceIdeal.Rows.sRow (X7 m c) n

theorem reads_a (c : Dev nD) (t : Fin cfg0.N) (r : Fin 256) : aRow (B0 m c t) (B5 m c t) r = aas m c (at256 t r) := by
  funext j
  refine Eq.trans (Finset.sum_congr rfl fun p _ => congrArg₂ (· * ·) (blk0 m c t r p) (blk5 m c t p j)) ?_
  exact spread_sum _ _
theorem reads_s (c : Dev nD) (t : Fin cfg0.N) (r : Fin 256) : sRow (B1 m c t) r = ss m c (at256 t r) := funext fun j => blk1 m c t r j
theorem reads_gl (c : Dev nD) (t : Fin cfg0.N) (r : Fin 256) : glRow (B2 m c t) r = gls m c (at256 t r) := funext fun j => blk2 m c t r j
theorem reads_g (c : Dev nD) (t : Fin cfg0.N) : gRow (B4 m c t) = gs m c := funext fun j => blk4 m c t j
theorem reads_w (c : Dev nD) (t : Fin cfg0.N) : wAt (B6 m c t) = ws m c := funext fun x => funext fun j => blk6 m c t x j
theorem reads_c (c : Dev nD) (t : Fin cfg0.N) (r : Fin 256) : sRow (B7 m c t) r = cs m c (at256 t r) := funext fun j => blk7 m c t r j
theorem reads_ck (c : Dev nD) (t : Fin cfg0.N) (r : Fin 256) (j : Fin 1024) : sRow (B7 m c t) r j = cs m c (at256 t r) j := congrFun (reads_c m c t r) j

/-! A tile of the three arrays of rows. -/

theorem do_tile (c : Dev nD) (t : Fin cfg0.N) (r : Fin 256) (k : Fin 1024) :
    ((outsAt0 m c t.val t.isLt).1 (ix2 r k) : EReal) = val_main_v57 (F := Ideal) (X2 m c) (X4 m c) (X5 m c) (X6 m c) (X7 m c) (ix2 (at256 t r) k) := by
  rw [MergeReferenceIdeal.Rows.do_rows, do_point]
  refine (do_apply _ _ _ _ _ r k).trans ?_
  rw [reads_gl, reads_g, reads_c, reads_w]
  refine Eq.trans (Finset.sum_congr rfl fun j _ => congrArg (_ * ·) (blk5 m c t k j)) ?_
  exact sum_mul_spread _ _ k
theorem do_agree (c : Dev nD) : (dats m 0 c).arrAt 8 cfg0.N = val_main_v57 (F := Ideal) (X2 m c) (X4 m c) (X5 m c) (X6 m c) (X7 m c) := by
  refine (dats m 0 c).arrAt_eq_of_covers 8 _ (by decide +kernel) fun t _ y => ?_
  have e : ((cfg0.win 8).blk t).view.emb y = ix2 (at256 t (y 0)) (y 1) := by
    blk_point [idx t]
  rw [after0_8, e]
  exact (congrArg _ (eq_ix2 y)).trans (do_tile m c t (y 0) (y 1))
theorem ds_tile (c : Dev nD) (t : Fin cfg0.N) (r : Fin 256) (k : Fin 1024) :
    ((outsAt0 m c t.val t.isLt).2.1 (ix2 r k) : EReal) = val_main_v41 (F := Ideal) (X2 m c) (X4 m c) (X6 m c) (X7 m c) (ix2 (at256 t r) k) := by
  rw [MergeReferenceIdeal.Rows.ds_rows, ds_point]
  refine (ds_apply _ _ _ _ r k).trans ?_
  rw [reads_gl, reads_g, reads_c, reads_w]
theorem ds_agree (c : Dev nD) : (dats m 0 c).arrAt 9 cfg0.N = val_main_v41 (F := Ideal) (X2 m c) (X4 m c) (X6 m c) (X7 m c) := by
  refine (dats m 0 c).arrAt_eq_of_covers 9 _ (by decide +kernel) fun t _ y => ?_
  have e : ((cfg0.win 9).blk t).view.emb y = ix2 (at256 t (y 0)) (y 1) := by
    blk_point [idx t]
  rw [after0_9, e]
  exact (congrArg _ (eq_ix2 y)).trans (ds_tile m c t (y 0) (y 1))
theorem dgl_tile (c : Dev nD) (t : Fin cfg0.N) (r : Fin 256) (k : Fin 2048) :
    ((outsAt0 m c t.val t.isLt).2.2.1 (ix2 r k) : EReal) = val_main_v58 (F := Ideal) (X0 m c) (X1 m c) (X2 m c) (X4 m c) (X5 m c) (X6 m c) (X7 m c) (ix2 (at256 t r) k) := by
  rw [MergeReferenceIdeal.Rows.dgl_rows, dgl_point]
  refine (dgl_apply _ _ _ _ _ _ _ r k).trans ?_
  rw [reads_a, reads_s, reads_gl, reads_g, reads_c, reads_w]
theorem dgl_agree (c : Dev nD) : (dats m 0 c).arrAt 10 cfg0.N = val_main_v58 (F := Ideal) (X0 m c) (X1 m c) (X2 m c) (X4 m c) (X5 m c) (X6 m c) (X7 m c) := by
  refine (dats m 0 c).arrAt_eq_of_covers 10 _ (by decide +kernel) fun t _ y => ?_
  have e : ((cfg0.win 10).blk t).view.emb y = ix2 (at256 t (y 0)) (y 1) := by
    blk_point [idx t]
  rw [after0_10, e]
  exact (congrArg _ (eq_ix2 y)).trans (dgl_tile m c t (y 0) (y 1))

/-! The three sums over the tiles. -/

theorem tiles (t : Fin cfg0.N) (f : Fin cfg0.N → EReal) (a : Fin 8192 → EReal) (ha : ∀ s : Fin cfg0.N, f s = ∑ r : Fin 256, a (at256 s r)) :
    ∑ s : Fin 32, f ⟨32 * (t.val / 32) + s.val, by have := lt32 t; have : cfg0.N = 32 := N_0; omega⟩ = ∑ n, a n := by
  have h32 := lt32 t
  have hN : cfg0.N = 32 := N_0
  refine Eq.trans ?_ (Fin.sum_univ_tiles 32 256 (by norm_num) _).symm
  refine Finset.sum_congr rfl fun s _ => (ha _).trans (Finset.sum_congr rfl fun r _ => congrArg a (Fin.ext ?_))
  show 256 * (32 * (t.val / 32) + s.val) + r.val = s.val * 256 + r.val
  omega

abbrev gainShare (c : Dev nD) (n : Fin 8) (j : Fin 1024) (i : Fin 8192) : EReal :=
  if (n : ℕ) = 0 then cs m c i j * proj (aas m c i) (ss m c i) (gls m c i) (ws m c) j else 0
abbrev woShare (c : Dev nD) (p j : Fin 1024) (i : Fin 8192) : EReal :=
  spread (os m c i) p * da (gls m c i) (gs m c) (cs m c i) (ws m c) j
abbrev woutShare (c : Dev nD) (x j : Fin 1024) (i : Fin 8192) : EReal :=
  mix (aas m c i) (ss m c i) (gls m c i) x * dt (gs m c) (cs m c i) j

theorem gain_tile (c : Dev nD) (t : Fin cfg0.N) (a : FVec Ideal S8x1024 .f32) (n : Fin 8) (j : Fin 1024) :
    (gainAdd m c t a (ix2 n j) : EReal) = a (ix2 n j) + ∑ r, gainShare m c n j (at256 t r) := by
  refine (gain_step _ _ _ _ _ _ a n j).trans ?_
  simp only [reads_a, reads_s, reads_gl, reads_w, reads_ck, gainShare]
  by_cases h0 : (n : ℕ) = 0 <;> simp [h0]
theorem wo_tile (c : Dev nD) (t : Fin cfg0.N) (a : FVec Ideal S1024x1024 .f32) (p j : Fin 1024) :
    (woAdd m c t a (ix2 p j) : EReal) = a (ix2 p j) + ∑ r, woShare m c p j (at256 t r) := by
  refine (wo_step _ _ _ _ _ a p j).trans ?_
  simp only [reads_gl, reads_g, reads_c, reads_w, oRow, blk0]
theorem wout_tile (c : Dev nD) (t : Fin cfg0.N) (a : FVec Ideal S1024x1024 .f32) (x j : Fin 1024) :
    (woutAdd m c t a (ix2 x j) : EReal) = a (ix2 x j) + ∑ r, woutShare m c x j (at256 t r) := by
  refine (wout_step _ _ _ _ _ _ a x j).trans ?_
  simp only [reads_a, reads_s, reads_gl, reads_g, reads_c]

theorem gain_block (c : Dev nD) (t : Fin cfg0.N) (ht : t.val % 32 = 31) (n : Fin 8) (k : Fin 1024) :
    (outsAt0 m c t.val t.isLt).2.2.2.1 (ix2 n k) = ∑ i, gainShare m c n k i := by
  have h := Pipeline.eq_sum_fin_of_reset_step_apply_of_flush (fun n h => (outsAt0 m c n h).2.2.2.1) 32 (fun _ => (0 : EReal))
    (fun s (y : S8x1024.Idx) => ∑ r, gainShare m c (y 0) (y 1) (at256 s r))
    (fun t h j => by
      refine (congrFun (gain_point_A m c t h) j).trans ((congrArg _ (eq_ix2 j)).trans ((gain_tile m c t _ (j 0) (j 1)).trans ?_))
      exact congrArg (· + _) (zero_gain _))
    (fun t h j => by
      refine (congrFun (gain_point_B m c t h) j).trans ((congrArg _ (eq_ix2 j)).trans ((gain_tile m c t _ (j 0) (j 1)).trans ?_))
      exact congrArg (· + _) (congrArg _ (eq_ix2 j).symm))
    t ht (ix2 n k)
  refine h.trans ?_
  exact (zero_add _).trans (tiles t (fun s => ∑ r, gainShare m c n k (at256 s r)) _ fun s => rfl)

theorem wo_block (c : Dev nD) (t : Fin cfg0.N) (ht : t.val % 32 = 31) (n : Fin 1024) (k : Fin 1024) :
    (outsAt0 m c t.val t.isLt).2.2.2.2.1 (ix2 n k) = ∑ i, woShare m c n k i := by
  have h := Pipeline.eq_sum_fin_of_reset_step_apply_of_flush (fun n h => (outsAt0 m c n h).2.2.2.2.1) 32 (fun _ => (0 : EReal))
    (fun s (y : S1024x1024.Idx) => ∑ r, woShare m c (y 0) (y 1) (at256 s r))
    (fun t h j => by
      refine (congrFun (wo_point_A m c t h) j).trans ((congrArg _ (eq_ix2 j)).trans ((wo_tile m c t _ (j 0) (j 1)).trans ?_))
      exact congrArg (· + _) (zero_wo _))
    (fun t h j => by
      refine (congrFun (wo_point_B m c t h) j).trans ((congrArg _ (eq_ix2 j)).trans ((wo_tile m c t _ (j 0) (j 1)).trans ?_))
      exact congrArg (· + _) (congrArg _ (eq_ix2 j).symm))
    t ht (ix2 n k)
  refine h.trans ?_
  exact (zero_add _).trans (tiles t (fun s => ∑ r, woShare m c n k (at256 s r)) _ fun s => rfl)

theorem wout_block (c : Dev nD) (t : Fin cfg0.N) (ht : t.val % 32 = 31) (n : Fin 1024) (k : Fin 1024) :
    (outsAt0 m c t.val t.isLt).2.2.2.2.2 (ix2 n k) = ∑ i, woutShare m c n k i := by
  have h := Pipeline.eq_sum_fin_of_reset_step_apply_of_flush (fun n h => (outsAt0 m c n h).2.2.2.2.2) 32 (fun _ => (0 : EReal))
    (fun s (y : S1024x1024.Idx) => ∑ r, woutShare m c (y 0) (y 1) (at256 s r))
    (fun t h j => by
      refine (congrFun (wout_point_A m c t h) j).trans ((congrArg _ (eq_ix2 j)).trans ((wout_tile m c t _ (j 0) (j 1)).trans ?_))
      exact congrArg (· + _) (zero_wout _))
    (fun t h j => by
      refine (congrFun (wout_point_B m c t h) j).trans ((congrArg _ (eq_ix2 j)).trans ((wout_tile m c t _ (j 0) (j 1)).trans ?_))
      exact congrArg (· + _) (congrArg _ (eq_ix2 j).symm))
    t ht (ix2 n k)
  refine h.trans ?_
  exact (zero_add _).trans (tiles t (fun s => ∑ r, woutShare m c n k (at256 s r)) _ fun s => rfl)

theorem gain_agree (c : Dev nD) : (dats m 0 c).arrAt 11 cfg0.N = val_main_v61 (F := Ideal) (X0 m c) (X1 m c) (X2 m c) (X5 m c) (X6 m c) (X7 m c) := by
  refine (dats m 0 c).arrAt_eq_of_covers 11 _ (by decide +kernel) fun t hf y => ?_
  have e : ((cfg0.win 11).blk t).view.emb y = ix2 (y 0) (y 1) := by
    blk_point [idx t]
  rw [after0_11, e]
  refine (congrArg _ (eq_ix2 y)).trans ((gain_block m c t ((flush0_11 t).mp hf) (y 0) (y 1)).trans ?_)
  refine Eq.trans ?_ (MergeReferenceIdeal.Rows.gain_rows _ _ _ _ _ _ (y 0) (y 1)).symm
  by_cases h0 : ((y 0 : Fin 8) : ℕ) = 0
  · simp only [gainShare, h0, if_true]
  · simp only [gainShare, h0, if_false, Finset.sum_const_zero]

theorem wo_agree (c : Dev nD) : (dats m 0 c).arrAt 12 cfg0.N = val_main_v62 (F := Ideal) (X0 m c) (X2 m c) (X4 m c) (X6 m c) (X7 m c) := by
  refine (dats m 0 c).arrAt_eq_of_covers 12 _ (by decide +kernel) fun t hf y => ?_
  have e : ((cfg0.win 12).blk t).view.emb y = ix2 (y 0) (y 1) := by
    blk_point [idx t]
  rw [after0_12, e]
  refine (congrArg _ (eq_ix2 y)).trans ((wo_block m c t ((flush0_12 t).mp hf) (y 0) (y 1)).trans ?_)
  refine Eq.trans ?_ (MergeReferenceIdeal.Rows.wo_rows _ _ _ _ _ (y 0) (y 1)).symm
  exact sum_spread_mul _ _ _

theorem wout_agree (c : Dev nD) : (dats m 0 c).arrAt 13 cfg0.N = val_main_v39 (F := Ideal) (X0 m c) (X1 m c) (X2 m c) (X4 m c) (X5 m c) (X7 m c) := by
  refine (dats m 0 c).arrAt_eq_of_covers 13 _ (by decide +kernel) fun t hf y => ?_
  have e : ((cfg0.win 13).blk t).view.emb y = ix2 (y 0) (y 1) := by
    blk_point [idx t]
  rw [after0_13, e]
  refine (congrArg _ (eq_ix2 y)).trans ((wout_block m c t ((flush0_13 t).mp hf) (y 0) (y 1)).trans ?_)
  exact (MergeReferenceIdeal.Rows.wout_rows _ _ _ _ _ _ (y 0) (y 1)).symm

theorem do_same (c : Dev nD) (x2 : FVec Ideal S8448x2048 .f32) (x4 : FVec Ideal S1024 .f32) (x5 : FVec Ideal S512x1024 .f32) (x6 : FVec Ideal S1024x1024 .f32) (x7 : FVec Ideal S8192x1024 .f32)
    (a2 : x2 = m ((c : Thread nD τ).loc main_arg2)) (a4 : x4 = m ((c : Thread nD τ).loc main_arg4)) (a5 : x5 = m ((c : Thread nD τ).loc main_arg5)) (a6 : x6 = m ((c : Thread nD τ).loc main_arg6)) (a7 : x7 = m ((c : Thread nD τ).loc main_arg7)) :
    Cert.MergeReferenceIdeal.Read.val_main_v57 (F := Ideal) x2 x4 x5 x6 x7 = (dats m 0 c).arrAt 8 cfg0.N := by
  subst a2 a4 a5 a6 a7
  exact (do_agree m c).symm

theorem ds_same (c : Dev nD) (x2 : FVec Ideal S8448x2048 .f32) (x4 : FVec Ideal S1024 .f32) (x6 : FVec Ideal S1024x1024 .f32) (x7 : FVec Ideal S8192x1024 .f32)
    (a2 : x2 = m ((c : Thread nD τ).loc main_arg2)) (a4 : x4 = m ((c : Thread nD τ).loc main_arg4)) (a6 : x6 = m ((c : Thread nD τ).loc main_arg6)) (a7 : x7 = m ((c : Thread nD τ).loc main_arg7)) :
    Cert.MergeReferenceIdeal.Read.val_main_v41 (F := Ideal) x2 x4 x6 x7 = (dats m 0 c).arrAt 9 cfg0.N := by
  subst a2 a4 a6 a7
  exact (ds_agree m c).symm

theorem dgl_same (c : Dev nD) (x0 : FVec Ideal S8192x8x64 .f32) (x1 : FVec Ideal S8192x1024 .f32) (x2 : FVec Ideal S8448x2048 .f32) (x4 : FVec Ideal S1024 .f32) (x5 : FVec Ideal S512x1024 .f32) (x6 : FVec Ideal S1024x1024 .f32) (x7 : FVec Ideal S8192x1024 .f32)
    (a0 : x0 = m ((c : Thread nD τ).loc main_arg0)) (a1 : x1 = m ((c : Thread nD τ).loc main_arg1)) (a2 : x2 = m ((c : Thread nD τ).loc main_arg2)) (a4 : x4 = m ((c : Thread nD τ).loc main_arg4)) (a5 : x5 = m ((c : Thread nD τ).loc main_arg5)) (a6 : x6 = m ((c : Thread nD τ).loc main_arg6)) (a7 : x7 = m ((c : Thread nD τ).loc main_arg7)) :
    Cert.MergeReferenceIdeal.Read.val_main_v58 (F := Ideal) x0 x1 x2 x4 x5 x6 x7 = (dats m 0 c).arrAt 10 cfg0.N := by
  subst a0 a1 a2 a4 a5 a6 a7
  exact (dgl_agree m c).symm

theorem gain_same (c : Dev nD) (x0 : FVec Ideal S8192x8x64 .f32) (x1 : FVec Ideal S8192x1024 .f32) (x2 : FVec Ideal S8448x2048 .f32) (x5 : FVec Ideal S512x1024 .f32) (x6 : FVec Ideal S1024x1024 .f32) (x7 : FVec Ideal S8192x1024 .f32)
    (a0 : x0 = m ((c : Thread nD τ).loc main_arg0)) (a1 : x1 = m ((c : Thread nD τ).loc main_arg1)) (a2 : x2 = m ((c : Thread nD τ).loc main_arg2)) (a5 : x5 = m ((c : Thread nD τ).loc main_arg5)) (a6 : x6 = m ((c : Thread nD τ).loc main_arg6)) (a7 : x7 = m ((c : Thread nD τ).loc main_arg7)) :
    Cert.MergeReferenceIdeal.Read.val_main_v61 (F := Ideal) x0 x1 x2 x5 x6 x7 = (dats m 0 c).arrAt 11 cfg0.N := by
  subst a0 a1 a2 a5 a6 a7
  exact (gain_agree m c).symm

theorem wo_same (c : Dev nD) (x0 : FVec Ideal S8192x8x64 .f32) (x2 : FVec Ideal S8448x2048 .f32) (x4 : FVec Ideal S1024 .f32) (x6 : FVec Ideal S1024x1024 .f32) (x7 : FVec Ideal S8192x1024 .f32)
    (a0 : x0 = m ((c : Thread nD τ).loc main_arg0)) (a2 : x2 = m ((c : Thread nD τ).loc main_arg2)) (a4 : x4 = m ((c : Thread nD τ).loc main_arg4)) (a6 : x6 = m ((c : Thread nD τ).loc main_arg6)) (a7 : x7 = m ((c : Thread nD τ).loc main_arg7)) :
    Cert.MergeReferenceIdeal.Read.val_main_v62 (F := Ideal) x0 x2 x4 x6 x7 = (dats m 0 c).arrAt 12 cfg0.N := by
  subst a0 a2 a4 a6 a7
  exact (wo_agree m c).symm

theorem wout_same (c : Dev nD) (x0 : FVec Ideal S8192x8x64 .f32) (x1 : FVec Ideal S8192x1024 .f32) (x2 : FVec Ideal S8448x2048 .f32) (x4 : FVec Ideal S1024 .f32) (x5 : FVec Ideal S512x1024 .f32) (x7 : FVec Ideal S8192x1024 .f32)
    (a0 : x0 = m ((c : Thread nD τ).loc main_arg0)) (a1 : x1 = m ((c : Thread nD τ).loc main_arg1)) (a2 : x2 = m ((c : Thread nD τ).loc main_arg2)) (a4 : x4 = m ((c : Thread nD τ).loc main_arg4)) (a5 : x5 = m ((c : Thread nD τ).loc main_arg5)) (a7 : x7 = m ((c : Thread nD τ).loc main_arg7)) :
    Cert.MergeReferenceIdeal.Read.val_main_v39 (F := Ideal) x0 x1 x2 x4 x5 x7 = (dats m 0 c).arrAt 13 cfg0.N := by
  subst a0 a1 a2 a4 a5 a7
  exact (wout_agree m c).symm

end Cert.MergeIdeal.Value
-- ==== Proof.Glu.Rows.lean ====
/-
  The gated unit's gradient in the two programs, row by row.
-/
module

public import proofs.«01_k».proof.Proof.Gen.GluIdeal.Value
public import proofs.«01_k».proof.Proof.Gen.GluReferenceIdeal.Read
public import proofs.«01_k».proof.Proof.Glu.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluReferenceIdeal.Rows

open Cert.GluReferenceIdeal Cert.GluReferenceIdeal.Read Cert.Glu

variable (x0 x1 x2 : FVec Ideal S8448x512 .f32) (x3 : FVec Ideal S512 .f32) (x4 : FVec Ideal S512x2048 .f32) (x5 : FVec Ideal S8192x1024 .f32)

/-- A latent row among all rows. -/
abbrev latent (n : Fin 8192) : Fin 8448 := ⟨n, by omega⟩

abbrev yRow (n : Fin 8192) (k : Fin 512) : EReal :=
  x0 (ix2 (latent n) k) * x3 (ix1 k) + x1 (ix2 (latent n) k) + x2 (ix2 (latent n) k)
abbrev wAt (k : Fin 512) (q : Fin 2048) : EReal := x4 (ix2 k q)
abbrev ctAt (n : Fin 8192) (j : Fin 1024) : EReal := x5 (ix2 n j)

theorem y_apply (n : Fin 8192) (k : Fin 512) : (val_main_v7 (F := Ideal) x0 x1 x2 x3 (ix2 n k) : EReal) = yRow x0 x1 x2 x3 n k := by
  pointwise [val_main_v7, val_main_v6, val_main_v5, val_main_v4, val_main_v3, val_main_v2, val_main_v1, val_main_v0]
theorem half_apply (n : Fin 8192) (k : Fin 512) : (val_main_v27 (F := Ideal) x0 x1 x2 x3 (ix2 n k) : EReal) = half (yRow x0 x1 x2 x3 n k) := by
  rw [← y_apply]
  pointwise [val_main_v27, val_main_v26, val_main_v25, val_main_v24, val_main_cst_5, val_main_cst_4, val_main_v18, val_main_v17, val_main_v16, val_main_v15,
    val_main_v14, val_main_v13, val_main_v9, val_main_v8, val_main_cst_0, val_main_cst_1]
  simp only [cube]
  rfl
theorem slope_apply (n : Fin 8192) (k : Fin 512) : (val_main_v23 (F := Ideal) x0 x1 x2 x3 (ix2 n k) : EReal) = slope (yRow x0 x1 x2 x3 n k) := by
  rw [← y_apply]
  pointwise [val_main_v23, val_main_v22, val_main_v21, val_main_v20, val_main_v19, val_main_cst_2, val_main_cst_3, val_main_v18, val_main_v17, val_main_v16, val_main_v15,
    val_main_v14, val_main_v13, val_main_v9, val_main_v8, val_main_cst_0, val_main_cst_1]
  simp only [cube]
  rfl
theorem square_apply (n : Fin 8192) (k : Fin 512) : (val_main_v12 (F := Ideal) x0 x1 x2 x3 (ix2 n k) : EReal)
    = Ideal.ofBits .f32 0x40400000#32 * (yRow x0 x1 x2 x3 n k * yRow x0 x1 x2 x3 n k) := by
  rw [← y_apply]
  pointwise [val_main_v12, val_main_v11, val_main_v10, val_main_cst]
theorem gel_apply (n : Fin 8192) (k : Fin 512) : (val_main_v28 (F := Ideal) x0 x1 x2 x3 (ix2 n k) : EReal) = gel (yRow x0 x1 x2 x3 n k) := by
  refine Eq.trans ?_ (congrArg₂ (· * ·) (y_apply x0 x1 x2 x3 n k) (half_apply x0 x1 x2 x3 n k))
  pointwise [val_main_v28]
theorem lin_apply (n : Fin 8192) (q : Fin 2048) : (val_main_v29 (F := Ideal) x0 x1 x2 x3 x4 (ix2 n q) : EReal) = lin (yRow x0 x1 x2 x3 n) (wAt x4) q := by
  refine Eq.trans ?_ (Finset.sum_congr rfl fun x _ => congrArg (· * wAt x4 x q) (gel_apply x0 x1 x2 x3 n x))
  pointwise [val_main_v29]
theorem val_apply (n : Fin 8192) (j : Fin 1024) : (val_main_v30 (F := Ideal) x0 x1 x2 x3 x4 (ix2 n j) : EReal) = val (yRow x0 x1 x2 x3 n) (wAt x4) j := by
  refine Eq.trans ?_ (lin_apply x0 x1 x2 x3 x4 n ⟨j, by omega⟩)
  pointwise [val_main_v30]
theorem gate_apply (n : Fin 8192) (j : Fin 1024) : (val_main_v37 (F := Ideal) x0 x1 x2 x3 x4 (ix2 n j) : EReal) = gate (yRow x0 x1 x2 x3 n) (wAt x4) j := by
  refine Eq.trans ?_ (congrArg Ideal.logistic (lin_apply x0 x1 x2 x3 x4 n ⟨1024 + j, by omega⟩))
  pointwise [val_main_v37, val_main_v36, val_main_v35, val_main_v34, val_main_v33, val_main_v32, val_main_v31, val_main_cst_6, val_main_cst_7]
  rfl
theorem cot_apply (n : Fin 8192) (q : Fin 2048) : (val_main_v45 (F := Ideal) x0 x1 x2 x3 x4 x5 (ix2 n q) : EReal)
    = cot (yRow x0 x1 x2 x3 n) (wAt x4) (ctAt x5 n) q := by
  unfold cot
  simp only [← gate_apply, ← val_apply]
  pointwise [val_main_v45, val_main_v44, val_main_v43, val_main_v42, val_main_v40, val_main_v39, val_main_v38, val_main_cst_8]
theorem back_apply (n : Fin 8192) (k : Fin 512) : (val_main_v48 (F := Ideal) x0 x1 x2 x3 x4 x5 (ix2 n k) : EReal)
    = back (yRow x0 x1 x2 x3 n) (wAt x4) (ctAt x5 n) k := by
  refine Eq.trans ?_ (Finset.sum_congr rfl fun q _ => congrArg (· * x4 (ix2 k q)) (cot_apply x0 x1 x2 x3 x4 x5 n q))
  pointwise [val_main_v48]
theorem dy_apply (n : Fin 8192) (k : Fin 512) : (val_main_v60 (F := Ideal) x0 x1 x2 x3 x4 x5 (ix2 n k) : EReal)
    = dy (yRow x0 x1 x2 x3 n) (wAt x4) (ctAt x5 n) k := by
  unfold dy bend
  rw [← back_apply, ← half_apply, ← slope_apply, ← square_apply, ← y_apply]
  pointwise [val_main_v60, val_main_v59, val_main_v58, val_main_v57, val_main_v56, val_main_v55, val_main_v54, val_main_v53, val_main_v52, val_main_v51,
    val_main_v50, val_main_v49, val_main_cst_9, val_main_cst_10, val_main_cst_11]

theorem du_rows (n : Fin 8192) (k : Fin 512) : (val_main_v70 (F := Ideal) x0 x1 x2 x3 x4 x5 (ix2 n k) : EReal)
    = dy (yRow x0 x1 x2 x3 n) (wAt x4) (ctAt x5 n) k * x3 (ix1 k) := by
  rw [← dy_apply]
  pointwise [val_main_v70, val_main_v69, val_main_v67, val_main_v66, val_main_v1, val_main_v2]
theorem dy_rows (n : Fin 8192) (k : Fin 512) : (val_main_v71 (F := Ideal) x0 x1 x2 x3 x4 x5 (ix2 n k) : EReal)
    = dy (yRow x0 x1 x2 x3 n) (wAt x4) (ctAt x5 n) k := by
  rw [← dy_apply]
  pointwise [val_main_v71, val_main_v62]
theorem skip_rows (n : Fin 8) (k : Fin 512) : (val_main_v74 (F := Ideal) x0 x1 x2 x3 x4 x5 (ix2 n k) : EReal)
    = if (n : ℕ) = 0 then ∑ i : Fin 8192, x0 (ix2 (latent i) k) * dy (yRow x0 x1 x2 x3 i) (wAt x4) (ctAt x5 i) k else 0 := by
  simp only [← dy_apply]
  pointwise [val_main_v74, val_main_v73, val_main_v72, val_main_v68, val_main_v65, val_main_v64, val_main_v63, val_main_v0, val_main_cst_14, val_main_cst_15, val_main_cst_17]
  simp only [Fin.sum_univ_one]
  have hn : (n : ℕ) = 0 ∨ 1 ≤ (n : ℕ) := by omega
  rcases hn with h | h
  · simp [h]
  · simp [Nat.not_lt.mpr h, Nat.one_le_iff_ne_zero.mp h]
theorem weight_rows (k : Fin 512) (q : Fin 2048) : (val_main_v47 (F := Ideal) x0 x1 x2 x3 x4 x5 (ix2 k q) : EReal)
    = ∑ i : Fin 8192, gel (yRow x0 x1 x2 x3 i k) * cot (yRow x0 x1 x2 x3 i) (wAt x4) (ctAt x5 i) q := by
  simp only [← cot_apply, ← gel_apply]
  pointwise [val_main_v47, val_main_v46]
  exact Finset.sum_congr rfl fun i _ => mul_comm _ _

end Cert.GluReferenceIdeal.Rows
namespace Cert.GluIdeal.Value

open Cert.GluIdeal Cert.GluIdeal.Gen Cert.Glu

/-- The activation's argument at one row of a tile. -/
abbrev yRow (u f b : FVec Ideal S256x512 .f32) (d : FVec Ideal S1x512 .f32) (r : Fin 256) (k : Fin 512) : EReal :=
  u (ix2 r k) * d (ix2 0 k) + f (ix2 r k) + b (ix2 r k)

variable (u f b : FVec Ideal S256x512 .f32) (d : FVec Ideal S1x512 .f32) (w : FVec Ideal S512x2048 .bf16) (ct : FVec Ideal S256x1024 .f32)

abbrev wAt (w : FVec Ideal S512x2048 .bf16) (k : Fin 512) (q : Fin 2048) : EReal := w (ix2 k q)
abbrev ctAt (ct : FVec Ideal S256x1024 .f32) (r : Fin 256) (j : Fin 1024) : EReal := ct (ix2 r j)

theorem y_apply (r : Fin 256) (k : Fin 512) : (k0_pay8 (F := Ideal) u f b d (ix2 r k) : EReal) = yRow u f b d r k := by
  pointwise [k0_pay8, k0_pay5, k0_pay6]

theorem half_apply (r : Fin 256) (k : Fin 512) : (k0_pay12 (F := Ideal) u f b d (ix2 r k) : EReal) = half (yRow u f b d r k) := by
  pointwise [k0_pay12, k0_pay10, k0_pay8, k0_pay5, k0_pay6]
  rfl
theorem slope_apply (r : Fin 256) (k : Fin 512) : (k0_pay11 (F := Ideal) u f b d (ix2 r k) : EReal) = slope (yRow u f b d r k) := by
  pointwise [k0_pay11, k0_pay10, k0_pay8, k0_pay5, k0_pay6]
  rfl
theorem square_apply (r : Fin 256) (k : Fin 512) : (k0_pay9 (F := Ideal) u f b d (ix2 r k) : EReal)
    = Ideal.ofBits .f32 0x40400000#32 * (yRow u f b d r k * yRow u f b d r k) := by
  pointwise [k0_pay9, k0_pay8, k0_pay5, k0_pay6]
theorem gel_apply (r : Fin 256) (k : Fin 512) : (k0_pay13 (F := Ideal) u f b d (ix2 r k) : EReal) = gel (yRow u f b d r k) := by
  refine Eq.trans ?_ (congrArg₂ (· * ·) (y_apply u f b d r k) (half_apply u f b d r k))
  pointwise [k0_pay13]

theorem lin_apply (r : Fin 256) (q : Fin 2048) : (k0_pay14 (F := Ideal) u f b d w (ix2 r q) : EReal) = lin (yRow u f b d r) (wAt w) q := by
  refine Eq.trans ?_ (Finset.sum_congr rfl fun x _ => congrArg (· * wAt w x q) (gel_apply u f b d r x))
  pointwise [k0_pay14, k0_pay7]

theorem val_apply (r : Fin 256) (j : Fin 1024) : (k0_pay15 (F := Ideal) u f b d w (ix2 r j) : EReal) = val (yRow u f b d r) (wAt w) j := by
  refine Eq.trans ?_ (lin_apply u f b d w r ⟨j, by omega⟩)
  pointwise [k0_pay15]
theorem gate_apply (r : Fin 256) (j : Fin 1024) : (k0_pay16 (F := Ideal) u f b d w (ix2 r j) : EReal) = gate (yRow u f b d r) (wAt w) j := by
  refine Eq.trans ?_ (congrArg Ideal.logistic (lin_apply u f b d w r ⟨1024 + j, by omega⟩))
  pointwise [k0_pay16]

theorem cot_any (v s : FVec Ideal S256x1024 .f32) (r : Fin 256) (q : Fin 2048) :
    (k0_pay17 (F := Ideal) v s (FloatOps.ofBits .f32 1065353216#32) ct (ix2 r q) : EReal)
      = if h : (q : ℕ) < 1024 then ct (ix2 r ⟨q, h⟩) * s (ix2 r ⟨q, h⟩)
        else v (ix2 r ⟨q - 1024, by omega⟩) * ct (ix2 r ⟨q - 1024, by omega⟩)
          * (s (ix2 r ⟨q - 1024, by omega⟩) * (1 - s (ix2 r ⟨q - 1024, by omega⟩))) := by
  pointwise [k0_pay17]
  by_cases h : (q : ℕ) < 1024
  · simp only [h, dite_true, zero_add]
  · simp only [h, dite_false, add_zero]

/-- The product's gradient, as the tile holds it. -/
abbrev cotOf (u f b : FVec Ideal S256x512 .f32) (d : FVec Ideal S1x512 .f32) (w : FVec Ideal S512x2048 .bf16) (ct : FVec Ideal S256x1024 .f32) :=
  k0_pay17 (F := Ideal) (k0_pay15 u f b d w) (k0_pay16 u f b d w) (FloatOps.ofBits .f32 1065353216#32) ct

theorem cot_apply (r : Fin 256) (q : Fin 2048) : (cotOf u f b d w ct (ix2 r q) : EReal) = cot (yRow u f b d r) (wAt w) (ctAt ct r) q := by
  refine (cot_any ct _ _ r q).trans ?_
  simp only [gate_apply, val_apply]
  rfl

/-- The argument's gradient, as the tile holds it. -/
abbrev dyOf (u f b : FVec Ideal S256x512 .f32) (d : FVec Ideal S1x512 .f32) (w : FVec Ideal S512x2048 .bf16) (ct : FVec Ideal S256x1024 .f32) :=
  k0_pay19 (F := Ideal) (k0_pay7 w) (k0_pay8 u f b d) (k0_pay9 u f b d) (k0_pay11 u f b d) (k0_pay12 u f b d) (k0_pay15 u f b d w)
    (k0_pay16 u f b d w) (FloatOps.ofBits .f32 1065353216#32) ct

theorem dy_any (y q3 sl hf : FVec Ideal S256x512 .f32) (v s : FVec Ideal S256x1024 .f32) (r : Fin 256) (k : Fin 512) :
    (k0_pay19 (F := Ideal) (k0_pay7 w) y q3 sl hf v s (FloatOps.ofBits .f32 1065353216#32) ct (ix2 r k) : EReal)
      = (∑ q : Fin 2048, k0_pay17 (F := Ideal) v s (FloatOps.ofBits .f32 1065353216#32) ct (ix2 r q) * w (ix2 k q)) * hf (ix2 r k)
        + Ideal.ofBits .f32 0x3F4C422A#32 * (Ideal.ofBits .f32 0x3F000000#32 * (y (ix2 r k)
          * (∑ q : Fin 2048, k0_pay17 (F := Ideal) v s (FloatOps.ofBits .f32 1065353216#32) ct (ix2 r q) * w (ix2 k q))) * sl (ix2 r k))
        + Ideal.ofBits .f32 0x3D372713#32 * (Ideal.ofBits .f32 0x3F4C422A#32 * (Ideal.ofBits .f32 0x3F000000#32 * (y (ix2 r k)
          * (∑ q : Fin 2048, k0_pay17 (F := Ideal) v s (FloatOps.ofBits .f32 1065353216#32) ct (ix2 r q) * w (ix2 k q))) * sl (ix2 r k)))
          * q3 (ix2 r k) := by
  pointwise [k0_pay19, k0_pay7]

theorem dy_apply (r : Fin 256) (k : Fin 512) : (dyOf u f b d w ct (ix2 r k) : EReal) = dy (yRow u f b d r) (wAt w) (ctAt ct r) k := by
  have e : (∑ q : Fin 2048, cotOf u f b d w ct (ix2 r q) * w (ix2 k q)) = back (yRow u f b d r) (wAt w) (ctAt ct r) k :=
    Finset.sum_congr rfl fun q _ => congrArg (· * w (ix2 k q)) (cot_apply u f b d w ct r q)
  refine (dy_any w ct _ _ _ _ _ _ r k).trans ?_
  rw [e, y_apply, half_apply, slope_apply, square_apply]
  rfl

theorem du_apply (r : Fin 256) (k : Fin 512) : (k0_pay20 (F := Ideal) (k0_pay6 d) (k0_pay7 w) (k0_pay8 u f b d) (k0_pay9 u f b d) (k0_pay11 u f b d)
    (k0_pay12 u f b d) (k0_pay15 u f b d w) (k0_pay16 u f b d w) (FloatOps.ofBits .f32 1065353216#32) ct (ix2 r k) : EReal)
      = dy (yRow u f b d r) (wAt w) (ctAt ct r) k * d (ix2 0 k) := by
  rw [← dy_apply]
  pointwise [k0_pay20, k0_pay6, dyOf]

theorem first_row (k : Fin 8) (a b : EReal) : Scalar.select (IntOp.cmpi .eq (BitVec.ofNat 32 (k : ℕ)) 0#32) a b = if (k : ℕ) = 0 then a else b := by
  fin_cases k <;> rfl

/-- A tile's share of the skip's gradient joins what the rows hold. -/
theorem skip_step (a : FVec Ideal S8x512 .f32) (n : Fin 8) (k : Fin 512) :
    (k0_pay2 (F := Ideal) k0_pay21 (k0_pay22 (k0_pay5 u) (k0_pay7 w) (k0_pay8 u f b d) (k0_pay9 u f b d) (k0_pay11 u f b d)
      (k0_pay12 u f b d) (k0_pay15 u f b d w) (k0_pay16 u f b d w) (FloatOps.ofBits .f32 1065353216#32) ct) k0_pay23 a (ix2 n k) : EReal)
      = a (ix2 n k) + if (n : ℕ) = 0 then ∑ r : Fin 256, u (ix2 r k) * dy (yRow u f b d r) (wAt w) (ctAt ct r) k else 0 := by
  simp only [← dy_apply]
  rw [← first_row]
  pointwise [k0_pay2, k0_pay21, k0_pay22, k0_pay23, k0_pay5, dyOf]

/-- A tile's share of the weights' gradient joins what the array holds. -/
theorem weight_step (a : FVec Ideal S512x2048 .f32) (k : Fin 512) (q : Fin 2048) :
    (k0_pay4 (F := Ideal) (k0_pay18 (k0_pay13 u f b d) (k0_pay15 u f b d w) (k0_pay16 u f b d w) (FloatOps.ofBits .f32 1065353216#32) ct) a (ix2 k q) : EReal)
      = a (ix2 k q) + ∑ r : Fin 256, gel (yRow u f b d r k) * cot (yRow u f b d r) (wAt w) (ctAt ct r) q := by
  simp only [← cot_apply, ← gel_apply]
  pointwise [k0_pay4, k0_pay18, cotOf]

theorem zero_skip (y) : k0_pay1 (F := Ideal) y = 0 := by
  pointwise [k0_pay1]
theorem zero_weight (y) : k0_pay3 (F := Ideal) y = 0 := by
  pointwise [k0_pay3]

end Cert.GluIdeal.Value
-- ==== Proof.Glu.Agree.lean ====
/-
  The gated unit's gradient region: what a tile of 256 rows leaves, and the four arrays after the run, against the reference's.
-/
module

public import proofs.«01_k».proof.Proof.Glu.Rows
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluIdeal.Value

open Cert.GluIdeal Cert.GluIdeal.Gen Cert.Glu Cert.GluReferenceIdeal.Read

variable (m : (ℓ : Loc nD τ sig) → Buf (Elt Ideal) ℓ)

abbrev B0 (c : Dev nD) (t : Fin cfg0.N) : Vec Ideal S256x512 .f32 := X0_0 m c t
abbrev B1 (c : Dev nD) (t : Fin cfg0.N) : Vec Ideal S256x512 .f32 := iblk m c 1 t
abbrev B2 (c : Dev nD) (t : Fin cfg0.N) : Vec Ideal S256x512 .f32 := iblk m c 2 t
abbrev B3 (c : Dev nD) (t : Fin cfg0.N) : Vec Ideal S1x512 .f32 := iblk m c 3 t
abbrev B4 (c : Dev nD) (t : Fin cfg0.N) : Vec Ideal S512x2048 .bf16 := iblk m c 4 t
abbrev B5 (c : Dev nD) (t : Fin cfg0.N) : Vec Ideal S256x1024 .f32 := iblk m c 5 t

/-! What a grid point leaves. -/

theorem du_point (c : Dev nD) (t : Fin cfg0.N) : (outsAt0 m c t.val t.isLt).1 = k0_pay20 (k0_pay6 (B3 m c t)) (k0_pay7 (B4 m c t))
    (k0_pay8 (B0 m c t) (B1 m c t) (B2 m c t) (B3 m c t)) (k0_pay9 (B0 m c t) (B1 m c t) (B2 m c t) (B3 m c t))
    (k0_pay11 (B0 m c t) (B1 m c t) (B2 m c t) (B3 m c t)) (k0_pay12 (B0 m c t) (B1 m c t) (B2 m c t) (B3 m c t))
    (k0_pay15 (B0 m c t) (B1 m c t) (B2 m c t) (B3 m c t) (B4 m c t)) (k0_pay16 (B0 m c t) (B1 m c t) (B2 m c t) (B3 m c t) (B4 m c t))
    (FloatOps.ofBits .f32 1065353216#32) (B5 m c t) := by
  by_cases h : t.val % 32 = 0
  · rw [outsAt0_A m c t h h]
    frame_out
  · rw [outsAt0_B m c t h h]
    frame_out

theorem dy_point (c : Dev nD) (t : Fin cfg0.N) : (outsAt0 m c t.val t.isLt).2.1
    = dyOf (B0 m c t) (B1 m c t) (B2 m c t) (B3 m c t) (B4 m c t) (B5 m c t) := by
  by_cases h : t.val % 32 = 0
  · rw [outsAt0_A m c t h h]
    frame_out
  · rw [outsAt0_B m c t h h]
    frame_out

/-- What a tile adds to the skip's rows, and to the weights. -/
abbrev skipAdd (u f b : FVec Ideal S256x512 .f32) (d : FVec Ideal S1x512 .f32) (w : FVec Ideal S512x2048 .bf16) (ct : FVec Ideal S256x1024 .f32)
    (a : FVec Ideal S8x512 .f32) : FVec Ideal S8x512 .f32 :=
  k0_pay2 (F := Ideal) k0_pay21 (k0_pay22 (k0_pay5 u) (k0_pay7 w) (k0_pay8 u f b d) (k0_pay9 u f b d) (k0_pay11 u f b d)
      (k0_pay12 u f b d) (k0_pay15 u f b d w) (k0_pay16 u f b d w) (FloatOps.ofBits .f32 1065353216#32) ct) k0_pay23 a
abbrev weightAdd (u f b : FVec Ideal S256x512 .f32) (d : FVec Ideal S1x512 .f32) (w : FVec Ideal S512x2048 .bf16) (ct : FVec Ideal S256x1024 .f32)
    (a : FVec Ideal S512x2048 .f32) : FVec Ideal S512x2048 .f32 :=
  k0_pay4 (F := Ideal) (k0_pay18 (k0_pay13 u f b d) (k0_pay15 u f b d w) (k0_pay16 u f b d w) (FloatOps.ofBits .f32 1065353216#32) ct) a

theorem skip_point_A (c : Dev nD) (t : Fin cfg0.N) (h : t.val % 32 = 0) : (outsAt0 m c t.val t.isLt).2.2.1
    = skipAdd (B0 m c t) (B1 m c t) (B2 m c t) (B3 m c t) (B4 m c t) (B5 m c t) (k0_pay1 (F := Ideal)) := by
  rw [outsAt0_A m c t h h]
  frame_out
theorem skip_point_B (c : Dev nD) (t : Fin cfg0.N) (h : ¬ t.val % 32 = 0) : (outsAt0 m c t.val t.isLt).2.2.1
    = skipAdd (B0 m c t) (B1 m c t) (B2 m c t) (B3 m c t) (B4 m c t) (B5 m c t) (outsAt0 m c (t.val - 1) (by omega)).2.2.1 := by
  rw [outsAt0_B m c t h h]
  frame_out
theorem weight_point_A (c : Dev nD) (t : Fin cfg0.N) (h : t.val % 32 = 0) : (outsAt0 m c t.val t.isLt).2.2.2
    = weightAdd (B0 m c t) (B1 m c t) (B2 m c t) (B3 m c t) (B4 m c t) (B5 m c t) (k0_pay3 (F := Ideal)) := by
  rw [outsAt0_A m c t h h]
  frame_out
theorem weight_point_B (c : Dev nD) (t : Fin cfg0.N) (h : ¬ t.val % 32 = 0) : (outsAt0 m c t.val t.isLt).2.2.2
    = weightAdd (B0 m c t) (B1 m c t) (B2 m c t) (B3 m c t) (B4 m c t) (B5 m c t) (outsAt0 m c (t.val - 1) (by omega)).2.2.2 := by
  rw [outsAt0_B m c t h h]
  frame_out

/-! What the host lines hand to the region. -/

/-- The argument's columns among the projection's, zeros elsewhere. -/
def columns (u : FVec Ideal S8448x512 .f32) : FVec Ideal S8448x3456 .f32 :=
  concatenate S8448x3456 1 [⟨S8448x2560, concatenate S8448x2560 1 [⟨S8448x2048, broadcastInDim S8448x2048 ![] bcast_S_S8448x2048
      (constant (F := Ideal) S_ .f32 0x00000000#32)⟩, ⟨S8448x512, u⟩] concatenates_S8448x2048_S8448x512_S8448x2560_d1⟩,
    ⟨S8448x896, broadcastInDim S8448x896 ![] bcast_S_S8448x896 (constant (F := Ideal) S_ .f32 0x00000000#32)⟩]
    concatenates_S8448x2560_S8448x896_S8448x3456_d1
def oneRow (a : FVec Ideal S512 .f32) : FVec Ideal S1x512 .f32 := broadcastInDim S1x512 ![1] bcast_S512_S1x512_1 a

theorem oneRow_apply (a : FVec Ideal S512 .f32) (j : Fin 512) : oneRow a (ix2 0 j) = a (ix1 j) := by
  pointwise [oneRow]
theorem columns_apply (u : FVec Ideal S8448x512 .f32) (n : Fin 8448) (k : Fin 512) :
    columns u (ix2 n ⟨2048 + k, by omega⟩) = u (ix2 n k) := by
  pointwise [columns]
  exact dif_pos (by omega)

abbrev X0 (c : Dev nD) : FVec Ideal S8448x512 .f32 := m ((c : Thread nD τ).loc main_arg0)
abbrev X1 (c : Dev nD) : FVec Ideal S8448x512 .f32 := m ((c : Thread nD τ).loc main_arg1)
abbrev X2 (c : Dev nD) : FVec Ideal S8448x512 .f32 := m ((c : Thread nD τ).loc main_arg2)
abbrev X3 (c : Dev nD) : FVec Ideal S512 .f32 := m ((c : Thread nD τ).loc main_arg3)
abbrev X4 (c : Dev nD) : FVec Ideal S512x2048 .f32 := m ((c : Thread nD τ).loc main_arg4)
abbrev X5 (c : Dev nD) : FVec Ideal S8192x1024 .f32 := m ((c : Thread nD τ).loc main_arg5)

set_option maxHeartbeats 2000000 in
theorem u_entry (c : Dev nD) : (V m c main_v3 : Vec Ideal S8448x3456 .f32) = columns (X0 m c) := by
  entry_read
  rfl
set_option maxHeartbeats 2000000 in
theorem d_entry (c : Dev nD) : (V m c main_v4 : Vec Ideal S1x512 .f32) = oneRow (X3 m c) := by
  entry_read
  rfl
set_option maxHeartbeats 2000000 in
theorem w_entry (c : Dev nD) : (V m c main_v5 : Vec Ideal S512x2048 .bf16) = truncf .bf16 (X4 m c) bitsLt_bf16_f32 := by
  entry_read
  rfl

/-- The blocks' places. -/
theorem idx : ∀ t : Fin cfg0.N, win0_0.index t = ![t.val, 4] ∧ win0_1.index t = ![t.val, 0] ∧ win0_2.index t = ![t.val, 0] ∧
    win0_3.index t = ![0, 0] ∧ win0_4.index t = ![0, 0] ∧ win0_5.index t = ![t.val, 0] ∧ win0_6.index t = ![t.val, 0] ∧ win0_7.index t = ![t.val, 0] ∧
    win0_8.index t = ![0, 0] ∧ win0_9.index t = ![0, 0] :=
  (by decide +kernel : ∀ t : Fin grid0.N, _)

theorem lt32 (t : Fin cfg0.N) : t.val < 32 := lt_of_lt_of_eq t.isLt (show cfg0.N = 32 from N_0)

/-- Row `r` of tile `t`. -/
abbrev at256 (t : Fin cfg0.N) (r : Fin 256) : Fin 8192 := ⟨256 * t.val + r, by have := lt32 t; omega⟩
abbrev all256 (t : Fin cfg0.N) (r : Fin 256) : Fin 8448 := ⟨256 * t.val + r, by have := lt32 t; omega⟩

theorem blk0 (c : Dev nD) (t : Fin cfg0.N) (r : Fin 256) (d : Fin 512) : B0 m c t (ix2 r d) = X0 m c (ix2 (all256 t r) d) := by
  refine Eq.trans ?_ (columns_apply (X0 m c) (all256 t r) d)
  rw [← u_entry]
  unfold B0 X0_0 Pipeline.Window.fill
  rw [dif_pos (moved0_0 t _)]
  unfold iblk
  generalize V m c = W
  refine congrArg (W main_v3) ?_
  blk_point [idx t]
theorem blk1 (c : Dev nD) (t : Fin cfg0.N) (r : Fin 256) (d : Fin 512) : B1 m c t (ix2 r d) = X1 m c (ix2 (all256 t r) d) := by
  have e : (win0_1.blk t).view.emb (ix2 r d) = ix2 (all256 t r) d := by
    blk_point [idx t]
  unfold X1
  rw [← V_main_arg1 m c]
  unfold B1 iblk
  generalize V m c = W
  exact congrArg (W main_arg1) e
theorem blk2 (c : Dev nD) (t : Fin cfg0.N) (r : Fin 256) (d : Fin 512) : B2 m c t (ix2 r d) = X2 m c (ix2 (all256 t r) d) := by
  have e : (win0_2.blk t).view.emb (ix2 r d) = ix2 (all256 t r) d := by
    blk_point [idx t]
  unfold X2
  rw [← V_main_arg2 m c]
  unfold B2 iblk
  generalize V m c = W
  exact congrArg (W main_arg2) e
theorem blk3 (c : Dev nD) (t : Fin cfg0.N) (d : Fin 512) : B3 m c t (ix2 0 d) = X3 m c (ix1 d) := by
  have e : (win0_3.blk t).view.emb (ix2 0 d) = ix2 0 d := by
    blk_point [idx t]
  refine Eq.trans ?_ (oneRow_apply (X3 m c) d)
  rw [← d_entry]
  unfold B3 iblk
  generalize V m c = W
  exact congrArg (W main_v4) e
theorem blk4 (c : Dev nD) (t : Fin cfg0.N) (k : Fin 512) (q : Fin 2048) : (B4 m c t (ix2 k q) : EReal) = X4 m c (ix2 k q) := by
  have e : (win0_4.blk t).view.emb (ix2 k q) = ix2 k q := by
    blk_point [idx t]
  refine Eq.trans ?_ (show (truncf (F := Ideal) .bf16 (X4 m c) bitsLt_bf16_f32 (ix2 k q) : EReal) = _ from rfl)
  rw [← w_entry]
  unfold B4 iblk
  generalize V m c = W
  exact congrArg (W main_v5) e
theorem blk5 (c : Dev nD) (t : Fin cfg0.N) (r : Fin 256) (d : Fin 1024) : B5 m c t (ix2 r d) = X5 m c (ix2 (at256 t r) d) := by
  have e : (win0_5.blk t).view.emb (ix2 r d) = ix2 (at256 t r) d := by
    blk_point [idx t]
  unfold X5
  rw [← V_main_arg5 m c]
  unfold B5 iblk
  generalize V m c = W
  exact congrArg (W main_arg5) e

/-! The arguments as rows. -/

abbrev ys (c : Dev nD) (n : Fin 8192) (k : Fin 512) : EReal := GluReferenceIdeal.Rows.yRow (X0 m c) (X1 m c) (X2 m c) (X3 m c) n k
abbrev ws (c : Dev nD) (k : Fin 512) (q : Fin 2048) : EReal := X4 m c (ix2 k q)
abbrev cs (c : Dev nD) (n : Fin 8192) (j : Fin 1024) : EReal := X5 m c (ix2 n j)

theorem reads_y (c : Dev nD) (t : Fin cfg0.N) (r : Fin 256) : yRow (B0 m c t) (B1 m c t) (B2 m c t) (B3 m c t) r = ys m c (at256 t r) := by
  funext k
  unfold yRow
  rw [blk0, blk1, blk2, blk3]
theorem reads_yk (c : Dev nD) (t : Fin cfg0.N) (r : Fin 256) (k : Fin 512) :
    yRow (B0 m c t) (B1 m c t) (B2 m c t) (B3 m c t) r k = ys m c (at256 t r) k := congrFun (reads_y m c t r) k
theorem reads_w (c : Dev nD) (t : Fin cfg0.N) : wAt (B4 m c t) = ws m c := funext fun k => funext fun q => blk4 m c t k q
theorem reads_c (c : Dev nD) (t : Fin cfg0.N) (r : Fin 256) : ctAt (B5 m c t) r = cs m c (at256 t r) := funext fun j => blk5 m c t r j

theorem du_tile (c : Dev nD) (t : Fin cfg0.N) (r : Fin 256) (k : Fin 512) :
    ((outsAt0 m c t.val t.isLt).1 (ix2 r k) : EReal)
      = val_main_v70 (F := Ideal) (X0 m c) (X1 m c) (X2 m c) (X3 m c) (X4 m c) (X5 m c) (ix2 (at256 t r) k) := by
  rw [GluReferenceIdeal.Rows.du_rows, du_point]
  refine (du_apply _ _ _ _ _ _ r k).trans ?_
  rw [reads_y, reads_w, reads_c, blk3]
theorem dy_tile (c : Dev nD) (t : Fin cfg0.N) (r : Fin 256) (k : Fin 512) :
    ((outsAt0 m c t.val t.isLt).2.1 (ix2 r k) : EReal)
      = val_main_v71 (F := Ideal) (X0 m c) (X1 m c) (X2 m c) (X3 m c) (X4 m c) (X5 m c) (ix2 (at256 t r) k) := by
  rw [GluReferenceIdeal.Rows.dy_rows, dy_point]
  refine (dy_apply _ _ _ _ _ _ r k).trans ?_
  rw [reads_y, reads_w, reads_c]

theorem du_agree (c : Dev nD) : (dats m 0 c).arrAt 6 cfg0.N = val_main_v70 (F := Ideal) (X0 m c) (X1 m c) (X2 m c) (X3 m c) (X4 m c) (X5 m c) := by
  refine (dats m 0 c).arrAt_eq_of_covers 6 _ (by decide +kernel) fun t _ y => ?_
  have e : ((cfg0.win 6).blk t).view.emb y = ix2 (at256 t (y 0)) (y 1) := by
    blk_point [idx t]
  rw [after0_6, e]
  exact (congrArg _ (eq_ix2 y)).trans (du_tile m c t (y 0) (y 1))

theorem dy_agree (c : Dev nD) : (dats m 0 c).arrAt 7 cfg0.N = val_main_v71 (F := Ideal) (X0 m c) (X1 m c) (X2 m c) (X3 m c) (X4 m c) (X5 m c) := by
  refine (dats m 0 c).arrAt_eq_of_covers 7 _ (by decide +kernel) fun t _ y => ?_
  have e : ((cfg0.win 7).blk t).view.emb y = ix2 (at256 t (y 0)) (y 1) := by
    blk_point [idx t]
  rw [after0_7, e]
  exact (congrArg _ (eq_ix2 y)).trans (dy_tile m c t (y 0) (y 1))

/-! The two sums over the tiles. -/

theorem tiles (t : Fin cfg0.N) (f : Fin cfg0.N → EReal) (a : Fin 8192 → EReal) (ha : ∀ s : Fin cfg0.N, f s = ∑ r : Fin 256, a (at256 s r)) :
    ∑ s : Fin 32, f ⟨32 * (t.val / 32) + s.val, by have := lt32 t; have : cfg0.N = 32 := N_0; omega⟩ = ∑ n, a n := by
  have h32 := lt32 t
  have hN : cfg0.N = 32 := N_0
  refine Eq.trans ?_ (Fin.sum_univ_tiles 32 256 (by norm_num) _).symm
  refine Finset.sum_congr rfl fun s _ => (ha _).trans (Finset.sum_congr rfl fun r _ => congrArg a (Fin.ext ?_))
  show 256 * (32 * (t.val / 32) + s.val) + r.val = s.val * 256 + r.val
  omega

theorem skip_tile (c : Dev nD) (t : Fin cfg0.N) (a : FVec Ideal S8x512 .f32) (n : Fin 8) (k : Fin 512) :
    (skipAdd (B0 m c t) (B1 m c t) (B2 m c t) (B3 m c t) (B4 m c t) (B5 m c t) a (ix2 n k) : EReal) = a (ix2 n k)
      + if (n : ℕ) = 0 then ∑ r, X0 m c (ix2 (all256 t r) k) * dy (ys m c (at256 t r)) (ws m c) (cs m c (at256 t r)) k else 0 := by
  refine (skip_step _ _ _ _ _ _ a n k).trans ?_
  simp only [reads_y, reads_w, reads_c, blk0]
theorem weight_tile (c : Dev nD) (t : Fin cfg0.N) (a : FVec Ideal S512x2048 .f32) (k : Fin 512) (q : Fin 2048) :
    (weightAdd (B0 m c t) (B1 m c t) (B2 m c t) (B3 m c t) (B4 m c t) (B5 m c t) a (ix2 k q) : EReal) = a (ix2 k q)
      + ∑ r, gel (ys m c (at256 t r) k) * cot (ys m c (at256 t r)) (ws m c) (cs m c (at256 t r)) q := by
  refine (weight_step _ _ _ _ _ _ a k q).trans ?_
  simp only [reads_yk, reads_y, reads_w, reads_c]

abbrev skipShare (c : Dev nD) (n : Fin 8) (k : Fin 512) (i : Fin 8192) : EReal :=
  if (n : ℕ) = 0 then X0 m c (ix2 (GluReferenceIdeal.Rows.latent i) k) * dy (ys m c i) (ws m c) (cs m c i) k else 0
abbrev weightShare (c : Dev nD) (k : Fin 512) (q : Fin 2048) (i : Fin 8192) : EReal :=
  gel (ys m c i k) * cot (ys m c i) (ws m c) (cs m c i) q

theorem skip_block (c : Dev nD) (t : Fin cfg0.N) (ht : t.val % 32 = 31) (n : Fin 8) (k : Fin 512) :
    (outsAt0 m c t.val t.isLt).2.2.1 (ix2 n k) = ∑ i, skipShare m c n k i := by
  have h := Pipeline.eq_sum_fin_of_reset_step_apply_of_flush (fun n h => (outsAt0 m c n h).2.2.1) 32 (fun _ => (0 : EReal))
    (fun s (y : S8x512.Idx) => ∑ r, skipShare m c (y 0) (y 1) (at256 s r))
    (fun t h j => by
      refine (congrFun (skip_point_A m c t h) j).trans ((congrArg _ (eq_ix2 j)).trans ((skip_tile m c t _ (j 0) (j 1)).trans ?_))
      refine congrArg₂ (· + ·) (zero_skip _) ?_
      by_cases h0 : ((j 0 : Fin 8) : ℕ) = 0 <;> simp [skipShare, h0])
    (fun t h j => by
      refine (congrFun (skip_point_B m c t h) j).trans ((congrArg _ (eq_ix2 j)).trans ((skip_tile m c t _ (j 0) (j 1)).trans ?_))
      refine congrArg₂ (· + ·) (congrArg _ (eq_ix2 j).symm) ?_
      by_cases h0 : ((j 0 : Fin 8) : ℕ) = 0 <;> simp [skipShare, h0])
    t ht (ix2 n k)
  refine h.trans ?_
  exact (zero_add _).trans (tiles t (fun s => ∑ r, skipShare m c n k (at256 s r)) _ fun s => rfl)

theorem weight_block (c : Dev nD) (t : Fin cfg0.N) (ht : t.val % 32 = 31) (k : Fin 512) (q : Fin 2048) :
    (outsAt0 m c t.val t.isLt).2.2.2 (ix2 k q) = ∑ i, weightShare m c k q i := by
  have h := Pipeline.eq_sum_fin_of_reset_step_apply_of_flush (fun n h => (outsAt0 m c n h).2.2.2) 32 (fun _ => (0 : EReal))
    (fun s (y : S512x2048.Idx) => ∑ r, weightShare m c (y 0) (y 1) (at256 s r))
    (fun t h j => by
      refine (congrFun (weight_point_A m c t h) j).trans ((congrArg _ (eq_ix2 j)).trans ((weight_tile m c t _ (j 0) (j 1)).trans ?_))
      exact congrArg (· + _) (zero_weight _))
    (fun t h j => by
      refine (congrFun (weight_point_B m c t h) j).trans ((congrArg _ (eq_ix2 j)).trans ((weight_tile m c t _ (j 0) (j 1)).trans ?_))
      exact congrArg (· + _) (congrArg _ (eq_ix2 j).symm))
    t ht (ix2 k q)
  refine h.trans ?_
  exact (zero_add _).trans (tiles t (fun s => ∑ r, weightShare m c k q (at256 s r)) _ fun s => rfl)

theorem skip_agree (c : Dev nD) : (dats m 0 c).arrAt 8 cfg0.N = val_main_v74 (F := Ideal) (X0 m c) (X1 m c) (X2 m c) (X3 m c) (X4 m c) (X5 m c) := by
  refine (dats m 0 c).arrAt_eq_of_covers 8 _ (by decide +kernel) fun t hf y => ?_
  have e : ((cfg0.win 8).blk t).view.emb y = ix2 (y 0) (y 1) := by
    blk_point [idx t]
  rw [after0_8, e]
  refine (congrArg _ (eq_ix2 y)).trans ((skip_block m c t ((flush0_8 t).mp hf) (y 0) (y 1)).trans ?_)
  refine Eq.trans ?_ (GluReferenceIdeal.Rows.skip_rows _ _ _ _ _ _ (y 0) (y 1)).symm
  by_cases h0 : ((y 0 : Fin 8) : ℕ) = 0
  · simp only [skipShare, h0, if_true]
  · simp only [skipShare, h0, if_false, Finset.sum_const_zero]

theorem weight_agree (c : Dev nD) : (dats m 0 c).arrAt 9 cfg0.N = val_main_v47 (F := Ideal) (X0 m c) (X1 m c) (X2 m c) (X3 m c) (X4 m c) (X5 m c) := by
  refine (dats m 0 c).arrAt_eq_of_covers 9 _ (by decide +kernel) fun t hf y => ?_
  have e : ((cfg0.win 9).blk t).view.emb y = ix2 (y 0) (y 1) := by
    blk_point [idx t]
  rw [after0_9, e]
  refine (congrArg _ (eq_ix2 y)).trans ((weight_block m c t ((flush0_9 t).mp hf) (y 0) (y 1)).trans ?_)
  exact (GluReferenceIdeal.Rows.weight_rows _ _ _ _ _ _ (y 0) (y 1)).symm

theorem du_same (c : Dev nD) (x0 : FVec Ideal S8448x512 .f32) (x1 : FVec Ideal S8448x512 .f32) (x2 : FVec Ideal S8448x512 .f32) (x3 : FVec Ideal S512 .f32) (x4 : FVec Ideal S512x2048 .f32) (x5 : FVec Ideal S8192x1024 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) (a5 : x5 = m ((c : Thread nD τ).loc main_arg5)) :
    Cert.GluReferenceIdeal.Read.val_main_v70 (F := Ideal) x0 x1 x2 x3 x4 x5 = (dats m 0 c).arrAt 6 cfg0.N := by
  subst a0 a1 a2 a3 a4 a5
  exact (du_agree m c).symm

theorem dy_same (c : Dev nD) (x0 : FVec Ideal S8448x512 .f32) (x1 : FVec Ideal S8448x512 .f32) (x2 : FVec Ideal S8448x512 .f32) (x3 : FVec Ideal S512 .f32) (x4 : FVec Ideal S512x2048 .f32) (x5 : FVec Ideal S8192x1024 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) (a5 : x5 = m ((c : Thread nD τ).loc main_arg5)) :
    Cert.GluReferenceIdeal.Read.val_main_v71 (F := Ideal) x0 x1 x2 x3 x4 x5 = (dats m 0 c).arrAt 7 cfg0.N := by
  subst a0 a1 a2 a3 a4 a5
  exact (dy_agree m c).symm

theorem skip_same (c : Dev nD) (x0 : FVec Ideal S8448x512 .f32) (x1 : FVec Ideal S8448x512 .f32) (x2 : FVec Ideal S8448x512 .f32) (x3 : FVec Ideal S512 .f32) (x4 : FVec Ideal S512x2048 .f32) (x5 : FVec Ideal S8192x1024 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) (a5 : x5 = m ((c : Thread nD τ).loc main_arg5)) :
    Cert.GluReferenceIdeal.Read.val_main_v74 (F := Ideal) x0 x1 x2 x3 x4 x5 = (dats m 0 c).arrAt 8 cfg0.N := by
  subst a0 a1 a2 a3 a4 a5
  exact (skip_agree m c).symm

theorem weight_same (c : Dev nD) (x0 : FVec Ideal S8448x512 .f32) (x1 : FVec Ideal S8448x512 .f32) (x2 : FVec Ideal S8448x512 .f32) (x3 : FVec Ideal S512 .f32) (x4 : FVec Ideal S512x2048 .f32) (x5 : FVec Ideal S8192x1024 .f32)
    (a0 : x0 = m ((c : Thread nD τ).loc main_arg0)) (a1 : x1 = m ((c : Thread nD τ).loc main_arg1)) (a2 : x2 = m ((c : Thread nD τ).loc main_arg2)) (a3 : x3 = m ((c : Thread nD τ).loc main_arg3)) (a4 : x4 = m ((c : Thread nD τ).loc main_arg4)) (a5 : x5 = m ((c : Thread nD τ).loc main_arg5)) :
    Cert.GluReferenceIdeal.Read.val_main_v47 (F := Ideal) x0 x1 x2 x3 x4 x5 = (dats m 0 c).arrAt 9 cfg0.N := by
  subst a0 a1 a2 a3 a4 a5
  exact (weight_agree m c).symm

end Cert.GluIdeal.Value
-- ==== Proof.Norm.Second.lean ====
/-
  The second norm's gradient region: what a tile of 256 rows leaves, and the three arrays after the run, against the reference's.
-/
module

public import proofs.«01_k».proof.Proof.Gen.NormTwoIdeal.Value
public import proofs.«01_k».proof.Proof.Gen.NormTwoReferenceIdeal.Read
public import proofs.«01_k».proof.Proof.Norm.Spec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormTwoReferenceIdeal.Rows

open Cert.NormTwoReferenceIdeal Cert.NormTwoReferenceIdeal.Read Cert.Norm

variable (x0 x4 x5 : FVec Ideal S8192x1024 .f32) (x1 x3 : FVec Ideal S1024 .f32)

/-- The rows' gradient. -/
theorem rows (n : Fin 8192) (j : Fin 1024) : (val_main_v54 (F := Ideal) x0 x1 x3 x4 x5 (ix2 n j) : EReal)
    = dxAt (fun n k => x0 (ix2 n k)) (fun n k => x5 (ix2 n k)) (fun k => x1 (ix1 k)) (fun k => x3 (ix1 k)) n j + x4 (ix2 n j) := by
  pointwise [val_main_v54, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v33, val_main_v34, val_main_cst_8, val_main_v35, val_main_v36, val_main_v37, val_main_v38, val_main_cst_9, val_main_v39, val_main_v40, val_main_cst_10, val_main_v41, val_main_v42, val_main_v43, val_main_v44, val_main_v45, val_main_v46, val_main_cst_11, val_main_v47, val_main_v48, val_main_cst_12, val_main_v49, val_main_v50, val_main_v51, val_main_v52, val_main_v53, val_main_v55, val_main_v56, val_main_v57, val_main_v58, val_main_cst_13, val_main_v59, val_main_v60, val_main_cst_14, val_main_v61, val_main_v62]
  simp only [Fin.sum_univ_one, quotient, add_assoc]
  rw [add_comm (x4 (ix2 n j))]
  unfold dxAt dx
  simp only [add_assoc]
  rfl

/-- The gradients of the gain, the scale and the shift. -/
theorem gain_sum (j : Fin 1024) : (val_main_v35 (F := Ideal) x0 x3 x5 (ix1 j) : EReal)
    = ∑ n, dgAt (fun n k => x0 (ix2 n k)) (fun n k => x5 (ix2 n k)) (fun k => x3 (ix1 k)) n j := by
  pointwise [val_main_v35, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v33, val_main_v34, val_main_cst_8, val_main_v36, val_main_v37, val_main_v38, val_main_cst_9, val_main_v39, val_main_v40, val_main_cst_10, val_main_v41, val_main_v42, val_main_v43, val_main_v44, val_main_v45, val_main_v46, val_main_cst_11, val_main_v47, val_main_v48, val_main_cst_12, val_main_v49, val_main_v50, val_main_v51, val_main_v52, val_main_v53, val_main_v54, val_main_v55, val_main_v56, val_main_v57, val_main_v58, val_main_cst_13, val_main_v59, val_main_v60, val_main_cst_14, val_main_v61, val_main_v62]
  simp only [Fin.sum_univ_one, quotient]
  rfl
theorem scale_sum (j : Fin 1024) : (val_main_v33 (F := Ideal) x0 x1 x5 (ix1 j) : EReal)
    = ∑ n, dscAt (fun n k => x0 (ix2 n k)) (fun n k => x5 (ix2 n k)) (fun k => x1 (ix1 k)) n j := by
  pointwise [val_main_v33, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_cst_7, val_main_v34, val_main_cst_8, val_main_v35, val_main_v36, val_main_v37, val_main_v38, val_main_cst_9, val_main_v39, val_main_v40, val_main_cst_10, val_main_v41, val_main_v42, val_main_v43, val_main_v44, val_main_v45, val_main_v46, val_main_cst_11, val_main_v47, val_main_v48, val_main_cst_12, val_main_v49, val_main_v50, val_main_v51, val_main_v52, val_main_v53, val_main_v54, val_main_v55, val_main_v56, val_main_v57, val_main_v58, val_main_cst_13, val_main_v59, val_main_v60, val_main_cst_14, val_main_v61, val_main_v62]
  simp only [Fin.sum_univ_one, quotient]
  rfl
theorem shift_sum (j : Fin 1024) : (val_main_v27 (F := Ideal) x5 (ix1 j) : EReal) = ∑ n : Fin 8192, x5 (ix2 n j) := by
  pointwise [val_main_v27, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_v18, val_main_v19, val_main_v20, val_main_v21, val_main_v22, val_main_v23, val_main_v24, val_main_cst_4, val_main_v25, val_main_v26, val_main_cst_5, val_main_v28, val_main_cst_6, val_main_v29, val_main_v30, val_main_v31, val_main_v32, val_main_cst_7, val_main_v33, val_main_v34, val_main_cst_8, val_main_v35, val_main_v36, val_main_v37, val_main_v38, val_main_cst_9, val_main_v39, val_main_v40, val_main_cst_10, val_main_v41, val_main_v42, val_main_v43, val_main_v44, val_main_v45, val_main_v46, val_main_cst_11, val_main_v47, val_main_v48, val_main_cst_12, val_main_v49, val_main_v50, val_main_v51, val_main_v52, val_main_v53, val_main_v54, val_main_v55, val_main_v56, val_main_v57, val_main_v58, val_main_cst_13, val_main_v59, val_main_v60, val_main_cst_14, val_main_v61, val_main_v62]
  simp only [Fin.sum_univ_one]

end Cert.NormTwoReferenceIdeal.Rows

namespace Cert.NormTwoIdeal.Value

open Cert.NormTwoIdeal Cert.NormTwoIdeal.Gen Cert.Norm Cert.NormTwoReferenceIdeal.Read Cert.NormTwoReferenceIdeal.Rows

variable (m : (ℓ : Loc nD τ sig) → Buf (Elt Ideal) ℓ)

abbrev B0 (c : Dev nD) (t : Fin cfg0.N) : Vec Ideal S256x1024 .f32 := iblk m c 0 t
abbrev B1 (c : Dev nD) (t : Fin cfg0.N) : Vec Ideal S256x1024 .f32 := iblk m c 1 t
abbrev B2 (c : Dev nD) (t : Fin cfg0.N) : Vec Ideal S256x1024 .f32 := iblk m c 2 t
abbrev B3 (c : Dev nD) (t : Fin cfg0.N) : Vec Ideal S1x1024 .f32 := iblk m c 3 t
abbrev B4 (c : Dev nD) (t : Fin cfg0.N) : Vec Ideal S8x1024 .f32 := iblk m c 4 t

/-- The latent scale's row and the context's. -/
def modRow0 (x : Vec Ideal S8x1024 .f32) : Vec Ideal S1x1024 .f32 := View.ld x (Rect.unit ![0, 0] ![1, 1024] inb_S8x1024_S1x1024_0_0)
def modRow2 (x : Vec Ideal S8x1024 .f32) : Vec Ideal S1x1024 .f32 := View.ld x (Rect.unit ![2, 0] ![1, 1024] inb_S8x1024_S1x1024_2_0)

theorem modRow0_apply (x : Vec Ideal S8x1024 .f32) (j : Fin 1024) : modRow0 x (ix2 0 j) = x (ix2 0 j) := by
  pointwise [modRow0]

/-- Every tile holds latent rows. -/
def lat (t : Fin cfg0.N) : BitVec 1 := Scalar.cmpi .slt (BitVec.ofNat 32 (grid0.coords t 0)) 32#32

theorem lat_word : ∀ t : Fin cfg0.N, lat t = 1#1 :=
  (by decide +kernel : ∀ t : Fin grid0.N, Scalar.cmpi .slt (BitVec.ofNat 32 (grid0.coords t 0)) 32#32 = 1#1)

theorem lat_select (t : Fin cfg0.N) (a b : EReal) : Scalar.select (lat t) a b = a := by
  rw [lat_word t]
  rfl

/-- The scale as a row. -/
abbrev scale (x : Vec Ideal S8x1024 .f32) (j : Fin 1024) : EReal := x (ix2 0 j)

theorem scale_words (x : Vec Ideal S8x1024 .f32) (t : Fin cfg0.N) : scale x = fun j =>
    Scalar.select (Scalar.cmpi .slt (BitVec.ofNat 32 (grid0.coords t 0)) 32#32) (modRow0 x (ix2 0 j)) (modRow2 x (ix2 0 j)) :=
  funext fun j => ((lat_select t _ _).trans (modRow0_apply x j)).symm

/-- The rows' gradient of one tile. -/
theorem dx_apply (x dh dr : FVec Ideal S256x1024 .f32) (g : FVec Ideal S1x1024 .f32) (s : FVec Ideal S8x1024 .f32) (t : Fin cfg0.N)
    (r : Fin 256) (j : Fin 1024) :
    (k0_pay14 (F := Ideal) (lat t) x (k0_pay5 x) (k0_pay6 x) (k0_pay13 (grid0.coords t) (modRow0 s) (modRow2 s) g dh) dr (ix2 r j) : EReal)
      = dxAt (fun r k => x (ix2 r k)) (fun r k => dh (ix2 r k)) (fun k => g (ix2 0 k)) (scale s) r j + dr (ix2 r j) := by
  rw [← lat_select t (dr (ix2 r j)) 0, scale_words s t]
  pointwise [k0_pay14, k0_pay5, k0_pay6, k0_pay13, k0_pay11, k0_pay8, k0_pay3, k0_pay4]
  simp only [Fin.sum_univ_one]
  rfl

/-- The gain's gradient from one tile. -/
theorem dg_apply (x dh : FVec Ideal S256x1024 .f32) (s : FVec Ideal S8x1024 .f32) (t : Fin cfg0.N) (j : Fin 1024) :
    (k0_pay12 (F := Ideal) (grid0.coords t) (modRow0 s) (modRow2 s) x dh (ix2 0 j) : EReal)
      = ∑ r, dgAt (fun r k => x (ix2 r k)) (fun r k => dh (ix2 r k)) (scale s) r j := by
  rw [scale_words s t]
  pointwise [k0_pay12, k0_pay7, k0_pay11, k0_pay8, k0_pay5, k0_pay4]
  rfl

/-- The scale's gradient from one tile. -/
theorem dsc_apply (x dh : FVec Ideal S256x1024 .f32) (g : FVec Ideal S1x1024 .f32) (j : Fin 1024) :
    (k0_pay18 (F := Ideal) (k0_pay10 x g dh) (ix2 0 j) : EReal)
      = ∑ r, dscAt (fun r k => x (ix2 r k)) (fun r k => dh (ix2 r k)) (fun k => g (ix2 0 k)) r j := by
  pointwise [k0_pay18, k0_pay10, k0_pay3, k0_pay7, k0_pay8, k0_pay5, k0_pay4]
  rfl

/-- The shift's gradient from one tile. -/
theorem dsh_apply (dh : FVec Ideal S256x1024 .f32) (j : Fin 1024) : (k0_pay9 (F := Ideal) dh (ix2 0 j) : EReal) = ∑ r, dh (ix2 r j) := by
  pointwise [k0_pay9, k0_pay8]

theorem first_row (k : Fin 8) (a b : EReal) : Scalar.select (IntOp.cmpi .eq (BitVec.ofNat 32 (k : ℕ)) 0#32) a b = if (k : ℕ) = 0 then a else b := by
  fin_cases k <;> rfl

/-- A tile's share of the gain's rows joins what the rows hold. -/
theorem gain_step (x dh : FVec Ideal S256x1024 .f32) (s : FVec Ideal S8x1024 .f32) (t : Fin cfg0.N) (a : FVec Ideal S8x1024 .f32) (k : Fin 8) (j : Fin 1024) :
    (k0_pay16 (F := Ideal) (k0_pay12 (grid0.coords t) (modRow0 s) (modRow2 s) x dh) a (ix2 k j) : EReal) = a (ix2 k j) + if (k : ℕ) = 0 then
      ∑ r, dgAt (fun r k => x (ix2 r k)) (fun r k => dh (ix2 r k)) (scale s) r j else 0 := by
  rw [← dg_apply x dh s t j, ← first_row]
  generalize k0_pay12 (F := Ideal) (grid0.coords t) (modRow0 s) (modRow2 s) x dh = v
  pointwise [k0_pay16]

/-- The two rows a tile adds to. -/
theorem mod_rows (t : Fin cfg0.N) (k : Fin 8) (a b : EReal) :
    Scalar.select (IntOp.cmpi .eq (BitVec.ofNat 32 (k : ℕ)) (Scalar.select (lat t) 0#32 2#32)) a 0
      + Scalar.select (IntOp.cmpi .eq (BitVec.ofNat 32 (k : ℕ)) (Scalar.addi (Scalar.select (lat t) 0#32 2#32) 1#32)) b 0
      = if (k : ℕ) = 0 then a else if (k : ℕ) = 1 then b else 0 := by
  rw [lat_word t]
  fin_cases k
  · exact add_zero a
  · exact zero_add b
  all_goals exact add_zero 0

theorem mod_apply (v w : FVec Ideal S1x1024 .f32) (t : Fin cfg0.N) (x : FVec Ideal S8x1024 .f32) (k : Fin 8) (j : Fin 1024) :
    (k0_pay2 (F := Ideal) v (iota Kind.tc S8x1024 32 [0] iota_S8x1024_d0_w32) (Scalar.select (lat t) 0#32 2#32) (k0_pay17 (lat t)) w x (ix2 k j) : EReal)
      = x (ix2 k j) + if (k : ℕ) = 0 then w (ix2 0 j) else if (k : ℕ) = 1 then v (ix2 0 j) else 0 := by
  rw [← mod_rows t]
  pointwise [k0_pay2, k0_pay17]

/-- A tile's share of the modulation's rows joins what the rows hold. -/
theorem mod_step (x dh : FVec Ideal S256x1024 .f32) (g : FVec Ideal S1x1024 .f32) (t : Fin cfg0.N) (a : FVec Ideal S8x1024 .f32) (k : Fin 8) (j : Fin 1024) :
    (k0_pay2 (F := Ideal) (k0_pay9 dh) (iota Kind.tc S8x1024 32 [0] iota_S8x1024_d0_w32) (Scalar.select (lat t) 0#32 2#32)
        (k0_pay17 (lat t)) (k0_pay18 (k0_pay10 x g dh)) a (ix2 k j) : EReal)
      = a (ix2 k j) + if (k : ℕ) = 0 then ∑ r, dscAt (fun r k => x (ix2 r k)) (fun r k => dh (ix2 r k)) (fun k => g (ix2 0 k)) r j
            else if (k : ℕ) = 1 then ∑ r, dh (ix2 r j) else 0 := by
  rw [mod_apply, dsc_apply, dsh_apply]

theorem zero_gain (y) : k0_pay15 (F := Ideal) y = 0 := by
  pointwise [k0_pay15]
theorem zero_mod (y) : k0_pay1 (F := Ideal) y = 0 := by
  pointwise [k0_pay1]

/-! What a grid point leaves. -/

theorem dx_point (c : Dev nD) (t : Fin cfg0.N) : (outsAt0 m c t.val t.isLt).1 = k0_pay14 (lat t) (B0 m c t) (k0_pay5 (B0 m c t)) (k0_pay6 (B0 m c t))
    (k0_pay13 (grid0.coords t) (modRow0 (B4 m c t)) (modRow2 (B4 m c t)) (B3 m c t) (B1 m c t)) (B2 m c t) := by
  by_cases h : t.val % 32 = 0
  · rw [outsAt0_A m c t h h]
    frame_out
    rfl
  · rw [outsAt0_B m c t h h]
    frame_out
    rfl

theorem gain_point_A (c : Dev nD) (t : Fin cfg0.N) (h : t.val % 32 = 0) : (outsAt0 m c t.val t.isLt).2.1
    = k0_pay16 (k0_pay12 (grid0.coords t) (modRow0 (B4 m c t)) (modRow2 (B4 m c t)) (B0 m c t) (B1 m c t)) (k0_pay15 (F := Ideal)) := by
  rw [outsAt0_A m c t h h]
  frame_out
  rfl

theorem gain_point_B (c : Dev nD) (t : Fin cfg0.N) (h : ¬ t.val % 32 = 0) : (outsAt0 m c t.val t.isLt).2.1
    = k0_pay16 (k0_pay12 (grid0.coords t) (modRow0 (B4 m c t)) (modRow2 (B4 m c t)) (B0 m c t) (B1 m c t)) (outsAt0 m c (t.val - 1) (by omega)).2.1 := by
  rw [outsAt0_B m c t h h]
  frame_out
  rfl

theorem mod_point_A (c : Dev nD) (t : Fin cfg0.N) (h : t.val % 32 = 0) : (outsAt0 m c t.val t.isLt).2.2
    = k0_pay2 (k0_pay9 (B1 m c t)) (iota Kind.tc S8x1024 32 [0] iota_S8x1024_d0_w32) (Scalar.select (lat t) 0#32 2#32)
      (k0_pay17 (lat t)) (k0_pay18 (k0_pay10 (B0 m c t) (B3 m c t) (B1 m c t))) (k0_pay1 (F := Ideal)) := by
  rw [outsAt0_A m c t h h]
  frame_out
  rfl

theorem mod_point_B (c : Dev nD) (t : Fin cfg0.N) (h : ¬ t.val % 32 = 0) : (outsAt0 m c t.val t.isLt).2.2
    = k0_pay2 (k0_pay9 (B1 m c t)) (iota Kind.tc S8x1024 32 [0] iota_S8x1024_d0_w32) (Scalar.select (lat t) 0#32 2#32)
      (k0_pay17 (lat t)) (k0_pay18 (k0_pay10 (B0 m c t) (B3 m c t) (B1 m c t))) (outsAt0 m c (t.val - 1) (by omega)).2.2 := by
  rw [outsAt0_B m c t h h]
  frame_out
  rfl

/-! What the host lines hand to the region. -/

/-- A vector as one row. -/
def oneRow (a : FVec Ideal S1024 .f32) : FVec Ideal S1x1024 .f32 := broadcastInDim S1x1024 ![1] bcast_S1024_S1x1024_1 a

/-- The scale and the shift in eight rows. -/
def mods (a b : FVec Ideal S1024 .f32) : FVec Ideal S8x1024 .f32 :=
  concatenate S8x1024 0 [⟨S2x1024, concatenate S2x1024 0 [⟨S1x1024, oneRow a⟩, ⟨S1x1024, oneRow b⟩] concatenates_S1x1024_S1x1024_S2x1024_d0⟩,
    ⟨S6x1024, broadcastInDim S6x1024 ![] bcast_S_S6x1024 (constant (F := Ideal) S_ .f32 0x00000000#32)⟩] concatenates_S2x1024_S6x1024_S8x1024_d0

theorem oneRow_apply (a : FVec Ideal S1024 .f32) (j : Fin 1024) : oneRow a (ix2 0 j) = a (ix1 j) := by
  pointwise [oneRow]
theorem mods_scale (a b : FVec Ideal S1024 .f32) (j : Fin 1024) : mods a b (ix2 0 j) = a (ix1 j) := by
  pointwise [mods, oneRow]

abbrev X0 (c : Dev nD) : FVec Ideal S8192x1024 .f32 := m ((c : Thread nD τ).loc main_arg0)
abbrev X1 (c : Dev nD) : FVec Ideal S1024 .f32 := m ((c : Thread nD τ).loc main_arg1)
abbrev X2 (c : Dev nD) : FVec Ideal S1024 .f32 := m ((c : Thread nD τ).loc main_arg2)
abbrev X3 (c : Dev nD) : FVec Ideal S1024 .f32 := m ((c : Thread nD τ).loc main_arg3)
abbrev X4 (c : Dev nD) : FVec Ideal S8192x1024 .f32 := m ((c : Thread nD τ).loc main_arg4)
abbrev X5 (c : Dev nD) : FVec Ideal S8192x1024 .f32 := m ((c : Thread nD τ).loc main_arg5)

set_option maxHeartbeats 2000000 in
theorem g_entry (c : Dev nD) : (V m c main_v5 : Vec Ideal S1x1024 .f32) = oneRow (X1 m c) := by
  entry_read
  rfl
set_option maxHeartbeats 2000000 in
theorem mods_entry (c : Dev nD) : (V m c main_v4 : Vec Ideal S8x1024 .f32) = mods (X3 m c) (X2 m c) := by
  entry_read
  rfl

/-- The blocks' places. -/
theorem idx : ∀ t : Fin cfg0.N, win0_0.index t = ![t.val, 0] ∧ win0_1.index t = ![t.val, 0] ∧ win0_2.index t = ![t.val, 0] ∧
    win0_3.index t = ![0, 0] ∧ win0_4.index t = ![0, 0] ∧ win0_5.index t = ![t.val, 0] ∧ win0_6.index t = ![0, 0] ∧ win0_7.index t = ![0, 0] :=
  (by decide +kernel : ∀ t : Fin grid0.N, _)

theorem lt32 (t : Fin cfg0.N) : t.val < 32 := lt_of_lt_of_eq t.isLt (show cfg0.N = 32 from N_0)

/-- Row `r` of tile `t`. -/
abbrev at256 (t : Fin cfg0.N) (r : Fin 256) : Fin 8192 := ⟨256 * t.val + r, by have := lt32 t; omega⟩

theorem blk0 (c : Dev nD) (t : Fin cfg0.N) (r : Fin 256) (d : Fin 1024) : B0 m c t (ix2 r d) = X0 m c (ix2 (at256 t r) d) := by
  have e : (win0_0.blk t).view.emb (ix2 r d) = ix2 (at256 t r) d := by
    blk_point [idx t]
  unfold X0
  rw [← V_main_arg0 m c]
  unfold B0 iblk
  generalize V m c = W
  exact congrArg (W main_arg0) e
theorem blk1 (c : Dev nD) (t : Fin cfg0.N) (r : Fin 256) (d : Fin 1024) : B1 m c t (ix2 r d) = X5 m c (ix2 (at256 t r) d) := by
  have e : (win0_1.blk t).view.emb (ix2 r d) = ix2 (at256 t r) d := by
    blk_point [idx t]
  unfold X5
  rw [← V_main_arg5 m c]
  unfold B1 iblk
  generalize V m c = W
  exact congrArg (W main_arg5) e
theorem blk2 (c : Dev nD) (t : Fin cfg0.N) (r : Fin 256) (d : Fin 1024) : B2 m c t (ix2 r d) = X4 m c (ix2 (at256 t r) d) := by
  have e : (win0_2.blk t).view.emb (ix2 r d) = ix2 (at256 t r) d := by
    blk_point [idx t]
  unfold X4
  rw [← V_main_arg4 m c]
  unfold B2 iblk
  generalize V m c = W
  exact congrArg (W main_arg4) e
theorem blk3 (c : Dev nD) (t : Fin cfg0.N) (d : Fin 1024) : B3 m c t (ix2 0 d) = X1 m c (ix1 d) := by
  have e : (win0_3.blk t).view.emb (ix2 0 d) = ix2 0 d := by
    blk_point [idx t]
  refine Eq.trans ?_ (oneRow_apply (X1 m c) d)
  rw [← g_entry]
  unfold B3 iblk
  generalize V m c = W
  exact congrArg (W main_v5) e
theorem blk4 (c : Dev nD) (t : Fin cfg0.N) (d : Fin 1024) : B4 m c t (ix2 0 d) = X3 m c (ix1 d) := by
  have e : (win0_4.blk t).view.emb (ix2 0 d) = ix2 0 d := by
    blk_point [idx t]
  refine Eq.trans ?_ (mods_scale (X3 m c) (X2 m c) d)
  rw [← mods_entry]
  unfold B4 iblk
  generalize V m c = W
  exact congrArg (W main_v4) e

/-! The arguments as rows. -/

abbrev xs (c : Dev nD) (n : Fin 8192) (k : Fin 1024) : EReal := X0 m c (ix2 n k)
abbrev gs (c : Dev nD) (k : Fin 1024) : EReal := X1 m c (ix1 k)
abbrev ss (c : Dev nD) (k : Fin 1024) : EReal := X3 m c (ix1 k)
abbrev hs (c : Dev nD) (n : Fin 8192) (k : Fin 1024) : EReal := X5 m c (ix2 n k)

/-- A tile's blocks. -/
theorem reads (c : Dev nD) (t : Fin cfg0.N) : (fun r k => B0 m c t (ix2 r k)) = (fun r => xs m c (at256 t r))
    ∧ (fun r k => B1 m c t (ix2 r k)) = (fun r => hs m c (at256 t r)) ∧ (fun k => B3 m c t (ix2 0 k)) = gs m c ∧ scale (B4 m c t) = ss m c :=
  ⟨funext fun r => funext fun k => blk0 m c t r k, funext fun r => funext fun k => blk1 m c t r k, funext fun k => blk3 m c t k, funext fun k => blk4 m c t k⟩

theorem rows_agree (c : Dev nD) : (dats m 0 c).arrAt 5 cfg0.N = val_main_v54 (F := Ideal) (X0 m c) (X1 m c) (X3 m c) (X4 m c) (X5 m c) := by
  refine (dats m 0 c).arrAt_eq_of_covers 5 _ (by decide +kernel) fun t _ y => ?_
  have e : ((cfg0.win 5).blk t).view.emb y = ix2 (at256 t (y 0)) (y 1) := by
    blk_point [idx t]
  rw [after0_5, e, dx_point m c t]
  refine (congrArg _ (eq_ix2 y)).trans ((dx_apply _ _ _ _ _ t (y 0) (y 1)).trans ?_)
  obtain ⟨e0, e1, e2, e3⟩ := reads m c t
  rw [e0, e1, e2, e3]
  exact (congrArg₂ (· + ·) rfl (blk2 m c t (y 0) (y 1))).trans (rows _ _ _ _ _ (at256 t (y 0)) (y 1)).symm

/-- The sum over the tiles is the sum over the rows. -/
theorem tiles (t : Fin cfg0.N) (f : Fin cfg0.N → EReal) (a : Fin 8192 → EReal) (ha : ∀ s : Fin cfg0.N, f s = ∑ r : Fin 256, a (at256 s r)) :
    ∑ s : Fin 32, f ⟨32 * (t.val / 32) + s.val, by have := lt32 t; have : cfg0.N = 32 := N_0; omega⟩ = ∑ n, a n := by
  have h32 := lt32 t
  have hN : cfg0.N = 32 := N_0
  refine Eq.trans ?_ (Fin.sum_univ_tiles 32 256 (by norm_num) _).symm
  refine Finset.sum_congr rfl fun s _ => (ha _).trans (Finset.sum_congr rfl fun r _ => congrArg a (Fin.ext ?_))
  show 256 * (32 * (t.val / 32) + s.val) + r.val = s.val * 256 + r.val
  omega

theorem gain_block (c : Dev nD) (t : Fin cfg0.N) (ht : t.val % 32 = 31) (k : Fin 8) (j : Fin 1024) :
    (outsAt0 m c t.val t.isLt).2.1 (ix2 k j) = if (k : ℕ) = 0 then ∑ n, dgAt (xs m c) (hs m c) (ss m c) n j else 0 := by
  have h := Pipeline.eq_sum_fin_of_reset_step_apply_of_flush (fun n h => (outsAt0 m c n h).2.1) 32 (fun _ => (0 : EReal))
    (fun s (y : S8x1024.Idx) => if ((y 0 : Fin 8) : ℕ) = 0 then
      ∑ r, dgAt (fun r k => B0 m c s (ix2 r k)) (fun r k => B1 m c s (ix2 r k)) (scale (B4 m c s)) r (y 1) else (0 : EReal))
    (fun t h j => by
      refine (congrFun (gain_point_A m c t h) j).trans ((congrArg _ (eq_ix2 j)).trans ((gain_step _ _ _ t _ (j 0) (j 1)).trans ?_))
      exact congrArg (· + _) (zero_gain _))
    (fun t h j => by
      refine (congrFun (gain_point_B m c t h) j).trans ((congrArg _ (eq_ix2 j)).trans ((gain_step _ _ _ t _ (j 0) (j 1)).trans ?_))
      exact congrArg (fun z => (outsAt0 m c (t.val - 1) _).2.1 z + _) (eq_ix2 j).symm)
    t ht (ix2 k j)
  rw [zero_add] at h
  refine h.trans ?_
  show ∑ s : Fin 32, (if (k : ℕ) = 0 then _ else (0 : EReal)) = _
  by_cases hk : (k : ℕ) = 0
  · simp only [if_pos hk]
    refine tiles t (fun s => ∑ r, dgAt (fun r k => B0 m c s (ix2 r k)) (fun r k => B1 m c s (ix2 r k)) (scale (B4 m c s)) r j)
      (fun n => dgAt (xs m c) (hs m c) (ss m c) n j) (fun s => ?_)
    obtain ⟨e0, e1, e2, e3⟩ := reads m c s
    show ∑ r, dgAt _ _ _ r j = _
    rw [e0, e1, e3]
    rfl
  · simp only [if_neg hk]
    exact Finset.sum_const_zero

theorem gain_agree (c : Dev nD) : (dats m 0 c).arrAt 6 cfg0.N = val_main_v60 (F := Ideal) (X0 m c) (X3 m c) (X5 m c) := by
  refine (dats m 0 c).arrAt_eq_of_covers 6 _ (by decide +kernel) fun t hf y => ?_
  have e : ((cfg0.win 6).blk t).view.emb y = ix2 (y 0) (y 1) := by
    blk_point [idx t]
  rw [after0_6, e]
  refine (congrArg _ (eq_ix2 y)).trans ((gain_block m c t ((flush0_6 t).mp hf) (y 0) (y 1)).trans ?_)
  generalize y 0 = n
  generalize y 1 = j
  pointwise [val_main_v60, val_main_v58, val_main_v39, val_main_v36, val_main_cst_9, val_main_v59, val_main_cst_13]
  by_cases h : (show Fin 8 from n).val = 0
  · rw [if_pos h, dif_pos (show (show Fin 8 from n).val < 1 by omega), Fin.sum_univ_one]
    exact (gain_sum _ _ _ j).symm
  · rw [if_neg h, dif_neg (show ¬ (show Fin 8 from n).val < 1 by omega)]

/-- What a tile adds to the modulation's rows. -/
def modShare (c : Dev nD) (s : Fin cfg0.N) (k : Fin 8) (j : Fin 1024) : EReal :=
  if (k : ℕ) = 0 then ∑ r, dscAt (fun r k => B0 m c s (ix2 r k)) (fun r k => B1 m c s (ix2 r k)) (fun k => B3 m c s (ix2 0 k)) r j
    else if (k : ℕ) = 1 then ∑ r, B1 m c s (ix2 r j) else 0

theorem mod_block (c : Dev nD) (t : Fin cfg0.N) (ht : t.val % 32 = 31) (k : Fin 8) (j : Fin 1024) :
    (outsAt0 m c t.val t.isLt).2.2 (ix2 k j)
      = ∑ n, if (k : ℕ) = 0 then dscAt (xs m c) (hs m c) (gs m c) n j else if (k : ℕ) = 1 then hs m c n j else 0 := by
  have h := Pipeline.eq_sum_fin_of_reset_step_apply_of_flush (fun n h => (outsAt0 m c n h).2.2) 32 (fun _ => (0 : EReal))
    (fun s (y : S8x1024.Idx) => modShare m c s (y 0) (y 1))
    (fun t h j => by
      refine (congrFun (mod_point_A m c t h) j).trans ((congrArg _ (eq_ix2 j)).trans ((mod_step _ _ _ t _ (j 0) (j 1)).trans ?_))
      exact congrArg (· + _) (zero_mod _))
    (fun t h j => by
      refine (congrFun (mod_point_B m c t h) j).trans ((congrArg _ (eq_ix2 j)).trans ((mod_step _ _ _ t _ (j 0) (j 1)).trans ?_))
      exact congrArg (fun z => (outsAt0 m c (t.val - 1) _).2.2 z + _) (eq_ix2 j).symm)
    t ht (ix2 k j)
  rw [zero_add] at h
  refine h.trans ?_
  refine tiles t (fun s => modShare m c s k j) _ (fun s => ?_)
  obtain ⟨e0, e1, e2, e3⟩ := reads m c s
  have e1' : ∀ r, B1 m c s (ix2 r j) = Value.hs m c (at256 s r) j := fun r => congrFun (congrFun e1 r) j
  show modShare m c s k j = _
  unfold modShare
  rw [e0, e1, e2]
  simp only [e1']
  split
  · rfl
  · split
    · rfl
    · exact Finset.sum_const_zero.symm

theorem mods_rows (c : Dev nD) (n : Fin 8) (j : Fin 1024) :
    (∑ i, if (n : ℕ) = 0 then dscAt (xs m c) (hs m c) (gs m c) i j else if (n : ℕ) = 1 then hs m c i j else 0)
      = val_main_v62 (F := Ideal) (X0 m c) (X1 m c) (X5 m c) (ix2 n j) := by
  pointwise [val_main_v62, val_main_v57, val_main_v55, val_main_v56, val_main_v61, val_main_cst_14]
  rw [scale_sum, shift_sum]
  have hn : (n : ℕ) = 0 ∨ (n : ℕ) = 1 ∨ 2 ≤ (n : ℕ) := by omega
  rcases hn with h | h | h
  · simp [h]
  · simp [h]
  · simp [show ¬ (n : ℕ) = 0 by omega, show ¬ (n : ℕ) = 1 by omega, show ¬ (n : ℕ) < 2 by omega]

theorem mods_agree (c : Dev nD) : (dats m 0 c).arrAt 7 cfg0.N = val_main_v62 (F := Ideal) (X0 m c) (X1 m c) (X5 m c) := by
  refine (dats m 0 c).arrAt_eq_of_covers 7 _ (by decide +kernel) fun t hf y => ?_
  have e : ((cfg0.win 7).blk t).view.emb y = ix2 (y 0) (y 1) := by
    blk_point [idx t]
  rw [after0_7, e]
  exact (congrArg _ (eq_ix2 y)).trans ((mod_block m c t ((flush0_7 t).mp hf) (y 0) (y 1)).trans (mods_rows m c (y 0) (y 1)))

theorem rows_same (c : Dev nD) (x0 : FVec Ideal S8192x1024 .f32) (x1 : FVec Ideal S1024 .f32) (x3 : FVec Ideal S1024 .f32) (x4 : FVec Ideal S8192x1024 .f32) (x5 : FVec Ideal S8192x1024 .f32)
    (a0 : x0 = m ((c : Thread nD τ).loc main_arg0)) (a1 : x1 = m ((c : Thread nD τ).loc main_arg1)) (a3 : x3 = m ((c : Thread nD τ).loc main_arg3)) (a4 : x4 = m ((c : Thread nD τ).loc main_arg4)) (a5 : x5 = m ((c : Thread nD τ).loc main_arg5)) :
    Cert.NormTwoReferenceIdeal.Read.val_main_v54 (F := Ideal) x0 x1 x3 x4 x5 = (dats m 0 c).arrAt 5 cfg0.N := by
  subst a0 a1 a3 a4 a5
  exact (rows_agree m c).symm

theorem gain_same (c : Dev nD) (x0 : FVec Ideal S8192x1024 .f32) (x3 : FVec Ideal S1024 .f32) (x5 : FVec Ideal S8192x1024 .f32)
    (a0 : x0 = m ((c : Thread nD τ).loc main_arg0)) (a3 : x3 = m ((c : Thread nD τ).loc main_arg3)) (a5 : x5 = m ((c : Thread nD τ).loc main_arg5)) :
    Cert.NormTwoReferenceIdeal.Read.val_main_v60 (F := Ideal) x0 x3 x5 = (dats m 0 c).arrAt 6 cfg0.N := by
  subst a0 a3 a5
  exact (gain_agree m c).symm

theorem mods_same (c : Dev nD) (x0 : FVec Ideal S8192x1024 .f32) (x1 : FVec Ideal S1024 .f32) (x5 : FVec Ideal S8192x1024 .f32)
    (a0 : x0 = m ((c : Thread nD τ).loc main_arg0)) (a1 : x1 = m ((c : Thread nD τ).loc main_arg1)) (a5 : x5 = m ((c : Thread nD τ).loc main_arg5)) :
    Cert.NormTwoReferenceIdeal.Read.val_main_v62 (F := Ideal) x0 x1 x5 = (dats m 0 c).arrAt 7 cfg0.N := by
  subst a0 a1 a5
  exact (mods_agree m c).symm

end Cert.NormTwoIdeal.Value

end
-- ==== Proof.lean ====
module

public import proofs.«01_k».proof.Proof.Loss.Value
public import proofs.«01_k».proof.Proof.Attn.Agree
public import proofs.«01_k».proof.Proof.Gen.Scan
public import proofs.«01_k».proof.Proof.Gen.Scan.Skeleton
public import proofs.«01_k».proof.Proof.Gen.Scan.Loops
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.AttnIdeal.Value
public import proofs.«01_k».proof.Proof.Gen.AttnReferenceIdeal.Run
public import proofs.«01_k».proof.Proof.Gen.AttnReferenceIdeal.Read
public import proofs.«01_k».proof.Proof.Gen.LossReferenceIdeal.Run
public import proofs.«01_k».proof.Proof.Gen.LossReferenceIdeal.Read
public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossReferenceIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnReferenceIdeal
public import proofs.«01_k».proof.Proof.Gen.Pre_attention_finite
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.Pre_attention_inputs_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Pre_ffn_finite
public import proofs.«01_k».proof.Proof.Gen.NormTwo
public import proofs.«01_k».proof.Proof.Gen.NormTwo.Skeleton
public import proofs.«01_k».proof.Proof.Gen.NormTwo.Launch
public import proofs.«01_k».proof.Proof.Gen.NormTwo.Points
public import proofs.«01_k».proof.Proof.Gen.NormTwo.Frame
public import proofs.«01_k».proof.Proof.Gen.NormTwoIdeal
public import proofs.«01_k».proof.Proof.Gen.NormTwoIdeal.Skeleton
public import proofs.«01_k».proof.Proof.Gen.NormTwoIdeal.Launch
public import proofs.«01_k».proof.Proof.Gen.NormTwoIdeal.Points
public import proofs.«01_k».proof.Proof.Gen.NormTwoIdeal.Frame
public import proofs.«01_k».proof.Proof.Gen.NormTwoIdeal.Value
public import proofs.«01_k».proof.Proof.Gen.NormTwoReferenceIdeal
public import proofs.«01_k».proof.Proof.Gen.NormTwoReferenceIdeal.Run
public import proofs.«01_k».proof.Proof.Gen.NormTwoReferenceIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluReferenceIdeal
public import proofs.«01_k».proof.Proof.Gen.GluReferenceIdeal.Run
public import proofs.«01_k».proof.Proof.Gen.GluReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.GluFwd
public import proofs.«01_k».proof.Proof.Gen.GluFwd.Skeleton
public import proofs.«01_k».proof.Proof.Gen.GluFwd.Launch
public import proofs.«01_k».proof.Proof.Gen.GluFwd.Points
public import proofs.«01_k».proof.Proof.Gen.GluFwd.Frame
public import proofs.«01_k».proof.Proof.Gen.GluFwdIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdIdeal.Value
public import proofs.«01_k».proof.Proof.Gen.GluFwdReferenceIdeal
public import proofs.«01_k».proof.Proof.Gen.GluFwdReferenceIdeal.Run
public import proofs.«01_k».proof.Proof.Gen.GluFwdReferenceIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdReferenceIdeal
public import proofs.«01_k».proof.Proof.Gen.MergeFwdReferenceIdeal.Run
public import proofs.«01_k».proof.Proof.Gen.MergeFwdReferenceIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdReferenceIdeal
public import proofs.«01_k».proof.Proof.Gen.NormFwdReferenceIdeal.Run
public import proofs.«01_k».proof.Proof.Gen.NormFwdReferenceIdeal.Read
public import proofs.«01_k».proof.Proof.Gen.ModFwd
public import proofs.«01_k».proof.Proof.Gen.ModFwd.Skeleton
public import proofs.«01_k».proof.Proof.Gen.ModFwd.Launch
public import proofs.«01_k».proof.Proof.Gen.ModFwd.Points
public import proofs.«01_k».proof.Proof.Gen.ModFwd.Frame
public import proofs.«01_k».proof.Proof.Gen.ModFwdIdeal
public import proofs.«01_k».proof.Proof.Gen.ModFwdIdeal.Skeleton
public import proofs.«01_k».proof.Proof.Gen.ModFwdIdeal.Launch
public import proofs.«01_k».proof.Proof.Gen.ModFwdIdeal.Points
public import proofs.«01_k».proof.Proof.Gen.ModFwdIdeal.Frame
public import proofs.«01_k».proof.Proof.Gen.ModFwdIdeal.Value
public import proofs.«01_k».proof.Proof.Gen.ModFwdReferenceIdeal
public import proofs.«01_k».proof.Proof.Gen.ModFwdReferenceIdeal.Run
public import proofs.«01_k».proof.Proof.Gen.ModFwdReferenceIdeal.Read
public import proofs.«01_k».proof.Proof.Gen.PrepFwd
public import proofs.«01_k».proof.Proof.Gen.PrepFwd.Skeleton
public import proofs.«01_k».proof.Proof.Gen.PrepFwd.Launch
public import proofs.«01_k».proof.Proof.Gen.PrepFwd.Points
public import proofs.«01_k».proof.Proof.Gen.PrepFwd.Frame
public import proofs.«01_k».proof.Proof.Gen.PrepFwdIdeal
public import proofs.«01_k».proof.Proof.Gen.PrepFwdIdeal.Skeleton
public import proofs.«01_k».proof.Proof.Gen.PrepFwdIdeal.Launch
public import proofs.«01_k».proof.Proof.Gen.PrepFwdIdeal.Points
public import proofs.«01_k».proof.Proof.Gen.PrepFwdIdeal.Frame
public import proofs.«01_k».proof.Proof.Gen.PrepFwdIdeal.Value
public import proofs.«01_k».proof.Proof.Gen.PrepFwdReferenceIdeal
public import proofs.«01_k».proof.Proof.Gen.PrepFwdReferenceIdeal.Run
public import proofs.«01_k».proof.Proof.Gen.PrepFwdReferenceIdeal.Read
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdReferenceIdeal
public import proofs.«01_k».proof.Proof.Gen.ConvFwdReferenceIdeal.Run
public import proofs.«01_k».proof.Proof.Gen.ConvFwdReferenceIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.NormOne
public import proofs.«01_k».proof.Proof.Gen.NormOne.Skeleton
public import proofs.«01_k».proof.Proof.Gen.NormOne.Launch
public import proofs.«01_k».proof.Proof.Gen.NormOne.Points
public import proofs.«01_k».proof.Proof.Gen.NormOne.Frame
public import proofs.«01_k».proof.Proof.Gen.NormOneIdeal
public import proofs.«01_k».proof.Proof.Gen.NormOneIdeal.Skeleton
public import proofs.«01_k».proof.Proof.Gen.NormOneIdeal.Launch
public import proofs.«01_k».proof.Proof.Gen.NormOneIdeal.Points
public import proofs.«01_k».proof.Proof.Gen.NormOneIdeal.Frame
public import proofs.«01_k».proof.Proof.Gen.NormOneIdeal.Value
public import proofs.«01_k».proof.Proof.Gen.NormOneReferenceIdeal
public import proofs.«01_k».proof.Proof.Gen.NormOneReferenceIdeal.Run
public import proofs.«01_k».proof.Proof.Gen.NormOneReferenceIdeal.Read
public import proofs.«01_k».proof.Proof.Gen.NormTwoFwd
public import proofs.«01_k».proof.Proof.Gen.NormTwoFwd.Skeleton
public import proofs.«01_k».proof.Proof.Gen.NormTwoFwd.Launch
public import proofs.«01_k».proof.Proof.Gen.NormTwoFwd.Points
public import proofs.«01_k».proof.Proof.Gen.NormTwoFwd.Frame
public import proofs.«01_k».proof.Proof.Gen.NormTwoFwdIdeal
public import proofs.«01_k».proof.Proof.Gen.NormTwoFwdIdeal.Skeleton
public import proofs.«01_k».proof.Proof.Gen.NormTwoFwdIdeal.Launch
public import proofs.«01_k».proof.Proof.Gen.NormTwoFwdIdeal.Points
public import proofs.«01_k».proof.Proof.Gen.NormTwoFwdIdeal.Frame
public import proofs.«01_k».proof.Proof.Gen.NormTwoFwdIdeal.Value
public import proofs.«01_k».proof.Proof.Gen.NormTwoFwdReferenceIdeal
public import proofs.«01_k».proof.Proof.Gen.NormTwoFwdReferenceIdeal.Run
public import proofs.«01_k».proof.Proof.Gen.NormTwoFwdReferenceIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Diag
public import proofs.«01_k».proof.Proof.Gen.Diag.Skeleton
public import proofs.«01_k».proof.Proof.Gen.Diag.Launch
public import proofs.«01_k».proof.Proof.Gen.Diag.Points
public import proofs.«01_k».proof.Proof.Gen.Diag.Frame
public import proofs.«01_k».proof.Proof.Gen.DiagIdeal
public import proofs.«01_k».proof.Proof.Gen.DiagIdeal.Skeleton
public import proofs.«01_k».proof.Proof.Gen.DiagIdeal.Launch
public import proofs.«01_k».proof.Proof.Gen.DiagIdeal.Points
public import proofs.«01_k».proof.Proof.Gen.DiagIdeal.Frame
public import proofs.«01_k».proof.Proof.Gen.DiagIdeal.Value
public import proofs.«01_k».proof.Proof.Gen.DiagReferenceIdeal
public import proofs.«01_k».proof.Proof.Gen.DiagReferenceIdeal.Run
public import proofs.«01_k».proof.Proof.Gen.DiagReferenceIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.Gen.QkvFwd
public import proofs.«01_k».proof.Proof.Gen.QkvFwd.Skeleton
public import proofs.«01_k».proof.Proof.Gen.QkvFwd.Launch
public import proofs.«01_k».proof.Proof.Gen.QkvFwd.Points
public import proofs.«01_k».proof.Proof.Gen.QkvFwd.Frame
public import proofs.«01_k».proof.Proof.Gen.QkvFwdIdeal
public import proofs.«01_k».proof.Proof.Gen.QkvFwdIdeal.Skeleton
public import proofs.«01_k».proof.Proof.Gen.QkvFwdIdeal.Launch
public import proofs.«01_k».proof.Proof.Gen.QkvFwdIdeal.Points
public import proofs.«01_k».proof.Proof.Gen.QkvFwdIdeal.Frame
public import proofs.«01_k».proof.Proof.Gen.QkvFwdIdeal.Value
public import proofs.«01_k».proof.Proof.Gen.QkvFwdReferenceIdeal
public import proofs.«01_k».proof.Proof.Gen.QkvFwdReferenceIdeal.Run
public import proofs.«01_k».proof.Proof.Gen.QkvFwdReferenceIdeal.Read
public import proofs.«01_k».proof.Proof.Fwd.Agree
public import proofs.«01_k».proof.Proof.Ffn.Agree
public import proofs.«01_k».proof.Proof.Scan.Same
public import proofs.«01_k».proof.Proof.Mod.Value
public import proofs.«01_k».proof.Proof.Norm.FirstAgree
public import proofs.«01_k».proof.Proof.QkvFwd.Agree
public import proofs.«01_k».proof.Proof.Adam.Agree
public import proofs.«01_k».proof.Proof.Diag.Agree
public import proofs.«01_k».proof.Proof.Up.Agree
public import proofs.«01_k».proof.Proof.NormTwoFwd.Agree
public import proofs.«01_k».proof.Proof.ConvFwd.Agree
public import proofs.«01_k».proof.Proof.PrepFwd.Agree
public import proofs.«01_k».proof.Proof.ModFwd.Agree
public import proofs.«01_k».proof.Proof.NormFwd.Agree
public import proofs.«01_k».proof.Proof.MergeFwd.Agree
public import proofs.«01_k».proof.Proof.GluFwd.Agree
public import proofs.«01_k».proof.Proof.Prep.Agree
public import proofs.«01_k».proof.Proof.Merge.Agree
public import proofs.«01_k».proof.Proof.Glu.Agree
public import proofs.«01_k».proof.Proof.Norm.Second
public import Idealize.ShloMosaic.Adequacy
public import Idealize.ShloMosaic.Init

@[expose] public section

noncomputable section

namespace Cert.Proof

open Idealize.ShloMosaic Idealize.SL.Sem Cert.Loss

/-- The two loss programs return the same arrays. -/
theorem loss : Cert.algebraic_LossIdeal_LossReferenceIdeal (hLossIdeal := Cert.LossIdeal.Gen.facts)
    (hLossReferenceIdeal := Cert.LossReferenceIdeal.Gen.facts) := by
  pair_intro
  · run_from Cert.LossIdeal.Gen.run_main m g & Cert.LossIdeal.Gen.frame m g
    all_goals first
      | exact Cert.LossIdeal.Gen.W_main_arg0 m _ c
      | exact Cert.LossIdeal.Gen.W_main_arg1 m _ c
      | exact Cert.LossIdeal.Gen.W_main_arg3 m _ c
  · refine θ_run_mono (Cert.LossReferenceIdeal.Value.run m' g') fun r h c => ?_
    obtain ⟨a0, a1, a2, a3, a4⟩ := hagree c
    refine ⟨(h c).1.trans ?_, (h c).2.1.trans ?_, (h c).2.2.1.trans ?_, (h c).2.2.2⟩
    · rw [Cert.LossIdeal.Value.loss_tail m c, a0, a1, a2, a3, a4]
      exact Cert.LossReferenceIdeal.Read.val_main_v13_eq ..
    · rw [Cert.LossIdeal.Value.dy_final m c, a0, a1, a2, a3, a4]
      exact Cert.LossReferenceIdeal.Read.val_main_v19_eq ..
    · rw [Cert.LossIdeal.Value.ffn_final m c, a0, a1]
      exact Cert.LossReferenceIdeal.Read.val_main_v0_eq ..

/-- The two attention programs return the same arrays at finite arguments. -/
theorem attention : Cert.algebraic_AttnIdeal_AttnReferenceIdeal_pre_attention_finite (hAttnIdeal := Cert.AttnIdeal.Gen.facts)
    (hAttnReferenceIdeal := Cert.AttnReferenceIdeal.Gen.facts) (hPre_attention_finite := Cert.Pre_attention_finite.Gen.facts) := by
  intro m g m' g' hpre hagree
  refine ⟨fun c => (Cert.AttnIdeal.Gen.dats m 0 c).arrAt 6 Cert.AttnIdeal.cfg0.N,
    fun c => (Cert.AttnIdeal.Gen.dats m 0 c).arrAt 7 Cert.AttnIdeal.cfg0.N,
    fun c => (Cert.AttnIdeal.Gen.dats m 0 c).arrAt 8 Cert.AttnIdeal.cfg0.N, Cert.AttnIdeal.Value.run_blocks m g, ?_⟩
  refine θ_run_mono (Cert.AttnReferenceIdeal.Value.run m' g') fun r h c => ?_
  obtain ⟨a0, a1, a2, a3, a4, a5⟩ := hagree c
  obtain ⟨p0, p1, p2, p3, p4, p5⟩ := hpre c
  obtain ⟨q, e0⟩ := Cert.AttnIdeal.Value.real_array _ _ p0
  obtain ⟨kl, e1⟩ := Cert.AttnIdeal.Value.real_array _ _ p1
  obtain ⟨vl, e2⟩ := Cert.AttnIdeal.Value.real_array _ _ p2
  obtain ⟨kc, e3⟩ := Cert.AttnIdeal.Value.real_array _ _ p3
  obtain ⟨vc, e4⟩ := Cert.AttnIdeal.Value.real_array _ _ p4
  obtain ⟨w, e5⟩ := Cert.AttnIdeal.Value.real_array _ _ p5
  exact ⟨(h c).1.trans ((Cert.AttnReferenceIdeal.Real.query_left m' c _ _ _ _ _ _ (a0.trans e0) (a1.trans e1) (a2.trans e2) (a3.trans e3) (a4.trans e4) (a5.trans e5)).trans
      (Cert.AttnIdeal.Value.query_agree m c q kl vl kc vc w e0 e1 e2 e3 e4 e5).symm),
    (h c).2.1.trans ((Cert.AttnReferenceIdeal.Real.key_left m' c _ _ _ _ _ _ (a0.trans e0) (a1.trans e1) (a2.trans e2) (a3.trans e3) (a4.trans e4) (a5.trans e5)).trans
      (Cert.AttnIdeal.Value.key_agree m c q kl vl kc vc w e0 e1 e2 e3 e4 e5).symm),
    (h c).2.2.1.trans ((Cert.AttnReferenceIdeal.Real.value_left m' c _ _ _ _ (a0.trans e0) (a1.trans e1) (a3.trans e3) (a5.trans e5)).trans
      (Cert.AttnIdeal.Value.value_agree m c q kl vl kc vc w e0 e1 e2 e3 e4 e5).symm), (h c).2.2.2⟩

/-- The two attention programs of the forward pass return the same arrays at finite arguments. -/
theorem attention_forward : Cert.algebraic_FwdIdeal_FwdReferenceIdeal_pre_attention_inputs_finite (hFwdIdeal := Cert.FwdIdeal.Gen.facts)
    (hFwdReferenceIdeal := Cert.FwdReferenceIdeal.Gen.facts) (hPre_attention_inputs_finite := Cert.Pre_attention_inputs_finite.Gen.facts) := by
  intro m g m' g' hpre hagree
  refine ⟨fun c => (Cert.FwdIdeal.Gen.dats m 0 c).arrAt 3 Cert.FwdIdeal.cfg0.N,
    fun c => (Cert.FwdIdeal.Gen.dats m 0 c).arrAt 4 Cert.FwdIdeal.cfg0.N, Cert.FwdIdeal.Value.run_blocks m g, ?_⟩
  refine θ_run_mono (Cert.FwdReferenceIdeal.Value.run m' g') fun r h c => ?_
  obtain ⟨a0, a1, a2, a3, a4⟩ := hagree c
  obtain ⟨p0, p1, p2, p3, p4⟩ := hpre c
  obtain ⟨q, e0⟩ := Cert.AttnIdeal.Value.real_array _ _ p0
  obtain ⟨kl, e1⟩ := Cert.AttnIdeal.Value.real_array _ _ p1
  obtain ⟨vl, e2⟩ := Cert.AttnIdeal.Value.real_array _ _ p2
  obtain ⟨kc, e3⟩ := Cert.AttnIdeal.Value.real_array _ _ p3
  obtain ⟨vc, e4⟩ := Cert.AttnIdeal.Value.real_array _ _ p4
  exact ⟨(h c).1.trans ((Cert.FwdReferenceIdeal.Read.val_main_v35_eq ..).trans
      ((Cert.FwdReferenceIdeal.Real.out_left m' c _ _ _ _ _ (a0.trans e0) (a1.trans e1) (a2.trans e2) (a3.trans e3) (a4.trans e4)).trans
      (Cert.FwdIdeal.Value.out_agree m c q kl vl kc vc e0 e1 e2 e3 e4).symm)),
    (h c).2.1.trans ((Cert.FwdReferenceIdeal.Read.val_main_v16_eq ..).trans
      ((Cert.FwdReferenceIdeal.Real.lse_left m' c _ _ _ (a0.trans e0) (a1.trans e1) (a3.trans e3)).trans
      (Cert.FwdIdeal.Value.lse_agree m c q kl vl kc vc e0 e1 e2 e3 e4).symm)), (h c).2.2⟩

/-- The two programs of the gate's gradient return the same arrays at finite arguments. -/
theorem gate : Cert.algebraic_FfnIdeal_FfnReferenceIdeal_pre_ffn_finite (hFfnIdeal := Cert.FfnIdeal.Gen.facts)
    (hFfnReferenceIdeal := Cert.FfnReferenceIdeal.Gen.facts) (hPre_ffn_finite := Cert.Pre_ffn_finite.Gen.facts) := by
  intro m g m' g' hpre hagree
  refine ⟨fun c => (Cert.FfnIdeal.Gen.dats m 0 c).arrAt 11 Cert.FfnIdeal.cfg0.N,
    fun c => (Cert.FfnIdeal.Gen.dats m 0 c).arrAt 12 Cert.FfnIdeal.cfg0.N,
    fun c => (Cert.FfnIdeal.Gen.dats m 0 c).arrAt 13 Cert.FfnIdeal.cfg0.N,
    fun c => (Cert.FfnIdeal.Gen.dats m 0 c).arrAt 14 Cert.FfnIdeal.cfg0.N, Cert.FfnIdeal.Value.run_blocks m g, ?_⟩
  refine θ_run_mono (Cert.FfnReferenceIdeal.Value.run m' g') fun r h c => ?_
  obtain ⟨a0, a1, a2, a3, a4, a5⟩ := hagree c
  obtain ⟨p0, p1, p2, p3, p4, p5⟩ := hpre c
  obtain ⟨up, e0⟩ := Cert.FfnIdeal.Value.real_rows _ _ p0
  obtain ⟨w, e1⟩ := Cert.FfnIdeal.Value.real_rows _ _ p1
  obtain ⟨b, e2⟩ := Cert.FfnIdeal.Value.real_row _ _ p2
  obtain ⟨D, e3⟩ := Cert.FfnIdeal.Value.real_rows _ _ p3
  obtain ⟨γ, e4⟩ := Cert.FfnIdeal.Value.real_row _ _ p4
  obtain ⟨ct, e5⟩ := Cert.FfnIdeal.Value.real_rows _ _ p5
  exact ⟨(h c).1.trans ((Cert.FfnReferenceIdeal.Read.val_main_v87_eq ..).trans
      ((Cert.FfnReferenceIdeal.Real.up_left m' c _ _ _ _ _ _ (a0.trans e0) (a1.trans e1) (a2.trans e2) (a3.trans e3) (a4.trans e4) (a5.trans e5)).trans
      (Cert.FfnIdeal.Value.up_agree m c up w b D γ ct e0 e1 e2 e3 e4 e5).symm)),
    (h c).2.1.trans ((Cert.FfnReferenceIdeal.Read.val_main_v88_eq ..).trans
      ((Cert.FfnReferenceIdeal.Real.out_left m' c _ _ (a4.trans e4) (a5.trans e5)).trans
      (Cert.FfnIdeal.Value.out_agree m c up w b D γ ct e0 e1 e2 e3 e4 e5).symm)),
    (h c).2.2.1.trans ((Cert.FfnReferenceIdeal.Read.val_main_v91_eq ..).trans
      ((Cert.FfnReferenceIdeal.Real.gain_left m' c _ _ _ _ _ (a0.trans e0) (a1.trans e1) (a2.trans e2) (a3.trans e3) (a5.trans e5)).trans
      (Cert.FfnIdeal.Value.gain_agree m c up w b D γ ct e0 e1 e2 e3 e4 e5).symm)),
    (h c).2.2.2.1.trans ((Cert.FfnReferenceIdeal.Read.val_main_v93_eq ..).trans
      ((Cert.FfnReferenceIdeal.Real.taps_left m' c _ _ _ _ _ _ (a0.trans e0) (a1.trans e1) (a2.trans e2) (a3.trans e3) (a4.trans e4) (a5.trans e5)).trans
      (Cert.FfnIdeal.Value.taps_agree m c up w b D γ ct e0 e1 e2 e3 e4 e5).symm)), (h c).2.2.2.2⟩

/-- The two programs of the modulation's gradient return the same arrays. -/
theorem modulation : Cert.algebraic_ModIdeal_ModReferenceIdeal (hModIdeal := Cert.ModIdeal.Gen.facts)
    (hModReferenceIdeal := Cert.ModReferenceIdeal.Gen.facts) := by
  intro m g m' g' _ hagree
  refine ⟨fun c => (Cert.ModIdeal.Gen.dats m 0 c).arrAt 5 Cert.ModIdeal.cfg0.N, fun c => (Cert.ModIdeal.Gen.dats m 0 c).arrAt 6 Cert.ModIdeal.cfg0.N,
    fun c => (Cert.ModIdeal.Gen.dats m 0 c).arrAt 7 Cert.ModIdeal.cfg0.N, Cert.ModIdeal.Value.run_blocks m g, ?_⟩
  refine θ_run_mono (Cert.ModReferenceIdeal.Value.run m' g') fun r h c => ?_
  obtain ⟨a0, a1, a2, a3, a4, a5⟩ := hagree c
  exact ⟨(h c).1.trans ((Cert.ModReferenceIdeal.Read.val_main_v14_eq ..).trans
      (Cert.ModIdeal.Value.weights_same m c _ _ _ _ a0 a1 a3 a4)),
    (h c).2.1.trans ((Cert.ModReferenceIdeal.Read.val_main_v24_eq ..).trans
      (Cert.ModIdeal.Value.rows_same m c _ _ _ _ _ a0 a1 a2 a3 a4)),
    (h c).2.2.1.trans ((Cert.ModReferenceIdeal.Read.val_main_v27_eq ..).trans
      (Cert.ModIdeal.Value.shift_same m c _ a5)), (h c).2.2.2⟩

/-- The two programs of the first norm's gradient return the same arrays. -/
theorem first_norm : Cert.algebraic_NormOneIdeal_NormOneReferenceIdeal (hNormOneIdeal := Cert.NormOneIdeal.Gen.facts)
    (hNormOneReferenceIdeal := Cert.NormOneReferenceIdeal.Gen.facts) := by
  intro m g m' g' _ hagree
  refine ⟨fun c => (Cert.NormOneIdeal.Gen.dats m 0 c).arrAt 5 Cert.NormOneIdeal.cfg0.N,
    fun c => (Cert.NormOneIdeal.Gen.dats m 0 c).arrAt 6 Cert.NormOneIdeal.cfg0.N,
    fun c => (Cert.NormOneIdeal.Gen.dats m 0 c).arrAt 7 Cert.NormOneIdeal.cfg0.N, Cert.NormOneIdeal.Value.run_blocks m g, ?_⟩
  refine θ_run_mono (Cert.NormOneReferenceIdeal.Value.run m' g') fun r h c => ?_
  obtain ⟨a0, a1, a2, a3, a4, a5, a6, a7, a8, a9⟩ := hagree c
  exact ⟨(h c).1.trans ((Cert.NormOneReferenceIdeal.Read.val_main_v115_eq ..).trans
      (Cert.NormOneIdeal.Value.rows_same m c _ _ _ _ _ _ _ _ a0 a1 a2 a4 a6 a7 a8 a9)),
    (h c).2.1.trans ((Cert.NormOneReferenceIdeal.Read.val_main_v118_eq ..).trans
      (Cert.NormOneIdeal.Value.gain_same m c _ _ _ _ _ _ a0 a1 a4 a6 a8 a9)),
    (h c).2.2.1.trans ((Cert.NormOneReferenceIdeal.Read.val_main_v120_eq ..).trans
      (Cert.NormOneIdeal.Value.mods_same m c _ _ _ _ _ a0 a1 a2 a8 a9)), (h c).2.2.2⟩

/-- The two programs of the second norm's gradient return the same arrays. -/
theorem second_norm : Cert.algebraic_NormTwoIdeal_NormTwoReferenceIdeal (hNormTwoIdeal := Cert.NormTwoIdeal.Gen.facts)
    (hNormTwoReferenceIdeal := Cert.NormTwoReferenceIdeal.Gen.facts) := by
  intro m g m' g' _ hagree
  refine ⟨fun c => (Cert.NormTwoIdeal.Gen.dats m 0 c).arrAt 5 Cert.NormTwoIdeal.cfg0.N,
    fun c => (Cert.NormTwoIdeal.Gen.dats m 0 c).arrAt 6 Cert.NormTwoIdeal.cfg0.N,
    fun c => (Cert.NormTwoIdeal.Gen.dats m 0 c).arrAt 7 Cert.NormTwoIdeal.cfg0.N, Cert.NormTwoIdeal.Value.run_blocks m g, ?_⟩
  refine θ_run_mono (Cert.NormTwoReferenceIdeal.Value.run m' g') fun r h c => ?_
  obtain ⟨a0, a1, a2, a3, a4, a5⟩ := hagree c
  exact ⟨(h c).1.trans ((Cert.NormTwoReferenceIdeal.Read.val_main_v54_eq ..).trans
      (Cert.NormTwoIdeal.Value.rows_same m c _ _ _ _ _ a0 a1 a3 a4 a5)),
    (h c).2.1.trans ((Cert.NormTwoReferenceIdeal.Read.val_main_v60_eq ..).trans
      (Cert.NormTwoIdeal.Value.gain_same m c _ _ _ a0 a3 a5)),
    (h c).2.2.1.trans ((Cert.NormTwoReferenceIdeal.Read.val_main_v62_eq ..).trans
      (Cert.NormTwoIdeal.Value.mods_same m c _ _ _ a0 a1 a5)), (h c).2.2.2⟩

/-- The two programs of the gated unit's gradient return the same arrays. -/
theorem gated_unit : Cert.algebraic_GluIdeal_GluReferenceIdeal (hGluIdeal := Cert.GluIdeal.Gen.facts)
    (hGluReferenceIdeal := Cert.GluReferenceIdeal.Gen.facts) := by
  intro m g m' g' _ hagree
  refine ⟨fun c => (Cert.GluIdeal.Gen.dats m 0 c).arrAt 6 Cert.GluIdeal.cfg0.N,
    fun c => (Cert.GluIdeal.Gen.dats m 0 c).arrAt 7 Cert.GluIdeal.cfg0.N,
    fun c => (Cert.GluIdeal.Gen.dats m 0 c).arrAt 8 Cert.GluIdeal.cfg0.N,
    fun c => (Cert.GluIdeal.Gen.dats m 0 c).arrAt 9 Cert.GluIdeal.cfg0.N, Cert.GluIdeal.Value.run_blocks m g, ?_⟩
  refine θ_run_mono (Cert.GluReferenceIdeal.Value.run m' g') fun r h c => ?_
  obtain ⟨a0, a1, a2, a3, a4, a5⟩ := hagree c
  exact ⟨(h c).1.trans ((Cert.GluReferenceIdeal.Read.val_main_v70_eq ..).trans
      (Cert.GluIdeal.Value.du_same m c _ _ _ _ _ _ a0 a1 a2 a3 a4 a5)),
    (h c).2.1.trans ((Cert.GluReferenceIdeal.Read.val_main_v71_eq ..).trans
      (Cert.GluIdeal.Value.dy_same m c _ _ _ _ _ _ a0 a1 a2 a3 a4 a5)),
    (h c).2.2.1.trans ((Cert.GluReferenceIdeal.Read.val_main_v74_eq ..).trans
      (Cert.GluIdeal.Value.skip_same m c _ _ _ _ _ _ a0 a1 a2 a3 a4 a5)),
    (h c).2.2.2.1.trans ((Cert.GluReferenceIdeal.Read.val_main_v47_eq ..).trans
      (Cert.GluIdeal.Value.weight_same m c _ _ _ _ _ _ a0 a1 a2 a3 a4 a5)), (h c).2.2.2.2⟩

/-- The two programs of the merge's gradient return the same arrays. -/
theorem merge : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => (Cert.MergeIdeal.Gen.dats m 0 c).arrAt 8 Cert.MergeIdeal.cfg0.N,
    fun c => (Cert.MergeIdeal.Gen.dats m 0 c).arrAt 9 Cert.MergeIdeal.cfg0.N,
    fun c => (Cert.MergeIdeal.Gen.dats m 0 c).arrAt 10 Cert.MergeIdeal.cfg0.N,
    fun c => (Cert.MergeIdeal.Gen.dats m 0 c).arrAt 11 Cert.MergeIdeal.cfg0.N,
    fun c => (Cert.MergeIdeal.Gen.dats m 0 c).arrAt 12 Cert.MergeIdeal.cfg0.N,
    fun c => (Cert.MergeIdeal.Gen.dats m 0 c).arrAt 13 Cert.MergeIdeal.cfg0.N, Cert.MergeIdeal.Value.run_blocks m g, ?_⟩
  refine θ_run_mono (Cert.MergeReferenceIdeal.Value.run m' g') fun r h c => ?_
  obtain ⟨a0, a1, a2, a3, a4, a5, a6, a7⟩ := hagree c
  exact ⟨(h c).1.trans ((Cert.MergeReferenceIdeal.Read.val_main_v57_eq ..).trans
      (Cert.MergeIdeal.Value.do_same m c _ _ _ _ _ a2 a4 a5 a6 a7)),
    (h c).2.1.trans ((Cert.MergeReferenceIdeal.Read.val_main_v41_eq ..).trans
      (Cert.MergeIdeal.Value.ds_same m c _ _ _ _ a2 a4 a6 a7)),
    (h c).2.2.1.trans ((Cert.MergeReferenceIdeal.Read.val_main_v58_eq ..).trans
      (Cert.MergeIdeal.Value.dgl_same m c _ _ _ _ _ _ _ a0 a1 a2 a4 a5 a6 a7)),
    (h c).2.2.2.1.trans ((Cert.MergeReferenceIdeal.Read.val_main_v61_eq ..).trans
      (Cert.MergeIdeal.Value.gain_same m c _ _ _ _ _ _ a0 a1 a2 a5 a6 a7)),
    (h c).2.2.2.2.1.trans ((Cert.MergeReferenceIdeal.Read.val_main_v62_eq ..).trans
      (Cert.MergeIdeal.Value.wo_same m c _ _ _ _ _ a0 a2 a4 a6 a7)),
    (h c).2.2.2.2.2.1.trans ((Cert.MergeReferenceIdeal.Read.val_main_v39_eq ..).trans
      (Cert.MergeIdeal.Value.wout_same m c _ _ _ _ _ _ a0 a1 a2 a4 a5 a7)), (h c).2.2.2.2.2.2⟩

/-- The two programs of the discretisation's gradient return the same arrays. -/
theorem discretisation : Cert.algebraic_PrepIdeal_PrepReferenceIdeal (hPrepIdeal := Cert.PrepIdeal.Gen.facts)
    (hPrepReferenceIdeal := Cert.PrepReferenceIdeal.Gen.facts) := by
  intro m g m' g' _ hagree
  refine ⟨fun c => (Cert.PrepIdeal.Gen.dats m 0 c).arrAt 9 Cert.PrepIdeal.cfg0.N,
    fun c => (Cert.PrepIdeal.Gen.dats m 0 c).arrAt 10 Cert.PrepIdeal.cfg0.N,
    fun c => (Cert.PrepIdeal.Gen.dats m 0 c).arrAt 11 Cert.PrepIdeal.cfg0.N,
    fun c => (Cert.PrepIdeal.Gen.dats m 0 c).arrAt 12 Cert.PrepIdeal.cfg0.N,
    fun c => (Cert.PrepIdeal.Gen.dats m 0 c).arrAt 13 Cert.PrepIdeal.cfg0.N, Cert.PrepIdeal.Value.run_blocks m g, ?_⟩
  refine θ_run_mono (Cert.PrepReferenceIdeal.Value.run m' g') fun r h c => ?_
  obtain ⟨a0, a1, a2, a3, a4, a5, a6, a7, a8⟩ := hagree c
  exact ⟨(h c).1.trans ((Cert.PrepReferenceIdeal.Read.val_main_v121_eq ..).trans
      (Cert.PrepIdeal.Value.dlr_same m c _ _ _ _ _ _ _ _ _ a0 a1 a2 a3 a4 a5 a6 a7 a8)),
    (h c).2.1.trans ((Cert.PrepReferenceIdeal.Read.val_main_v122_eq ..).trans
      (Cert.PrepIdeal.Value.dli_same m c _ _ _ _ _ _ _ _ _ a0 a1 a2 a3 a4 a5 a6 a7 a8)),
    (h c).2.2.1.trans ((Cert.PrepReferenceIdeal.Read.val_main_v123_eq ..).trans
      (Cert.PrepIdeal.Value.dld_same m c _ _ _ _ _ _ _ _ _ a0 a1 a2 a3 a4 a5 a6 a7 a8)),
    (h c).2.2.2.1.trans ((Cert.PrepReferenceIdeal.Read.val_main_v125_eq ..).trans
      (Cert.PrepIdeal.Value.dbr_same m c _ _ _ _ _ a0 a1 a2 a7 a8)),
    (h c).2.2.2.2.1.trans ((Cert.PrepReferenceIdeal.Read.val_main_v127_eq ..).trans
      (Cert.PrepIdeal.Value.dbi_same m c _ _ _ _ _ a0 a1 a2 a7 a8)), (h c).2.2.2.2.2⟩

/-- The two programs of the gated unit's forward pass return the same array. -/
theorem gated_unit_forward : Cert.algebraic_GluFwdIdeal_GluFwdReferenceIdeal (hGluFwdIdeal := Cert.GluFwdIdeal.Gen.facts)
    (hGluFwdReferenceIdeal := Cert.GluFwdReferenceIdeal.Gen.facts) := by
  intro m g m' g' _ hagree
  refine ⟨fun c => (Cert.GluFwdIdeal.Gen.dats m 0 c).arrAt 5 Cert.GluFwdIdeal.cfg0.N, Cert.GluFwdIdeal.Value.run_blocks m g, ?_⟩
  refine θ_run_mono (Cert.GluFwdReferenceIdeal.Value.run m' g') fun r h c => ?_
  obtain ⟨a0, a1, a2, a3, a4⟩ := hagree c
  exact ⟨(h c).1.trans ((Cert.GluFwdReferenceIdeal.Read.val_main_v30_eq ..).trans
      (Cert.GluFwdIdeal.Value.out_same m c _ _ _ _ _ a0 a1 a2 a3 a4)), (h c).2⟩

/-- The two programs of the merge's forward pass return the same array. -/
theorem merge_forward : Cert.algebraic_MergeFwdIdeal_MergeFwdReferenceIdeal (hMergeFwdIdeal := Cert.MergeFwdIdeal.Gen.facts)
    (hMergeFwdReferenceIdeal := Cert.MergeFwdReferenceIdeal.Gen.facts) := by
  intro m g m' g' _ hagree
  refine ⟨fun c => (Cert.MergeFwdIdeal.Gen.dats m 0 c).arrAt 7 Cert.MergeFwdIdeal.cfg0.N, Cert.MergeFwdIdeal.Value.run_blocks m g, ?_⟩
  refine θ_run_mono (Cert.MergeFwdReferenceIdeal.Value.run m' g') fun r h c => ?_
  obtain ⟨a0, a1, a2, a3, a4, a5, a6⟩ := hagree c
  exact ⟨(h c).1.trans ((Cert.MergeFwdReferenceIdeal.Read.val_main_v25_eq ..).trans
      (Cert.MergeFwdIdeal.Value.out_same m c _ _ _ _ _ _ _ a0 a1 a2 a3 a4 a5 a6)), (h c).2⟩

/-- The two programs of the modulated norm's forward pass return the same array. -/
theorem norm_forward : Cert.algebraic_NormFwdIdeal_NormFwdReferenceIdeal (hNormFwdIdeal := Cert.NormFwdIdeal.Gen.facts)
    (hNormFwdReferenceIdeal := Cert.NormFwdReferenceIdeal.Gen.facts) := by
  intro m g m' g' _ hagree
  refine ⟨fun c => (Cert.NormFwdIdeal.Gen.dats m 0 c).arrAt 3 Cert.NormFwdIdeal.cfg0.N, Cert.NormFwdIdeal.Value.run_blocks m g, ?_⟩
  refine θ_run_mono (Cert.NormFwdReferenceIdeal.Value.run m' g') fun r h c => ?_
  obtain ⟨a0, a1, a2, a3, a4, a5, a6⟩ := hagree c
  exact ⟨(h c).1.trans ((Cert.NormFwdReferenceIdeal.Read.val_main_v43_eq ..).trans
      (Cert.NormFwdIdeal.Value.out_same m c _ _ _ _ _ _ _ a0 a1 a2 a3 a4 a5 a6)), (h c).2⟩

/-- The two programs of the modulation's forward pass return the same array. -/
theorem modulation_forward : Cert.algebraic_ModFwdIdeal_ModFwdReferenceIdeal (hModFwdIdeal := Cert.ModFwdIdeal.Gen.facts)
    (hModFwdReferenceIdeal := Cert.ModFwdReferenceIdeal.Gen.facts) := by
  intro m g m' g' _ hagree
  refine ⟨fun c => (Cert.ModFwdIdeal.Gen.dats m 0 c).arrAt 3 Cert.ModFwdIdeal.cfg0.N, Cert.ModFwdIdeal.Value.run_blocks m g, ?_⟩
  refine θ_run_mono (Cert.ModFwdReferenceIdeal.Value.run m' g') fun r h c => ?_
  obtain ⟨a0, a1, a2, a3⟩ := hagree c
  exact ⟨(h c).1.trans ((Cert.ModFwdReferenceIdeal.Read.val_main_v10_eq ..).trans
      (Cert.ModFwdIdeal.Value.out_same m c _ _ _ _ a0 a1 a2 a3)), (h c).2⟩

/-- The two programs of the discretisation's forward pass return the same arrays. -/
theorem discretisation_forward : Cert.algebraic_PrepFwdIdeal_PrepFwdReferenceIdeal (hPrepFwdIdeal := Cert.PrepFwdIdeal.Gen.facts)
    (hPrepFwdReferenceIdeal := Cert.PrepFwdReferenceIdeal.Gen.facts) := by
  intro m g m' g' _ hagree
  refine ⟨fun c => (Cert.PrepFwdIdeal.Gen.dats m 0 c).arrAt 5 Cert.PrepFwdIdeal.cfg0.N,
    fun c => (Cert.PrepFwdIdeal.Gen.dats m 0 c).arrAt 6 Cert.PrepFwdIdeal.cfg0.N,
    fun c => (Cert.PrepFwdIdeal.Gen.dats m 0 c).arrAt 7 Cert.PrepFwdIdeal.cfg0.N,
    fun c => (Cert.PrepFwdIdeal.Gen.dats m 0 c).arrAt 8 Cert.PrepFwdIdeal.cfg0.N, Cert.PrepFwdIdeal.Value.run_blocks m g, ?_⟩
  refine θ_run_mono (Cert.PrepFwdReferenceIdeal.Value.run m' g') fun r h c => ?_
  obtain ⟨a0, a1, a2, a3, a4⟩ := hagree c
  exact ⟨(h c).1.trans ((Cert.PrepFwdReferenceIdeal.Read.val_main_v54_eq ..).trans
      (Cert.PrepFwdIdeal.Value.powR_same m c _ _ _ a0 a1 a2)),
    (h c).2.1.trans ((Cert.PrepFwdReferenceIdeal.Read.val_main_v56_eq ..).trans
      (Cert.PrepFwdIdeal.Value.powI_same m c _ _ _ a0 a1 a2)),
    (h c).2.2.1.trans ((Cert.PrepFwdReferenceIdeal.Read.val_main_v58_eq ..).trans
      (Cert.PrepFwdIdeal.Value.bR_same m c _ _ _ _ _ a0 a1 a2 a3 a4)),
    (h c).2.2.2.1.trans ((Cert.PrepFwdReferenceIdeal.Read.val_main_v60_eq ..).trans
      (Cert.PrepFwdIdeal.Value.bI_same m c _ _ _ _ _ a0 a1 a2 a3 a4)), (h c).2.2.2.2⟩

/-- The two programs of the gated convolution's forward pass return the same array. -/
theorem convolution_forward : Cert.algebraic_ConvFwdIdeal_ConvFwdReferenceIdeal (hConvFwdIdeal := Cert.ConvFwdIdeal.Gen.facts)
    (hConvFwdReferenceIdeal := Cert.ConvFwdReferenceIdeal.Gen.facts) := by
  intro m g m' g' _ hagree
  refine ⟨fun c => (Cert.ConvFwdIdeal.Gen.dats m 0 c).arrAt 5 Cert.ConvFwdIdeal.cfg0.N, Cert.ConvFwdIdeal.Value.run_blocks m g, ?_⟩
  refine θ_run_mono (Cert.ConvFwdReferenceIdeal.Value.run m' g') fun r h c => ?_
  obtain ⟨a0, a1, a2⟩ := hagree c
  exact ⟨(h c).1.trans ((Cert.ConvFwdReferenceIdeal.Read.val_main_v29_eq ..).trans
      (Cert.ConvFwdIdeal.Value.out_same m c _ _ _ a0 a1 a2)), (h c).2⟩

/-- The two programs of the second norm's forward pass return the same array. -/
theorem second_norm_forward : Cert.algebraic_NormTwoFwdIdeal_NormTwoFwdReferenceIdeal (hNormTwoFwdIdeal := Cert.NormTwoFwdIdeal.Gen.facts)
    (hNormTwoFwdReferenceIdeal := Cert.NormTwoFwdReferenceIdeal.Gen.facts) := by
  intro m g m' g' _ hagree
  refine ⟨fun c => (Cert.NormTwoFwdIdeal.Gen.dats m 0 c).arrAt 3 Cert.NormTwoFwdIdeal.cfg0.N, Cert.NormTwoFwdIdeal.Value.run_blocks m g, ?_⟩
  refine θ_run_mono (Cert.NormTwoFwdReferenceIdeal.Value.run m' g') fun r h c => ?_
  obtain ⟨a0, a1, a2, a3⟩ := hagree c
  exact ⟨(h c).1.trans ((Cert.NormTwoFwdReferenceIdeal.Read.val_main_v21_eq ..).trans
      (Cert.NormTwoFwdIdeal.Value.out_same m c _ _ _ _ a0 a1 a2 a3)), (h c).2⟩

/-- The two programs of the plain product return the same array. -/
theorem product : Cert.algebraic_UpIdeal_UpReferenceIdeal (hUpIdeal := Cert.UpIdeal.Gen.facts)
    (hUpReferenceIdeal := Cert.UpReferenceIdeal.Gen.facts) := by
  intro m g m' g' _ hagree
  refine ⟨fun c => (Cert.UpIdeal.Gen.dats m 0 c).arrAt 2 Cert.UpIdeal.cfg0.N, Cert.UpIdeal.Value.run_blocks m g, ?_⟩
  refine θ_run_mono (Cert.UpReferenceIdeal.Value.run m' g') fun r h c => ?_
  obtain ⟨a0, a1⟩ := hagree c
  exact ⟨(h c).1.trans ((Cert.UpReferenceIdeal.Read.val_main_v0_eq ..).trans
      (Cert.UpIdeal.Value.out_same m c _ _ a0 a1)), (h c).2⟩

/-- The two programs of the product by diagonal blocks return the same arrays. -/
theorem diagonal_blocks : Cert.algebraic_DiagIdeal_DiagReferenceIdeal (hDiagIdeal := Cert.DiagIdeal.Gen.facts)
    (hDiagReferenceIdeal := Cert.DiagReferenceIdeal.Gen.facts) := by
  intro m g m' g' _ hagree
  refine ⟨fun c => (Cert.DiagIdeal.Gen.dats m 0 c).arrAt 3 Cert.DiagIdeal.cfg0.N,
    fun c => (Cert.DiagIdeal.Gen.dats m 0 c).arrAt 4 Cert.DiagIdeal.cfg0.N, Cert.DiagIdeal.Value.run_blocks m g, ?_⟩
  refine θ_run_mono (Cert.DiagReferenceIdeal.Value.run m' g') fun r h c => ?_
  obtain ⟨a0, a1, a2⟩ := hagree c
  exact ⟨(h c).1.trans ((Cert.DiagReferenceIdeal.Read.val_main_v10_eq ..).trans
      (Cert.DiagIdeal.Value.first_same m c _ _ a0 a1)),
    (h c).2.1.trans ((Cert.DiagReferenceIdeal.Read.val_main_v21_eq ..).trans
      (Cert.DiagIdeal.Value.second_same m c _ _ a0 a2)), (h c).2.2⟩

/-- The two programs of the optimiser's step return the same arrays. -/
theorem optimiser : Cert.algebraic_AdamIdeal_AdamReferenceIdeal (hAdamIdeal := Cert.AdamIdeal.Gen.facts)
    (hAdamReferenceIdeal := Cert.AdamReferenceIdeal.Gen.facts) := by
  intro m g m' g' _ hagree
  refine ⟨fun c => (Cert.AdamIdeal.Gen.dats m 0 c).arrAt 4 Cert.AdamIdeal.cfg0.N,
    fun c => (Cert.AdamIdeal.Gen.dats m 0 c).arrAt 5 Cert.AdamIdeal.cfg0.N,
    fun c => (Cert.AdamIdeal.Gen.dats m 0 c).arrAt 6 Cert.AdamIdeal.cfg0.N,
    fun c => (Cert.AdamIdeal.Gen.dats m 0 c).arrAt 7 Cert.AdamIdeal.cfg0.N, Cert.AdamIdeal.Value.run_blocks m g, ?_⟩
  refine θ_run_mono (Cert.AdamReferenceIdeal.Value.run m' g') fun r h c => ?_
  obtain ⟨a0, a1, a2, a3⟩ := hagree c
  exact ⟨(h c).1.trans ((Cert.AdamReferenceIdeal.Read.val_main_v0_eq ..).trans
      (Cert.AdamIdeal.Value.grad_same m c _ a0)),
    (h c).2.1.trans ((Cert.AdamReferenceIdeal.Read.val_main_v24_eq ..).trans
      (Cert.AdamIdeal.Value.step_same m c _ _ _ _ a0 a1 a2 a3)),
    (h c).2.2.1.trans ((Cert.AdamReferenceIdeal.Read.val_main_v5_eq ..).trans
      (Cert.AdamIdeal.Value.first_same m c _ _ a0 a2)),
    (h c).2.2.2.1.trans ((Cert.AdamReferenceIdeal.Read.val_main_v11_eq ..).trans
      (Cert.AdamIdeal.Value.second_same m c _ _ a0 a3)), (h c).2.2.2.2⟩

/-- The two programs of the heads' forward pass return the same arrays: queries, keys and values. -/
theorem heads_forward : Cert.algebraic_QkvFwdIdeal_QkvFwdReferenceIdeal (hQkvFwdIdeal := Cert.QkvFwdIdeal.Gen.facts)
    (hQkvFwdReferenceIdeal := Cert.QkvFwdReferenceIdeal.Gen.facts) := by
  intro m g m' g' _ hagree
  refine ⟨fun c => (Cert.QkvFwdIdeal.Gen.dats m 0 c).arrAt 13 Cert.QkvFwdIdeal.cfg0.N,
    fun c => (Cert.QkvFwdIdeal.Gen.dats m 0 c).arrAt 14 Cert.QkvFwdIdeal.cfg0.N,
    fun c => (Cert.QkvFwdIdeal.Gen.dats m 0 c).arrAt 15 Cert.QkvFwdIdeal.cfg0.N, Cert.QkvFwdIdeal.Value.run_blocks m g, ?_⟩
  refine θ_run_mono (Cert.QkvFwdReferenceIdeal.Value.run m' g') fun r h c => ?_
  obtain ⟨a0, a1, a2, a3, a4, a5, a6, a7, a8, a9, a10⟩ := hagree c
  exact ⟨(h c).1.trans ((Cert.QkvFwdReferenceIdeal.Read.val_main_v81_eq ..).trans
      (Cert.QkvFwdIdeal.Value.q_same m c _ _ _ _ _ _ a0 a3 a4 a7 a9 a10)),
    (h c).2.1.trans ((Cert.QkvFwdReferenceIdeal.Read.val_main_v103_eq ..).trans
      (Cert.QkvFwdIdeal.Value.k_same m c _ _ _ _ _ _ _ a1 a2 a5 a6 a8 a9 a10)),
    (h c).2.2.1.trans ((Cert.QkvFwdReferenceIdeal.Read.val_main_v107_eq ..).trans
      (Cert.QkvFwdIdeal.Value.v_same m c _ _ _ a1 a5 a6)), (h c).2.2.2⟩

theorem claim : Cert.Claim := ⟨Cert.Loss.Gen.facts, Cert.LossIdeal.Gen.facts, Cert.LossReferenceIdeal.Gen.facts,
    Cert.Attn.Gen.facts, Cert.AttnIdeal.Gen.facts, Cert.AttnReferenceIdeal.Gen.facts,
    Cert.Fwd.Gen.facts, Cert.FwdIdeal.Gen.facts, Cert.FwdReferenceIdeal.Gen.facts,
    Cert.Ffn.Gen.facts, Cert.FfnIdeal.Gen.facts, Cert.FfnReferenceIdeal.Gen.facts,
    Cert.Scan.Gen.facts, Cert.ScanIdeal.Gen.facts,
    Cert.Mod.Gen.facts, Cert.ModIdeal.Gen.facts, Cert.ModReferenceIdeal.Gen.facts,
    Cert.NormOne.Gen.facts, Cert.NormOneIdeal.Gen.facts, Cert.NormOneReferenceIdeal.Gen.facts,
    Cert.NormTwo.Gen.facts, Cert.NormTwoIdeal.Gen.facts, Cert.NormTwoReferenceIdeal.Gen.facts,
    Cert.Glu.Gen.facts, Cert.GluIdeal.Gen.facts, Cert.GluReferenceIdeal.Gen.facts,
    Cert.Merge.Gen.facts, Cert.MergeIdeal.Gen.facts, Cert.MergeReferenceIdeal.Gen.facts,
    Cert.Prep.Gen.facts, Cert.PrepIdeal.Gen.facts, Cert.PrepReferenceIdeal.Gen.facts,
    Cert.GluFwd.Gen.facts, Cert.GluFwdIdeal.Gen.facts, Cert.GluFwdReferenceIdeal.Gen.facts,
    Cert.MergeFwd.Gen.facts, Cert.MergeFwdIdeal.Gen.facts, Cert.MergeFwdReferenceIdeal.Gen.facts,
    Cert.NormFwd.Gen.facts, Cert.NormFwdIdeal.Gen.facts, Cert.NormFwdReferenceIdeal.Gen.facts,
    Cert.ModFwd.Gen.facts, Cert.ModFwdIdeal.Gen.facts, Cert.ModFwdReferenceIdeal.Gen.facts,
    Cert.PrepFwd.Gen.facts, Cert.PrepFwdIdeal.Gen.facts, Cert.PrepFwdReferenceIdeal.Gen.facts,
    Cert.ConvFwd.Gen.facts, Cert.ConvFwdIdeal.Gen.facts, Cert.ConvFwdReferenceIdeal.Gen.facts,
    Cert.NormTwoFwd.Gen.facts, Cert.NormTwoFwdIdeal.Gen.facts, Cert.NormTwoFwdReferenceIdeal.Gen.facts,
    Cert.Up.Gen.facts, Cert.UpIdeal.Gen.facts, Cert.UpReferenceIdeal.Gen.facts,
    Cert.Diag.Gen.facts, Cert.DiagIdeal.Gen.facts, Cert.DiagReferenceIdeal.Gen.facts,
    Cert.Adam.Gen.facts, Cert.AdamIdeal.Gen.facts, Cert.AdamReferenceIdeal.Gen.facts,
    Cert.QkvFwd.Gen.facts, Cert.QkvFwdIdeal.Gen.facts, Cert.QkvFwdReferenceIdeal.Gen.facts,
    Cert.Pre_attention_finite.Gen.facts, Cert.Pre_attention_inputs_finite.Gen.facts, Cert.Pre_ffn_finite.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial, loss, ?_, attention, ?_, attention_forward,
    trivial, gate, trivial, trivial, modulation, trivial, first_norm,
    trivial, second_norm,
    trivial, gated_unit,
    trivial, merge,
    trivial, discretisation,
    trivial, gated_unit_forward,
    trivial, merge_forward,
    trivial, norm_forward,
    trivial, modulation_forward,
    trivial, discretisation_forward,
    trivial, convolution_forward,
    trivial, second_norm_forward,
    trivial, product,
    trivial, diagonal_blocks,
    trivial, optimiser,
    ?_, heads_forward⟩
  · exact fun m g _ => Cert.Loss.Gen.frame m g
  · exact fun m g _ => Cert.LossIdeal.Gen.frame m g
  · exact fun m g _ => θ_run_mono (Cert.LossReferenceIdeal.Value.run m g) fun r h =>
      ⟨fun c => (h c).2.2.2, sem_eq_zero_of_no_sems rfl _⟩
  · exact fun m g _ => Cert.Attn.Gen.frame m g
  · exact fun m g _ => Cert.AttnIdeal.Gen.frame m g
  · exact fun m g _ => Cert.AttnIdeal.Gen.frame m g
  · exact fun m g _ => θ_run_mono (Cert.AttnReferenceIdeal.Value.run m g) fun r h =>
      ⟨fun c => (h c).2.2.2, sem_eq_zero_of_no_sems rfl _⟩
  · exact fun m g _ => θ_run_mono (Cert.AttnReferenceIdeal.Value.run m g) fun r h =>
      ⟨fun c => (h c).2.2.2, sem_eq_zero_of_no_sems rfl _⟩
  · exact fun m g _ => Cert.Fwd.Gen.frame m g
  · exact fun m g _ => Cert.FwdIdeal.Gen.frame m g
  · exact fun m g _ => Cert.FwdIdeal.Gen.frame m g
  · exact fun m g _ => θ_run_mono (Cert.FwdReferenceIdeal.Value.run m g) fun r h =>
      ⟨fun c => (h c).2.2, sem_eq_zero_of_no_sems rfl _⟩
  · exact fun m g _ => θ_run_mono (Cert.FwdReferenceIdeal.Value.run m g) fun r h =>
      ⟨fun c => (h c).2.2, sem_eq_zero_of_no_sems rfl _⟩
  · exact fun m g _ => Cert.Ffn.Gen.frame m g
  · exact fun m g _ => Cert.FfnIdeal.Gen.frame m g
  · exact fun m g _ => Cert.FfnIdeal.Gen.frame m g
  · exact fun m g _ => θ_run_mono (Cert.FfnReferenceIdeal.Value.run m g) fun r h =>
      ⟨fun c => (h c).2.2.2.2, sem_eq_zero_of_no_sems rfl _⟩
  · exact fun m g _ => θ_run_mono (Cert.FfnReferenceIdeal.Value.run m g) fun r h =>
      ⟨fun c => (h c).2.2.2.2, sem_eq_zero_of_no_sems rfl _⟩
  · exact fun m g _ => Cert.Scan.Hand.frame m g
  · exact Cert.Scan.Hand.ideal_frame
  · exact fun m g _ => Cert.Mod.Gen.frame m g
  · exact fun m g _ => Cert.ModIdeal.Gen.frame m g
  · exact fun m g _ => θ_run_mono (Cert.ModReferenceIdeal.Value.run m g) fun r h =>
      ⟨fun c => (h c).2.2.2, sem_eq_zero_of_no_sems rfl _⟩
  · exact fun m g _ => Cert.NormOne.Gen.frame m g
  · exact fun m g _ => Cert.NormOneIdeal.Gen.frame m g
  · exact fun m g _ => θ_run_mono (Cert.NormOneReferenceIdeal.Value.run m g) fun r h =>
      ⟨fun c => (h c).2.2.2, sem_eq_zero_of_no_sems rfl _⟩
  · exact fun m g _ => Cert.NormTwo.Gen.frame m g
  · exact fun m g _ => Cert.NormTwoIdeal.Gen.frame m g
  · exact fun m g _ => θ_run_mono (Cert.NormTwoReferenceIdeal.Value.run m g) fun r h =>
      ⟨fun c => (h c).2.2.2, sem_eq_zero_of_no_sems rfl _⟩
  · exact fun m g _ => Cert.Glu.Gen.frame m g
  · exact fun m g _ => Cert.GluIdeal.Gen.frame m g
  · exact fun m g _ => θ_run_mono (Cert.GluReferenceIdeal.Value.run m g) fun r h =>
      ⟨fun c => (h c).2.2.2.2, sem_eq_zero_of_no_sems rfl _⟩
  · exact fun m g _ => Cert.Merge.Gen.frame m g
  · exact fun m g _ => Cert.MergeIdeal.Gen.frame m g
  · exact fun m g _ => θ_run_mono (Cert.MergeReferenceIdeal.Value.run m g) fun r h =>
      ⟨fun c => (h c).2.2.2.2.2.2, sem_eq_zero_of_no_sems rfl _⟩
  · exact fun m g _ => Cert.Prep.Gen.frame m g
  · exact fun m g _ => Cert.PrepIdeal.Gen.frame m g
  · exact fun m g _ => θ_run_mono (Cert.PrepReferenceIdeal.Value.run m g) fun r h =>
      ⟨fun c => (h c).2.2.2.2.2, sem_eq_zero_of_no_sems rfl _⟩
  · exact fun m g _ => Cert.GluFwd.Gen.frame m g
  · exact fun m g _ => Cert.GluFwdIdeal.Gen.frame m g
  · exact fun m g _ => θ_run_mono (Cert.GluFwdReferenceIdeal.Value.run m g) fun r h =>
      ⟨fun c => (h c).2, sem_eq_zero_of_no_sems rfl _⟩
  · exact fun m g _ => Cert.MergeFwd.Gen.frame m g
  · exact fun m g _ => Cert.MergeFwdIdeal.Gen.frame m g
  · exact fun m g _ => θ_run_mono (Cert.MergeFwdReferenceIdeal.Value.run m g) fun r h =>
      ⟨fun c => (h c).2, sem_eq_zero_of_no_sems rfl _⟩
  · exact fun m g _ => Cert.NormFwd.Gen.frame m g
  · exact fun m g _ => Cert.NormFwdIdeal.Gen.frame m g
  · exact fun m g _ => θ_run_mono (Cert.NormFwdReferenceIdeal.Value.run m g) fun r h =>
      ⟨fun c => (h c).2, sem_eq_zero_of_no_sems rfl _⟩
  · exact fun m g _ => Cert.ModFwd.Gen.frame m g
  · exact fun m g _ => Cert.ModFwdIdeal.Gen.frame m g
  · exact fun m g _ => θ_run_mono (Cert.ModFwdReferenceIdeal.Value.run m g) fun r h =>
      ⟨fun c => (h c).2, sem_eq_zero_of_no_sems rfl _⟩
  · exact fun m g _ => Cert.PrepFwd.Gen.frame m g
  · exact fun m g _ => Cert.PrepFwdIdeal.Gen.frame m g
  · exact fun m g _ => θ_run_mono (Cert.PrepFwdReferenceIdeal.Value.run m g) fun r h =>
      ⟨fun c => (h c).2.2.2.2, sem_eq_zero_of_no_sems rfl _⟩
  · exact fun m g _ => Cert.ConvFwd.Gen.frame m g
  · exact fun m g _ => Cert.ConvFwdIdeal.Gen.frame m g
  · exact fun m g _ => θ_run_mono (Cert.ConvFwdReferenceIdeal.Value.run m g) fun r h =>
      ⟨fun c => (h c).2, sem_eq_zero_of_no_sems rfl _⟩
  · exact fun m g _ => Cert.NormTwoFwd.Gen.frame m g
  · exact fun m g _ => Cert.NormTwoFwdIdeal.Gen.frame m g
  · exact fun m g _ => θ_run_mono (Cert.NormTwoFwdReferenceIdeal.Value.run m g) fun r h =>
      ⟨fun c => (h c).2, sem_eq_zero_of_no_sems rfl _⟩
  · exact fun m g _ => Cert.Up.Gen.frame m g
  · exact fun m g _ => Cert.UpIdeal.Gen.frame m g
  · exact fun m g _ => θ_run_mono (Cert.UpReferenceIdeal.Value.run m g) fun r h =>
      ⟨fun c => (h c).2, sem_eq_zero_of_no_sems rfl _⟩
  · exact fun m g _ => Cert.Diag.Gen.frame m g
  · exact fun m g _ => Cert.DiagIdeal.Gen.frame m g
  · exact fun m g _ => θ_run_mono (Cert.DiagReferenceIdeal.Value.run m g) fun r h =>
      ⟨fun c => (h c).2.2, sem_eq_zero_of_no_sems rfl _⟩
  · exact fun m g _ => Cert.Adam.Gen.frame m g
  · exact fun m g _ => Cert.AdamIdeal.Gen.frame m g
  · exact fun m g _ => θ_run_mono (Cert.AdamReferenceIdeal.Value.run m g) fun r h =>
      ⟨fun c => (h c).2.2.2.2, sem_eq_zero_of_no_sems rfl _⟩
  · exact fun m g _ => Cert.QkvFwd.Gen.frame m g
  · exact fun m g _ => Cert.QkvFwdIdeal.Gen.frame m g
  · exact fun m g _ => θ_run_mono (Cert.QkvFwdReferenceIdeal.Value.run m g) fun r h =>
      ⟨fun c => (h c).2.2.2, sem_eq_zero_of_no_sems rfl _⟩
  · exact ⟨IdealRules.named_const.statement Cert.AttnIdeal.κ "scale_log2e" .f32 0x3E16C740#32
        (((3424635 / 33554432) * (Real.log 2)⁻¹ : ℝ) : EReal) rfl,
      IdealRules.named_const.statement Cert.AttnIdeal.κ "log2e" .f32 0x3FB8AA3B#32 (((Real.log 2)⁻¹ : ℝ) : EReal) rfl⟩
  · exact IdealRules.named_const.statement Cert.FwdIdeal.κ "scale_log2e" .f32 0x3E16C740#32
        (((3424635 / 33554432) * (Real.log 2)⁻¹ : ℝ) : EReal) rfl
  · exact ⟨IdealRules.named_const.statement Cert.QkvFwdIdeal.κ "one_384th" .f32 0x3B2AAAAB#32 ((1 / 384 : ℝ) : EReal) rfl,
      IdealRules.named_const.statement Cert.QkvFwdIdeal.κ "one_96th" .f32 0x3C2AAAAB#32 ((1 / 96 : ℝ) : EReal) rfl⟩⟩

end Cert.Proof

end
